-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_FfnBack (m : (ℓ : Loc Cert.FfnBack.nD Cert.FfnBack.τ Cert.FfnBack.sig) → Buf (Elt Bits) ℓ) : Prop :=
  True

def Pre_FfnBackIdeal (m : (ℓ : Loc Cert.FfnBackIdeal.nD Cert.FfnBackIdeal.τ Cert.FfnBackIdeal.sig) → Buf (Elt Ideal) ℓ) : Prop :=
  True

def Pre_FfnBackIdeal_finite2 [hPre_finite2 : Cert.Pre_finite2.Facts] (m : (ℓ : Loc Cert.FfnBackIdeal.nD Cert.FfnBackIdeal.τ Cert.FfnBackIdeal.sig) → Buf (Elt Ideal) ℓ) : Prop :=
  ∀ c : Dev Cert.FfnBackIdeal.nD,
    (Cert.Pre_finite2.fn (F := Ideal) (m ((c.tc : Thread Cert.FfnBackIdeal.nD Cert.FfnBackIdeal.τ).loc Cert.FfnBackIdeal.main_arg0)) (m ((c.tc : Thread Cert.FfnBackIdeal.nD Cert.FfnBackIdeal.τ).loc Cert.FfnBackIdeal.main_arg1)) (m ((c.tc : Thread Cert.FfnBackIdeal.nD Cert.FfnBackIdeal.τ).loc Cert.FfnBackIdeal.main_arg2)) (m ((c.tc : Thread Cert.FfnBackIdeal.nD Cert.FfnBackIdeal.τ).loc Cert.FfnBackIdeal.main_arg3)) (m ((c.tc : Thread Cert.FfnBackIdeal.nD Cert.FfnBackIdeal.τ).loc Cert.FfnBackIdeal.main_arg4)) (m ((c.tc : Thread Cert.FfnBackIdeal.nD Cert.FfnBackIdeal.τ).loc Cert.FfnBackIdeal.main_arg5)) (m ((c.tc : Thread Cert.FfnBackIdeal.nD Cert.FfnBackIdeal.τ).loc Cert.FfnBackIdeal.main_arg6))) = (fun _ => 1#1)

def Pre_FfnBackRefIdeal (m : (ℓ : Loc Cert.FfnBackRefIdeal.nD Cert.FfnBackRefIdeal.τ Cert.FfnBackRefIdeal.sig) → Buf (Elt Ideal) ℓ) : Prop :=
  True

def Pre_FfnBackRefIdeal_finite2 [hPre_finite2 : Cert.Pre_finite2.Facts] (m : (ℓ : Loc Cert.FfnBackRefIdeal.nD Cert.FfnBackRefIdeal.τ Cert.FfnBackRefIdeal.sig) → Buf (Elt Ideal) ℓ) : Prop :=
  ∀ c : Dev Cert.FfnBackRefIdeal.nD,
    (Cert.Pre_finite2.fn (F := Ideal) (m ((c.tc : Thread Cert.FfnBackRefIdeal.nD Cert.FfnBackRefIdeal.τ).loc Cert.FfnBackRefIdeal.main_arg0)) (m ((c.tc : Thread Cert.FfnBackRefIdeal.nD Cert.FfnBackRefIdeal.τ).loc Cert.FfnBackRefIdeal.main_arg1)) (m ((c.tc : Thread Cert.FfnBackRefIdeal.nD Cert.FfnBackRefIdeal.τ).loc Cert.FfnBackRefIdeal.main_arg2)) (m ((c.tc : Thread Cert.FfnBackRefIdeal.nD Cert.FfnBackRefIdeal.τ).loc Cert.FfnBackRefIdeal.main_arg3)) (m ((c.tc : Thread Cert.FfnBackRefIdeal.nD Cert.FfnBackRefIdeal.τ).loc Cert.FfnBackRefIdeal.main_arg4)) (m ((c.tc : Thread Cert.FfnBackRefIdeal.nD Cert.FfnBackRefIdeal.τ).loc Cert.FfnBackRefIdeal.main_arg5)) (m ((c.tc : Thread Cert.FfnBackRefIdeal.nD Cert.FfnBackRefIdeal.τ).loc Cert.FfnBackRefIdeal.main_arg6))) = (fun _ => 1#1)

def Pre_WgradFfn (m : (ℓ : Loc Cert.WgradFfn.nD Cert.WgradFfn.τ Cert.WgradFfn.sig) → Buf (Elt Bits) ℓ) : Prop :=
  True

def Pre_WgradFfnIdeal (m : (ℓ : Loc Cert.WgradFfnIdeal.nD Cert.WgradFfnIdeal.τ Cert.WgradFfnIdeal.sig) → Buf (Elt Ideal) ℓ) : Prop :=
  True

def Pre_WgradFfnRefIdeal (m : (ℓ : Loc Cert.WgradFfnRefIdeal.nD Cert.WgradFfnRefIdeal.τ Cert.WgradFfnRefIdeal.sig) → Buf (Elt Ideal) ℓ) : Prop :=
  True

def Pre_WgradIn (m : (ℓ : Loc Cert.WgradIn.nD Cert.WgradIn.τ Cert.WgradIn.sig) → Buf (Elt Bits) ℓ) : Prop :=
  True

def Pre_WgradInIdeal (m : (ℓ : Loc Cert.WgradInIdeal.nD Cert.WgradInIdeal.τ Cert.WgradInIdeal.sig) → Buf (Elt Ideal) ℓ) : Prop :=
  True

def Pre_WgradInRefIdeal (m : (ℓ : Loc Cert.WgradInRefIdeal.nD Cert.WgradInRefIdeal.τ Cert.WgradInRefIdeal.sig) → Buf (Elt Ideal) ℓ) : Prop :=
  True

def Pre_WgradOut (m : (ℓ : Loc Cert.WgradOut.nD Cert.WgradOut.τ Cert.WgradOut.sig) → Buf (Elt Bits) ℓ) : Prop :=
  True

def Pre_WgradOutIdeal (m : (ℓ : Loc Cert.WgradOutIdeal.nD Cert.WgradOutIdeal.τ Cert.WgradOutIdeal.sig) → Buf (Elt Ideal) ℓ) : Prop :=
  True

def Pre_WgradOutRefIdeal (m : (ℓ : Loc Cert.WgradOutRefIdeal.nD Cert.WgradOutRefIdeal.τ Cert.WgradOutRefIdeal.sig) → Buf (Elt Ideal) ℓ) : Prop :=
  True

def Pre_FfnGate (m : (ℓ : Loc Cert.FfnGate.nD Cert.FfnGate.τ Cert.FfnGate.sig) → Buf (Elt Bits) ℓ) : Prop :=
  True

def Pre_FfnGateIdeal (m : (ℓ : Loc Cert.FfnGateIdeal.nD Cert.FfnGateIdeal.τ Cert.FfnGateIdeal.sig) → Buf (Elt Ideal) ℓ) : Prop :=
  True

def Pre_FfnGateIdeal_finite6 [hPre_finite6 : Cert.Pre_finite6.Facts] (m : (ℓ : Loc Cert.FfnGateIdeal.nD Cert.FfnGateIdeal.τ Cert.FfnGateIdeal.sig) → Buf (Elt Ideal) ℓ) : Prop :=
  ∀ c : Dev Cert.FfnGateIdeal.nD,
    (Cert.Pre_finite6.fn (F := Ideal) (m ((c.tc : Thread Cert.FfnGateIdeal.nD Cert.FfnGateIdeal.τ).loc Cert.FfnGateIdeal.main_arg0)) (m ((c.tc : Thread Cert.FfnGateIdeal.nD Cert.FfnGateIdeal.τ).loc Cert.FfnGateIdeal.main_arg1)) (m ((c.tc : Thread Cert.FfnGateIdeal.nD Cert.FfnGateIdeal.τ).loc Cert.FfnGateIdeal.main_arg2)) (m ((c.tc : Thread Cert.FfnGateIdeal.nD Cert.FfnGateIdeal.τ).loc Cert.FfnGateIdeal.main_arg3)) (m ((c.tc : Thread Cert.FfnGateIdeal.nD Cert.FfnGateIdeal.τ).loc Cert.FfnGateIdeal.main_arg4)) (m ((c.tc : Thread Cert.FfnGateIdeal.nD Cert.FfnGateIdeal.τ).loc Cert.FfnGateIdeal.main_arg5))) = (fun _ => 1#1)

def Pre_FfnGateRefIdeal (m : (ℓ : Loc Cert.FfnGateRefIdeal.nD Cert.FfnGateRefIdeal.τ Cert.FfnGateRefIdeal.sig) → Buf (Elt Ideal) ℓ) : Prop :=
  True

def Pre_FfnGateRefIdeal_finite6 [hPre_finite6 : Cert.Pre_finite6.Facts] (m : (ℓ : Loc Cert.FfnGateRefIdeal.nD Cert.FfnGateRefIdeal.τ Cert.FfnGateRefIdeal.sig) → Buf (Elt Ideal) ℓ) : Prop :=
  ∀ c : Dev Cert.FfnGateRefIdeal.nD,
    (Cert.Pre_finite6.fn (F := Ideal) (m ((c.tc : Thread Cert.FfnGateRefIdeal.nD Cert.FfnGateRefIdeal.τ).loc Cert.FfnGateRefIdeal.main_arg0)) (m ((c.tc : Thread Cert.FfnGateRefIdeal.nD Cert.FfnGateRefIdeal.τ).loc Cert.FfnGateRefIdeal.main_arg1)) (m ((c.tc : Thread Cert.FfnGateRefIdeal.nD Cert.FfnGateRefIdeal.τ).loc Cert.FfnGateRefIdeal.main_arg2)) (m ((c.tc : Thread Cert.FfnGateRefIdeal.nD Cert.FfnGateRefIdeal.τ).loc Cert.FfnGateRefIdeal.main_arg3)) (m ((c.tc : Thread Cert.FfnGateRefIdeal.nD Cert.FfnGateRefIdeal.τ).loc Cert.FfnGateRefIdeal.main_arg4)) (m ((c.tc : Thread Cert.FfnGateRefIdeal.nD Cert.FfnGateRefIdeal.τ).loc Cert.FfnGateRefIdeal.main_arg5))) = (fun _ => 1#1)

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdRefIdeal (m : (ℓ : Loc Cert.GateFwdRefIdeal.nD Cert.GateFwdRefIdeal.τ Cert.GateFwdRefIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFwdIdeal_finite8 [hPre_finite8 : Cert.Pre_finite8.Facts] (m : (ℓ : Loc Cert.UpFwdIdeal.nD Cert.UpFwdIdeal.τ Cert.UpFwdIdeal.sig) → Buf (Elt Ideal) ℓ) : Prop :=
  ∀ c : Dev Cert.UpFwdIdeal.nD,
    (Cert.Pre_finite8.fn (F := Ideal) (m ((c.tc : Thread Cert.UpFwdIdeal.nD Cert.UpFwdIdeal.τ).loc Cert.UpFwdIdeal.main_arg0)) (m ((c.tc : Thread Cert.UpFwdIdeal.nD Cert.UpFwdIdeal.τ).loc Cert.UpFwdIdeal.main_arg1)) (m ((c.tc : Thread Cert.UpFwdIdeal.nD Cert.UpFwdIdeal.τ).loc Cert.UpFwdIdeal.main_arg2))) = (fun _ => 1#1)

def Pre_UpFwdRefIdeal (m : (ℓ : Loc Cert.UpFwdRefIdeal.nD Cert.UpFwdRefIdeal.τ Cert.UpFwdRefIdeal.sig) → Buf (Elt Ideal) ℓ) : Prop :=
  True

def Pre_UpFwdRefIdeal_finite8 [hPre_finite8 : Cert.Pre_finite8.Facts] (m : (ℓ : Loc Cert.UpFwdRefIdeal.nD Cert.UpFwdRefIdeal.τ Cert.UpFwdRefIdeal.sig) → Buf (Elt Ideal) ℓ) : Prop :=
  ∀ c : Dev Cert.UpFwdRefIdeal.nD,
    (Cert.Pre_finite8.fn (F := Ideal) (m ((c.tc : Thread Cert.UpFwdRefIdeal.nD Cert.UpFwdRefIdeal.τ).loc Cert.UpFwdRefIdeal.main_arg0)) (m ((c.tc : Thread Cert.UpFwdRefIdeal.nD Cert.UpFwdRefIdeal.τ).loc Cert.UpFwdRefIdeal.main_arg1)) (m ((c.tc : Thread Cert.UpFwdRefIdeal.nD Cert.UpFwdRefIdeal.τ).loc Cert.UpFwdRefIdeal.main_arg2))) = (fun _ => 1#1)

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_finite10 [hPre_finite10 : Cert.Pre_finite10.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_finite10.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4))) = (fun _ => 1#1)

def Pre_LossHeadRefIdeal (m : (ℓ : Loc Cert.LossHeadRefIdeal.nD Cert.LossHeadRefIdeal.τ Cert.LossHeadRefIdeal.sig) → Buf (Elt Ideal) ℓ) : Prop :=
  True

def Pre_LossHeadRefIdeal_finite10 [hPre_finite10 : Cert.Pre_finite10.Facts] (m : (ℓ : Loc Cert.LossHeadRefIdeal.nD Cert.LossHeadRefIdeal.τ Cert.LossHeadRefIdeal.sig) → Buf (Elt Ideal) ℓ) : Prop :=
  ∀ c : Dev Cert.LossHeadRefIdeal.nD,
    (Cert.Pre_finite10.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3)) (m ((c.tc : Thread Cert.LossHeadRefIdeal.nD Cert.LossHeadRefIdeal.τ).loc Cert.LossHeadRefIdeal.main_arg4))) = (fun _ => 1#1)

def Pre_OddFwd (m : (ℓ : Loc Cert.OddFwd.nD Cert.OddFwd.τ Cert.OddFwd.sig) → Buf (Elt Bits) ℓ) : Prop :=
  True

def Pre_OddFwdIdeal (m : (ℓ : Loc Cert.OddFwdIdeal.nD Cert.OddFwdIdeal.τ Cert.OddFwdIdeal.sig) → Buf (Elt Ideal) ℓ) : Prop :=
  True

def Pre_OddFwdRefIdeal (m : (ℓ : Loc Cert.OddFwdRefIdeal.nD Cert.OddFwdRefIdeal.τ Cert.OddFwdRefIdeal.sig) → Buf (Elt Ideal) ℓ) : Prop :=
  True

def Pre_EvenFwd (m : (ℓ : Loc Cert.EvenFwd.nD Cert.EvenFwd.τ Cert.EvenFwd.sig) → Buf (Elt Bits) ℓ) : Prop :=
  True

def Pre_EvenFwdIdeal (m : (ℓ : Loc Cert.EvenFwdIdeal.nD Cert.EvenFwdIdeal.τ Cert.EvenFwdIdeal.sig) → Buf (Elt Ideal) ℓ) : Prop :=
  True

def Pre_EvenFwdIdeal_finite12 [hPre_finite12 : Cert.Pre_finite12.Facts] (m : (ℓ : Loc Cert.EvenFwdIdeal.nD Cert.EvenFwdIdeal.τ Cert.EvenFwdIdeal.sig) → Buf (Elt Ideal) ℓ) : Prop :=
  ∀ c : Dev Cert.EvenFwdIdeal.nD,
    (Cert.Pre_finite12.fn (F := Ideal) (m ((c.tc : Thread Cert.EvenFwdIdeal.nD Cert.EvenFwdIdeal.τ).loc Cert.EvenFwdIdeal.main_arg0)) (m ((c.tc : Thread Cert.EvenFwdIdeal.nD Cert.EvenFwdIdeal.τ).loc Cert.EvenFwdIdeal.main_arg1)) (m ((c.tc : Thread Cert.EvenFwdIdeal.nD Cert.EvenFwdIdeal.τ).loc Cert.EvenFwdIdeal.main_arg2)) (m ((c.tc : Thread Cert.EvenFwdIdeal.nD Cert.EvenFwdIdeal.τ).loc Cert.EvenFwdIdeal.main_arg3)) (m ((c.tc : Thread Cert.EvenFwdIdeal.nD Cert.EvenFwdIdeal.τ).loc Cert.EvenFwdIdeal.main_arg4)) (m ((c.tc : Thread Cert.EvenFwdIdeal.nD Cert.EvenFwdIdeal.τ).loc Cert.EvenFwdIdeal.main_arg5)) (m ((c.tc : Thread Cert.EvenFwdIdeal.nD Cert.EvenFwdIdeal.τ).loc Cert.EvenFwdIdeal.main_arg6)) (m ((c.tc : Thread Cert.EvenFwdIdeal.nD Cert.EvenFwdIdeal.τ).loc Cert.EvenFwdIdeal.main_arg7))) = (fun _ => 1#1)

def Pre_EvenFwdRefIdeal (m : (ℓ : Loc Cert.EvenFwdRefIdeal.nD Cert.EvenFwdRefIdeal.τ Cert.EvenFwdRefIdeal.sig) → Buf (Elt Ideal) ℓ) : Prop :=
  True

def Pre_EvenFwdRefIdeal_finite12 [hPre_finite12 : Cert.Pre_finite12.Facts] (m : (ℓ : Loc Cert.EvenFwdRefIdeal.nD Cert.EvenFwdRefIdeal.τ Cert.EvenFwdRefIdeal.sig) → Buf (Elt Ideal) ℓ) : Prop :=
  ∀ c : Dev Cert.EvenFwdRefIdeal.nD,
    (Cert.Pre_finite12.fn (F := Ideal) (m ((c.tc : Thread Cert.EvenFwdRefIdeal.nD Cert.EvenFwdRefIdeal.τ).loc Cert.EvenFwdRefIdeal.main_arg0)) (m ((c.tc : Thread Cert.EvenFwdRefIdeal.nD Cert.EvenFwdRefIdeal.τ).loc Cert.EvenFwdRefIdeal.main_arg1)) (m ((c.tc : Thread Cert.EvenFwdRefIdeal.nD Cert.EvenFwdRefIdeal.τ).loc Cert.EvenFwdRefIdeal.main_arg2)) (m ((c.tc : Thread Cert.EvenFwdRefIdeal.nD Cert.EvenFwdRefIdeal.τ).loc Cert.EvenFwdRefIdeal.main_arg3)) (m ((c.tc : Thread Cert.EvenFwdRefIdeal.nD Cert.EvenFwdRefIdeal.τ).loc Cert.EvenFwdRefIdeal.main_arg4)) (m ((c.tc : Thread Cert.EvenFwdRefIdeal.nD Cert.EvenFwdRefIdeal.τ).loc Cert.EvenFwdRefIdeal.main_arg5)) (m ((c.tc : Thread Cert.EvenFwdRefIdeal.nD Cert.EvenFwdRefIdeal.τ).loc Cert.EvenFwdRefIdeal.main_arg6)) (m ((c.tc : Thread Cert.EvenFwdRefIdeal.nD Cert.EvenFwdRefIdeal.τ).loc Cert.EvenFwdRefIdeal.main_arg7))) = (fun _ => 1#1)

def Pre_OddBack (m : (ℓ : Loc Cert.OddBack.nD Cert.OddBack.τ Cert.OddBack.sig) → Buf (Elt Bits) ℓ) : Prop :=
  True

def Pre_OddBackIdeal (m : (ℓ : Loc Cert.OddBackIdeal.nD Cert.OddBackIdeal.τ Cert.OddBackIdeal.sig) → Buf (Elt Ideal) ℓ) : Prop :=
  True

def Pre_OddBackIdeal_finite13 [hPre_finite13 : Cert.Pre_finite13.Facts] (m : (ℓ : Loc Cert.OddBackIdeal.nD Cert.OddBackIdeal.τ Cert.OddBackIdeal.sig) → Buf (Elt Ideal) ℓ) : Prop :=
  ∀ c : Dev Cert.OddBackIdeal.nD,
    (Cert.Pre_finite13.fn (F := Ideal) (m ((c.tc : Thread Cert.OddBackIdeal.nD Cert.OddBackIdeal.τ).loc Cert.OddBackIdeal.main_arg0)) (m ((c.tc : Thread Cert.OddBackIdeal.nD Cert.OddBackIdeal.τ).loc Cert.OddBackIdeal.main_arg1)) (m ((c.tc : Thread Cert.OddBackIdeal.nD Cert.OddBackIdeal.τ).loc Cert.OddBackIdeal.main_arg2)) (m ((c.tc : Thread Cert.OddBackIdeal.nD Cert.OddBackIdeal.τ).loc Cert.OddBackIdeal.main_arg3)) (m ((c.tc : Thread Cert.OddBackIdeal.nD Cert.OddBackIdeal.τ).loc Cert.OddBackIdeal.main_arg4)) (m ((c.tc : Thread Cert.OddBackIdeal.nD Cert.OddBackIdeal.τ).loc Cert.OddBackIdeal.main_arg5)) (m ((c.tc : Thread Cert.OddBackIdeal.nD Cert.OddBackIdeal.τ).loc Cert.OddBackIdeal.main_arg6)) (m ((c.tc : Thread Cert.OddBackIdeal.nD Cert.OddBackIdeal.τ).loc Cert.OddBackIdeal.main_arg7))) = (fun _ => 1#1)

def Pre_OddBackRefIdeal (m : (ℓ : Loc Cert.OddBackRefIdeal.nD Cert.OddBackRefIdeal.τ Cert.OddBackRefIdeal.sig) → Buf (Elt Ideal) ℓ) : Prop :=
  True

def Pre_OddBackRefIdeal_finite13 [hPre_finite13 : Cert.Pre_finite13.Facts] (m : (ℓ : Loc Cert.OddBackRefIdeal.nD Cert.OddBackRefIdeal.τ Cert.OddBackRefIdeal.sig) → Buf (Elt Ideal) ℓ) : Prop :=
  ∀ c : Dev Cert.OddBackRefIdeal.nD,
    (Cert.Pre_finite13.fn (F := Ideal) (m ((c.tc : Thread Cert.OddBackRefIdeal.nD Cert.OddBackRefIdeal.τ).loc Cert.OddBackRefIdeal.main_arg0)) (m ((c.tc : Thread Cert.OddBackRefIdeal.nD Cert.OddBackRefIdeal.τ).loc Cert.OddBackRefIdeal.main_arg1)) (m ((c.tc : Thread Cert.OddBackRefIdeal.nD Cert.OddBackRefIdeal.τ).loc Cert.OddBackRefIdeal.main_arg2)) (m ((c.tc : Thread Cert.OddBackRefIdeal.nD Cert.OddBackRefIdeal.τ).loc Cert.OddBackRefIdeal.main_arg3)) (m ((c.tc : Thread Cert.OddBackRefIdeal.nD Cert.OddBackRefIdeal.τ).loc Cert.OddBackRefIdeal.main_arg4)) (m ((c.tc : Thread Cert.OddBackRefIdeal.nD Cert.OddBackRefIdeal.τ).loc Cert.OddBackRefIdeal.main_arg5)) (m ((c.tc : Thread Cert.OddBackRefIdeal.nD Cert.OddBackRefIdeal.τ).loc Cert.OddBackRefIdeal.main_arg6)) (m ((c.tc : Thread Cert.OddBackRefIdeal.nD Cert.OddBackRefIdeal.τ).loc Cert.OddBackRefIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_FfnBack [hFfnBack : Cert.FfnBack.Facts] : Prop :=
  ∀ (m : (ℓ : Loc Cert.FfnBack.nD Cert.FfnBack.τ Cert.FfnBack.sig) → Buf (Elt Bits) ℓ) (g : Dev Cert.FfnBack.nD → PrngReg), Pre_FfnBack m →
    θ_run (Cert.FfnBack.defs (F := Bits)) (onTc (τ := Cert.FfnBack.τ) (Cert.FfnBack.main (F := Bits))) ⟨m, fun _ => 0, g⟩ (fun r => (∀ c : Dev Cert.FfnBack.nD,
      r.2.mem ((c.tc : Thread Cert.FfnBack.nD Cert.FfnBack.τ).loc Cert.FfnBack.main_arg0) = m ((c.tc : Thread Cert.FfnBack.nD Cert.FfnBack.τ).loc Cert.FfnBack.main_arg0)
      ∧ r.2.mem ((c.tc : Thread Cert.FfnBack.nD Cert.FfnBack.τ).loc Cert.FfnBack.main_arg1) = m ((c.tc : Thread Cert.FfnBack.nD Cert.FfnBack.τ).loc Cert.FfnBack.main_arg1)
      ∧ r.2.mem ((c.tc : Thread Cert.FfnBack.nD Cert.FfnBack.τ).loc Cert.FfnBack.main_arg2) = m ((c.tc : Thread Cert.FfnBack.nD Cert.FfnBack.τ).loc Cert.FfnBack.main_arg2)
      ∧ r.2.mem ((c.tc : Thread Cert.FfnBack.nD Cert.FfnBack.τ).loc Cert.FfnBack.main_arg3) = m ((c.tc : Thread Cert.FfnBack.nD Cert.FfnBack.τ).loc Cert.FfnBack.main_arg3)
      ∧ r.2.mem ((c.tc : Thread Cert.FfnBack.nD Cert.FfnBack.τ).loc Cert.FfnBack.main_arg4) = m ((c.tc : Thread Cert.FfnBack.nD Cert.FfnBack.τ).loc Cert.FfnBack.main_arg4)
      ∧ r.2.mem ((c.tc : Thread Cert.FfnBack.nD Cert.FfnBack.τ).loc Cert.FfnBack.main_arg5) = m ((c.tc : Thread Cert.FfnBack.nD Cert.FfnBack.τ).loc Cert.FfnBack.main_arg5)
      ∧ r.2.mem ((c.tc : Thread Cert.FfnBack.nD Cert.FfnBack.τ).loc Cert.FfnBack.main_arg6) = m ((c.tc : Thread Cert.FfnBack.nD Cert.FfnBack.τ).loc Cert.FfnBack.main_arg6))
      ∧ r.2.sem = fun _ => 0)

def quiescent_FfnBackIdeal [hFfnBackIdeal : Cert.FfnBackIdeal.Facts] : Prop :=
  ∀ (m : (ℓ : Loc Cert.FfnBackIdeal.nD Cert.FfnBackIdeal.τ Cert.FfnBackIdeal.sig) → Buf (Elt Ideal) ℓ) (g : Dev Cert.FfnBackIdeal.nD → PrngReg), Pre_FfnBackIdeal m →
    θ_run (Cert.FfnBackIdeal.defs (F := Ideal)) (onTc (τ := Cert.FfnBackIdeal.τ) (Cert.FfnBackIdeal.main (F := Ideal))) ⟨m, fun _ => 0, g⟩ (fun r => (∀ c : Dev Cert.FfnBackIdeal.nD,
      r.2.mem ((c.tc : Thread Cert.FfnBackIdeal.nD Cert.FfnBackIdeal.τ).loc Cert.FfnBackIdeal.main_arg0) = m ((c.tc : Thread Cert.FfnBackIdeal.nD Cert.FfnBackIdeal.τ).loc Cert.FfnBackIdeal.main_arg0)
      ∧ r.2.mem ((c.tc : Thread Cert.FfnBackIdeal.nD Cert.FfnBackIdeal.τ).loc Cert.FfnBackIdeal.main_arg1) = m ((c.tc : Thread Cert.FfnBackIdeal.nD Cert.FfnBackIdeal.τ).loc Cert.FfnBackIdeal.main_arg1)
      ∧ r.2.mem ((c.tc : Thread Cert.FfnBackIdeal.nD Cert.FfnBackIdeal.τ).loc Cert.FfnBackIdeal.main_arg2) = m ((c.tc : Thread Cert.FfnBackIdeal.nD Cert.FfnBackIdeal.τ).loc Cert.FfnBackIdeal.main_arg2)
      ∧ r.2.mem ((c.tc : Thread Cert.FfnBackIdeal.nD Cert.FfnBackIdeal.τ).loc Cert.FfnBackIdeal.main_arg3) = m ((c.tc : Thread Cert.FfnBackIdeal.nD Cert.FfnBackIdeal.τ).loc Cert.FfnBackIdeal.main_arg3)
      ∧ r.2.mem ((c.tc : Thread Cert.FfnBackIdeal.nD Cert.FfnBackIdeal.τ).loc Cert.FfnBackIdeal.main_arg4) = m ((c.tc : Thread Cert.FfnBackIdeal.nD Cert.FfnBackIdeal.τ).loc Cert.FfnBackIdeal.main_arg4)
      ∧ r.2.mem ((c.tc : Thread Cert.FfnBackIdeal.nD Cert.FfnBackIdeal.τ).loc Cert.FfnBackIdeal.main_arg5) = m ((c.tc : Thread Cert.FfnBackIdeal.nD Cert.FfnBackIdeal.τ).loc Cert.FfnBackIdeal.main_arg5)
      ∧ r.2.mem ((c.tc : Thread Cert.FfnBackIdeal.nD Cert.FfnBackIdeal.τ).loc Cert.FfnBackIdeal.main_arg6) = m ((c.tc : Thread Cert.FfnBackIdeal.nD Cert.FfnBackIdeal.τ).loc Cert.FfnBackIdeal.main_arg6))
      ∧ r.2.sem = fun _ => 0)

def quiescent_FfnBackIdeal_pre_finite2 [hFfnBackIdeal : Cert.FfnBackIdeal.Facts] [hPre_finite2 : Cert.Pre_finite2.Facts] : Prop :=
  ∀ (m : (ℓ : Loc Cert.FfnBackIdeal.nD Cert.FfnBackIdeal.τ Cert.FfnBackIdeal.sig) → Buf (Elt Ideal) ℓ) (g : Dev Cert.FfnBackIdeal.nD → PrngReg), Pre_FfnBackIdeal_finite2 m →
    θ_run (Cert.FfnBackIdeal.defs (F := Ideal)) (onTc (τ := Cert.FfnBackIdeal.τ) (Cert.FfnBackIdeal.main (F := Ideal))) ⟨m, fun _ => 0, g⟩ (fun r => (∀ c : Dev Cert.FfnBackIdeal.nD,
      r.2.mem ((c.tc : Thread Cert.FfnBackIdeal.nD Cert.FfnBackIdeal.τ).loc Cert.FfnBackIdeal.main_arg0) = m ((c.tc : Thread Cert.FfnBackIdeal.nD Cert.FfnBackIdeal.τ).loc Cert.FfnBackIdeal.main_arg0)
      ∧ r.2.mem ((c.tc : Thread Cert.FfnBackIdeal.nD Cert.FfnBackIdeal.τ).loc Cert.FfnBackIdeal.main_arg1) = m ((c.tc : Thread Cert.FfnBackIdeal.nD Cert.FfnBackIdeal.τ).loc Cert.FfnBackIdeal.main_arg1)
      ∧ r.2.mem ((c.tc : Thread Cert.FfnBackIdeal.nD Cert.FfnBackIdeal.τ).loc Cert.FfnBackIdeal.main_arg2) = m ((c.tc : Thread Cert.FfnBackIdeal.nD Cert.FfnBackIdeal.τ).loc Cert.FfnBackIdeal.main_arg2)
      ∧ r.2.mem ((c.tc : Thread Cert.FfnBackIdeal.nD Cert.FfnBackIdeal.τ).loc Cert.FfnBackIdeal.main_arg3) = m ((c.tc : Thread Cert.FfnBackIdeal.nD Cert.FfnBackIdeal.τ).loc Cert.FfnBackIdeal.main_arg3)
      ∧ r.2.mem ((c.tc : Thread Cert.FfnBackIdeal.nD Cert.FfnBackIdeal.τ).loc Cert.FfnBackIdeal.main_arg4) = m ((c.tc : Thread Cert.FfnBackIdeal.nD Cert.FfnBackIdeal.τ).loc Cert.FfnBackIdeal.main_arg4)
      ∧ r.2.mem ((c.tc : Thread Cert.FfnBackIdeal.nD Cert.FfnBackIdeal.τ).loc Cert.FfnBackIdeal.main_arg5) = m ((c.tc : Thread Cert.FfnBackIdeal.nD Cert.FfnBackIdeal.τ).loc Cert.FfnBackIdeal.main_arg5)
      ∧ r.2.mem ((c.tc : Thread Cert.FfnBackIdeal.nD Cert.FfnBackIdeal.τ).loc Cert.FfnBackIdeal.main_arg6) = m ((c.tc : Thread Cert.FfnBackIdeal.nD Cert.FfnBackIdeal.τ).loc Cert.FfnBackIdeal.main_arg6))
      ∧ r.2.sem = fun _ => 0)

def quiescent_FfnBackRefIdeal [hFfnBackRefIdeal : Cert.FfnBackRefIdeal.Facts] : Prop :=
  ∀ (m : (ℓ : Loc Cert.FfnBackRefIdeal.nD Cert.FfnBackRefIdeal.τ Cert.FfnBackRefIdeal.sig) → Buf (Elt Ideal) ℓ) (g : Dev Cert.FfnBackRefIdeal.nD → PrngReg), Pre_FfnBackRefIdeal m →
    θ_run (Cert.FfnBackRefIdeal.defs (F := Ideal)) (onTc (τ := Cert.FfnBackRefIdeal.τ) (Cert.FfnBackRefIdeal.main (F := Ideal))) ⟨m, fun _ => 0, g⟩ (fun r => (∀ c : Dev Cert.FfnBackRefIdeal.nD,
      r.2.mem ((c.tc : Thread Cert.FfnBackRefIdeal.nD Cert.FfnBackRefIdeal.τ).loc Cert.FfnBackRefIdeal.main_arg0) = m ((c.tc : Thread Cert.FfnBackRefIdeal.nD Cert.FfnBackRefIdeal.τ).loc Cert.FfnBackRefIdeal.main_arg0)
      ∧ r.2.mem ((c.tc : Thread Cert.FfnBackRefIdeal.nD Cert.FfnBackRefIdeal.τ).loc Cert.FfnBackRefIdeal.main_arg1) = m ((c.tc : Thread Cert.FfnBackRefIdeal.nD Cert.FfnBackRefIdeal.τ).loc Cert.FfnBackRefIdeal.main_arg1)
      ∧ r.2.mem ((c.tc : Thread Cert.FfnBackRefIdeal.nD Cert.FfnBackRefIdeal.τ).loc Cert.FfnBackRefIdeal.main_arg2) = m ((c.tc : Thread Cert.FfnBackRefIdeal.nD Cert.FfnBackRefIdeal.τ).loc Cert.FfnBackRefIdeal.main_arg2)
      ∧ r.2.mem ((c.tc : Thread Cert.FfnBackRefIdeal.nD Cert.FfnBackRefIdeal.τ).loc Cert.FfnBackRefIdeal.main_arg3) = m ((c.tc : Thread Cert.FfnBackRefIdeal.nD Cert.FfnBackRefIdeal.τ).loc Cert.FfnBackRefIdeal.main_arg3)
      ∧ r.2.mem ((c.tc : Thread Cert.FfnBackRefIdeal.nD Cert.FfnBackRefIdeal.τ).loc Cert.FfnBackRefIdeal.main_arg4) = m ((c.tc : Thread Cert.FfnBackRefIdeal.nD Cert.FfnBackRefIdeal.τ).loc Cert.FfnBackRefIdeal.main_arg4)
      ∧ r.2.mem ((c.tc : Thread Cert.FfnBackRefIdeal.nD Cert.FfnBackRefIdeal.τ).loc Cert.FfnBackRefIdeal.main_arg5) = m ((c.tc : Thread Cert.FfnBackRefIdeal.nD Cert.FfnBackRefIdeal.τ).loc Cert.FfnBackRefIdeal.main_arg5)
      ∧ r.2.mem ((c.tc : Thread Cert.FfnBackRefIdeal.nD Cert.FfnBackRefIdeal.τ).loc Cert.FfnBackRefIdeal.main_arg6) = m ((c.tc : Thread Cert.FfnBackRefIdeal.nD Cert.FfnBackRefIdeal.τ).loc Cert.FfnBackRefIdeal.main_arg6))
      ∧ r.2.sem = fun _ => 0)

def quiescent_FfnBackRefIdeal_pre_finite2 [hFfnBackRefIdeal : Cert.FfnBackRefIdeal.Facts] [hPre_finite2 : Cert.Pre_finite2.Facts] : Prop :=
  ∀ (m : (ℓ : Loc Cert.FfnBackRefIdeal.nD Cert.FfnBackRefIdeal.τ Cert.FfnBackRefIdeal.sig) → Buf (Elt Ideal) ℓ) (g : Dev Cert.FfnBackRefIdeal.nD → PrngReg), Pre_FfnBackRefIdeal_finite2 m →
    θ_run (Cert.FfnBackRefIdeal.defs (F := Ideal)) (onTc (τ := Cert.FfnBackRefIdeal.τ) (Cert.FfnBackRefIdeal.main (F := Ideal))) ⟨m, fun _ => 0, g⟩ (fun r => (∀ c : Dev Cert.FfnBackRefIdeal.nD,
      r.2.mem ((c.tc : Thread Cert.FfnBackRefIdeal.nD Cert.FfnBackRefIdeal.τ).loc Cert.FfnBackRefIdeal.main_arg0) = m ((c.tc : Thread Cert.FfnBackRefIdeal.nD Cert.FfnBackRefIdeal.τ).loc Cert.FfnBackRefIdeal.main_arg0)
      ∧ r.2.mem ((c.tc : Thread Cert.FfnBackRefIdeal.nD Cert.FfnBackRefIdeal.τ).loc Cert.FfnBackRefIdeal.main_arg1) = m ((c.tc : Thread Cert.FfnBackRefIdeal.nD Cert.FfnBackRefIdeal.τ).loc Cert.FfnBackRefIdeal.main_arg1)
      ∧ r.2.mem ((c.tc : Thread Cert.FfnBackRefIdeal.nD Cert.FfnBackRefIdeal.τ).loc Cert.FfnBackRefIdeal.main_arg2) = m ((c.tc : Thread Cert.FfnBackRefIdeal.nD Cert.FfnBackRefIdeal.τ).loc Cert.FfnBackRefIdeal.main_arg2)
      ∧ r.2.mem ((c.tc : Thread Cert.FfnBackRefIdeal.nD Cert.FfnBackRefIdeal.τ).loc Cert.FfnBackRefIdeal.main_arg3) = m ((c.tc : Thread Cert.FfnBackRefIdeal.nD Cert.FfnBackRefIdeal.τ).loc Cert.FfnBackRefIdeal.main_arg3)
      ∧ r.2.mem ((c.tc : Thread Cert.FfnBackRefIdeal.nD Cert.FfnBackRefIdeal.τ).loc Cert.FfnBackRefIdeal.main_arg4) = m ((c.tc : Thread Cert.FfnBackRefIdeal.nD Cert.FfnBackRefIdeal.τ).loc Cert.FfnBackRefIdeal.main_arg4)
      ∧ r.2.mem ((c.tc : Thread Cert.FfnBackRefIdeal.nD Cert.FfnBackRefIdeal.τ).loc Cert.FfnBackRefIdeal.main_arg5) = m ((c.tc : Thread Cert.FfnBackRefIdeal.nD Cert.FfnBackRefIdeal.τ).loc Cert.FfnBackRefIdeal.main_arg5)
      ∧ r.2.mem ((c.tc : Thread Cert.FfnBackRefIdeal.nD Cert.FfnBackRefIdeal.τ).loc Cert.FfnBackRefIdeal.main_arg6) = m ((c.tc : Thread Cert.FfnBackRefIdeal.nD Cert.FfnBackRefIdeal.τ).loc Cert.FfnBackRefIdeal.main_arg6))
      ∧ r.2.sem = fun _ => 0)

def quiescent_WgradFfn [hWgradFfn : Cert.WgradFfn.Facts] : Prop :=
  ∀ (m : (ℓ : Loc Cert.WgradFfn.nD Cert.WgradFfn.τ Cert.WgradFfn.sig) → Buf (Elt Bits) ℓ) (g : Dev Cert.WgradFfn.nD → PrngReg), Pre_WgradFfn m →
    θ_run (Cert.WgradFfn.defs (F := Bits)) (onTc (τ := Cert.WgradFfn.τ) (Cert.WgradFfn.main (F := Bits))) ⟨m, fun _ => 0, g⟩ (fun r => (∀ c : Dev Cert.WgradFfn.nD,
      r.2.mem ((c.tc : Thread Cert.WgradFfn.nD Cert.WgradFfn.τ).loc Cert.WgradFfn.main_arg0) = m ((c.tc : Thread Cert.WgradFfn.nD Cert.WgradFfn.τ).loc Cert.WgradFfn.main_arg0)
      ∧ r.2.mem ((c.tc : Thread Cert.WgradFfn.nD Cert.WgradFfn.τ).loc Cert.WgradFfn.main_arg1) = m ((c.tc : Thread Cert.WgradFfn.nD Cert.WgradFfn.τ).loc Cert.WgradFfn.main_arg1))
      ∧ r.2.sem = fun _ => 0)

def quiescent_WgradFfnIdeal [hWgradFfnIdeal : Cert.WgradFfnIdeal.Facts] : Prop :=
  ∀ (m : (ℓ : Loc Cert.WgradFfnIdeal.nD Cert.WgradFfnIdeal.τ Cert.WgradFfnIdeal.sig) → Buf (Elt Ideal) ℓ) (g : Dev Cert.WgradFfnIdeal.nD → PrngReg), Pre_WgradFfnIdeal m →
    θ_run (Cert.WgradFfnIdeal.defs (F := Ideal)) (onTc (τ := Cert.WgradFfnIdeal.τ) (Cert.WgradFfnIdeal.main (F := Ideal))) ⟨m, fun _ => 0, g⟩ (fun r => (∀ c : Dev Cert.WgradFfnIdeal.nD,
      r.2.mem ((c.tc : Thread Cert.WgradFfnIdeal.nD Cert.WgradFfnIdeal.τ).loc Cert.WgradFfnIdeal.main_arg0) = m ((c.tc : Thread Cert.WgradFfnIdeal.nD Cert.WgradFfnIdeal.τ).loc Cert.WgradFfnIdeal.main_arg0)
      ∧ r.2.mem ((c.tc : Thread Cert.WgradFfnIdeal.nD Cert.WgradFfnIdeal.τ).loc Cert.WgradFfnIdeal.main_arg1) = m ((c.tc : Thread Cert.WgradFfnIdeal.nD Cert.WgradFfnIdeal.τ).loc Cert.WgradFfnIdeal.main_arg1))
      ∧ r.2.sem = fun _ => 0)

def quiescent_WgradFfnRefIdeal [hWgradFfnRefIdeal : Cert.WgradFfnRefIdeal.Facts] : Prop :=
  ∀ (m : (ℓ : Loc Cert.WgradFfnRefIdeal.nD Cert.WgradFfnRefIdeal.τ Cert.WgradFfnRefIdeal.sig) → Buf (Elt Ideal) ℓ) (g : Dev Cert.WgradFfnRefIdeal.nD → PrngReg), Pre_WgradFfnRefIdeal m →
    θ_run (Cert.WgradFfnRefIdeal.defs (F := Ideal)) (onTc (τ := Cert.WgradFfnRefIdeal.τ) (Cert.WgradFfnRefIdeal.main (F := Ideal))) ⟨m, fun _ => 0, g⟩ (fun r => (∀ c : Dev Cert.WgradFfnRefIdeal.nD,
      r.2.mem ((c.tc : Thread Cert.WgradFfnRefIdeal.nD Cert.WgradFfnRefIdeal.τ).loc Cert.WgradFfnRefIdeal.main_arg0) = m ((c.tc : Thread Cert.WgradFfnRefIdeal.nD Cert.WgradFfnRefIdeal.τ).loc Cert.WgradFfnRefIdeal.main_arg0)
      ∧ r.2.mem ((c.tc : Thread Cert.WgradFfnRefIdeal.nD Cert.WgradFfnRefIdeal.τ).loc Cert.WgradFfnRefIdeal.main_arg1) = m ((c.tc : Thread Cert.WgradFfnRefIdeal.nD Cert.WgradFfnRefIdeal.τ).loc Cert.WgradFfnRefIdeal.main_arg1))
      ∧ r.2.sem = fun _ => 0)

def quiescent_WgradIn [hWgradIn : Cert.WgradIn.Facts] : Prop :=
  ∀ (m : (ℓ : Loc Cert.WgradIn.nD Cert.WgradIn.τ Cert.WgradIn.sig) → Buf (Elt Bits) ℓ) (g : Dev Cert.WgradIn.nD → PrngReg), Pre_WgradIn m →
    θ_run (Cert.WgradIn.defs (F := Bits)) (onTc (τ := Cert.WgradIn.τ) (Cert.WgradIn.main (F := Bits))) ⟨m, fun _ => 0, g⟩ (fun r => (∀ c : Dev Cert.WgradIn.nD,
      r.2.mem ((c.tc : Thread Cert.WgradIn.nD Cert.WgradIn.τ).loc Cert.WgradIn.main_arg0) = m ((c.tc : Thread Cert.WgradIn.nD Cert.WgradIn.τ).loc Cert.WgradIn.main_arg0)
      ∧ r.2.mem ((c.tc : Thread Cert.WgradIn.nD Cert.WgradIn.τ).loc Cert.WgradIn.main_arg1) = m ((c.tc : Thread Cert.WgradIn.nD Cert.WgradIn.τ).loc Cert.WgradIn.main_arg1))
      ∧ r.2.sem = fun _ => 0)

def quiescent_WgradInIdeal [hWgradInIdeal : Cert.WgradInIdeal.Facts] : Prop :=
  ∀ (m : (ℓ : Loc Cert.WgradInIdeal.nD Cert.WgradInIdeal.τ Cert.WgradInIdeal.sig) → Buf (Elt Ideal) ℓ) (g : Dev Cert.WgradInIdeal.nD → PrngReg), Pre_WgradInIdeal m →
    θ_run (Cert.WgradInIdeal.defs (F := Ideal)) (onTc (τ := Cert.WgradInIdeal.τ) (Cert.WgradInIdeal.main (F := Ideal))) ⟨m, fun _ => 0, g⟩ (fun r => (∀ c : Dev Cert.WgradInIdeal.nD,
      r.2.mem ((c.tc : Thread Cert.WgradInIdeal.nD Cert.WgradInIdeal.τ).loc Cert.WgradInIdeal.main_arg0) = m ((c.tc : Thread Cert.WgradInIdeal.nD Cert.WgradInIdeal.τ).loc Cert.WgradInIdeal.main_arg0)
      ∧ r.2.mem ((c.tc : Thread Cert.WgradInIdeal.nD Cert.WgradInIdeal.τ).loc Cert.WgradInIdeal.main_arg1) = m ((c.tc : Thread Cert.WgradInIdeal.nD Cert.WgradInIdeal.τ).loc Cert.WgradInIdeal.main_arg1))
      ∧ r.2.sem = fun _ => 0)

def quiescent_WgradInRefIdeal [hWgradInRefIdeal : Cert.WgradInRefIdeal.Facts] : Prop :=
  ∀ (m : (ℓ : Loc Cert.WgradInRefIdeal.nD Cert.WgradInRefIdeal.τ Cert.WgradInRefIdeal.sig) → Buf (Elt Ideal) ℓ) (g : Dev Cert.WgradInRefIdeal.nD → PrngReg), Pre_WgradInRefIdeal m →
    θ_run (Cert.WgradInRefIdeal.defs (F := Ideal)) (onTc (τ := Cert.WgradInRefIdeal.τ) (Cert.WgradInRefIdeal.main (F := Ideal))) ⟨m, fun _ => 0, g⟩ (fun r => (∀ c : Dev Cert.WgradInRefIdeal.nD,
      r.2.mem ((c.tc : Thread Cert.WgradInRefIdeal.nD Cert.WgradInRefIdeal.τ).loc Cert.WgradInRefIdeal.main_arg0) = m ((c.tc : Thread Cert.WgradInRefIdeal.nD Cert.WgradInRefIdeal.τ).loc Cert.WgradInRefIdeal.main_arg0)
      ∧ r.2.mem ((c.tc : Thread Cert.WgradInRefIdeal.nD Cert.WgradInRefIdeal.τ).loc Cert.WgradInRefIdeal.main_arg1) = m ((c.tc : Thread Cert.WgradInRefIdeal.nD Cert.WgradInRefIdeal.τ).loc Cert.WgradInRefIdeal.main_arg1))
      ∧ r.2.sem = fun _ => 0)

def quiescent_WgradOut [hWgradOut : Cert.WgradOut.Facts] : Prop :=
  ∀ (m : (ℓ : Loc Cert.WgradOut.nD Cert.WgradOut.τ Cert.WgradOut.sig) → Buf (Elt Bits) ℓ) (g : Dev Cert.WgradOut.nD → PrngReg), Pre_WgradOut m →
    θ_run (Cert.WgradOut.defs (F := Bits)) (onTc (τ := Cert.WgradOut.τ) (Cert.WgradOut.main (F := Bits))) ⟨m, fun _ => 0, g⟩ (fun r => (∀ c : Dev Cert.WgradOut.nD,
      r.2.mem ((c.tc : Thread Cert.WgradOut.nD Cert.WgradOut.τ).loc Cert.WgradOut.main_arg0) = m ((c.tc : Thread Cert.WgradOut.nD Cert.WgradOut.τ).loc Cert.WgradOut.main_arg0)
      ∧ r.2.mem ((c.tc : Thread Cert.WgradOut.nD Cert.WgradOut.τ).loc Cert.WgradOut.main_arg1) = m ((c.tc : Thread Cert.WgradOut.nD Cert.WgradOut.τ).loc Cert.WgradOut.main_arg1))
      ∧ r.2.sem = fun _ => 0)

def quiescent_WgradOutIdeal [hWgradOutIdeal : Cert.WgradOutIdeal.Facts] : Prop :=
  ∀ (m : (ℓ : Loc Cert.WgradOutIdeal.nD Cert.WgradOutIdeal.τ Cert.WgradOutIdeal.sig) → Buf (Elt Ideal) ℓ) (g : Dev Cert.WgradOutIdeal.nD → PrngReg), Pre_WgradOutIdeal m →
    θ_run (Cert.WgradOutIdeal.defs (F := Ideal)) (onTc (τ := Cert.WgradOutIdeal.τ) (Cert.WgradOutIdeal.main (F := Ideal))) ⟨m, fun _ => 0, g⟩ (fun r => (∀ c : Dev Cert.WgradOutIdeal.nD,
      r.2.mem ((c.tc : Thread Cert.WgradOutIdeal.nD Cert.WgradOutIdeal.τ).loc Cert.WgradOutIdeal.main_arg0) = m ((c.tc : Thread Cert.WgradOutIdeal.nD Cert.WgradOutIdeal.τ).loc Cert.WgradOutIdeal.main_arg0)
      ∧ r.2.mem ((c.tc : Thread Cert.WgradOutIdeal.nD Cert.WgradOutIdeal.τ).loc Cert.WgradOutIdeal.main_arg1) = m ((c.tc : Thread Cert.WgradOutIdeal.nD Cert.WgradOutIdeal.τ).loc Cert.WgradOutIdeal.main_arg1))
      ∧ r.2.sem = fun _ => 0)

def quiescent_WgradOutRefIdeal [hWgradOutRefIdeal : Cert.WgradOutRefIdeal.Facts] : Prop :=
  ∀ (m : (ℓ : Loc Cert.WgradOutRefIdeal.nD Cert.WgradOutRefIdeal.τ Cert.WgradOutRefIdeal.sig) → Buf (Elt Ideal) ℓ) (g : Dev Cert.WgradOutRefIdeal.nD → PrngReg), Pre_WgradOutRefIdeal m →
    θ_run (Cert.WgradOutRefIdeal.defs (F := Ideal)) (onTc (τ := Cert.WgradOutRefIdeal.τ) (Cert.WgradOutRefIdeal.main (F := Ideal))) ⟨m, fun _ => 0, g⟩ (fun r => (∀ c : Dev Cert.WgradOutRefIdeal.nD,
      r.2.mem ((c.tc : Thread Cert.WgradOutRefIdeal.nD Cert.WgradOutRefIdeal.τ).loc Cert.WgradOutRefIdeal.main_arg0) = m ((c.tc : Thread Cert.WgradOutRefIdeal.nD Cert.WgradOutRefIdeal.τ).loc Cert.WgradOutRefIdeal.main_arg0)
      ∧ r.2.mem ((c.tc : Thread Cert.WgradOutRefIdeal.nD Cert.WgradOutRefIdeal.τ).loc Cert.WgradOutRefIdeal.main_arg1) = m ((c.tc : Thread Cert.WgradOutRefIdeal.nD Cert.WgradOutRefIdeal.τ).loc Cert.WgradOutRefIdeal.main_arg1))
      ∧ r.2.sem = fun _ => 0)

def quiescent_FfnGate [hFfnGate : Cert.FfnGate.Facts] : Prop :=
  ∀ (m : (ℓ : Loc Cert.FfnGate.nD Cert.FfnGate.τ Cert.FfnGate.sig) → Buf (Elt Bits) ℓ) (g : Dev Cert.FfnGate.nD → PrngReg), Pre_FfnGate m →
    θ_run (Cert.FfnGate.defs (F := Bits)) (onTc (τ := Cert.FfnGate.τ) (Cert.FfnGate.main (F := Bits))) ⟨m, fun _ => 0, g⟩ (fun r => (∀ c : Dev Cert.FfnGate.nD,
      r.2.mem ((c.tc : Thread Cert.FfnGate.nD Cert.FfnGate.τ).loc Cert.FfnGate.main_arg0) = m ((c.tc : Thread Cert.FfnGate.nD Cert.FfnGate.τ).loc Cert.FfnGate.main_arg0)
      ∧ r.2.mem ((c.tc : Thread Cert.FfnGate.nD Cert.FfnGate.τ).loc Cert.FfnGate.main_arg1) = m ((c.tc : Thread Cert.FfnGate.nD Cert.FfnGate.τ).loc Cert.FfnGate.main_arg1)
      ∧ r.2.mem ((c.tc : Thread Cert.FfnGate.nD Cert.FfnGate.τ).loc Cert.FfnGate.main_arg2) = m ((c.tc : Thread Cert.FfnGate.nD Cert.FfnGate.τ).loc Cert.FfnGate.main_arg2)
      ∧ r.2.mem ((c.tc : Thread Cert.FfnGate.nD Cert.FfnGate.τ).loc Cert.FfnGate.main_arg3) = m ((c.tc : Thread Cert.FfnGate.nD Cert.FfnGate.τ).loc Cert.FfnGate.main_arg3)
      ∧ r.2.mem ((c.tc : Thread Cert.FfnGate.nD Cert.FfnGate.τ).loc Cert.FfnGate.main_arg4) = m ((c.tc : Thread Cert.FfnGate.nD Cert.FfnGate.τ).loc Cert.FfnGate.main_arg4)
      ∧ r.2.mem ((c.tc : Thread Cert.FfnGate.nD Cert.FfnGate.τ).loc Cert.FfnGate.main_arg5) = m ((c.tc : Thread Cert.FfnGate.nD Cert.FfnGate.τ).loc Cert.FfnGate.main_arg5))
      ∧ r.2.sem = fun _ => 0)

def quiescent_FfnGateIdeal [hFfnGateIdeal : Cert.FfnGateIdeal.Facts] : Prop :=
  ∀ (m : (ℓ : Loc Cert.FfnGateIdeal.nD Cert.FfnGateIdeal.τ Cert.FfnGateIdeal.sig) → Buf (Elt Ideal) ℓ) (g : Dev Cert.FfnGateIdeal.nD → PrngReg), Pre_FfnGateIdeal m →
    θ_run (Cert.FfnGateIdeal.defs (F := Ideal)) (onTc (τ := Cert.FfnGateIdeal.τ) (Cert.FfnGateIdeal.main (F := Ideal))) ⟨m, fun _ => 0, g⟩ (fun r => (∀ c : Dev Cert.FfnGateIdeal.nD,
      r.2.mem ((c.tc : Thread Cert.FfnGateIdeal.nD Cert.FfnGateIdeal.τ).loc Cert.FfnGateIdeal.main_arg0) = m ((c.tc : Thread Cert.FfnGateIdeal.nD Cert.FfnGateIdeal.τ).loc Cert.FfnGateIdeal.main_arg0)
      ∧ r.2.mem ((c.tc : Thread Cert.FfnGateIdeal.nD Cert.FfnGateIdeal.τ).loc Cert.FfnGateIdeal.main_arg1) = m ((c.tc : Thread Cert.FfnGateIdeal.nD Cert.FfnGateIdeal.τ).loc Cert.FfnGateIdeal.main_arg1)
      ∧ r.2.mem ((c.tc : Thread Cert.FfnGateIdeal.nD Cert.FfnGateIdeal.τ).loc Cert.FfnGateIdeal.main_arg2) = m ((c.tc : Thread Cert.FfnGateIdeal.nD Cert.FfnGateIdeal.τ).loc Cert.FfnGateIdeal.main_arg2)
      ∧ r.2.mem ((c.tc : Thread Cert.FfnGateIdeal.nD Cert.FfnGateIdeal.τ).loc Cert.FfnGateIdeal.main_arg3) = m ((c.tc : Thread Cert.FfnGateIdeal.nD Cert.FfnGateIdeal.τ).loc Cert.FfnGateIdeal.main_arg3)
      ∧ r.2.mem ((c.tc : Thread Cert.FfnGateIdeal.nD Cert.FfnGateIdeal.τ).loc Cert.FfnGateIdeal.main_arg4) = m ((c.tc : Thread Cert.FfnGateIdeal.nD Cert.FfnGateIdeal.τ).loc Cert.FfnGateIdeal.main_arg4)
      ∧ r.2.mem ((c.tc : Thread Cert.FfnGateIdeal.nD Cert.FfnGateIdeal.τ).loc Cert.FfnGateIdeal.main_arg5) = m ((c.tc : Thread Cert.FfnGateIdeal.nD Cert.FfnGateIdeal.τ).loc Cert.FfnGateIdeal.main_arg5))
      ∧ r.2.sem = fun _ => 0)

def quiescent_FfnGateIdeal_pre_finite6 [hFfnGateIdeal : Cert.FfnGateIdeal.Facts] [hPre_finite6 : Cert.Pre_finite6.Facts] : Prop :=
  ∀ (m : (ℓ : Loc Cert.FfnGateIdeal.nD Cert.FfnGateIdeal.τ Cert.FfnGateIdeal.sig) → Buf (Elt Ideal) ℓ) (g : Dev Cert.FfnGateIdeal.nD → PrngReg), Pre_FfnGateIdeal_finite6 m →
    θ_run (Cert.FfnGateIdeal.defs (F := Ideal)) (onTc (τ := Cert.FfnGateIdeal.τ) (Cert.FfnGateIdeal.main (F := Ideal))) ⟨m, fun _ => 0, g⟩ (fun r => (∀ c : Dev Cert.FfnGateIdeal.nD,
      r.2.mem ((c.tc : Thread Cert.FfnGateIdeal.nD Cert.FfnGateIdeal.τ).loc Cert.FfnGateIdeal.main_arg0) = m ((c.tc : Thread Cert.FfnGateIdeal.nD Cert.FfnGateIdeal.τ).loc Cert.FfnGateIdeal.main_arg0)
      ∧ r.2.mem ((c.tc : Thread Cert.FfnGateIdeal.nD Cert.FfnGateIdeal.τ).loc Cert.FfnGateIdeal.main_arg1) = m ((c.tc : Thread Cert.FfnGateIdeal.nD Cert.FfnGateIdeal.τ).loc Cert.FfnGateIdeal.main_arg1)
      ∧ r.2.mem ((c.tc : Thread Cert.FfnGateIdeal.nD Cert.FfnGateIdeal.τ).loc Cert.FfnGateIdeal.main_arg2) = m ((c.tc : Thread Cert.FfnGateIdeal.nD Cert.FfnGateIdeal.τ).loc Cert.FfnGateIdeal.main_arg2)
      ∧ r.2.mem ((c.tc : Thread Cert.FfnGateIdeal.nD Cert.FfnGateIdeal.τ).loc Cert.FfnGateIdeal.main_arg3) = m ((c.tc : Thread Cert.FfnGateIdeal.nD Cert.FfnGateIdeal.τ).loc Cert.FfnGateIdeal.main_arg3)
      ∧ r.2.mem ((c.tc : Thread Cert.FfnGateIdeal.nD Cert.FfnGateIdeal.τ).loc Cert.FfnGateIdeal.main_arg4) = m ((c.tc : Thread Cert.FfnGateIdeal.nD Cert.FfnGateIdeal.τ).loc Cert.FfnGateIdeal.main_arg4)
      ∧ r.2.mem ((c.tc : Thread Cert.FfnGateIdeal.nD Cert.FfnGateIdeal.τ).loc Cert.FfnGateIdeal.main_arg5) = m ((c.tc : Thread Cert.FfnGateIdeal.nD Cert.FfnGateIdeal.τ).loc Cert.FfnGateIdeal.main_arg5))
      ∧ r.2.sem = fun _ => 0)

def quiescent_FfnGateRefIdeal [hFfnGateRefIdeal : Cert.FfnGateRefIdeal.Facts] : Prop :=
  ∀ (m : (ℓ : Loc Cert.FfnGateRefIdeal.nD Cert.FfnGateRefIdeal.τ Cert.FfnGateRefIdeal.sig) → Buf (Elt Ideal) ℓ) (g : Dev Cert.FfnGateRefIdeal.nD → PrngReg), Pre_FfnGateRefIdeal m →
    θ_run (Cert.FfnGateRefIdeal.defs (F := Ideal)) (onTc (τ := Cert.FfnGateRefIdeal.τ) (Cert.FfnGateRefIdeal.main (F := Ideal))) ⟨m, fun _ => 0, g⟩ (fun r => (∀ c : Dev Cert.FfnGateRefIdeal.nD,
      r.2.mem ((c.tc : Thread Cert.FfnGateRefIdeal.nD Cert.FfnGateRefIdeal.τ).loc Cert.FfnGateRefIdeal.main_arg0) = m ((c.tc : Thread Cert.FfnGateRefIdeal.nD Cert.FfnGateRefIdeal.τ).loc Cert.FfnGateRefIdeal.main_arg0)
      ∧ r.2.mem ((c.tc : Thread Cert.FfnGateRefIdeal.nD Cert.FfnGateRefIdeal.τ).loc Cert.FfnGateRefIdeal.main_arg1) = m ((c.tc : Thread Cert.FfnGateRefIdeal.nD Cert.FfnGateRefIdeal.τ).loc Cert.FfnGateRefIdeal.main_arg1)
      ∧ r.2.mem ((c.tc : Thread Cert.FfnGateRefIdeal.nD Cert.FfnGateRefIdeal.τ).loc Cert.FfnGateRefIdeal.main_arg2) = m ((c.tc : Thread Cert.FfnGateRefIdeal.nD Cert.FfnGateRefIdeal.τ).loc Cert.FfnGateRefIdeal.main_arg2)
      ∧ r.2.mem ((c.tc : Thread Cert.FfnGateRefIdeal.nD Cert.FfnGateRefIdeal.τ).loc Cert.FfnGateRefIdeal.main_arg3) = m ((c.tc : Thread Cert.FfnGateRefIdeal.nD Cert.FfnGateRefIdeal.τ).loc Cert.FfnGateRefIdeal.main_arg3)
      ∧ r.2.mem ((c.tc : Thread Cert.FfnGateRefIdeal.nD Cert.FfnGateRefIdeal.τ).loc Cert.FfnGateRefIdeal.main_arg4) = m ((c.tc : Thread Cert.FfnGateRefIdeal.nD Cert.FfnGateRefIdeal.τ).loc Cert.FfnGateRefIdeal.main_arg4)
      ∧ r.2.mem ((c.tc : Thread Cert.FfnGateRefIdeal.nD Cert.FfnGateRefIdeal.τ).loc Cert.FfnGateRefIdeal.main_arg5) = m ((c.tc : Thread Cert.FfnGateRefIdeal.nD Cert.FfnGateRefIdeal.τ).loc Cert.FfnGateRefIdeal.main_arg5))
      ∧ r.2.sem = fun _ => 0)

def quiescent_FfnGateRefIdeal_pre_finite6 [hFfnGateRefIdeal : Cert.FfnGateRefIdeal.Facts] [hPre_finite6 : Cert.Pre_finite6.Facts] : Prop :=
  ∀ (m : (ℓ : Loc Cert.FfnGateRefIdeal.nD Cert.FfnGateRefIdeal.τ Cert.FfnGateRefIdeal.sig) → Buf (Elt Ideal) ℓ) (g : Dev Cert.FfnGateRefIdeal.nD → PrngReg), Pre_FfnGateRefIdeal_finite6 m →
    θ_run (Cert.FfnGateRefIdeal.defs (F := Ideal)) (onTc (τ := Cert.FfnGateRefIdeal.τ) (Cert.FfnGateRefIdeal.main (F := Ideal))) ⟨m, fun _ => 0, g⟩ (fun r => (∀ c : Dev Cert.FfnGateRefIdeal.nD,
      r.2.mem ((c.tc : Thread Cert.FfnGateRefIdeal.nD Cert.FfnGateRefIdeal.τ).loc Cert.FfnGateRefIdeal.main_arg0) = m ((c.tc : Thread Cert.FfnGateRefIdeal.nD Cert.FfnGateRefIdeal.τ).loc Cert.FfnGateRefIdeal.main_arg0)
      ∧ r.2.mem ((c.tc : Thread Cert.FfnGateRefIdeal.nD Cert.FfnGateRefIdeal.τ).loc Cert.FfnGateRefIdeal.main_arg1) = m ((c.tc : Thread Cert.FfnGateRefIdeal.nD Cert.FfnGateRefIdeal.τ).loc Cert.FfnGateRefIdeal.main_arg1)
      ∧ r.2.mem ((c.tc : Thread Cert.FfnGateRefIdeal.nD Cert.FfnGateRefIdeal.τ).loc Cert.FfnGateRefIdeal.main_arg2) = m ((c.tc : Thread Cert.FfnGateRefIdeal.nD Cert.FfnGateRefIdeal.τ).loc Cert.FfnGateRefIdeal.main_arg2)
      ∧ r.2.mem ((c.tc : Thread Cert.FfnGateRefIdeal.nD Cert.FfnGateRefIdeal.τ).loc Cert.FfnGateRefIdeal.main_arg3) = m ((c.tc : Thread Cert.FfnGateRefIdeal.nD Cert.FfnGateRefIdeal.τ).loc Cert.FfnGateRefIdeal.main_arg3)
      ∧ r.2.mem ((c.tc : Thread Cert.FfnGateRefIdeal.nD Cert.FfnGateRefIdeal.τ).loc Cert.FfnGateRefIdeal.main_arg4) = m ((c.tc : Thread Cert.FfnGateRefIdeal.nD Cert.FfnGateRefIdeal.τ).loc Cert.FfnGateRefIdeal.main_arg4)
      ∧ r.2.mem ((c.tc : Thread Cert.FfnGateRefIdeal.nD Cert.FfnGateRefIdeal.τ).loc Cert.FfnGateRefIdeal.main_arg5) = m ((c.tc : Thread Cert.FfnGateRefIdeal.nD Cert.FfnGateRefIdeal.τ).loc Cert.FfnGateRefIdeal.main_arg5))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1)
      ∧ r.2.mem ((c.tc : Thread Cert.GateFwd.nD Cert.GateFwd.τ).loc Cert.GateFwd.main_arg2) = m ((c.tc : Thread Cert.GateFwd.nD Cert.GateFwd.τ).loc Cert.GateFwd.main_arg2)
      ∧ r.2.mem ((c.tc : Thread Cert.GateFwd.nD Cert.GateFwd.τ).loc Cert.GateFwd.main_arg3) = m ((c.tc : Thread Cert.GateFwd.nD Cert.GateFwd.τ).loc Cert.GateFwd.main_arg3))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
      ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
      ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3))
      ∧ r.2.sem = fun _ => 0)

def quiescent_GateFwdRefIdeal [hGateFwdRefIdeal : Cert.GateFwdRefIdeal.Facts] : Prop :=
  ∀ (m : (ℓ : Loc Cert.GateFwdRefIdeal.nD Cert.GateFwdRefIdeal.τ Cert.GateFwdRefIdeal.sig) → Buf (Elt Ideal) ℓ) (g : Dev Cert.GateFwdRefIdeal.nD → PrngReg), Pre_GateFwdRefIdeal m →
    θ_run (Cert.GateFwdRefIdeal.defs (F := Ideal)) (onTc (τ := Cert.GateFwdRefIdeal.τ) (Cert.GateFwdRefIdeal.main (F := Ideal))) ⟨m, fun _ => 0, g⟩ (fun r => (∀ c : Dev Cert.GateFwdRefIdeal.nD,
      r.2.mem ((c.tc : Thread Cert.GateFwdRefIdeal.nD Cert.GateFwdRefIdeal.τ).loc Cert.GateFwdRefIdeal.main_arg0) = m ((c.tc : Thread Cert.GateFwdRefIdeal.nD Cert.GateFwdRefIdeal.τ).loc Cert.GateFwdRefIdeal.main_arg0)
      ∧ r.2.mem ((c.tc : Thread Cert.GateFwdRefIdeal.nD Cert.GateFwdRefIdeal.τ).loc Cert.GateFwdRefIdeal.main_arg1) = m ((c.tc : Thread Cert.GateFwdRefIdeal.nD Cert.GateFwdRefIdeal.τ).loc Cert.GateFwdRefIdeal.main_arg1)
      ∧ r.2.mem ((c.tc : Thread Cert.GateFwdRefIdeal.nD Cert.GateFwdRefIdeal.τ).loc Cert.GateFwdRefIdeal.main_arg2) = m ((c.tc : Thread Cert.GateFwdRefIdeal.nD Cert.GateFwdRefIdeal.τ).loc Cert.GateFwdRefIdeal.main_arg2)
      ∧ r.2.mem ((c.tc : Thread Cert.GateFwdRefIdeal.nD Cert.GateFwdRefIdeal.τ).loc Cert.GateFwdRefIdeal.main_arg3) = m ((c.tc : Thread Cert.GateFwdRefIdeal.nD Cert.GateFwdRefIdeal.τ).loc Cert.GateFwdRefIdeal.main_arg3))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1)
      ∧ r.2.mem ((c.tc : Thread Cert.UpFwd.nD Cert.UpFwd.τ).loc Cert.UpFwd.main_arg2) = m ((c.tc : Thread Cert.UpFwd.nD Cert.UpFwd.τ).loc Cert.UpFwd.main_arg2))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1)
      ∧ r.2.mem ((c.tc : Thread Cert.UpFwdIdeal.nD Cert.UpFwdIdeal.τ).loc Cert.UpFwdIdeal.main_arg2) = m ((c.tc : Thread Cert.UpFwdIdeal.nD Cert.UpFwdIdeal.τ).loc Cert.UpFwdIdeal.main_arg2))
      ∧ r.2.sem = fun _ => 0)

def quiescent_UpFwdIdeal_pre_finite8 [hUpFwdIdeal : Cert.UpFwdIdeal.Facts] [hPre_finite8 : Cert.Pre_finite8.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal_finite8 m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1)
      ∧ r.2.mem ((c.tc : Thread Cert.UpFwdIdeal.nD Cert.UpFwdIdeal.τ).loc Cert.UpFwdIdeal.main_arg2) = m ((c.tc : Thread Cert.UpFwdIdeal.nD Cert.UpFwdIdeal.τ).loc Cert.UpFwdIdeal.main_arg2))
      ∧ r.2.sem = fun _ => 0)

def quiescent_UpFwdRefIdeal [hUpFwdRefIdeal : Cert.UpFwdRefIdeal.Facts] : Prop :=
  ∀ (m : (ℓ : Loc Cert.UpFwdRefIdeal.nD Cert.UpFwdRefIdeal.τ Cert.UpFwdRefIdeal.sig) → Buf (Elt Ideal) ℓ) (g : Dev Cert.UpFwdRefIdeal.nD → PrngReg), Pre_UpFwdRefIdeal m →
    θ_run (Cert.UpFwdRefIdeal.defs (F := Ideal)) (onTc (τ := Cert.UpFwdRefIdeal.τ) (Cert.UpFwdRefIdeal.main (F := Ideal))) ⟨m, fun _ => 0, g⟩ (fun r => (∀ c : Dev Cert.UpFwdRefIdeal.nD,
      r.2.mem ((c.tc : Thread Cert.UpFwdRefIdeal.nD Cert.UpFwdRefIdeal.τ).loc Cert.UpFwdRefIdeal.main_arg0) = m ((c.tc : Thread Cert.UpFwdRefIdeal.nD Cert.UpFwdRefIdeal.τ).loc Cert.UpFwdRefIdeal.main_arg0)
      ∧ r.2.mem ((c.tc : Thread Cert.UpFwdRefIdeal.nD Cert.UpFwdRefIdeal.τ).loc Cert.UpFwdRefIdeal.main_arg1) = m ((c.tc : Thread Cert.UpFwdRefIdeal.nD Cert.UpFwdRefIdeal.τ).loc Cert.UpFwdRefIdeal.main_arg1)
      ∧ r.2.mem ((c.tc : Thread Cert.UpFwdRefIdeal.nD Cert.UpFwdRefIdeal.τ).loc Cert.UpFwdRefIdeal.main_arg2) = m ((c.tc : Thread Cert.UpFwdRefIdeal.nD Cert.UpFwdRefIdeal.τ).loc Cert.UpFwdRefIdeal.main_arg2))
      ∧ r.2.sem = fun _ => 0)

def quiescent_UpFwdRefIdeal_pre_finite8 [hUpFwdRefIdeal : Cert.UpFwdRefIdeal.Facts] [hPre_finite8 : Cert.Pre_finite8.Facts] : Prop :=
  ∀ (m : (ℓ : Loc Cert.UpFwdRefIdeal.nD Cert.UpFwdRefIdeal.τ Cert.UpFwdRefIdeal.sig) → Buf (Elt Ideal) ℓ) (g : Dev Cert.UpFwdRefIdeal.nD → PrngReg), Pre_UpFwdRefIdeal_finite8 m →
    θ_run (Cert.UpFwdRefIdeal.defs (F := Ideal)) (onTc (τ := Cert.UpFwdRefIdeal.τ) (Cert.UpFwdRefIdeal.main (F := Ideal))) ⟨m, fun _ => 0, g⟩ (fun r => (∀ c : Dev Cert.UpFwdRefIdeal.nD,
      r.2.mem ((c.tc : Thread Cert.UpFwdRefIdeal.nD Cert.UpFwdRefIdeal.τ).loc Cert.UpFwdRefIdeal.main_arg0) = m ((c.tc : Thread Cert.UpFwdRefIdeal.nD Cert.UpFwdRefIdeal.τ).loc Cert.UpFwdRefIdeal.main_arg0)
      ∧ r.2.mem ((c.tc : Thread Cert.UpFwdRefIdeal.nD Cert.UpFwdRefIdeal.τ).loc Cert.UpFwdRefIdeal.main_arg1) = m ((c.tc : Thread Cert.UpFwdRefIdeal.nD Cert.UpFwdRefIdeal.τ).loc Cert.UpFwdRefIdeal.main_arg1)
      ∧ r.2.mem ((c.tc : Thread Cert.UpFwdRefIdeal.nD Cert.UpFwdRefIdeal.τ).loc Cert.UpFwdRefIdeal.main_arg2) = m ((c.tc : Thread Cert.UpFwdRefIdeal.nD Cert.UpFwdRefIdeal.τ).loc Cert.UpFwdRefIdeal.main_arg2))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1)
      ∧ r.2.mem ((c.tc : Thread Cert.DownFwd.nD Cert.DownFwd.τ).loc Cert.DownFwd.main_arg2) = m ((c.tc : Thread Cert.DownFwd.nD Cert.DownFwd.τ).loc Cert.DownFwd.main_arg2)
      ∧ r.2.mem ((c.tc : Thread Cert.DownFwd.nD Cert.DownFwd.τ).loc Cert.DownFwd.main_arg3) = m ((c.tc : Thread Cert.DownFwd.nD Cert.DownFwd.τ).loc Cert.DownFwd.main_arg3))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
      ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2)
      ∧ r.2.mem ((c.tc : Thread Cert.DownFwdIdeal.nD Cert.DownFwdIdeal.τ).loc Cert.DownFwdIdeal.main_arg3) = m ((c.tc : Thread Cert.DownFwdIdeal.nD Cert.DownFwdIdeal.τ).loc Cert.DownFwdIdeal.main_arg3))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1)
      ∧ r.2.mem ((c.tc : Thread Cert.DownFwdRefIdeal.nD Cert.DownFwdRefIdeal.τ).loc Cert.DownFwdRefIdeal.main_arg2) = m ((c.tc : Thread Cert.DownFwdRefIdeal.nD Cert.DownFwdRefIdeal.τ).loc Cert.DownFwdRefIdeal.main_arg2)
      ∧ r.2.mem ((c.tc : Thread Cert.DownFwdRefIdeal.nD Cert.DownFwdRefIdeal.τ).loc Cert.DownFwdRefIdeal.main_arg3) = m ((c.tc : Thread Cert.DownFwdRefIdeal.nD Cert.DownFwdRefIdeal.τ).loc Cert.DownFwdRefIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2)
      ∧ r.2.mem ((c.tc : Thread Cert.LossHead.nD Cert.LossHead.τ).loc Cert.LossHead.main_arg3) = m ((c.tc : Thread Cert.LossHead.nD Cert.LossHead.τ).loc Cert.LossHead.main_arg3)
      ∧ r.2.mem ((c.tc : Thread Cert.LossHead.nD Cert.LossHead.τ).loc Cert.LossHead.main_arg4) = m ((c.tc : Thread Cert.LossHead.nD Cert.LossHead.τ).loc Cert.LossHead.main_arg4))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
      ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4))
      ∧ r.2.sem = fun _ => 0)

def quiescent_LossHeadIdeal_pre_finite10 [hLossHeadIdeal : Cert.LossHeadIdeal.Facts] [hPre_finite10 : Cert.Pre_finite10.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_finite10 m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
      ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3)
      ∧ r.2.mem ((c.tc : Thread Cert.LossHeadRefIdeal.nD Cert.LossHeadRefIdeal.τ).loc Cert.LossHeadRefIdeal.main_arg4) = m ((c.tc : Thread Cert.LossHeadRefIdeal.nD Cert.LossHeadRefIdeal.τ).loc Cert.LossHeadRefIdeal.main_arg4))
      ∧ r.2.sem = fun _ => 0)

def quiescent_LossHeadRefIdeal_pre_finite10 [hLossHeadRefIdeal : Cert.LossHeadRefIdeal.Facts] [hPre_finite10 : Cert.Pre_finite10.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal_finite10 m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3)
      ∧ r.2.mem ((c.tc : Thread Cert.LossHeadRefIdeal.nD Cert.LossHeadRefIdeal.τ).loc Cert.LossHeadRefIdeal.main_arg4) = m ((c.tc : Thread Cert.LossHeadRefIdeal.nD Cert.LossHeadRefIdeal.τ).loc Cert.LossHeadRefIdeal.main_arg4))
      ∧ r.2.sem = fun _ => 0)

def quiescent_OddFwd [hOddFwd : Cert.OddFwd.Facts] : Prop :=
  ∀ (m : (ℓ : Loc Cert.OddFwd.nD Cert.OddFwd.τ Cert.OddFwd.sig) → Buf (Elt Bits) ℓ) (g : Dev Cert.OddFwd.nD → PrngReg), Pre_OddFwd m →
    θ_run (Cert.OddFwd.defs (F := Bits)) (onTc (τ := Cert.OddFwd.τ) (Cert.OddFwd.main (F := Bits))) ⟨m, fun _ => 0, g⟩ (fun r => (∀ c : Dev Cert.OddFwd.nD,
      r.2.mem ((c.tc : Thread Cert.OddFwd.nD Cert.OddFwd.τ).loc Cert.OddFwd.main_arg0) = m ((c.tc : Thread Cert.OddFwd.nD Cert.OddFwd.τ).loc Cert.OddFwd.main_arg0)
      ∧ r.2.mem ((c.tc : Thread Cert.OddFwd.nD Cert.OddFwd.τ).loc Cert.OddFwd.main_arg1) = m ((c.tc : Thread Cert.OddFwd.nD Cert.OddFwd.τ).loc Cert.OddFwd.main_arg1)
      ∧ r.2.mem ((c.tc : Thread Cert.OddFwd.nD Cert.OddFwd.τ).loc Cert.OddFwd.main_arg2) = m ((c.tc : Thread Cert.OddFwd.nD Cert.OddFwd.τ).loc Cert.OddFwd.main_arg2)
      ∧ r.2.mem ((c.tc : Thread Cert.OddFwd.nD Cert.OddFwd.τ).loc Cert.OddFwd.main_arg3) = m ((c.tc : Thread Cert.OddFwd.nD Cert.OddFwd.τ).loc Cert.OddFwd.main_arg3)
      ∧ r.2.mem ((c.tc : Thread Cert.OddFwd.nD Cert.OddFwd.τ).loc Cert.OddFwd.main_arg4) = m ((c.tc : Thread Cert.OddFwd.nD Cert.OddFwd.τ).loc Cert.OddFwd.main_arg4)
      ∧ r.2.mem ((c.tc : Thread Cert.OddFwd.nD Cert.OddFwd.τ).loc Cert.OddFwd.main_arg5) = m ((c.tc : Thread Cert.OddFwd.nD Cert.OddFwd.τ).loc Cert.OddFwd.main_arg5)
      ∧ r.2.mem ((c.tc : Thread Cert.OddFwd.nD Cert.OddFwd.τ).loc Cert.OddFwd.main_arg6) = m ((c.tc : Thread Cert.OddFwd.nD Cert.OddFwd.τ).loc Cert.OddFwd.main_arg6)
      ∧ r.2.mem ((c.tc : Thread Cert.OddFwd.nD Cert.OddFwd.τ).loc Cert.OddFwd.main_arg7) = m ((c.tc : Thread Cert.OddFwd.nD Cert.OddFwd.τ).loc Cert.OddFwd.main_arg7))
      ∧ r.2.sem = fun _ => 0)

def quiescent_OddFwdIdeal [hOddFwdIdeal : Cert.OddFwdIdeal.Facts] : Prop :=
  ∀ (m : (ℓ : Loc Cert.OddFwdIdeal.nD Cert.OddFwdIdeal.τ Cert.OddFwdIdeal.sig) → Buf (Elt Ideal) ℓ) (g : Dev Cert.OddFwdIdeal.nD → PrngReg), Pre_OddFwdIdeal m →
    θ_run (Cert.OddFwdIdeal.defs (F := Ideal)) (onTc (τ := Cert.OddFwdIdeal.τ) (Cert.OddFwdIdeal.main (F := Ideal))) ⟨m, fun _ => 0, g⟩ (fun r => (∀ c : Dev Cert.OddFwdIdeal.nD,
      r.2.mem ((c.tc : Thread Cert.OddFwdIdeal.nD Cert.OddFwdIdeal.τ).loc Cert.OddFwdIdeal.main_arg0) = m ((c.tc : Thread Cert.OddFwdIdeal.nD Cert.OddFwdIdeal.τ).loc Cert.OddFwdIdeal.main_arg0)
      ∧ r.2.mem ((c.tc : Thread Cert.OddFwdIdeal.nD Cert.OddFwdIdeal.τ).loc Cert.OddFwdIdeal.main_arg1) = m ((c.tc : Thread Cert.OddFwdIdeal.nD Cert.OddFwdIdeal.τ).loc Cert.OddFwdIdeal.main_arg1)
      ∧ r.2.mem ((c.tc : Thread Cert.OddFwdIdeal.nD Cert.OddFwdIdeal.τ).loc Cert.OddFwdIdeal.main_arg2) = m ((c.tc : Thread Cert.OddFwdIdeal.nD Cert.OddFwdIdeal.τ).loc Cert.OddFwdIdeal.main_arg2)
      ∧ r.2.mem ((c.tc : Thread Cert.OddFwdIdeal.nD Cert.OddFwdIdeal.τ).loc Cert.OddFwdIdeal.main_arg3) = m ((c.tc : Thread Cert.OddFwdIdeal.nD Cert.OddFwdIdeal.τ).loc Cert.OddFwdIdeal.main_arg3)
      ∧ r.2.mem ((c.tc : Thread Cert.OddFwdIdeal.nD Cert.OddFwdIdeal.τ).loc Cert.OddFwdIdeal.main_arg4) = m ((c.tc : Thread Cert.OddFwdIdeal.nD Cert.OddFwdIdeal.τ).loc Cert.OddFwdIdeal.main_arg4)
      ∧ r.2.mem ((c.tc : Thread Cert.OddFwdIdeal.nD Cert.OddFwdIdeal.τ).loc Cert.OddFwdIdeal.main_arg5) = m ((c.tc : Thread Cert.OddFwdIdeal.nD Cert.OddFwdIdeal.τ).loc Cert.OddFwdIdeal.main_arg5)
      ∧ r.2.mem ((c.tc : Thread Cert.OddFwdIdeal.nD Cert.OddFwdIdeal.τ).loc Cert.OddFwdIdeal.main_arg6) = m ((c.tc : Thread Cert.OddFwdIdeal.nD Cert.OddFwdIdeal.τ).loc Cert.OddFwdIdeal.main_arg6)
      ∧ r.2.mem ((c.tc : Thread Cert.OddFwdIdeal.nD Cert.OddFwdIdeal.τ).loc Cert.OddFwdIdeal.main_arg7) = m ((c.tc : Thread Cert.OddFwdIdeal.nD Cert.OddFwdIdeal.τ).loc Cert.OddFwdIdeal.main_arg7))
      ∧ r.2.sem = fun _ => 0)

def quiescent_OddFwdRefIdeal [hOddFwdRefIdeal : Cert.OddFwdRefIdeal.Facts] : Prop :=
  ∀ (m : (ℓ : Loc Cert.OddFwdRefIdeal.nD Cert.OddFwdRefIdeal.τ Cert.OddFwdRefIdeal.sig) → Buf (Elt Ideal) ℓ) (g : Dev Cert.OddFwdRefIdeal.nD → PrngReg), Pre_OddFwdRefIdeal m →
    θ_run (Cert.OddFwdRefIdeal.defs (F := Ideal)) (onTc (τ := Cert.OddFwdRefIdeal.τ) (Cert.OddFwdRefIdeal.main (F := Ideal))) ⟨m, fun _ => 0, g⟩ (fun r => (∀ c : Dev Cert.OddFwdRefIdeal.nD,
      r.2.mem ((c.tc : Thread Cert.OddFwdRefIdeal.nD Cert.OddFwdRefIdeal.τ).loc Cert.OddFwdRefIdeal.main_arg0) = m ((c.tc : Thread Cert.OddFwdRefIdeal.nD Cert.OddFwdRefIdeal.τ).loc Cert.OddFwdRefIdeal.main_arg0)
      ∧ r.2.mem ((c.tc : Thread Cert.OddFwdRefIdeal.nD Cert.OddFwdRefIdeal.τ).loc Cert.OddFwdRefIdeal.main_arg1) = m ((c.tc : Thread Cert.OddFwdRefIdeal.nD Cert.OddFwdRefIdeal.τ).loc Cert.OddFwdRefIdeal.main_arg1)
      ∧ r.2.mem ((c.tc : Thread Cert.OddFwdRefIdeal.nD Cert.OddFwdRefIdeal.τ).loc Cert.OddFwdRefIdeal.main_arg2) = m ((c.tc : Thread Cert.OddFwdRefIdeal.nD Cert.OddFwdRefIdeal.τ).loc Cert.OddFwdRefIdeal.main_arg2)
      ∧ r.2.mem ((c.tc : Thread Cert.OddFwdRefIdeal.nD Cert.OddFwdRefIdeal.τ).loc Cert.OddFwdRefIdeal.main_arg3) = m ((c.tc : Thread Cert.OddFwdRefIdeal.nD Cert.OddFwdRefIdeal.τ).loc Cert.OddFwdRefIdeal.main_arg3)
      ∧ r.2.mem ((c.tc : Thread Cert.OddFwdRefIdeal.nD Cert.OddFwdRefIdeal.τ).loc Cert.OddFwdRefIdeal.main_arg4) = m ((c.tc : Thread Cert.OddFwdRefIdeal.nD Cert.OddFwdRefIdeal.τ).loc Cert.OddFwdRefIdeal.main_arg4)
      ∧ r.2.mem ((c.tc : Thread Cert.OddFwdRefIdeal.nD Cert.OddFwdRefIdeal.τ).loc Cert.OddFwdRefIdeal.main_arg5) = m ((c.tc : Thread Cert.OddFwdRefIdeal.nD Cert.OddFwdRefIdeal.τ).loc Cert.OddFwdRefIdeal.main_arg5)
      ∧ r.2.mem ((c.tc : Thread Cert.OddFwdRefIdeal.nD Cert.OddFwdRefIdeal.τ).loc Cert.OddFwdRefIdeal.main_arg6) = m ((c.tc : Thread Cert.OddFwdRefIdeal.nD Cert.OddFwdRefIdeal.τ).loc Cert.OddFwdRefIdeal.main_arg6)
      ∧ r.2.mem ((c.tc : Thread Cert.OddFwdRefIdeal.nD Cert.OddFwdRefIdeal.τ).loc Cert.OddFwdRefIdeal.main_arg7) = m ((c.tc : Thread Cert.OddFwdRefIdeal.nD Cert.OddFwdRefIdeal.τ).loc Cert.OddFwdRefIdeal.main_arg7))
      ∧ r.2.sem = fun _ => 0)

def quiescent_EvenFwd [hEvenFwd : Cert.EvenFwd.Facts] : Prop :=
  ∀ (m : (ℓ : Loc Cert.EvenFwd.nD Cert.EvenFwd.τ Cert.EvenFwd.sig) → Buf (Elt Bits) ℓ) (g : Dev Cert.EvenFwd.nD → PrngReg), Pre_EvenFwd m →
    θ_run (Cert.EvenFwd.defs (F := Bits)) (onTc (τ := Cert.EvenFwd.τ) (Cert.EvenFwd.main (F := Bits))) ⟨m, fun _ => 0, g⟩ (fun r => (∀ c : Dev Cert.EvenFwd.nD,
      r.2.mem ((c.tc : Thread Cert.EvenFwd.nD Cert.EvenFwd.τ).loc Cert.EvenFwd.main_arg0) = m ((c.tc : Thread Cert.EvenFwd.nD Cert.EvenFwd.τ).loc Cert.EvenFwd.main_arg0)
      ∧ r.2.mem ((c.tc : Thread Cert.EvenFwd.nD Cert.EvenFwd.τ).loc Cert.EvenFwd.main_arg1) = m ((c.tc : Thread Cert.EvenFwd.nD Cert.EvenFwd.τ).loc Cert.EvenFwd.main_arg1)
      ∧ r.2.mem ((c.tc : Thread Cert.EvenFwd.nD Cert.EvenFwd.τ).loc Cert.EvenFwd.main_arg2) = m ((c.tc : Thread Cert.EvenFwd.nD Cert.EvenFwd.τ).loc Cert.EvenFwd.main_arg2)
      ∧ r.2.mem ((c.tc : Thread Cert.EvenFwd.nD Cert.EvenFwd.τ).loc Cert.EvenFwd.main_arg3) = m ((c.tc : Thread Cert.EvenFwd.nD Cert.EvenFwd.τ).loc Cert.EvenFwd.main_arg3)
      ∧ r.2.mem ((c.tc : Thread Cert.EvenFwd.nD Cert.EvenFwd.τ).loc Cert.EvenFwd.main_arg4) = m ((c.tc : Thread Cert.EvenFwd.nD Cert.EvenFwd.τ).loc Cert.EvenFwd.main_arg4)
      ∧ r.2.mem ((c.tc : Thread Cert.EvenFwd.nD Cert.EvenFwd.τ).loc Cert.EvenFwd.main_arg5) = m ((c.tc : Thread Cert.EvenFwd.nD Cert.EvenFwd.τ).loc Cert.EvenFwd.main_arg5)
      ∧ r.2.mem ((c.tc : Thread Cert.EvenFwd.nD Cert.EvenFwd.τ).loc Cert.EvenFwd.main_arg6) = m ((c.tc : Thread Cert.EvenFwd.nD Cert.EvenFwd.τ).loc Cert.EvenFwd.main_arg6)
      ∧ r.2.mem ((c.tc : Thread Cert.EvenFwd.nD Cert.EvenFwd.τ).loc Cert.EvenFwd.main_arg7) = m ((c.tc : Thread Cert.EvenFwd.nD Cert.EvenFwd.τ).loc Cert.EvenFwd.main_arg7))
      ∧ r.2.sem = fun _ => 0)

def quiescent_EvenFwdIdeal [hEvenFwdIdeal : Cert.EvenFwdIdeal.Facts] : Prop :=
  ∀ (m : (ℓ : Loc Cert.EvenFwdIdeal.nD Cert.EvenFwdIdeal.τ Cert.EvenFwdIdeal.sig) → Buf (Elt Ideal) ℓ) (g : Dev Cert.EvenFwdIdeal.nD → PrngReg), Pre_EvenFwdIdeal m →
    θ_run (Cert.EvenFwdIdeal.defs (F := Ideal)) (onTc (τ := Cert.EvenFwdIdeal.τ) (Cert.EvenFwdIdeal.main (F := Ideal))) ⟨m, fun _ => 0, g⟩ (fun r => (∀ c : Dev Cert.EvenFwdIdeal.nD,
      r.2.mem ((c.tc : Thread Cert.EvenFwdIdeal.nD Cert.EvenFwdIdeal.τ).loc Cert.EvenFwdIdeal.main_arg0) = m ((c.tc : Thread Cert.EvenFwdIdeal.nD Cert.EvenFwdIdeal.τ).loc Cert.EvenFwdIdeal.main_arg0)
      ∧ r.2.mem ((c.tc : Thread Cert.EvenFwdIdeal.nD Cert.EvenFwdIdeal.τ).loc Cert.EvenFwdIdeal.main_arg1) = m ((c.tc : Thread Cert.EvenFwdIdeal.nD Cert.EvenFwdIdeal.τ).loc Cert.EvenFwdIdeal.main_arg1)
      ∧ r.2.mem ((c.tc : Thread Cert.EvenFwdIdeal.nD Cert.EvenFwdIdeal.τ).loc Cert.EvenFwdIdeal.main_arg2) = m ((c.tc : Thread Cert.EvenFwdIdeal.nD Cert.EvenFwdIdeal.τ).loc Cert.EvenFwdIdeal.main_arg2)
      ∧ r.2.mem ((c.tc : Thread Cert.EvenFwdIdeal.nD Cert.EvenFwdIdeal.τ).loc Cert.EvenFwdIdeal.main_arg3) = m ((c.tc : Thread Cert.EvenFwdIdeal.nD Cert.EvenFwdIdeal.τ).loc Cert.EvenFwdIdeal.main_arg3)
      ∧ r.2.mem ((c.tc : Thread Cert.EvenFwdIdeal.nD Cert.EvenFwdIdeal.τ).loc Cert.EvenFwdIdeal.main_arg4) = m ((c.tc : Thread Cert.EvenFwdIdeal.nD Cert.EvenFwdIdeal.τ).loc Cert.EvenFwdIdeal.main_arg4)
      ∧ r.2.mem ((c.tc : Thread Cert.EvenFwdIdeal.nD Cert.EvenFwdIdeal.τ).loc Cert.EvenFwdIdeal.main_arg5) = m ((c.tc : Thread Cert.EvenFwdIdeal.nD Cert.EvenFwdIdeal.τ).loc Cert.EvenFwdIdeal.main_arg5)
      ∧ r.2.mem ((c.tc : Thread Cert.EvenFwdIdeal.nD Cert.EvenFwdIdeal.τ).loc Cert.EvenFwdIdeal.main_arg6) = m ((c.tc : Thread Cert.EvenFwdIdeal.nD Cert.EvenFwdIdeal.τ).loc Cert.EvenFwdIdeal.main_arg6)
      ∧ r.2.mem ((c.tc : Thread Cert.EvenFwdIdeal.nD Cert.EvenFwdIdeal.τ).loc Cert.EvenFwdIdeal.main_arg7) = m ((c.tc : Thread Cert.EvenFwdIdeal.nD Cert.EvenFwdIdeal.τ).loc Cert.EvenFwdIdeal.main_arg7))
      ∧ r.2.sem = fun _ => 0)

def quiescent_EvenFwdIdeal_pre_finite12 [hEvenFwdIdeal : Cert.EvenFwdIdeal.Facts] [hPre_finite12 : Cert.Pre_finite12.Facts] : Prop :=
  ∀ (m : (ℓ : Loc Cert.EvenFwdIdeal.nD Cert.EvenFwdIdeal.τ Cert.EvenFwdIdeal.sig) → Buf (Elt Ideal) ℓ) (g : Dev Cert.EvenFwdIdeal.nD → PrngReg), Pre_EvenFwdIdeal_finite12 m →
    θ_run (Cert.EvenFwdIdeal.defs (F := Ideal)) (onTc (τ := Cert.EvenFwdIdeal.τ) (Cert.EvenFwdIdeal.main (F := Ideal))) ⟨m, fun _ => 0, g⟩ (fun r => (∀ c : Dev Cert.EvenFwdIdeal.nD,
      r.2.mem ((c.tc : Thread Cert.EvenFwdIdeal.nD Cert.EvenFwdIdeal.τ).loc Cert.EvenFwdIdeal.main_arg0) = m ((c.tc : Thread Cert.EvenFwdIdeal.nD Cert.EvenFwdIdeal.τ).loc Cert.EvenFwdIdeal.main_arg0)
      ∧ r.2.mem ((c.tc : Thread Cert.EvenFwdIdeal.nD Cert.EvenFwdIdeal.τ).loc Cert.EvenFwdIdeal.main_arg1) = m ((c.tc : Thread Cert.EvenFwdIdeal.nD Cert.EvenFwdIdeal.τ).loc Cert.EvenFwdIdeal.main_arg1)
      ∧ r.2.mem ((c.tc : Thread Cert.EvenFwdIdeal.nD Cert.EvenFwdIdeal.τ).loc Cert.EvenFwdIdeal.main_arg2) = m ((c.tc : Thread Cert.EvenFwdIdeal.nD Cert.EvenFwdIdeal.τ).loc Cert.EvenFwdIdeal.main_arg2)
      ∧ r.2.mem ((c.tc : Thread Cert.EvenFwdIdeal.nD Cert.EvenFwdIdeal.τ).loc Cert.EvenFwdIdeal.main_arg3) = m ((c.tc : Thread Cert.EvenFwdIdeal.nD Cert.EvenFwdIdeal.τ).loc Cert.EvenFwdIdeal.main_arg3)
      ∧ r.2.mem ((c.tc : Thread Cert.EvenFwdIdeal.nD Cert.EvenFwdIdeal.τ).loc Cert.EvenFwdIdeal.main_arg4) = m ((c.tc : Thread Cert.EvenFwdIdeal.nD Cert.EvenFwdIdeal.τ).loc Cert.EvenFwdIdeal.main_arg4)
      ∧ r.2.mem ((c.tc : Thread Cert.EvenFwdIdeal.nD Cert.EvenFwdIdeal.τ).loc Cert.EvenFwdIdeal.main_arg5) = m ((c.tc : Thread Cert.EvenFwdIdeal.nD Cert.EvenFwdIdeal.τ).loc Cert.EvenFwdIdeal.main_arg5)
      ∧ r.2.mem ((c.tc : Thread Cert.EvenFwdIdeal.nD Cert.EvenFwdIdeal.τ).loc Cert.EvenFwdIdeal.main_arg6) = m ((c.tc : Thread Cert.EvenFwdIdeal.nD Cert.EvenFwdIdeal.τ).loc Cert.EvenFwdIdeal.main_arg6)
      ∧ r.2.mem ((c.tc : Thread Cert.EvenFwdIdeal.nD Cert.EvenFwdIdeal.τ).loc Cert.EvenFwdIdeal.main_arg7) = m ((c.tc : Thread Cert.EvenFwdIdeal.nD Cert.EvenFwdIdeal.τ).loc Cert.EvenFwdIdeal.main_arg7))
      ∧ r.2.sem = fun _ => 0)

def quiescent_EvenFwdRefIdeal [hEvenFwdRefIdeal : Cert.EvenFwdRefIdeal.Facts] : Prop :=
  ∀ (m : (ℓ : Loc Cert.EvenFwdRefIdeal.nD Cert.EvenFwdRefIdeal.τ Cert.EvenFwdRefIdeal.sig) → Buf (Elt Ideal) ℓ) (g : Dev Cert.EvenFwdRefIdeal.nD → PrngReg), Pre_EvenFwdRefIdeal m →
    θ_run (Cert.EvenFwdRefIdeal.defs (F := Ideal)) (onTc (τ := Cert.EvenFwdRefIdeal.τ) (Cert.EvenFwdRefIdeal.main (F := Ideal))) ⟨m, fun _ => 0, g⟩ (fun r => (∀ c : Dev Cert.EvenFwdRefIdeal.nD,
      r.2.mem ((c.tc : Thread Cert.EvenFwdRefIdeal.nD Cert.EvenFwdRefIdeal.τ).loc Cert.EvenFwdRefIdeal.main_arg0) = m ((c.tc : Thread Cert.EvenFwdRefIdeal.nD Cert.EvenFwdRefIdeal.τ).loc Cert.EvenFwdRefIdeal.main_arg0)
      ∧ r.2.mem ((c.tc : Thread Cert.EvenFwdRefIdeal.nD Cert.EvenFwdRefIdeal.τ).loc Cert.EvenFwdRefIdeal.main_arg1) = m ((c.tc : Thread Cert.EvenFwdRefIdeal.nD Cert.EvenFwdRefIdeal.τ).loc Cert.EvenFwdRefIdeal.main_arg1)
      ∧ r.2.mem ((c.tc : Thread Cert.EvenFwdRefIdeal.nD Cert.EvenFwdRefIdeal.τ).loc Cert.EvenFwdRefIdeal.main_arg2) = m ((c.tc : Thread Cert.EvenFwdRefIdeal.nD Cert.EvenFwdRefIdeal.τ).loc Cert.EvenFwdRefIdeal.main_arg2)
      ∧ r.2.mem ((c.tc : Thread Cert.EvenFwdRefIdeal.nD Cert.EvenFwdRefIdeal.τ).loc Cert.EvenFwdRefIdeal.main_arg3) = m ((c.tc : Thread Cert.EvenFwdRefIdeal.nD Cert.EvenFwdRefIdeal.τ).loc Cert.EvenFwdRefIdeal.main_arg3)
      ∧ r.2.mem ((c.tc : Thread Cert.EvenFwdRefIdeal.nD Cert.EvenFwdRefIdeal.τ).loc Cert.EvenFwdRefIdeal.main_arg4) = m ((c.tc : Thread Cert.EvenFwdRefIdeal.nD Cert.EvenFwdRefIdeal.τ).loc Cert.EvenFwdRefIdeal.main_arg4)
      ∧ r.2.mem ((c.tc : Thread Cert.EvenFwdRefIdeal.nD Cert.EvenFwdRefIdeal.τ).loc Cert.EvenFwdRefIdeal.main_arg5) = m ((c.tc : Thread Cert.EvenFwdRefIdeal.nD Cert.EvenFwdRefIdeal.τ).loc Cert.EvenFwdRefIdeal.main_arg5)
      ∧ r.2.mem ((c.tc : Thread Cert.EvenFwdRefIdeal.nD Cert.EvenFwdRefIdeal.τ).loc Cert.EvenFwdRefIdeal.main_arg6) = m ((c.tc : Thread Cert.EvenFwdRefIdeal.nD Cert.EvenFwdRefIdeal.τ).loc Cert.EvenFwdRefIdeal.main_arg6)
      ∧ r.2.mem ((c.tc : Thread Cert.EvenFwdRefIdeal.nD Cert.EvenFwdRefIdeal.τ).loc Cert.EvenFwdRefIdeal.main_arg7) = m ((c.tc : Thread Cert.EvenFwdRefIdeal.nD Cert.EvenFwdRefIdeal.τ).loc Cert.EvenFwdRefIdeal.main_arg7))
      ∧ r.2.sem = fun _ => 0)

def quiescent_EvenFwdRefIdeal_pre_finite12 [hEvenFwdRefIdeal : Cert.EvenFwdRefIdeal.Facts] [hPre_finite12 : Cert.Pre_finite12.Facts] : Prop :=
  ∀ (m : (ℓ : Loc Cert.EvenFwdRefIdeal.nD Cert.EvenFwdRefIdeal.τ Cert.EvenFwdRefIdeal.sig) → Buf (Elt Ideal) ℓ) (g : Dev Cert.EvenFwdRefIdeal.nD → PrngReg), Pre_EvenFwdRefIdeal_finite12 m →
    θ_run (Cert.EvenFwdRefIdeal.defs (F := Ideal)) (onTc (τ := Cert.EvenFwdRefIdeal.τ) (Cert.EvenFwdRefIdeal.main (F := Ideal))) ⟨m, fun _ => 0, g⟩ (fun r => (∀ c : Dev Cert.EvenFwdRefIdeal.nD,
      r.2.mem ((c.tc : Thread Cert.EvenFwdRefIdeal.nD Cert.EvenFwdRefIdeal.τ).loc Cert.EvenFwdRefIdeal.main_arg0) = m ((c.tc : Thread Cert.EvenFwdRefIdeal.nD Cert.EvenFwdRefIdeal.τ).loc Cert.EvenFwdRefIdeal.main_arg0)
      ∧ r.2.mem ((c.tc : Thread Cert.EvenFwdRefIdeal.nD Cert.EvenFwdRefIdeal.τ).loc Cert.EvenFwdRefIdeal.main_arg1) = m ((c.tc : Thread Cert.EvenFwdRefIdeal.nD Cert.EvenFwdRefIdeal.τ).loc Cert.EvenFwdRefIdeal.main_arg1)
      ∧ r.2.mem ((c.tc : Thread Cert.EvenFwdRefIdeal.nD Cert.EvenFwdRefIdeal.τ).loc Cert.EvenFwdRefIdeal.main_arg2) = m ((c.tc : Thread Cert.EvenFwdRefIdeal.nD Cert.EvenFwdRefIdeal.τ).loc Cert.EvenFwdRefIdeal.main_arg2)
      ∧ r.2.mem ((c.tc : Thread Cert.EvenFwdRefIdeal.nD Cert.EvenFwdRefIdeal.τ).loc Cert.EvenFwdRefIdeal.main_arg3) = m ((c.tc : Thread Cert.EvenFwdRefIdeal.nD Cert.EvenFwdRefIdeal.τ).loc Cert.EvenFwdRefIdeal.main_arg3)
      ∧ r.2.mem ((c.tc : Thread Cert.EvenFwdRefIdeal.nD Cert.EvenFwdRefIdeal.τ).loc Cert.EvenFwdRefIdeal.main_arg4) = m ((c.tc : Thread Cert.EvenFwdRefIdeal.nD Cert.EvenFwdRefIdeal.τ).loc Cert.EvenFwdRefIdeal.main_arg4)
      ∧ r.2.mem ((c.tc : Thread Cert.EvenFwdRefIdeal.nD Cert.EvenFwdRefIdeal.τ).loc Cert.EvenFwdRefIdeal.main_arg5) = m ((c.tc : Thread Cert.EvenFwdRefIdeal.nD Cert.EvenFwdRefIdeal.τ).loc Cert.EvenFwdRefIdeal.main_arg5)
      ∧ r.2.mem ((c.tc : Thread Cert.EvenFwdRefIdeal.nD Cert.EvenFwdRefIdeal.τ).loc Cert.EvenFwdRefIdeal.main_arg6) = m ((c.tc : Thread Cert.EvenFwdRefIdeal.nD Cert.EvenFwdRefIdeal.τ).loc Cert.EvenFwdRefIdeal.main_arg6)
      ∧ r.2.mem ((c.tc : Thread Cert.EvenFwdRefIdeal.nD Cert.EvenFwdRefIdeal.τ).loc Cert.EvenFwdRefIdeal.main_arg7) = m ((c.tc : Thread Cert.EvenFwdRefIdeal.nD Cert.EvenFwdRefIdeal.τ).loc Cert.EvenFwdRefIdeal.main_arg7))
      ∧ r.2.sem = fun _ => 0)

def quiescent_OddBack [hOddBack : Cert.OddBack.Facts] : Prop :=
  ∀ (m : (ℓ : Loc Cert.OddBack.nD Cert.OddBack.τ Cert.OddBack.sig) → Buf (Elt Bits) ℓ) (g : Dev Cert.OddBack.nD → PrngReg), Pre_OddBack m →
    θ_run (Cert.OddBack.defs (F := Bits)) (onTc (τ := Cert.OddBack.τ) (Cert.OddBack.main (F := Bits))) ⟨m, fun _ => 0, g⟩ (fun r => (∀ c : Dev Cert.OddBack.nD,
      r.2.mem ((c.tc : Thread Cert.OddBack.nD Cert.OddBack.τ).loc Cert.OddBack.main_arg0) = m ((c.tc : Thread Cert.OddBack.nD Cert.OddBack.τ).loc Cert.OddBack.main_arg0)
      ∧ r.2.mem ((c.tc : Thread Cert.OddBack.nD Cert.OddBack.τ).loc Cert.OddBack.main_arg1) = m ((c.tc : Thread Cert.OddBack.nD Cert.OddBack.τ).loc Cert.OddBack.main_arg1)
      ∧ r.2.mem ((c.tc : Thread Cert.OddBack.nD Cert.OddBack.τ).loc Cert.OddBack.main_arg2) = m ((c.tc : Thread Cert.OddBack.nD Cert.OddBack.τ).loc Cert.OddBack.main_arg2)
      ∧ r.2.mem ((c.tc : Thread Cert.OddBack.nD Cert.OddBack.τ).loc Cert.OddBack.main_arg3) = m ((c.tc : Thread Cert.OddBack.nD Cert.OddBack.τ).loc Cert.OddBack.main_arg3)
      ∧ r.2.mem ((c.tc : Thread Cert.OddBack.nD Cert.OddBack.τ).loc Cert.OddBack.main_arg4) = m ((c.tc : Thread Cert.OddBack.nD Cert.OddBack.τ).loc Cert.OddBack.main_arg4)
      ∧ r.2.mem ((c.tc : Thread Cert.OddBack.nD Cert.OddBack.τ).loc Cert.OddBack.main_arg5) = m ((c.tc : Thread Cert.OddBack.nD Cert.OddBack.τ).loc Cert.OddBack.main_arg5)
      ∧ r.2.mem ((c.tc : Thread Cert.OddBack.nD Cert.OddBack.τ).loc Cert.OddBack.main_arg6) = m ((c.tc : Thread Cert.OddBack.nD Cert.OddBack.τ).loc Cert.OddBack.main_arg6)
      ∧ r.2.mem ((c.tc : Thread Cert.OddBack.nD Cert.OddBack.τ).loc Cert.OddBack.main_arg7) = m ((c.tc : Thread Cert.OddBack.nD Cert.OddBack.τ).loc Cert.OddBack.main_arg7))
      ∧ r.2.sem = fun _ => 0)

def quiescent_OddBackIdeal [hOddBackIdeal : Cert.OddBackIdeal.Facts] : Prop :=
  ∀ (m : (ℓ : Loc Cert.OddBackIdeal.nD Cert.OddBackIdeal.τ Cert.OddBackIdeal.sig) → Buf (Elt Ideal) ℓ) (g : Dev Cert.OddBackIdeal.nD → PrngReg), Pre_OddBackIdeal m →
    θ_run (Cert.OddBackIdeal.defs (F := Ideal)) (onTc (τ := Cert.OddBackIdeal.τ) (Cert.OddBackIdeal.main (F := Ideal))) ⟨m, fun _ => 0, g⟩ (fun r => (∀ c : Dev Cert.OddBackIdeal.nD,
      r.2.mem ((c.tc : Thread Cert.OddBackIdeal.nD Cert.OddBackIdeal.τ).loc Cert.OddBackIdeal.main_arg0) = m ((c.tc : Thread Cert.OddBackIdeal.nD Cert.OddBackIdeal.τ).loc Cert.OddBackIdeal.main_arg0)
      ∧ r.2.mem ((c.tc : Thread Cert.OddBackIdeal.nD Cert.OddBackIdeal.τ).loc Cert.OddBackIdeal.main_arg1) = m ((c.tc : Thread Cert.OddBackIdeal.nD Cert.OddBackIdeal.τ).loc Cert.OddBackIdeal.main_arg1)
      ∧ r.2.mem ((c.tc : Thread Cert.OddBackIdeal.nD Cert.OddBackIdeal.τ).loc Cert.OddBackIdeal.main_arg2) = m ((c.tc : Thread Cert.OddBackIdeal.nD Cert.OddBackIdeal.τ).loc Cert.OddBackIdeal.main_arg2)
      ∧ r.2.mem ((c.tc : Thread Cert.OddBackIdeal.nD Cert.OddBackIdeal.τ).loc Cert.OddBackIdeal.main_arg3) = m ((c.tc : Thread Cert.OddBackIdeal.nD Cert.OddBackIdeal.τ).loc Cert.OddBackIdeal.main_arg3)
      ∧ r.2.mem ((c.tc : Thread Cert.OddBackIdeal.nD Cert.OddBackIdeal.τ).loc Cert.OddBackIdeal.main_arg4) = m ((c.tc : Thread Cert.OddBackIdeal.nD Cert.OddBackIdeal.τ).loc Cert.OddBackIdeal.main_arg4)
      ∧ r.2.mem ((c.tc : Thread Cert.OddBackIdeal.nD Cert.OddBackIdeal.τ).loc Cert.OddBackIdeal.main_arg5) = m ((c.tc : Thread Cert.OddBackIdeal.nD Cert.OddBackIdeal.τ).loc Cert.OddBackIdeal.main_arg5)
      ∧ r.2.mem ((c.tc : Thread Cert.OddBackIdeal.nD Cert.OddBackIdeal.τ).loc Cert.OddBackIdeal.main_arg6) = m ((c.tc : Thread Cert.OddBackIdeal.nD Cert.OddBackIdeal.τ).loc Cert.OddBackIdeal.main_arg6)
      ∧ r.2.mem ((c.tc : Thread Cert.OddBackIdeal.nD Cert.OddBackIdeal.τ).loc Cert.OddBackIdeal.main_arg7) = m ((c.tc : Thread Cert.OddBackIdeal.nD Cert.OddBackIdeal.τ).loc Cert.OddBackIdeal.main_arg7))
      ∧ r.2.sem = fun _ => 0)

def quiescent_OddBackIdeal_pre_finite13 [hOddBackIdeal : Cert.OddBackIdeal.Facts] [hPre_finite13 : Cert.Pre_finite13.Facts] : Prop :=
  ∀ (m : (ℓ : Loc Cert.OddBackIdeal.nD Cert.OddBackIdeal.τ Cert.OddBackIdeal.sig) → Buf (Elt Ideal) ℓ) (g : Dev Cert.OddBackIdeal.nD → PrngReg), Pre_OddBackIdeal_finite13 m →
    θ_run (Cert.OddBackIdeal.defs (F := Ideal)) (onTc (τ := Cert.OddBackIdeal.τ) (Cert.OddBackIdeal.main (F := Ideal))) ⟨m, fun _ => 0, g⟩ (fun r => (∀ c : Dev Cert.OddBackIdeal.nD,
      r.2.mem ((c.tc : Thread Cert.OddBackIdeal.nD Cert.OddBackIdeal.τ).loc Cert.OddBackIdeal.main_arg0) = m ((c.tc : Thread Cert.OddBackIdeal.nD Cert.OddBackIdeal.τ).loc Cert.OddBackIdeal.main_arg0)
      ∧ r.2.mem ((c.tc : Thread Cert.OddBackIdeal.nD Cert.OddBackIdeal.τ).loc Cert.OddBackIdeal.main_arg1) = m ((c.tc : Thread Cert.OddBackIdeal.nD Cert.OddBackIdeal.τ).loc Cert.OddBackIdeal.main_arg1)
      ∧ r.2.mem ((c.tc : Thread Cert.OddBackIdeal.nD Cert.OddBackIdeal.τ).loc Cert.OddBackIdeal.main_arg2) = m ((c.tc : Thread Cert.OddBackIdeal.nD Cert.OddBackIdeal.τ).loc Cert.OddBackIdeal.main_arg2)
      ∧ r.2.mem ((c.tc : Thread Cert.OddBackIdeal.nD Cert.OddBackIdeal.τ).loc Cert.OddBackIdeal.main_arg3) = m ((c.tc : Thread Cert.OddBackIdeal.nD Cert.OddBackIdeal.τ).loc Cert.OddBackIdeal.main_arg3)
      ∧ r.2.mem ((c.tc : Thread Cert.OddBackIdeal.nD Cert.OddBackIdeal.τ).loc Cert.OddBackIdeal.main_arg4) = m ((c.tc : Thread Cert.OddBackIdeal.nD Cert.OddBackIdeal.τ).loc Cert.OddBackIdeal.main_arg4)
      ∧ r.2.mem ((c.tc : Thread Cert.OddBackIdeal.nD Cert.OddBackIdeal.τ).loc Cert.OddBackIdeal.main_arg5) = m ((c.tc : Thread Cert.OddBackIdeal.nD Cert.OddBackIdeal.τ).loc Cert.OddBackIdeal.main_arg5)
      ∧ r.2.mem ((c.tc : Thread Cert.OddBackIdeal.nD Cert.OddBackIdeal.τ).loc Cert.OddBackIdeal.main_arg6) = m ((c.tc : Thread Cert.OddBackIdeal.nD Cert.OddBackIdeal.τ).loc Cert.OddBackIdeal.main_arg6)
      ∧ r.2.mem ((c.tc : Thread Cert.OddBackIdeal.nD Cert.OddBackIdeal.τ).loc Cert.OddBackIdeal.main_arg7) = m ((c.tc : Thread Cert.OddBackIdeal.nD Cert.OddBackIdeal.τ).loc Cert.OddBackIdeal.main_arg7))
      ∧ r.2.sem = fun _ => 0)

def quiescent_OddBackRefIdeal [hOddBackRefIdeal : Cert.OddBackRefIdeal.Facts] : Prop :=
  ∀ (m : (ℓ : Loc Cert.OddBackRefIdeal.nD Cert.OddBackRefIdeal.τ Cert.OddBackRefIdeal.sig) → Buf (Elt Ideal) ℓ) (g : Dev Cert.OddBackRefIdeal.nD → PrngReg), Pre_OddBackRefIdeal m →
    θ_run (Cert.OddBackRefIdeal.defs (F := Ideal)) (onTc (τ := Cert.OddBackRefIdeal.τ) (Cert.OddBackRefIdeal.main (F := Ideal))) ⟨m, fun _ => 0, g⟩ (fun r => (∀ c : Dev Cert.OddBackRefIdeal.nD,
      r.2.mem ((c.tc : Thread Cert.OddBackRefIdeal.nD Cert.OddBackRefIdeal.τ).loc Cert.OddBackRefIdeal.main_arg0) = m ((c.tc : Thread Cert.OddBackRefIdeal.nD Cert.OddBackRefIdeal.τ).loc Cert.OddBackRefIdeal.main_arg0)
      ∧ r.2.mem ((c.tc : Thread Cert.OddBackRefIdeal.nD Cert.OddBackRefIdeal.τ).loc Cert.OddBackRefIdeal.main_arg1) = m ((c.tc : Thread Cert.OddBackRefIdeal.nD Cert.OddBackRefIdeal.τ).loc Cert.OddBackRefIdeal.main_arg1)
      ∧ r.2.mem ((c.tc : Thread Cert.OddBackRefIdeal.nD Cert.OddBackRefIdeal.τ).loc Cert.OddBackRefIdeal.main_arg2) = m ((c.tc : Thread Cert.OddBackRefIdeal.nD Cert.OddBackRefIdeal.τ).loc Cert.OddBackRefIdeal.main_arg2)
      ∧ r.2.mem ((c.tc : Thread Cert.OddBackRefIdeal.nD Cert.OddBackRefIdeal.τ).loc Cert.OddBackRefIdeal.main_arg3) = m ((c.tc : Thread Cert.OddBackRefIdeal.nD Cert.OddBackRefIdeal.τ).loc Cert.OddBackRefIdeal.main_arg3)
      ∧ r.2.mem ((c.tc : Thread Cert.OddBackRefIdeal.nD Cert.OddBackRefIdeal.τ).loc Cert.OddBackRefIdeal.main_arg4) = m ((c.tc : Thread Cert.OddBackRefIdeal.nD Cert.OddBackRefIdeal.τ).loc Cert.OddBackRefIdeal.main_arg4)
      ∧ r.2.mem ((c.tc : Thread Cert.OddBackRefIdeal.nD Cert.OddBackRefIdeal.τ).loc Cert.OddBackRefIdeal.main_arg5) = m ((c.tc : Thread Cert.OddBackRefIdeal.nD Cert.OddBackRefIdeal.τ).loc Cert.OddBackRefIdeal.main_arg5)
      ∧ r.2.mem ((c.tc : Thread Cert.OddBackRefIdeal.nD Cert.OddBackRefIdeal.τ).loc Cert.OddBackRefIdeal.main_arg6) = m ((c.tc : Thread Cert.OddBackRefIdeal.nD Cert.OddBackRefIdeal.τ).loc Cert.OddBackRefIdeal.main_arg6)
      ∧ r.2.mem ((c.tc : Thread Cert.OddBackRefIdeal.nD Cert.OddBackRefIdeal.τ).loc Cert.OddBackRefIdeal.main_arg7) = m ((c.tc : Thread Cert.OddBackRefIdeal.nD Cert.OddBackRefIdeal.τ).loc Cert.OddBackRefIdeal.main_arg7))
      ∧ r.2.sem = fun _ => 0)

def quiescent_OddBackRefIdeal_pre_finite13 [hOddBackRefIdeal : Cert.OddBackRefIdeal.Facts] [hPre_finite13 : Cert.Pre_finite13.Facts] : Prop :=
  ∀ (m : (ℓ : Loc Cert.OddBackRefIdeal.nD Cert.OddBackRefIdeal.τ Cert.OddBackRefIdeal.sig) → Buf (Elt Ideal) ℓ) (g : Dev Cert.OddBackRefIdeal.nD → PrngReg), Pre_OddBackRefIdeal_finite13 m →
    θ_run (Cert.OddBackRefIdeal.defs (F := Ideal)) (onTc (τ := Cert.OddBackRefIdeal.τ) (Cert.OddBackRefIdeal.main (F := Ideal))) ⟨m, fun _ => 0, g⟩ (fun r => (∀ c : Dev Cert.OddBackRefIdeal.nD,
      r.2.mem ((c.tc : Thread Cert.OddBackRefIdeal.nD Cert.OddBackRefIdeal.τ).loc Cert.OddBackRefIdeal.main_arg0) = m ((c.tc : Thread Cert.OddBackRefIdeal.nD Cert.OddBackRefIdeal.τ).loc Cert.OddBackRefIdeal.main_arg0)
      ∧ r.2.mem ((c.tc : Thread Cert.OddBackRefIdeal.nD Cert.OddBackRefIdeal.τ).loc Cert.OddBackRefIdeal.main_arg1) = m ((c.tc : Thread Cert.OddBackRefIdeal.nD Cert.OddBackRefIdeal.τ).loc Cert.OddBackRefIdeal.main_arg1)
      ∧ r.2.mem ((c.tc : Thread Cert.OddBackRefIdeal.nD Cert.OddBackRefIdeal.τ).loc Cert.OddBackRefIdeal.main_arg2) = m ((c.tc : Thread Cert.OddBackRefIdeal.nD Cert.OddBackRefIdeal.τ).loc Cert.OddBackRefIdeal.main_arg2)
      ∧ r.2.mem ((c.tc : Thread Cert.OddBackRefIdeal.nD Cert.OddBackRefIdeal.τ).loc Cert.OddBackRefIdeal.main_arg3) = m ((c.tc : Thread Cert.OddBackRefIdeal.nD Cert.OddBackRefIdeal.τ).loc Cert.OddBackRefIdeal.main_arg3)
      ∧ r.2.mem ((c.tc : Thread Cert.OddBackRefIdeal.nD Cert.OddBackRefIdeal.τ).loc Cert.OddBackRefIdeal.main_arg4) = m ((c.tc : Thread Cert.OddBackRefIdeal.nD Cert.OddBackRefIdeal.τ).loc Cert.OddBackRefIdeal.main_arg4)
      ∧ r.2.mem ((c.tc : Thread Cert.OddBackRefIdeal.nD Cert.OddBackRefIdeal.τ).loc Cert.OddBackRefIdeal.main_arg5) = m ((c.tc : Thread Cert.OddBackRefIdeal.nD Cert.OddBackRefIdeal.τ).loc Cert.OddBackRefIdeal.main_arg5)
      ∧ r.2.mem ((c.tc : Thread Cert.OddBackRefIdeal.nD Cert.OddBackRefIdeal.τ).loc Cert.OddBackRefIdeal.main_arg6) = m ((c.tc : Thread Cert.OddBackRefIdeal.nD Cert.OddBackRefIdeal.τ).loc Cert.OddBackRefIdeal.main_arg6)
      ∧ r.2.mem ((c.tc : Thread Cert.OddBackRefIdeal.nD Cert.OddBackRefIdeal.τ).loc Cert.OddBackRefIdeal.main_arg7) = m ((c.tc : Thread Cert.OddBackRefIdeal.nD Cert.OddBackRefIdeal.τ).loc Cert.OddBackRefIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v112_0)) (v1 : (c : Dev Cert.KernelIdeal.nD) → Buf (Elt Ideal) ((c.tc : Thread Cert.KernelIdeal.nD Cert.KernelIdeal.τ).loc Cert.KernelIdeal.main_v112_1)) (v2 : (c : Dev Cert.KernelIdeal.nD) → Buf (Elt Ideal) ((c.tc : Thread Cert.KernelIdeal.nD Cert.KernelIdeal.τ).loc Cert.KernelIdeal.main_v112_2)) (v3 : (c : Dev Cert.KernelIdeal.nD) → Buf (Elt Ideal) ((c.tc : Thread Cert.KernelIdeal.nD Cert.KernelIdeal.τ).loc Cert.KernelIdeal.main_v112_3)) (v4 : (c : Dev Cert.KernelIdeal.nD) → Buf (Elt Ideal) ((c.tc : Thread Cert.KernelIdeal.nD Cert.KernelIdeal.τ).loc Cert.KernelIdeal.main_v112_4)) (v5 : (c : Dev Cert.KernelIdeal.nD) → Buf (Elt Ideal) ((c.tc : Thread Cert.KernelIdeal.nD Cert.KernelIdeal.τ).loc Cert.KernelIdeal.main_v112_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112_0) = v0 c
          ∧ r.2.mem ((c.tc : Thread Cert.KernelIdeal.nD Cert.KernelIdeal.τ).loc Cert.KernelIdeal.main_v112_1) = v1 c
          ∧ r.2.mem ((c.tc : Thread Cert.KernelIdeal.nD Cert.KernelIdeal.τ).loc Cert.KernelIdeal.main_v112_2) = v2 c
          ∧ r.2.mem ((c.tc : Thread Cert.KernelIdeal.nD Cert.KernelIdeal.τ).loc Cert.KernelIdeal.main_v112_3) = v3 c
          ∧ r.2.mem ((c.tc : Thread Cert.KernelIdeal.nD Cert.KernelIdeal.τ).loc Cert.KernelIdeal.main_v112_4) = v4 c
          ∧ r.2.mem ((c.tc : Thread Cert.KernelIdeal.nD Cert.KernelIdeal.τ).loc Cert.KernelIdeal.main_v112_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v262) = v0 c
          ∧ r.2.mem ((c.tc : Thread Cert.ReferenceIdeal.nD Cert.ReferenceIdeal.τ).loc Cert.ReferenceIdeal.main_v263) = v1 c
          ∧ r.2.mem ((c.tc : Thread Cert.ReferenceIdeal.nD Cert.ReferenceIdeal.τ).loc Cert.ReferenceIdeal.main_v245) = v2 c
          ∧ r.2.mem ((c.tc : Thread Cert.ReferenceIdeal.nD Cert.ReferenceIdeal.τ).loc Cert.ReferenceIdeal.main_v228) = v3 c
          ∧ r.2.mem ((c.tc : Thread Cert.ReferenceIdeal.nD Cert.ReferenceIdeal.τ).loc Cert.ReferenceIdeal.main_v132) = v4 c
          ∧ r.2.mem ((c.tc : Thread Cert.ReferenceIdeal.nD Cert.ReferenceIdeal.τ).loc Cert.ReferenceIdeal.main_v124) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_FfnBack_FfnBackIdeal : Prop :=
  True

def algebraic_FfnBackIdeal_FfnBackRefIdeal_pre_finite2 [hFfnBackIdeal : Cert.FfnBackIdeal.Facts] [hFfnBackRefIdeal : Cert.FfnBackRefIdeal.Facts] [hPre_finite2 : Cert.Pre_finite2.Facts] : Prop :=
  ∀ (m : (ℓ : Loc Cert.FfnBackIdeal.nD Cert.FfnBackIdeal.τ Cert.FfnBackIdeal.sig) → Buf (Elt Ideal) ℓ) (g : Dev Cert.FfnBackIdeal.nD → PrngReg)
    (m' : (ℓ : Loc Cert.FfnBackRefIdeal.nD Cert.FfnBackRefIdeal.τ Cert.FfnBackRefIdeal.sig) → Buf (Elt Ideal) ℓ) (g' : Dev Cert.FfnBackRefIdeal.nD → PrngReg), Pre_FfnBackIdeal_finite2 m →
    (∀ c : Dev Cert.FfnBackIdeal.nD,
      m' ((c.tc : Thread Cert.FfnBackRefIdeal.nD Cert.FfnBackRefIdeal.τ).loc Cert.FfnBackRefIdeal.main_arg0) = m ((c.tc : Thread Cert.FfnBackIdeal.nD Cert.FfnBackIdeal.τ).loc Cert.FfnBackIdeal.main_arg0)
      ∧ m' ((c.tc : Thread Cert.FfnBackRefIdeal.nD Cert.FfnBackRefIdeal.τ).loc Cert.FfnBackRefIdeal.main_arg1) = m ((c.tc : Thread Cert.FfnBackIdeal.nD Cert.FfnBackIdeal.τ).loc Cert.FfnBackIdeal.main_arg1)
      ∧ m' ((c.tc : Thread Cert.FfnBackRefIdeal.nD Cert.FfnBackRefIdeal.τ).loc Cert.FfnBackRefIdeal.main_arg2) = m ((c.tc : Thread Cert.FfnBackIdeal.nD Cert.FfnBackIdeal.τ).loc Cert.FfnBackIdeal.main_arg2)
      ∧ m' ((c.tc : Thread Cert.FfnBackRefIdeal.nD Cert.FfnBackRefIdeal.τ).loc Cert.FfnBackRefIdeal.main_arg3) = m ((c.tc : Thread Cert.FfnBackIdeal.nD Cert.FfnBackIdeal.τ).loc Cert.FfnBackIdeal.main_arg3)
      ∧ m' ((c.tc : Thread Cert.FfnBackRefIdeal.nD Cert.FfnBackRefIdeal.τ).loc Cert.FfnBackRefIdeal.main_arg4) = m ((c.tc : Thread Cert.FfnBackIdeal.nD Cert.FfnBackIdeal.τ).loc Cert.FfnBackIdeal.main_arg4)
      ∧ m' ((c.tc : Thread Cert.FfnBackRefIdeal.nD Cert.FfnBackRefIdeal.τ).loc Cert.FfnBackRefIdeal.main_arg5) = m ((c.tc : Thread Cert.FfnBackIdeal.nD Cert.FfnBackIdeal.τ).loc Cert.FfnBackIdeal.main_arg5)
      ∧ m' ((c.tc : Thread Cert.FfnBackRefIdeal.nD Cert.FfnBackRefIdeal.τ).loc Cert.FfnBackRefIdeal.main_arg6) = m ((c.tc : Thread Cert.FfnBackIdeal.nD Cert.FfnBackIdeal.τ).loc Cert.FfnBackIdeal.main_arg6)) →
    ∃ (v0 : (c : Dev Cert.FfnBackIdeal.nD) → Buf (Elt Ideal) ((c.tc : Thread Cert.FfnBackIdeal.nD Cert.FfnBackIdeal.τ).loc Cert.FfnBackIdeal.main_v6_0)) (v1 : (c : Dev Cert.FfnBackIdeal.nD) → Buf (Elt Ideal) ((c.tc : Thread Cert.FfnBackIdeal.nD Cert.FfnBackIdeal.τ).loc Cert.FfnBackIdeal.main_v6_1)) (v2 : (c : Dev Cert.FfnBackIdeal.nD) → Buf (Elt Ideal) ((c.tc : Thread Cert.FfnBackIdeal.nD Cert.FfnBackIdeal.τ).loc Cert.FfnBackIdeal.main_v6_2)),
      θ_run (Cert.FfnBackIdeal.defs (F := Ideal)) (onTc (τ := Cert.FfnBackIdeal.τ) (Cert.FfnBackIdeal.main (F := Ideal))) ⟨m, fun _ => 0, g⟩ (fun r => ∀ c : Dev Cert.FfnBackIdeal.nD,
          r.2.mem ((c.tc : Thread Cert.FfnBackIdeal.nD Cert.FfnBackIdeal.τ).loc Cert.FfnBackIdeal.main_v6_0) = v0 c
          ∧ r.2.mem ((c.tc : Thread Cert.FfnBackIdeal.nD Cert.FfnBackIdeal.τ).loc Cert.FfnBackIdeal.main_v6_1) = v1 c
          ∧ r.2.mem ((c.tc : Thread Cert.FfnBackIdeal.nD Cert.FfnBackIdeal.τ).loc Cert.FfnBackIdeal.main_v6_2) = v2 c
          ∧ r.2.mem ((c.tc : Thread Cert.FfnBackIdeal.nD Cert.FfnBackIdeal.τ).loc Cert.FfnBackIdeal.main_arg0) = m ((c.tc : Thread Cert.FfnBackIdeal.nD Cert.FfnBackIdeal.τ).loc Cert.FfnBackIdeal.main_arg0)
          ∧ r.2.mem ((c.tc : Thread Cert.FfnBackIdeal.nD Cert.FfnBackIdeal.τ).loc Cert.FfnBackIdeal.main_arg1) = m ((c.tc : Thread Cert.FfnBackIdeal.nD Cert.FfnBackIdeal.τ).loc Cert.FfnBackIdeal.main_arg1)
          ∧ r.2.mem ((c.tc : Thread Cert.FfnBackIdeal.nD Cert.FfnBackIdeal.τ).loc Cert.FfnBackIdeal.main_arg2) = m ((c.tc : Thread Cert.FfnBackIdeal.nD Cert.FfnBackIdeal.τ).loc Cert.FfnBackIdeal.main_arg2)
          ∧ r.2.mem ((c.tc : Thread Cert.FfnBackIdeal.nD Cert.FfnBackIdeal.τ).loc Cert.FfnBackIdeal.main_arg3) = m ((c.tc : Thread Cert.FfnBackIdeal.nD Cert.FfnBackIdeal.τ).loc Cert.FfnBackIdeal.main_arg3)
          ∧ r.2.mem ((c.tc : Thread Cert.FfnBackIdeal.nD Cert.FfnBackIdeal.τ).loc Cert.FfnBackIdeal.main_arg4) = m ((c.tc : Thread Cert.FfnBackIdeal.nD Cert.FfnBackIdeal.τ).loc Cert.FfnBackIdeal.main_arg4)
          ∧ r.2.mem ((c.tc : Thread Cert.FfnBackIdeal.nD Cert.FfnBackIdeal.τ).loc Cert.FfnBackIdeal.main_arg5) = m ((c.tc : Thread Cert.FfnBackIdeal.nD Cert.FfnBackIdeal.τ).loc Cert.FfnBackIdeal.main_arg5)
          ∧ r.2.mem ((c.tc : Thread Cert.FfnBackIdeal.nD Cert.FfnBackIdeal.τ).loc Cert.FfnBackIdeal.main_arg6) = m ((c.tc : Thread Cert.FfnBackIdeal.nD Cert.FfnBackIdeal.τ).loc Cert.FfnBackIdeal.main_arg6))
      ∧ θ_run (Cert.FfnBackRefIdeal.defs (F := Ideal)) (onTc (τ := Cert.FfnBackRefIdeal.τ) (Cert.FfnBackRefIdeal.main (F := Ideal))) ⟨m', fun _ => 0, g'⟩ (fun r => ∀ c : Dev Cert.FfnBackRefIdeal.nD,
          r.2.mem ((c.tc : Thread Cert.FfnBackRefIdeal.nD Cert.FfnBackRefIdeal.τ).loc Cert.FfnBackRefIdeal.main_v39) = v0 c
          ∧ r.2.mem ((c.tc : Thread Cert.FfnBackRefIdeal.nD Cert.FfnBackRefIdeal.τ).loc Cert.FfnBackRefIdeal.main_v40) = v1 c
          ∧ r.2.mem ((c.tc : Thread Cert.FfnBackRefIdeal.nD Cert.FfnBackRefIdeal.τ).loc Cert.FfnBackRefIdeal.main_v22) = v2 c
          ∧ r.2.mem ((c.tc : Thread Cert.FfnBackRefIdeal.nD Cert.FfnBackRefIdeal.τ).loc Cert.FfnBackRefIdeal.main_arg0) = m' ((c.tc : Thread Cert.FfnBackRefIdeal.nD Cert.FfnBackRefIdeal.τ).loc Cert.FfnBackRefIdeal.main_arg0)
          ∧ r.2.mem ((c.tc : Thread Cert.FfnBackRefIdeal.nD Cert.FfnBackRefIdeal.τ).loc Cert.FfnBackRefIdeal.main_arg1) = m' ((c.tc : Thread Cert.FfnBackRefIdeal.nD Cert.FfnBackRefIdeal.τ).loc Cert.FfnBackRefIdeal.main_arg1)
          ∧ r.2.mem ((c.tc : Thread Cert.FfnBackRefIdeal.nD Cert.FfnBackRefIdeal.τ).loc Cert.FfnBackRefIdeal.main_arg2) = m' ((c.tc : Thread Cert.FfnBackRefIdeal.nD Cert.FfnBackRefIdeal.τ).loc Cert.FfnBackRefIdeal.main_arg2)
          ∧ r.2.mem ((c.tc : Thread Cert.FfnBackRefIdeal.nD Cert.FfnBackRefIdeal.τ).loc Cert.FfnBackRefIdeal.main_arg3) = m' ((c.tc : Thread Cert.FfnBackRefIdeal.nD Cert.FfnBackRefIdeal.τ).loc Cert.FfnBackRefIdeal.main_arg3)
          ∧ r.2.mem ((c.tc : Thread Cert.FfnBackRefIdeal.nD Cert.FfnBackRefIdeal.τ).loc Cert.FfnBackRefIdeal.main_arg4) = m' ((c.tc : Thread Cert.FfnBackRefIdeal.nD Cert.FfnBackRefIdeal.τ).loc Cert.FfnBackRefIdeal.main_arg4)
          ∧ r.2.mem ((c.tc : Thread Cert.FfnBackRefIdeal.nD Cert.FfnBackRefIdeal.τ).loc Cert.FfnBackRefIdeal.main_arg5) = m' ((c.tc : Thread Cert.FfnBackRefIdeal.nD Cert.FfnBackRefIdeal.τ).loc Cert.FfnBackRefIdeal.main_arg5)
          ∧ r.2.mem ((c.tc : Thread Cert.FfnBackRefIdeal.nD Cert.FfnBackRefIdeal.τ).loc Cert.FfnBackRefIdeal.main_arg6) = m' ((c.tc : Thread Cert.FfnBackRefIdeal.nD Cert.FfnBackRefIdeal.τ).loc Cert.FfnBackRefIdeal.main_arg6))

def preserves_WgradFfn_WgradFfnIdeal : Prop :=
  True

def algebraic_WgradFfnIdeal_WgradFfnRefIdeal [hWgradFfnIdeal : Cert.WgradFfnIdeal.Facts] [hWgradFfnRefIdeal : Cert.WgradFfnRefIdeal.Facts] : Prop :=
  ∀ (m : (ℓ : Loc Cert.WgradFfnIdeal.nD Cert.WgradFfnIdeal.τ Cert.WgradFfnIdeal.sig) → Buf (Elt Ideal) ℓ) (g : Dev Cert.WgradFfnIdeal.nD → PrngReg)
    (m' : (ℓ : Loc Cert.WgradFfnRefIdeal.nD Cert.WgradFfnRefIdeal.τ Cert.WgradFfnRefIdeal.sig) → Buf (Elt Ideal) ℓ) (g' : Dev Cert.WgradFfnRefIdeal.nD → PrngReg), Pre_WgradFfnIdeal m →
    (∀ c : Dev Cert.WgradFfnIdeal.nD,
      m' ((c.tc : Thread Cert.WgradFfnRefIdeal.nD Cert.WgradFfnRefIdeal.τ).loc Cert.WgradFfnRefIdeal.main_arg0) = m ((c.tc : Thread Cert.WgradFfnIdeal.nD Cert.WgradFfnIdeal.τ).loc Cert.WgradFfnIdeal.main_arg0)
      ∧ m' ((c.tc : Thread Cert.WgradFfnRefIdeal.nD Cert.WgradFfnRefIdeal.τ).loc Cert.WgradFfnRefIdeal.main_arg1) = m ((c.tc : Thread Cert.WgradFfnIdeal.nD Cert.WgradFfnIdeal.τ).loc Cert.WgradFfnIdeal.main_arg1)) →
    ∃ (v0 : (c : Dev Cert.WgradFfnIdeal.nD) → Buf (Elt Ideal) ((c.tc : Thread Cert.WgradFfnIdeal.nD Cert.WgradFfnIdeal.τ).loc Cert.WgradFfnIdeal.main_v2)),
      θ_run (Cert.WgradFfnIdeal.defs (F := Ideal)) (onTc (τ := Cert.WgradFfnIdeal.τ) (Cert.WgradFfnIdeal.main (F := Ideal))) ⟨m, fun _ => 0, g⟩ (fun r => ∀ c : Dev Cert.WgradFfnIdeal.nD,
          r.2.mem ((c.tc : Thread Cert.WgradFfnIdeal.nD Cert.WgradFfnIdeal.τ).loc Cert.WgradFfnIdeal.main_v2) = v0 c
          ∧ r.2.mem ((c.tc : Thread Cert.WgradFfnIdeal.nD Cert.WgradFfnIdeal.τ).loc Cert.WgradFfnIdeal.main_arg0) = m ((c.tc : Thread Cert.WgradFfnIdeal.nD Cert.WgradFfnIdeal.τ).loc Cert.WgradFfnIdeal.main_arg0)
          ∧ r.2.mem ((c.tc : Thread Cert.WgradFfnIdeal.nD Cert.WgradFfnIdeal.τ).loc Cert.WgradFfnIdeal.main_arg1) = m ((c.tc : Thread Cert.WgradFfnIdeal.nD Cert.WgradFfnIdeal.τ).loc Cert.WgradFfnIdeal.main_arg1))
      ∧ θ_run (Cert.WgradFfnRefIdeal.defs (F := Ideal)) (onTc (τ := Cert.WgradFfnRefIdeal.τ) (Cert.WgradFfnRefIdeal.main (F := Ideal))) ⟨m', fun _ => 0, g'⟩ (fun r => ∀ c : Dev Cert.WgradFfnRefIdeal.nD,
          r.2.mem ((c.tc : Thread Cert.WgradFfnRefIdeal.nD Cert.WgradFfnRefIdeal.τ).loc Cert.WgradFfnRefIdeal.main_v4) = v0 c
          ∧ r.2.mem ((c.tc : Thread Cert.WgradFfnRefIdeal.nD Cert.WgradFfnRefIdeal.τ).loc Cert.WgradFfnRefIdeal.main_arg0) = m' ((c.tc : Thread Cert.WgradFfnRefIdeal.nD Cert.WgradFfnRefIdeal.τ).loc Cert.WgradFfnRefIdeal.main_arg0)
          ∧ r.2.mem ((c.tc : Thread Cert.WgradFfnRefIdeal.nD Cert.WgradFfnRefIdeal.τ).loc Cert.WgradFfnRefIdeal.main_arg1) = m' ((c.tc : Thread Cert.WgradFfnRefIdeal.nD Cert.WgradFfnRefIdeal.τ).loc Cert.WgradFfnRefIdeal.main_arg1))

def preserves_WgradIn_WgradInIdeal : Prop :=
  True

def algebraic_WgradInIdeal_WgradInRefIdeal [hWgradInIdeal : Cert.WgradInIdeal.Facts] [hWgradInRefIdeal : Cert.WgradInRefIdeal.Facts] : Prop :=
  ∀ (m : (ℓ : Loc Cert.WgradInIdeal.nD Cert.WgradInIdeal.τ Cert.WgradInIdeal.sig) → Buf (Elt Ideal) ℓ) (g : Dev Cert.WgradInIdeal.nD → PrngReg)
    (m' : (ℓ : Loc Cert.WgradInRefIdeal.nD Cert.WgradInRefIdeal.τ Cert.WgradInRefIdeal.sig) → Buf (Elt Ideal) ℓ) (g' : Dev Cert.WgradInRefIdeal.nD → PrngReg), Pre_WgradInIdeal m →
    (∀ c : Dev Cert.WgradInIdeal.nD,
      m' ((c.tc : Thread Cert.WgradInRefIdeal.nD Cert.WgradInRefIdeal.τ).loc Cert.WgradInRefIdeal.main_arg0) = m ((c.tc : Thread Cert.WgradInIdeal.nD Cert.WgradInIdeal.τ).loc Cert.WgradInIdeal.main_arg0)
      ∧ m' ((c.tc : Thread Cert.WgradInRefIdeal.nD Cert.WgradInRefIdeal.τ).loc Cert.WgradInRefIdeal.main_arg1) = m ((c.tc : Thread Cert.WgradInIdeal.nD Cert.WgradInIdeal.τ).loc Cert.WgradInIdeal.main_arg1)) →
    ∃ (v0 : (c : Dev Cert.WgradInIdeal.nD) → Buf (Elt Ideal) ((c.tc : Thread Cert.WgradInIdeal.nD Cert.WgradInIdeal.τ).loc Cert.WgradInIdeal.main_v2)),
      θ_run (Cert.WgradInIdeal.defs (F := Ideal)) (onTc (τ := Cert.WgradInIdeal.τ) (Cert.WgradInIdeal.main (F := Ideal))) ⟨m, fun _ => 0, g⟩ (fun r => ∀ c : Dev Cert.WgradInIdeal.nD,
          r.2.mem ((c.tc : Thread Cert.WgradInIdeal.nD Cert.WgradInIdeal.τ).loc Cert.WgradInIdeal.main_v2) = v0 c
          ∧ r.2.mem ((c.tc : Thread Cert.WgradInIdeal.nD Cert.WgradInIdeal.τ).loc Cert.WgradInIdeal.main_arg0) = m ((c.tc : Thread Cert.WgradInIdeal.nD Cert.WgradInIdeal.τ).loc Cert.WgradInIdeal.main_arg0)
          ∧ r.2.mem ((c.tc : Thread Cert.WgradInIdeal.nD Cert.WgradInIdeal.τ).loc Cert.WgradInIdeal.main_arg1) = m ((c.tc : Thread Cert.WgradInIdeal.nD Cert.WgradInIdeal.τ).loc Cert.WgradInIdeal.main_arg1))
      ∧ θ_run (Cert.WgradInRefIdeal.defs (F := Ideal)) (onTc (τ := Cert.WgradInRefIdeal.τ) (Cert.WgradInRefIdeal.main (F := Ideal))) ⟨m', fun _ => 0, g'⟩ (fun r => ∀ c : Dev Cert.WgradInRefIdeal.nD,
          r.2.mem ((c.tc : Thread Cert.WgradInRefIdeal.nD Cert.WgradInRefIdeal.τ).loc Cert.WgradInRefIdeal.main_v4) = v0 c
          ∧ r.2.mem ((c.tc : Thread Cert.WgradInRefIdeal.nD Cert.WgradInRefIdeal.τ).loc Cert.WgradInRefIdeal.main_arg0) = m' ((c.tc : Thread Cert.WgradInRefIdeal.nD Cert.WgradInRefIdeal.τ).loc Cert.WgradInRefIdeal.main_arg0)
          ∧ r.2.mem ((c.tc : Thread Cert.WgradInRefIdeal.nD Cert.WgradInRefIdeal.τ).loc Cert.WgradInRefIdeal.main_arg1) = m' ((c.tc : Thread Cert.WgradInRefIdeal.nD Cert.WgradInRefIdeal.τ).loc Cert.WgradInRefIdeal.main_arg1))

def preserves_WgradOut_WgradOutIdeal : Prop :=
  True

def algebraic_WgradOutIdeal_WgradOutRefIdeal [hWgradOutIdeal : Cert.WgradOutIdeal.Facts] [hWgradOutRefIdeal : Cert.WgradOutRefIdeal.Facts] : Prop :=
  ∀ (m : (ℓ : Loc Cert.WgradOutIdeal.nD Cert.WgradOutIdeal.τ Cert.WgradOutIdeal.sig) → Buf (Elt Ideal) ℓ) (g : Dev Cert.WgradOutIdeal.nD → PrngReg)
    (m' : (ℓ : Loc Cert.WgradOutRefIdeal.nD Cert.WgradOutRefIdeal.τ Cert.WgradOutRefIdeal.sig) → Buf (Elt Ideal) ℓ) (g' : Dev Cert.WgradOutRefIdeal.nD → PrngReg), Pre_WgradOutIdeal m →
    (∀ c : Dev Cert.WgradOutIdeal.nD,
      m' ((c.tc : Thread Cert.WgradOutRefIdeal.nD Cert.WgradOutRefIdeal.τ).loc Cert.WgradOutRefIdeal.main_arg0) = m ((c.tc : Thread Cert.WgradOutIdeal.nD Cert.WgradOutIdeal.τ).loc Cert.WgradOutIdeal.main_arg0)
      ∧ m' ((c.tc : Thread Cert.WgradOutRefIdeal.nD Cert.WgradOutRefIdeal.τ).loc Cert.WgradOutRefIdeal.main_arg1) = m ((c.tc : Thread Cert.WgradOutIdeal.nD Cert.WgradOutIdeal.τ).loc Cert.WgradOutIdeal.main_arg1)) →
    ∃ (v0 : (c : Dev Cert.WgradOutIdeal.nD) → Buf (Elt Ideal) ((c.tc : Thread Cert.WgradOutIdeal.nD Cert.WgradOutIdeal.τ).loc Cert.WgradOutIdeal.main_v2)),
      θ_run (Cert.WgradOutIdeal.defs (F := Ideal)) (onTc (τ := Cert.WgradOutIdeal.τ) (Cert.WgradOutIdeal.main (F := Ideal))) ⟨m, fun _ => 0, g⟩ (fun r => ∀ c : Dev Cert.WgradOutIdeal.nD,
          r.2.mem ((c.tc : Thread Cert.WgradOutIdeal.nD Cert.WgradOutIdeal.τ).loc Cert.WgradOutIdeal.main_v2) = v0 c
          ∧ r.2.mem ((c.tc : Thread Cert.WgradOutIdeal.nD Cert.WgradOutIdeal.τ).loc Cert.WgradOutIdeal.main_arg0) = m ((c.tc : Thread Cert.WgradOutIdeal.nD Cert.WgradOutIdeal.τ).loc Cert.WgradOutIdeal.main_arg0)
          ∧ r.2.mem ((c.tc : Thread Cert.WgradOutIdeal.nD Cert.WgradOutIdeal.τ).loc Cert.WgradOutIdeal.main_arg1) = m ((c.tc : Thread Cert.WgradOutIdeal.nD Cert.WgradOutIdeal.τ).loc Cert.WgradOutIdeal.main_arg1))
      ∧ θ_run (Cert.WgradOutRefIdeal.defs (F := Ideal)) (onTc (τ := Cert.WgradOutRefIdeal.τ) (Cert.WgradOutRefIdeal.main (F := Ideal))) ⟨m', fun _ => 0, g'⟩ (fun r => ∀ c : Dev Cert.WgradOutRefIdeal.nD,
          r.2.mem ((c.tc : Thread Cert.WgradOutRefIdeal.nD Cert.WgradOutRefIdeal.τ).loc Cert.WgradOutRefIdeal.main_v4) = v0 c
          ∧ r.2.mem ((c.tc : Thread Cert.WgradOutRefIdeal.nD Cert.WgradOutRefIdeal.τ).loc Cert.WgradOutRefIdeal.main_arg0) = m' ((c.tc : Thread Cert.WgradOutRefIdeal.nD Cert.WgradOutRefIdeal.τ).loc Cert.WgradOutRefIdeal.main_arg0)
          ∧ r.2.mem ((c.tc : Thread Cert.WgradOutRefIdeal.nD Cert.WgradOutRefIdeal.τ).loc Cert.WgradOutRefIdeal.main_arg1) = m' ((c.tc : Thread Cert.WgradOutRefIdeal.nD Cert.WgradOutRefIdeal.τ).loc Cert.WgradOutRefIdeal.main_arg1))

def preserves_FfnGate_FfnGateIdeal : Prop :=
  True

def algebraic_FfnGateIdeal_FfnGateRefIdeal_pre_finite6 [hFfnGateIdeal : Cert.FfnGateIdeal.Facts] [hFfnGateRefIdeal : Cert.FfnGateRefIdeal.Facts] [hPre_finite6 : Cert.Pre_finite6.Facts] : Prop :=
  ∀ (m : (ℓ : Loc Cert.FfnGateIdeal.nD Cert.FfnGateIdeal.τ Cert.FfnGateIdeal.sig) → Buf (Elt Ideal) ℓ) (g : Dev Cert.FfnGateIdeal.nD → PrngReg)
    (m' : (ℓ : Loc Cert.FfnGateRefIdeal.nD Cert.FfnGateRefIdeal.τ Cert.FfnGateRefIdeal.sig) → Buf (Elt Ideal) ℓ) (g' : Dev Cert.FfnGateRefIdeal.nD → PrngReg), Pre_FfnGateIdeal_finite6 m →
    (∀ c : Dev Cert.FfnGateIdeal.nD,
      m' ((c.tc : Thread Cert.FfnGateRefIdeal.nD Cert.FfnGateRefIdeal.τ).loc Cert.FfnGateRefIdeal.main_arg0) = m ((c.tc : Thread Cert.FfnGateIdeal.nD Cert.FfnGateIdeal.τ).loc Cert.FfnGateIdeal.main_arg0)
      ∧ m' ((c.tc : Thread Cert.FfnGateRefIdeal.nD Cert.FfnGateRefIdeal.τ).loc Cert.FfnGateRefIdeal.main_arg1) = m ((c.tc : Thread Cert.FfnGateIdeal.nD Cert.FfnGateIdeal.τ).loc Cert.FfnGateIdeal.main_arg1)
      ∧ m' ((c.tc : Thread Cert.FfnGateRefIdeal.nD Cert.FfnGateRefIdeal.τ).loc Cert.FfnGateRefIdeal.main_arg2) = m ((c.tc : Thread Cert.FfnGateIdeal.nD Cert.FfnGateIdeal.τ).loc Cert.FfnGateIdeal.main_arg2)
      ∧ m' ((c.tc : Thread Cert.FfnGateRefIdeal.nD Cert.FfnGateRefIdeal.τ).loc Cert.FfnGateRefIdeal.main_arg3) = m ((c.tc : Thread Cert.FfnGateIdeal.nD Cert.FfnGateIdeal.τ).loc Cert.FfnGateIdeal.main_arg3)
      ∧ m' ((c.tc : Thread Cert.FfnGateRefIdeal.nD Cert.FfnGateRefIdeal.τ).loc Cert.FfnGateRefIdeal.main_arg4) = m ((c.tc : Thread Cert.FfnGateIdeal.nD Cert.FfnGateIdeal.τ).loc Cert.FfnGateIdeal.main_arg4)
      ∧ m' ((c.tc : Thread Cert.FfnGateRefIdeal.nD Cert.FfnGateRefIdeal.τ).loc Cert.FfnGateRefIdeal.main_arg5) = m ((c.tc : Thread Cert.FfnGateIdeal.nD Cert.FfnGateIdeal.τ).loc Cert.FfnGateIdeal.main_arg5)) →
    ∃ (v0 : (c : Dev Cert.FfnGateIdeal.nD) → Buf (Elt Ideal) ((c.tc : Thread Cert.FfnGateIdeal.nD Cert.FfnGateIdeal.τ).loc Cert.FfnGateIdeal.main_v41_0)) (v1 : (c : Dev Cert.FfnGateIdeal.nD) → Buf (Elt Ideal) ((c.tc : Thread Cert.FfnGateIdeal.nD Cert.FfnGateIdeal.τ).loc Cert.FfnGateIdeal.main_v41_1)) (v2 : (c : Dev Cert.FfnGateIdeal.nD) → Buf (Elt Ideal) ((c.tc : Thread Cert.FfnGateIdeal.nD Cert.FfnGateIdeal.τ).loc Cert.FfnGateIdeal.main_v41_2)) (v3 : (c : Dev Cert.FfnGateIdeal.nD) → Buf (Elt Ideal) ((c.tc : Thread Cert.FfnGateIdeal.nD Cert.FfnGateIdeal.τ).loc Cert.FfnGateIdeal.main_v41_3)),
      θ_run (Cert.FfnGateIdeal.defs (F := Ideal)) (onTc (τ := Cert.FfnGateIdeal.τ) (Cert.FfnGateIdeal.main (F := Ideal))) ⟨m, fun _ => 0, g⟩ (fun r => ∀ c : Dev Cert.FfnGateIdeal.nD,
          r.2.mem ((c.tc : Thread Cert.FfnGateIdeal.nD Cert.FfnGateIdeal.τ).loc Cert.FfnGateIdeal.main_v41_0) = v0 c
          ∧ r.2.mem ((c.tc : Thread Cert.FfnGateIdeal.nD Cert.FfnGateIdeal.τ).loc Cert.FfnGateIdeal.main_v41_1) = v1 c
          ∧ r.2.mem ((c.tc : Thread Cert.FfnGateIdeal.nD Cert.FfnGateIdeal.τ).loc Cert.FfnGateIdeal.main_v41_2) = v2 c
          ∧ r.2.mem ((c.tc : Thread Cert.FfnGateIdeal.nD Cert.FfnGateIdeal.τ).loc Cert.FfnGateIdeal.main_v41_3) = v3 c
          ∧ r.2.mem ((c.tc : Thread Cert.FfnGateIdeal.nD Cert.FfnGateIdeal.τ).loc Cert.FfnGateIdeal.main_arg0) = m ((c.tc : Thread Cert.FfnGateIdeal.nD Cert.FfnGateIdeal.τ).loc Cert.FfnGateIdeal.main_arg0)
          ∧ r.2.mem ((c.tc : Thread Cert.FfnGateIdeal.nD Cert.FfnGateIdeal.τ).loc Cert.FfnGateIdeal.main_arg1) = m ((c.tc : Thread Cert.FfnGateIdeal.nD Cert.FfnGateIdeal.τ).loc Cert.FfnGateIdeal.main_arg1)
          ∧ r.2.mem ((c.tc : Thread Cert.FfnGateIdeal.nD Cert.FfnGateIdeal.τ).loc Cert.FfnGateIdeal.main_arg2) = m ((c.tc : Thread Cert.FfnGateIdeal.nD Cert.FfnGateIdeal.τ).loc Cert.FfnGateIdeal.main_arg2)
          ∧ r.2.mem ((c.tc : Thread Cert.FfnGateIdeal.nD Cert.FfnGateIdeal.τ).loc Cert.FfnGateIdeal.main_arg3) = m ((c.tc : Thread Cert.FfnGateIdeal.nD Cert.FfnGateIdeal.τ).loc Cert.FfnGateIdeal.main_arg3)
          ∧ r.2.mem ((c.tc : Thread Cert.FfnGateIdeal.nD Cert.FfnGateIdeal.τ).loc Cert.FfnGateIdeal.main_arg4) = m ((c.tc : Thread Cert.FfnGateIdeal.nD Cert.FfnGateIdeal.τ).loc Cert.FfnGateIdeal.main_arg4)
          ∧ r.2.mem ((c.tc : Thread Cert.FfnGateIdeal.nD Cert.FfnGateIdeal.τ).loc Cert.FfnGateIdeal.main_arg5) = m ((c.tc : Thread Cert.FfnGateIdeal.nD Cert.FfnGateIdeal.τ).loc Cert.FfnGateIdeal.main_arg5))
      ∧ θ_run (Cert.FfnGateRefIdeal.defs (F := Ideal)) (onTc (τ := Cert.FfnGateRefIdeal.τ) (Cert.FfnGateRefIdeal.main (F := Ideal))) ⟨m', fun _ => 0, g'⟩ (fun r => ∀ c : Dev Cert.FfnGateRefIdeal.nD,
          r.2.mem ((c.tc : Thread Cert.FfnGateRefIdeal.nD Cert.FfnGateRefIdeal.τ).loc Cert.FfnGateRefIdeal.main_v67) = v0 c
          ∧ r.2.mem ((c.tc : Thread Cert.FfnGateRefIdeal.nD Cert.FfnGateRefIdeal.τ).loc Cert.FfnGateRefIdeal.main_v68) = v1 c
          ∧ r.2.mem ((c.tc : Thread Cert.FfnGateRefIdeal.nD Cert.FfnGateRefIdeal.τ).loc Cert.FfnGateRefIdeal.main_v62) = v2 c
          ∧ r.2.mem ((c.tc : Thread Cert.FfnGateRefIdeal.nD Cert.FfnGateRefIdeal.τ).loc Cert.FfnGateRefIdeal.main_v33) = v3 c
          ∧ r.2.mem ((c.tc : Thread Cert.FfnGateRefIdeal.nD Cert.FfnGateRefIdeal.τ).loc Cert.FfnGateRefIdeal.main_arg0) = m' ((c.tc : Thread Cert.FfnGateRefIdeal.nD Cert.FfnGateRefIdeal.τ).loc Cert.FfnGateRefIdeal.main_arg0)
          ∧ r.2.mem ((c.tc : Thread Cert.FfnGateRefIdeal.nD Cert.FfnGateRefIdeal.τ).loc Cert.FfnGateRefIdeal.main_arg1) = m' ((c.tc : Thread Cert.FfnGateRefIdeal.nD Cert.FfnGateRefIdeal.τ).loc Cert.FfnGateRefIdeal.main_arg1)
          ∧ r.2.mem ((c.tc : Thread Cert.FfnGateRefIdeal.nD Cert.FfnGateRefIdeal.τ).loc Cert.FfnGateRefIdeal.main_arg2) = m' ((c.tc : Thread Cert.FfnGateRefIdeal.nD Cert.FfnGateRefIdeal.τ).loc Cert.FfnGateRefIdeal.main_arg2)
          ∧ r.2.mem ((c.tc : Thread Cert.FfnGateRefIdeal.nD Cert.FfnGateRefIdeal.τ).loc Cert.FfnGateRefIdeal.main_arg3) = m' ((c.tc : Thread Cert.FfnGateRefIdeal.nD Cert.FfnGateRefIdeal.τ).loc Cert.FfnGateRefIdeal.main_arg3)
          ∧ r.2.mem ((c.tc : Thread Cert.FfnGateRefIdeal.nD Cert.FfnGateRefIdeal.τ).loc Cert.FfnGateRefIdeal.main_arg4) = m' ((c.tc : Thread Cert.FfnGateRefIdeal.nD Cert.FfnGateRefIdeal.τ).loc Cert.FfnGateRefIdeal.main_arg4)
          ∧ r.2.mem ((c.tc : Thread Cert.FfnGateRefIdeal.nD Cert.FfnGateRefIdeal.τ).loc Cert.FfnGateRefIdeal.main_arg5) = m' ((c.tc : Thread Cert.FfnGateRefIdeal.nD Cert.FfnGateRefIdeal.τ).loc Cert.FfnGateRefIdeal.main_arg5))

def preserves_GateFwd_GateFwdIdeal : Prop :=
  True

def algebraic_GateFwdIdeal_GateFwdRefIdeal [hGateFwdIdeal : Cert.GateFwdIdeal.Facts] [hGateFwdRefIdeal : Cert.GateFwdRefIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdRefIdeal.nD Cert.GateFwdRefIdeal.τ Cert.GateFwdRefIdeal.sig) → Buf (Elt Ideal) ℓ) (g' : Dev Cert.GateFwdRefIdeal.nD → PrngReg), Pre_GateFwdIdeal m →
    (∀ c : Dev Cert.GateFwdIdeal.nD,
      m' ((c.tc : Thread Cert.GateFwdRefIdeal.nD Cert.GateFwdRefIdeal.τ).loc Cert.GateFwdRefIdeal.main_arg0) = m ((c.tc : Thread Cert.GateFwdIdeal.nD Cert.GateFwdIdeal.τ).loc Cert.GateFwdIdeal.main_arg0)
      ∧ m' ((c.tc : Thread Cert.GateFwdRefIdeal.nD Cert.GateFwdRefIdeal.τ).loc Cert.GateFwdRefIdeal.main_arg1) = m ((c.tc : Thread Cert.GateFwdIdeal.nD Cert.GateFwdIdeal.τ).loc Cert.GateFwdIdeal.main_arg1)
      ∧ m' ((c.tc : Thread Cert.GateFwdRefIdeal.nD Cert.GateFwdRefIdeal.τ).loc Cert.GateFwdRefIdeal.main_arg2) = m ((c.tc : Thread Cert.GateFwdIdeal.nD Cert.GateFwdIdeal.τ).loc Cert.GateFwdIdeal.main_arg2)
      ∧ m' ((c.tc : Thread Cert.GateFwdRefIdeal.nD Cert.GateFwdRefIdeal.τ).loc Cert.GateFwdRefIdeal.main_arg3) = m ((c.tc : Thread Cert.GateFwdIdeal.nD Cert.GateFwdIdeal.τ).loc Cert.GateFwdIdeal.main_arg3)) →
    ∃ (v0 : (c : Dev Cert.GateFwdIdeal.nD) → Buf (Elt Ideal) ((c.tc : Thread Cert.GateFwdIdeal.nD Cert.GateFwdIdeal.τ).loc Cert.GateFwdIdeal.main_v3_0)) (v1 : (c : Dev Cert.GateFwdIdeal.nD) → Buf (Elt Ideal) ((c.tc : Thread Cert.GateFwdIdeal.nD Cert.GateFwdIdeal.τ).loc Cert.GateFwdIdeal.main_v3_1)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v3_0) = v0 c
          ∧ r.2.mem ((c.tc : Thread Cert.GateFwdIdeal.nD Cert.GateFwdIdeal.τ).loc Cert.GateFwdIdeal.main_v3_1) = v1 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
          ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
          ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3))
      ∧ θ_run (Cert.GateFwdRefIdeal.defs (F := Ideal)) (onTc (τ := Cert.GateFwdRefIdeal.τ) (Cert.GateFwdRefIdeal.main (F := Ideal))) ⟨m', fun _ => 0, g'⟩ (fun r => ∀ c : Dev Cert.GateFwdRefIdeal.nD,
          r.2.mem ((c.tc : Thread Cert.GateFwdRefIdeal.nD Cert.GateFwdRefIdeal.τ).loc Cert.GateFwdRefIdeal.main_v25) = v0 c
          ∧ r.2.mem ((c.tc : Thread Cert.GateFwdRefIdeal.nD Cert.GateFwdRefIdeal.τ).loc Cert.GateFwdRefIdeal.main_v26) = v1 c
          ∧ r.2.mem ((c.tc : Thread Cert.GateFwdRefIdeal.nD Cert.GateFwdRefIdeal.τ).loc Cert.GateFwdRefIdeal.main_arg0) = m' ((c.tc : Thread Cert.GateFwdRefIdeal.nD Cert.GateFwdRefIdeal.τ).loc Cert.GateFwdRefIdeal.main_arg0)
          ∧ r.2.mem ((c.tc : Thread Cert.GateFwdRefIdeal.nD Cert.GateFwdRefIdeal.τ).loc Cert.GateFwdRefIdeal.main_arg1) = m' ((c.tc : Thread Cert.GateFwdRefIdeal.nD Cert.GateFwdRefIdeal.τ).loc Cert.GateFwdRefIdeal.main_arg1)
          ∧ r.2.mem ((c.tc : Thread Cert.GateFwdRefIdeal.nD Cert.GateFwdRefIdeal.τ).loc Cert.GateFwdRefIdeal.main_arg2) = m' ((c.tc : Thread Cert.GateFwdRefIdeal.nD Cert.GateFwdRefIdeal.τ).loc Cert.GateFwdRefIdeal.main_arg2)
          ∧ r.2.mem ((c.tc : Thread Cert.GateFwdRefIdeal.nD Cert.GateFwdRefIdeal.τ).loc Cert.GateFwdRefIdeal.main_arg3) = m' ((c.tc : Thread Cert.GateFwdRefIdeal.nD Cert.GateFwdRefIdeal.τ).loc Cert.GateFwdRefIdeal.main_arg3))

def preserves_UpFwd_UpFwdIdeal : Prop :=
  True

def algebraic_UpFwdIdeal_UpFwdRefIdeal_pre_finite8 [hUpFwdIdeal : Cert.UpFwdIdeal.Facts] [hUpFwdRefIdeal : Cert.UpFwdRefIdeal.Facts] [hPre_finite8 : Cert.Pre_finite8.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFwdRefIdeal.nD Cert.UpFwdRefIdeal.τ Cert.UpFwdRefIdeal.sig) → Buf (Elt Ideal) ℓ) (g' : Dev Cert.UpFwdRefIdeal.nD → PrngReg), Pre_UpFwdIdeal_finite8 m →
    (∀ c : Dev Cert.UpFwdIdeal.nD,
      m' ((c.tc : Thread Cert.UpFwdRefIdeal.nD Cert.UpFwdRefIdeal.τ).loc Cert.UpFwdRefIdeal.main_arg0) = m ((c.tc : Thread Cert.UpFwdIdeal.nD Cert.UpFwdIdeal.τ).loc Cert.UpFwdIdeal.main_arg0)
      ∧ m' ((c.tc : Thread Cert.UpFwdRefIdeal.nD Cert.UpFwdRefIdeal.τ).loc Cert.UpFwdRefIdeal.main_arg1) = m ((c.tc : Thread Cert.UpFwdIdeal.nD Cert.UpFwdIdeal.τ).loc Cert.UpFwdIdeal.main_arg1)
      ∧ m' ((c.tc : Thread Cert.UpFwdRefIdeal.nD Cert.UpFwdRefIdeal.τ).loc Cert.UpFwdRefIdeal.main_arg2) = m ((c.tc : Thread Cert.UpFwdIdeal.nD Cert.UpFwdIdeal.τ).loc Cert.UpFwdIdeal.main_arg2)) →
    ∃ (v0 : (c : Dev Cert.UpFwdIdeal.nD) → Buf (Elt Ideal) ((c.tc : Thread Cert.UpFwdIdeal.nD Cert.UpFwdIdeal.τ).loc Cert.UpFwdIdeal.main_v4_0)) (v1 : (c : Dev Cert.UpFwdIdeal.nD) → Buf (Elt Ideal) ((c.tc : Thread Cert.UpFwdIdeal.nD Cert.UpFwdIdeal.τ).loc Cert.UpFwdIdeal.main_v4_1)) (v2 : (c : Dev Cert.UpFwdIdeal.nD) → Buf (Elt Ideal) ((c.tc : Thread Cert.UpFwdIdeal.nD Cert.UpFwdIdeal.τ).loc Cert.UpFwdIdeal.main_v4_2)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v4_0) = v0 c
          ∧ r.2.mem ((c.tc : Thread Cert.UpFwdIdeal.nD Cert.UpFwdIdeal.τ).loc Cert.UpFwdIdeal.main_v4_1) = v1 c
          ∧ r.2.mem ((c.tc : Thread Cert.UpFwdIdeal.nD Cert.UpFwdIdeal.τ).loc Cert.UpFwdIdeal.main_v4_2) = v2 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1)
          ∧ r.2.mem ((c.tc : Thread Cert.UpFwdIdeal.nD Cert.UpFwdIdeal.τ).loc Cert.UpFwdIdeal.main_arg2) = m ((c.tc : Thread Cert.UpFwdIdeal.nD Cert.UpFwdIdeal.τ).loc Cert.UpFwdIdeal.main_arg2))
      ∧ θ_run (Cert.UpFwdRefIdeal.defs (F := Ideal)) (onTc (τ := Cert.UpFwdRefIdeal.τ) (Cert.UpFwdRefIdeal.main (F := Ideal))) ⟨m', fun _ => 0, g'⟩ (fun r => ∀ c : Dev Cert.UpFwdRefIdeal.nD,
          r.2.mem ((c.tc : Thread Cert.UpFwdRefIdeal.nD Cert.UpFwdRefIdeal.τ).loc Cert.UpFwdRefIdeal.main_v3) = v0 c
          ∧ r.2.mem ((c.tc : Thread Cert.UpFwdRefIdeal.nD Cert.UpFwdRefIdeal.τ).loc Cert.UpFwdRefIdeal.main_v4) = v1 c
          ∧ r.2.mem ((c.tc : Thread Cert.UpFwdRefIdeal.nD Cert.UpFwdRefIdeal.τ).loc Cert.UpFwdRefIdeal.main_v6) = v2 c
          ∧ r.2.mem ((c.tc : Thread Cert.UpFwdRefIdeal.nD Cert.UpFwdRefIdeal.τ).loc Cert.UpFwdRefIdeal.main_arg0) = m' ((c.tc : Thread Cert.UpFwdRefIdeal.nD Cert.UpFwdRefIdeal.τ).loc Cert.UpFwdRefIdeal.main_arg0)
          ∧ r.2.mem ((c.tc : Thread Cert.UpFwdRefIdeal.nD Cert.UpFwdRefIdeal.τ).loc Cert.UpFwdRefIdeal.main_arg1) = m' ((c.tc : Thread Cert.UpFwdRefIdeal.nD Cert.UpFwdRefIdeal.τ).loc Cert.UpFwdRefIdeal.main_arg1)
          ∧ r.2.mem ((c.tc : Thread Cert.UpFwdRefIdeal.nD Cert.UpFwdRefIdeal.τ).loc Cert.UpFwdRefIdeal.main_arg2) = m' ((c.tc : Thread Cert.UpFwdRefIdeal.nD Cert.UpFwdRefIdeal.τ).loc Cert.UpFwdRefIdeal.main_arg2))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)
      ∧ m' ((c.tc : Thread Cert.DownFwdRefIdeal.nD Cert.DownFwdRefIdeal.τ).loc Cert.DownFwdRefIdeal.main_arg2) = m ((c.tc : Thread Cert.DownFwdIdeal.nD Cert.DownFwdIdeal.τ).loc Cert.DownFwdIdeal.main_arg2)
      ∧ m' ((c.tc : Thread Cert.DownFwdRefIdeal.nD Cert.DownFwdRefIdeal.τ).loc Cert.DownFwdRefIdeal.main_arg3) = m ((c.tc : Thread Cert.DownFwdIdeal.nD Cert.DownFwdIdeal.τ).loc Cert.DownFwdIdeal.main_arg3)) →
    ∃ (v0 : (c : Dev Cert.DownFwdIdeal.nD) → Buf (Elt Ideal) ((c.tc : Thread Cert.DownFwdIdeal.nD Cert.DownFwdIdeal.τ).loc Cert.DownFwdIdeal.main_v2_0)) (v1 : (c : Dev Cert.DownFwdIdeal.nD) → Buf (Elt Ideal) ((c.tc : Thread Cert.DownFwdIdeal.nD Cert.DownFwdIdeal.τ).loc Cert.DownFwdIdeal.main_v2_1)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v2_0) = v0 c
          ∧ r.2.mem ((c.tc : Thread Cert.DownFwdIdeal.nD Cert.DownFwdIdeal.τ).loc Cert.DownFwdIdeal.main_v2_1) = v1 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
          ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2)
          ∧ r.2.mem ((c.tc : Thread Cert.DownFwdIdeal.nD Cert.DownFwdIdeal.τ).loc Cert.DownFwdIdeal.main_arg3) = m ((c.tc : Thread Cert.DownFwdIdeal.nD Cert.DownFwdIdeal.τ).loc Cert.DownFwdIdeal.main_arg3))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v1) = v0 c
          ∧ r.2.mem ((c.tc : Thread Cert.DownFwdRefIdeal.nD Cert.DownFwdRefIdeal.τ).loc Cert.DownFwdRefIdeal.main_v14) = v1 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1)
          ∧ r.2.mem ((c.tc : Thread Cert.DownFwdRefIdeal.nD Cert.DownFwdRefIdeal.τ).loc Cert.DownFwdRefIdeal.main_arg2) = m' ((c.tc : Thread Cert.DownFwdRefIdeal.nD Cert.DownFwdRefIdeal.τ).loc Cert.DownFwdRefIdeal.main_arg2)
          ∧ r.2.mem ((c.tc : Thread Cert.DownFwdRefIdeal.nD Cert.DownFwdRefIdeal.τ).loc Cert.DownFwdRefIdeal.main_arg3) = m' ((c.tc : Thread Cert.DownFwdRefIdeal.nD Cert.DownFwdRefIdeal.τ).loc Cert.DownFwdRefIdeal.main_arg3))

def preserves_LossHead_LossHeadIdeal : Prop :=
  True

def algebraic_LossHeadIdeal_LossHeadRefIdeal_pre_finite10 [hLossHeadIdeal : Cert.LossHeadIdeal.Facts] [hLossHeadRefIdeal : Cert.LossHeadRefIdeal.Facts] [hPre_finite10 : Cert.Pre_finite10.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal_finite10 m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)
      ∧ m' ((c.tc : Thread Cert.LossHeadRefIdeal.nD Cert.LossHeadRefIdeal.τ).loc Cert.LossHeadRefIdeal.main_arg3) = m ((c.tc : Thread Cert.LossHeadIdeal.nD Cert.LossHeadIdeal.τ).loc Cert.LossHeadIdeal.main_arg3)
      ∧ m' ((c.tc : Thread Cert.LossHeadRefIdeal.nD Cert.LossHeadRefIdeal.τ).loc Cert.LossHeadRefIdeal.main_arg4) = m ((c.tc : Thread Cert.LossHeadIdeal.nD Cert.LossHeadIdeal.τ).loc Cert.LossHeadIdeal.main_arg4)) →
    ∃ (v0 : (c : Dev Cert.LossHeadIdeal.nD) → Buf (Elt Ideal) ((c.tc : Thread Cert.LossHeadIdeal.nD Cert.LossHeadIdeal.τ).loc Cert.LossHeadIdeal.main_v2_0)) (v1 : (c : Dev Cert.LossHeadIdeal.nD) → Buf (Elt Ideal) ((c.tc : Thread Cert.LossHeadIdeal.nD Cert.LossHeadIdeal.τ).loc Cert.LossHeadIdeal.main_v2_1)) (v2 : (c : Dev Cert.LossHeadIdeal.nD) → Buf (Elt Ideal) ((c.tc : Thread Cert.LossHeadIdeal.nD Cert.LossHeadIdeal.τ).loc Cert.LossHeadIdeal.main_v2_2)) (v3 : (c : Dev Cert.LossHeadIdeal.nD) → Buf (Elt Ideal) ((c.tc : Thread Cert.LossHeadIdeal.nD Cert.LossHeadIdeal.τ).loc Cert.LossHeadIdeal.main_v2_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v2_0) = v0 c
          ∧ r.2.mem ((c.tc : Thread Cert.LossHeadIdeal.nD Cert.LossHeadIdeal.τ).loc Cert.LossHeadIdeal.main_v2_1) = v1 c
          ∧ r.2.mem ((c.tc : Thread Cert.LossHeadIdeal.nD Cert.LossHeadIdeal.τ).loc Cert.LossHeadIdeal.main_v2_2) = v2 c
          ∧ r.2.mem ((c.tc : Thread Cert.LossHeadIdeal.nD Cert.LossHeadIdeal.τ).loc Cert.LossHeadIdeal.main_v2_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
          ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
          ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v50) = v0 c
          ∧ r.2.mem ((c.tc : Thread Cert.LossHeadRefIdeal.nD Cert.LossHeadRefIdeal.τ).loc Cert.LossHeadRefIdeal.main_v51) = v1 c
          ∧ r.2.mem ((c.tc : Thread Cert.LossHeadRefIdeal.nD Cert.LossHeadRefIdeal.τ).loc Cert.LossHeadRefIdeal.main_v34) = v2 c
          ∧ r.2.mem ((c.tc : Thread Cert.LossHeadRefIdeal.nD Cert.LossHeadRefIdeal.τ).loc Cert.LossHeadRefIdeal.main_v57) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2)
          ∧ r.2.mem ((c.tc : Thread Cert.LossHeadRefIdeal.nD Cert.LossHeadRefIdeal.τ).loc Cert.LossHeadRefIdeal.main_arg3) = m' ((c.tc : Thread Cert.LossHeadRefIdeal.nD Cert.LossHeadRefIdeal.τ).loc Cert.LossHeadRefIdeal.main_arg3)
          ∧ r.2.mem ((c.tc : Thread Cert.LossHeadRefIdeal.nD Cert.LossHeadRefIdeal.τ).loc Cert.LossHeadRefIdeal.main_arg4) = m' ((c.tc : Thread Cert.LossHeadRefIdeal.nD Cert.LossHeadRefIdeal.τ).loc Cert.LossHeadRefIdeal.main_arg4))

def preserves_OddFwd_OddFwdIdeal : Prop :=
  True

def algebraic_OddFwdIdeal_OddFwdRefIdeal [hOddFwdIdeal : Cert.OddFwdIdeal.Facts] [hOddFwdRefIdeal : Cert.OddFwdRefIdeal.Facts] : Prop :=
  ∀ (m : (ℓ : Loc Cert.OddFwdIdeal.nD Cert.OddFwdIdeal.τ Cert.OddFwdIdeal.sig) → Buf (Elt Ideal) ℓ) (g : Dev Cert.OddFwdIdeal.nD → PrngReg)
    (m' : (ℓ : Loc Cert.OddFwdRefIdeal.nD Cert.OddFwdRefIdeal.τ Cert.OddFwdRefIdeal.sig) → Buf (Elt Ideal) ℓ) (g' : Dev Cert.OddFwdRefIdeal.nD → PrngReg), Pre_OddFwdIdeal m →
    (∀ c : Dev Cert.OddFwdIdeal.nD,
      m' ((c.tc : Thread Cert.OddFwdRefIdeal.nD Cert.OddFwdRefIdeal.τ).loc Cert.OddFwdRefIdeal.main_arg0) = m ((c.tc : Thread Cert.OddFwdIdeal.nD Cert.OddFwdIdeal.τ).loc Cert.OddFwdIdeal.main_arg0)
      ∧ m' ((c.tc : Thread Cert.OddFwdRefIdeal.nD Cert.OddFwdRefIdeal.τ).loc Cert.OddFwdRefIdeal.main_arg1) = m ((c.tc : Thread Cert.OddFwdIdeal.nD Cert.OddFwdIdeal.τ).loc Cert.OddFwdIdeal.main_arg1)
      ∧ m' ((c.tc : Thread Cert.OddFwdRefIdeal.nD Cert.OddFwdRefIdeal.τ).loc Cert.OddFwdRefIdeal.main_arg2) = m ((c.tc : Thread Cert.OddFwdIdeal.nD Cert.OddFwdIdeal.τ).loc Cert.OddFwdIdeal.main_arg2)
      ∧ m' ((c.tc : Thread Cert.OddFwdRefIdeal.nD Cert.OddFwdRefIdeal.τ).loc Cert.OddFwdRefIdeal.main_arg3) = m ((c.tc : Thread Cert.OddFwdIdeal.nD Cert.OddFwdIdeal.τ).loc Cert.OddFwdIdeal.main_arg3)
      ∧ m' ((c.tc : Thread Cert.OddFwdRefIdeal.nD Cert.OddFwdRefIdeal.τ).loc Cert.OddFwdRefIdeal.main_arg4) = m ((c.tc : Thread Cert.OddFwdIdeal.nD Cert.OddFwdIdeal.τ).loc Cert.OddFwdIdeal.main_arg4)
      ∧ m' ((c.tc : Thread Cert.OddFwdRefIdeal.nD Cert.OddFwdRefIdeal.τ).loc Cert.OddFwdRefIdeal.main_arg5) = m ((c.tc : Thread Cert.OddFwdIdeal.nD Cert.OddFwdIdeal.τ).loc Cert.OddFwdIdeal.main_arg5)
      ∧ m' ((c.tc : Thread Cert.OddFwdRefIdeal.nD Cert.OddFwdRefIdeal.τ).loc Cert.OddFwdRefIdeal.main_arg6) = m ((c.tc : Thread Cert.OddFwdIdeal.nD Cert.OddFwdIdeal.τ).loc Cert.OddFwdIdeal.main_arg6)
      ∧ m' ((c.tc : Thread Cert.OddFwdRefIdeal.nD Cert.OddFwdRefIdeal.τ).loc Cert.OddFwdRefIdeal.main_arg7) = m ((c.tc : Thread Cert.OddFwdIdeal.nD Cert.OddFwdIdeal.τ).loc Cert.OddFwdIdeal.main_arg7)) →
    ∃ (v0 : (c : Dev Cert.OddFwdIdeal.nD) → Buf (Elt Ideal) ((c.tc : Thread Cert.OddFwdIdeal.nD Cert.OddFwdIdeal.τ).loc Cert.OddFwdIdeal.main_v12_0)) (v1 : (c : Dev Cert.OddFwdIdeal.nD) → Buf (Elt Ideal) ((c.tc : Thread Cert.OddFwdIdeal.nD Cert.OddFwdIdeal.τ).loc Cert.OddFwdIdeal.main_v12_1)) (v2 : (c : Dev Cert.OddFwdIdeal.nD) → Buf (Elt Ideal) ((c.tc : Thread Cert.OddFwdIdeal.nD Cert.OddFwdIdeal.τ).loc Cert.OddFwdIdeal.main_v12_2)) (v3 : (c : Dev Cert.OddFwdIdeal.nD) → Buf (Elt Ideal) ((c.tc : Thread Cert.OddFwdIdeal.nD Cert.OddFwdIdeal.τ).loc Cert.OddFwdIdeal.main_v12_3)) (v4 : (c : Dev Cert.OddFwdIdeal.nD) → Buf (Elt Ideal) ((c.tc : Thread Cert.OddFwdIdeal.nD Cert.OddFwdIdeal.τ).loc Cert.OddFwdIdeal.main_v12_4)),
      θ_run (Cert.OddFwdIdeal.defs (F := Ideal)) (onTc (τ := Cert.OddFwdIdeal.τ) (Cert.OddFwdIdeal.main (F := Ideal))) ⟨m, fun _ => 0, g⟩ (fun r => ∀ c : Dev Cert.OddFwdIdeal.nD,
          r.2.mem ((c.tc : Thread Cert.OddFwdIdeal.nD Cert.OddFwdIdeal.τ).loc Cert.OddFwdIdeal.main_v12_0) = v0 c
          ∧ r.2.mem ((c.tc : Thread Cert.OddFwdIdeal.nD Cert.OddFwdIdeal.τ).loc Cert.OddFwdIdeal.main_v12_1) = v1 c
          ∧ r.2.mem ((c.tc : Thread Cert.OddFwdIdeal.nD Cert.OddFwdIdeal.τ).loc Cert.OddFwdIdeal.main_v12_2) = v2 c
          ∧ r.2.mem ((c.tc : Thread Cert.OddFwdIdeal.nD Cert.OddFwdIdeal.τ).loc Cert.OddFwdIdeal.main_v12_3) = v3 c
          ∧ r.2.mem ((c.tc : Thread Cert.OddFwdIdeal.nD Cert.OddFwdIdeal.τ).loc Cert.OddFwdIdeal.main_v12_4) = v4 c
          ∧ r.2.mem ((c.tc : Thread Cert.OddFwdIdeal.nD Cert.OddFwdIdeal.τ).loc Cert.OddFwdIdeal.main_arg0) = m ((c.tc : Thread Cert.OddFwdIdeal.nD Cert.OddFwdIdeal.τ).loc Cert.OddFwdIdeal.main_arg0)
          ∧ r.2.mem ((c.tc : Thread Cert.OddFwdIdeal.nD Cert.OddFwdIdeal.τ).loc Cert.OddFwdIdeal.main_arg1) = m ((c.tc : Thread Cert.OddFwdIdeal.nD Cert.OddFwdIdeal.τ).loc Cert.OddFwdIdeal.main_arg1)
          ∧ r.2.mem ((c.tc : Thread Cert.OddFwdIdeal.nD Cert.OddFwdIdeal.τ).loc Cert.OddFwdIdeal.main_arg2) = m ((c.tc : Thread Cert.OddFwdIdeal.nD Cert.OddFwdIdeal.τ).loc Cert.OddFwdIdeal.main_arg2)
          ∧ r.2.mem ((c.tc : Thread Cert.OddFwdIdeal.nD Cert.OddFwdIdeal.τ).loc Cert.OddFwdIdeal.main_arg3) = m ((c.tc : Thread Cert.OddFwdIdeal.nD Cert.OddFwdIdeal.τ).loc Cert.OddFwdIdeal.main_arg3)
          ∧ r.2.mem ((c.tc : Thread Cert.OddFwdIdeal.nD Cert.OddFwdIdeal.τ).loc Cert.OddFwdIdeal.main_arg4) = m ((c.tc : Thread Cert.OddFwdIdeal.nD Cert.OddFwdIdeal.τ).loc Cert.OddFwdIdeal.main_arg4)
          ∧ r.2.mem ((c.tc : Thread Cert.OddFwdIdeal.nD Cert.OddFwdIdeal.τ).loc Cert.OddFwdIdeal.main_arg5) = m ((c.tc : Thread Cert.OddFwdIdeal.nD Cert.OddFwdIdeal.τ).loc Cert.OddFwdIdeal.main_arg5)
          ∧ r.2.mem ((c.tc : Thread Cert.OddFwdIdeal.nD Cert.OddFwdIdeal.τ).loc Cert.OddFwdIdeal.main_arg6) = m ((c.tc : Thread Cert.OddFwdIdeal.nD Cert.OddFwdIdeal.τ).loc Cert.OddFwdIdeal.main_arg6)
          ∧ r.2.mem ((c.tc : Thread Cert.OddFwdIdeal.nD Cert.OddFwdIdeal.τ).loc Cert.OddFwdIdeal.main_arg7) = m ((c.tc : Thread Cert.OddFwdIdeal.nD Cert.OddFwdIdeal.τ).loc Cert.OddFwdIdeal.main_arg7))
      ∧ θ_run (Cert.OddFwdRefIdeal.defs (F := Ideal)) (onTc (τ := Cert.OddFwdRefIdeal.τ) (Cert.OddFwdRefIdeal.main (F := Ideal))) ⟨m', fun _ => 0, g'⟩ (fun r => ∀ c : Dev Cert.OddFwdRefIdeal.nD,
          r.2.mem ((c.tc : Thread Cert.OddFwdRefIdeal.nD Cert.OddFwdRefIdeal.τ).loc Cert.OddFwdRefIdeal.main_v38) = v0 c
          ∧ r.2.mem ((c.tc : Thread Cert.OddFwdRefIdeal.nD Cert.OddFwdRefIdeal.τ).loc Cert.OddFwdRefIdeal.main_v39) = v1 c
          ∧ r.2.mem ((c.tc : Thread Cert.OddFwdRefIdeal.nD Cert.OddFwdRefIdeal.τ).loc Cert.OddFwdRefIdeal.main_v40) = v2 c
          ∧ r.2.mem ((c.tc : Thread Cert.OddFwdRefIdeal.nD Cert.OddFwdRefIdeal.τ).loc Cert.OddFwdRefIdeal.main_v37) = v3 c
          ∧ r.2.mem ((c.tc : Thread Cert.OddFwdRefIdeal.nD Cert.OddFwdRefIdeal.τ).loc Cert.OddFwdRefIdeal.main_v53) = v4 c
          ∧ r.2.mem ((c.tc : Thread Cert.OddFwdRefIdeal.nD Cert.OddFwdRefIdeal.τ).loc Cert.OddFwdRefIdeal.main_arg0) = m' ((c.tc : Thread Cert.OddFwdRefIdeal.nD Cert.OddFwdRefIdeal.τ).loc Cert.OddFwdRefIdeal.main_arg0)
          ∧ r.2.mem ((c.tc : Thread Cert.OddFwdRefIdeal.nD Cert.OddFwdRefIdeal.τ).loc Cert.OddFwdRefIdeal.main_arg1) = m' ((c.tc : Thread Cert.OddFwdRefIdeal.nD Cert.OddFwdRefIdeal.τ).loc Cert.OddFwdRefIdeal.main_arg1)
          ∧ r.2.mem ((c.tc : Thread Cert.OddFwdRefIdeal.nD Cert.OddFwdRefIdeal.τ).loc Cert.OddFwdRefIdeal.main_arg2) = m' ((c.tc : Thread Cert.OddFwdRefIdeal.nD Cert.OddFwdRefIdeal.τ).loc Cert.OddFwdRefIdeal.main_arg2)
          ∧ r.2.mem ((c.tc : Thread Cert.OddFwdRefIdeal.nD Cert.OddFwdRefIdeal.τ).loc Cert.OddFwdRefIdeal.main_arg3) = m' ((c.tc : Thread Cert.OddFwdRefIdeal.nD Cert.OddFwdRefIdeal.τ).loc Cert.OddFwdRefIdeal.main_arg3)
          ∧ r.2.mem ((c.tc : Thread Cert.OddFwdRefIdeal.nD Cert.OddFwdRefIdeal.τ).loc Cert.OddFwdRefIdeal.main_arg4) = m' ((c.tc : Thread Cert.OddFwdRefIdeal.nD Cert.OddFwdRefIdeal.τ).loc Cert.OddFwdRefIdeal.main_arg4)
          ∧ r.2.mem ((c.tc : Thread Cert.OddFwdRefIdeal.nD Cert.OddFwdRefIdeal.τ).loc Cert.OddFwdRefIdeal.main_arg5) = m' ((c.tc : Thread Cert.OddFwdRefIdeal.nD Cert.OddFwdRefIdeal.τ).loc Cert.OddFwdRefIdeal.main_arg5)
          ∧ r.2.mem ((c.tc : Thread Cert.OddFwdRefIdeal.nD Cert.OddFwdRefIdeal.τ).loc Cert.OddFwdRefIdeal.main_arg6) = m' ((c.tc : Thread Cert.OddFwdRefIdeal.nD Cert.OddFwdRefIdeal.τ).loc Cert.OddFwdRefIdeal.main_arg6)
          ∧ r.2.mem ((c.tc : Thread Cert.OddFwdRefIdeal.nD Cert.OddFwdRefIdeal.τ).loc Cert.OddFwdRefIdeal.main_arg7) = m' ((c.tc : Thread Cert.OddFwdRefIdeal.nD Cert.OddFwdRefIdeal.τ).loc Cert.OddFwdRefIdeal.main_arg7))

def preserves_EvenFwd_EvenFwdIdeal : Prop :=
  True

def algebraic_EvenFwdIdeal_EvenFwdRefIdeal_pre_finite12 [hEvenFwdIdeal : Cert.EvenFwdIdeal.Facts] [hEvenFwdRefIdeal : Cert.EvenFwdRefIdeal.Facts] [hPre_finite12 : Cert.Pre_finite12.Facts] : Prop :=
  ∀ (m : (ℓ : Loc Cert.EvenFwdIdeal.nD Cert.EvenFwdIdeal.τ Cert.EvenFwdIdeal.sig) → Buf (Elt Ideal) ℓ) (g : Dev Cert.EvenFwdIdeal.nD → PrngReg)
    (m' : (ℓ : Loc Cert.EvenFwdRefIdeal.nD Cert.EvenFwdRefIdeal.τ Cert.EvenFwdRefIdeal.sig) → Buf (Elt Ideal) ℓ) (g' : Dev Cert.EvenFwdRefIdeal.nD → PrngReg), Pre_EvenFwdIdeal_finite12 m →
    (∀ c : Dev Cert.EvenFwdIdeal.nD,
      m' ((c.tc : Thread Cert.EvenFwdRefIdeal.nD Cert.EvenFwdRefIdeal.τ).loc Cert.EvenFwdRefIdeal.main_arg0) = m ((c.tc : Thread Cert.EvenFwdIdeal.nD Cert.EvenFwdIdeal.τ).loc Cert.EvenFwdIdeal.main_arg0)
      ∧ m' ((c.tc : Thread Cert.EvenFwdRefIdeal.nD Cert.EvenFwdRefIdeal.τ).loc Cert.EvenFwdRefIdeal.main_arg1) = m ((c.tc : Thread Cert.EvenFwdIdeal.nD Cert.EvenFwdIdeal.τ).loc Cert.EvenFwdIdeal.main_arg1)
      ∧ m' ((c.tc : Thread Cert.EvenFwdRefIdeal.nD Cert.EvenFwdRefIdeal.τ).loc Cert.EvenFwdRefIdeal.main_arg2) = m ((c.tc : Thread Cert.EvenFwdIdeal.nD Cert.EvenFwdIdeal.τ).loc Cert.EvenFwdIdeal.main_arg2)
      ∧ m' ((c.tc : Thread Cert.EvenFwdRefIdeal.nD Cert.EvenFwdRefIdeal.τ).loc Cert.EvenFwdRefIdeal.main_arg3) = m ((c.tc : Thread Cert.EvenFwdIdeal.nD Cert.EvenFwdIdeal.τ).loc Cert.EvenFwdIdeal.main_arg3)
      ∧ m' ((c.tc : Thread Cert.EvenFwdRefIdeal.nD Cert.EvenFwdRefIdeal.τ).loc Cert.EvenFwdRefIdeal.main_arg4) = m ((c.tc : Thread Cert.EvenFwdIdeal.nD Cert.EvenFwdIdeal.τ).loc Cert.EvenFwdIdeal.main_arg4)
      ∧ m' ((c.tc : Thread Cert.EvenFwdRefIdeal.nD Cert.EvenFwdRefIdeal.τ).loc Cert.EvenFwdRefIdeal.main_arg5) = m ((c.tc : Thread Cert.EvenFwdIdeal.nD Cert.EvenFwdIdeal.τ).loc Cert.EvenFwdIdeal.main_arg5)
      ∧ m' ((c.tc : Thread Cert.EvenFwdRefIdeal.nD Cert.EvenFwdRefIdeal.τ).loc Cert.EvenFwdRefIdeal.main_arg6) = m ((c.tc : Thread Cert.EvenFwdIdeal.nD Cert.EvenFwdIdeal.τ).loc Cert.EvenFwdIdeal.main_arg6)
      ∧ m' ((c.tc : Thread Cert.EvenFwdRefIdeal.nD Cert.EvenFwdRefIdeal.τ).loc Cert.EvenFwdRefIdeal.main_arg7) = m ((c.tc : Thread Cert.EvenFwdIdeal.nD Cert.EvenFwdIdeal.τ).loc Cert.EvenFwdIdeal.main_arg7)) →
    ∃ (v0 : (c : Dev Cert.EvenFwdIdeal.nD) → Buf (Elt Ideal) ((c.tc : Thread Cert.EvenFwdIdeal.nD Cert.EvenFwdIdeal.τ).loc Cert.EvenFwdIdeal.main_v3_0)) (v1 : (c : Dev Cert.EvenFwdIdeal.nD) → Buf (Elt Ideal) ((c.tc : Thread Cert.EvenFwdIdeal.nD Cert.EvenFwdIdeal.τ).loc Cert.EvenFwdIdeal.main_v3_1)) (v2 : (c : Dev Cert.EvenFwdIdeal.nD) → Buf (Elt Ideal) ((c.tc : Thread Cert.EvenFwdIdeal.nD Cert.EvenFwdIdeal.τ).loc Cert.EvenFwdIdeal.main_v3_2)) (v3 : (c : Dev Cert.EvenFwdIdeal.nD) → Buf (Elt Ideal) ((c.tc : Thread Cert.EvenFwdIdeal.nD Cert.EvenFwdIdeal.τ).loc Cert.EvenFwdIdeal.main_v3_3)) (v4 : (c : Dev Cert.EvenFwdIdeal.nD) → Buf (Elt Ideal) ((c.tc : Thread Cert.EvenFwdIdeal.nD Cert.EvenFwdIdeal.τ).loc Cert.EvenFwdIdeal.main_v3_4)) (v5 : (c : Dev Cert.EvenFwdIdeal.nD) → Buf (Elt Ideal) ((c.tc : Thread Cert.EvenFwdIdeal.nD Cert.EvenFwdIdeal.τ).loc Cert.EvenFwdIdeal.main_v3_5)) (v6 : (c : Dev Cert.EvenFwdIdeal.nD) → Buf (Elt Ideal) ((c.tc : Thread Cert.EvenFwdIdeal.nD Cert.EvenFwdIdeal.τ).loc Cert.EvenFwdIdeal.main_v3_6)),
      θ_run (Cert.EvenFwdIdeal.defs (F := Ideal)) (onTc (τ := Cert.EvenFwdIdeal.τ) (Cert.EvenFwdIdeal.main (F := Ideal))) ⟨m, fun _ => 0, g⟩ (fun r => ∀ c : Dev Cert.EvenFwdIdeal.nD,
          r.2.mem ((c.tc : Thread Cert.EvenFwdIdeal.nD Cert.EvenFwdIdeal.τ).loc Cert.EvenFwdIdeal.main_v3_0) = v0 c
          ∧ r.2.mem ((c.tc : Thread Cert.EvenFwdIdeal.nD Cert.EvenFwdIdeal.τ).loc Cert.EvenFwdIdeal.main_v3_1) = v1 c
          ∧ r.2.mem ((c.tc : Thread Cert.EvenFwdIdeal.nD Cert.EvenFwdIdeal.τ).loc Cert.EvenFwdIdeal.main_v3_2) = v2 c
          ∧ r.2.mem ((c.tc : Thread Cert.EvenFwdIdeal.nD Cert.EvenFwdIdeal.τ).loc Cert.EvenFwdIdeal.main_v3_3) = v3 c
          ∧ r.2.mem ((c.tc : Thread Cert.EvenFwdIdeal.nD Cert.EvenFwdIdeal.τ).loc Cert.EvenFwdIdeal.main_v3_4) = v4 c
          ∧ r.2.mem ((c.tc : Thread Cert.EvenFwdIdeal.nD Cert.EvenFwdIdeal.τ).loc Cert.EvenFwdIdeal.main_v3_5) = v5 c
          ∧ r.2.mem ((c.tc : Thread Cert.EvenFwdIdeal.nD Cert.EvenFwdIdeal.τ).loc Cert.EvenFwdIdeal.main_v3_6) = v6 c
          ∧ r.2.mem ((c.tc : Thread Cert.EvenFwdIdeal.nD Cert.EvenFwdIdeal.τ).loc Cert.EvenFwdIdeal.main_arg0) = m ((c.tc : Thread Cert.EvenFwdIdeal.nD Cert.EvenFwdIdeal.τ).loc Cert.EvenFwdIdeal.main_arg0)
          ∧ r.2.mem ((c.tc : Thread Cert.EvenFwdIdeal.nD Cert.EvenFwdIdeal.τ).loc Cert.EvenFwdIdeal.main_arg1) = m ((c.tc : Thread Cert.EvenFwdIdeal.nD Cert.EvenFwdIdeal.τ).loc Cert.EvenFwdIdeal.main_arg1)
          ∧ r.2.mem ((c.tc : Thread Cert.EvenFwdIdeal.nD Cert.EvenFwdIdeal.τ).loc Cert.EvenFwdIdeal.main_arg2) = m ((c.tc : Thread Cert.EvenFwdIdeal.nD Cert.EvenFwdIdeal.τ).loc Cert.EvenFwdIdeal.main_arg2)
          ∧ r.2.mem ((c.tc : Thread Cert.EvenFwdIdeal.nD Cert.EvenFwdIdeal.τ).loc Cert.EvenFwdIdeal.main_arg3) = m ((c.tc : Thread Cert.EvenFwdIdeal.nD Cert.EvenFwdIdeal.τ).loc Cert.EvenFwdIdeal.main_arg3)
          ∧ r.2.mem ((c.tc : Thread Cert.EvenFwdIdeal.nD Cert.EvenFwdIdeal.τ).loc Cert.EvenFwdIdeal.main_arg4) = m ((c.tc : Thread Cert.EvenFwdIdeal.nD Cert.EvenFwdIdeal.τ).loc Cert.EvenFwdIdeal.main_arg4)
          ∧ r.2.mem ((c.tc : Thread Cert.EvenFwdIdeal.nD Cert.EvenFwdIdeal.τ).loc Cert.EvenFwdIdeal.main_arg5) = m ((c.tc : Thread Cert.EvenFwdIdeal.nD Cert.EvenFwdIdeal.τ).loc Cert.EvenFwdIdeal.main_arg5)
          ∧ r.2.mem ((c.tc : Thread Cert.EvenFwdIdeal.nD Cert.EvenFwdIdeal.τ).loc Cert.EvenFwdIdeal.main_arg6) = m ((c.tc : Thread Cert.EvenFwdIdeal.nD Cert.EvenFwdIdeal.τ).loc Cert.EvenFwdIdeal.main_arg6)
          ∧ r.2.mem ((c.tc : Thread Cert.EvenFwdIdeal.nD Cert.EvenFwdIdeal.τ).loc Cert.EvenFwdIdeal.main_arg7) = m ((c.tc : Thread Cert.EvenFwdIdeal.nD Cert.EvenFwdIdeal.τ).loc Cert.EvenFwdIdeal.main_arg7))
      ∧ θ_run (Cert.EvenFwdRefIdeal.defs (F := Ideal)) (onTc (τ := Cert.EvenFwdRefIdeal.τ) (Cert.EvenFwdRefIdeal.main (F := Ideal))) ⟨m', fun _ => 0, g'⟩ (fun r => ∀ c : Dev Cert.EvenFwdRefIdeal.nD,
          r.2.mem ((c.tc : Thread Cert.EvenFwdRefIdeal.nD Cert.EvenFwdRefIdeal.τ).loc Cert.EvenFwdRefIdeal.main_v188) = v0 c
          ∧ r.2.mem ((c.tc : Thread Cert.EvenFwdRefIdeal.nD Cert.EvenFwdRefIdeal.τ).loc Cert.EvenFwdRefIdeal.main_v189) = v1 c
          ∧ r.2.mem ((c.tc : Thread Cert.EvenFwdRefIdeal.nD Cert.EvenFwdRefIdeal.τ).loc Cert.EvenFwdRefIdeal.main_v190) = v2 c
          ∧ r.2.mem ((c.tc : Thread Cert.EvenFwdRefIdeal.nD Cert.EvenFwdRefIdeal.τ).loc Cert.EvenFwdRefIdeal.main_v191) = v3 c
          ∧ r.2.mem ((c.tc : Thread Cert.EvenFwdRefIdeal.nD Cert.EvenFwdRefIdeal.τ).loc Cert.EvenFwdRefIdeal.main_v192) = v4 c
          ∧ r.2.mem ((c.tc : Thread Cert.EvenFwdRefIdeal.nD Cert.EvenFwdRefIdeal.τ).loc Cert.EvenFwdRefIdeal.main_v111) = v5 c
          ∧ r.2.mem ((c.tc : Thread Cert.EvenFwdRefIdeal.nD Cert.EvenFwdRefIdeal.τ).loc Cert.EvenFwdRefIdeal.main_v193) = v6 c
          ∧ r.2.mem ((c.tc : Thread Cert.EvenFwdRefIdeal.nD Cert.EvenFwdRefIdeal.τ).loc Cert.EvenFwdRefIdeal.main_arg0) = m' ((c.tc : Thread Cert.EvenFwdRefIdeal.nD Cert.EvenFwdRefIdeal.τ).loc Cert.EvenFwdRefIdeal.main_arg0)
          ∧ r.2.mem ((c.tc : Thread Cert.EvenFwdRefIdeal.nD Cert.EvenFwdRefIdeal.τ).loc Cert.EvenFwdRefIdeal.main_arg1) = m' ((c.tc : Thread Cert.EvenFwdRefIdeal.nD Cert.EvenFwdRefIdeal.τ).loc Cert.EvenFwdRefIdeal.main_arg1)
          ∧ r.2.mem ((c.tc : Thread Cert.EvenFwdRefIdeal.nD Cert.EvenFwdRefIdeal.τ).loc Cert.EvenFwdRefIdeal.main_arg2) = m' ((c.tc : Thread Cert.EvenFwdRefIdeal.nD Cert.EvenFwdRefIdeal.τ).loc Cert.EvenFwdRefIdeal.main_arg2)
          ∧ r.2.mem ((c.tc : Thread Cert.EvenFwdRefIdeal.nD Cert.EvenFwdRefIdeal.τ).loc Cert.EvenFwdRefIdeal.main_arg3) = m' ((c.tc : Thread Cert.EvenFwdRefIdeal.nD Cert.EvenFwdRefIdeal.τ).loc Cert.EvenFwdRefIdeal.main_arg3)
          ∧ r.2.mem ((c.tc : Thread Cert.EvenFwdRefIdeal.nD Cert.EvenFwdRefIdeal.τ).loc Cert.EvenFwdRefIdeal.main_arg4) = m' ((c.tc : Thread Cert.EvenFwdRefIdeal.nD Cert.EvenFwdRefIdeal.τ).loc Cert.EvenFwdRefIdeal.main_arg4)
          ∧ r.2.mem ((c.tc : Thread Cert.EvenFwdRefIdeal.nD Cert.EvenFwdRefIdeal.τ).loc Cert.EvenFwdRefIdeal.main_arg5) = m' ((c.tc : Thread Cert.EvenFwdRefIdeal.nD Cert.EvenFwdRefIdeal.τ).loc Cert.EvenFwdRefIdeal.main_arg5)
          ∧ r.2.mem ((c.tc : Thread Cert.EvenFwdRefIdeal.nD Cert.EvenFwdRefIdeal.τ).loc Cert.EvenFwdRefIdeal.main_arg6) = m' ((c.tc : Thread Cert.EvenFwdRefIdeal.nD Cert.EvenFwdRefIdeal.τ).loc Cert.EvenFwdRefIdeal.main_arg6)
          ∧ r.2.mem ((c.tc : Thread Cert.EvenFwdRefIdeal.nD Cert.EvenFwdRefIdeal.τ).loc Cert.EvenFwdRefIdeal.main_arg7) = m' ((c.tc : Thread Cert.EvenFwdRefIdeal.nD Cert.EvenFwdRefIdeal.τ).loc Cert.EvenFwdRefIdeal.main_arg7))

def preserves_OddBack_OddBackIdeal : Prop :=
  True

def algebraic_OddBackIdeal_OddBackRefIdeal_pre_finite13 [hOddBackIdeal : Cert.OddBackIdeal.Facts] [hOddBackRefIdeal : Cert.OddBackRefIdeal.Facts] [hPre_finite13 : Cert.Pre_finite13.Facts] : Prop :=
  ∀ (m : (ℓ : Loc Cert.OddBackIdeal.nD Cert.OddBackIdeal.τ Cert.OddBackIdeal.sig) → Buf (Elt Ideal) ℓ) (g : Dev Cert.OddBackIdeal.nD → PrngReg)
    (m' : (ℓ : Loc Cert.OddBackRefIdeal.nD Cert.OddBackRefIdeal.τ Cert.OddBackRefIdeal.sig) → Buf (Elt Ideal) ℓ) (g' : Dev Cert.OddBackRefIdeal.nD → PrngReg), Pre_OddBackIdeal_finite13 m →
    (∀ c : Dev Cert.OddBackIdeal.nD,
      m' ((c.tc : Thread Cert.OddBackRefIdeal.nD Cert.OddBackRefIdeal.τ).loc Cert.OddBackRefIdeal.main_arg0) = m ((c.tc : Thread Cert.OddBackIdeal.nD Cert.OddBackIdeal.τ).loc Cert.OddBackIdeal.main_arg0)
      ∧ m' ((c.tc : Thread Cert.OddBackRefIdeal.nD Cert.OddBackRefIdeal.τ).loc Cert.OddBackRefIdeal.main_arg1) = m ((c.tc : Thread Cert.OddBackIdeal.nD Cert.OddBackIdeal.τ).loc Cert.OddBackIdeal.main_arg1)
      ∧ m' ((c.tc : Thread Cert.OddBackRefIdeal.nD Cert.OddBackRefIdeal.τ).loc Cert.OddBackRefIdeal.main_arg2) = m ((c.tc : Thread Cert.OddBackIdeal.nD Cert.OddBackIdeal.τ).loc Cert.OddBackIdeal.main_arg2)
      ∧ m' ((c.tc : Thread Cert.OddBackRefIdeal.nD Cert.OddBackRefIdeal.τ).loc Cert.OddBackRefIdeal.main_arg3) = m ((c.tc : Thread Cert.OddBackIdeal.nD Cert.OddBackIdeal.τ).loc Cert.OddBackIdeal.main_arg3)
      ∧ m' ((c.tc : Thread Cert.OddBackRefIdeal.nD Cert.OddBackRefIdeal.τ).loc Cert.OddBackRefIdeal.main_arg4) = m ((c.tc : Thread Cert.OddBackIdeal.nD Cert.OddBackIdeal.τ).loc Cert.OddBackIdeal.main_arg4)
      ∧ m' ((c.tc : Thread Cert.OddBackRefIdeal.nD Cert.OddBackRefIdeal.τ).loc Cert.OddBackRefIdeal.main_arg5) = m ((c.tc : Thread Cert.OddBackIdeal.nD Cert.OddBackIdeal.τ).loc Cert.OddBackIdeal.main_arg5)
      ∧ m' ((c.tc : Thread Cert.OddBackRefIdeal.nD Cert.OddBackRefIdeal.τ).loc Cert.OddBackRefIdeal.main_arg6) = m ((c.tc : Thread Cert.OddBackIdeal.nD Cert.OddBackIdeal.τ).loc Cert.OddBackIdeal.main_arg6)
      ∧ m' ((c.tc : Thread Cert.OddBackRefIdeal.nD Cert.OddBackRefIdeal.τ).loc Cert.OddBackRefIdeal.main_arg7) = m ((c.tc : Thread Cert.OddBackIdeal.nD Cert.OddBackIdeal.τ).loc Cert.OddBackIdeal.main_arg7)) →
    ∃ (v0 : (c : Dev Cert.OddBackIdeal.nD) → Buf (Elt Ideal) ((c.tc : Thread Cert.OddBackIdeal.nD Cert.OddBackIdeal.τ).loc Cert.OddBackIdeal.main_v54_0)) (v1 : (c : Dev Cert.OddBackIdeal.nD) → Buf (Elt Ideal) ((c.tc : Thread Cert.OddBackIdeal.nD Cert.OddBackIdeal.τ).loc Cert.OddBackIdeal.main_v54_1)) (v2 : (c : Dev Cert.OddBackIdeal.nD) → Buf (Elt Ideal) ((c.tc : Thread Cert.OddBackIdeal.nD Cert.OddBackIdeal.τ).loc Cert.OddBackIdeal.main_v54_2)) (v3 : (c : Dev Cert.OddBackIdeal.nD) → Buf (Elt Ideal) ((c.tc : Thread Cert.OddBackIdeal.nD Cert.OddBackIdeal.τ).loc Cert.OddBackIdeal.main_v54_3)) (v4 : (c : Dev Cert.OddBackIdeal.nD) → Buf (Elt Ideal) ((c.tc : Thread Cert.OddBackIdeal.nD Cert.OddBackIdeal.τ).loc Cert.OddBackIdeal.main_v54_4)) (v5 : (c : Dev Cert.OddBackIdeal.nD) → Buf (Elt Ideal) ((c.tc : Thread Cert.OddBackIdeal.nD Cert.OddBackIdeal.τ).loc Cert.OddBackIdeal.main_v54_5)) (v6 : (c : Dev Cert.OddBackIdeal.nD) → Buf (Elt Ideal) ((c.tc : Thread Cert.OddBackIdeal.nD Cert.OddBackIdeal.τ).loc Cert.OddBackIdeal.main_v54_6)),
      θ_run (Cert.OddBackIdeal.defs (F := Ideal)) (onTc (τ := Cert.OddBackIdeal.τ) (Cert.OddBackIdeal.main (F := Ideal))) ⟨m, fun _ => 0, g⟩ (fun r => ∀ c : Dev Cert.OddBackIdeal.nD,
          r.2.mem ((c.tc : Thread Cert.OddBackIdeal.nD Cert.OddBackIdeal.τ).loc Cert.OddBackIdeal.main_v54_0) = v0 c
          ∧ r.2.mem ((c.tc : Thread Cert.OddBackIdeal.nD Cert.OddBackIdeal.τ).loc Cert.OddBackIdeal.main_v54_1) = v1 c
          ∧ r.2.mem ((c.tc : Thread Cert.OddBackIdeal.nD Cert.OddBackIdeal.τ).loc Cert.OddBackIdeal.main_v54_2) = v2 c
          ∧ r.2.mem ((c.tc : Thread Cert.OddBackIdeal.nD Cert.OddBackIdeal.τ).loc Cert.OddBackIdeal.main_v54_3) = v3 c
          ∧ r.2.mem ((c.tc : Thread Cert.OddBackIdeal.nD Cert.OddBackIdeal.τ).loc Cert.OddBackIdeal.main_v54_4) = v4 c
          ∧ r.2.mem ((c.tc : Thread Cert.OddBackIdeal.nD Cert.OddBackIdeal.τ).loc Cert.OddBackIdeal.main_v54_5) = v5 c
          ∧ r.2.mem ((c.tc : Thread Cert.OddBackIdeal.nD Cert.OddBackIdeal.τ).loc Cert.OddBackIdeal.main_v54_6) = v6 c
          ∧ r.2.mem ((c.tc : Thread Cert.OddBackIdeal.nD Cert.OddBackIdeal.τ).loc Cert.OddBackIdeal.main_arg0) = m ((c.tc : Thread Cert.OddBackIdeal.nD Cert.OddBackIdeal.τ).loc Cert.OddBackIdeal.main_arg0)
          ∧ r.2.mem ((c.tc : Thread Cert.OddBackIdeal.nD Cert.OddBackIdeal.τ).loc Cert.OddBackIdeal.main_arg1) = m ((c.tc : Thread Cert.OddBackIdeal.nD Cert.OddBackIdeal.τ).loc Cert.OddBackIdeal.main_arg1)
          ∧ r.2.mem ((c.tc : Thread Cert.OddBackIdeal.nD Cert.OddBackIdeal.τ).loc Cert.OddBackIdeal.main_arg2) = m ((c.tc : Thread Cert.OddBackIdeal.nD Cert.OddBackIdeal.τ).loc Cert.OddBackIdeal.main_arg2)
          ∧ r.2.mem ((c.tc : Thread Cert.OddBackIdeal.nD Cert.OddBackIdeal.τ).loc Cert.OddBackIdeal.main_arg3) = m ((c.tc : Thread Cert.OddBackIdeal.nD Cert.OddBackIdeal.τ).loc Cert.OddBackIdeal.main_arg3)
          ∧ r.2.mem ((c.tc : Thread Cert.OddBackIdeal.nD Cert.OddBackIdeal.τ).loc Cert.OddBackIdeal.main_arg4) = m ((c.tc : Thread Cert.OddBackIdeal.nD Cert.OddBackIdeal.τ).loc Cert.OddBackIdeal.main_arg4)
          ∧ r.2.mem ((c.tc : Thread Cert.OddBackIdeal.nD Cert.OddBackIdeal.τ).loc Cert.OddBackIdeal.main_arg5) = m ((c.tc : Thread Cert.OddBackIdeal.nD Cert.OddBackIdeal.τ).loc Cert.OddBackIdeal.main_arg5)
          ∧ r.2.mem ((c.tc : Thread Cert.OddBackIdeal.nD Cert.OddBackIdeal.τ).loc Cert.OddBackIdeal.main_arg6) = m ((c.tc : Thread Cert.OddBackIdeal.nD Cert.OddBackIdeal.τ).loc Cert.OddBackIdeal.main_arg6)
          ∧ r.2.mem ((c.tc : Thread Cert.OddBackIdeal.nD Cert.OddBackIdeal.τ).loc Cert.OddBackIdeal.main_arg7) = m ((c.tc : Thread Cert.OddBackIdeal.nD Cert.OddBackIdeal.τ).loc Cert.OddBackIdeal.main_arg7))
      ∧ θ_run (Cert.OddBackRefIdeal.defs (F := Ideal)) (onTc (τ := Cert.OddBackRefIdeal.τ) (Cert.OddBackRefIdeal.main (F := Ideal))) ⟨m', fun _ => 0, g'⟩ (fun r => ∀ c : Dev Cert.OddBackRefIdeal.nD,
          r.2.mem ((c.tc : Thread Cert.OddBackRefIdeal.nD Cert.OddBackRefIdeal.τ).loc Cert.OddBackRefIdeal.main_v125) = v0 c
          ∧ r.2.mem ((c.tc : Thread Cert.OddBackRefIdeal.nD Cert.OddBackRefIdeal.τ).loc Cert.OddBackRefIdeal.main_v126) = v1 c
          ∧ r.2.mem ((c.tc : Thread Cert.OddBackRefIdeal.nD Cert.OddBackRefIdeal.τ).loc Cert.OddBackRefIdeal.main_v128) = v2 c
          ∧ r.2.mem ((c.tc : Thread Cert.OddBackRefIdeal.nD Cert.OddBackRefIdeal.τ).loc Cert.OddBackRefIdeal.main_v108) = v3 c
          ∧ r.2.mem ((c.tc : Thread Cert.OddBackRefIdeal.nD Cert.OddBackRefIdeal.τ).loc Cert.OddBackRefIdeal.main_v70) = v4 c
          ∧ r.2.mem ((c.tc : Thread Cert.OddBackRefIdeal.nD Cert.OddBackRefIdeal.τ).loc Cert.OddBackRefIdeal.main_v64) = v5 c
          ∧ r.2.mem ((c.tc : Thread Cert.OddBackRefIdeal.nD Cert.OddBackRefIdeal.τ).loc Cert.OddBackRefIdeal.main_v62) = v6 c
          ∧ r.2.mem ((c.tc : Thread Cert.OddBackRefIdeal.nD Cert.OddBackRefIdeal.τ).loc Cert.OddBackRefIdeal.main_arg0) = m' ((c.tc : Thread Cert.OddBackRefIdeal.nD Cert.OddBackRefIdeal.τ).loc Cert.OddBackRefIdeal.main_arg0)
          ∧ r.2.mem ((c.tc : Thread Cert.OddBackRefIdeal.nD Cert.OddBackRefIdeal.τ).loc Cert.OddBackRefIdeal.main_arg1) = m' ((c.tc : Thread Cert.OddBackRefIdeal.nD Cert.OddBackRefIdeal.τ).loc Cert.OddBackRefIdeal.main_arg1)
          ∧ r.2.mem ((c.tc : Thread Cert.OddBackRefIdeal.nD Cert.OddBackRefIdeal.τ).loc Cert.OddBackRefIdeal.main_arg2) = m' ((c.tc : Thread Cert.OddBackRefIdeal.nD Cert.OddBackRefIdeal.τ).loc Cert.OddBackRefIdeal.main_arg2)
          ∧ r.2.mem ((c.tc : Thread Cert.OddBackRefIdeal.nD Cert.OddBackRefIdeal.τ).loc Cert.OddBackRefIdeal.main_arg3) = m' ((c.tc : Thread Cert.OddBackRefIdeal.nD Cert.OddBackRefIdeal.τ).loc Cert.OddBackRefIdeal.main_arg3)
          ∧ r.2.mem ((c.tc : Thread Cert.OddBackRefIdeal.nD Cert.OddBackRefIdeal.τ).loc Cert.OddBackRefIdeal.main_arg4) = m' ((c.tc : Thread Cert.OddBackRefIdeal.nD Cert.OddBackRefIdeal.τ).loc Cert.OddBackRefIdeal.main_arg4)
          ∧ r.2.mem ((c.tc : Thread Cert.OddBackRefIdeal.nD Cert.OddBackRefIdeal.τ).loc Cert.OddBackRefIdeal.main_arg5) = m' ((c.tc : Thread Cert.OddBackRefIdeal.nD Cert.OddBackRefIdeal.τ).loc Cert.OddBackRefIdeal.main_arg5)
          ∧ r.2.mem ((c.tc : Thread Cert.OddBackRefIdeal.nD Cert.OddBackRefIdeal.τ).loc Cert.OddBackRefIdeal.main_arg6) = m' ((c.tc : Thread Cert.OddBackRefIdeal.nD Cert.OddBackRefIdeal.τ).loc Cert.OddBackRefIdeal.main_arg6)
          ∧ r.2.mem ((c.tc : Thread Cert.OddBackRefIdeal.nD Cert.OddBackRefIdeal.τ).loc Cert.OddBackRefIdeal.main_arg7) = m' ((c.tc : Thread Cert.OddBackRefIdeal.nD Cert.OddBackRefIdeal.τ).loc Cert.OddBackRefIdeal.main_arg7))

def Claim : Prop :=
  ∃ (hKernel : Cert.Kernel.Facts) (hKernelIdeal : Cert.KernelIdeal.Facts) (hReferenceIdeal : Cert.ReferenceIdeal.Facts) (hFfnBack : Cert.FfnBack.Facts) (hFfnBackIdeal : Cert.FfnBackIdeal.Facts) (hFfnBackRefIdeal : Cert.FfnBackRefIdeal.Facts) (hWgradFfn : Cert.WgradFfn.Facts) (hWgradFfnIdeal : Cert.WgradFfnIdeal.Facts) (hWgradFfnRefIdeal : Cert.WgradFfnRefIdeal.Facts) (hWgradIn : Cert.WgradIn.Facts) (hWgradInIdeal : Cert.WgradInIdeal.Facts) (hWgradInRefIdeal : Cert.WgradInRefIdeal.Facts) (hWgradOut : Cert.WgradOut.Facts) (hWgradOutIdeal : Cert.WgradOutIdeal.Facts) (hWgradOutRefIdeal : Cert.WgradOutRefIdeal.Facts) (hFfnGate : Cert.FfnGate.Facts) (hFfnGateIdeal : Cert.FfnGateIdeal.Facts) (hFfnGateRefIdeal : Cert.FfnGateRefIdeal.Facts) (hGateFwd : Cert.GateFwd.Facts) (hGateFwdIdeal : Cert.GateFwdIdeal.Facts) (hGateFwdRefIdeal : Cert.GateFwdRefIdeal.Facts) (hUpFwd : Cert.UpFwd.Facts) (hUpFwdIdeal : Cert.UpFwdIdeal.Facts) (hUpFwdRefIdeal : Cert.UpFwdRefIdeal.Facts) (hDownFwd : Cert.DownFwd.Facts) (hDownFwdIdeal : Cert.DownFwdIdeal.Facts) (hDownFwdRefIdeal : Cert.DownFwdRefIdeal.Facts) (hLossHead : Cert.LossHead.Facts) (hLossHeadIdeal : Cert.LossHeadIdeal.Facts) (hLossHeadRefIdeal : Cert.LossHeadRefIdeal.Facts) (hOddFwd : Cert.OddFwd.Facts) (hOddFwdIdeal : Cert.OddFwdIdeal.Facts) (hOddFwdRefIdeal : Cert.OddFwdRefIdeal.Facts) (hEvenFwd : Cert.EvenFwd.Facts) (hEvenFwdIdeal : Cert.EvenFwdIdeal.Facts) (hEvenFwdRefIdeal : Cert.EvenFwdRefIdeal.Facts) (hOddBack : Cert.OddBack.Facts) (hOddBackIdeal : Cert.OddBackIdeal.Facts) (hOddBackRefIdeal : Cert.OddBackRefIdeal.Facts) (hPre_finite : Cert.Pre_finite.Facts) (hPre_finite2 : Cert.Pre_finite2.Facts) (hPre_finite6 : Cert.Pre_finite6.Facts) (hPre_finite8 : Cert.Pre_finite8.Facts) (hPre_finite10 : Cert.Pre_finite10.Facts) (hPre_finite12 : Cert.Pre_finite12.Facts) (hPre_finite13 : Cert.Pre_finite13.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnBack (hFfnBack := hFfnBack)
    ∧ quiescent_FfnBackIdeal (hFfnBackIdeal := hFfnBackIdeal)
    ∧ quiescent_FfnBackIdeal_pre_finite2 (hFfnBackIdeal := hFfnBackIdeal) (hPre_finite2 := hPre_finite2)
    ∧ quiescent_FfnBackRefIdeal (hFfnBackRefIdeal := hFfnBackRefIdeal)
    ∧ quiescent_FfnBackRefIdeal_pre_finite2 (hFfnBackRefIdeal := hFfnBackRefIdeal) (hPre_finite2 := hPre_finite2)
    ∧ quiescent_WgradFfn (hWgradFfn := hWgradFfn)
    ∧ quiescent_WgradFfnIdeal (hWgradFfnIdeal := hWgradFfnIdeal)
    ∧ quiescent_WgradFfnRefIdeal (hWgradFfnRefIdeal := hWgradFfnRefIdeal)
    ∧ quiescent_WgradIn (hWgradIn := hWgradIn)
    ∧ quiescent_WgradInIdeal (hWgradInIdeal := hWgradInIdeal)
    ∧ quiescent_WgradInRefIdeal (hWgradInRefIdeal := hWgradInRefIdeal)
    ∧ quiescent_WgradOut (hWgradOut := hWgradOut)
    ∧ quiescent_WgradOutIdeal (hWgradOutIdeal := hWgradOutIdeal)
    ∧ quiescent_WgradOutRefIdeal (hWgradOutRefIdeal := hWgradOutRefIdeal)
    ∧ quiescent_FfnGate (hFfnGate := hFfnGate)
    ∧ quiescent_FfnGateIdeal (hFfnGateIdeal := hFfnGateIdeal)
    ∧ quiescent_FfnGateIdeal_pre_finite6 (hFfnGateIdeal := hFfnGateIdeal) (hPre_finite6 := hPre_finite6)
    ∧ quiescent_FfnGateRefIdeal (hFfnGateRefIdeal := hFfnGateRefIdeal)
    ∧ quiescent_FfnGateRefIdeal_pre_finite6 (hFfnGateRefIdeal := hFfnGateRefIdeal) (hPre_finite6 := hPre_finite6)
    ∧ quiescent_GateFwd (hGateFwd := hGateFwd)
    ∧ quiescent_GateFwdIdeal (hGateFwdIdeal := hGateFwdIdeal)
    ∧ quiescent_GateFwdRefIdeal (hGateFwdRefIdeal := hGateFwdRefIdeal)
    ∧ quiescent_UpFwd (hUpFwd := hUpFwd)
    ∧ quiescent_UpFwdIdeal (hUpFwdIdeal := hUpFwdIdeal)
    ∧ quiescent_UpFwdIdeal_pre_finite8 (hUpFwdIdeal := hUpFwdIdeal) (hPre_finite8 := hPre_finite8)
    ∧ quiescent_UpFwdRefIdeal (hUpFwdRefIdeal := hUpFwdRefIdeal)
    ∧ quiescent_UpFwdRefIdeal_pre_finite8 (hUpFwdRefIdeal := hUpFwdRefIdeal) (hPre_finite8 := hPre_finite8)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_LossHead (hLossHead := hLossHead)
    ∧ quiescent_LossHeadIdeal (hLossHeadIdeal := hLossHeadIdeal)
    ∧ quiescent_LossHeadIdeal_pre_finite10 (hLossHeadIdeal := hLossHeadIdeal) (hPre_finite10 := hPre_finite10)
    ∧ quiescent_LossHeadRefIdeal (hLossHeadRefIdeal := hLossHeadRefIdeal)
    ∧ quiescent_LossHeadRefIdeal_pre_finite10 (hLossHeadRefIdeal := hLossHeadRefIdeal) (hPre_finite10 := hPre_finite10)
    ∧ quiescent_OddFwd (hOddFwd := hOddFwd)
    ∧ quiescent_OddFwdIdeal (hOddFwdIdeal := hOddFwdIdeal)
    ∧ quiescent_OddFwdRefIdeal (hOddFwdRefIdeal := hOddFwdRefIdeal)
    ∧ quiescent_EvenFwd (hEvenFwd := hEvenFwd)
    ∧ quiescent_EvenFwdIdeal (hEvenFwdIdeal := hEvenFwdIdeal)
    ∧ quiescent_EvenFwdIdeal_pre_finite12 (hEvenFwdIdeal := hEvenFwdIdeal) (hPre_finite12 := hPre_finite12)
    ∧ quiescent_EvenFwdRefIdeal (hEvenFwdRefIdeal := hEvenFwdRefIdeal)
    ∧ quiescent_EvenFwdRefIdeal_pre_finite12 (hEvenFwdRefIdeal := hEvenFwdRefIdeal) (hPre_finite12 := hPre_finite12)
    ∧ quiescent_OddBack (hOddBack := hOddBack)
    ∧ quiescent_OddBackIdeal (hOddBackIdeal := hOddBackIdeal)
    ∧ quiescent_OddBackIdeal_pre_finite13 (hOddBackIdeal := hOddBackIdeal) (hPre_finite13 := hPre_finite13)
    ∧ quiescent_OddBackRefIdeal (hOddBackRefIdeal := hOddBackRefIdeal)
    ∧ quiescent_OddBackRefIdeal_pre_finite13 (hOddBackRefIdeal := hOddBackRefIdeal) (hPre_finite13 := hPre_finite13)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnBack_FfnBackIdeal
    ∧ algebraic_FfnBackIdeal_FfnBackRefIdeal_pre_finite2 (hFfnBackIdeal := hFfnBackIdeal) (hFfnBackRefIdeal := hFfnBackRefIdeal) (hPre_finite2 := hPre_finite2)
    ∧ preserves_WgradFfn_WgradFfnIdeal
    ∧ algebraic_WgradFfnIdeal_WgradFfnRefIdeal (hWgradFfnIdeal := hWgradFfnIdeal) (hWgradFfnRefIdeal := hWgradFfnRefIdeal)
    ∧ preserves_WgradIn_WgradInIdeal
    ∧ algebraic_WgradInIdeal_WgradInRefIdeal (hWgradInIdeal := hWgradInIdeal) (hWgradInRefIdeal := hWgradInRefIdeal)
    ∧ preserves_WgradOut_WgradOutIdeal
    ∧ algebraic_WgradOutIdeal_WgradOutRefIdeal (hWgradOutIdeal := hWgradOutIdeal) (hWgradOutRefIdeal := hWgradOutRefIdeal)
    ∧ preserves_FfnGate_FfnGateIdeal
    ∧ algebraic_FfnGateIdeal_FfnGateRefIdeal_pre_finite6 (hFfnGateIdeal := hFfnGateIdeal) (hFfnGateRefIdeal := hFfnGateRefIdeal) (hPre_finite6 := hPre_finite6)
    ∧ preserves_GateFwd_GateFwdIdeal
    ∧ algebraic_GateFwdIdeal_GateFwdRefIdeal (hGateFwdIdeal := hGateFwdIdeal) (hGateFwdRefIdeal := hGateFwdRefIdeal)
    ∧ preserves_UpFwd_UpFwdIdeal
    ∧ algebraic_UpFwdIdeal_UpFwdRefIdeal_pre_finite8 (hUpFwdIdeal := hUpFwdIdeal) (hUpFwdRefIdeal := hUpFwdRefIdeal) (hPre_finite8 := hPre_finite8)
    ∧ preserves_DownFwd_DownFwdIdeal
    ∧ algebraic_DownFwdIdeal_DownFwdRefIdeal (hDownFwdIdeal := hDownFwdIdeal) (hDownFwdRefIdeal := hDownFwdRefIdeal)
    ∧ preserves_LossHead_LossHeadIdeal
    ∧ algebraic_LossHeadIdeal_LossHeadRefIdeal_pre_finite10 (hLossHeadIdeal := hLossHeadIdeal) (hLossHeadRefIdeal := hLossHeadRefIdeal) (hPre_finite10 := hPre_finite10)
    ∧ preserves_OddFwd_OddFwdIdeal
    ∧ algebraic_OddFwdIdeal_OddFwdRefIdeal (hOddFwdIdeal := hOddFwdIdeal) (hOddFwdRefIdeal := hOddFwdRefIdeal)
    ∧ preserves_EvenFwd_EvenFwdIdeal
    ∧ algebraic_EvenFwdIdeal_EvenFwdRefIdeal_pre_finite12 (hEvenFwdIdeal := hEvenFwdIdeal) (hEvenFwdRefIdeal := hEvenFwdRefIdeal) (hPre_finite12 := hPre_finite12)
    ∧ preserves_OddBack_OddBackIdeal
    ∧ algebraic_OddBackIdeal_OddBackRefIdeal_pre_finite13 (hOddBackIdeal := hOddBackIdeal) (hOddBackRefIdeal := hOddBackRefIdeal) (hPre_finite13 := hPre_finite13)
-- ==== Pre_finite.lean ====
abbrev S4096x1024 : Shape := ⟨2, ![4096, 1024]⟩
abbrev S1x1024 : Shape := ⟨2, ![1, 1024]⟩
abbrev S1024x2048 : Shape := ⟨2, ![1024, 2048]⟩
abbrev S3x512 : Shape := ⟨2, ![3, 512]⟩
abbrev S4x128x128 : Shape := ⟨3, ![4, 128, 128]⟩
abbrev S1x512 : Shape := ⟨2, ![1, 512]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S3x512 : S_.BroadcastsInDim S3x512 (![] : Fin 0 → Fin S3x512.rank)
  reducesTo_S3x512_S_d0_1 : S3x512.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S1x512 : S_.BroadcastsInDim S1x512 (![] : Fin 0 → Fin S1x512.rank)
  reducesTo_S1x512_S_d0_1 : S1x512.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : IVec S_ 1 := andi main_v3 main_v7
  let main_v33 : IVec S_ 1 := andi main_v32 main_v11
  let main_v34 : IVec S_ 1 := andi main_v33 main_v15
  let main_v35 : IVec S_ 1 := andi main_v34 main_v19
  let main_v36 : IVec S_ 1 := andi main_v35 main_v23
  let main_v37 : IVec S_ 1 := andi main_v36 main_v27
  let main_v38 : IVec S_ 1 := andi main_v37 main_v31
  main_v38

def fn_part1 {F : FTy → Type} [FloatOps F] (main_arg4 : FVec F S4x128x128 .f32) (main_arg5 : FVec F S1x512 .f32) (main_arg6 : FVec F S1024x1024 .f32) (main_arg7 : FVec F S4096x1024 .f32) (main_v3 : IVec S_ 1) (main_v7 : IVec S_ 1) (main_v11 : IVec S_ 1) (main_v15 : IVec S_ 1) : IVec S_ 1 :=
  let main_v16 : FVec F S4x128x128 .f32 := Host.absf main_arg4
  let main_cst_6 : FVec F S_ .f32 := constant S_ .f32 0x7F800000#32
  let main_v17 : FVec F S4x128x128 .f32 := broadcastInDim S4x128x128 ![] bcast_S_S4x128x128 main_cst_6
  let main_v18 : IVec S4x128x128 1 := cmpf .olt main_v16 main_v17
  let main_c_7 : IVec S_ 1 := constantI S_ 1 1#1
  let main_v19 : IVec S_ 1 := (fun x v => Host.reduce IntOp.andi x v reducesTo_S4x128x128_S_d0_1_2 h_S_) main_v18 main_c_7
  let main_v20 : FVec F S1x512 .f32 := Host.absf main_arg5
  let main_cst_8 : FVec F S_ .f32 := constant S_ .f32 0x7F800000#32
  let main_v21 : FVec F S1x512 .f32 := broadcastInDim S1x512 ![] bcast_S_S1x512 main_cst_8
  let main_v22 : IVec S1x512 1 := cmpf .olt main_v20 main_v21
  let main_c_9 : IVec S_ 1 := constantI S_ 1 1#1
  let main_v23 : IVec S_ 1 := (fun x v => Host.reduce IntOp.andi x v reducesTo_S1x512_S_d0_1 h_S_) main_v22 main_c_9
  let main_v24 : FVec F S1024x1024 .f32 := Host.absf main_arg6
  let main_cst_10 : FVec F S_ .f32 := constant S_ .f32 0x7F800000#32
  let main_v25 : FVec F S1024x1024 .f32 := broadcastInDim S1024x1024 ![] bcast_S_S1024x1024 main_cst_10
  let main_v26 : IVec S1024x1024 1 := cmpf .olt main_v24 main_v25
  let main_c_11 : IVec S_ 1 := constantI S_ 1 1#1
  let main_v27 : IVec S_ 1 := (fun x v => Host.reduce IntOp.andi x v reducesTo_S1024x1024_S_d0_1 h_S_) main_v26 main_c_11
  let main_v28 : FVec F S4096x1024 .f32 := Host.absf main_arg7
  let main_cst_12 : FVec F S_ .f32 := constant S_ .f32 0x7F800000#32
  let main_v29 : FVec F S4096x1024 .f32 := broadcastInDim S4096x1024 ![] bcast_S_S4096x1024 main_cst_12
  let main_v30 : IVec S4096x1024 1 := cmpf .olt main_v28 main_v29
  let main_c_13 : IVec S_ 1 := constantI S_ 1 1#1
  let main_v31 : IVec S_ 1 := (fun x v => Host.reduce IntOp.andi x v reducesTo_S4096x1024_S_d0_1 h_S_) main_v30 main_c_13
  fn_part2 (F := F) main_v3 main_v7 main_v11 main_v15 main_v19 main_v23 main_v27 main_v31

def fn {F : FTy → Type} [FloatOps F] (main_arg0 : FVec F S4096x1024 .f32) (main_arg1 : FVec F S1x1024 .f32) (main_arg2 : FVec F S1024x2048 .f32) (main_arg3 : FVec F S3x512 .f32) (main_arg4 : FVec F S4x128x128 .f32) (main_arg5 : FVec F S1x512 .f32) (main_arg6 : FVec F S1024x1024 .f32) (main_arg7 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1024x2048 .f32 := Host.absf main_arg2
  let main_cst_2 : FVec F S_ .f32 := constant S_ .f32 0x7F800000#32
  let main_v9 : FVec F S1024x2048 .f32 := broadcastInDim S1024x2048 ![] bcast_S_S1024x2048 main_cst_2
  let main_v10 : IVec S1024x2048 1 := cmpf .olt main_v8 main_v9
  let main_c_3 : IVec S_ 1 := constantI S_ 1 1#1
  let main_v11 : IVec S_ 1 := (fun x v => Host.reduce IntOp.andi x v reducesTo_S1024x2048_S_d0_1 h_S_) main_v10 main_c_3
  let main_v12 : FVec F S3x512 .f32 := Host.absf main_arg3
  let main_cst_4 : FVec F S_ .f32 := constant S_ .f32 0x7F800000#32
  let main_v13 : FVec F S3x512 .f32 := broadcastInDim S3x512 ![] bcast_S_S3x512 main_cst_4
  let main_v14 : IVec S3x512 1 := cmpf .olt main_v12 main_v13
  let main_c_5 : IVec S_ 1 := constantI S_ 1 1#1
  let main_v15 : IVec S_ 1 := (fun x v => Host.reduce IntOp.andi x v reducesTo_S3x512_S_d0_1 h_S_) main_v14 main_c_5
  fn_part1 (F := F) main_arg4 main_arg5 main_arg6 main_arg7 main_v3 main_v7 main_v11 main_v15
-- ==== Pre_finite10.lean ====
abbrev S4096x3072 : Shape := ⟨2, ![4096, 3072]⟩
abbrev S3072x1024 : Shape := ⟨2, ![3072, 1024]⟩
abbrev S4096x1024 : Shape := ⟨2, ![4096, 1024]⟩
abbrev S1x1024 : Shape := ⟨2, ![1, 1024]⟩
abbrev S_ : Shape := ⟨0, ![]⟩

class Facts : Prop where
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S4096x1024 .f32) (main_v3 : IVec S_ 1) (main_v7 : IVec S_ 1) (main_v11 : IVec S_ 1) (main_v15 : IVec S_ 1) : IVec S_ 1 :=
  let main_v16 : FVec F S4096x1024 .f32 := Host.absf main_arg4
  let main_cst_6 : FVec F S_ .f32 := constant S_ .f32 0x7F800000#32
  let main_v17 : FVec F S4096x1024 .f32 := broadcastInDim S4096x1024 ![] bcast_S_S4096x1024 main_cst_6
  let main_v18 : IVec S4096x1024 1 := cmpf .olt main_v16 main_v17
  let main_c_7 : IVec S_ 1 := constantI S_ 1 1#1
  let main_v19 : IVec S_ 1 := (fun x v => Host.reduce IntOp.andi x v reducesTo_S4096x1024_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S4096x3072 .f32) (main_arg1 : FVec F S3072x1024 .f32) (main_arg2 : FVec F S4096x1024 .f32) (main_arg3 : FVec F S1x1024 .f32) (main_arg4 : FVec F S4096x1024 .f32) : IVec S_ 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_c : IVec S_ 1 := constantI S_ 1 1#1
  let main_v3 : IVec S_ 1 := (fun x v => Host.reduce IntOp.andi x v reducesTo_S4096x3072_S_d0_1 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : FVec F S4096x1024 .f32 := Host.absf main_arg2
  let main_cst_2 : FVec F S_ .f32 := constant S_ .f32 0x7F800000#32
  let main_v9 : FVec F S4096x1024 .f32 := broadcastInDim S4096x1024 ![] bcast_S_S4096x1024 main_cst_2
  let main_v10 : IVec S4096x1024 1 := cmpf .olt main_v8 main_v9
  let main_c_3 : IVec S_ 1 := constantI S_ 1 1#1
  let main_v11 : IVec S_ 1 := (fun x v => Host.reduce IntOp.andi x v reducesTo_S4096x1024_S_d0_1 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg4 main_v3 main_v7 main_v11 main_v15
-- ==== Pre_finite12.lean ====
abbrev S4096x1024 : Shape := ⟨2, ![4096, 1024]⟩
abbrev S1x1024 : Shape := ⟨2, ![1, 1024]⟩
abbrev S1024x2048 : Shape := ⟨2, ![1024, 2048]⟩
abbrev S3x512 : Shape := ⟨2, ![3, 512]⟩
abbrev S4x128x128 : Shape := ⟨3, ![4, 128, 128]⟩
abbrev S1x512 : Shape := ⟨2, ![1, 512]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2048 : S_.BroadcastsInDim S1024x2048 (![] : Fin 0 → Fin S1024x2048.rank)
  reducesTo_S1024x2048_S_d0_1 : S1024x2048.ReducesTo [0, 1] S_

variable [Facts]

def fn {F : FTy → Type} [FloatOps F] (main_arg0 : FVec F S4096x1024 .f32) (main_arg1 : FVec F S1x1024 .f32) (main_arg2 : FVec F S1x1024 .f32) (main_arg3 : FVec F S1024x2048 .f32) (main_arg4 : FVec F S3x512 .f32) (main_arg5 : FVec F S4x128x128 .f32) (main_arg6 : FVec F S1x512 .f32) (main_arg7 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x2048 .f32 := Host.absf main_arg3
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  main_v13
-- ==== Pre_finite13.lean ====
abbrev S4096x1024 : Shape := ⟨2, ![4096, 1024]⟩
abbrev S1x1024 : Shape := ⟨2, ![1, 1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : IVec S_ 1 := andi main_v3 main_v7
  let main_v33 : IVec S_ 1 := andi main_v32 main_v11
  let main_v34 : IVec S_ 1 := andi main_v33 main_v15
  let main_v35 : IVec S_ 1 := andi main_v34 main_v19
  let main_v36 : IVec S_ 1 := andi main_v35 main_v23
  let main_v37 : IVec S_ 1 := andi main_v36 main_v27
  let main_v38 : IVec S_ 1 := andi main_v37 main_v31
  main_v38

def fn_part1 {F : FTy → Type} [FloatOps F] (main_arg4 : FVec F S8x128x128 .f32) (main_arg5 : FVec F S8x128 .f32) (main_arg6 : FVec F S1024x1024 .f32) (main_arg7 : FVec F S4096x1024 .f32) (main_v3 : IVec S_ 1) (main_v7 : IVec S_ 1) (main_v11 : IVec S_ 1) (main_v15 : IVec S_ 1) : IVec S_ 1 :=
  let main_v16 : FVec F S8x128x128 .f32 := Host.absf main_arg4
  let main_cst_6 : FVec F S_ .f32 := constant S_ .f32 0x7F800000#32
  let main_v17 : FVec F S8x128x128 .f32 := broadcastInDim S8x128x128 ![] bcast_S_S8x128x128 main_cst_6
  let main_v18 : IVec S8x128x128 1 := cmpf .olt main_v16 main_v17
  let main_c_7 : IVec S_ 1 := constantI S_ 1 1#1
  let main_v19 : IVec S_ 1 := (fun x v => Host.reduce IntOp.andi x v reducesTo_S8x128x128_S_d0_1_2 h_S_) main_v18 main_c_7
  let main_v20 : FVec F S8x128 .f32 := Host.absf main_arg5
  let main_cst_8 : FVec F S_ .f32 := constant S_ .f32 0x7F800000#32
  let main_v21 : FVec F S8x128 .f32 := broadcastInDim S8x128 ![] bcast_S_S8x128 main_cst_8
  let main_v22 : IVec S8x128 1 := cmpf .olt main_v20 main_v21
  let main_c_9 : IVec S_ 1 := constantI S_ 1 1#1
  let main_v23 : IVec S_ 1 := (fun x v => Host.reduce IntOp.andi x v reducesTo_S8x128_S_d0_1 h_S_) main_v22 main_c_9
  let main_v24 : FVec F S1024x1024 .f32 := Host.absf main_arg6
  let main_cst_10 : FVec F S_ .f32 := constant S_ .f32 0x7F800000#32
  let main_v25 : FVec F S1024x1024 .f32 := broadcastInDim S1024x1024 ![] bcast_S_S1024x1024 main_cst_10
  let main_v26 : IVec S1024x1024 1 := cmpf .olt main_v24 main_v25
  let main_c_11 : IVec S_ 1 := constantI S_ 1 1#1
  let main_v27 : IVec S_ 1 := (fun x v => Host.reduce IntOp.andi x v reducesTo_S1024x1024_S_d0_1 h_S_) main_v26 main_c_11
  let main_v28 : FVec F S4096x1024 .f32 := Host.absf main_arg7
  let main_cst_12 : FVec F S_ .f32 := constant S_ .f32 0x7F800000#32
  let main_v29 : FVec F S4096x1024 .f32 := broadcastInDim S4096x1024 ![] bcast_S_S4096x1024 main_cst_12
  let main_v30 : IVec S4096x1024 1 := cmpf .olt main_v28 main_v29
  let main_c_13 : IVec S_ 1 := constantI S_ 1 1#1
  let main_v31 : IVec S_ 1 := (fun x v => Host.reduce IntOp.andi x v reducesTo_S4096x1024_S_d0_1 h_S_) main_v30 main_c_13
  fn_part2 (F := F) main_v3 main_v7 main_v11 main_v15 main_v19 main_v23 main_v27 main_v31

def fn {F : FTy → Type} [FloatOps F] (main_arg0 : FVec F S4096x1024 .f32) (main_arg1 : FVec F S1x1024 .f32) (main_arg2 : FVec F S1024x2048 .f32) (main_arg3 : FVec F S1x1024 .f32) (main_arg4 : FVec F S8x128x128 .f32) (main_arg5 : FVec F S8x128 .f32) (main_arg6 : FVec F S1024x1024 .f32) (main_arg7 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1024x2048 .f32 := Host.absf main_arg2
  let main_cst_2 : FVec F S_ .f32 := constant S_ .f32 0x7F800000#32
  let main_v9 : FVec F S1024x2048 .f32 := broadcastInDim S1024x2048 ![] bcast_S_S1024x2048 main_cst_2
  let main_v10 : IVec S1024x2048 1 := cmpf .olt main_v8 main_v9
  let main_c_3 : IVec S_ 1 := constantI S_ 1 1#1
  let main_v11 : IVec S_ 1 := (fun x v => Host.reduce IntOp.andi x v reducesTo_S1024x2048_S_d0_1 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg4 main_arg5 main_arg6 main_arg7 main_v3 main_v7 main_v11 main_v15
-- ==== Pre_finite2.lean ====
abbrev S4096x3072 : Shape := ⟨2, ![4096, 3072]⟩
abbrev S1024x3072 : Shape := ⟨2, ![1024, 3072]⟩
abbrev S4096x1024 : Shape := ⟨2, ![4096, 1024]⟩
abbrev S1x1024 : Shape := ⟨2, ![1, 1024]⟩
abbrev S_ : Shape := ⟨0, ![]⟩

class Facts : Prop where
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S4096x1024 .f32) (main_arg5 : FVec F S1x1024 .f32) (main_arg6 : FVec F S4096x1024 .f32) (main_v3 : IVec S_ 1) (main_v7 : IVec S_ 1) (main_v11 : IVec S_ 1) (main_v15 : IVec S_ 1) : IVec S_ 1 :=
  let main_v16 : FVec F S4096x1024 .f32 := Host.absf main_arg4
  let main_cst_6 : FVec F S_ .f32 := constant S_ .f32 0x7F800000#32
  let main_v17 : FVec F S4096x1024 .f32 := broadcastInDim S4096x1024 ![] bcast_S_S4096x1024 main_cst_6
  let main_v18 : IVec S4096x1024 1 := cmpf .olt main_v16 main_v17
  let main_c_7 : IVec S_ 1 := constantI S_ 1 1#1
  let main_v19 : IVec S_ 1 := (fun x v => Host.reduce IntOp.andi x v reducesTo_S4096x1024_S_d0_1 h_S_) main_v18 main_c_7
  let main_v20 : FVec F S1x1024 .f32 := Host.absf main_arg5
  let main_cst_8 : FVec F S_ .f32 := constant S_ .f32 0x7F800000#32
  let main_v21 : FVec F S1x1024 .f32 := broadcastInDim S1x1024 ![] bcast_S_S1x1024 main_cst_8
  let main_v22 : IVec S1x1024 1 := cmpf .olt main_v20 main_v21
  let main_c_9 : IVec S_ 1 := constantI S_ 1 1#1
  let main_v23 : IVec S_ 1 := (fun x v => Host.reduce IntOp.andi x v reducesTo_S1x1024_S_d0_1 h_S_) main_v22 main_c_9
  let main_v24 : FVec F S4096x1024 .f32 := Host.absf main_arg6
  let main_cst_10 : FVec F S_ .f32 := constant S_ .f32 0x7F800000#32
  let main_v25 : FVec F S4096x1024 .f32 := broadcastInDim S4096x1024 ![] bcast_S_S4096x1024 main_cst_10
  let main_v26 : IVec S4096x1024 1 := cmpf .olt main_v24 main_v25
  let main_c_11 : IVec S_ 1 := constantI S_ 1 1#1
  let main_v27 : IVec S_ 1 := (fun x v => Host.reduce IntOp.andi x v reducesTo_S4096x1024_S_d0_1 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S4096x3072 .f32) (main_arg1 : FVec F S4096x3072 .f32) (main_arg2 : FVec F S1024x3072 .f32) (main_arg3 : FVec F S1024x3072 .f32) (main_arg4 : FVec F S4096x1024 .f32) (main_arg5 : FVec F S1x1024 .f32) (main_arg6 : FVec F S4096x1024 .f32) : IVec S_ 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_c : IVec S_ 1 := constantI S_ 1 1#1
  let main_v3 : IVec S_ 1 := (fun x v => Host.reduce IntOp.andi x v reducesTo_S4096x3072_S_d0_1 h_S_) main_v2 main_c
  let main_v4 : FVec F S4096x3072 .f32 := Host.absf main_arg1
  let main_cst_0 : FVec F S_ .f32 := constant S_ .f32 0x7F800000#32
  let main_v5 : FVec F S4096x3072 .f32 := broadcastInDim S4096x3072 ![] bcast_S_S4096x3072 main_cst_0
  let main_v6 : IVec S4096x3072 1 := cmpf .olt main_v4 main_v5
  let main_c_1 : IVec S_ 1 := constantI S_ 1 1#1
  let main_v7 : IVec S_ 1 := (fun x v => Host.reduce IntOp.andi x v reducesTo_S4096x3072_S_d0_1 h_S_) main_v6 main_c_1
  let main_v8 : FVec F S1024x3072 .f32 := Host.absf main_arg2
  let main_cst_2 : FVec F S_ .f32 := constant S_ .f32 0x7F800000#32
  let main_v9 : FVec F S1024x3072 .f32 := broadcastInDim S1024x3072 ![] bcast_S_S1024x3072 main_cst_2
  let main_v10 : IVec S1024x3072 1 := cmpf .olt main_v8 main_v9
  let main_c_3 : IVec S_ 1 := constantI S_ 1 1#1
  let main_v11 : IVec S_ 1 := (fun x v => Host.reduce IntOp.andi x v reducesTo_S1024x3072_S_d0_1 h_S_) main_v10 main_c_3
  let main_v12 : FVec F S1024x3072 .f32 := Host.absf main_arg3
  let main_cst_4 : FVec F S_ .f32 := constant S_ .f32 0x7F800000#32
  let main_v13 : FVec F S1024x3072 .f32 := broadcastInDim S1024x3072 ![] bcast_S_S1024x3072 main_cst_4
  let main_v14 : IVec S1024x3072 1 := cmpf .olt main_v12 main_v13
  let main_c_5 : IVec S_ 1 := constantI S_ 1 1#1
  let main_v15 : IVec S_ 1 := (fun x v => Host.reduce IntOp.andi x v reducesTo_S1024x3072_S_d0_1 h_S_) main_v14 main_c_5
  fn_part1 (F := F) main_arg4 main_arg5 main_arg6 main_v3 main_v7 main_v11 main_v15
-- ==== Pre_finite6.lean ====
abbrev S4096x3072 : Shape := ⟨2, ![4096, 3072]⟩
abbrev S3x3072 : Shape := ⟨2, ![3, 3072]⟩
abbrev S1x3072 : Shape := ⟨2, ![1, 3072]⟩
abbrev S3072x1024 : Shape := ⟨2, ![3072, 1024]⟩
abbrev S4096x1024 : Shape := ⟨2, ![4096, 1024]⟩
abbrev S_ : Shape := ⟨0, ![]⟩

class Facts : Prop where
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S3x3072 : S_.BroadcastsInDim S3x3072 (![] : Fin 0 → Fin S3x3072.rank)
  reducesTo_S3x3072_S_d0_1 : S3x3072.ReducesTo [0, 1] S_
  bcast_S_S1x3072 : S_.BroadcastsInDim S1x3072 (![] : Fin 0 → Fin S1x3072.rank)
  reducesTo_S1x3072_S_d0_1 : S1x3072.ReducesTo [0, 1] S_
  bcast_S_S3072x1024 : S_.BroadcastsInDim S3072x1024 (![] : Fin 0 → Fin S3072x1024.rank)
  reducesTo_S3072x1024_S_d0_1 : S3072x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S3072x1024 .f32) (main_arg5 : FVec F S4096x1024 .f32) (main_v3 : IVec S_ 1) (main_v7 : IVec S_ 1) (main_v11 : IVec S_ 1) (main_v15 : IVec S_ 1) : IVec S_ 1 :=
  let main_v16 : FVec F S3072x1024 .f32 := Host.absf main_arg4
  let main_cst_6 : FVec F S_ .f32 := constant S_ .f32 0x7F800000#32
  let main_v17 : FVec F S3072x1024 .f32 := broadcastInDim S3072x1024 ![] bcast_S_S3072x1024 main_cst_6
  let main_v18 : IVec S3072x1024 1 := cmpf .olt main_v16 main_v17
  let main_c_7 : IVec S_ 1 := constantI S_ 1 1#1
  let main_v19 : IVec S_ 1 := (fun x v => Host.reduce IntOp.andi x v reducesTo_S3072x1024_S_d0_1 h_S_) main_v18 main_c_7
  let main_v20 : FVec F S4096x1024 .f32 := Host.absf main_arg5
  let main_cst_8 : FVec F S_ .f32 := constant S_ .f32 0x7F800000#32
  let main_v21 : FVec F S4096x1024 .f32 := broadcastInDim S4096x1024 ![] bcast_S_S4096x1024 main_cst_8
  let main_v22 : IVec S4096x1024 1 := cmpf .olt main_v20 main_v21
  let main_c_9 : IVec S_ 1 := constantI S_ 1 1#1
  let main_v23 : IVec S_ 1 := (fun x v => Host.reduce IntOp.andi x v reducesTo_S4096x1024_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S4096x3072 .f32) (main_arg1 : FVec F S4096x3072 .f32) (main_arg2 : FVec F S3x3072 .f32) (main_arg3 : FVec F S1x3072 .f32) (main_arg4 : FVec F S3072x1024 .f32) (main_arg5 : FVec F S4096x1024 .f32) : IVec S_ 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_c : IVec S_ 1 := constantI S_ 1 1#1
  let main_v3 : IVec S_ 1 := (fun x v => Host.reduce IntOp.andi x v reducesTo_S4096x3072_S_d0_1 h_S_) main_v2 main_c
  let main_v4 : FVec F S4096x3072 .f32 := Host.absf main_arg1
  let main_cst_0 : FVec F S_ .f32 := constant S_ .f32 0x7F800000#32
  let main_v5 : FVec F S4096x3072 .f32 := broadcastInDim S4096x3072 ![] bcast_S_S4096x3072 main_cst_0
  let main_v6 : IVec S4096x3072 1 := cmpf .olt main_v4 main_v5
  let main_c_1 : IVec S_ 1 := constantI S_ 1 1#1
  let main_v7 : IVec S_ 1 := (fun x v => Host.reduce IntOp.andi x v reducesTo_S4096x3072_S_d0_1 h_S_) main_v6 main_c_1
  let main_v8 : FVec F S3x3072 .f32 := Host.absf main_arg2
  let main_cst_2 : FVec F S_ .f32 := constant S_ .f32 0x7F800000#32
  let main_v9 : FVec F S3x3072 .f32 := broadcastInDim S3x3072 ![] bcast_S_S3x3072 main_cst_2
  let main_v10 : IVec S3x3072 1 := cmpf .olt main_v8 main_v9
  let main_c_3 : IVec S_ 1 := constantI S_ 1 1#1
  let main_v11 : IVec S_ 1 := (fun x v => Host.reduce IntOp.andi x v reducesTo_S3x3072_S_d0_1 h_S_) main_v10 main_c_3
  let main_v12 : FVec F S1x3072 .f32 := Host.absf main_arg3
  let main_cst_4 : FVec F S_ .f32 := constant S_ .f32 0x7F800000#32
  let main_v13 : FVec F S1x3072 .f32 := broadcastInDim S1x3072 ![] bcast_S_S1x3072 main_cst_4
  let main_v14 : IVec S1x3072 1 := cmpf .olt main_v12 main_v13
  let main_c_5 : IVec S_ 1 := constantI S_ 1 1#1
  let main_v15 : IVec S_ 1 := (fun x v => Host.reduce IntOp.andi x v reducesTo_S1x3072_S_d0_1 h_S_) main_v14 main_c_5
  fn_part1 (F := F) main_arg4 main_arg5 main_v3 main_v7 main_v11 main_v15
-- ==== Pre_finite8.lean ====
abbrev S4096x1024 : Shape := ⟨2, ![4096, 1024]⟩
abbrev S1024x3072 : Shape := ⟨2, ![1024, 3072]⟩
abbrev S4096x3072 : Shape := ⟨2, ![4096, 3072]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S4096x3072 : S_.BroadcastsInDim S4096x3072 (![] : Fin 0 → Fin S4096x3072.rank)
  reducesTo_S4096x3072_S_d0_1 : S4096x3072.ReducesTo [0, 1] S_

variable [Facts]

def fn {F : FTy → Type} [FloatOps F] (main_arg0 : FVec F S4096x1024 .f32) (main_arg1 : FVec F S1024x3072 .f32) (main_arg2 : FVec F S4096x3072 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x3072 .f32 := Host.absf main_arg1
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S4096x3072 .f32 := Host.absf main_arg2
  let main_cst_2 : FVec F S_ .f32 := constant S_ .f32 0x7F800000#32
  let main_v10 : FVec F S4096x3072 .f32 := broadcastInDim S4096x3072 ![] bcast_S_S4096x3072 main_cst_2
  let main_v11 : IVec S4096x3072 1 := cmpf .olt main_v9 main_v10
  let main_c_3 : IVec S_ 1 := constantI S_ 1 1#1
  let main_v12 : IVec S_ 1 := (fun x v => Host.reduce IntOp.andi x v reducesTo_S4096x3072_S_d0_1 h_S_) main_v11 main_c_3
  let main_v13 : IVec S_ 1 := andi main_v8 main_v12
  main_v13
-- ==== Kernel.lean ====
abbrev S4096x1024 : Shape := ⟨2, ![4096, 1024]⟩
abbrev S1x1024 : Shape := ⟨2, ![1, 1024]⟩
abbrev S1024x2048 : Shape := ⟨2, ![1024, 2048]⟩
abbrev S3x512 : Shape := ⟨2, ![3, 512]⟩
abbrev S4x128x128 : Shape := ⟨3, ![4, 128, 128]⟩
abbrev S1x512 : Shape := ⟨2, ![1, 512]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩
abbrev S4096x512 : Shape := ⟨2, ![4096, 512]⟩
abbrev S2x512 : Shape := ⟨2, ![2, 512]⟩
abbrev S4098x512 : Shape := ⟨2, ![4098, 512]⟩
abbrev S512 : Shape := ⟨1, ![512]⟩
abbrev S4096x4x128 : Shape := ⟨3, ![4096, 4, 128]⟩
abbrev S4096x1x128 : Shape := ⟨3, ![4096, 1, 128]⟩
abbrev S4096x128 : Shape := ⟨2, ![4096, 128]⟩
abbrev S2x128 : Shape := ⟨2, ![2, 128]⟩
abbrev S4094x128 : Shape := ⟨2, ![4094, 128]⟩
abbrev S4x128 : Shape := ⟨2, ![4, 128]⟩
abbrev S4092x128 : Shape := ⟨2, ![4092, 128]⟩
abbrev S8x128 : Shape := ⟨2, ![8, 128]⟩
abbrev S4088x128 : Shape := ⟨2, ![4088, 128]⟩
abbrev S16x128 : Shape := ⟨2, ![16, 128]⟩
abbrev S4080x128 : Shape := ⟨2, ![4080, 128]⟩
abbrev S512x1024 : Shape := ⟨2, ![512, 1024]⟩
abbrev S512x2048 : Shape := ⟨2, ![512, 2048]⟩
abbrev S512x512 : Shape := ⟨2, ![512, 512]⟩
abbrev S528x512 : Shape := ⟨2, ![528, 512]⟩
abbrev S16x512 : Shape := ⟨2, ![16, 512]⟩
abbrev S512x128 : Shape := ⟨2, ![512, 128]⟩
abbrev S1x128x128 : Shape := ⟨3, ![1, 128, 128]⟩
abbrev S128x128 : Shape := ⟨2, ![128, 128]⟩
abbrev S128 : Shape := ⟨1, ![128]⟩
abbrev S1x128 : Shape := ⟨2, ![1, 128]⟩
abbrev S512x1 : Shape := ⟨2, ![512, 1]⟩
abbrev S528x128 : Shape := ⟨2, ![528, 128]⟩
abbrev S1024 : Shape := ⟨1, ![1024]⟩

abbrev nBuf : Space → Nat
  | .hbm => 141
  | .vmem => 29
  | .smem => 0
  | _ => 0

abbrev hbmTy0_0 (i : Nat) : BufTy := match i % 128 with
  | 0 => ⟨S4096x1024, .f32⟩
  | 1 => ⟨S1x1024, .f32⟩
  | 2 => ⟨S1024x2048, .f32⟩
  | 3 => ⟨S3x512, .f32⟩
  | 4 => ⟨S4x128x128, .f32⟩
  | 5 => ⟨S1x512, .f32⟩
  | 6 => ⟨S1024x1024, .f32⟩
  | 7 => ⟨S4096x1024, .f32⟩
  | 8 => ⟨S4096x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1024, .f32⟩
  | 20 => ⟨S4096x1024, .f32⟩
  | 21 => ⟨S4096x1024, .f32⟩
  | 22 => ⟨S4096x1024, .f32⟩
  | 23 => ⟨S4096x2048, .f32⟩
  | 24 => ⟨S4096x512, .f32⟩
  | 25 => ⟨S4096x512, .f32⟩
  | 26 => ⟨S4096x512, .f32⟩
  | 27 => ⟨S_, .f32⟩
  | 28 => ⟨S2x512, .f32⟩
  | 29 => ⟨S4098x512, .f32⟩
  | 30 => ⟨S4096x512, .f32⟩
  | 31 => ⟨S1x512, .f32⟩
  | 32 => ⟨S512, .f32⟩
  | 33 => ⟨S1x512, .f32⟩
  | 34 => ⟨S4096x512, .f32⟩
  | 35 => ⟨S4096x512, .f32⟩
  | 36 => ⟨S4096x512, .f32⟩
  | 37 => ⟨S1x512, .f32⟩
  | 38 => ⟨S512, .f32⟩
  | 39 => ⟨S1x512, .f32⟩
  | 40 => ⟨S4096x512, .f32⟩
  | 41 => ⟨S4096x512, .f32⟩
  | 42 => ⟨S4096x512, .f32⟩
  | 43 => ⟨S4096x512, .f32⟩
  | 44 => ⟨S1x512, .f32⟩
  | 45 => ⟨S512, .f32⟩
  | 46 => ⟨S1x512, .f32⟩
  | 47 => ⟨S4096x512, .f32⟩
  | 48 => ⟨S4096x512, .f32⟩
  | 49 => ⟨S4096x512, .f32⟩
  | 50 => ⟨S4096x512, .f32⟩
  | 51 => ⟨S4096x4x128, .f32⟩
  | 52 => ⟨S_, .f32⟩
  | 53 => ⟨S_, .f32⟩
  | 54 => ⟨S4096x4x128, .f32⟩
  | 55 => ⟨S4096, .f32⟩
  | 56 => ⟨S_, .f32⟩
  | 57 => ⟨S4096, .f32⟩
  | 58 => ⟨S4096, .f32⟩
  | 59 => ⟨S4096x1, .f32⟩
  | 60 => ⟨S4096x1x128, .f32⟩
  | 61 => ⟨S4096x128, .f32⟩
  | 62 => ⟨S_, .f32⟩
  | 63 => ⟨S2x128, .f32⟩
  | 64 => ⟨S4094x128, .f32⟩
  | 65 => ⟨S4096x128, .f32⟩
  | 66 => ⟨S_, .f32⟩
  | 67 => ⟨S4096x1, .f32⟩
  | 68 => ⟨S4096x1, .f32⟩
  | 69 => ⟨S4096x128, .f32⟩
  | 70 => ⟨S4096x128, .f32⟩
  | 71 => ⟨S4096x128, .f32⟩
  | 72 => ⟨S4096x1x128, .f32⟩
  | 73 => ⟨S4096x128, .f32⟩
  | 74 => ⟨S4096x128, .f32⟩
  | 75 => ⟨S4096x1x128, .f32⟩
  | 76 => ⟨S4096x128, .f32⟩
  | 77 => ⟨S_, .f32⟩
  | 78 => ⟨S4x128, .f32⟩
  | 79 => ⟨S4092x128, .f32⟩
  | 80 => ⟨S4096x128, .f32⟩
  | 81 => ⟨S_, .f32⟩
  | 82 => ⟨S4096x1, .f32⟩
  | 83 => ⟨S4096x1, .f32⟩
  | 84 => ⟨S4096x128, .f32⟩
  | 85 => ⟨S4096x128, .f32⟩
  | 86 => ⟨S4096x128, .f32⟩
  | 87 => ⟨S4096x1x128, .f32⟩
  | 88 => ⟨S4096x128, .f32⟩
  | 89 => ⟨S4096x128, .f32⟩
  | 90 => ⟨S4096x1x128, .f32⟩
  | 91 => ⟨S4096x128, .f32⟩
  | 92 => ⟨S_, .f32⟩
  | 93 => ⟨S8x128, .f32⟩
  | 94 => ⟨S4088x128, .f32⟩
  | 95 => ⟨S4096x128, .f32⟩
  | 96 => ⟨S_, .f32⟩
  | 97 => ⟨S4096x1, .f32⟩
  | 98 => ⟨S4096x1, .f32⟩
  | 99 => ⟨S4096x128, .f32⟩
  | 100 => ⟨S4096x128, .f32⟩
  | 101 => ⟨S4096x128, .f32⟩
  | 102 => ⟨S4096x1x128, .f32⟩
  | 103 => ⟨S4096x128, .f32⟩
  | 104 => ⟨S4096x128, .f32⟩
  | 105 => ⟨S4096x1x128, .f32⟩
  | 106 => ⟨S4096x128, .f32⟩
  | 107 => ⟨S_, .f32⟩
  | 108 => ⟨S16x128, .f32⟩
  | 109 => ⟨S4080x128, .f32⟩
  | 110 => ⟨S4096x128, .f32⟩
  | 111 => ⟨S_, .f32⟩
  | 112 => ⟨S4096x1, .f32⟩
  | 113 => ⟨S4096x1, .f32⟩
  | 114 => ⟨S4096x128, .f32⟩
  | 115 => ⟨S4096x128, .f32⟩
  | 116 => ⟨S4096x128, .f32⟩
  | 117 => ⟨S4096x1x128, .f32⟩
  | 118 => ⟨S4096x128, .f32⟩
  | 119 => ⟨S4096x128, .f32⟩
  | 120 => ⟨S4096x1x128, .f32⟩
  | 121 => ⟨S4096x1x128, .f32⟩
  | 122 => ⟨S4096x1x128, .f32⟩
  | 123 => ⟨S4096x1x128, .f32⟩
  | 124 => ⟨S4096x4x128, .f32⟩
  | 125 => ⟨S4096x512, .f32⟩
  | 126 => ⟨S4096x1024, .bf16⟩
  | 127 => ⟨S1024x1024, .bf16⟩
  | _ => ⟨S4096x1024, .f32⟩

abbrev hbmTy0_1 (i : Nat) : BufTy := match i % 128 with
  | 0 => ⟨S4096x2048, .bf16⟩
  | 1 => ⟨S4096x512, .bf16⟩
  | 2 => ⟨S4096x512, .bf16⟩
  | 3 => ⟨S4x128x128, .bf16⟩
  | 4 => ⟨S4x128x128, .f32⟩
  | 5 => ⟨S4x128x128, .bf16⟩
  | 6 => ⟨S1024x2048, .bf16⟩
  | 7 => ⟨S4096x2048, .bf16⟩
  | 8 => ⟨S4096x1024, .f32⟩
  | 9 => ⟨S1x1024, .f32⟩
  | 10 => ⟨S3x512, .f32⟩
  | 11 => ⟨S4x128x128, .f32⟩
  | 12 => ⟨S1x512, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S512x2048, .bf16⟩
  | .local _ .vmem, ⟨6, _⟩ => ⟨S512x2048, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S3x512, .f32⟩
  | .local _ .vmem, ⟨12, _⟩ => ⟨S4x128x128, .bf16⟩
  | .local _ .vmem, ⟨13, _⟩ => ⟨S4x128x128, .bf16⟩
  | .local _ .vmem, ⟨14, _⟩ => ⟨S1x512, .f32⟩
  | .local _ .vmem, ⟨15, _⟩ => ⟨S1024x2048, .bf16⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S512x2048, .bf16⟩
  | .local _ .vmem, ⟨20, _⟩ => ⟨S512x2048, .bf16⟩
  | .local _ .vmem, ⟨21, _⟩ => ⟨S512x1024, .f32⟩
  | .local _ .vmem, ⟨22, _⟩ => ⟨S512x1024, .f32⟩
  | .local _ .vmem, ⟨23, _⟩ => ⟨S1x1024, .f32⟩
  | .local _ .vmem, ⟨24, _⟩ => ⟨S3x512, .f32⟩
  | .local _ .vmem, ⟨25, _⟩ => ⟨S4x128x128, .f32⟩
  | .local _ .vmem, ⟨26, _⟩ => ⟨S1x512, .f32⟩
  | .local _ .vmem, ⟨27, _⟩ => ⟨S528x512, .f32⟩
  | .local _ .vmem, ⟨28, _⟩ => ⟨S528x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_call0_call0_cst : Ref sig .tc := ⟨.hbm, 52, rfl⟩
abbrev main_call0_call0_v0 : Ref sig .tc := ⟨.hbm, 53, rfl⟩
abbrev main_v40 : Ref sig .tc := ⟨.hbm, 54, rfl⟩
abbrev main_v41 : Ref sig .tc := ⟨.hbm, 55, rfl⟩
abbrev main_cst_3 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_4 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_5 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_6 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_7 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_8 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_9 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_cst_10 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_cst_11 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112_0 : Ref sig .tc := ⟨.hbm, 135, rfl⟩
abbrev main_v112_1 : Ref sig .tc := ⟨.hbm, 136, rfl⟩
abbrev main_v112_2 : Ref sig .tc := ⟨.hbm, 137, rfl⟩
abbrev main_v112_3 : Ref sig .tc := ⟨.hbm, 138, rfl⟩
abbrev main_v112_4 : Ref sig .tc := ⟨.hbm, 139, rfl⟩
abbrev main_v112_5 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem16_0 : DmaSem sig := 24
abbrev cc0_sem17_0 : DmaSem sig := 25
abbrev cc0_sem18_0 : DmaSem sig := 26

abbrev nD : Nat := 1
abbrev τ : Topo := Topo.v7x

variable {F : FTy → Type} [FloatOps F]

abbrev grid0 : Pipeline.Grid := ⟨1, ![8], ![false]⟩

def k0_cond18 (i : grid0.Coords) : BitVec 1 :=
  let arg0 : BitVec 32 := BitVec.ofNat 32 (i 0).val
  let c0_i32 : BitVec 32 := 0#32
  let v0 : BitVec 1 := Scalar.cmpi .eq arg0 c0_i32
  let v294 : BitVec 32 := Scalar.extui v0
  let c0_i32_150 : BitVec 32 := 0#32
  let v295 : BitVec 1 := Scalar.cmpi .ne v294 c0_i32_150
  v295

def k0_cond19 (i : grid0.Coords) : BitVec 1 :=
  let arg0 : BitVec 32 := BitVec.ofNat 32 (i 0).val
  let c0_i32 : BitVec 32 := 0#32
  let v0 : BitVec 1 := Scalar.cmpi .eq arg0 c0_i32
  let true_151 : BitVec 1 := 1#1
  let v296 : BitVec 1 := Scalar.xori v0 true_151
  let v297 : BitVec 32 := Scalar.extui v296
  let c0_i32_152 : BitVec 32 := 0#32
  let v298 : BitVec 1 := Scalar.cmpi .ne v297 c0_i32_152
  v298

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v33 : BitVec 32 := Scalar.extui v0
  let c0_i32_13 : BitVec 32 := 0#32
  let v34 : BitVec 1 := Scalar.cmpi .ne v33 c0_i32_13
  v34

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v35 : BitVec 1 := Scalar.xori v0 v_true
  let v36 : BitVec 32 := Scalar.extui v35
  let c0_i32_14 : BitVec 32 := 0#32
  let v37 : BitVec 1 := Scalar.cmpi .ne v36 c0_i32_14
  v37

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v41 : BitVec 32 := Scalar.extui v0
  let c0_i32_16 : BitVec 32 := 0#32
  let v42 : BitVec 1 := Scalar.cmpi .ne v41 c0_i32_16
  v42

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let true_17 : BitVec 1 := 1#1
  let v43 : BitVec 1 := Scalar.xori v0 true_17
  let v44 : BitVec 32 := Scalar.extui v43
  let c0_i32_18 : BitVec 32 := 0#32
  let v45 : BitVec 1 := Scalar.cmpi .ne v44 c0_i32_18
  v45

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let v49 : BitVec 32 := Scalar.extui v0
  let c0_i32_20 : BitVec 32 := 0#32
  let v50 : BitVec 1 := Scalar.cmpi .ne v49 c0_i32_20
  v50

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let true_21 : BitVec 1 := 1#1
  let v51 : BitVec 1 := Scalar.xori v0 true_21
  let v52 : BitVec 32 := Scalar.extui v51
  let c0_i32_22 : BitVec 32 := 0#32
  let v53 : BitVec 1 := Scalar.cmpi .ne v52 c0_i32_22
  v53

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let v82 : BitVec 32 := Scalar.extui v0
  let c0_i32_38 : BitVec 32 := 0#32
  let v83 : BitVec 1 := Scalar.cmpi .ne v82 c0_i32_38
  v83

def k0_cond9 (i : grid0.Coords) : BitVec 1 :=
  let arg0 : BitVec 32 := BitVec.ofNat 32 (i 0).val
  let c0_i32 : BitVec 32 := 0#32
  let v0 : BitVec 1 := Scalar.cmpi .eq arg0 c0_i32
  let true_39 : BitVec 1 := 1#1
  let v84 : BitVec 1 := Scalar.xori v0 true_39
  let v85 : BitVec 32 := Scalar.extui v84
  let c0_i32_41 : BitVec 32 := 0#32
  let v86 : BitVec 1 := Scalar.cmpi .ne v85 c0_i32_41
  v86

def k0_cond10 (i : grid0.Coords) : BitVec 1 :=
  let arg0 : BitVec 32 := BitVec.ofNat 32 (i 0).val
  let c0_i32 : BitVec 32 := 0#32
  let v0 : BitVec 1 := Scalar.cmpi .eq arg0 c0_i32
  let v120 : BitVec 32 := Scalar.extui v0
  let c0_i32_59 : BitVec 32 := 0#32
  let v121 : BitVec 1 := Scalar.cmpi .ne v120 c0_i32_59
  v121

def k0_cond11 (i : grid0.Coords) : BitVec 1 :=
  let arg0 : BitVec 32 := BitVec.ofNat 32 (i 0).val
  let c0_i32 : BitVec 32 := 0#32
  let v0 : BitVec 1 := Scalar.cmpi .eq arg0 c0_i32
  let true_60 : BitVec 1 := 1#1
  let v122 : BitVec 1 := Scalar.xori v0 true_60
  let v123 : BitVec 32 := Scalar.extui v122
  let c0_i32_62 : BitVec 32 := 0#32
  let v124 : BitVec 1 := Scalar.cmpi .ne v123 c0_i32_62
  v124

def k0_cond12 (i : grid0.Coords) : BitVec 1 :=
  let arg0 : BitVec 32 := BitVec.ofNat 32 (i 0).val
  let c0_i32 : BitVec 32 := 0#32
  let v0 : BitVec 1 := Scalar.cmpi .eq arg0 c0_i32
  let v158 : BitVec 32 := Scalar.extui v0
  let c0_i32_82 : BitVec 32 := 0#32
  let v159 : BitVec 1 := Scalar.cmpi .ne v158 c0_i32_82
  v159

def k0_cond13 (i : grid0.Coords) : BitVec 1 :=
  let arg0 : BitVec 32 := BitVec.ofNat 32 (i 0).val
  let c0_i32 : BitVec 32 := 0#32
  let v0 : BitVec 1 := Scalar.cmpi .eq arg0 c0_i32
  let true_83 : BitVec 1 := 1#1
  let v160 : BitVec 1 := Scalar.xori v0 true_83
  let v161 : BitVec 32 := Scalar.extui v160
  let c0_i32_85 : BitVec 32 := 0#32
  let v162 : BitVec 1 := Scalar.cmpi .ne v161 c0_i32_85
  v162

def k0_cond14 (i : grid0.Coords) : BitVec 1 :=
  let arg0 : BitVec 32 := BitVec.ofNat 32 (i 0).val
  let c0_i32 : BitVec 32 := 0#32
  let v0 : BitVec 1 := Scalar.cmpi .eq arg0 c0_i32
  let v196 : BitVec 32 := Scalar.extui v0
  let c0_i32_104 : BitVec 32 := 0#32
  let v197 : BitVec 1 := Scalar.cmpi .ne v196 c0_i32_104
  v197

def k0_cond15 (i : grid0.Coords) : BitVec 1 :=
  let arg0 : BitVec 32 := BitVec.ofNat 32 (i 0).val
  let c0_i32 : BitVec 32 := 0#32
  let v0 : BitVec 1 := Scalar.cmpi .eq arg0 c0_i32
  let true_105 : BitVec 1 := 1#1
  let v198 : BitVec 1 := Scalar.xori v0 true_105
  let v199 : BitVec 32 := Scalar.extui v198
  let c0_i32_107 : BitVec 32 := 0#32
  let v200 : BitVec 1 := Scalar.cmpi .ne v199 c0_i32_107
  v200

def k0_cond16 (i : grid0.Coords) : BitVec 1 :=
  let arg0 : BitVec 32 := BitVec.ofNat 32 (i 0).val
  let c0_i32 : BitVec 32 := 0#32
  let v0 : BitVec 1 := Scalar.cmpi .eq arg0 c0_i32
  let v220 : BitVec 32 := Scalar.extui v0
  let c0_i32_118 : BitVec 32 := 0#32
  let v221 : BitVec 1 := Scalar.cmpi .ne v220 c0_i32_118
  v221

def k0_cond17 (i : grid0.Coords) : BitVec 1 :=
  let arg0 : BitVec 32 := BitVec.ofNat 32 (i 0).val
  let c0_i32 : BitVec 32 := 0#32
  let v0 : BitVec 1 := Scalar.cmpi .eq arg0 c0_i32
  let true_119 : BitVec 1 := 1#1
  let v222 : BitVec 1 := Scalar.xori v0 true_119
  let v223 : BitVec 32 := Scalar.extui v222
  let c0_i32_120 : BitVec 32 := 0#32
  let v224 : BitVec 1 := Scalar.cmpi .ne v223 c0_i32_120
  v224

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S3x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== ReferenceIdeal.lean ====
abbrev S4096x1024 : Shape := ⟨2, ![4096, 1024]⟩
abbrev S1x1024 : Shape := ⟨2, ![1, 1024]⟩
abbrev S1024x2048 : Shape := ⟨2, ![1024, 2048]⟩
abbrev S3x512 : Shape := ⟨2, ![3, 512]⟩
abbrev S4x128x128 : Shape := ⟨3, ![4, 128, 128]⟩
abbrev S1x512 : Shape := ⟨2, ![1, 512]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩
abbrev S4096x512 : Shape := ⟨2, ![4096, 512]⟩
abbrev S2x512 : Shape := ⟨2, ![2, 512]⟩
abbrev S4098x512 : Shape := ⟨2, ![4098, 512]⟩
abbrev S512 : Shape := ⟨1, ![512]⟩
abbrev S4096x4x128 : Shape := ⟨3, ![4096, 4, 128]⟩
abbrev S4096x1x128 : Shape := ⟨3, ![4096, 1, 128]⟩
abbrev S4096x128 : Shape := ⟨2, ![4096, 128]⟩
abbrev S2x128 : Shape := ⟨2, ![2, 128]⟩
abbrev S4094x128 : Shape := ⟨2, ![4094, 128]⟩
abbrev S4x128 : Shape := ⟨2, ![4, 128]⟩
abbrev S4092x128 : Shape := ⟨2, ![4092, 128]⟩
abbrev S8x128 : Shape := ⟨2, ![8, 128]⟩
abbrev S4088x128 : Shape := ⟨2, ![4088, 128]⟩
abbrev S16x128 : Shape := ⟨2, ![16, 128]⟩
abbrev S4080x128 : Shape := ⟨2, ![4080, 128]⟩
abbrev S4x128x4096 : Shape := ⟨3, ![4, 128, 4096]⟩
abbrev S4x4096x128 : Shape := ⟨3, ![4, 4096, 128]⟩
abbrev S1024 : Shape := ⟨1, ![1024]⟩

abbrev nBuf : Space → Nat
  | .hbm => 328
  | .vmem => 0
  | .smem => 0
  | _ => 0

abbrev hbmTy0_0 (i : Nat) : BufTy := match i % 128 with
  | 0 => ⟨S4096x1024, .f32⟩
  | 1 => ⟨S1x1024, .f32⟩
  | 2 => ⟨S1024x2048, .f32⟩
  | 3 => ⟨S3x512, .f32⟩
  | 4 => ⟨S4x128x128, .f32⟩
  | 5 => ⟨S1x512, .f32⟩
  | 6 => ⟨S1024x1024, .f32⟩
  | 7 => ⟨S4096x1024, .f32⟩
  | 8 => ⟨S4096x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1024, .f32⟩
  | 24 => ⟨S4096x1024, .f32⟩
  | 25 => ⟨S4096x1024, .f32⟩
  | 26 => ⟨S4096x1024, .f32⟩
  | 27 => ⟨S4096x2048, .f32⟩
  | 28 => ⟨S4096x512, .f32⟩
  | 29 => ⟨S4096x512, .f32⟩
  | 30 => ⟨S4096x512, .f32⟩
  | 31 => ⟨S4096x512, .f32⟩
  | 32 => ⟨S4096x512, .f32⟩
  | 33 => ⟨S_, .f32⟩
  | 34 => ⟨S2x512, .f32⟩
  | 35 => ⟨S4098x512, .f32⟩
  | 36 => ⟨S_, .f32⟩
  | 37 => ⟨S2x512, .f32⟩
  | 38 => ⟨S4096x512, .f32⟩
  | 39 => ⟨S1x512, .f32⟩
  | 40 => ⟨S512, .f32⟩
  | 41 => ⟨S1x512, .f32⟩
  | 42 => ⟨S4096x512, .f32⟩
  | 43 => ⟨S4096x512, .f32⟩
  | 44 => ⟨S4096x512, .f32⟩
  | 45 => ⟨S1x512, .f32⟩
  | 46 => ⟨S512, .f32⟩
  | 47 => ⟨S1x512, .f32⟩
  | 48 => ⟨S4096x512, .f32⟩
  | 49 => ⟨S4096x512, .f32⟩
  | 50 => ⟨S4096x512, .f32⟩
  | 51 => ⟨S4096x512, .f32⟩
  | 52 => ⟨S1x512, .f32⟩
  | 53 => ⟨S512, .f32⟩
  | 54 => ⟨S1x512, .f32⟩
  | 55 => ⟨S4096x512, .f32⟩
  | 56 => ⟨S4096x512, .f32⟩
  | 57 => ⟨S4096x512, .f32⟩
  | 58 => ⟨S4096x512, .f32⟩
  | 59 => ⟨S4096x4x128, .f32⟩
  | 60 => ⟨S_, .f32⟩
  | 61 => ⟨S_, .f32⟩
  | 62 => ⟨S4096x4x128, .f32⟩
  | 63 => ⟨S4096, .f32⟩
  | 64 => ⟨S_, .f32⟩
  | 65 => ⟨S4096, .f32⟩
  | 66 => ⟨S4096, .f32⟩
  | 67 => ⟨S4096x1, .f32⟩
  | 68 => ⟨S4096x1x128, .f32⟩
  | 69 => ⟨S4096x128, .f32⟩
  | 70 => ⟨S_, .f32⟩
  | 71 => ⟨S2x128, .f32⟩
  | 72 => ⟨S4094x128, .f32⟩
  | 73 => ⟨S4096x128, .f32⟩
  | 74 => ⟨S_, .f32⟩
  | 75 => ⟨S2x128, .f32⟩
  | 76 => ⟨S_, .f32⟩
  | 77 => ⟨S4096x1, .f32⟩
  | 78 => ⟨S4096x1, .f32⟩
  | 79 => ⟨S4096x128, .f32⟩
  | 80 => ⟨S4096x128, .f32⟩
  | 81 => ⟨S4096x128, .f32⟩
  | 82 => ⟨S4096x1x128, .f32⟩
  | 83 => ⟨S4096x128, .f32⟩
  | 84 => ⟨S4096x128, .f32⟩
  | 85 => ⟨S4096x1x128, .f32⟩
  | 86 => ⟨S4096x128, .f32⟩
  | 87 => ⟨S_, .f32⟩
  | 88 => ⟨S4x128, .f32⟩
  | 89 => ⟨S4092x128, .f32⟩
  | 90 => ⟨S4096x128, .f32⟩
  | 91 => ⟨S_, .f32⟩
  | 92 => ⟨S4x128, .f32⟩
  | 93 => ⟨S_, .f32⟩
  | 94 => ⟨S4096x1, .f32⟩
  | 95 => ⟨S4096x1, .f32⟩
  | 96 => ⟨S4096x128, .f32⟩
  | 97 => ⟨S4096x128, .f32⟩
  | 98 => ⟨S4096x128, .f32⟩
  | 99 => ⟨S4096x1x128, .f32⟩
  | 100 => ⟨S4096x128, .f32⟩
  | 101 => ⟨S4096x128, .f32⟩
  | 102 => ⟨S4096x1x128, .f32⟩
  | 103 => ⟨S4096x128, .f32⟩
  | 104 => ⟨S_, .f32⟩
  | 105 => ⟨S8x128, .f32⟩
  | 106 => ⟨S4088x128, .f32⟩
  | 107 => ⟨S4096x128, .f32⟩
  | 108 => ⟨S_, .f32⟩
  | 109 => ⟨S8x128, .f32⟩
  | 110 => ⟨S_, .f32⟩
  | 111 => ⟨S4096x1, .f32⟩
  | 112 => ⟨S4096x1, .f32⟩
  | 113 => ⟨S4096x128, .f32⟩
  | 114 => ⟨S4096x128, .f32⟩
  | 115 => ⟨S4096x128, .f32⟩
  | 116 => ⟨S4096x1x128, .f32⟩
  | 117 => ⟨S4096x128, .f32⟩
  | 118 => ⟨S4096x128, .f32⟩
  | 119 => ⟨S4096x1x128, .f32⟩
  | 120 => ⟨S4096x128, .f32⟩
  | 121 => ⟨S_, .f32⟩
  | 122 => ⟨S16x128, .f32⟩
  | 123 => ⟨S4080x128, .f32⟩
  | 124 => ⟨S4096x128, .f32⟩
  | 125 => ⟨S_, .f32⟩
  | 126 => ⟨S16x128, .f32⟩
  | 127 => ⟨S_, .f32⟩
  | _ => ⟨S4096x1024, .f32⟩

abbrev hbmTy0_1 (i : Nat) : BufTy := match i % 128 with
  | 0 => ⟨S4096x1, .f32⟩
  | 1 => ⟨S4096x1, .f32⟩
  | 2 => ⟨S4096x128, .f32⟩
  | 3 => ⟨S4096x128, .f32⟩
  | 4 => ⟨S4096x128, .f32⟩
  | 5 => ⟨S4096x1x128, .f32⟩
  | 6 => ⟨S4096x128, .f32⟩
  | 7 => ⟨S4096x128, .f32⟩
  | 8 => ⟨S4096x1x128, .f32⟩
  | 9 => ⟨S4096x1x128, .f32⟩
  | 10 => ⟨S4096x1x128, .f32⟩
  | 11 => ⟨S4096x1x128, .f32⟩
  | 12 => ⟨S4096x4x128, .f32⟩
  | 13 => ⟨S4x128x4096, .f32⟩
  | 14 => ⟨S4096x4x128, .f32⟩
  | 15 => ⟨S4096x512, .f32⟩
  | 16 => ⟨S4096x512, .f32⟩
  | 17 => ⟨S4096x512, .f32⟩
  | 18 => ⟨S4096x1024, .f32⟩
  | 19 => ⟨S4096x1024, .f32⟩
  | 20 => ⟨S4096x1024, .f32⟩
  | 21 => ⟨S4096x512, .f32⟩
  | 22 => ⟨S4096x512, .f32⟩
  | 23 => ⟨S4096x512, .f32⟩
  | 24 => ⟨S_, .f32⟩
  | 25 => ⟨S512, .f32⟩
  | 26 => ⟨S1x512, .f32⟩
  | 27 => ⟨S4096x512, .f32⟩
  | 28 => ⟨S4096x512, .f32⟩
  | 29 => ⟨S4096x4x128, .f32⟩
  | 30 => ⟨S4x128x4096, .f32⟩
  | 31 => ⟨S4x4096x128, .f32⟩
  | 32 => ⟨S4096x4x128, .f32⟩
  | 33 => ⟨S4x128x128, .f32⟩
  | 34 => ⟨S4x128x128, .f32⟩
  | 35 => ⟨S4096x1x128, .f32⟩
  | 36 => ⟨S4096x128, .f32⟩
  | 37 => ⟨S4096x1x128, .f32⟩
  | 38 => ⟨S4096x128, .f32⟩
  | 39 => ⟨S4096x1x128, .f32⟩
  | 40 => ⟨S4096x128, .f32⟩
  | 41 => ⟨S4096x1x128, .f32⟩
  | 42 => ⟨S4096x128, .f32⟩
  | 43 => ⟨S4096x128, .f32⟩
  | 44 => ⟨S4096x1x128, .f32⟩
  | 45 => ⟨S_, .f32⟩
  | 46 => ⟨S4096x4x128, .f32⟩
  | 47 => ⟨S4096x128, .f32⟩
  | 48 => ⟨S4096x128, .f32⟩
  | 49 => ⟨S4096x128, .f32⟩
  | 50 => ⟨S16x128, .f32⟩
  | 51 => ⟨S4080x128, .f32⟩
  | 52 => ⟨S_, .f32⟩
  | 53 => ⟨S4096x128, .f32⟩
  | 54 => ⟨S4096x128, .f32⟩
  | 55 => ⟨S4096x1x128, .f32⟩
  | 56 => ⟨S_, .f32⟩
  | 57 => ⟨S4096x4x128, .f32⟩
  | 58 => ⟨S4096x128, .f32⟩
  | 59 => ⟨S4096x1x128, .f32⟩
  | 60 => ⟨S_, .f32⟩
  | 61 => ⟨S4096x4x128, .f32⟩
  | 62 => ⟨S4096x4x128, .f32⟩
  | 63 => ⟨S4096x128, .f32⟩
  | 64 => ⟨S4096x128, .f32⟩
  | 65 => ⟨S4096x128, .f32⟩
  | 66 => ⟨S8x128, .f32⟩
  | 67 => ⟨S4088x128, .f32⟩
  | 68 => ⟨S_, .f32⟩
  | 69 => ⟨S4096x128, .f32⟩
  | 70 => ⟨S4096x128, .f32⟩
  | 71 => ⟨S4096x1x128, .f32⟩
  | 72 => ⟨S_, .f32⟩
  | 73 => ⟨S4096x4x128, .f32⟩
  | 74 => ⟨S4096x4x128, .f32⟩
  | 75 => ⟨S4096x128, .f32⟩
  | 76 => ⟨S4096x1x128, .f32⟩
  | 77 => ⟨S_, .f32⟩
  | 78 => ⟨S4096x4x128, .f32⟩
  | 79 => ⟨S4096x4x128, .f32⟩
  | 80 => ⟨S4096x128, .f32⟩
  | 81 => ⟨S4096x128, .f32⟩
  | 82 => ⟨S4096x128, .f32⟩
  | 83 => ⟨S4x128, .f32⟩
  | 84 => ⟨S4092x128, .f32⟩
  | 85 => ⟨S_, .f32⟩
  | 86 => ⟨S4096x128, .f32⟩
  | 87 => ⟨S4096x128, .f32⟩
  | 88 => ⟨S4096x1x128, .f32⟩
  | 89 => ⟨S_, .f32⟩
  | 90 => ⟨S4096x4x128, .f32⟩
  | 91 => ⟨S4096x4x128, .f32⟩
  | 92 => ⟨S4096x128, .f32⟩
  | 93 => ⟨S4096x1x128, .f32⟩
  | 94 => ⟨S_, .f32⟩
  | 95 => ⟨S4096x4x128, .f32⟩
  | 96 => ⟨S4096x4x128, .f32⟩
  | 97 => ⟨S4096x128, .f32⟩
  | 98 => ⟨S4096x128, .f32⟩
  | 99 => ⟨S4096x128, .f32⟩
  | 100 => ⟨S2x128, .f32⟩
  | 101 => ⟨S4094x128, .f32⟩
  | 102 => ⟨S_, .f32⟩
  | 103 => ⟨S4096x128, .f32⟩
  | 104 => ⟨S4096x128, .f32⟩
  | 105 => ⟨S4096x1x128, .f32⟩
  | 106 => ⟨S_, .f32⟩
  | 107 => ⟨S4096x4x128, .f32⟩
  | 108 => ⟨S4096x4x128, .f32⟩
  | 109 => ⟨S_, .f32⟩
  | 110 => ⟨S_, .f32⟩
  | 111 => ⟨S4096x4x128, .f32⟩
  | 112 => ⟨S4096x4x128, .f32⟩
  | 113 => ⟨S4096x512, .f32⟩
  | 114 => ⟨S4096x512, .f32⟩
  | 115 => ⟨S4096x512, .f32⟩
  | 116 => ⟨S4096x512, .f32⟩
  | 117 => ⟨S_, .f32⟩
  | 118 => ⟨S512, .f32⟩
  | 119 => ⟨S1x512, .f32⟩
  | 120 => ⟨S4096x512, .f32⟩
  | 121 => ⟨S4096x512, .f32⟩
  | 122 => ⟨S_, .f32⟩
  | 123 => ⟨S512, .f32⟩
  | 124 => ⟨S1x512, .f32⟩
  | 125 => ⟨S_, .f32⟩
  | 126 => ⟨S3x512, .f32⟩
  | 127 => ⟨S_, .f32⟩
  | _ => ⟨S4096x1024, .f32⟩

abbrev hbmTy0_2 (i : Nat) : BufTy := match i % 128 with
  | 0 => ⟨S4098x512, .f32⟩
  | 1 => ⟨S4096x512, .f32⟩
  | 2 => ⟨S_, .f32⟩
  | 3 => ⟨S512, .f32⟩
  | 4 => ⟨S1x512, .f32⟩
  | 5 => ⟨S4096x512, .f32⟩
  | 6 => ⟨S4096x512, .f32⟩
  | 7 => ⟨S_, .f32⟩
  | 8 => ⟨S512, .f32⟩
  | 9 => ⟨S1x512, .f32⟩
  | 10 => ⟨S_, .f32⟩
  | 11 => ⟨S3x512, .f32⟩
  | 12 => ⟨S3x512, .f32⟩
  | 13 => ⟨S_, .f32⟩
  | 14 => ⟨S4098x512, .f32⟩
  | 15 => ⟨S4098x512, .f32⟩
  | 16 => ⟨S4096x512, .f32⟩
  | 17 => ⟨S_, .f32⟩
  | 18 => ⟨S512, .f32⟩
  | 19 => ⟨S1x512, .f32⟩
  | 20 => ⟨S4096x512, .f32⟩
  | 21 => ⟨S4096x512, .f32⟩
  | 22 => ⟨S_, .f32⟩
  | 23 => ⟨S512, .f32⟩
  | 24 => ⟨S1x512, .f32⟩
  | 25 => ⟨S_, .f32⟩
  | 26 => ⟨S3x512, .f32⟩
  | 27 => ⟨S3x512, .f32⟩
  | 28 => ⟨S_, .f32⟩
  | 29 => ⟨S4098x512, .f32⟩
  | 30 => ⟨S4098x512, .f32⟩
  | 31 => ⟨S2x512, .f32⟩
  | 32 => ⟨S4096x512, .f32⟩
  | 33 => ⟨S4096x512, .f32⟩
  | 34 => ⟨S4096x512, .f32⟩
  | 35 => ⟨S_, .f32⟩
  | 36 => ⟨S4096x2048, .f32⟩
  | 37 => ⟨S_, .f32⟩
  | 38 => ⟨S4096x2048, .f32⟩
  | 39 => ⟨S4096x2048, .f32⟩
  | 40 => ⟨S_, .f32⟩
  | 41 => ⟨S4096x2048, .f32⟩
  | 42 => ⟨S4096x2048, .f32⟩
  | 43 => ⟨S_, .f32⟩
  | 44 => ⟨S4096x2048, .f32⟩
  | 45 => ⟨S4096x2048, .f32⟩
  | 46 => ⟨S4096x1024, .f32⟩
  | 47 => ⟨S4096x1024, .f32⟩
  | 48 => ⟨S_, .f32⟩
  | 49 => ⟨S1024, .f32⟩
  | 50 => ⟨S1x1024, .f32⟩
  | 51 => ⟨S4096x1024, .f32⟩
  | 52 => ⟨S4096x1024, .f32⟩
  | 53 => ⟨S4096x1024, .f32⟩
  | 54 => ⟨S_, .f32⟩
  | 55 => ⟨S4096, .f32⟩
  | 56 => ⟨S4096x1, .f32⟩
  | 57 => ⟨S4096x1024, .f32⟩
  | 58 => ⟨S4096x1024, .f32⟩
  | 59 => ⟨S4096x1, .f32⟩
  | 60 => ⟨S_, .f32⟩
  | 61 => ⟨S4096x1, .f32⟩
  | 62 => ⟨S4096x1, .f32⟩
  | 63 => ⟨S_, .f32⟩
  | 64 => ⟨S4096, .f32⟩
  | 65 => ⟨S4096x1024, .f32⟩
  | 66 => ⟨S4096x1024, .f32⟩
  | 67 => ⟨S4096x1024, .f32⟩
  | 68 => ⟨S4096x1024, .f32⟩
  | 69 => ⟨S4096x1024, .f32⟩
  | 70 => ⟨S4096x2048, .bf16⟩
  | 71 => ⟨S4096x1024, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_call0_call0_cst : Ref sig .tc := ⟨.hbm, 60, rfl⟩
abbrev main_call0_call0_v0 : Ref sig .tc := ⟨.hbm, 61, rfl⟩
abbrev main_v46 : Ref sig .tc := ⟨.hbm, 62, rfl⟩
abbrev main_v47 : Ref sig .tc := ⟨.hbm, 63, rfl⟩
abbrev main_cst_5 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_6 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_7 : Ref sig .tc := ⟨.hbm, 74, rfl⟩
abbrev main_v56 : Ref sig .tc := ⟨.hbm, 75, rfl⟩
abbrev main_cst_8 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_9 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_10 : Ref sig .tc := ⟨.hbm, 91, rfl⟩
abbrev main_v70 : Ref sig .tc := ⟨.hbm, 92, rfl⟩
abbrev main_cst_11 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_12 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_13 : Ref sig .tc := ⟨.hbm, 108, rfl⟩
abbrev main_v84 : Ref sig .tc := ⟨.hbm, 109, rfl⟩
abbrev main_cst_14 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_cst_15 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_16 : Ref sig .tc := ⟨.hbm, 125, rfl⟩
abbrev main_v98 : Ref sig .tc := ⟨.hbm, 126, rfl⟩
abbrev main_cst_17 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_cst_18 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_cst_19 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_cst_20 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_cst_21 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_cst_22 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_cst_23 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_cst_24 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_cst_25 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_cst_26 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_cst_27 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_cst_28 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_cst_29 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_cst_30 : Ref sig .tc := ⟨.hbm, 234, rfl⟩
abbrev main_v193 : Ref sig .tc := ⟨.hbm, 235, rfl⟩
abbrev main_v194 : Ref sig .tc := ⟨.hbm, 236, rfl⟩
abbrev main_call1_call0_cst : Ref sig .tc := ⟨.hbm, 237, rfl⟩
abbrev main_call1_call0_v0 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_cst_31 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩
abbrev main_v204 : Ref sig .tc := ⟨.hbm, 249, rfl⟩
abbrev main_cst_32 : Ref sig .tc := ⟨.hbm, 250, rfl⟩
abbrev main_v205 : Ref sig .tc := ⟨.hbm, 251, rfl⟩
abbrev main_v206 : Ref sig .tc := ⟨.hbm, 252, rfl⟩
abbrev main_cst_33 : Ref sig .tc := ⟨.hbm, 253, rfl⟩
abbrev main_v207 : Ref sig .tc := ⟨.hbm, 254, rfl⟩
abbrev main_cst_34 : Ref sig .tc := ⟨.hbm, 255, rfl⟩
abbrev main_v208 : Ref sig .tc := ⟨.hbm, 256, rfl⟩
abbrev main_v209 : Ref sig .tc := ⟨.hbm, 257, rfl⟩
abbrev main_cst_35 : Ref sig .tc := ⟨.hbm, 258, rfl⟩
abbrev main_v210 : Ref sig .tc := ⟨.hbm, 259, rfl⟩
abbrev main_v211 : Ref sig .tc := ⟨.hbm, 260, rfl⟩
abbrev main_v212 : Ref sig .tc := ⟨.hbm, 261, rfl⟩
abbrev main_v213 : Ref sig .tc := ⟨.hbm, 262, rfl⟩
abbrev main_cst_36 : Ref sig .tc := ⟨.hbm, 263, rfl⟩
abbrev main_v214 : Ref sig .tc := ⟨.hbm, 264, rfl⟩
abbrev main_v215 : Ref sig .tc := ⟨.hbm, 265, rfl⟩
abbrev main_cst_37 : Ref sig .tc := ⟨.hbm, 266, rfl⟩
abbrev main_v216 : Ref sig .tc := ⟨.hbm, 267, rfl⟩
abbrev main_v217 : Ref sig .tc := ⟨.hbm, 268, rfl⟩
abbrev main_cst_38 : Ref sig .tc := ⟨.hbm, 269, rfl⟩
abbrev main_v218 : Ref sig .tc := ⟨.hbm, 270, rfl⟩
abbrev main_v219 : Ref sig .tc := ⟨.hbm, 271, rfl⟩
abbrev main_v220 : Ref sig .tc := ⟨.hbm, 272, rfl⟩
abbrev main_cst_39 : Ref sig .tc := ⟨.hbm, 273, rfl⟩
abbrev main_v221 : Ref sig .tc := ⟨.hbm, 274, rfl⟩
abbrev main_v222 : Ref sig .tc := ⟨.hbm, 275, rfl⟩
abbrev main_v223 : Ref sig .tc := ⟨.hbm, 276, rfl⟩
abbrev main_v224 : Ref sig .tc := ⟨.hbm, 277, rfl⟩
abbrev main_cst_40 : Ref sig .tc := ⟨.hbm, 278, rfl⟩
abbrev main_v225 : Ref sig .tc := ⟨.hbm, 279, rfl⟩
abbrev main_v226 : Ref sig .tc := ⟨.hbm, 280, rfl⟩
abbrev main_cst_41 : Ref sig .tc := ⟨.hbm, 281, rfl⟩
abbrev main_v227 : Ref sig .tc := ⟨.hbm, 282, rfl⟩
abbrev main_v228 : Ref sig .tc := ⟨.hbm, 283, rfl⟩
abbrev main_cst_42 : Ref sig .tc := ⟨.hbm, 284, rfl⟩
abbrev main_v229 : Ref sig .tc := ⟨.hbm, 285, rfl⟩
abbrev main_v230 : Ref sig .tc := ⟨.hbm, 286, rfl⟩
abbrev main_v231 : Ref sig .tc := ⟨.hbm, 287, rfl⟩
abbrev main_v232 : Ref sig .tc := ⟨.hbm, 288, rfl⟩
abbrev main_v233 : Ref sig .tc := ⟨.hbm, 289, rfl⟩
abbrev main_v234 : Ref sig .tc := ⟨.hbm, 290, rfl⟩
abbrev main_cst_43 : Ref sig .tc := ⟨.hbm, 291, rfl⟩
abbrev main_v235 : Ref sig .tc := ⟨.hbm, 292, rfl⟩
abbrev main_cst_44 : Ref sig .tc := ⟨.hbm, 293, rfl⟩
abbrev main_v236 : Ref sig .tc := ⟨.hbm, 294, rfl⟩
abbrev main_v237 : Ref sig .tc := ⟨.hbm, 295, rfl⟩
abbrev main_cst_45 : Ref sig .tc := ⟨.hbm, 296, rfl⟩
abbrev main_v238 : Ref sig .tc := ⟨.hbm, 297, rfl⟩
abbrev main_v239 : Ref sig .tc := ⟨.hbm, 298, rfl⟩
abbrev main_cst_46 : Ref sig .tc := ⟨.hbm, 299, rfl⟩
abbrev main_v240 : Ref sig .tc := ⟨.hbm, 300, rfl⟩
abbrev main_v241 : Ref sig .tc := ⟨.hbm, 301, rfl⟩
abbrev main_v242 : Ref sig .tc := ⟨.hbm, 302, rfl⟩
abbrev main_v243 : Ref sig .tc := ⟨.hbm, 303, rfl⟩
abbrev main_cst_47 : Ref sig .tc := ⟨.hbm, 304, rfl⟩
abbrev main_v244 : Ref sig .tc := ⟨.hbm, 305, rfl⟩
abbrev main_v245 : Ref sig .tc := ⟨.hbm, 306, rfl⟩
abbrev main_v246 : Ref sig .tc := ⟨.hbm, 307, rfl⟩
abbrev main_v247 : Ref sig .tc := ⟨.hbm, 308, rfl⟩
abbrev main_v248 : Ref sig .tc := ⟨.hbm, 309, rfl⟩
abbrev main_cst_48 : Ref sig .tc := ⟨.hbm, 310, rfl⟩
abbrev main_v249 : Ref sig .tc := ⟨.hbm, 311, rfl⟩
abbrev main_v250 : Ref sig .tc := ⟨.hbm, 312, rfl⟩
abbrev main_v251 : Ref sig .tc := ⟨.hbm, 313, rfl⟩
abbrev main_v252 : Ref sig .tc := ⟨.hbm, 314, rfl⟩
abbrev main_v253 : Ref sig .tc := ⟨.hbm, 315, rfl⟩
abbrev main_cst_49 : Ref sig .tc := ⟨.hbm, 316, rfl⟩
abbrev main_v254 : Ref sig .tc := ⟨.hbm, 317, rfl⟩
abbrev main_v255 : Ref sig .tc := ⟨.hbm, 318, rfl⟩
abbrev main_cst_50 : Ref sig .tc := ⟨.hbm, 319, rfl⟩
abbrev main_v256 : Ref sig .tc := ⟨.hbm, 320, rfl⟩
abbrev main_v257 : Ref sig .tc := ⟨.hbm, 321, rfl⟩
abbrev main_v258 : Ref sig .tc := ⟨.hbm, 322, rfl⟩
abbrev main_v259 : Ref sig .tc := ⟨.hbm, 323, rfl⟩
abbrev main_v260 : Ref sig .tc := ⟨.hbm, 324, rfl⟩
abbrev main_v261 : Ref sig .tc := ⟨.hbm, 325, rfl⟩
abbrev main_v262 : Ref sig .tc := ⟨.hbm, 326, rfl⟩
abbrev main_v263 : Ref sig .tc := ⟨.hbm, 327, rfl⟩

abbrev nD : Nat := 1
abbrev τ : Topo := Topo.v7x

variable {F : FTy → Type} [FloatOps F]
-- ==== FfnBack.lean ====
abbrev S4096x3072 : Shape := ⟨2, ![4096, 3072]⟩
abbrev S1024x3072 : Shape := ⟨2, ![1024, 3072]⟩
abbrev S4096x1024 : Shape := ⟨2, ![4096, 1024]⟩
abbrev S1x1024 : Shape := ⟨2, ![1, 1024]⟩
abbrev S3072x1024 : Shape := ⟨2, ![3072, 1024]⟩
abbrev S512x3072 : Shape := ⟨2, ![512, 3072]⟩
abbrev S512x1024 : Shape := ⟨2, ![512, 1024]⟩
abbrev S256x3072 : Shape := ⟨2, ![256, 3072]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 16
  | .vmem => 16
  | .smem => 0
  | _ => 0

abbrev bufTy : (tb : Table) → Fin (tcTables nBuf tb) → BufTy
  | .hbm, ⟨0, _⟩ => ⟨S4096x3072, .f32⟩
  | .hbm, ⟨1, _⟩ => ⟨S4096x3072, .f32⟩
  | .hbm, ⟨2, _⟩ => ⟨S1024x3072, .f32⟩
  | .hbm, ⟨3, _⟩ => ⟨S1024x3072, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x3072, .bf16⟩
  | .hbm, ⟨8, _⟩ => ⟨S4096x3072, .bf16⟩
  | .hbm, ⟨9, _⟩ => ⟨S3072x1024, .f32⟩
  | .hbm, ⟨10, _⟩ => ⟨S3072x1024, .bf16⟩
  | .hbm, ⟨11, _⟩ => ⟨S3072x1024, .f32⟩
  | .hbm, ⟨12, _⟩ => ⟨S3072x1024, .bf16⟩
  | .hbm, ⟨13, _⟩ => ⟨S4096x1024, .f32⟩
  | .hbm, ⟨14, _⟩ => ⟨S4096x1024, .bf16⟩
  | .hbm, ⟨15, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S512x3072, .bf16⟩
  | .local _ .vmem, ⟨3, _⟩ => ⟨S512x3072, .bf16⟩
  | .local _ .vmem, ⟨4, _⟩ => ⟨S3072x1024, .bf16⟩
  | .local _ .vmem, ⟨5, _⟩ => ⟨S3072x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v82 : BitVec 1 := Scalar.cmpi .eq arg0 c0_i32
  let v83 : BitVec 32 := Scalar.extui v82
  let c0_i32_43 : BitVec 32 := 0#32
  let v84 : BitVec 1 := Scalar.cmpi .ne v83 c0_i32_43
  v84

def k0_cond2 (i : grid0.Coords) : BitVec 1 :=
  let arg0 : BitVec 32 := BitVec.ofNat 32 (i 0).val
  let c0_i32 : BitVec 32 := 0#32
  let v82 : BitVec 1 := Scalar.cmpi .eq arg0 c0_i32
  let v_true : BitVec 1 := 1#1
  let v85 : BitVec 1 := Scalar.xori v82 v_true
  let v86 : BitVec 32 := Scalar.extui v85
  let c0_i32_44 : BitVec 32 := 0#32
  let v87 : BitVec 1 := Scalar.cmpi .ne v86 c0_i32_44
  v87

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3072x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FfnBackRefIdeal.lean ====
abbrev S4096x3072 : Shape := ⟨2, ![4096, 3072]⟩
abbrev S1024x3072 : Shape := ⟨2, ![1024, 3072]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x3072, .f32⟩
  | .hbm, ⟨2, _⟩ => ⟨S1024x3072, .f32⟩
  | .hbm, ⟨3, _⟩ => ⟨S1024x3072, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x3072, .f32⟩
  | .hbm, ⟨27, _⟩ => ⟨S4096x3072, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== WgradFfn.lean ====
abbrev S4096x3072 : Shape := ⟨2, ![4096, 3072]⟩
abbrev S4096x1024 : Shape := ⟨2, ![4096, 1024]⟩
abbrev S3072x1024 : Shape := ⟨2, ![3072, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S4096x3072, .bf16⟩
  | .hbm, ⟨3, _⟩ => ⟨S4096x1024, .bf16⟩
  | .hbm, ⟨4, _⟩ => ⟨S3072x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![3, 1], ![false, false]⟩

def k0_cond3 (i : grid0.Coords) : BitVec 1 :=
  let arg1 : BitVec 32 := BitVec.ofNat 32 (i 1).val
  let c0_i32_5 : BitVec 32 := 0#32
  let v11 : BitVec 1 := Scalar.cmpi .eq arg1 c0_i32_5
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgradFfnRefIdeal.lean ====
abbrev S4096x3072 : Shape := ⟨2, ![4096, 3072]⟩
abbrev S4096x1024 : Shape := ⟨2, ![4096, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 8
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S_, .f32⟩
  | .hbm, ⟨3, _⟩ => ⟨S3072x1024, .f32⟩
  | .hbm, ⟨4, _⟩ => ⟨S4096x1024, .f32⟩
  | .hbm, ⟨5, _⟩ => ⟨S1024x3072, .f32⟩
  | .hbm, ⟨6, _⟩ => ⟨S3072x1024, .f32⟩
  | .hbm, ⟨7, _⟩ => ⟨S3072x1024, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== WgradIn.lean ====
abbrev S4096x1024 : Shape := ⟨2, ![4096, 1024]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .bf16⟩
  | .hbm, ⟨3, _⟩ => ⟨S4096x2048, .bf16⟩
  | .hbm, ⟨4, _⟩ => ⟨S1024x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== WgradInIdeal.lean ====
abbrev S4096x1024 : Shape := ⟨2, ![4096, 1024]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .bf16⟩
  | .hbm, ⟨3, _⟩ => ⟨S4096x2048, .bf16⟩
  | .hbm, ⟨4, _⟩ => ⟨S1024x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== WgradInRefIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S2048x1024, .f32⟩
  | .hbm, ⟨6, _⟩ => ⟨S1024x2048, .f32⟩
  | .hbm, ⟨7, _⟩ => ⟨S1024x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== WgradOut.lean ====
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== WgradOutRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnGate.lean ====
abbrev S4096x3072 : Shape := ⟨2, ![4096, 3072]⟩
abbrev S3x3072 : Shape := ⟨2, ![3, 3072]⟩
abbrev S1x3072 : Shape := ⟨2, ![1, 3072]⟩
abbrev S3072x1024 : Shape := ⟨2, ![3072, 1024]⟩
abbrev S4096x1024 : Shape := ⟨2, ![4096, 1024]⟩
abbrev S_ : Shape := ⟨0, ![]⟩
abbrev S2x3072 : Shape := ⟨2, ![2, 3072]⟩
abbrev S4098x3072 : Shape := ⟨2, ![4098, 3072]⟩
abbrev S3072 : Shape := ⟨1, ![3072]⟩
abbrev S2048x512 : Shape := ⟨2, ![2048, 512]⟩
abbrev S512x1024 : Shape := ⟨2, ![512, 1024]⟩
abbrev S3x512 : Shape := ⟨2, ![3, 512]⟩
abbrev S1x512 : Shape := ⟨2, ![1, 512]⟩
abbrev S2064x512 : Shape := ⟨2, ![2064, 512]⟩
abbrev S16x512 : Shape := ⟨2, ![16, 512]⟩
abbrev S256x1024 : Shape := ⟨2, ![256, 1024]⟩
abbrev S256x512 : Shape := ⟨2, ![256, 512]⟩
abbrev S272x512 : Shape := ⟨2, ![272, 512]⟩
abbrev S512 : Shape := ⟨1, ![512]⟩

abbrev nBuf : Space → Nat
  | .hbm => 55
  | .vmem => 20
  | .smem => 0
  | _ => 0

abbrev bufTy : (tb : Table) → Fin (tcTables nBuf tb) → BufTy
  | .hbm, ⟨0, _⟩ => ⟨S4096x3072, .f32⟩
  | .hbm, ⟨1, _⟩ => ⟨S4096x3072, .f32⟩
  | .hbm, ⟨2, _⟩ => ⟨S3x3072, .f32⟩
  | .hbm, ⟨3, _⟩ => ⟨S1x3072, .f32⟩
  | .hbm, ⟨4, _⟩ => ⟨S3072x1024, .f32⟩
  | .hbm, ⟨5, _⟩ => ⟨S4096x1024, .f32⟩
  | .hbm, ⟨6, _⟩ => ⟨S_, .f32⟩
  | .hbm, ⟨7, _⟩ => ⟨S2x3072, .f32⟩
  | .hbm, ⟨8, _⟩ => ⟨S4098x3072, .f32⟩
  | .hbm, ⟨9, _⟩ => ⟨S4096x3072, .f32⟩
  | .hbm, ⟨10, _⟩ => ⟨S1x3072, .f32⟩
  | .hbm, ⟨11, _⟩ => ⟨S3072, .f32⟩
  | .hbm, ⟨12, _⟩ => ⟨S1x3072, .f32⟩
  | .hbm, ⟨13, _⟩ => ⟨S4096x3072, .f32⟩
  | .hbm, ⟨14, _⟩ => ⟨S4096x3072, .f32⟩
  | .hbm, ⟨15, _⟩ => ⟨S4096x3072, .f32⟩
  | .hbm, ⟨16, _⟩ => ⟨S1x3072, .f32⟩
  | .hbm, ⟨17, _⟩ => ⟨S3072, .f32⟩
  | .hbm, ⟨18, _⟩ => ⟨S1x3072, .f32⟩
  | .hbm, ⟨19, _⟩ => ⟨S4096x3072, .f32⟩
  | .hbm, ⟨20, _⟩ => ⟨S4096x3072, .f32⟩
  | .hbm, ⟨21, _⟩ => ⟨S4096x3072, .f32⟩
  | .hbm, ⟨22, _⟩ => ⟨S4096x3072, .f32⟩
  | .hbm, ⟨23, _⟩ => ⟨S1x3072, .f32⟩
  | .hbm, ⟨24, _⟩ => ⟨S3072, .f32⟩
  | .hbm, ⟨25, _⟩ => ⟨S1x3072, .f32⟩
  | .hbm, ⟨26, _⟩ => ⟨S4096x3072, .f32⟩
  | .hbm, ⟨27, _⟩ => ⟨S4096x3072, .f32⟩
  | .hbm, ⟨28, _⟩ => ⟨S4096x3072, .f32⟩
  | .hbm, ⟨29, _⟩ => ⟨S4096x3072, .f32⟩
  | .hbm, ⟨30, _⟩ => ⟨S4096x3072, .f32⟩
  | .hbm, ⟨31, _⟩ => ⟨S4096x3072, .f32⟩
  | .hbm, ⟨32, _⟩ => ⟨S4096x3072, .f32⟩
  | .hbm, ⟨33, _⟩ => ⟨S_, .f32⟩
  | .hbm, ⟨34, _⟩ => ⟨S4096x3072, .f32⟩
  | .hbm, ⟨35, _⟩ => ⟨S4096x3072, .f32⟩
  | .hbm, ⟨36, _⟩ => ⟨S_, .f32⟩
  | .hbm, ⟨37, _⟩ => ⟨S4096x3072, .f32⟩
  | .hbm, ⟨38, _⟩ => ⟨S4096x3072, .f32⟩
  | .hbm, ⟨39, _⟩ => ⟨S4096x3072, .f32⟩
  | .hbm, ⟨40, _⟩ => ⟨S_, .f32⟩
  | .hbm, ⟨41, _⟩ => ⟨S4096x3072, .f32⟩
  | .hbm, ⟨42, _⟩ => ⟨S4096x3072, .f32⟩
  | .hbm, ⟨43, _⟩ => ⟨S4096x3072, .f32⟩
  | .hbm, ⟨44, _⟩ => ⟨S4096x3072, .f32⟩
  | .hbm, ⟨45, _⟩ => ⟨S4096x3072, .f32⟩
  | .hbm, ⟨46, _⟩ => ⟨S4096x1024, .bf16⟩
  | .hbm, ⟨47, _⟩ => ⟨S4096x3072, .bf16⟩
  | .hbm, ⟨48, _⟩ => ⟨S4096x3072, .bf16⟩
  | .hbm, ⟨49, _⟩ => ⟨S4096x3072, .bf16⟩
  | .hbm, ⟨50, _⟩ => ⟨S3072x1024, .bf16⟩
  | .hbm, ⟨51, _⟩ => ⟨S4096x3072, .bf16⟩
  | .hbm, ⟨52, _⟩ => ⟨S4096x3072, .bf16⟩
  | .hbm, ⟨53, _⟩ => ⟨S3x3072, .f32⟩
  | .hbm, ⟨54, _⟩ => ⟨S1x3072, .f32⟩
  | .local _ .vmem, ⟨0, _⟩ => ⟨S4096x1024, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x1024, .bf16⟩
  | .local _ .vmem, ⟨8, _⟩ => ⟨S512x1024, .bf16⟩
  | .local _ .vmem, ⟨9, _⟩ => ⟨S3x512, .f32⟩
  | .local _ .vmem, ⟨10, _⟩ => ⟨S3x512, .f32⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S2048x512, .bf16⟩
  | .local _ .vmem, ⟨15, _⟩ => ⟨S3x512, .f32⟩
  | .local _ .vmem, ⟨16, _⟩ => ⟨S3x512, .f32⟩
  | .local _ .vmem, ⟨17, _⟩ => ⟨S1x512, .f32⟩
  | .local _ .vmem, ⟨18, _⟩ => ⟨S1x512, .f32⟩
  | .local _ .vmem, ⟨19, _⟩ => ⟨S2064x512, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_0 : Ref sig .tc := ⟨.hbm, 33, rfl⟩
abbrev main_v26 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41_0 : Ref sig .tc := ⟨.hbm, 51, rfl⟩
abbrev main_v41_1 : Ref sig .tc := ⟨.hbm, 52, rfl⟩
abbrev main_v41_2 : Ref sig .tc := ⟨.hbm, 53, rfl⟩
abbrev main_v41_3 : Ref sig .tc := ⟨.hbm, 54, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![6, 2], ![false, false]⟩

def k0_mult1 (i : grid0.Coords) : BitVec 32 :=
  let c1_i32 : BitVec 32 := 1#32
  let arg1 : BitVec 32 := BitVec.ofNat 32 (i 1).val
  let v5 : BitVec 32 := Scalar.subi c1_i32 arg1
  let c2048_i32 : BitVec 32 := 2048#32
  let v6 : BitVec 32 := Scalar.muli v5 c2048_i32
  let c1792_i32 : BitVec 32 := 1792#32
  let v7 : BitVec 32 := Scalar.addi v6 c1792_i32
  v7
def k0_off1 (i : grid0.Coords) (c1792_i32 : BitVec 32) : Fin 2 → Nat :=
  let c1_i32 : BitVec 32 := 1#32
  let arg1 : BitVec 32 := BitVec.ofNat 32 (i 1).val
  let v5 : BitVec 32 := Scalar.subi c1_i32 arg1
  let c2048_i32 : BitVec 32 := 2048#32
  let v6 : BitVec 32 := Scalar.muli v5 c2048_i32
  let v7 : BitVec 32 := Scalar.addi v6 c1792_i32
  let v8 : BitVec 32 := v7
  let v9 : Index := Scalar.indexCast v8
  let c0_2 : Index := 0#32
  ![v9.toNat, 0]
def k0_mult2 (i : grid0.Coords) : BitVec 32 :=
  let c1_i32_24 : BitVec 32 := 1#32
  let arg1 : BitVec 32 := BitVec.ofNat 32 (i 1).val
  let v58 : BitVec 32 := Scalar.subi c1_i32_24 arg1
  let c2048_i32_25 : BitVec 32 := 2048#32
  let v59 : BitVec 32 := Scalar.muli v58 c2048_i32_25
  let c1536_i32 : BitVec 32 := 1536#32
  let v60 : BitVec 32 := Scalar.addi v59 c1536_i32
  v60
def k0_mult3 (i : grid0.Coords) : BitVec 32 :=
  let c1_i32_53 : BitVec 32 := 1#32
  let arg1 : BitVec 32 := BitVec.ofNat 32 (i 1).val
  let v115 : BitVec 32 := Scalar.subi c1_i32_53 arg1
  let c2048_i32_54 : BitVec 32 := 2048#32
  let v116 : BitVec 32 := Scalar.muli v115 c2048_i32_54
  let c1280_i32 : BitVec 32 := 1280#32
  let v117 : BitVec 32 := Scalar.addi v116 c1280_i32
  v117
def k0_mult4 (i : grid0.Coords) : BitVec 32 :=
  let c1_i32_82 : BitVec 32 := 1#32
  let arg1 : BitVec 32 := BitVec.ofNat 32 (i 1).val
  let v172 : BitVec 32 := Scalar.subi c1_i32_82 arg1
  let c2048_i32_83 : BitVec 32 := 2048#32
  let v173 : BitVec 32 := Scalar.muli v172 c2048_i32_83
  let c1024_i32 : BitVec 32 := 1024#32
  let v174 : BitVec 32 := Scalar.addi v173 c1024_i32
  v174
def k0_mult5 (i : grid0.Coords) : BitVec 32 :=
  let c1_i32_111 : BitVec 32 := 1#32
  let arg1 : BitVec 32 := BitVec.ofNat 32 (i 1).val
  let v229 : BitVec 32 := Scalar.subi c1_i32_111 arg1
  let c2048_i32_112 : BitVec 32 := 2048#32
  let v230 : BitVec 32 := Scalar.muli v229 c2048_i32_112
  let c768_i32 : BitVec 32 := 768#32
  let v231 : BitVec 32 := Scalar.addi v230 c768_i32
  v231
def k0_mult6 (i : grid0.Coords) : BitVec 32 :=
  let c1_i32_140 : BitVec 32 := 1#32
  let arg1 : BitVec 32 := BitVec.ofNat 32 (i 1).val
  let v286 : BitVec 32 := Scalar.subi c1_i32_140 arg1
  let c2048_i32_141 : BitVec 32 := 2048#32
  let v287 : BitVec 32 := Scalar.muli v286 c2048_i32_141
  let c512_i32 : BitVec 32 := 512#32
  let v288 : BitVec 32 := Scalar.addi v287 c512_i32
  v288
def k0_mult7 (i : grid0.Coords) : BitVec 32 :=
  let c1_i32_169 : BitVec 32 := 1#32
  let arg1 : BitVec 32 := BitVec.ofNat 32 (i 1).val
  let v343 : BitVec 32 := Scalar.subi c1_i32_169 arg1
  let c2048_i32_170 : BitVec 32 := 2048#32
  let v344 : BitVec 32 := Scalar.muli v343 c2048_i32_170
  let c256_i32 : BitVec 32 := 256#32
  let v345 : BitVec 32 := Scalar.addi v344 c256_i32
  v345
def k0_mult8 (i : grid0.Coords) : BitVec 32 :=
  let c1_i32_198 : BitVec 32 := 1#32
  let arg1 : BitVec 32 := BitVec.ofNat 32 (i 1).val
  let v400 : BitVec 32 := Scalar.subi c1_i32_198 arg1
  let c2048_i32_199 : BitVec 32 := 2048#32
  let v401 : BitVec 32 := Scalar.muli v400 c2048_i32_199
  let c0_i32_200 : BitVec 32 := 0#32
  let v402 : BitVec 32 := Scalar.addi v401 c0_i32_200
  v402
def k0_cond2 (i : grid0.Coords) : BitVec 1 :=
  let arg1 : BitVec 32 := BitVec.ofNat 32 (i 1).val
  let c0_i32_229 : BitVec 32 := 0#32
  let v457 : BitVec 1 := Scalar.cmpi .eq arg1 c0_i32_229
  let v458 : BitVec 32 := Scalar.extui v457
  let c0_i32_230 : BitVec 32 := 0#32
  let v459 : BitVec 1 := Scalar.cmpi .ne v458 c0_i32_230
  v459

def k0_cond3 (i : grid0.Coords) : BitVec 1 :=
  let arg1 : BitVec 32 := BitVec.ofNat 32 (i 1).val
  let c0_i32_229 : BitVec 32 := 0#32
  let v457 : BitVec 1 := Scalar.cmpi .eq arg1 c0_i32_229
  let v_true : BitVec 1 := 1#1
  let v460 : BitVec 1 := Scalar.xori v457 v_true
  let v461 : BitVec 32 := Scalar.extui v460
  let c0_i32_231 : BitVec 32 := 0#32
  let v462 : BitVec 1 := Scalar.cmpi .ne v461 c0_i32_231
  v462

def k0_cond4 (i : grid0.Coords) : BitVec 1 :=
  let arg1 : BitVec 32 := BitVec.ofNat 32 (i 1).val
  let c0_i32_232 : BitVec 32 := 0#32
  let v463 : BitVec 1 := Scalar.cmpi .eq arg1 c0_i32_232
  let v464 : BitVec 32 := Scalar.extui v463
  let c0_i32_233 : BitVec 32 := 0#32
  let v465 : BitVec 1 := Scalar.cmpi .ne v464 c0_i32_233
  v465

def k0_cond5 (i : grid0.Coords) : BitVec 1 :=
  let arg1 : BitVec 32 := BitVec.ofNat 32 (i 1).val
  let c0_i32_232 : BitVec 32 := 0#32
  let v463 : BitVec 1 := Scalar.cmpi .eq arg1 c0_i32_232
  let true_234 : BitVec 1 := 1#1
  let v466 : BitVec 1 := Scalar.xori v463 true_234
  let v467 : BitVec 32 := Scalar.extui v466
  let c0_i32_235 : BitVec 32 := 0#32
  let v468 : BitVec 1 := Scalar.cmpi .ne v467 c0_i32_235
  v468

def k0_cond6 (i : grid0.Coords) : BitVec 1 :=
  let arg1 : BitVec 32 := BitVec.ofNat 32 (i 1).val
  let c0_i32_236 : BitVec 32 := 0#32
  let v469 : BitVec 1 := Scalar.cmpi .eq arg1 c0_i32_236
  let v470 : BitVec 32 := Scalar.extui v469
  let c0_i32_237 : BitVec 32 := 0#32
  let v471 : BitVec 1 := Scalar.cmpi .ne v470 c0_i32_237
  v471

def k0_cond7 (i : grid0.Coords) : BitVec 1 :=
  let arg1 : BitVec 32 := BitVec.ofNat 32 (i 1).val
  let c0_i32_236 : BitVec 32 := 0#32
  let v469 : BitVec 1 := Scalar.cmpi .eq arg1 c0_i32_236
  let true_238 : BitVec 1 := 1#1
  let v472 : BitVec 1 := Scalar.xori v469 true_238
  let v473 : BitVec 32 := Scalar.extui v472
  let c0_i32_239 : BitVec 32 := 0#32
  let v474 : BitVec 1 := Scalar.cmpi .ne v473 c0_i32_239
  v474

def k0_cond8 (i : grid0.Coords) : BitVec 1 :=
  let arg1 : BitVec 32 := BitVec.ofNat 32 (i 1).val
  let c0_i32_240 : BitVec 32 := 0#32
  let v475 : BitVec 1 := Scalar.cmpi .eq arg1 c0_i32_240
  let v476 : BitVec 32 := Scalar.extui v475
  let c0_i32_241 : BitVec 32 := 0#32
  let v477 : BitVec 1 := Scalar.cmpi .ne v476 c0_i32_241
  v477

def k0_cond9 (i : grid0.Coords) : BitVec 1 :=
  let arg1 : BitVec 32 := BitVec.ofNat 32 (i 1).val
  let c0_i32_240 : BitVec 32 := 0#32
  let v475 : BitVec 1 := Scalar.cmpi .eq arg1 c0_i32_240
  let true_242 : BitVec 1 := 1#1
  let v478 : BitVec 1 := Scalar.xori v475 true_242
  let v479 : BitVec 32 := Scalar.extui v478
  let c0_i32_243 : BitVec 32 := 0#32
  let v480 : BitVec 1 := Scalar.cmpi .ne v479 c0_i32_243
  v480

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S3x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FfnGateRefIdeal.lean ====
abbrev S4096x3072 : Shape := ⟨2, ![4096, 3072]⟩
abbrev S3x3072 : Shape := ⟨2, ![3, 3072]⟩
abbrev S1x3072 : Shape := ⟨2, ![1, 3072]⟩
abbrev S3072x1024 : Shape := ⟨2, ![3072, 1024]⟩
abbrev S4096x1024 : Shape := ⟨2, ![4096, 1024]⟩
abbrev S_ : Shape := ⟨0, ![]⟩
abbrev S2x3072 : Shape := ⟨2, ![2, 3072]⟩
abbrev S4098x3072 : Shape := ⟨2, ![4098, 3072]⟩
abbrev S3072 : Shape := ⟨1, ![3072]⟩

abbrev nBuf : Space → Nat
  | .hbm => 105
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x3072, .f32⟩
  | .hbm, ⟨2, _⟩ => ⟨S3x3072, .f32⟩
  | .hbm, ⟨3, _⟩ => ⟨S1x3072, .f32⟩
  | .hbm, ⟨4, _⟩ => ⟨S3072x1024, .f32⟩
  | .hbm, ⟨5, _⟩ => ⟨S4096x1024, .f32⟩
  | .hbm, ⟨6, _⟩ => ⟨S_, .f32⟩
  | .hbm, ⟨7, _⟩ => ⟨S2x3072, .f32⟩
  | .hbm, ⟨8, _⟩ => ⟨S4098x3072, .f32⟩
  | .hbm, ⟨9, _⟩ => ⟨S_, .f32⟩
  | .hbm, ⟨10, _⟩ => ⟨S2x3072, .f32⟩
  | .hbm, ⟨11, _⟩ => ⟨S4096x3072, .f32⟩
  | .hbm, ⟨12, _⟩ => ⟨S1x3072, .f32⟩
  | .hbm, ⟨13, _⟩ => ⟨S3072, .f32⟩
  | .hbm, ⟨14, _⟩ => ⟨S1x3072, .f32⟩
  | .hbm, ⟨15, _⟩ => ⟨S4096x3072, .f32⟩
  | .hbm, ⟨16, _⟩ => ⟨S4096x3072, .f32⟩
  | .hbm, ⟨17, _⟩ => ⟨S4096x3072, .f32⟩
  | .hbm, ⟨18, _⟩ => ⟨S1x3072, .f32⟩
  | .hbm, ⟨19, _⟩ => ⟨S3072, .f32⟩
  | .hbm, ⟨20, _⟩ => ⟨S1x3072, .f32⟩
  | .hbm, ⟨21, _⟩ => ⟨S4096x3072, .f32⟩
  | .hbm, ⟨22, _⟩ => ⟨S4096x3072, .f32⟩
  | .hbm, ⟨23, _⟩ => ⟨S4096x3072, .f32⟩
  | .hbm, ⟨24, _⟩ => ⟨S4096x3072, .f32⟩
  | .hbm, ⟨25, _⟩ => ⟨S1x3072, .f32⟩
  | .hbm, ⟨26, _⟩ => ⟨S3072, .f32⟩
  | .hbm, ⟨27, _⟩ => ⟨S1x3072, .f32⟩
  | .hbm, ⟨28, _⟩ => ⟨S4096x3072, .f32⟩
  | .hbm, ⟨29, _⟩ => ⟨S4096x3072, .f32⟩
  | .hbm, ⟨30, _⟩ => ⟨S4096x3072, .f32⟩
  | .hbm, ⟨31, _⟩ => ⟨S4096x3072, .f32⟩
  | .hbm, ⟨32, _⟩ => ⟨S4096x3072, .f32⟩
  | .hbm, ⟨33, _⟩ => ⟨S4096x3072, .f32⟩
  | .hbm, ⟨34, _⟩ => ⟨S4096x3072, .f32⟩
  | .hbm, ⟨35, _⟩ => ⟨S_, .f32⟩
  | .hbm, ⟨36, _⟩ => ⟨S4096x3072, .f32⟩
  | .hbm, ⟨37, _⟩ => ⟨S4096x3072, .f32⟩
  | .hbm, ⟨38, _⟩ => ⟨S_, .f32⟩
  | .hbm, ⟨39, _⟩ => ⟨S4096x3072, .f32⟩
  | .hbm, ⟨40, _⟩ => ⟨S4096x3072, .f32⟩
  | .hbm, ⟨41, _⟩ => ⟨S_, .f32⟩
  | .hbm, ⟨42, _⟩ => ⟨S4096x3072, .f32⟩
  | .hbm, ⟨43, _⟩ => ⟨S4096x3072, .f32⟩
  | .hbm, ⟨44, _⟩ => ⟨S4096x3072, .f32⟩
  | .hbm, ⟨45, _⟩ => ⟨S4096x3072, .f32⟩
  | .hbm, ⟨46, _⟩ => ⟨S4096x3072, .f32⟩
  | .hbm, ⟨47, _⟩ => ⟨S4096x1024, .f32⟩
  | .hbm, ⟨48, _⟩ => ⟨S4096x3072, .f32⟩
  | .hbm, ⟨49, _⟩ => ⟨S4096x3072, .f32⟩
  | .hbm, ⟨50, _⟩ => ⟨S4096x3072, .f32⟩
  | .hbm, ⟨51, _⟩ => ⟨S4096x3072, .f32⟩
  | .hbm, ⟨52, _⟩ => ⟨S4096x3072, .f32⟩
  | .hbm, ⟨53, _⟩ => ⟨S4096x3072, .f32⟩
  | .hbm, ⟨54, _⟩ => ⟨S4096x3072, .f32⟩
  | .hbm, ⟨55, _⟩ => ⟨S_, .f32⟩
  | .hbm, ⟨56, _⟩ => ⟨S3072, .f32⟩
  | .hbm, ⟨57, _⟩ => ⟨S1x3072, .f32⟩
  | .hbm, ⟨58, _⟩ => ⟨S4096x3072, .f32⟩
  | .hbm, ⟨59, _⟩ => ⟨S_, .f32⟩
  | .hbm, ⟨60, _⟩ => ⟨S3072, .f32⟩
  | .hbm, ⟨61, _⟩ => ⟨S1x3072, .f32⟩
  | .hbm, ⟨62, _⟩ => ⟨S4096x3072, .f32⟩
  | .hbm, ⟨63, _⟩ => ⟨S4096x3072, .f32⟩
  | .hbm, ⟨64, _⟩ => ⟨S_, .f32⟩
  | .hbm, ⟨65, _⟩ => ⟨S3072, .f32⟩
  | .hbm, ⟨66, _⟩ => ⟨S1x3072, .f32⟩
  | .hbm, ⟨67, _⟩ => ⟨S_, .f32⟩
  | .hbm, ⟨68, _⟩ => ⟨S3x3072, .f32⟩
  | .hbm, ⟨69, _⟩ => ⟨S_, .f32⟩
  | .hbm, ⟨70, _⟩ => ⟨S4098x3072, .f32⟩
  | .hbm, ⟨71, _⟩ => ⟨S4096x3072, .f32⟩
  | .hbm, ⟨72, _⟩ => ⟨S_, .f32⟩
  | .hbm, ⟨73, _⟩ => ⟨S3072, .f32⟩
  | .hbm, ⟨74, _⟩ => ⟨S1x3072, .f32⟩
  | .hbm, ⟨75, _⟩ => ⟨S4096x3072, .f32⟩
  | .hbm, ⟨76, _⟩ => ⟨S4096x3072, .f32⟩
  | .hbm, ⟨77, _⟩ => ⟨S_, .f32⟩
  | .hbm, ⟨78, _⟩ => ⟨S3072, .f32⟩
  | .hbm, ⟨79, _⟩ => ⟨S1x3072, .f32⟩
  | .hbm, ⟨80, _⟩ => ⟨S_, .f32⟩
  | .hbm, ⟨81, _⟩ => ⟨S3x3072, .f32⟩
  | .hbm, ⟨82, _⟩ => ⟨S3x3072, .f32⟩
  | .hbm, ⟨83, _⟩ => ⟨S_, .f32⟩
  | .hbm, ⟨84, _⟩ => ⟨S4098x3072, .f32⟩
  | .hbm, ⟨85, _⟩ => ⟨S4098x3072, .f32⟩
  | .hbm, ⟨86, _⟩ => ⟨S4096x3072, .f32⟩
  | .hbm, ⟨87, _⟩ => ⟨S_, .f32⟩
  | .hbm, ⟨88, _⟩ => ⟨S3072, .f32⟩
  | .hbm, ⟨89, _⟩ => ⟨S1x3072, .f32⟩
  | .hbm, ⟨90, _⟩ => ⟨S4096x3072, .f32⟩
  | .hbm, ⟨91, _⟩ => ⟨S4096x3072, .f32⟩
  | .hbm, ⟨92, _⟩ => ⟨S_, .f32⟩
  | .hbm, ⟨93, _⟩ => ⟨S3072, .f32⟩
  | .hbm, ⟨94, _⟩ => ⟨S1x3072, .f32⟩
  | .hbm, ⟨95, _⟩ => ⟨S_, .f32⟩
  | .hbm, ⟨96, _⟩ => ⟨S3x3072, .f32⟩
  | .hbm, ⟨97, _⟩ => ⟨S3x3072, .f32⟩
  | .hbm, ⟨98, _⟩ => ⟨S_, .f32⟩
  | .hbm, ⟨99, _⟩ => ⟨S4098x3072, .f32⟩
  | .hbm, ⟨100, _⟩ => ⟨S4098x3072, .f32⟩
  | .hbm, ⟨101, _⟩ => ⟨S2x3072, .f32⟩
  | .hbm, ⟨102, _⟩ => ⟨S4096x3072, .f32⟩
  | .hbm, ⟨103, _⟩ => ⟨S4096x3072, .bf16⟩
  | .hbm, ⟨104, _⟩ => ⟨S4096x3072, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v25_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v25_1 : Ref sig .tc := ⟨.hbm, 44, rfl⟩
abbrev main_v25_0 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v31 : Ref sig .tc := ⟨.hbm, 54, rfl⟩
abbrev main_cst_1 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_2 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_3 : Ref sig .tc := ⟨.hbm, 64, rfl⟩
abbrev main_v39 : Ref sig .tc := ⟨.hbm, 65, rfl⟩
abbrev main_v40 : Ref sig .tc := ⟨.hbm, 66, rfl⟩
abbrev main_cst_4 : Ref sig .tc := ⟨.hbm, 67, rfl⟩
abbrev main_v41 : Ref sig .tc := ⟨.hbm, 68, rfl⟩
abbrev main_cst_5 : Ref sig .tc := ⟨.hbm, 69, rfl⟩
abbrev main_v42 : Ref sig .tc := ⟨.hbm, 70, rfl⟩
abbrev main_v43 : Ref sig .tc := ⟨.hbm, 71, rfl⟩
abbrev main_cst_6 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_7 : Ref sig .tc := ⟨.hbm, 77, rfl⟩
abbrev main_v48 : Ref sig .tc := ⟨.hbm, 78, rfl⟩
abbrev main_v49 : Ref sig .tc := ⟨.hbm, 79, rfl⟩
abbrev main_cst_8 : Ref sig .tc := ⟨.hbm, 80, rfl⟩
abbrev main_v50 : Ref sig .tc := ⟨.hbm, 81, rfl⟩
abbrev main_v51 : Ref sig .tc := ⟨.hbm, 82, rfl⟩
abbrev main_cst_9 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_10 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_11 : Ref sig .tc := ⟨.hbm, 92, rfl⟩
abbrev main_v59 : Ref sig .tc := ⟨.hbm, 93, rfl⟩
abbrev main_v60 : Ref sig .tc := ⟨.hbm, 94, rfl⟩
abbrev main_cst_12 : Ref sig .tc := ⟨.hbm, 95, rfl⟩
abbrev main_v61 : Ref sig .tc := ⟨.hbm, 96, rfl⟩
abbrev main_v62 : Ref sig .tc := ⟨.hbm, 97, rfl⟩
abbrev main_cst_13 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩

abbrev nD : Nat := 1
abbrev τ : Topo := Topo.v7x

variable {F : FTy → Type} [FloatOps F]
-- ==== GateFwd.lean ====
abbrev S4096x1024 : Shape := ⟨2, ![4096, 1024]⟩
abbrev S1024x3072 : Shape := ⟨2, ![1024, 3072]⟩
abbrev S3x3072 : Shape := ⟨2, ![3, 3072]⟩
abbrev S1x3072 : Shape := ⟨2, ![1, 3072]⟩
abbrev S3072x1024 : Shape := ⟨2, ![3072, 1024]⟩
abbrev S4096x3072 : Shape := ⟨2, ![4096, 3072]⟩
abbrev S512x1024 : Shape := ⟨2, ![512, 1024]⟩
abbrev S3x512 : Shape := ⟨2, ![3, 512]⟩
abbrev S1x512 : Shape := ⟨2, ![1, 512]⟩
abbrev S2048x512 : Shape := ⟨2, ![2048, 512]⟩
abbrev S2064x512 : Shape := ⟨2, ![2064, 512]⟩
abbrev S16x512 : Shape := ⟨2, ![16, 512]⟩
abbrev S2048x1024 : Shape := ⟨2, ![2048, 1024]⟩

abbrev nBuf : Space → Nat
  | .hbm => 9
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S3x3072, .f32⟩
  | .hbm, ⟨3, _⟩ => ⟨S1x3072, .f32⟩
  | .hbm, ⟨4, _⟩ => ⟨S4096x1024, .bf16⟩
  | .hbm, ⟨5, _⟩ => ⟨S3072x1024, .f32⟩
  | .hbm, ⟨6, _⟩ => ⟨S3072x1024, .bf16⟩
  | .hbm, ⟨7, _⟩ => ⟨S4096x3072, .bf16⟩
  | .hbm, ⟨8, _⟩ => ⟨S4096x3072, .bf16⟩
  | .local _ .vmem, ⟨0, _⟩ => ⟨S4096x1024, .bf16⟩
  | .local _ .vmem, ⟨1, _⟩ => ⟨S512x1024, .bf16⟩
  | .local _ .vmem, ⟨2, _⟩ => ⟨S512x1024, .bf16⟩
  | .local _ .vmem, ⟨3, _⟩ => ⟨S3x512, .f32⟩
  | .local _ .vmem, ⟨4, _⟩ => ⟨S3x512, .f32⟩
  | .local _ .vmem, ⟨5, _⟩ => ⟨S1x512, .f32⟩
  | .local _ .vmem, ⟨6, _⟩ => ⟨S1x512, .f32⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2064x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![6, 2], ![false, false]⟩

def k0_mult1 (i : grid0.Coords) : BitVec 32 :=
  let arg1 : BitVec 32 := BitVec.ofNat 32 (i 1).val
  let c2048_i32 : BitVec 32 := 2048#32
  let v5 : BitVec 32 := Scalar.muli arg1 c2048_i32
  let c0_i32_2 : BitVec 32 := 0#32
  let v6 : BitVec 32 := Scalar.addi v5 c0_i32_2
  v6
def k0_off1 (i : grid0.Coords) : Fin 2 → Nat :=
  let arg1 : BitVec 32 := BitVec.ofNat 32 (i 1).val
  let c2048_i32 : BitVec 32 := 2048#32
  let v5 : BitVec 32 := Scalar.muli arg1 c2048_i32
  let c0_i32_2 : BitVec 32 := 0#32
  let v6 : BitVec 32 := Scalar.addi v5 c0_i32_2
  let v7 : BitVec 32 := v6
  let v8 : Index := Scalar.indexCast v7
  let c0_3 : Index := 0#32
  ![v8.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S3x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateFwdRefIdeal.lean ====
abbrev S4096x1024 : Shape := ⟨2, ![4096, 1024]⟩
abbrev S1024x3072 : Shape := ⟨2, ![1024, 3072]⟩
abbrev S3x3072 : Shape := ⟨2, ![3, 3072]⟩
abbrev S1x3072 : Shape := ⟨2, ![1, 3072]⟩
abbrev S4096x3072 : Shape := ⟨2, ![4096, 3072]⟩
abbrev S_ : Shape := ⟨0, ![]⟩
abbrev S2x3072 : Shape := ⟨2, ![2, 3072]⟩
abbrev S4098x3072 : Shape := ⟨2, ![4098, 3072]⟩
abbrev S3072 : Shape := ⟨1, ![3072]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S3x3072, .f32⟩
  | .hbm, ⟨3, _⟩ => ⟨S1x3072, .f32⟩
  | .hbm, ⟨4, _⟩ => ⟨S4096x3072, .f32⟩
  | .hbm, ⟨5, _⟩ => ⟨S_, .f32⟩
  | .hbm, ⟨6, _⟩ => ⟨S2x3072, .f32⟩
  | .hbm, ⟨7, _⟩ => ⟨S4098x3072, .f32⟩
  | .hbm, ⟨8, _⟩ => ⟨S4096x3072, .f32⟩
  | .hbm, ⟨9, _⟩ => ⟨S1x3072, .f32⟩
  | .hbm, ⟨10, _⟩ => ⟨S3072, .f32⟩
  | .hbm, ⟨11, _⟩ => ⟨S1x3072, .f32⟩
  | .hbm, ⟨12, _⟩ => ⟨S4096x3072, .f32⟩
  | .hbm, ⟨13, _⟩ => ⟨S4096x3072, .f32⟩
  | .hbm, ⟨14, _⟩ => ⟨S4096x3072, .f32⟩
  | .hbm, ⟨15, _⟩ => ⟨S1x3072, .f32⟩
  | .hbm, ⟨16, _⟩ => ⟨S3072, .f32⟩
  | .hbm, ⟨17, _⟩ => ⟨S1x3072, .f32⟩
  | .hbm, ⟨18, _⟩ => ⟨S4096x3072, .f32⟩
  | .hbm, ⟨19, _⟩ => ⟨S4096x3072, .f32⟩
  | .hbm, ⟨20, _⟩ => ⟨S4096x3072, .f32⟩
  | .hbm, ⟨21, _⟩ => ⟨S4096x3072, .f32⟩
  | .hbm, ⟨22, _⟩ => ⟨S1x3072, .f32⟩
  | .hbm, ⟨23, _⟩ => ⟨S3072, .f32⟩
  | .hbm, ⟨24, _⟩ => ⟨S1x3072, .f32⟩
  | .hbm, ⟨25, _⟩ => ⟨S4096x3072, .f32⟩
  | .hbm, ⟨26, _⟩ => ⟨S4096x3072, .f32⟩
  | .hbm, ⟨27, _⟩ => ⟨S4096x3072, .f32⟩
  | .hbm, ⟨28, _⟩ => ⟨S4096x3072, .f32⟩
  | .hbm, ⟨29, _⟩ => ⟨S4096x3072, .f32⟩
  | .hbm, ⟨30, _⟩ => ⟨S4096x3072, .bf16⟩
  | .hbm, ⟨31, _⟩ => ⟨S4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩

abbrev nD : Nat := 1
abbrev τ : Topo := Topo.v7x

variable {F : FTy → Type} [FloatOps F]
-- ==== UpFwd.lean ====
abbrev S4096x1024 : Shape := ⟨2, ![4096, 1024]⟩
abbrev S1024x3072 : Shape := ⟨2, ![1024, 3072]⟩
abbrev S4096x3072 : Shape := ⟨2, ![4096, 3072]⟩
abbrev S3072x1024 : Shape := ⟨2, ![3072, 1024]⟩
abbrev S512x1024 : Shape := ⟨2, ![512, 1024]⟩
abbrev S2048x512 : Shape := ⟨2, ![2048, 512]⟩
abbrev S256x1024 : Shape := ⟨2, ![256, 1024]⟩
abbrev S256x512 : Shape := ⟨2, ![256, 512]⟩

abbrev nBuf : Space → Nat
  | .hbm => 10
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | .hbm, ⟨3, _⟩ => ⟨S4096x1024, .bf16⟩
  | .hbm, ⟨4, _⟩ => ⟨S3072x1024, .f32⟩
  | .hbm, ⟨5, _⟩ => ⟨S3072x1024, .bf16⟩
  | .hbm, ⟨6, _⟩ => ⟨S4096x3072, .bf16⟩
  | .hbm, ⟨7, _⟩ => ⟨S4096x3072, .bf16⟩
  | .hbm, ⟨8, _⟩ => ⟨S4096x3072, .bf16⟩
  | .hbm, ⟨9, _⟩ => ⟨S4096x3072, .bf16⟩
  | .local _ .vmem, ⟨0, _⟩ => ⟨S4096x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![6, 2], ![false, false]⟩

def k0_mult1 (i : grid0.Coords) : BitVec 32 :=
  let arg1 : BitVec 32 := BitVec.ofNat 32 (i 1).val
  let c2048_i32 : BitVec 32 := 2048#32
  let v2 : BitVec 32 := Scalar.muli arg1 c2048_i32
  let c0_i32 : BitVec 32 := 0#32
  let v3 : BitVec 32 := Scalar.addi v2 c0_i32
  v3
def k0_off1 (i : grid0.Coords) (c0_i32 : BitVec 32) : Fin 2 → Nat :=
  let arg1 : BitVec 32 := BitVec.ofNat 32 (i 1).val
  let c2048_i32 : BitVec 32 := 2048#32
  let v2 : BitVec 32 := Scalar.muli arg1 c2048_i32
  let v3 : BitVec 32 := Scalar.addi v2 c0_i32
  let v4 : BitVec 32 := v3
  let v5 : Index := Scalar.indexCast v4
  let c0_1 : Index := 0#32
  ![v5.toNat, 0]
def k0_mult2 (i : grid0.Coords) : BitVec 32 :=
  let arg1 : BitVec 32 := BitVec.ofNat 32 (i 1).val
  let c2048_i32_11 : BitVec 32 := 2048#32
  let v26 : BitVec 32 := Scalar.muli arg1 c2048_i32_11
  let c256_i32 : BitVec 32 := 256#32
  let v27 : BitVec 32 := Scalar.addi v26 c256_i32
  v27
def k0_mult3 (i : grid0.Coords) : BitVec 32 :=
  let arg1 : BitVec 32 := BitVec.ofNat 32 (i 1).val
  let c2048_i32_22 : BitVec 32 := 2048#32
  let v50 : BitVec 32 := Scalar.muli arg1 c2048_i32_22
  let c512_i32 : BitVec 32 := 512#32
  let v51 : BitVec 32 := Scalar.addi v50 c512_i32
  v51
def k0_mult4 (i : grid0.Coords) : BitVec 32 :=
  let arg1 : BitVec 32 := BitVec.ofNat 32 (i 1).val
  let c2048_i32_33 : BitVec 32 := 2048#32
  let v74 : BitVec 32 := Scalar.muli arg1 c2048_i32_33
  let c768_i32 : BitVec 32 := 768#32
  let v75 : BitVec 32 := Scalar.addi v74 c768_i32
  v75
def k0_mult5 (i : grid0.Coords) : BitVec 32 :=
  let arg1 : BitVec 32 := BitVec.ofNat 32 (i 1).val
  let c2048_i32_44 : BitVec 32 := 2048#32
  let v98 : BitVec 32 := Scalar.muli arg1 c2048_i32_44
  let c1024_i32 : BitVec 32 := 1024#32
  let v99 : BitVec 32 := Scalar.addi v98 c1024_i32
  v99
def k0_mult6 (i : grid0.Coords) : BitVec 32 :=
  let arg1 : BitVec 32 := BitVec.ofNat 32 (i 1).val
  let c2048_i32_55 : BitVec 32 := 2048#32
  let v122 : BitVec 32 := Scalar.muli arg1 c2048_i32_55
  let c1280_i32 : BitVec 32 := 1280#32
  let v123 : BitVec 32 := Scalar.addi v122 c1280_i32
  v123
def k0_mult7 (i : grid0.Coords) : BitVec 32 :=
  let arg1 : BitVec 32 := BitVec.ofNat 32 (i 1).val
  let c2048_i32_66 : BitVec 32 := 2048#32
  let v146 : BitVec 32 := Scalar.muli arg1 c2048_i32_66
  let c1536_i32 : BitVec 32 := 1536#32
  let v147 : BitVec 32 := Scalar.addi v146 c1536_i32
  v147
def k0_mult8 (i : grid0.Coords) : BitVec 32 :=
  let arg1 : BitVec 32 := BitVec.ofNat 32 (i 1).val
  let c2048_i32_77 : BitVec 32 := 2048#32
  let v170 : BitVec 32 := Scalar.muli arg1 c2048_i32_77
  let c1792_i32 : BitVec 32 := 1792#32
  let v171 : BitVec 32 := Scalar.addi v170 c1792_i32
  v171
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpFwdRefIdeal.lean ====
abbrev S4096x1024 : Shape := ⟨2, ![4096, 1024]⟩
abbrev S1024x3072 : Shape := ⟨2, ![1024, 3072]⟩
abbrev S4096x3072 : Shape := ⟨2, ![4096, 3072]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | .hbm, ⟨3, _⟩ => ⟨S4096x3072, .f32⟩
  | .hbm, ⟨4, _⟩ => ⟨S4096x3072, .f32⟩
  | .hbm, ⟨5, _⟩ => ⟨S4096x3072, .f32⟩
  | .hbm, ⟨6, _⟩ => ⟨S_, .f32⟩
  | .hbm, ⟨7, _⟩ => ⟨S4096x3072, .f32⟩
  | .hbm, ⟨8, _⟩ => ⟨S4096x3072, .f32⟩
  | .hbm, ⟨9, _⟩ => ⟨S_, .f32⟩
  | .hbm, ⟨10, _⟩ => ⟨S4096x3072, .f32⟩
  | .hbm, ⟨11, _⟩ => ⟨S4096x3072, .f32⟩
  | .hbm, ⟨12, _⟩ => ⟨S_, .f32⟩
  | .hbm, ⟨13, _⟩ => ⟨S4096x3072, .f32⟩
  | .hbm, ⟨14, _⟩ => ⟨S4096x3072, .f32⟩
  | .hbm, ⟨15, _⟩ => ⟨S4096x3072, .f32⟩
  | .hbm, ⟨16, _⟩ => ⟨S4096x3072, .f32⟩
  | .hbm, ⟨17, _⟩ => ⟨S4096x3072, .f32⟩
  | .hbm, ⟨18, _⟩ => ⟨S4096x3072, .bf16⟩
  | .hbm, ⟨19, _⟩ => ⟨S4096x3072, .bf16⟩
  | .hbm, ⟨20, _⟩ => ⟨S4096x3072, .f32⟩
  | .hbm, ⟨21, _⟩ => ⟨S4096x3072, .f32⟩
  | .hbm, ⟨22, _⟩ => ⟨S4096x3072, .f32⟩
  | .hbm, ⟨23, _⟩ => ⟨S4096x3072, .f32⟩
  | .hbm, ⟨24, _⟩ => ⟨S4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v1_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v1_1 : Ref sig .tc := ⟨.hbm, 15, rfl⟩
abbrev main_v1_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v5 : Ref sig .tc := ⟨.hbm, 23, rfl⟩
abbrev main_v6 : Ref sig .tc := ⟨.hbm, 24, rfl⟩

abbrev nD : Nat := 1
abbrev τ : Topo := Topo.v7x

variable {F : FTy → Type} [FloatOps F]
-- ==== DownFwd.lean ====
abbrev S4096x3072 : Shape := ⟨2, ![4096, 3072]⟩
abbrev S3072x1024 : Shape := ⟨2, ![3072, 1024]⟩
abbrev S4096x1024 : Shape := ⟨2, ![4096, 1024]⟩
abbrev S1x1024 : Shape := ⟨2, ![1, 1024]⟩
abbrev S512x3072 : Shape := ⟨2, ![512, 3072]⟩
abbrev S512x1024 : Shape := ⟨2, ![512, 1024]⟩
abbrev S256x1024 : Shape := ⟨2, ![256, 1024]⟩
abbrev S256x3072 : Shape := ⟨2, ![256, 3072]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x3072, .f32⟩
  | .hbm, ⟨1, _⟩ => ⟨S3072x1024, .f32⟩
  | .hbm, ⟨2, _⟩ => ⟨S4096x1024, .f32⟩
  | .hbm, ⟨3, _⟩ => ⟨S1x1024, .f32⟩
  | .hbm, ⟨4, _⟩ => ⟨S4096x3072, .bf16⟩
  | .hbm, ⟨5, _⟩ => ⟨S3072x1024, .bf16⟩
  | .hbm, ⟨6, _⟩ => ⟨S4096x1024, .f32⟩
  | .hbm, ⟨7, _⟩ => ⟨S4096x1024, .bf16⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownFwdRefIdeal.lean ====
abbrev S4096x3072 : Shape := ⟨2, ![4096, 3072]⟩
abbrev S3072x1024 : Shape := ⟨2, ![3072, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 22
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S3072x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== LossHead.lean ====
abbrev S4096x3072 : Shape := ⟨2, ![4096, 3072]⟩
abbrev S3072x1024 : Shape := ⟨2, ![3072, 1024]⟩
abbrev S4096x1024 : Shape := ⟨2, ![4096, 1024]⟩
abbrev S1x1024 : Shape := ⟨2, ![1, 1024]⟩
abbrev S512x3072 : Shape := ⟨2, ![512, 3072]⟩
abbrev S512x1024 : Shape := ⟨2, ![512, 1024]⟩
abbrev S256x1024 : Shape := ⟨2, ![256, 1024]⟩
abbrev S256x3072 : Shape := ⟨2, ![256, 3072]⟩
abbrev S256 : Shape := ⟨1, ![256]⟩
abbrev S256x1 : Shape := ⟨2, ![256, 1]⟩
abbrev S1024 : Shape := ⟨1, ![1024]⟩

abbrev nBuf : Space → Nat
  | .hbm => 11
  | .vmem => 14
  | .smem => 0
  | _ => 0

abbrev bufTy : (tb : Table) → Fin (tcTables nBuf tb) → BufTy
  | .hbm, ⟨0, _⟩ => ⟨S4096x3072, .f32⟩
  | .hbm, ⟨1, _⟩ => ⟨S3072x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x3072, .bf16⟩
  | .hbm, ⟨6, _⟩ => ⟨S3072x1024, .bf16⟩
  | .hbm, ⟨7, _⟩ => ⟨S4096x1024, .f32⟩
  | .hbm, ⟨8, _⟩ => ⟨S4096x1024, .bf16⟩
  | .hbm, ⟨9, _⟩ => ⟨S1x1024, .f32⟩
  | .hbm, ⟨10, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v113 : BitVec 1 := Scalar.cmpi .eq arg0 c0_i32
  let v114 : BitVec 32 := Scalar.extui v113
  let c0_i32_47 : BitVec 32 := 0#32
  let v115 : BitVec 1 := Scalar.cmpi .ne v114 c0_i32_47
  v115

def k0_cond2 (i : grid0.Coords) : BitVec 1 :=
  let arg0 : BitVec 32 := BitVec.ofNat 32 (i 0).val
  let c0_i32 : BitVec 32 := 0#32
  let v113 : BitVec 1 := Scalar.cmpi .eq arg0 c0_i32
  let v_true : BitVec 1 := 1#1
  let v116 : BitVec 1 := Scalar.xori v113 v_true
  let v117 : BitVec 32 := Scalar.extui v116
  let c0_i32_48 : BitVec 32 := 0#32
  let v118 : BitVec 1 := Scalar.cmpi .ne v117 c0_i32_48
  v118

def k0_cond3 (i : grid0.Coords) : BitVec 1 :=
  let arg0 : BitVec 32 := BitVec.ofNat 32 (i 0).val
  let c0_i32_49 : BitVec 32 := 0#32
  let v119 : BitVec 1 := Scalar.cmpi .eq arg0 c0_i32_49
  let v120 : BitVec 32 := Scalar.extui v119
  let c0_i32_50 : BitVec 32 := 0#32
  let v121 : BitVec 1 := Scalar.cmpi .ne v120 c0_i32_50
  v121

def k0_cond4 (i : grid0.Coords) : BitVec 1 :=
  let arg0 : BitVec 32 := BitVec.ofNat 32 (i 0).val
  let c0_i32_49 : BitVec 32 := 0#32
  let v119 : BitVec 1 := Scalar.cmpi .eq arg0 c0_i32_49
  let true_51 : BitVec 1 := 1#1
  let v122 : BitVec 1 := Scalar.xori v119 true_51
  let v123 : BitVec 32 := Scalar.extui v122
  let c0_i32_52 : BitVec 32 := 0#32
  let v124 : BitVec 1 := Scalar.cmpi .ne v123 c0_i32_52
  v124

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossHeadRefIdeal.lean ====
abbrev S4096x3072 : Shape := ⟨2, ![4096, 3072]⟩
abbrev S3072x1024 : Shape := ⟨2, ![3072, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 82
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S3072x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S_, .f32⟩
  | .hbm, ⟨34, _⟩ => ⟨S4096, .f32⟩
  | .hbm, ⟨35, _⟩ => ⟨S4096, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S4096, .f32⟩
  | .hbm, ⟨44, _⟩ => ⟨S_, .f32⟩
  | .hbm, ⟨45, _⟩ => ⟨S4096, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .bf16⟩
  | .hbm, ⟨73, _⟩ => ⟨S_, .f32⟩
  | .hbm, ⟨74, _⟩ => ⟨S4096x1024, .f32⟩
  | .hbm, ⟨75, _⟩ => ⟨S4096x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S_, .f32⟩
  | .hbm, ⟨80, _⟩ => ⟨S1x1024, .f32⟩
  | .hbm, ⟨81, _⟩ => ⟨S1x1024, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_cst_8 : Ref sig .tc := ⟨.hbm, 40, rfl⟩
abbrev main_cst_9 : Ref sig .tc := ⟨.hbm, 41, rfl⟩
abbrev main_v26 : Ref sig .tc := ⟨.hbm, 42, rfl⟩
abbrev main_v27 : Ref sig .tc := ⟨.hbm, 43, rfl⟩
abbrev main_cst_10 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_11 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_15 : Ref sig .tc := ⟨.hbm, 73, rfl⟩
abbrev main_v52 : Ref sig .tc := ⟨.hbm, 74, rfl⟩
abbrev main_v53 : Ref sig .tc := ⟨.hbm, 75, rfl⟩
abbrev main_cst_16 : Ref sig .tc := ⟨.hbm, 76, rfl⟩
abbrev main_v54 : Ref sig .tc := ⟨.hbm, 77, rfl⟩
abbrev main_v55 : Ref sig .tc := ⟨.hbm, 78, rfl⟩
abbrev main_cst_17 : Ref sig .tc := ⟨.hbm, 79, rfl⟩
abbrev main_v56 : Ref sig .tc := ⟨.hbm, 80, rfl⟩
abbrev main_v57 : Ref sig .tc := ⟨.hbm, 81, rfl⟩

abbrev nD : Nat := 1
abbrev τ : Topo := Topo.v7x

variable {F : FTy → Type} [FloatOps F]
-- ==== OddFwd.lean ====
abbrev S4096x1024 : Shape := ⟨2, ![4096, 1024]⟩
abbrev S1024x2048 : Shape := ⟨2, ![1024, 2048]⟩
abbrev S1x1024 : Shape := ⟨2, ![1, 1024]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S128x128 : Shape := ⟨2, ![128, 128]⟩
abbrev S1x128x128 : Shape := ⟨3, ![1, 128, 128]⟩
abbrev S128x8 : Shape := ⟨2, ![128, 8]⟩
abbrev S128x8x128 : Shape := ⟨3, ![128, 8, 128]⟩
abbrev S128x1024 : Shape := ⟨2, ![128, 1024]⟩
abbrev S4096x2048 : Shape := ⟨2, ![4096, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 34
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x2048, .f32⟩
  | .hbm, ⟨3, _⟩ => ⟨S1x1024, .f32⟩
  | .hbm, ⟨4, _⟩ => ⟨S8x128x128, .f32⟩
  | .hbm, ⟨5, _⟩ => ⟨S8x128, .f32⟩
  | .hbm, ⟨6, _⟩ => ⟨S1024x1024, .f32⟩
  | .hbm, ⟨7, _⟩ => ⟨S1x1024, .f32⟩
  | .hbm, ⟨8, _⟩ => ⟨S_, .f32⟩
  | .hbm, ⟨9, _⟩ => ⟨S128x128, .f32⟩
  | .hbm, ⟨10, _⟩ => ⟨S128x128, .i32⟩
  | .hbm, ⟨11, _⟩ => ⟨S_, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S128x128, .i1⟩
  | .hbm, ⟨16, _⟩ => ⟨S_, .f32⟩
  | .hbm, ⟨17, _⟩ => ⟨S128x128, .f32⟩
  | .hbm, ⟨18, _⟩ => ⟨S128x128, .f32⟩
  | .hbm, ⟨19, _⟩ => ⟨S1x128x128, .f32⟩
  | .hbm, ⟨20, _⟩ => ⟨S8x128x128, .f32⟩
  | .hbm, ⟨21, _⟩ => ⟨S8x128x128, .f32⟩
  | .hbm, ⟨22, _⟩ => ⟨S128x8, .f32⟩
  | .hbm, ⟨23, _⟩ => ⟨S128x8x128, .f32⟩
  | .hbm, ⟨24, _⟩ => ⟨S128x1024, .f32⟩
  | .hbm, ⟨25, _⟩ => ⟨S4096x1024, .bf16⟩
  | .hbm, ⟨26, _⟩ => ⟨S1024x2048, .bf16⟩
  | .hbm, ⟨27, _⟩ => ⟨S8x128x128, .bf16⟩
  | .hbm, ⟨28, _⟩ => ⟨S1024x1024, .bf16⟩
  | .hbm, ⟨29, _⟩ => ⟨S4096x2048, .bf16⟩
  | .hbm, ⟨30, _⟩ => ⟨S4096x1024, .bf16⟩
  | .hbm, ⟨31, _⟩ => ⟨S4096x1024, .bf16⟩
  | .hbm, ⟨32, _⟩ => ⟨S4096x1024, .f32⟩
  | .hbm, ⟨33, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x2048, .bf16⟩
  | .local _ .vmem, ⟨5, _⟩ => ⟨S1x1024, .f32⟩
  | .local _ .vmem, ⟨6, _⟩ => ⟨S8x128x128, .bf16⟩
  | .local _ .vmem, ⟨7, _⟩ => ⟨S128x1024, .f32⟩
  | .local _ .vmem, ⟨8, _⟩ => ⟨S1024x1024, .bf16⟩
  | .local _ .vmem, ⟨9, _⟩ => ⟨S1x1024, .f32⟩
  | .local _ .vmem, ⟨10, _⟩ => ⟨S512x2048, .bf16⟩
  | .local _ .vmem, ⟨11, _⟩ => ⟨S512x2048, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_cst : Ref sig .tc := ⟨.hbm, 16, rfl⟩
abbrev main_call0_v5 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12_0 : Ref sig .tc := ⟨.hbm, 29, rfl⟩
abbrev main_v12_1 : Ref sig .tc := ⟨.hbm, 30, rfl⟩
abbrev main_v12_2 : Ref sig .tc := ⟨.hbm, 31, rfl⟩
abbrev main_v12_3 : Ref sig .tc := ⟨.hbm, 32, rfl⟩
abbrev main_v12_4 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== OddFwdRefIdeal.lean ====
abbrev S4096x1024 : Shape := ⟨2, ![4096, 1024]⟩
abbrev S1024x2048 : Shape := ⟨2, ![1024, 2048]⟩
abbrev S1x1024 : Shape := ⟨2, ![1, 1024]⟩
abbrev S8x128x128 : Shape := ⟨3, ![8, 128, 128]⟩
abbrev S8x128 : Shape := ⟨2, ![8, 128]⟩
abbrev S1024x1024 : Shape := ⟨2, ![1024, 1024]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S32x128x8x128 : Shape := ⟨4, ![32, 128, 8, 128]⟩
abbrev S128x128 : Shape := ⟨2, ![128, 128]⟩
abbrev S1x128x128 : Shape := ⟨3, ![1, 128, 128]⟩
abbrev S8x32x128x128 : Shape := ⟨4, ![8, 32, 128, 128]⟩
abbrev S128x8 : Shape := ⟨2, ![128, 8]⟩
abbrev S1x128x8x1 : Shape := ⟨4, ![1, 128, 8, 1]⟩

abbrev nBuf : Space → Nat
  | .hbm => 79
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x2048, .f32⟩
  | .hbm, ⟨3, _⟩ => ⟨S1x1024, .f32⟩
  | .hbm, ⟨4, _⟩ => ⟨S8x128x128, .f32⟩
  | .hbm, ⟨5, _⟩ => ⟨S8x128, .f32⟩
  | .hbm, ⟨6, _⟩ => ⟨S1024x1024, .f32⟩
  | .hbm, ⟨7, _⟩ => ⟨S1x1024, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S32x128x8x128, .f32⟩
  | .hbm, ⟨36, _⟩ => ⟨S_, .f32⟩
  | .hbm, ⟨37, _⟩ => ⟨S128x128, .f32⟩
  | .hbm, ⟨38, _⟩ => ⟨S128x128, .i32⟩
  | .hbm, ⟨39, _⟩ => ⟨S_, .i32⟩
  | .hbm, ⟨40, _⟩ => ⟨S128x128, .i32⟩
  | .hbm, ⟨41, _⟩ => ⟨S128x128, .i32⟩
  | .hbm, ⟨42, _⟩ => ⟨S128x128, .i32⟩
  | .hbm, ⟨43, _⟩ => ⟨S128x128, .i1⟩
  | .hbm, ⟨44, _⟩ => ⟨S_, .f32⟩
  | .hbm, ⟨45, _⟩ => ⟨S128x128, .f32⟩
  | .hbm, ⟨46, _⟩ => ⟨S128x128, .f32⟩
  | .hbm, ⟨47, _⟩ => ⟨S1x128x128, .f32⟩
  | .hbm, ⟨48, _⟩ => ⟨S8x128x128, .f32⟩
  | .hbm, ⟨49, _⟩ => ⟨S8x128x128, .f32⟩
  | .hbm, ⟨50, _⟩ => ⟨S8x32x128x128, .f32⟩
  | .hbm, ⟨51, _⟩ => ⟨S32x128x8x128, .f32⟩
  | .hbm, ⟨52, _⟩ => ⟨S128x8, .f32⟩
  | .hbm, ⟨53, _⟩ => ⟨S1x128x8x1, .f32⟩
  | .hbm, ⟨54, _⟩ => ⟨S32x128x8x128, .f32⟩
  | .hbm, ⟨55, _⟩ => ⟨S32x128x8x128, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x2048, .bf16⟩
  | .hbm, ⟨61, _⟩ => ⟨S4096x1024, .bf16⟩
  | .hbm, ⟨62, _⟩ => ⟨S4096x1024, .bf16⟩
  | .hbm, ⟨63, _⟩ => ⟨S4096x1024, .f32⟩
  | .hbm, ⟨64, _⟩ => ⟨S_, .f32⟩
  | .hbm, ⟨65, _⟩ => ⟨S4096, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096x1, .f32⟩
  | .hbm, ⟨72, _⟩ => ⟨S4096x1, .f32⟩
  | .hbm, ⟨73, _⟩ => ⟨S4096x1, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_call0_v0 : Ref sig .tc := ⟨.hbm, 38, rfl⟩
abbrev main_call0_c : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_cst : Ref sig .tc := ⟨.hbm, 44, rfl⟩
abbrev main_call0_v5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_5 : Ref sig .tc := ⟨.hbm, 64, rfl⟩
abbrev main_v42 : Ref sig .tc := ⟨.hbm, 65, rfl⟩
abbrev main_v43 : Ref sig .tc := ⟨.hbm, 66, rfl⟩
abbrev main_cst_6 : Ref sig .tc := ⟨.hbm, 67, rfl⟩
abbrev main_v44 : Ref sig .tc := ⟨.hbm, 68, rfl⟩
abbrev main_v45 : Ref sig .tc := ⟨.hbm, 69, rfl⟩
abbrev main_cst_7 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩

abbrev nD : Nat := 1
abbrev τ : Topo := Topo.v7x

variable {F : FTy → Type} [FloatOps F]
-- ==== EvenFwd.lean ====
abbrev S4096x1024 : Shape := ⟨2, ![4096, 1024]⟩
abbrev S1x1024 : Shape := ⟨2, ![1, 1024]⟩
abbrev S1024x2048 : Shape := ⟨2, ![1024, 2048]⟩
abbrev S3x512 : Shape := ⟨2, ![3, 512]⟩
abbrev S4x128x128 : Shape := ⟨3, ![4, 128, 128]⟩
abbrev S1x512 : Shape := ⟨2, ![1, 512]⟩
abbrev S1024x1024 : Shape := ⟨2, ![1024, 1024]⟩
abbrev S4096x2048 : Shape := ⟨2, ![4096, 2048]⟩
abbrev S4096x512 : Shape := ⟨2, ![4096, 512]⟩
abbrev S512x1024 : Shape := ⟨2, ![512, 1024]⟩
abbrev S512x2048 : Shape := ⟨2, ![512, 2048]⟩
abbrev S512x512 : Shape := ⟨2, ![512, 512]⟩
abbrev S528x512 : Shape := ⟨2, ![528, 512]⟩
abbrev S16x512 : Shape := ⟨2, ![16, 512]⟩
abbrev S512 : Shape := ⟨1, ![512]⟩
abbrev S512x1 : Shape := ⟨2, ![512, 1]⟩
abbrev S528x128 : Shape := ⟨2, ![528, 128]⟩
abbrev S512x128 : Shape := ⟨2, ![512, 128]⟩
abbrev S1x128x128 : Shape := ⟨3, ![1, 128, 128]⟩
abbrev S128x128 : Shape := ⟨2, ![128, 128]⟩

abbrev nBuf : Space → Nat
  | .hbm => 18
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x2048, .f32⟩
  | .hbm, ⟨4, _⟩ => ⟨S3x512, .f32⟩
  | .hbm, ⟨5, _⟩ => ⟨S4x128x128, .f32⟩
  | .hbm, ⟨6, _⟩ => ⟨S1x512, .f32⟩
  | .hbm, ⟨7, _⟩ => ⟨S1024x1024, .f32⟩
  | .hbm, ⟨8, _⟩ => ⟨S1024x2048, .bf16⟩
  | .hbm, ⟨9, _⟩ => ⟨S4x128x128, .bf16⟩
  | .hbm, ⟨10, _⟩ => ⟨S1024x1024, .bf16⟩
  | .hbm, ⟨11, _⟩ => ⟨S4096x1024, .bf16⟩
  | .hbm, ⟨12, _⟩ => ⟨S4096x2048, .bf16⟩
  | .hbm, ⟨13, _⟩ => ⟨S4096x512, .bf16⟩
  | .hbm, ⟨14, _⟩ => ⟨S4096x512, .bf16⟩
  | .hbm, ⟨15, _⟩ => ⟨S4096x1024, .bf16⟩
  | .hbm, ⟨16, _⟩ => ⟨S4096x1024, .f32⟩
  | .hbm, ⟨17, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x2048, .bf16⟩
  | .local _ .vmem, ⟨5, _⟩ => ⟨S3x512, .f32⟩
  | .local _ .vmem, ⟨6, _⟩ => ⟨S4x128x128, .bf16⟩
  | .local _ .vmem, ⟨7, _⟩ => ⟨S1x512, .f32⟩
  | .local _ .vmem, ⟨8, _⟩ => ⟨S1024x1024, .bf16⟩
  | .local _ .vmem, ⟨9, _⟩ => ⟨S512x1024, .bf16⟩
  | .local _ .vmem, ⟨10, _⟩ => ⟨S512x1024, .bf16⟩
  | .local _ .vmem, ⟨11, _⟩ => ⟨S512x2048, .bf16⟩
  | .local _ .vmem, ⟨12, _⟩ => ⟨S512x2048, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .vmem, ⟨23, _⟩ => ⟨S528x512, .f32⟩
  | .local _ .vmem, ⟨24, _⟩ => ⟨S528x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev main_v3_6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== EvenFwdRefIdeal.lean ====
abbrev S4096x1024 : Shape := ⟨2, ![4096, 1024]⟩
abbrev S1x1024 : Shape := ⟨2, ![1, 1024]⟩
abbrev S1024x2048 : Shape := ⟨2, ![1024, 2048]⟩
abbrev S3x512 : Shape := ⟨2, ![3, 512]⟩
abbrev S4x128x128 : Shape := ⟨3, ![4, 128, 128]⟩
abbrev S1x512 : Shape := ⟨2, ![1, 512]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩
abbrev S4096x512 : Shape := ⟨2, ![4096, 512]⟩
abbrev S2x512 : Shape := ⟨2, ![2, 512]⟩
abbrev S4098x512 : Shape := ⟨2, ![4098, 512]⟩
abbrev S512 : Shape := ⟨1, ![512]⟩
abbrev S4096x4x128 : Shape := ⟨3, ![4096, 4, 128]⟩
abbrev S4096x1x128 : Shape := ⟨3, ![4096, 1, 128]⟩
abbrev S4096x128 : Shape := ⟨2, ![4096, 128]⟩
abbrev S2x128 : Shape := ⟨2, ![2, 128]⟩
abbrev S4094x128 : Shape := ⟨2, ![4094, 128]⟩
abbrev S4x128 : Shape := ⟨2, ![4, 128]⟩
abbrev S4092x128 : Shape := ⟨2, ![4092, 128]⟩
abbrev S8x128 : Shape := ⟨2, ![8, 128]⟩
abbrev S4088x128 : Shape := ⟨2, ![4088, 128]⟩
abbrev S16x128 : Shape := ⟨2, ![16, 128]⟩
abbrev S4080x128 : Shape := ⟨2, ![4080, 128]⟩
abbrev S4x128x4096 : Shape := ⟨3, ![4, 128, 4096]⟩

abbrev nBuf : Space → Nat
  | .hbm => 231
  | .vmem => 0
  | .smem => 0
  | _ => 0

abbrev hbmTy0_0 (i : Nat) : BufTy := match i % 128 with
  | 0 => ⟨S4096x1024, .f32⟩
  | 1 => ⟨S1x1024, .f32⟩
  | 2 => ⟨S1x1024, .f32⟩
  | 3 => ⟨S1024x2048, .f32⟩
  | 4 => ⟨S3x512, .f32⟩
  | 5 => ⟨S4x128x128, .f32⟩
  | 6 => ⟨S1x512, .f32⟩
  | 7 => ⟨S1024x1024, .f32⟩
  | 8 => ⟨S4096x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1024, .f32⟩
  | 20 => ⟨S4096x1024, .f32⟩
  | 21 => ⟨S4096x1024, .f32⟩
  | 22 => ⟨S4096x1024, .f32⟩
  | 23 => ⟨S4096x2048, .f32⟩
  | 24 => ⟨S4096x512, .f32⟩
  | 25 => ⟨S4096x512, .f32⟩
  | 26 => ⟨S4096x512, .f32⟩
  | 27 => ⟨S4096x512, .f32⟩
  | 28 => ⟨S4096x512, .f32⟩
  | 29 => ⟨S_, .f32⟩
  | 30 => ⟨S2x512, .f32⟩
  | 31 => ⟨S4098x512, .f32⟩
  | 32 => ⟨S4096x512, .f32⟩
  | 33 => ⟨S1x512, .f32⟩
  | 34 => ⟨S512, .f32⟩
  | 35 => ⟨S1x512, .f32⟩
  | 36 => ⟨S4096x512, .f32⟩
  | 37 => ⟨S4096x512, .f32⟩
  | 38 => ⟨S4096x512, .f32⟩
  | 39 => ⟨S1x512, .f32⟩
  | 40 => ⟨S512, .f32⟩
  | 41 => ⟨S1x512, .f32⟩
  | 42 => ⟨S4096x512, .f32⟩
  | 43 => ⟨S4096x512, .f32⟩
  | 44 => ⟨S4096x512, .f32⟩
  | 45 => ⟨S4096x512, .f32⟩
  | 46 => ⟨S1x512, .f32⟩
  | 47 => ⟨S512, .f32⟩
  | 48 => ⟨S1x512, .f32⟩
  | 49 => ⟨S4096x512, .f32⟩
  | 50 => ⟨S4096x512, .f32⟩
  | 51 => ⟨S4096x512, .f32⟩
  | 52 => ⟨S4096x512, .f32⟩
  | 53 => ⟨S4096x4x128, .f32⟩
  | 54 => ⟨S_, .f32⟩
  | 55 => ⟨S_, .f32⟩
  | 56 => ⟨S4096x4x128, .f32⟩
  | 57 => ⟨S4096, .f32⟩
  | 58 => ⟨S_, .f32⟩
  | 59 => ⟨S4096, .f32⟩
  | 60 => ⟨S4096, .f32⟩
  | 61 => ⟨S4096x1, .f32⟩
  | 62 => ⟨S4096x1x128, .f32⟩
  | 63 => ⟨S4096x128, .f32⟩
  | 64 => ⟨S_, .f32⟩
  | 65 => ⟨S2x128, .f32⟩
  | 66 => ⟨S4094x128, .f32⟩
  | 67 => ⟨S4096x128, .f32⟩
  | 68 => ⟨S_, .f32⟩
  | 69 => ⟨S4096x1, .f32⟩
  | 70 => ⟨S4096x1, .f32⟩
  | 71 => ⟨S4096x128, .f32⟩
  | 72 => ⟨S4096x128, .f32⟩
  | 73 => ⟨S4096x128, .f32⟩
  | 74 => ⟨S4096x1x128, .f32⟩
  | 75 => ⟨S4096x128, .f32⟩
  | 76 => ⟨S4096x128, .f32⟩
  | 77 => ⟨S4096x1x128, .f32⟩
  | 78 => ⟨S4096x128, .f32⟩
  | 79 => ⟨S_, .f32⟩
  | 80 => ⟨S4x128, .f32⟩
  | 81 => ⟨S4092x128, .f32⟩
  | 82 => ⟨S4096x128, .f32⟩
  | 83 => ⟨S_, .f32⟩
  | 84 => ⟨S4096x1, .f32⟩
  | 85 => ⟨S4096x1, .f32⟩
  | 86 => ⟨S4096x128, .f32⟩
  | 87 => ⟨S4096x128, .f32⟩
  | 88 => ⟨S4096x128, .f32⟩
  | 89 => ⟨S4096x1x128, .f32⟩
  | 90 => ⟨S4096x128, .f32⟩
  | 91 => ⟨S4096x128, .f32⟩
  | 92 => ⟨S4096x1x128, .f32⟩
  | 93 => ⟨S4096x128, .f32⟩
  | 94 => ⟨S_, .f32⟩
  | 95 => ⟨S8x128, .f32⟩
  | 96 => ⟨S4088x128, .f32⟩
  | 97 => ⟨S4096x128, .f32⟩
  | 98 => ⟨S_, .f32⟩
  | 99 => ⟨S4096x1, .f32⟩
  | 100 => ⟨S4096x1, .f32⟩
  | 101 => ⟨S4096x128, .f32⟩
  | 102 => ⟨S4096x128, .f32⟩
  | 103 => ⟨S4096x128, .f32⟩
  | 104 => ⟨S4096x1x128, .f32⟩
  | 105 => ⟨S4096x128, .f32⟩
  | 106 => ⟨S4096x128, .f32⟩
  | 107 => ⟨S4096x1x128, .f32⟩
  | 108 => ⟨S4096x128, .f32⟩
  | 109 => ⟨S_, .f32⟩
  | 110 => ⟨S16x128, .f32⟩
  | 111 => ⟨S4080x128, .f32⟩
  | 112 => ⟨S4096x128, .f32⟩
  | 113 => ⟨S_, .f32⟩
  | 114 => ⟨S4096x1, .f32⟩
  | 115 => ⟨S4096x1, .f32⟩
  | 116 => ⟨S4096x128, .f32⟩
  | 117 => ⟨S4096x128, .f32⟩
  | 118 => ⟨S4096x128, .f32⟩
  | 119 => ⟨S4096x1x128, .f32⟩
  | 120 => ⟨S4096x128, .f32⟩
  | 121 => ⟨S4096x128, .f32⟩
  | 122 => ⟨S4096x1x128, .f32⟩
  | 123 => ⟨S4096x1x128, .f32⟩
  | 124 => ⟨S4096x1x128, .f32⟩
  | 125 => ⟨S4096x1x128, .f32⟩
  | 126 => ⟨S4096x4x128, .f32⟩
  | 127 => ⟨S4x128x4096, .f32⟩
  | _ => ⟨S4096x1024, .f32⟩

abbrev hbmTy0_1 (i : Nat) : BufTy := match i % 128 with
  | 0 => ⟨S4096x4x128, .f32⟩
  | 1 => ⟨S4096x512, .f32⟩
  | 2 => ⟨S4096x512, .f32⟩
  | 3 => ⟨S4096x512, .f32⟩
  | 4 => ⟨S4096x1024, .f32⟩
  | 5 => ⟨S4096x1024, .f32⟩
  | 6 => ⟨S4096x1024, .f32⟩
  | 7 => ⟨S4096x1024, .f32⟩
  | 8 => ⟨S_, .f32⟩
  | 9 => ⟨S4096, .f32⟩
  | 10 => ⟨S4096x1, .f32⟩
  | 11 => ⟨S_, .f32⟩
  | 12 => ⟨S4096x1, .f32⟩
  | 13 => ⟨S4096x1, .f32⟩
  | 14 => ⟨S_, .f32⟩
  | 15 => ⟨S4096x1, .f32⟩
  | 16 => ⟨S4096x1, .f32⟩
  | 17 => ⟨S4096x1, .f32⟩
  | 18 => ⟨S4096x1024, .f32⟩
  | 19 => ⟨S4096x1024, .f32⟩
  | 20 => ⟨S4096x1024, .f32⟩
  | 21 => ⟨S4096x1024, .f32⟩
  | 22 => ⟨S4096x4x128, .f32⟩
  | 23 => ⟨S_, .f32⟩
  | 24 => ⟨S_, .f32⟩
  | 25 => ⟨S4096x4x128, .f32⟩
  | 26 => ⟨S4096, .f32⟩
  | 27 => ⟨S_, .f32⟩
  | 28 => ⟨S4096, .f32⟩
  | 29 => ⟨S4096, .f32⟩
  | 30 => ⟨S4096x1, .f32⟩
  | 31 => ⟨S4096x1x128, .f32⟩
  | 32 => ⟨S4096x128, .f32⟩
  | 33 => ⟨S_, .f32⟩
  | 34 => ⟨S2x128, .f32⟩
  | 35 => ⟨S4094x128, .f32⟩
  | 36 => ⟨S4096x128, .f32⟩
  | 37 => ⟨S_, .f32⟩
  | 38 => ⟨S4096x1, .f32⟩
  | 39 => ⟨S4096x1, .f32⟩
  | 40 => ⟨S4096x128, .f32⟩
  | 41 => ⟨S4096x128, .f32⟩
  | 42 => ⟨S4096x128, .f32⟩
  | 43 => ⟨S4096x1x128, .f32⟩
  | 44 => ⟨S4096x128, .f32⟩
  | 45 => ⟨S4096x128, .f32⟩
  | 46 => ⟨S4096x1x128, .f32⟩
  | 47 => ⟨S4096x128, .f32⟩
  | 48 => ⟨S_, .f32⟩
  | 49 => ⟨S4x128, .f32⟩
  | 50 => ⟨S4092x128, .f32⟩
  | 51 => ⟨S4096x128, .f32⟩
  | 52 => ⟨S_, .f32⟩
  | 53 => ⟨S4096x1, .f32⟩
  | 54 => ⟨S4096x1, .f32⟩
  | 55 => ⟨S4096x128, .f32⟩
  | 56 => ⟨S4096x128, .f32⟩
  | 57 => ⟨S4096x128, .f32⟩
  | 58 => ⟨S4096x1x128, .f32⟩
  | 59 => ⟨S4096x128, .f32⟩
  | 60 => ⟨S4096x128, .f32⟩
  | 61 => ⟨S4096x1x128, .f32⟩
  | 62 => ⟨S4096x128, .f32⟩
  | 63 => ⟨S_, .f32⟩
  | 64 => ⟨S8x128, .f32⟩
  | 65 => ⟨S4088x128, .f32⟩
  | 66 => ⟨S4096x128, .f32⟩
  | 67 => ⟨S_, .f32⟩
  | 68 => ⟨S4096x1, .f32⟩
  | 69 => ⟨S4096x1, .f32⟩
  | 70 => ⟨S4096x128, .f32⟩
  | 71 => ⟨S4096x128, .f32⟩
  | 72 => ⟨S4096x128, .f32⟩
  | 73 => ⟨S4096x1x128, .f32⟩
  | 74 => ⟨S4096x128, .f32⟩
  | 75 => ⟨S4096x128, .f32⟩
  | 76 => ⟨S4096x1x128, .f32⟩
  | 77 => ⟨S4096x128, .f32⟩
  | 78 => ⟨S_, .f32⟩
  | 79 => ⟨S16x128, .f32⟩
  | 80 => ⟨S4080x128, .f32⟩
  | 81 => ⟨S4096x128, .f32⟩
  | 82 => ⟨S_, .f32⟩
  | 83 => ⟨S4096x1, .f32⟩
  | 84 => ⟨S4096x1, .f32⟩
  | 85 => ⟨S4096x128, .f32⟩
  | 86 => ⟨S4096x128, .f32⟩
  | 87 => ⟨S4096x128, .f32⟩
  | 88 => ⟨S4096x1x128, .f32⟩
  | 89 => ⟨S4096x128, .f32⟩
  | 90 => ⟨S4096x128, .f32⟩
  | 91 => ⟨S4096x1x128, .f32⟩
  | 92 => ⟨S4096x1x128, .f32⟩
  | 93 => ⟨S4096x1x128, .f32⟩
  | 94 => ⟨S4096x1x128, .f32⟩
  | 95 => ⟨S4096x4x128, .f32⟩
  | 96 => ⟨S4096x512, .f32⟩
  | 97 => ⟨S4096x1024, .bf16⟩
  | 98 => ⟨S4096x2048, .bf16⟩
  | 99 => ⟨S4096x512, .bf16⟩
  | 100 => ⟨S4096x512, .bf16⟩
  | 101 => ⟨S4096x1024, .bf16⟩
  | 102 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_call0_call0_cst : Ref sig .tc := ⟨.hbm, 54, rfl⟩
abbrev main_call0_call0_v0 : Ref sig .tc := ⟨.hbm, 55, rfl⟩
abbrev main_v42 : Ref sig .tc := ⟨.hbm, 56, rfl⟩
abbrev main_v43 : Ref sig .tc := ⟨.hbm, 57, rfl⟩
abbrev main_cst_3 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_4 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_5 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_6 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_7 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_8 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_9 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_cst_10 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_11 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_cst_12 : Ref sig .tc := ⟨.hbm, 136, rfl⟩
abbrev main_v113 : Ref sig .tc := ⟨.hbm, 137, rfl⟩
abbrev main_v114 : Ref sig .tc := ⟨.hbm, 138, rfl⟩
abbrev main_cst_13 : Ref sig .tc := ⟨.hbm, 139, rfl⟩
abbrev main_v115 : Ref sig .tc := ⟨.hbm, 140, rfl⟩
abbrev main_v116 : Ref sig .tc := ⟨.hbm, 141, rfl⟩
abbrev main_cst_14 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_call1_call0_cst : Ref sig .tc := ⟨.hbm, 151, rfl⟩
abbrev main_call1_call0_v0 : Ref sig .tc := ⟨.hbm, 152, rfl⟩
abbrev main_v125 : Ref sig .tc := ⟨.hbm, 153, rfl⟩
abbrev main_v126 : Ref sig .tc := ⟨.hbm, 154, rfl⟩
abbrev main_cst_15 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_cst_16 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_cst_17 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_cst_18 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_cst_19 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_cst_20 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_cst_21 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_cst_22 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_cst_23 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩

abbrev nD : Nat := 1
abbrev τ : Topo := Topo.v7x

variable {F : FTy → Type} [FloatOps F]
-- ==== OddBack.lean ====
abbrev S4096x1024 : Shape := ⟨2, ![4096, 1024]⟩
abbrev S1x1024 : Shape := ⟨2, ![1, 1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩
abbrev S128x128 : Shape := ⟨2, ![128, 128]⟩
abbrev S1x128x128 : Shape := ⟨3, ![1, 128, 128]⟩
abbrev S32x128x8x128 : Shape := ⟨4, ![32, 128, 8, 128]⟩
abbrev S8x32x128x128 : Shape := ⟨4, ![8, 32, 128, 128]⟩
abbrev S128x8 : Shape := ⟨2, ![128, 8]⟩
abbrev S1x128x8x1 : Shape := ⟨4, ![1, 128, 8, 1]⟩
abbrev S512x1024 : Shape := ⟨2, ![512, 1024]⟩
abbrev S512x2048 : Shape := ⟨2, ![512, 2048]⟩
abbrev S128x1024 : Shape := ⟨2, ![128, 1024]⟩
abbrev S512 : Shape := ⟨1, ![512]⟩
abbrev S512x1 : Shape := ⟨2, ![512, 1]⟩
abbrev S1024 : Shape := ⟨1, ![1024]⟩
abbrev S1x128 : Shape := ⟨2, ![1, 128]⟩

abbrev nBuf : Space → Nat
  | .hbm => 86
  | .vmem => 28
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2048, .f32⟩
  | .hbm, ⟨3, _⟩ => ⟨S1x1024, .f32⟩
  | .hbm, ⟨4, _⟩ => ⟨S8x128x128, .f32⟩
  | .hbm, ⟨5, _⟩ => ⟨S8x128, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x2048, .f32⟩
  | .hbm, ⟨24, _⟩ => ⟨S_, .f32⟩
  | .hbm, ⟨25, _⟩ => ⟨S128x128, .f32⟩
  | .hbm, ⟨26, _⟩ => ⟨S128x128, .i32⟩
  | .hbm, ⟨27, _⟩ => ⟨S_, .i32⟩
  | .hbm, ⟨28, _⟩ => ⟨S128x128, .i32⟩
  | .hbm, ⟨29, _⟩ => ⟨S128x128, .i32⟩
  | .hbm, ⟨30, _⟩ => ⟨S128x128, .i32⟩
  | .hbm, ⟨31, _⟩ => ⟨S128x128, .i1⟩
  | .hbm, ⟨32, _⟩ => ⟨S_, .f32⟩
  | .hbm, ⟨33, _⟩ => ⟨S128x128, .f32⟩
  | .hbm, ⟨34, _⟩ => ⟨S128x128, .f32⟩
  | .hbm, ⟨35, _⟩ => ⟨S1x128x128, .f32⟩
  | .hbm, ⟨36, _⟩ => ⟨S8x128x128, .f32⟩
  | .hbm, ⟨37, _⟩ => ⟨S8x128x128, .f32⟩
  | .hbm, ⟨38, _⟩ => ⟨S_, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S32x128x8x128, .f32⟩
  | .hbm, ⟨64, _⟩ => ⟨S8x32x128x128, .f32⟩
  | .hbm, ⟨65, _⟩ => ⟨S32x128x8x128, .f32⟩
  | .hbm, ⟨66, _⟩ => ⟨S128x8, .f32⟩
  | .hbm, ⟨67, _⟩ => ⟨S1x128x8x1, .f32⟩
  | .hbm, ⟨68, _⟩ => ⟨S32x128x8x128, .f32⟩
  | .hbm, ⟨69, _⟩ => ⟨S32x128x8x128, .f32⟩
  | .hbm, ⟨70, _⟩ => ⟨S4096x1024, .f32⟩
  | .hbm, ⟨71, _⟩ => ⟨S4096x1024, .bf16⟩
  | .hbm, ⟨72, _⟩ => ⟨S1024x1024, .bf16⟩
  | .hbm, ⟨73, _⟩ => ⟨S4096x2048, .bf16⟩
  | .hbm, ⟨74, _⟩ => ⟨S4096x1024, .bf16⟩
  | .hbm, ⟨75, _⟩ => ⟨S8x128x128, .bf16⟩
  | .hbm, ⟨76, _⟩ => ⟨S8x128x128, .f32⟩
  | .hbm, ⟨77, _⟩ => ⟨S8x128x128, .bf16⟩
  | .hbm, ⟨78, _⟩ => ⟨S1024x2048, .bf16⟩
  | .hbm, ⟨79, _⟩ => ⟨S4096x2048, .bf16⟩
  | .hbm, ⟨80, _⟩ => ⟨S4096x1024, .f32⟩
  | .hbm, ⟨81, _⟩ => ⟨S4096x1024, .bf16⟩
  | .hbm, ⟨82, _⟩ => ⟨S1x1024, .f32⟩
  | .hbm, ⟨83, _⟩ => ⟨S1x1024, .f32⟩
  | .hbm, ⟨84, _⟩ => ⟨S8x128x128, .f32⟩
  | .hbm, ⟨85, _⟩ => ⟨S8x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S512x2048, .bf16⟩
  | .local _ .vmem, ⟨6, _⟩ => ⟨S512x2048, .bf16⟩
  | .local _ .vmem, ⟨7, _⟩ => ⟨S512x1024, .bf16⟩
  | .local _ .vmem, ⟨8, _⟩ => ⟨S512x1024, .bf16⟩
  | .local _ .vmem, ⟨9, _⟩ => ⟨S8x128x128, .bf16⟩
  | .local _ .vmem, ⟨10, _⟩ => ⟨S8x128x128, .bf16⟩
  | .local _ .vmem, ⟨11, _⟩ => ⟨S1x1024, .f32⟩
  | .local _ .vmem, ⟨12, _⟩ => ⟨S1024x2048, .bf16⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x2048, .bf16⟩
  | .local _ .vmem, ⟨17, _⟩ => ⟨S512x2048, .bf16⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S1x1024, .f32⟩
  | .local _ .vmem, ⟨23, _⟩ => ⟨S1x1024, .f32⟩
  | .local _ .vmem, ⟨24, _⟩ => ⟨S8x128x128, .f32⟩
  | .local _ .vmem, ⟨25, _⟩ => ⟨S8x128, .f32⟩
  | .local _ .vmem, ⟨26, _⟩ => ⟨S512x1024, .f32⟩
  | .local _ .vmem, ⟨27, _⟩ => ⟨S128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_call0_v0 : Ref sig .tc := ⟨.hbm, 26, rfl⟩
abbrev main_call0_c : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_cst : Ref sig .tc := ⟨.hbm, 32, rfl⟩
abbrev main_call0_v5 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_5 : Ref sig .tc := ⟨.hbm, 49, rfl⟩
abbrev main_v27 : Ref sig .tc := ⟨.hbm, 50, rfl⟩
abbrev main_v28 : Ref sig .tc := ⟨.hbm, 51, rfl⟩
abbrev main_cst_6 : Ref sig .tc := ⟨.hbm, 52, rfl⟩
abbrev main_v29 : Ref sig .tc := ⟨.hbm, 53, rfl⟩
abbrev main_v30 : Ref sig .tc := ⟨.hbm, 54, rfl⟩
abbrev main_cst_7 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54_0 : Ref sig .tc := ⟨.hbm, 79, rfl⟩
abbrev main_v54_1 : Ref sig .tc := ⟨.hbm, 80, rfl⟩
abbrev main_v54_2 : Ref sig .tc := ⟨.hbm, 81, rfl⟩
abbrev main_v54_3 : Ref sig .tc := ⟨.hbm, 82, rfl⟩
abbrev main_v54_4 : Ref sig .tc := ⟨.hbm, 83, rfl⟩
abbrev main_v54_5 : Ref sig .tc := ⟨.hbm, 84, rfl⟩
abbrev main_v54_6 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem15_0 : DmaSem sig := 23
abbrev cc0_sem16_0 : DmaSem sig := 24
abbrev cc0_sem17_0 : DmaSem sig := 25

abbrev nD : Nat := 1
abbrev τ : Topo := Topo.v7x

variable {F : FTy → Type} [FloatOps F]

abbrev grid0 : Pipeline.Grid := ⟨1, ![8], ![false]⟩

def k0_cond21 (i : grid0.Coords) : BitVec 1 :=
  let arg0 : BitVec 32 := BitVec.ofNat 32 (i 0).val
  let c0_i32 : BitVec 32 := 0#32
  let v0 : BitVec 1 := Scalar.cmpi .eq arg0 c0_i32
  let v510 : BitVec 32 := Scalar.extui v0
  let c0_i32_294 : BitVec 32 := 0#32
  let v511 : BitVec 1 := Scalar.cmpi .ne v510 c0_i32_294
  v511

def k0_cond22 (i : grid0.Coords) : BitVec 1 :=
  let arg0 : BitVec 32 := BitVec.ofNat 32 (i 0).val
  let c0_i32 : BitVec 32 := 0#32
  let v0 : BitVec 1 := Scalar.cmpi .eq arg0 c0_i32
  let true_295 : BitVec 1 := 1#1
  let v512 : BitVec 1 := Scalar.xori v0 true_295
  let v513 : BitVec 32 := Scalar.extui v512
  let c0_i32_296 : BitVec 32 := 0#32
  let v514 : BitVec 1 := Scalar.cmpi .ne v513 c0_i32_296
  v514

def k0_cond19 (i : grid0.Coords) : BitVec 1 :=
  let arg0 : BitVec 32 := BitVec.ofNat 32 (i 0).val
  let c0_i32 : BitVec 32 := 0#32
  let v0 : BitVec 1 := Scalar.cmpi .eq arg0 c0_i32
  let v439 : BitVec 32 := Scalar.extui v0
  let c0_i32_263 : BitVec 32 := 0#32
  let v440 : BitVec 1 := Scalar.cmpi .ne v439 c0_i32_263
  v440

def k0_cond20 (i : grid0.Coords) : BitVec 1 :=
  let arg0 : BitVec 32 := BitVec.ofNat 32 (i 0).val
  let c0_i32 : BitVec 32 := 0#32
  let v0 : BitVec 1 := Scalar.cmpi .eq arg0 c0_i32
  let true_264 : BitVec 1 := 1#1
  let v441 : BitVec 1 := Scalar.xori v0 true_264
  let v442 : BitVec 32 := Scalar.extui v441
  let c0_i32_265 : BitVec 32 := 0#32
  let v443 : BitVec 1 := Scalar.cmpi .ne v442 c0_i32_265
  v443

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v94 : BitVec 32 := Scalar.extui v0
  let c0_i32_43 : BitVec 32 := 0#32
  let v95 : BitVec 1 := Scalar.cmpi .ne v94 c0_i32_43
  v95

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_44 : BitVec 1 := 1#1
  let v96 : BitVec 1 := Scalar.xori v0 true_44
  let v97 : BitVec 32 := Scalar.extui v96
  let c0_i32_46 : BitVec 32 := 0#32
  let v98 : BitVec 1 := Scalar.cmpi .ne v97 c0_i32_46
  v98

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v142 : BitVec 32 := Scalar.extui v0
  let c0_i32_74 : BitVec 32 := 0#32
  let v143 : BitVec 1 := Scalar.cmpi .ne v142 c0_i32_74
  v143

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_75 : BitVec 1 := 1#1
  let v144 : BitVec 1 := Scalar.xori v0 true_75
  let v145 : BitVec 32 := Scalar.extui v144
  let c0_i32_77 : BitVec 32 := 0#32
  let v146 : BitVec 1 := Scalar.cmpi .ne v145 c0_i32_77
  v146

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v190 : BitVec 32 := Scalar.extui v0
  let c0_i32_105 : BitVec 32 := 0#32
  let v191 : BitVec 1 := Scalar.cmpi .ne v190 c0_i32_105
  v191

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_106 : BitVec 1 := 1#1
  let v192 : BitVec 1 := Scalar.xori v0 true_106
  let v193 : BitVec 32 := Scalar.extui v192
  let c0_i32_108 : BitVec 32 := 0#32
  let v194 : BitVec 1 := Scalar.cmpi .ne v193 c0_i32_108
  v194

def k0_cond9 (i : grid0.Coords) : BitVec 1 :=
  let arg0 : BitVec 32 := BitVec.ofNat 32 (i 0).val
  let c0_i32 : BitVec 32 := 0#32
  let v0 : BitVec 1 := Scalar.cmpi .eq arg0 c0_i32
  let v238 : BitVec 32 := Scalar.extui v0
  let c0_i32_136 : BitVec 32 := 0#32
  let v239 : BitVec 1 := Scalar.cmpi .ne v238 c0_i32_136
  v239

def k0_cond10 (i : grid0.Coords) : BitVec 1 :=
  let arg0 : BitVec 32 := BitVec.ofNat 32 (i 0).val
  let c0_i32 : BitVec 32 := 0#32
  let v0 : BitVec 1 := Scalar.cmpi .eq arg0 c0_i32
  let true_137 : BitVec 1 := 1#1
  let v240 : BitVec 1 := Scalar.xori v0 true_137
  let v241 : BitVec 32 := Scalar.extui v240
  let c0_i32_139 : BitVec 32 := 0#32
  let v242 : BitVec 1 := Scalar.cmpi .ne v241 c0_i32_139
  v242

def k0_cond11 (i : grid0.Coords) : BitVec 1 :=
  let arg0 : BitVec 32 := BitVec.ofNat 32 (i 0).val
  let c0_i32 : BitVec 32 := 0#32
  let v0 : BitVec 1 := Scalar.cmpi .eq arg0 c0_i32
  let v286 : BitVec 32 := Scalar.extui v0
  let c0_i32_166 : BitVec 32 := 0#32
  let v287 : BitVec 1 := Scalar.cmpi .ne v286 c0_i32_166
  v287

def k0_cond12 (i : grid0.Coords) : BitVec 1 :=
  let arg0 : BitVec 32 := BitVec.ofNat 32 (i 0).val
  let c0_i32 : BitVec 32 := 0#32
  let v0 : BitVec 1 := Scalar.cmpi .eq arg0 c0_i32
  let true_167 : BitVec 1 := 1#1
  let v288 : BitVec 1 := Scalar.xori v0 true_167
  let v289 : BitVec 32 := Scalar.extui v288
  let c0_i32_169 : BitVec 32 := 0#32
  let v290 : BitVec 1 := Scalar.cmpi .ne v289 c0_i32_169
  v290

def k0_cond13 (i : grid0.Coords) : BitVec 1 :=
  let arg0 : BitVec 32 := BitVec.ofNat 32 (i 0).val
  let c0_i32 : BitVec 32 := 0#32
  let v0 : BitVec 1 := Scalar.cmpi .eq arg0 c0_i32
  let v334 : BitVec 32 := Scalar.extui v0
  let c0_i32_196 : BitVec 32 := 0#32
  let v335 : BitVec 1 := Scalar.cmpi .ne v334 c0_i32_196
  v335

def k0_cond14 (i : grid0.Coords) : BitVec 1 :=
  let arg0 : BitVec 32 := BitVec.ofNat 32 (i 0).val
  let c0_i32 : BitVec 32 := 0#32
  let v0 : BitVec 1 := Scalar.cmpi .eq arg0 c0_i32
  let true_197 : BitVec 1 := 1#1
  let v336 : BitVec 1 := Scalar.xori v0 true_197
  let v337 : BitVec 32 := Scalar.extui v336
  let c0_i32_199 : BitVec 32 := 0#32
  let v338 : BitVec 1 := Scalar.cmpi .ne v337 c0_i32_199
  v338

def k0_cond15 (i : grid0.Coords) : BitVec 1 :=
  let arg0 : BitVec 32 := BitVec.ofNat 32 (i 0).val
  let c0_i32 : BitVec 32 := 0#32
  let v0 : BitVec 1 := Scalar.cmpi .eq arg0 c0_i32
  let v382 : BitVec 32 := Scalar.extui v0
  let c0_i32_226 : BitVec 32 := 0#32
  let v383 : BitVec 1 := Scalar.cmpi .ne v382 c0_i32_226
  v383

def k0_cond16 (i : grid0.Coords) : BitVec 1 :=
  let arg0 : BitVec 32 := BitVec.ofNat 32 (i 0).val
  let c0_i32 : BitVec 32 := 0#32
  let v0 : BitVec 1 := Scalar.cmpi .eq arg0 c0_i32
  let true_227 : BitVec 1 := 1#1
  let v384 : BitVec 1 := Scalar.xori v0 true_227
  let v385 : BitVec 32 := Scalar.extui v384
  let c0_i32_229 : BitVec 32 := 0#32
  let v386 : BitVec 1 := Scalar.cmpi .ne v385 c0_i32_229
  v386

def k0_cond17 (i : grid0.Coords) : BitVec 1 :=
  let arg0 : BitVec 32 := BitVec.ofNat 32 (i 0).val
  let c0_i32 : BitVec 32 := 0#32
  let v0 : BitVec 1 := Scalar.cmpi .eq arg0 c0_i32
  let v430 : BitVec 32 := Scalar.extui v0
  let c0_i32_256 : BitVec 32 := 0#32
  let v431 : BitVec 1 := Scalar.cmpi .ne v430 c0_i32_256
  v431

def k0_cond18 (i : grid0.Coords) : BitVec 1 :=
  let arg0 : BitVec 32 := BitVec.ofNat 32 (i 0).val
  let c0_i32 : BitVec 32 := 0#32
  let v0 : BitVec 1 := Scalar.cmpi .eq arg0 c0_i32
  let true_257 : BitVec 1 := 1#1
  let v432 : BitVec 1 := Scalar.xori v0 true_257
  let v433 : BitVec 32 := Scalar.extui v432
  let c0_i32_259 : BitVec 32 := 0#32
  let v434 : BitVec 1 := Scalar.cmpi .ne v433 c0_i32_259
  v434

def k0_cond23 (i : grid0.Coords) : BitVec 1 :=
  let arg0 : BitVec 32 := BitVec.ofNat 32 (i 0).val
  let c7_i32_297 : BitVec 32 := 7#32
  let v515 : BitVec 1 := Scalar.cmpi .eq arg0 c7_i32_297
  let v516 : BitVec 32 := Scalar.extui v515
  let c0_i32_298 : BitVec 32 := 0#32
  let v517 : BitVec 1 := Scalar.cmpi .ne v516 c0_i32_298
  v517

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== OddBackRefIdeal.lean ====
abbrev S4096x1024 : Shape := ⟨2, ![4096, 1024]⟩
abbrev S1x1024 : Shape := ⟨2, ![1, 1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩
abbrev S128x128 : Shape := ⟨2, ![128, 128]⟩
abbrev S1x128x128 : Shape := ⟨3, ![1, 128, 128]⟩
abbrev S32x128x8x128 : Shape := ⟨4, ![32, 128, 8, 128]⟩
abbrev S8x32x128x128 : Shape := ⟨4, ![8, 32, 128, 128]⟩
abbrev S128x8 : Shape := ⟨2, ![128, 8]⟩
abbrev S1x128x8x1 : Shape := ⟨4, ![1, 128, 8, 1]⟩
abbrev S1024 : Shape := ⟨1, ![1024]⟩

abbrev nBuf : Space → Nat
  | .hbm => 172
  | .vmem => 0
  | .smem => 0
  | _ => 0

abbrev hbmTy0_0 (i : Nat) : BufTy := match i % 128 with
  | 0 => ⟨S4096x1024, .f32⟩
  | 1 => ⟨S1x1024, .f32⟩
  | 2 => ⟨S1024x2048, .f32⟩
  | 3 => ⟨S1x1024, .f32⟩
  | 4 => ⟨S8x128x128, .f32⟩
  | 5 => ⟨S8x128, .f32⟩
  | 6 => ⟨S1024x1024, .f32⟩
  | 7 => ⟨S4096x1024, .f32⟩
  | 8 => ⟨S4096x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1024, .f32⟩
  | 24 => ⟨S4096x1024, .f32⟩
  | 25 => ⟨S4096x1024, .f32⟩
  | 26 => ⟨S4096x1024, .f32⟩
  | 27 => ⟨S4096x2048, .f32⟩
  | 28 => ⟨S_, .f32⟩
  | 29 => ⟨S128x128, .f32⟩
  | 30 => ⟨S128x128, .i32⟩
  | 31 => ⟨S_, .i32⟩
  | 32 => ⟨S128x128, .i32⟩
  | 33 => ⟨S128x128, .i32⟩
  | 34 => ⟨S128x128, .i32⟩
  | 35 => ⟨S128x128, .i1⟩
  | 36 => ⟨S_, .f32⟩
  | 37 => ⟨S128x128, .f32⟩
  | 38 => ⟨S128x128, .f32⟩
  | 39 => ⟨S1x128x128, .f32⟩
  | 40 => ⟨S8x128x128, .f32⟩
  | 41 => ⟨S8x128x128, .f32⟩
  | 42 => ⟨S_, .f32⟩
  | 43 => ⟨S4096x2048, .f32⟩
  | 44 => ⟨S4096x2048, .f32⟩
  | 45 => ⟨S4096x2048, .f32⟩
  | 46 => ⟨S_, .f32⟩
  | 47 => ⟨S4096x2048, .f32⟩
  | 48 => ⟨S4096x2048, .f32⟩
  | 49 => ⟨S4096x2048, .f32⟩
  | 50 => ⟨S4096x2048, .f32⟩
  | 51 => ⟨S4096x1024, .f32⟩
  | 52 => ⟨S4096x1024, .f32⟩
  | 53 => ⟨S4096x1024, .f32⟩
  | 54 => ⟨S_, .f32⟩
  | 55 => ⟨S4096, .f32⟩
  | 56 => ⟨S4096x1, .f32⟩
  | 57 => ⟨S_, .f32⟩
  | 58 => ⟨S4096x1, .f32⟩
  | 59 => ⟨S4096x1, .f32⟩
  | 60 => ⟨S_, .f32⟩
  | 61 => ⟨S4096x1, .f32⟩
  | 62 => ⟨S4096x1, .f32⟩
  | 63 => ⟨S4096x1, .f32⟩
  | 64 => ⟨S4096x1, .f32⟩
  | 65 => ⟨S_, .f32⟩
  | 66 => ⟨S4096x1, .f32⟩
  | 67 => ⟨S4096x1, .f32⟩
  | 68 => ⟨S4096x1024, .f32⟩
  | 69 => ⟨S4096x1024, .f32⟩
  | 70 => ⟨S4096x1024, .f32⟩
  | 71 => ⟨S4096x1024, .f32⟩
  | 72 => ⟨S32x128x8x128, .f32⟩
  | 73 => ⟨S8x32x128x128, .f32⟩
  | 74 => ⟨S32x128x8x128, .f32⟩
  | 75 => ⟨S128x8, .f32⟩
  | 76 => ⟨S1x128x8x1, .f32⟩
  | 77 => ⟨S32x128x8x128, .f32⟩
  | 78 => ⟨S32x128x8x128, .f32⟩
  | 79 => ⟨S4096x1024, .f32⟩
  | 80 => ⟨S4096x1024, .f32⟩
  | 81 => ⟨S4096x1024, .f32⟩
  | 82 => ⟨S4096x1024, .f32⟩
  | 83 => ⟨S4096x1024, .f32⟩
  | 84 => ⟨S4096x1024, .f32⟩
  | 85 => ⟨S32x128x8x128, .f32⟩
  | 86 => ⟨S_, .f32⟩
  | 87 => ⟨S128x8, .f32⟩
  | 88 => ⟨S1x128x8x1, .f32⟩
  | 89 => ⟨S_, .f32⟩
  | 90 => ⟨S128x8, .f32⟩
  | 91 => ⟨S8x128, .f32⟩
  | 92 => ⟨S8x32x128x128, .f32⟩
  | 93 => ⟨S8x128x128, .f32⟩
  | 94 => ⟨S8x32x128x128, .f32⟩
  | 95 => ⟨S32x128x8x128, .f32⟩
  | 96 => ⟨S4096x1024, .f32⟩
  | 97 => ⟨S4096x1024, .f32⟩
  | 98 => ⟨S_, .f32⟩
  | 99 => ⟨S1024, .f32⟩
  | 100 => ⟨S1x1024, .f32⟩
  | 101 => ⟨S4096x1024, .f32⟩
  | 102 => ⟨S4096x1024, .f32⟩
  | 103 => ⟨S4096x1024, .f32⟩
  | 104 => ⟨S_, .f32⟩
  | 105 => ⟨S4096, .f32⟩
  | 106 => ⟨S4096x1, .f32⟩
  | 107 => ⟨S4096x1024, .f32⟩
  | 108 => ⟨S4096x1024, .f32⟩
  | 109 => ⟨S4096x1, .f32⟩
  | 110 => ⟨S_, .f32⟩
  | 111 => ⟨S4096x1, .f32⟩
  | 112 => ⟨S4096x1, .f32⟩
  | 113 => ⟨S_, .f32⟩
  | 114 => ⟨S4096, .f32⟩
  | 115 => ⟨S4096x1024, .f32⟩
  | 116 => ⟨S4096x1024, .f32⟩
  | 117 => ⟨S4096x1024, .f32⟩
  | 118 => ⟨S4096x1024, .f32⟩
  | 119 => ⟨S4096x1024, .f32⟩
  | 120 => ⟨S_, .f32⟩
  | 121 => ⟨S4096x2048, .f32⟩
  | 122 => ⟨S_, .f32⟩
  | 123 => ⟨S4096x2048, .f32⟩
  | 124 => ⟨S4096x2048, .f32⟩
  | 125 => ⟨S4096x2048, .f32⟩
  | 126 => ⟨S_, .f32⟩
  | 127 => ⟨S4096x2048, .f32⟩
  | _ => ⟨S4096x1024, .f32⟩

abbrev hbmTy0_1 (i : Nat) : BufTy := match i % 128 with
  | 0 => ⟨S4096x2048, .f32⟩
  | 1 => ⟨S4096x2048, .f32⟩
  | 2 => ⟨S_, .f32⟩
  | 3 => ⟨S4096x2048, .f32⟩
  | 4 => ⟨S4096x2048, .f32⟩
  | 5 => ⟨S4096x2048, .f32⟩
  | 6 => ⟨S_, .f32⟩
  | 7 => ⟨S4096x2048, .f32⟩
  | 8 => ⟨S4096x2048, .f32⟩
  | 9 => ⟨S4096x2048, .f32⟩
  | 10 => ⟨S_, .f32⟩
  | 11 => ⟨S4096x2048, .f32⟩
  | 12 => ⟨S4096x2048, .f32⟩
  | 13 => ⟨S4096x2048, .f32⟩
  | 14 => ⟨S4096x2048, .f32⟩
  | 15 => ⟨S4096x2048, .f32⟩
  | 16 => ⟨S4096x1024, .f32⟩
  | 17 => ⟨S4096x1024, .f32⟩
  | 18 => ⟨S_, .f32⟩
  | 19 => ⟨S1024, .f32⟩
  | 20 => ⟨S1x1024, .f32⟩
  | 21 => ⟨S4096x1024, .f32⟩
  | 22 => ⟨S4096x1024, .f32⟩
  | 23 => ⟨S4096x1024, .f32⟩
  | 24 => ⟨S_, .f32⟩
  | 25 => ⟨S4096, .f32⟩
  | 26 => ⟨S4096x1, .f32⟩
  | 27 => ⟨S4096x1024, .f32⟩
  | 28 => ⟨S4096x1024, .f32⟩
  | 29 => ⟨S4096x1, .f32⟩
  | 30 => ⟨S_, .f32⟩
  | 31 => ⟨S4096x1, .f32⟩
  | 32 => ⟨S4096x1, .f32⟩
  | 33 => ⟨S_, .f32⟩
  | 34 => ⟨S4096, .f32⟩
  | 35 => ⟨S4096x1024, .f32⟩
  | 36 => ⟨S4096x1024, .f32⟩
  | 37 => ⟨S4096x1024, .f32⟩
  | 38 => ⟨S4096x1024, .f32⟩
  | 39 => ⟨S4096x1024, .f32⟩
  | 40 => ⟨S4096x2048, .bf16⟩
  | 41 => ⟨S4096x1024, .f32⟩
  | 42 => ⟨S4096x1024, .f32⟩
  | 43 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_call0_v0 : Ref sig .tc := ⟨.hbm, 30, rfl⟩
abbrev main_call0_c : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_cst : Ref sig .tc := ⟨.hbm, 36, rfl⟩
abbrev main_call0_v5 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_6 : Ref sig .tc := ⟨.hbm, 54, rfl⟩
abbrev main_v31 : Ref sig .tc := ⟨.hbm, 55, rfl⟩
abbrev main_v32 : Ref sig .tc := ⟨.hbm, 56, rfl⟩
abbrev main_cst_7 : Ref sig .tc := ⟨.hbm, 57, rfl⟩
abbrev main_v33 : Ref sig .tc := ⟨.hbm, 58, rfl⟩
abbrev main_v34 : Ref sig .tc := ⟨.hbm, 59, rfl⟩
abbrev main_cst_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_9 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_10 : Ref sig .tc := ⟨.hbm, 86, rfl⟩
abbrev main_v59 : Ref sig .tc := ⟨.hbm, 87, rfl⟩
abbrev main_v60 : Ref sig .tc := ⟨.hbm, 88, rfl⟩
abbrev main_cst_11 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_12 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_13 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_14 : Ref sig .tc := ⟨.hbm, 110, rfl⟩
abbrev main_v79 : Ref sig .tc := ⟨.hbm, 111, rfl⟩
abbrev main_v80 : Ref sig .tc := ⟨.hbm, 112, rfl⟩
abbrev main_cst_15 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_16 : Ref sig .tc := ⟨.hbm, 120, rfl⟩
abbrev main_v87 : Ref sig .tc := ⟨.hbm, 121, rfl⟩
abbrev main_cst_17 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_18 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_19 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_20 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_21 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_22 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_cst_23 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_cst_24 : Ref sig .tc := ⟨.hbm, 158, rfl⟩
abbrev main_v117 : Ref sig .tc := ⟨.hbm, 159, rfl⟩
abbrev main_v118 : Ref sig .tc := ⟨.hbm, 160, rfl⟩
abbrev main_cst_25 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩

abbrev nD : Nat := 1
abbrev τ : Topo := Topo.v7x

variable {F : FTy → Type} [FloatOps F]
-- ==== Proof.Spec.lean ====
/-
  The mathematics of the even layer's backward pass, over the extended reals and written row by row:
  rows are natural numbers, and every row array is zero from row 4096 on. Both programs' results are
  shown to be these functions.
-/
module

public import Idealize.ShloMosaic.Lib.Pointwise

@[expose] public section

noncomputable section

open Idealize.ShloMosaic

namespace Cert.Even

/-- Column `128 g + c` of the 512 columns of the pooling path. -/
def col (g : Fin 4) (c : Fin 128) : Fin 512 := ⟨128 * g.val + c.val, by omega⟩

/-- The group of a column of the pooling path. -/
def grp (j : Fin 512) : Fin 4 := ⟨j.val / 128, by omega⟩

/-- The place of a column within its group. -/
def pos (j : Fin 512) : Fin 128 := ⟨j.val % 128, by omega⟩

theorem grp_col (g : Fin 4) (c : Fin 128) : grp (col g c) = g := by
  apply Fin.ext; simp only [grp, col]; omega

theorem pos_col (g : Fin 4) (c : Fin 128) : pos (col g c) = c := by
  apply Fin.ext; simp only [pos, col]; omega

theorem col_grp_pos (j : Fin 512) : col (grp j) (pos j) = j := by
  apply Fin.ext; simp only [grp, pos, col]; omega

/-- Column `p + j` of a wider array. -/
def at_ (n p : ℕ) (j : Fin 512) (h : p + 512 ≤ n) : Fin n := ⟨p + j.val, by omega⟩

/-- What the backward pass reads: the row arrays and the weights. -/
structure In where
  /-- the gradient of the layer's output -/
  dh : ℕ → Fin 1024 → EReal
  /-- the layer's input -/
  x : ℕ → Fin 1024 → EReal
  /-- the projection -/
  P : ℕ → Fin 2048 → EReal
  /-- the convolution's output -/
  cq : ℕ → Fin 512 → EReal
  /-- the pooled features -/
  pl : ℕ → Fin 512 → EReal
  wo : Fin 1024 → Fin 1024 → EReal
  ca : Fin 3 → Fin 512 → EReal
  wp : Fin 4 → Fin 128 → Fin 128 → EReal
  ps : Fin 512 → EReal
  wi : Fin 1024 → Fin 2048 → EReal
  gn : Fin 1024 → EReal

/-- The width of each group's window, as the programs write it. -/
def wlit (g : Fin 4) : EReal :=
  if g.val = 0 then Ideal.ofBits .f32 0x40000000#32
  else if g.val = 1 then Ideal.ofBits .f32 0x40800000#32
  else if g.val = 2 then Ideal.ofBits .f32 0x41000000#32
  else Ideal.ofBits .f32 0x41800000#32

/-- The number of rows the window of group `g` holds at row `r`. -/
def cnt (r : ℕ) (g : Fin 4) : EReal := min ((r + 1 : ℕ) : EReal) (wlit g)

/-- Sums of `2 ^ n` neighbours by doubling. -/
def wsum (f : ℕ → EReal) : ℕ → ℕ → EReal
  | 0, r => f r
  | n + 1, r => wsum f n r + wsum f n (r + 2 ^ n)

namespace In

variable (I : In)

def dmix (r : ℕ) (j : Fin 1024) : EReal := ∑ k, I.dh r k * I.wo j k
def dya (r : ℕ) (j : Fin 512) : EReal := I.dmix r (at_ 1024 0 j (by omega))
def dyb (r : ℕ) (j : Fin 512) : EReal := I.dmix r (at_ 1024 512 j (by omega))
def ab (r : ℕ) (j : Fin 512) : EReal := I.P r (at_ 2048 0 j (by omega))
def ac (r : ℕ) (j : Fin 512) : EReal := I.P r (at_ 2048 512 j (by omega))
def av (r : ℕ) (j : Fin 512) : EReal := I.P r (at_ 2048 1024 j (by omega))
def dab (r : ℕ) (j : Fin 512) : EReal := I.dya r j * I.cq r j
def dcq (r : ℕ) (j : Fin 512) : EReal := I.dya r j * I.ab r j
def q (r : ℕ) (j : Fin 512) : EReal := I.ac r j * I.av r j
def dq (r : ℕ) (j : Fin 512) : EReal :=
  I.ca 2 j * I.dcq r j + I.ca 1 j * I.dcq (r + 1) j + I.ca 0 j * I.dcq (r + 2) j
def dac (r : ℕ) (j : Fin 512) : EReal := I.dq r j * I.av r j
def dav (r : ℕ) (j : Fin 512) : EReal := I.dq r j * I.ac r j
/-- the gradient of the mixed features -/
def dmx (r : ℕ) (g : Fin 4) (c : Fin 128) : EReal := I.dyb r (col g c) * I.ps (col g c)
/-- the gradient of the pooled features -/
def dpl (r : ℕ) (j : Fin 512) : EReal := ∑ d, I.dmx r (grp j) d * I.wp (grp j) (pos j) d
/-- the same over the window's count -/
def e (r : ℕ) (j : Fin 512) : EReal := Ideal.div (I.dpl r j) (cnt r (grp j))
/-- the gradient of the pooling's input -/
def dz (r : ℕ) (j : Fin 512) : EReal := wsum (fun r => I.e r j) ((grp j).val + 1) r - I.dpl r j
/-- the gradient of the projection -/
def dproj (r : ℕ) (j : Fin 2048) : EReal :=
  if h : j.val < 512 then I.dab r ⟨j.val, h⟩
  else if h1 : j.val < 1024 then I.dac r ⟨j.val - 512, by omega⟩
  else if h2 : j.val < 1536 then I.dav r ⟨j.val - 1024, by omega⟩
  else I.dz r ⟨j.val - 1536, by omega⟩
def dxn (r : ℕ) (i : Fin 1024) : EReal := ∑ j, I.dproj r j * I.wi i j
def rr (r : ℕ) : EReal :=
  Ideal.rsqrt (Ideal.div (∑ k, I.x r k * I.x r k) (Ideal.ofBits .f32 0x44800000#32) + Ideal.ofBits .f32 0x358637BD#32)
def xh (r : ℕ) (i : Fin 1024) : EReal := I.x r i * I.rr r
def dxh (r : ℕ) (i : Fin 1024) : EReal := I.dxn r i * I.gn i
/-- the gradient of the layer's input -/
def dx (r : ℕ) (i : Fin 1024) : EReal :=
  I.dh r i + I.rr r * (I.dxh r i - I.xh r i * Ideal.div (∑ k, I.dxh r k * I.xh r k) (Ideal.ofBits .f32 0x44800000#32))
def mixed (r : ℕ) (j : Fin 512) : EReal := ∑ c, I.pl r (col (grp j) c) * I.wp (grp j) c (pos j)

/-- What row `r` adds to the gradient of the norm's gain. -/
def tg (i : Fin 1024) (r : ℕ) : EReal := I.dxn r i * I.xh r i
/-- What row `r` adds to the gradient of the convolution's weights. -/
def tca (k : Fin 3) (j : Fin 512) (r : ℕ) : EReal := I.dcq (r + (2 - k.val)) j * I.q r j
/-- What row `r` adds to the gradient of the mixing weights. -/
def twp (g : Fin 4) (c d : Fin 128) (r : ℕ) : EReal := I.pl r (col g c) * I.dmx r g d
/-- What row `r` adds to the gradient of the scale. -/
def tps (j : Fin 512) (r : ℕ) : EReal := I.dyb r j * I.mixed r j

end In

/-- The sum of a block of 512 rows. -/
def bsum (f : ℕ → EReal) (B : ℕ) : EReal := ∑ ρ : Fin 512, f (B + ρ.val)

/-- The sum of the rows from `B` on. -/
def tail (f : ℕ → EReal) (B : ℕ) : EReal := ∑ r ∈ Finset.Ico B 4096, f r

theorem bsum_eq_Ico (f : ℕ → EReal) (B : ℕ) : bsum f B = ∑ r ∈ Finset.Ico B (B + 512), f r := by
  rw [Finset.sum_Ico_eq_sum_range, Nat.add_sub_cancel_left, bsum, Finset.sum_range]

theorem tail_first (f : ℕ → EReal) : tail f 3584 = bsum f 3584 := by rw [bsum_eq_Ico, tail]

theorem tail_step (f : ℕ → EReal) {B : ℕ} (h : B + 512 ≤ 4096) : tail f (B + 512) + bsum f B = tail f B := by
  rw [bsum_eq_Ico, tail, tail, add_comm, Finset.sum_Ico_consecutive _ (by omega) h]

theorem tail_zero (f : ℕ → EReal) : tail f 0 = ∑ r : Fin 4096, f r.val := by
  rw [tail, Finset.sum_Ico_eq_sum_range, Finset.sum_range]
  simp only [Nat.zero_add]

/-- The doubling sum is the sum. -/
theorem wsum_eq (f : ℕ → EReal) : ∀ n r, wsum f n r = ∑ k : Fin (2 ^ n), f (r + k.val)
  | 0, r => by rw [wsum]; exact (Fin.sum_univ_one (fun k : Fin 1 => f (r + k.val))).symm
  | n + 1, r => by
    rw [wsum, wsum_eq f n, wsum_eq f n, ← Finset.sum_range (fun k => f (r + k)), ← Finset.sum_range (fun k => f (r + 2 ^ n + k)),
      ← Finset.sum_range (fun k => f (r + k)), pow_succ, Nat.mul_two, Finset.sum_range_add]
    simp only [Nat.add_assoc]

end Cert.Even
-- ==== Proof.Pay1.lean ====
/-
  What the kernel's payloads hold at an index, when what they read holds the rows of the block that
  starts at row `B`: the products, the gated convolution's part and its three accumulators.
-/
module

public import proofs.«01_k».proof.Proof.Gen.KernelIdeal.Skeleton
public import proofs.«01_k».proof.Proof.Spec
public import Idealize.ShloMosaic.Lib.Pointwise

@[expose] public section

set_option maxRecDepth 16384

noncomputable section

open Idealize.ShloMosaic Idealize.ShloMosaic.TcCoe

namespace Cert.Even

open Cert.KernelIdeal Cert.KernelIdeal.Gen

variable (I : In) (B : ℕ)

/-- A block's window of a row array: row `ρ` holds the array's row `B + ρ`. -/
abbrev Rows {a n : ℕ} {φ : FTy} (A : FVec Ideal ⟨2, ![a, n]⟩ φ) (f : ℕ → Fin n → EReal) (B : ℕ) : Prop :=
  ∀ (ρ : Fin a) (j : Fin n), A (ix2 ρ j) = f (B + ρ.val) j

variable {I B}
variable {x0 : FVec Ideal S512x1024 .bf16} {x2 : FVec Ideal S1024x1024 .bf16} {x3 : FVec Ideal S512x2048 .bf16} {x4 : FVec Ideal S512x512 .bf16}

theorem p7 (h0 : Rows x0 I.dh B) (h2 : ∀ (i k : Fin 1024), x2 (ix2 i k) = I.wo i k) : Rows (k0_pay7 x0 x2) I.dmix B := by
  intro ρ j
  unfold k0_pay7
  pointwise
  simp only [h0, h2]
  rfl

theorem p8 (h0 : Rows x0 I.dh B) (h2 : ∀ (i k : Fin 1024), x2 (ix2 i k) = I.wo i k) : Rows (k0_pay8 x0 x2) I.dya B := by
  intro ρ j
  unfold k0_pay8
  pointwise
  rw [p7 h0 h2]
  unfold In.dya
  congr 1
  apply Fin.ext; simp [at_]

theorem p9 (h0 : Rows x0 I.dh B) (h2 : ∀ (i k : Fin 1024), x2 (ix2 i k) = I.wo i k) : Rows (k0_pay9 x0 x2) I.dyb B := by
  intro ρ j
  unfold k0_pay9
  pointwise
  rw [p7 h0 h2]
  unfold In.dyb
  congr 1

theorem p11 (h3 : Rows x3 I.P B) : Rows (k0_pay11 (F := Ideal) x3) I.ac B := by
  intro ρ j
  unfold k0_pay11 k0_pay10
  pointwise
  rw [h3]
  unfold In.ac
  congr 1

theorem p12 (h3 : Rows x3 I.P B) : Rows (k0_pay12 (F := Ideal) x3) I.av B := by
  intro ρ j
  unfold k0_pay12 k0_pay10
  pointwise
  rw [h3]
  unfold In.av
  congr 1

theorem p13 (h0 : Rows x0 I.dh B) (h2 : ∀ (i k : Fin 1024), x2 (ix2 i k) = I.wo i k) (h4 : Rows x4 I.cq B) : Rows (k0_pay13 x0 x2 x4) I.dab B := by
  intro ρ j
  unfold k0_pay13
  pointwise
  rw [p8 h0 h2, h4]
  rfl

theorem p14 (h0 : Rows x0 I.dh B) (h2 : ∀ (i k : Fin 1024), x2 (ix2 i k) = I.wo i k) (h3 : Rows x3 I.P B) : Rows (k0_pay14 x0 x2 x3) I.dcq B := by
  intro ρ j
  unfold k0_pay14 k0_pay10
  pointwise
  rw [p8 h0 h2, h3]
  unfold In.dcq In.ab
  congr 2
  apply Fin.ext; simp [at_]

theorem p15 (h0 : Rows x0 I.dh B) (h2 : ∀ (i k : Fin 1024), x2 (ix2 i k) = I.wo i k) (h3 : Rows x3 I.P B) : Rows (k0_pay15 x0 x2 x3) I.dcq B := by
  intro ρ j
  unfold k0_pay15
  pointwise
  exact p14 h0 h2 h3 ρ j

theorem p18 (h3 : Rows x3 I.P B) : Rows (k0_pay18 (F := Ideal) x3) I.q B := by
  intro ρ j
  unfold k0_pay18
  pointwise
  rw [p11 h3, p12 h3]
  rfl

section Conv

variable {cx : FVec Ideal S528x512 .f32} {v10 : FVec Ideal S512x2048 .bf16} {d c s1 s2 : FVec Ideal S512x512 .f32} {w2 w1 w0 : FVec Ideal S1x512 .f32}

theorem p16 (hc : Rows cx I.dcq B) : Rows (k0_pay16 (F := Ideal) cx) (fun r => I.dcq (r + 1)) B := by
  intro ρ j
  unfold k0_pay16
  pointwise
  rw [hc]
  dsimp only
  congr 1
  omega

theorem p17 (hc : Rows cx I.dcq B) : Rows (k0_pay17 (F := Ideal) cx) (fun r => I.dcq (r + 2)) B := by
  intro ρ j
  unfold k0_pay17
  pointwise
  rw [hc]
  dsimp only
  congr 1
  omega

theorem p25 (hd : Rows d I.dcq B) (h1 : Rows s1 (fun r => I.dcq (r + 1)) B) (h2 : Rows s2 (fun r => I.dcq (r + 2)) B)
    (k2 : ∀ j : Fin 512, w2 (ix2 0 j) = I.ca 2 j) (k1 : ∀ j : Fin 512, w1 (ix2 0 j) = I.ca 1 j) (k0 : ∀ j : Fin 512, w0 (ix2 0 j) = I.ca 0 j) :
    Rows (k0_pay25 (F := Ideal) d s1 s2 w2 w1 w0) I.dq B := by
  intro ρ j
  unfold k0_pay25
  pointwise
  rw [hd, h1, h2, k2, k1, k0]
  rfl

theorem p26 (ha : Rows c I.av B) (hd : Rows d I.dcq B) (h1 : Rows s1 (fun r => I.dcq (r + 1)) B) (h2 : Rows s2 (fun r => I.dcq (r + 2)) B)
    (k2 : ∀ j : Fin 512, w2 (ix2 0 j) = I.ca 2 j) (k1 : ∀ j : Fin 512, w1 (ix2 0 j) = I.ca 1 j) (k0 : ∀ j : Fin 512, w0 (ix2 0 j) = I.ca 0 j) :
    Rows (k0_pay26 (F := Ideal) c d s1 s2 w2 w1 w0) I.dac B := by
  intro ρ j
  unfold k0_pay26
  pointwise
  rw [ha, p25 hd h1 h2 k2 k1 k0]
  rfl

theorem p27 (ha : Rows c I.ac B) (hd : Rows d I.dcq B) (h1 : Rows s1 (fun r => I.dcq (r + 1)) B) (h2 : Rows s2 (fun r => I.dcq (r + 2)) B)
    (k2 : ∀ j : Fin 512, w2 (ix2 0 j) = I.ca 2 j) (k1 : ∀ j : Fin 512, w1 (ix2 0 j) = I.ca 1 j) (k0 : ∀ j : Fin 512, w0 (ix2 0 j) = I.ca 0 j) :
    Rows (k0_pay27 (F := Ideal) c d s1 s2 w2 w1 w0) I.dav B := by
  intro ρ j
  unfold k0_pay27
  pointwise
  rw [ha, p25 hd h1 h2 k2 k1 k0]
  rfl

theorem p19 (h3 : Rows v10 I.P B) (hc : Rows cx I.dcq B) (j : Fin 512) : k0_pay19 (F := Ideal) v10 cx (ix2 0 j) = bsum (I.tca 0 j) B := by
  unfold k0_pay19
  pointwise
  simp only [p17 hc _ _, p18 h3 _ _]
  rfl

theorem p21 (h1 : Rows s1 (fun r => I.dcq (r + 1)) B) (hq : Rows c I.q B) (j : Fin 512) : k0_pay21 (F := Ideal) s1 c (ix2 0 j) = bsum (I.tca 1 j) B := by
  unfold k0_pay21
  pointwise
  simp only [h1 _ _, hq _ _]
  rfl

theorem p23 (hd : Rows d I.dcq B) (hq : Rows c I.q B) (j : Fin 512) : k0_pay23 (F := Ideal) d c (ix2 0 j) = bsum (I.tca 2 j) B := by
  unfold k0_pay23
  pointwise
  simp only [hd _ _, hq _ _]
  rfl

theorem p20 (a b : FVec Ideal S1x512 .f32) (j : Fin 512) : k0_pay20 (F := Ideal) a b (ix2 0 j) = b (ix2 0 j) + a (ix2 0 j) := by
  unfold k0_pay20
  pointwise

theorem p22 (b : FVec Ideal S1x512 .f32) (j : Fin 512) : k0_pay22 (F := Ideal) s1 c b (ix2 0 j) = b (ix2 0 j) + k0_pay21 (F := Ideal) s1 c (ix2 0 j) := by
  unfold k0_pay22
  pointwise

theorem p24 (b : FVec Ideal S1x512 .f32) (j : Fin 512) : k0_pay24 (F := Ideal) d c b (ix2 0 j) = b (ix2 0 j) + k0_pay23 (F := Ideal) d c (ix2 0 j) := by
  unfold k0_pay24
  pointwise

end Conv

end Cert.Even
-- ==== Proof.Pay2.lean ====
/-
  What the kernel's payloads hold at an index: the pooling path's groups, their counts and window sums,
  the joined gradient of the projection and the norm's backward pass.
-/
module

public import proofs.«01_k».proof.Proof.Pay1

@[expose] public section

set_option maxRecDepth 16384

noncomputable section

open Idealize.ShloMosaic Idealize.ShloMosaic.TcCoe

namespace Cert.Even

open Cert.KernelIdeal Cert.KernelIdeal.Gen

variable {I : In} {B : ℕ}

/-- A window of one group's columns of a row array. -/
abbrev GRows {a : ℕ} {φ : FTy} (A : FVec Ideal ⟨2, ![a, 128]⟩ φ) (f : ℕ → Fin 512 → EReal) (g : Fin 4) (B : ℕ) : Prop :=
  ∀ (ρ : Fin a) (c : Fin 128), A (ix2 ρ c) = f (B + ρ.val) (col g c)

/-- The scale's columns of group `g`. -/
abbrev Sc (I : In) (s : FVec Ideal S1x128 .f32) (g : Fin 4) : Prop := ∀ c : Fin 128, s (ix2 0 c) = I.ps (col g c)

/-- The mixing weights of group `g`. -/
abbrev Wt (I : In) (w : FVec Ideal S1x128x128 .bf16) (g : Fin 4) : Prop := ∀ c d : Fin 128, w (ix3 0 c d) = I.wp g c d

/-- The transposed mixing weights of group `g`. -/
abbrev WtT (I : In) (w : FVec Ideal S1x128x128 .bf16) (g : Fin 4) : Prop := ∀ c d : Fin 128, w (ix3 0 d c) = I.wp g c d

theorem dpl_col (r : ℕ) (g : Fin 4) (c : Fin 128) : I.dpl r (col g c) = ∑ d, I.dmx r g d * I.wp g c d := by
  unfold In.dpl
  rw [grp_col, pos_col]

theorem e_col (r : ℕ) (g : Fin 4) (c : Fin 128) : I.e r (col g c) = Ideal.div (I.dpl r (col g c)) (cnt r g) := by
  unfold In.e
  rw [grp_col]

theorem mixed_col (r : ℕ) (g : Fin 4) (d : Fin 128) : I.mixed r (col g d) = ∑ c, I.pl r (col g c) * I.wp g c d := by
  unfold In.mixed
  rw [grp_col, pos_col]

/-- The position of row `ρ` of the block at grid point `t`, as the kernel's word arithmetic has it. -/
theorem count_word {t : ℕ} (ht : t < 8) {B : ℕ} (hB : B = (7 - t) * 512) (ρ : Fin 512) :
    (((7#32 - BitVec.ofNat 32 t) * 512#32 + BitVec.ofNat 32 ρ.val) + 1#32).toInt = ((B + ρ.val + 1 : ℕ) : ℤ) := by
  subst hB
  obtain ⟨r, hr⟩ := ρ
  have e7 : (7#32 - BitVec.ofNat 32 t) = BitVec.ofNat 32 (7 - t) := by
    interval_cases t <;> rfl
  rw [e7, show (512#32) = BitVec.ofNat 32 512 from rfl, show (1#32) = BitVec.ofNat 32 1 from rfl, ← BitVec.ofNat_mul, ← BitVec.ofNat_add, ← BitVec.ofNat_add]
  rw [BitVec.toInt_eq_toNat_of_lt]
  · rw [BitVec.toNat_ofNat, Nat.mod_eq_of_lt]
    omega
  · rw [BitVec.toNat_ofNat, Nat.mod_eq_of_lt] <;> omega

section Groups

variable {yb : FVec Ideal S512x512 .f32} {s : FVec Ideal S1x128 .f32} {w w' : FVec Ideal S1x128x128 .bf16} {b : FVec Ideal S512x128 .bf16}

theorem p31 (hy : Rows yb I.dyb B) (hs : Sc I s 0) (ρ : Fin 512) (c : Fin 128) : k0_pay31 yb s (ix2 ρ c) = I.dmx (B + ρ.val) 0 c := by
  unfold k0_pay31
  pointwise
  rw [hy, hs]
  unfold In.dmx
  congr 2
  apply Fin.ext; simp [col]

theorem p39 (hy : Rows yb I.dyb B) (hs : Sc I s 1) (ρ : Fin 512) (c : Fin 128) : k0_pay39 yb s (ix2 ρ c) = I.dmx (B + ρ.val) 1 c := by
  unfold k0_pay39
  pointwise
  rw [hy, hs]
  unfold In.dmx
  congr 2

theorem p48 (hy : Rows yb I.dyb B) (hs : Sc I s 2) (ρ : Fin 512) (c : Fin 128) : k0_pay48 yb s (ix2 ρ c) = I.dmx (B + ρ.val) 2 c := by
  unfold k0_pay48
  pointwise
  rw [hy, hs]
  unfold In.dmx
  congr 2

theorem p58 (hy : Rows yb I.dyb B) (hs : Sc I s 3) (ρ : Fin 512) (c : Fin 128) : k0_pay58 yb s (ix2 ρ c) = I.dmx (B + ρ.val) 3 c := by
  unfold k0_pay58
  pointwise
  rw [hy, hs]
  unfold In.dmx
  congr 2

theorem p35 (hy : Rows yb I.dyb B) (hs : Sc I s 0) (hw : WtT I w 0) : GRows (k0_pay35 yb s w) I.dpl 0 B := by
  intro ρ c
  unfold k0_pay35
  pointwise
  simp only [p31 hy hs, hw c _, dpl_col]

theorem p43 (hy : Rows yb I.dyb B) (hs : Sc I s 1) (hw : WtT I w 1) : GRows (k0_pay43 yb s w) I.dpl 1 B := by
  intro ρ c
  unfold k0_pay43
  pointwise
  simp only [p39 hy hs, hw c _, dpl_col]

theorem p52 (hy : Rows yb I.dyb B) (hs : Sc I s 2) (hw : WtT I w 2) : GRows (k0_pay52 yb s w) I.dpl 2 B := by
  intro ρ c
  unfold k0_pay52
  pointwise
  simp only [p48 hy hs, hw c _, dpl_col]

theorem p62 (hy : Rows yb I.dyb B) (hs : Sc I s 3) (hw : WtT I w 3) : GRows (k0_pay62 yb s w) I.dpl 3 B := by
  intro ρ c
  unfold k0_pay62
  pointwise
  simp only [p58 hy hs, hw c _, dpl_col]

/-- The count at a row, from the kernel's position word. -/
theorem cnt_of_word {t : ℕ} (ht : t < 8) (hB : B = (7 - t) * 512) (ρ : Fin 512) :
    (FloatOps.sitofp (F := Ideal) .f32 (((7#32 - BitVec.ofNat 32 t) * 512#32 + BitVec.ofNat 32 ρ.val) + 1#32) : EReal) = ((B + ρ.val + 1 : ℕ) : EReal) := by
  have h := count_word ht hB ρ
  show (((BitVec.toInt _ : ℤ) : ℝ) : EReal) = _
  rw [h]
  simp

theorem cnt_eq {t : ℕ} (ht : t < 8) (hB : B = (7 - t) * 512) (ρ : Fin 512) (g : Fin 4) (L : EReal) (hL : L = wlit g) :
    min (FloatOps.sitofp (F := Ideal) .f32
      (IntOp.addi (IntOp.addi (Scalar.muli (Scalar.subi (7#32) (BitVec.ofNat 32 t)) 512#32) (BitVec.ofNat 32 ρ.val)) 1#32) : EReal) L
      = cnt (B + ρ.val) g := by
  unfold cnt
  rw [hL]
  congr 1
  exact cnt_of_word ht hB ρ

theorem p36 {t : ℕ} (ht : t < 8) (hB : B = (7 - t) * 512) (hy : Rows yb I.dyb B) (hs : Sc I s 0) (hw : WtT I w 0) :
    GRows (k0_pay36 (BitVec.ofNat 32 t) yb s w) I.e 0 B := by
  intro ρ c
  unfold k0_pay36
  pointwise
  rw [p35 hy hs hw, e_col]
  exact congrArg (Ideal.div _) (cnt_eq ht hB ρ 0 _ rfl)

theorem p44 {t : ℕ} (ht : t < 8) (hB : B = (7 - t) * 512) (hy : Rows yb I.dyb B) (hs : Sc I s 1) (hw : WtT I w 1) :
    GRows (k0_pay45 (k0_pay44 (BitVec.ofNat 32 t) yb s w)) I.e 1 B := by
  intro ρ c
  unfold k0_pay45 k0_pay44
  pointwise
  rw [p43 hy hs hw, e_col]
  exact congrArg (Ideal.div _) (cnt_eq ht hB ρ 1 _ rfl)

theorem p55 {t : ℕ} (ht : t < 8) (hB : B = (7 - t) * 512) (hy : Rows yb I.dyb B) (hs : Sc I s 2) (hw : WtT I w 2) :
    GRows (k0_pay55 (k0_pay52 yb s w) (k0_pay53 (BitVec.ofNat 32 t)) k0_pay54) I.e 2 B := by
  intro ρ c
  unfold k0_pay55 k0_pay53 k0_pay54
  pointwise
  rw [p52 hy hs hw, e_col]
  exact congrArg (Ideal.div _) (cnt_eq ht hB ρ 2 _ rfl)

theorem p64 {t : ℕ} (ht : t < 8) (hB : B = (7 - t) * 512) (hy : Rows yb I.dyb B) (hs : Sc I s 3) (hw : WtT I w 3) :
    GRows (k0_pay64 (k0_pay62 yb s w) (k0_pay63 (BitVec.ofNat 32 t))) I.e 3 B := by
  intro ρ c
  unfold k0_pay64 k0_pay63
  pointwise
  rw [p62 hy hs hw, e_col]
  exact congrArg (Ideal.div _) (cnt_eq ht hB ρ 3 _ rfl)

/-- A payload of the scale's gradient: the rows of one group summed. -/
abbrev Sums (A : FVec Ideal S1x128 .f32) (f : Fin 512 → ℕ → EReal) (g : Fin 4) (B : ℕ) : Prop :=
  ∀ c : Fin 128, A (ix2 0 c) = bsum (f (col g c)) B

theorem p30 (hy : Rows yb I.dyb B) (hb : GRows b I.pl 0 B) (hw : Wt I w 0) :
    Sums (k0_pay30 yb (k0_pay28 b) (k0_pay29 w)) I.tps 0 B := by
  intro d
  unfold k0_pay30 k0_pay28 k0_pay29
  pointwise
  unfold bsum In.tps
  simp only [hy _ _, hb _ _, hw _ _, mixed_col]
  refine Finset.sum_congr rfl fun ρ _ => ?_
  congr 2
  apply Fin.ext; simp [col]

theorem p38 (hy : Rows yb I.dyb B) (hb : GRows b I.pl 1 B) (hw : Wt I w 1) : Sums (k0_pay38 yb b w) I.tps 1 B := by
  intro d
  unfold k0_pay38 k0_pay37
  pointwise
  unfold bsum In.tps
  simp only [hy _ _, hb _ _, hw _ _, mixed_col]
  rfl

theorem p47 (hy : Rows yb I.dyb B) (hb : GRows b I.pl 2 B) (hw : Wt I w 2) : Sums (k0_pay47 yb b w) I.tps 2 B := by
  intro d
  unfold k0_pay47 k0_pay46
  pointwise
  unfold bsum In.tps
  simp only [hy _ _, hb _ _, hw _ _, mixed_col]
  rfl

theorem p57 (hy : Rows yb I.dyb B) (hb : GRows b I.pl 3 B) (hw : Wt I w 3) : Sums (k0_pay57 yb b w) I.tps 3 B := by
  intro d
  unfold k0_pay57 k0_pay56
  pointwise
  unfold bsum In.tps
  simp only [hy _ _, hb _ _, hw _ _, mixed_col]
  rfl

theorem p65 {a0 a1 a2 a3 : FVec Ideal S1x128 .f32} {f : Fin 512 → ℕ → EReal}
    (h0 : Sums a0 f 0 B) (h1 : Sums a1 f 1 B) (h2 : Sums a2 f 2 B) (h3 : Sums a3 f 3 B) (j : Fin 512) :
    k0_pay65 (F := Ideal) a0 a1 a2 a3 (ix2 0 j) = bsum (f j) B := by
  unfold k0_pay65
  pointwise
  by_cases c0 : j.val < 128
  · refine (dif_pos c0).trans ((h0 _).trans (congrArg (fun k => bsum (f k) B) ?_))
    apply Fin.ext; simp [col]
  refine (dif_neg c0).trans ?_
  by_cases c1 : j.val - 128 < 128
  · refine (dif_pos c1).trans ((h1 _).trans (congrArg (fun k => bsum (f k) B) ?_))
    apply Fin.ext; simp [col]; omega
  refine (dif_neg c1).trans ?_
  by_cases c2 : j.val - 128 - 128 < 128
  · refine (dif_pos c2).trans ((h2 _).trans (congrArg (fun k => bsum (f k) B) ?_))
    apply Fin.ext; simp [col]; omega
  refine (dif_neg c2).trans ?_
  refine (h3 _).trans (congrArg (fun k => bsum (f k) B) ?_)
  apply Fin.ext; simp [col]; omega

theorem p66 (a0 a1 a2 a3 : FVec Ideal S1x128 .f32) (z : FVec Ideal S1x512 .f32) (j : Fin 512) :
    k0_pay66 (F := Ideal) a0 a1 a2 a3 z (ix2 0 j) = z (ix2 0 j) + k0_pay65 (F := Ideal) a0 a1 a2 a3 (ix2 0 j) := by
  unfold k0_pay66
  pointwise

theorem p32 (hy : Rows yb I.dyb B) (hs : Sc I s 0) (hb : GRows b I.pl 0 B) (c d : Fin 128) :
    k0_pay32 yb (k0_pay28 b) s (ix2 c d) = bsum (I.twp 0 c d) B := by
  unfold k0_pay32 k0_pay28
  pointwise
  simp only [hb _ _, p31 hy hs]
  rfl

theorem p40 (hy : Rows yb I.dyb B) (hs : Sc I s 1) (hb : GRows b I.pl 1 B) (c d : Fin 128) :
    k0_pay40 yb b s (ix2 c d) = bsum (I.twp 1 c d) B := by
  unfold k0_pay40 k0_pay37
  pointwise
  simp only [hb _ _, p39 hy hs]
  rfl

theorem p49 (hy : Rows yb I.dyb B) (hs : Sc I s 2) (hb : GRows b I.pl 2 B) (c d : Fin 128) :
    k0_pay49 yb b s (ix2 c d) = bsum (I.twp 2 c d) B := by
  unfold k0_pay49 k0_pay46
  pointwise
  simp only [hb _ _, p48 hy hs]
  rfl

theorem p59 (hy : Rows yb I.dyb B) (hs : Sc I s 3) (hb : GRows b I.pl 3 B) (c d : Fin 128) :
    k0_pay59 yb b s (ix2 c d) = bsum (I.twp 3 c d) B := by
  unfold k0_pay59 k0_pay56
  pointwise
  simp only [hb _ _, p58 hy hs]
  rfl

theorem p33 (hy : Rows yb I.dyb B) (hs : Sc I s 0) (hb : GRows b I.pl 0 B) (c d : Fin 128) :
    k0_pay33 yb (k0_pay28 b) s (ix3 0 c d) = bsum (I.twp 0 c d) B := by
  unfold k0_pay33; pointwise; exact p32 hy hs hb c d

theorem p41 (hy : Rows yb I.dyb B) (hs : Sc I s 1) (hb : GRows b I.pl 1 B) (c d : Fin 128) :
    k0_pay41 yb b s (ix3 0 c d) = bsum (I.twp 1 c d) B := by
  unfold k0_pay41; pointwise; exact p40 hy hs hb c d

theorem p50 (hy : Rows yb I.dyb B) (hs : Sc I s 2) (hb : GRows b I.pl 2 B) (c d : Fin 128) :
    k0_pay50 yb b s (ix3 0 c d) = bsum (I.twp 2 c d) B := by
  unfold k0_pay50; pointwise; exact p49 hy hs hb c d

theorem p60 (hy : Rows yb I.dyb B) (hs : Sc I s 3) (hb : GRows b I.pl 3 B) (c d : Fin 128) :
    k0_pay60 yb b s (ix3 0 c d) = bsum (I.twp 3 c d) B := by
  unfold k0_pay60; pointwise; exact p59 hy hs hb c d

theorem p34 (hy : Rows yb I.dyb B) (hs : Sc I s 0) (hb : GRows b I.pl 0 B) (z : FVec Ideal S1x128x128 .f32) (c d : Fin 128) :
    k0_pay34 yb (k0_pay28 b) s z (ix3 0 c d) = z (ix3 0 c d) + bsum (I.twp 0 c d) B := by
  unfold k0_pay34; pointwise; rw [p32 hy hs hb]

theorem p42 (hy : Rows yb I.dyb B) (hs : Sc I s 1) (hb : GRows b I.pl 1 B) (z : FVec Ideal S1x128x128 .f32) (c d : Fin 128) :
    k0_pay42 yb b s z (ix3 0 c d) = z (ix3 0 c d) + bsum (I.twp 1 c d) B := by
  unfold k0_pay42; pointwise; rw [p40 hy hs hb]

theorem p51 (hy : Rows yb I.dyb B) (hs : Sc I s 2) (hb : GRows b I.pl 2 B) (z : FVec Ideal S1x128x128 .f32) (c d : Fin 128) :
    k0_pay51 yb b s z (ix3 0 c d) = z (ix3 0 c d) + bsum (I.twp 2 c d) B := by
  unfold k0_pay51; pointwise; rw [p49 hy hs hb]

theorem p61 (hy : Rows yb I.dyb B) (hs : Sc I s 3) (hb : GRows b I.pl 3 B) (z : FVec Ideal S1x128x128 .f32) (c d : Fin 128) :
    k0_pay61 yb b s z (ix3 0 c d) = z (ix3 0 c d) + bsum (I.twp 3 c d) B := by
  unfold k0_pay61; pointwise; rw [p59 hy hs hb]

end Groups

section Windows

/-- One doubling: the array added to itself rolled up by `528 - s` rows. -/
def rotAdd (s : BitVec 32) (x : FVec Ideal S528x128 .f32) : FVec Ideal S528x128 .f32 :=
  addf x (dynamicRotate 0 s none x rotates_S528x128_d0)

/-- The doubling sums of `n` steps, on the rows that no rolled-in row has reached. -/
abbrev WSum (I : In) (x : FVec Ideal S528x128 .f32) (g : Fin 4) (n : ℕ) (B : ℕ) : Prop :=
  ∀ (i : Fin 528) (c : Fin 128), i.val + 2 ^ n ≤ 528 → x (ix2 i c) = wsum (fun r => I.e r (col g c)) n (B + i.val)

theorem rot_step {x : FVec Ideal S528x128 .f32} {g : Fin 4} {n : ℕ} (hx : WSum I x g n B) {s : BitVec 32}
    (hs : ∀ (i : Fin 528) (h : i.val + 2 ^ n < 528) (c : Fin 128), rotAdd s x (ix2 i c) = x (ix2 i c) + x (ix2 ⟨i.val + 2 ^ n, h⟩ c)) :
    WSum I (rotAdd s x) g (n + 1) B := by
  intro i c hi
  have h2 : (2 : ℕ) ^ (n + 1) = 2 ^ n + 2 ^ n := by rw [pow_succ, Nat.mul_two]
  have hp : 0 < (2 : ℕ) ^ n := by positivity
  rw [hs i (by omega) c, hx i c (by omega), hx ⟨i.val + 2 ^ n, by omega⟩ c (by simp only; omega), wsum]
  congr 2
  simp only
  omega

theorem rot1 {x : FVec Ideal S528x128 .f32} {g : Fin 4} (hx : WSum I x g 0 B) : WSum I (rotAdd 527#32 x) g 1 B := by
  refine rot_step hx fun i h c => ?_
  unfold rotAdd
  pointwise
  congr 3
  apply Fin.ext; simp only; omega

theorem rot2 {x : FVec Ideal S528x128 .f32} {g : Fin 4} (hx : WSum I x g 1 B) : WSum I (rotAdd 526#32 x) g 2 B := by
  refine rot_step hx fun i h c => ?_
  unfold rotAdd
  pointwise
  congr 3
  apply Fin.ext; simp only; omega

theorem rot4 {x : FVec Ideal S528x128 .f32} {g : Fin 4} (hx : WSum I x g 2 B) : WSum I (rotAdd 524#32 x) g 3 B := by
  refine rot_step hx fun i h c => ?_
  unfold rotAdd
  pointwise
  congr 3
  apply Fin.ext; simp only; omega

theorem rot8 {x : FVec Ideal S528x128 .f32} {g : Fin 4} (hx : WSum I x g 3 B) : WSum I (rotAdd 520#32 x) g 4 B := by
  refine rot_step hx fun i h c => ?_
  unfold rotAdd
  pointwise
  congr 3
  apply Fin.ext; simp only; omega

/-- The columns of one group of the extended array. -/
theorem wsum0_of (ex : FVec Ideal S528x512 .f32) (he : Rows ex I.e B) (x : FVec Ideal S528x128 .f32) (g : Fin 4)
    (hx : ∀ (i : Fin 528) (c : Fin 128), x (ix2 i c) = ex (ix2 i (col g c))) : WSum I x g 0 B := by
  intro i c _
  rw [hx, he, wsum]

theorem dz_col (r : ℕ) (g : Fin 4) (c : Fin 128) :
    I.dz r (col g c) = wsum (fun r => I.e r (col g c)) (g.val + 1) r - I.dpl r (col g c) := by
  unfold In.dz
  rw [grp_col]

variable {ex : FVec Ideal S528x512 .f32} {dp : FVec Ideal S512x128 .f32}

theorem sub_rows (w : FVec Ideal S528x128 .f32) (g : Fin 4) (hw : WSum I w g (g.val + 1) B) (hd : GRows dp I.dpl g B) :
    GRows (subf (extractStridedSlice S512x128 ![0, 0] w slices_S528x128_o0_0_S512x128) dp) I.dz g B := by
  intro ρ c
  have hp : (2 : ℕ) ^ (g.val + 1) ≤ 2 ^ 4 := Nat.pow_le_pow_right (by omega) (by omega)
  pointwise
  rw [hd, dz_col]
  congr 1
  exact hw ⟨ρ.val, by omega⟩ c (by simp only; omega)

theorem p67 (he : Rows ex I.e B) (hd : GRows dp I.dpl 0 B) : GRows (k0_pay67 dp ex) I.dz 0 B :=
  sub_rows _ 0 (rot1 (wsum0_of ex he (extractStridedSlice S528x128 ![0, 0] ex slices_S528x512_o0_0_S528x128) 0
    (by intro i c; pointwise; congr 2; apply Fin.ext; simp [col]))) hd

theorem p68 (he : Rows ex I.e B) (hd : GRows dp I.dpl 1 B) : GRows (k0_pay68 dp ex) I.dz 1 B :=
  sub_rows _ 1 (rot2 (rot1 (wsum0_of ex he (extractStridedSlice S528x128 ![0, 128] ex slices_S528x512_o0_128_S528x128) 1
    (by intro i c; pointwise; congr 2)))) hd

theorem p69 (he : Rows ex I.e B) (hd : GRows dp I.dpl 2 B) : GRows (k0_pay69 dp ex) I.dz 2 B :=
  sub_rows _ 2 (rot4 (rot2 (rot1 (wsum0_of ex he (extractStridedSlice S528x128 ![0, 256] ex slices_S528x512_o0_256_S528x128) 2
    (by intro i c; pointwise; congr 2))))) hd

theorem p70 (he : Rows ex I.e B) : WSum I (k0_pay70 ex) 3 1 B :=
  rot1 (wsum0_of ex he (extractStridedSlice S528x128 ![0, 384] ex slices_S528x512_o0_384_S528x128) 3
    (by intro i c; pointwise; congr 2))

/-- The last group's window sum, less its own gradient. -/
def last (w : FVec Ideal S528x128 .f32) (dp : FVec Ideal S512x128 .f32) : FVec Ideal S512x128 .f32 :=
  subf (extractStridedSlice S512x128 ![0, 0] (rotAdd 520#32 (rotAdd 524#32 (rotAdd 526#32 w))) slices_S528x128_o0_0_S512x128) dp

theorem last_rows {w : FVec Ideal S528x128 .f32} (hw : WSum I w 3 1 B) (hd : GRows dp I.dpl 3 B) : GRows (last w dp) I.dz 3 B :=
  sub_rows _ 3 (rot8 (rot4 (rot2 hw))) hd

variable {a b c : FVec Ideal S512x512 .f32} {z0 z1 z2 : FVec Ideal S512x128 .f32} {w : FVec Ideal S528x128 .f32}

theorem p71_eq : k0_pay71 a b c dp z0 z1 z2 w = truncf .bf16 (concatenate S512x2048 1 [⟨S512x512, a⟩, ⟨S512x512, b⟩, ⟨S512x512, c⟩, ⟨S512x128, z0⟩, ⟨S512x128, z1⟩, ⟨S512x128, z2⟩, ⟨S512x128, last w dp⟩]
    concatenates_S512x512_S512x512_S512x512_S512x128_S512x128_S512x128_S512x128_S512x2048_d1) bitsLt_bf16_f32 := rfl

theorem p71 (ha : Rows a I.dab B) (hb : Rows b I.dac B) (hc : Rows c I.dav B) (h0 : GRows z0 I.dz 0 B) (h1 : GRows z1 I.dz 1 B)
    (h2 : GRows z2 I.dz 2 B) (hw : WSum I w 3 1 B) (hd : GRows dp I.dpl 3 B) : Rows (k0_pay71 a b c dp z0 z1 z2 w) I.dproj B := by
  intro ρ j
  have h3 := last_rows hw hd
  rw [p71_eq]
  generalize last w dp = z3 at h3
  pointwise
  unfold In.dproj
  by_cases c0 : j.val < 512
  · refine (dif_pos c0).trans ?_
    rw [dif_pos c0]
    exact ha _ _
  refine (dif_neg c0).trans ?_
  rw [dif_neg c0]
  by_cases c1 : j.val < 1024
  · rw [dif_pos c1]
    refine (dif_pos (by omega)).trans ?_
    exact hb _ _
  refine (dif_neg (by omega)).trans ?_
  rw [dif_neg c1]
  by_cases c2 : j.val < 1536
  · rw [dif_pos c2]
    refine (dif_pos (by omega)).trans ((hc _ _).trans (congrArg (I.dav (B + ρ.val)) ?_))
    apply Fin.ext; simp only; omega
  refine (dif_neg (by omega)).trans ?_
  rw [dif_neg c2]
  by_cases c3 : j.val < 1664
  · refine (dif_pos (by omega)).trans ((h0 _ _).trans (congrArg (I.dz (B + ρ.val)) ?_))
    apply Fin.ext; simp [col]; omega
  refine (dif_neg (by omega)).trans ?_
  by_cases c4 : j.val < 1792
  · refine (dif_pos (by omega)).trans ((h1 _ _).trans (congrArg (I.dz (B + ρ.val)) ?_))
    apply Fin.ext; simp [col]; omega
  refine (dif_neg (by omega)).trans ?_
  by_cases c5 : j.val < 1920
  · refine (dif_pos (by omega)).trans ((h2 _ _).trans (congrArg (I.dz (B + ρ.val)) ?_))
    apply Fin.ext; simp [col]; omega
  refine (dif_neg (by omega)).trans ?_
  refine (h3 _ _).trans (congrArg (I.dz (B + ρ.val)) ?_)
  apply Fin.ext; simp [col]; omega

variable {wi : FVec Ideal S1024x2048 .bf16} {x : FVec Ideal S512x1024 .f32} {gn : FVec Ideal S1x1024 .f32}

theorem p72 (hp : Rows (k0_pay71 a b c dp z0 z1 z2 w) I.dproj B) (hwi : ∀ (i : Fin 1024) (j : Fin 2048), wi (ix2 i j) = I.wi i j) :
    Rows (k0_pay72 a b c dp z0 z1 z2 w wi) I.dxn B := by
  intro ρ i
  unfold k0_pay72
  pointwise
  simp only [hp _ _, hwi]
  rfl

theorem p73 (hx : Rows x I.x B) (ρ : Fin 512) : k0_pay73 (F := Ideal) x (ix2 ρ 0) = I.rr (B + ρ.val) := by
  unfold k0_pay73
  pointwise
  simp only [hx _ _]
  rfl

theorem p74 (hx : Rows x I.x B) : Rows (k0_pay74 (F := Ideal) x) I.xh B := by
  intro ρ i
  unfold k0_pay74
  pointwise
  rw [p73 hx, hx]
  rfl

theorem p75 (hp : Rows (k0_pay71 a b c dp z0 z1 z2 w) I.dproj B) (hwi : ∀ (i : Fin 1024) (j : Fin 2048), wi (ix2 i j) = I.wi i j) (hx : Rows x I.x B)
    (i : Fin 1024) : k0_pay75 a b c dp z0 z1 z2 w wi x (ix2 0 i) = bsum (I.tg i) B := by
  unfold k0_pay75
  pointwise
  simp only [p72 hp hwi _ _, p74 hx _ _]
  rfl

theorem p76 (hp : Rows (k0_pay71 a b c dp z0 z1 z2 w) I.dproj B) (hwi : ∀ (i : Fin 1024) (j : Fin 2048), wi (ix2 i j) = I.wi i j) (hx : Rows x I.x B)
    (hg : ∀ i : Fin 1024, gn (ix2 0 i) = I.gn i) {dh : FVec Ideal S512x1024 .f32} (hh : Rows dh I.dh B) :
    Rows (k0_pay1 (F := Ideal) (k0_pay76 a b c dp z0 z1 z2 w wi x gn) dh) I.dx B := by
  intro ρ i
  unfold k0_pay1 k0_pay76
  pointwise
  simp only [p72 hp hwi _ _, p74 hx _ _, p73 hx, hg, hh _ _]
  rfl

theorem p2 (u v : FVec Ideal S1x1024 .f32) (i : Fin 1024) : k0_pay2 (F := Ideal) u v (ix2 0 i) = v (ix2 0 i) + u (ix2 0 i) := by
  unfold k0_pay2
  pointwise

end Windows

end Cert.Even
-- ==== Proof.Blk.lean ====
/-
  What the kernel's windows read: the block of grid point `t` starts at row `512 (7 - t)`, for the walk goes
  from the last rows to the first.
-/
module

public import proofs.«01_k».proof.Proof.Gen.KernelIdeal.Value
public import proofs.«01_k».proof.Proof.Pay2

@[expose] public section

set_option maxRecDepth 16384

noncomputable section

open Idealize.ShloMosaic Idealize.ShloMosaic.TcCoe Idealize.SL.Sem

namespace Cert.Even

open Cert.KernelIdeal Cert.KernelIdeal.Gen

/-- The first row of grid point `t`'s block. -/
def base (t : ℕ) : ℕ := (7 - t) * 512

theorem base_row {t : ℕ} (ρ : Fin 512) : base t + ρ.val < 4096 := by unfold base; omega

variable (m : (ℓ : Loc nD τ sig) → Buf (Elt Ideal) ℓ) (c : Dev nD) (t : Fin cfg0.N)

theorem idx_row : ∀ t : Fin grid0.N, (win0_0.index t 0 = 7 - t.val ∧ win0_0.index t 1 = 0) ∧ (win0_1.index t 0 = 7 - t.val ∧ win0_1.index t 1 = 0)
    ∧ (win0_3.index t 0 = 7 - t.val ∧ win0_3.index t 1 = 0) ∧ (win0_4.index t 0 = 7 - t.val ∧ win0_4.index t 1 = 0)
    ∧ (win0_5.index t 0 = 7 - t.val ∧ win0_5.index t 1 = 0) ∧ (win0_11.index t 0 = 7 - t.val ∧ win0_11.index t 1 = 0)
    ∧ (win0_13.index t 0 = 7 - t.val ∧ win0_13.index t 1 = 0) ∧ (win0_14.index t 0 = 7 - t.val ∧ win0_14.index t 1 = 0) := by
  decide +kernel

theorem idx_whole : ∀ t : Fin grid0.N, (win0_2.index t 0 = 0 ∧ win0_2.index t 1 = 0) ∧ (win0_6.index t 0 = 0 ∧ win0_6.index t 1 = 0)
    ∧ (win0_7.index t 0 = 0 ∧ win0_7.index t 1 = 0 ∧ win0_7.index t 2 = 0) ∧ (win0_8.index t 0 = 0 ∧ win0_8.index t 1 = 0 ∧ win0_8.index t 2 = 0)
    ∧ (win0_9.index t 0 = 0 ∧ win0_9.index t 1 = 0) ∧ (win0_10.index t 0 = 0 ∧ win0_10.index t 1 = 0)
    ∧ (win0_12.index t 0 = 0 ∧ win0_12.index t 1 = 0) := by
  decide +kernel

/-- The row of the whole array that row `ρ` of the block is. -/
def rowAt (t : ℕ) (ρ : Fin 512) : Fin 4096 := ⟨base t + ρ.val, base_row ρ⟩

/-- Two reads of one array agree where the places agree, axis by axis. -/
theorem rd2 {n k : ℕ} {α : Type} (A : (⟨2, ![n, k]⟩ : Shape).Idx → α) (p : (⟨2, ![n, k]⟩ : Shape).Idx) (i : Fin n) (j : Fin k)
    (h0 : (p 0).val = i.val) (h1 : (p 1).val = j.val) : A p = A (ix2 i j) := by
  congr 1
  funext a
  apply Fin.ext
  match a with
  | ⟨0, _⟩ => exact h0
  | ⟨1, _⟩ => exact h1

theorem rd3 {n k l : ℕ} {α : Type} (A : (⟨3, ![n, k, l]⟩ : Shape).Idx → α) (p : (⟨3, ![n, k, l]⟩ : Shape).Idx) (i : Fin n) (j : Fin k) (z : Fin l)
    (h0 : (p 0).val = i.val) (h1 : (p 1).val = j.val) (h2 : (p 2).val = z.val) : A p = A (ix3 i j z) := by
  congr 1
  funext a
  apply Fin.ext
  match a with
  | ⟨0, _⟩ => exact h0
  | ⟨1, _⟩ => exact h1
  | ⟨2, _⟩ => exact h2

theorem row_off {t n x : ℕ} (h : n = 7 - t) (hx : x < 512) : n * 512 + 1 * x = base t + x := by rw [h, base]; omega

theorem zero_off {n a x : ℕ} (h : n = 0) : n * a + 1 * x = x := by rw [h]; omega

theorem iblk0 (ρ : Fin 512) (k : Fin 1024) : (iblk m c 0 t : FVec Ideal S512x1024 .bf16) (ix2 ρ k) = V m c main_v103 (ix2 (rowAt t.val ρ) k) :=
  rd2 (V m c main_v103) _ _ _ (row_off (idx_row t).1.1 ρ.isLt) (zero_off (idx_row t).1.2)

theorem iblk1 (ρ : Fin 512) (k : Fin 1024) : (iblk m c 1 t : FVec Ideal S512x1024 .f32) (ix2 ρ k) = V m c main_arg7 (ix2 (rowAt t.val ρ) k) :=
  rd2 (V m c main_arg7) _ _ _ (row_off (idx_row t).2.1.1 ρ.isLt) (zero_off (idx_row t).2.1.2)

theorem iblk3 (ρ : Fin 512) (k : Fin 2048) : (iblk m c 3 t : FVec Ideal S512x2048 .bf16) (ix2 ρ k) = V m c main_v105 (ix2 (rowAt t.val ρ) k) :=
  rd2 (V m c main_v105) _ _ _ (row_off (idx_row t).2.2.1.1 ρ.isLt) (zero_off (idx_row t).2.2.1.2)

theorem iblk4 (ρ : Fin 512) (k : Fin 512) : (iblk m c 4 t : FVec Ideal S512x512 .bf16) (ix2 ρ k) = V m c main_v106 (ix2 (rowAt t.val ρ) k) :=
  rd2 (V m c main_v106) _ _ _ (row_off (idx_row t).2.2.2.1.1 ρ.isLt) (zero_off (idx_row t).2.2.2.1.2)

theorem iblk5 (ρ : Fin 512) (k : Fin 512) : (iblk m c 5 t : FVec Ideal S512x512 .bf16) (ix2 ρ k) = V m c main_v107 (ix2 (rowAt t.val ρ) k) :=
  rd2 (V m c main_v107) _ _ _ (row_off (idx_row t).2.2.2.2.1.1 ρ.isLt) (zero_off (idx_row t).2.2.2.2.1.2)

theorem iblk11 (ρ : Fin 512) (k : Fin 1024) : (iblk m c 11 t : FVec Ideal S512x1024 .f32) (ix2 ρ k) = V m c main_arg0 (ix2 (rowAt t.val ρ) k) :=
  rd2 (V m c main_arg0) _ _ _ (row_off (idx_row t).2.2.2.2.2.1.1 ρ.isLt) (zero_off (idx_row t).2.2.2.2.2.1.2)

theorem iblk2 (i : Fin 1024) (k : Fin 1024) : (iblk m c 2 t : FVec Ideal S1024x1024 .bf16) (ix2 i k) = V m c main_v104 (ix2 i k) :=
  rd2 (V m c main_v104) _ _ _ (zero_off (idx_whole t).1.1) (zero_off (idx_whole t).1.2)

theorem iblk6 (i : Fin 3) (k : Fin 512) : (iblk m c 6 t : FVec Ideal S3x512 .f32) (ix2 i k) = V m c main_arg3 (ix2 i k) :=
  rd2 (V m c main_arg3) _ _ _ (zero_off (idx_whole t).2.1.1) (zero_off (idx_whole t).2.1.2)

theorem iblk9 (i : Fin 1) (k : Fin 512) : (iblk m c 9 t : FVec Ideal S1x512 .f32) (ix2 i k) = V m c main_arg5 (ix2 i k) :=
  rd2 (V m c main_arg5) _ _ _ (zero_off (idx_whole t).2.2.2.2.1.1) (zero_off (idx_whole t).2.2.2.2.1.2)

theorem iblk10 (i : Fin 1024) (k : Fin 2048) : (iblk m c 10 t : FVec Ideal S1024x2048 .bf16) (ix2 i k) = V m c main_v111 (ix2 i k) :=
  rd2 (V m c main_v111) _ _ _ (zero_off (idx_whole t).2.2.2.2.2.1.1) (zero_off (idx_whole t).2.2.2.2.2.1.2)

theorem iblk12 (i : Fin 1) (k : Fin 1024) : (iblk m c 12 t : FVec Ideal S1x1024 .f32) (ix2 i k) = V m c main_arg1 (ix2 i k) :=
  rd2 (V m c main_arg1) _ _ _ (zero_off (idx_whole t).2.2.2.2.2.2.1) (zero_off (idx_whole t).2.2.2.2.2.2.2)

theorem iblk7 (g : Fin 4) (i k : Fin 128) : (iblk m c 7 t : FVec Ideal S4x128x128 .bf16) (ix3 g i k) = V m c main_v108 (ix3 g i k) :=
  rd3 (V m c main_v108) _ _ _ _ (zero_off (idx_whole t).2.2.1.1) (zero_off (idx_whole t).2.2.1.2.1) (zero_off (idx_whole t).2.2.1.2.2)

theorem iblk8 (g : Fin 4) (i k : Fin 128) : (iblk m c 8 t : FVec Ideal S4x128x128 .bf16) (ix3 g i k) = V m c main_v110 (ix3 g i k) :=
  rd3 (V m c main_v110) _ _ _ _ (zero_off (idx_whole t).2.2.2.1.1) (zero_off (idx_whole t).2.2.2.1.2.1) (zero_off (idx_whole t).2.2.2.1.2.2)

/-- The arrays that the call is given hold the rows and weights of `I`. -/
structure Feeds (I : In) : Prop where
  dh : ∀ (r : Fin 4096) (k : Fin 1024), V m c main_v103 (ix2 r k) = I.dh r.val k
  dh' : ∀ (r : Fin 4096) (k : Fin 1024), V m c main_arg7 (ix2 r k) = I.dh r.val k
  wo : ∀ i k : Fin 1024, V m c main_v104 (ix2 i k) = I.wo i k
  P : ∀ (r : Fin 4096) (k : Fin 2048), V m c main_v105 (ix2 r k) = I.P r.val k
  cq : ∀ (r : Fin 4096) (k : Fin 512), V m c main_v106 (ix2 r k) = I.cq r.val k
  pl : ∀ (r : Fin 4096) (k : Fin 512), V m c main_v107 (ix2 r k) = I.pl r.val k
  ca : ∀ (i : Fin 3) (k : Fin 512), V m c main_arg3 (ix2 i k) = I.ca i k
  wp : ∀ (g : Fin 4) (i k : Fin 128), V m c main_v108 (ix3 g i k) = I.wp g i k
  wpT : ∀ (g : Fin 4) (i k : Fin 128), V m c main_v110 (ix3 g i k) = I.wp g k i
  ps : ∀ k : Fin 512, V m c main_arg5 (ix2 0 k) = I.ps k
  wi : ∀ (i : Fin 1024) (k : Fin 2048), V m c main_v111 (ix2 i k) = I.wi i k
  x : ∀ (r : Fin 4096) (k : Fin 1024), V m c main_arg0 (ix2 r k) = I.x r.val k
  gn : ∀ k : Fin 1024, V m c main_arg1 (ix2 0 k) = I.gn k
  /-- past the last row the gradient is zero -/
  zero : ∀ (r : ℕ) (k : Fin 1024), 4096 ≤ r → I.dh r k = 0

end Cert.Even
-- ==== Proof.Scr.lean ====
/-
  What the two scratch buffers hold within a grid point: the block's own rows below the first rows of the
  block after it, which the point before has left in the last 16 rows, or zeros at the first point.
-/
module

public import proofs.«01_k».proof.Proof.Blk

@[expose] public section

set_option maxRecDepth 16384

noncomputable section

open Idealize.ShloMosaic Idealize.ShloMosaic.TcCoe Idealize.SL.Sem

namespace Cert.Even

open Cert.KernelIdeal Cert.KernelIdeal.Gen

theorem zz2 : (![0, 0] : Fin 2 → ℕ) = fun _ => 0 := by funext a; fin_cases a <;> rfl

theorem zz3 : (![0, 0, 0] : Fin 3 → ℕ) = fun _ => 0 := by funext a; fin_cases a <;> rfl

section Pieces

variable {n k a b o p : ℕ} {e : EltTy} {G : (⟨2, ![n, k]⟩ : Shape).Idx → Elt Ideal e}
  (inb : ∀ x : Fin 2, (![o, p] : Fin 2 → ℕ) x + (![a, b] : Fin 2 → ℕ) x ≤ (![n, k] : Fin 2 → ℕ) x)
  {w : (⟨2, ![a, b]⟩ : Shape).Idx → Elt Ideal e}

/-- The place in the whole array of a place of the piece. -/
theorem emb2 (i : Fin a) (j : Fin b) (i' : Fin n) (j' : Fin k) (hi : i'.val = o + i.val) (hj : j'.val = p + j.val) :
    (Rect.unit (s := ⟨2, ![n, k]⟩) ![o, p] ![a, b] inb).emb (ix2 i j) = ix2 i' j' := by
  funext x
  apply Fin.ext
  rw [Rect.emb_apply]
  match x with
  | ⟨0, _⟩ => show o + 1 * i.val = i'.val; omega
  | ⟨1, _⟩ => show p + 1 * j.val = j'.val; omega

theorem mem2 (i : Fin n) (j : Fin k) (h : (o ≤ i.val ∧ i.val < o + a) ∧ (p ≤ j.val ∧ j.val < p + b)) :
    ix2 i j ∈ (Rect.unit (s := ⟨2, ![n, k]⟩) ![o, p] ![a, b] inb).set := by
  rw [Rect.mem_set_unit]
  intro x
  match x with
  | ⟨0, _⟩ => exact h.1
  | ⟨1, _⟩ => exact h.2

theorem notMem2 (i : Fin n) (j : Fin k) (h : (i.val < o ∨ o + a ≤ i.val) ∨ (j.val < p ∨ p + b ≤ j.val)) :
    ix2 i j ∉ (Rect.unit (s := ⟨2, ![n, k]⟩) ![o, p] ![a, b] inb).set := by
  rw [Rect.mem_set_unit]
  intro hh
  have h0 : o ≤ i.val ∧ i.val < o + a := hh 0
  have h1 : p ≤ j.val ∧ j.val < p + b := hh 1
  omega

/-- The last piece written is read where it lies. -/
theorem canon2 {L : List (View.Piece (Elt Ideal) ⟨2, ![n, k]⟩ e)} (i : Fin a) (j : Fin b) (i' : Fin n) (j' : Fin k) (hi : i'.val = o + i.val) (hj : j'.val = p + j.val) :
    View.canon ((⟨Rect.unit (s := ⟨2, ![n, k]⟩) ![o, p] ![a, b] inb, w⟩ : View.Piece (Elt Ideal) _ e) :: L) (ix2 i' j') = w (ix2 i j) := by
  rw [← emb2 inb i j i' j' hi hj]
  exact View.canon_cons_emb _ _ _ _

theorem canonNot2 {L : List (View.Piece (Elt Ideal) ⟨2, ![n, k]⟩ e)} (i' : Fin n) (j' : Fin k) (h : (i'.val < o ∨ o + a ≤ i'.val) ∨ (j'.val < p ∨ p + b ≤ j'.val)) :
    View.canon ((⟨Rect.unit (s := ⟨2, ![n, k]⟩) ![o, p] ![a, b] inb, w⟩ : View.Piece (Elt Ideal) _ e) :: L) (ix2 i' j') = View.canon L (ix2 i' j') :=
  View.canon_cons_of_not_mem _ _ (notMem2 inb i' j' h)

/-- A piece agrees with a function of the whole array's places. -/
theorem agr2 (h : ∀ (i : Fin a) (j : Fin b) (i' : Fin n) (j' : Fin k), i'.val = o + i.val → j'.val = p + j.val → w (ix2 i j) = G (ix2 i' j')) :
    ∀ x : (Rect.unit (s := ⟨2, ![n, k]⟩) ![o, p] ![a, b] inb).shape.Idx, w x = G ((Rect.unit (s := ⟨2, ![n, k]⟩) ![o, p] ![a, b] inb).emb x) := by
  intro x
  obtain ⟨i, j, rfl⟩ : ∃ (i : Fin a) (j : Fin b), x = ix2 i j := ⟨x 0, x 1, by
    funext y
    match y with
    | ⟨0, _⟩ => rfl
    | ⟨1, _⟩ => rfl⟩
  have h0 : o + a ≤ n := inb 0
  have h1 : p + b ≤ k := inb 1
  rw [emb2 inb i j ⟨o + i.val, by omega⟩ ⟨p + j.val, by omega⟩ rfl rfl]
  exact h i j _ _ rfl rfl

end Pieces

/-- A row array over a block and its halo, as a function of the buffer's place. -/
def ext (f : ℕ → Fin 512 → EReal) (B : ℕ) : S528x512.Idx → EReal := fun y => f (B + (y 0).val) (y 1)

section Buffers

variable {B : ℕ} {f : ℕ → Fin 512 → EReal} {G : S528x512.Idx → EReal} {w : FVec Ideal S512x512 .f32} {z : FVec Ideal S16x512 .f32} {g0 g1 g2 g3 : FVec Ideal S512x128 .f32}
  {i1 : ∀ x : Fin 2, (![0, 0] : Fin 2 → ℕ) x + S512x512.size x ≤ S528x512.size x}
  {i2 : ∀ x : Fin 2, (![512, 0] : Fin 2 → ℕ) x + S16x512.size x ≤ S528x512.size x}
  {j0 : ∀ x : Fin 2, (![0, 0] : Fin 2 → ℕ) x + S512x128.size x ≤ S528x512.size x}
  {j1 : ∀ x : Fin 2, (![0, 128] : Fin 2 → ℕ) x + S512x128.size x ≤ S528x512.size x}
  {j2 : ∀ x : Fin 2, (![0, 256] : Fin 2 → ℕ) x + S512x128.size x ≤ S528x512.size x}
  {j3 : ∀ x : Fin 2, (![0, 384] : Fin 2 → ℕ) x + S512x128.size x ≤ S528x512.size x}

/-- The list of one piece: the block's rows. -/
abbrev one (w : FVec Ideal S512x512 .f32) (i1 : ∀ x : Fin 2, (![0, 0] : Fin 2 → ℕ) x + S512x512.size x ≤ S528x512.size x) :
    List (View.Piece (Elt Ideal) S528x512 .f32) := [⟨Rect.unit (s := S528x512) ![0, 0] S512x512.size i1, w⟩]

/-- The four groups' columns of the block's rows. -/
abbrev four (g0 g1 g2 g3 : FVec Ideal S512x128 .f32) (j0 : ∀ x : Fin 2, (![0, 0] : Fin 2 → ℕ) x + S512x128.size x ≤ S528x512.size x)
    (j1 : ∀ x : Fin 2, (![0, 128] : Fin 2 → ℕ) x + S512x128.size x ≤ S528x512.size x)
    (j2 : ∀ x : Fin 2, (![0, 256] : Fin 2 → ℕ) x + S512x128.size x ≤ S528x512.size x)
    (j3 : ∀ x : Fin 2, (![0, 384] : Fin 2 → ℕ) x + S512x128.size x ≤ S528x512.size x) :
    List (View.Piece (Elt Ideal) S528x512 .f32) :=
  [⟨Rect.unit (s := S528x512) ![0, 384] S512x128.size j3, g3⟩, ⟨Rect.unit (s := S528x512) ![0, 256] S512x128.size j2, g2⟩,
   ⟨Rect.unit (s := S528x512) ![0, 128] S512x128.size j1, g1⟩, ⟨Rect.unit (s := S528x512) ![0, 0] S512x128.size j0, g0⟩]

/-- The zero rows of the halo. -/
abbrev halo (z : FVec Ideal S16x512 .f32) (i2 : ∀ x : Fin 2, (![512, 0] : Fin 2 → ℕ) x + S16x512.size x ≤ S528x512.size x) :
    List (View.Piece (Elt Ideal) S528x512 .f32) := [⟨Rect.unit (s := S528x512) ![512, 0] S16x512.size i2, z⟩]

/-- What the two lists of pieces have in common: they hold the array's rows over the block, and write nothing past it. -/
structure Fills (L : List (View.Piece (Elt Ideal) S528x512 .f32)) (f : ℕ → Fin 512 → EReal) (B : ℕ) : Prop where
  agr : ∀ p ∈ L, ∀ x : p.1.shape.Idx, p.2 x = ext f B (p.1.emb x)
  cov : ∀ (i : Fin 528) (j : Fin 512), i.val < 512 → ∃ p ∈ L, ix2 i j ∈ p.1.set
  off : ∀ (i : Fin 528) (j : Fin 512), 512 ≤ i.val → ∀ p ∈ L, ix2 i j ∉ p.1.set

theorem one_fills (h : Rows w f B) : Fills (one w i1) f B where
  agr := by
    intro p hp
    obtain rfl := List.mem_singleton.mp hp
    refine agr2 i1 fun i j i' j' hi hj => ?_
    have : j' = j := Fin.ext (by omega)
    subst this
    exact (h i _).trans (congrArg (fun r => f r _) (by show B + i.val = B + i'.val; omega))
  cov := fun i j hi => ⟨_, List.mem_singleton.mpr rfl, mem2 i1 i j (by omega)⟩
  off := by
    intro i j hi p hp
    obtain rfl := List.mem_singleton.mp hp
    exact notMem2 i1 i j (by omega)

theorem four_fills (h0 : GRows g0 f 0 B) (h1 : GRows g1 f 1 B) (h2 : GRows g2 f 2 B) (h3 : GRows g3 f 3 B) :
    Fills (four g0 g1 g2 g3 j0 j1 j2 j3) f B where
  agr := by
    have key : ∀ (g : Fin 4) (w : FVec Ideal S512x128 .f32) (_ : GRows w f g B) (i : Fin 512) (c : Fin 128) (i' : Fin 528) (j' : Fin 512),
        i'.val = 0 + i.val → j'.val = 128 * g.val + c.val → w (ix2 i c) = ext f B (ix2 i' j') := by
      intro g w h i c i' j' hi hj
      have e1 : j' = col g c := Fin.ext hj
      subst e1
      rw [h, ext]
      exact congrArg (fun r => f r _) (by show B + i.val = B + i'.val; omega)
    intro p hp
    simp only [List.mem_cons, List.not_mem_nil, or_false] at hp
    rcases hp with rfl | rfl | rfl | rfl
    · exact agr2 j3 fun i c i' j' hi hj => key 3 _ h3 i c i' j' hi hj
    · exact agr2 j2 fun i c i' j' hi hj => key 2 _ h2 i c i' j' hi hj
    · exact agr2 j1 fun i c i' j' hi hj => key 1 _ h1 i c i' j' hi hj
    · exact agr2 j0 fun i c i' j' hi hj => key 0 _ h0 i c i' j' hi (by rw [hj]; simp)
  cov := by
    intro i j hi
    by_cases c1 : j.val < 128
    · exact ⟨⟨Rect.unit (s := S528x512) ![0, 0] S512x128.size j0, g0⟩, by simp, mem2 j0 i j (by omega)⟩
    by_cases c2 : j.val < 256
    · exact ⟨⟨Rect.unit (s := S528x512) ![0, 128] S512x128.size j1, g1⟩, by simp, mem2 j1 i j (by omega)⟩
    by_cases c3 : j.val < 384
    · exact ⟨⟨Rect.unit (s := S528x512) ![0, 256] S512x128.size j2, g2⟩, by simp, mem2 j2 i j (by omega)⟩
    exact ⟨⟨Rect.unit (s := S528x512) ![0, 384] S512x128.size j3, g3⟩, by simp, mem2 j3 i j (by omega)⟩
  off := by
    intro i j hi p hp
    simp only [List.mem_cons, List.not_mem_nil, or_false] at hp
    rcases hp with rfl | rfl | rfl | rfl
    · exact notMem2 j3 i j (by omega)
    · exact notMem2 j2 i j (by omega)
    · exact notMem2 j1 i j (by omega)
    · exact notMem2 j0 i j (by omega)

variable {L : List (View.Piece (Elt Ideal) S528x512 .f32)}

/-- The block's rows, above zero rows: the array, when it is zero past the block. -/
theorem fills_halo (hL : Fills L f B) (hz : ∀ (i : Fin 16) (j : Fin 512), z (ix2 i j) = f (B + 512 + i.val) j) (i : Fin 528) (j : Fin 512) :
    View.canon (L ++ halo z i2) (ix2 i j) = f (B + i.val) j := by
  refine View.canon_apply_of_pieces (Val := Elt Ideal) (e := .f32) (ext f B) _ ?_ (ix2 i j) ?_
  · intro p hp
    rcases List.mem_append.mp hp with hp | hp
    · exact hL.agr p hp
    · obtain rfl := List.mem_singleton.mp hp
      refine agr2 i2 fun i j i' j' hi hj => ?_
      have : j' = j := Fin.ext (by omega)
      subst this
      exact (hz i _).trans (congrArg (fun r => f r _) (by show B + 512 + i.val = B + i'.val; omega))
  · by_cases c : i.val < 512
    · obtain ⟨p, hp, hm⟩ := hL.cov i j c
      exact ⟨p, List.mem_append_left _ hp, hm⟩
    · exact ⟨_, List.mem_append_right _ (List.mem_singleton.mpr rfl), mem2 i2 i j (by omega)⟩

/-- The block's rows alone, read over them. -/
theorem fills_rows (hL : Fills L f B) (i : Fin 528) (j : Fin 512) (hi : i.val < 512) : View.canon L (ix2 i j) = f (B + i.val) j :=
  View.canon_apply_of_pieces (Val := Elt Ideal) (e := .f32) (ext f B) _ hL.agr (ix2 i j) (hL.cov i j hi)

/-- The block's rows, written over what the point before left. -/
theorem fills_over (hL : Fills L f B) {κ : Kind} {sp : Space} {v : View sig κ sp S528x512 .f32} {o : v.ty.Contents (Elt Ideal)}
    (ho : ∀ (i : Fin 528) (j : Fin 512), 512 ≤ i.val → v.read (Elt Ideal) o (ix2 i j) = f (B + i.val) j) (i : Fin 528) (j : Fin 512) :
    v.read (Elt Ideal) (v.writes (Elt Ideal) o L) (ix2 i j) = f (B + i.val) j := by
  by_cases c : i.val < 512
  · exact View.read_writes_apply_of_pieces (Val := Elt Ideal) (e := .f32) v o (ext f B) L hL.agr (ix2 i j) (hL.cov i j c)
  · rw [View.read_writes_apply_of_forall_not_mem v o (ix2 i j) L (hL.off i j (by omega))]
    exact ho i j (by omega)

end Buffers

end Cert.Even
-- ==== Proof.Lits.lean ====
/-
  The programs' constants as real numbers, the rows past the end, and the counts.
-/
module

public import proofs.«01_k».proof.Proof.Spec
public import Idealize.ShloMosaic.Lib.Claim

@[expose] public section

noncomputable section

open Idealize.ShloMosaic

namespace Cert.Even

theorem lit_2 : Ideal.ofBits .f32 0x40000000#32 = ((2 : ℝ) : EReal) := by
  simp [Ideal.ofBits, Ideal.ieee, -EReal.coe_mul]; norm_num
theorem lit_4 : Ideal.ofBits .f32 0x40800000#32 = ((4 : ℝ) : EReal) := by
  simp [Ideal.ofBits, Ideal.ieee, -EReal.coe_mul]; norm_num
theorem lit_8 : Ideal.ofBits .f32 0x41000000#32 = ((8 : ℝ) : EReal) := by
  simp [Ideal.ofBits, Ideal.ieee, -EReal.coe_mul]; norm_num
theorem lit_16 : Ideal.ofBits .f32 0x41800000#32 = ((16 : ℝ) : EReal) := by
  simp [Ideal.ofBits, Ideal.ieee, -EReal.coe_mul]; norm_num
theorem lit_1024 : Ideal.ofBits .f32 0x44800000#32 = ((1024 : ℝ) : EReal) := by
  simp [Ideal.ofBits, Ideal.ieee, -EReal.coe_mul]; norm_num
theorem lit_eps : Ideal.ofBits .f32 0x358637BD#32
    = ((8796093 / 8796093022208 : ℝ) : EReal) := by
  simp [Ideal.ofBits, Ideal.ieee, -EReal.coe_mul]; norm_num

theorem wlit_real (g : Fin 4) : wlit g = (((2 : ℝ) ^ (g.val + 1) : ℝ) : EReal) := by
  unfold wlit
  fin_cases g
  · simp only [if_true]; rw [lit_2]; norm_num
  · simp only [lit_4]; exact congrArg Real.toEReal (by norm_num)
  · simp only [lit_8]; exact congrArg Real.toEReal (by norm_num)
  · simp only [lit_16]; exact congrArg Real.toEReal (by norm_num)

/-- A count is a positive real. -/
theorem cnt_real (r : ℕ) (g : Fin 4) : ∃ y : ℝ, 0 < y ∧ cnt r g = (y : EReal) := by
  refine ⟨min ((r + 1 : ℕ) : ℝ) (2 ^ (g.val + 1)), by positivity, ?_⟩
  rw [cnt, wlit_real, EReal.coe_strictMono.monotone.map_min]
  rfl

variable {I : In} (hz : ∀ (r : ℕ) (k : Fin 1024), 4096 ≤ r → I.dh r k = 0)

include hz

theorem dmix_zero {r : ℕ} (h : 4096 ≤ r) (j : Fin 1024) : I.dmix r j = 0 := by
  unfold In.dmix
  exact Finset.sum_eq_zero fun k _ => by rw [hz r k h, zero_mul]

theorem dcq_zero {r : ℕ} (h : 4096 ≤ r) (j : Fin 512) : I.dcq r j = 0 := by
  unfold In.dcq In.dya
  rw [dmix_zero hz h, zero_mul]

theorem dpl_zero {r : ℕ} (h : 4096 ≤ r) (j : Fin 512) : I.dpl r j = 0 := by
  unfold In.dpl In.dmx In.dyb
  exact Finset.sum_eq_zero fun k _ => by rw [dmix_zero hz h, zero_mul, zero_mul]

theorem e_zero {r : ℕ} (h : 4096 ≤ r) (j : Fin 512) : I.e r j = 0 := by
  unfold In.e
  obtain ⟨y, hy, hc⟩ := cnt_real r (grp j)
  rw [dpl_zero hz h, hc, Ideal.div_coe hy.ne', zero_mul]

end Cert.Even
-- ==== Proof.Feed.lean ====
/-
  What the call has written after each grid point: the block's rows of the gradients, the sums over the rows
  from the block to the end, and the first rows of the block, left for the point after.
-/
module

public import proofs.«01_k».proof.Proof.Scr
public import proofs.«01_k».proof.Proof.Lits

@[expose] public section

set_option maxRecDepth 16384

noncomputable section

open Idealize.ShloMosaic Idealize.ShloMosaic.TcCoe Idealize.SL.Sem

namespace Cert.Even

open Cert.KernelIdeal Cert.KernelIdeal.Gen

/-- The number that a grid point reads for itself. -/
theorem coord_t : ∀ t : Fin grid0.N, (grid0.coords t 0).val = t.val := by decide +kernel

theorem coord_lt (t : Fin cfg0.N) : (grid0.coords t 0).val < 8 := (grid0.coords t 0).isLt

theorem coord_base (t : Fin cfg0.N) : base t.val = (7 - (grid0.coords t 0).val) * 512 := by rw [coord_t t, base]

section Reads

variable {n k a b o p : ℕ} {e : EltTy} (X : (⟨2, ![n, k]⟩ : Shape).Idx → Elt Ideal e)

/-- A load at an offset. -/
theorem ld2 (inb : ∀ x : Fin 2, (![o, p] : Fin 2 → ℕ) x + (![a, b] : Fin 2 → ℕ) x ≤ (![n, k] : Fin 2 → ℕ) x) (i : Fin a) (j : Fin b)
    (i' : Fin n) (j' : Fin k) (hi : i'.val = o + i.val) (hj : j'.val = p + j.val) :
    View.ld (Val := Elt Ideal) (e' := e) X (Rect.unit (s := ⟨2, ![n, k]⟩) ![o, p] ![a, b] inb) (ix2 i j : (⟨2, ![a, b]⟩ : Shape).Idx) = X (ix2 i' j') :=
  congrArg X (emb2 inb i j i' j' hi hj)

/-- The place in a stack of a place of some of its matrices. -/
theorem emb3 {l m q : ℕ} (inb : ∀ x : Fin 3, (![q, 0, 0] : Fin 3 → ℕ) x + (![m, n, k] : Fin 3 → ℕ) x ≤ (![l, n, k] : Fin 3 → ℕ) x)
    (g : Fin m) (i : Fin n) (j : Fin k) (g' : Fin l) (hg : g'.val = q + g.val) :
    (Rect.unit (s := ⟨3, ![l, n, k]⟩) ![q, 0, 0] ![m, n, k] inb).emb (ix3 g i j) = ix3 g' i j := by
  funext x
  apply Fin.ext
  rw [Rect.emb_apply]
  match x with
  | ⟨0, _⟩ => show q + 1 * g.val = g'.val; omega
  | ⟨1, _⟩ => show 0 + 1 * i.val = i.val; omega
  | ⟨2, _⟩ => show 0 + 1 * j.val = j.val; omega

/-- A load of some matrices of a stack. -/
theorem ld3 {l m q : ℕ} (Y : (⟨3, ![l, n, k]⟩ : Shape).Idx → Elt Ideal e)
    (inb : ∀ x : Fin 3, (![q, 0, 0] : Fin 3 → ℕ) x + (![m, n, k] : Fin 3 → ℕ) x ≤ (![l, n, k] : Fin 3 → ℕ) x) (g : Fin m) (i : Fin n) (j : Fin k)
    (g' : Fin l) (hg : g'.val = q + g.val) :
    View.ld (Val := Elt Ideal) (e' := e) Y (Rect.unit (s := ⟨3, ![l, n, k]⟩) ![q, 0, 0] ![m, n, k] inb) (ix3 g i j : (⟨3, ![m, n, k]⟩ : Shape).Idx)
      = Y (ix3 g' i j) :=
  congrArg Y (emb3 inb g i j g' hg)

end Reads

variable (m : (ℓ : Loc nD τ sig) → Buf (Elt Ideal) ℓ) (c : Dev nD) (t : Fin cfg0.N)
variable {m c} {I : In} (F : Feeds m c I)
include F

theorem rows0 (inb) : Rows (φ := .bf16) (View.ld (Val := Elt Ideal) (e' := .bf16) (iblk m c 0 t) (Rect.unit (s := S512x1024) ![0, 0] S512x1024.size inb)) I.dh (base t.val) := by
  exact fun ρ k => (ld2 (iblk m c 0 t) inb ρ k ρ k (Nat.zero_add _).symm (Nat.zero_add _).symm).trans ((iblk0 m c t ρ k).trans (F.dh _ k))
theorem rows1 (inb) : Rows (φ := .f32) (View.ld (Val := Elt Ideal) (e' := .f32) (iblk m c 1 t) (Rect.unit (s := S512x1024) ![0, 0] S512x1024.size inb)) I.dh (base t.val) := by
  exact fun ρ k => (ld2 (iblk m c 1 t) inb ρ k ρ k (Nat.zero_add _).symm (Nat.zero_add _).symm).trans ((iblk1 m c t ρ k).trans (F.dh' _ k))
theorem whole2 (inb) (i k : Fin 1024) : View.ld (Val := Elt Ideal) (e' := .bf16) (iblk m c 2 t) (Rect.unit (s := S1024x1024) ![0, 0] S1024x1024.size inb) (ix2 i k) = I.wo i k := by
  exact (ld2 (iblk m c 2 t) inb i k i k (Nat.zero_add _).symm (Nat.zero_add _).symm).trans ((iblk2 m c t i k).trans (F.wo i k))
theorem rows3 (inb) : Rows (φ := .bf16) (View.ld (Val := Elt Ideal) (e' := .bf16) (iblk m c 3 t) (Rect.unit (s := S512x2048) ![0, 0] S512x2048.size inb)) I.P (base t.val) := by
  exact fun ρ k => (ld2 (iblk m c 3 t) inb ρ k ρ k (Nat.zero_add _).symm (Nat.zero_add _).symm).trans ((iblk3 m c t ρ k).trans (F.P _ k))
theorem rows4 (inb) : Rows (φ := .bf16) (View.ld (Val := Elt Ideal) (e' := .bf16) (iblk m c 4 t) (Rect.unit (s := S512x512) ![0, 0] S512x512.size inb)) I.cq (base t.val) := by
  exact fun ρ k => (ld2 (iblk m c 4 t) inb ρ k ρ k (Nat.zero_add _).symm (Nat.zero_add _).symm).trans ((iblk4 m c t ρ k).trans (F.cq _ k))
theorem rows11 (inb) : Rows (φ := .f32) (View.ld (Val := Elt Ideal) (e' := .f32) (iblk m c 11 t) (Rect.unit (s := S512x1024) ![0, 0] S512x1024.size inb)) I.x (base t.val) := by
  exact fun ρ k => (ld2 (iblk m c 11 t) inb ρ k ρ k (Nat.zero_add _).symm (Nat.zero_add _).symm).trans ((iblk11 m c t ρ k).trans (F.x _ k))
theorem whole10 (inb) (i : Fin 1024) (k : Fin 2048) : View.ld (Val := Elt Ideal) (e' := .bf16) (iblk m c 10 t) (Rect.unit (s := S1024x2048) ![0, 0] S1024x2048.size inb) (ix2 i k) = I.wi i k := by
  exact (ld2 (iblk m c 10 t) inb i k i k (Nat.zero_add _).symm (Nat.zero_add _).symm).trans ((iblk10 m c t i k).trans (F.wi i k))
theorem whole12 (inb) (k : Fin 1024) : View.ld (Val := Elt Ideal) (e' := .f32) (iblk m c 12 t) (Rect.unit (s := S1x1024) ![0, 0] S1x1024.size inb) (ix2 0 k) = I.gn k := by
  exact (ld2 (iblk m c 12 t) inb 0 k 0 k (Nat.zero_add _).symm (Nat.zero_add _).symm).trans ((iblk12 m c t 0 k).trans (F.gn k))
theorem part6 (k : Fin 3) {o : ℕ} (ho : o = k.val) (inb) (j : Fin 512) :
    View.ld (Val := Elt Ideal) (e' := .f32) (iblk m c 6 t) (Rect.unit (s := S3x512) ![o, 0] S1x512.size inb) (ix2 0 j) = I.ca k j := by
  subst ho
  exact (ld2 (iblk m c 6 t : FVec Ideal S3x512 .f32) inb 0 j k j rfl (by simp)).trans ((iblk6 m c t k j).trans (F.ca k j))
theorem part5 (g : Fin 4) {o : ℕ} (ho : o = 128 * g.val) (inb) :
    GRows (φ := .bf16) (View.ld (Val := Elt Ideal) (e' := .bf16) (iblk m c 5 t) (Rect.unit (s := S512x512) ![0, o] S512x128.size inb)) I.pl g (base t.val) := by
  subst ho
  exact fun ρ d => (ld2 (iblk m c 5 t : FVec Ideal S512x512 .bf16) inb ρ d ρ (col g d) (by simp) rfl).trans ((iblk5 m c t ρ _).trans (F.pl _ _))
theorem part9 (g : Fin 4) {o : ℕ} (ho : o = 128 * g.val) (inb) :
    Sc I (View.ld (Val := Elt Ideal) (e' := .f32) (iblk m c 9 t) (Rect.unit (s := S1x512) ![0, o] S1x128.size inb)) g := by
  subst ho
  exact fun d => (ld2 (iblk m c 9 t : FVec Ideal S1x512 .f32) inb 0 d 0 (col g d) (by simp) rfl).trans ((iblk9 m c t 0 _).trans (F.ps _))
theorem part7 (g : Fin 4) {o : ℕ} (ho : o = g.val) (inb) :
    Wt I (View.ld (Val := Elt Ideal) (e' := .bf16) (iblk m c 7 t) (Rect.unit (s := S4x128x128) ![o, 0, 0] S1x128x128.size inb)) g := by
  subst ho
  exact fun a b => (ld3 (iblk m c 7 t : FVec Ideal S4x128x128 .bf16) inb 0 a b g rfl).trans ((iblk7 m c t g a b).trans (F.wp g a b))
theorem part8 (g : Fin 4) {o : ℕ} (ho : o = g.val) (inb) :
    WtT I (View.ld (Val := Elt Ideal) (e' := .bf16) (iblk m c 8 t) (Rect.unit (s := S4x128x128) ![o, 0, 0] S1x128x128.size inb)) g := by
  subst ho
  exact fun a b => (ld3 (iblk m c 8 t : FVec Ideal S4x128x128 .bf16) inb 0 b a g rfl).trans ((iblk8 m c t g b a).trans (F.wpT g b a))

end Cert.Even
-- ==== Proof.Held.lean ====
/-
  The rows that the two scratch buffers hold when a grid point reads them back.
-/
module

public import proofs.«01_k».proof.Proof.Feed
public import Idealize.ShloMosaic.Lib.Pointwise

@[expose] public section

set_option maxRecDepth 16384

noncomputable section

open Idealize.ShloMosaic Idealize.ShloMosaic.TcCoe Idealize.SL.Sem

namespace Cert.Even

open Cert.KernelIdeal Cert.KernelIdeal.Gen

section Held

variable {B : ℕ} {f : ℕ → Fin 512 → EReal} {z : FVec Ideal S16x512 .f32} {L : List (View.Piece (Elt Ideal) S528x512 .f32)}
  {i2 : ∀ x : Fin 2, (![512, 0] : Fin 2 → ℕ) x + S16x512.size x ≤ S528x512.size x}

/-- The whole buffer read back, the halo having been cleared. -/
theorem halo_rows {κ : Kind} {sp : Space} {v : View sig κ sp S528x512 .f32} {K : List (View.Piece (Elt Ideal) S528x512 .f32)} (hL : Fills L f B)
    (hz : ∀ (i : Fin 16) (j : Fin 512), z (ix2 i j) = f (B + 512 + i.val) j) (hK : K = L ++ halo z i2) (inb) :
    Rows (φ := .f32) (v.readCov (Val := Elt Ideal) K (Rect.unit (s := S528x512) ![0, 0] S528x512.size inb).toLoadRect) f B := by
  subst hK
  intro i j
  rw [View.readCov_eq_canon']
  exact (congrArg (View.canon (L ++ halo z i2)) (emb2 inb i j i j (Nat.zero_add _).symm (Nat.zero_add _).symm)).trans (fills_halo hL hz i j)

/-- The whole buffer read back, the halo being what the point before has left. -/
theorem over_rows {κ : Kind} {sp : Space} {v : View sig κ sp S528x512 .f32} {o : v.ty.Contents (Elt Ideal)} (hL : Fills L f B)
    (ho : ∀ (i : Fin 528) (j : Fin 512), 512 ≤ i.val → v.read (Elt Ideal) o (ix2 i j) = f (B + i.val) j) (inb) :
    Rows (φ := .f32) (View.ld (Val := Elt Ideal) (e' := .f32) (v.read (Elt Ideal) (v.writes (Elt Ideal) o L)) (Rect.unit (s := S528x512) ![0, 0] S528x512.size inb)) f B :=
  fun i j => (ld2 _ inb i j i j (Nat.zero_add _).symm (Nat.zero_add _).symm).trans (fills_over hL ho i j)

/-- What the point before has left is what the buffer then reads. -/
theorem left0 {X : S528x512.Idx → Elt Ideal .f32} (hX : ∀ (i : Fin 528) (j : Fin 512), 512 ≤ i.val → X (ix2 i j) = f (B + i.val) j)
    (i : Fin 528) (j : Fin 512) (h : 512 ≤ i.val) :
    (View.whole cc0_scratch0).read (Elt Ideal) ((Memref.isWhole_whole cc0_scratch0).unread X) (ix2 i j) = f (B + i.val) j :=
  (congrFun ((Memref.isWhole_whole cc0_scratch0).read_unread (Val := Elt Ideal) X) (ix2 i j)).trans (hX i j h)

/-- What the point before has left is what the buffer then reads. -/
theorem left1 {X : S528x512.Idx → Elt Ideal .f32} (hX : ∀ (i : Fin 528) (j : Fin 512), 512 ≤ i.val → X (ix2 i j) = f (B + i.val) j)
    (i : Fin 528) (j : Fin 512) (h : 512 ≤ i.val) :
    (View.whole cc0_scratch1).read (Elt Ideal) ((Memref.isWhole_whole cc0_scratch1).unread X) (ix2 i j) = f (B + i.val) j :=
  (congrFun ((Memref.isWhole_whole cc0_scratch1).read_unread (Val := Elt Ideal) X) (ix2 i j)).trans (hX i j h)

/-- The buffer's first rows read back, the halo having been cleared. -/
theorem top_halo {κ : Kind} {sp : Space} {v : View sig κ sp S528x512 .f32} {K : List (View.Piece (Elt Ideal) S528x512 .f32)} (hL : Fills L f B)
    (hz : ∀ (i : Fin 16) (j : Fin 512), z (ix2 i j) = f (B + 512 + i.val) j) (hK : K = L ++ halo z i2) (inb) (i : Fin 16) (j : Fin 512) :
    v.readCov (Val := Elt Ideal) K (Rect.unit (s := S528x512) ![0, 0] S16x512.size inb).toLoadRect (ix2 i j) = f (B + i.val) j := by
  subst hK
  rw [View.readCov_eq_canon']
  exact (congrArg (View.canon (L ++ halo z i2)) (emb2 inb i j ⟨i.val, by omega⟩ j (Nat.zero_add _).symm (Nat.zero_add _).symm)).trans
    (fills_halo hL hz ⟨i.val, by omega⟩ j)

/-- The buffer's first rows read back. -/
theorem top_rows {κ : Kind} {sp : Space} {v : View sig κ sp S528x512 .f32} (hL : Fills L f B) (inb) (i : Fin 16) (j : Fin 512) :
    v.readCov (Val := Elt Ideal) L (Rect.unit (s := S528x512) ![0, 0] S16x512.size inb).toLoadRect (ix2 i j) = f (B + i.val) j := by
  rw [View.readCov_eq_canon']
  exact (congrArg (View.canon L) (emb2 inb i j ⟨i.val, by omega⟩ j (Nat.zero_add _).symm (Nat.zero_add _).symm)).trans
    (fills_rows hL ⟨i.val, by omega⟩ j (by show i.val < 512; omega))

end Held

theorem p3 (w : FVec Ideal S16x512 .f32) (i : Fin 16) (j : Fin 512) : k0_pay3 (F := Ideal) w (ix2 i j) = w (ix2 i j) := by
  unfold k0_pay3
  pointwise

theorem p4 (w : FVec Ideal S16x512 .f32) (i : Fin 16) (j : Fin 512) : k0_pay4 (F := Ideal) w (ix2 i j) = w (ix2 i j) := by
  unfold k0_pay4
  pointwise

section Stack

variable {l n k q : ℕ} {e : EltTy}
  (inb : ∀ x : Fin 3, (![q, 0, 0] : Fin 3 → ℕ) x + (![1, n, k] : Fin 3 → ℕ) x ≤ (![l, n, k] : Fin 3 → ℕ) x)
  {w : (⟨3, ![1, n, k]⟩ : Shape).Idx → Elt Ideal e} {L : List (View.Piece (Elt Ideal) ⟨3, ![l, n, k]⟩ e)}

/-- The last matrix written is read at its place in the stack. -/
theorem canon3 (g : Fin 1) (i : Fin n) (j : Fin k) (g' : Fin l) (hg : g'.val = q + g.val) :
    View.canon ((⟨Rect.unit (s := ⟨3, ![l, n, k]⟩) ![q, 0, 0] ![1, n, k] inb, w⟩ : View.Piece (Elt Ideal) _ e) :: L) (ix3 g' i j) = w (ix3 g i j) := by
  rw [← emb3 inb g i j g' hg]
  exact View.canon_cons_emb _ _ _ _

theorem canonNot3 (g : Fin l) (i : Fin n) (j : Fin k) (h : g.val < q ∨ q + 1 ≤ g.val) :
    View.canon ((⟨Rect.unit (s := ⟨3, ![l, n, k]⟩) ![q, 0, 0] ![1, n, k] inb, w⟩ : View.Piece (Elt Ideal) _ e) :: L) (ix3 g i j) = View.canon L (ix3 g i j) := by
  refine View.canon_cons_of_not_mem _ _ ?_
  rw [Rect.mem_set_unit]
  intro hh
  have h0 : q ≤ g.val ∧ g.val < q + 1 := hh 0
  omega

end Stack

theorem pay5_zero (i : Fin 16) (j : Fin 512) : k0_pay5 (F := Ideal) (ix2 i j) = 0 := by
  unfold k0_pay5
  pointwise

theorem pay6_zero (i : Fin 16) (j : Fin 512) : k0_pay6 (F := Ideal) (ix2 i j) = 0 := by
  unfold k0_pay6
  pointwise

variable {m : (ℓ : Loc nD τ sig) → Buf (Elt Ideal) ℓ} {c : Dev nD} (t : Fin cfg0.N) {I : In} (F : Feeds m c I)
include F

omit F in
theorem first_row (t : Fin cfg0.N) (h : t.val % 8 = 0) : base t.val = 3584 := by
  have h8 : t.val < 8 := lt_of_lt_of_eq t.isLt N_0
  have h0 : t.val = 0 := by omega
  rw [h0, base]

theorem pad5 (h : t.val % 8 = 0) (i : Fin 16) (j : Fin 512) : k0_pay5 (F := Ideal) (ix2 i j) = I.dcq (base t.val + 512 + i.val) j := by
  rw [pay5_zero, dcq_zero F.zero (by rw [first_row t h]; omega)]

theorem pad6 (h : t.val % 8 = 0) (i : Fin 16) (j : Fin 512) : k0_pay6 (F := Ideal) (ix2 i j) = I.e (base t.val + 512 + i.val) j := by
  rw [pay6_zero, e_zero F.zero (by rw [first_row t h]; omega)]

end Cert.Even
-- ==== Proof.Win1.lean ====
/-
  The rows of the two arrays of gradients that a grid point writes, and its sum for the gain.
-/
module

public import proofs.«01_k».proof.Proof.Held

@[expose] public section

set_option maxRecDepth 16384

noncomputable section

open Idealize.ShloMosaic Idealize.ShloMosaic.TcCoe Idealize.SL.Sem

namespace Cert.Even

open Cert.KernelIdeal Cert.KernelIdeal.Gen

variable {m : (ℓ : Loc nD τ sig) → Buf (Elt Ideal) ℓ} {c : Dev nD} (t : Fin cfg0.N) {I : In} (F : Feeds m c I)
include F

theorem proj_A (h : t.val % 8 = 0) (h' : ¬1 ≤ t.val) :
    Rows (φ := .bf16) (outsAt0 m c t.val t.isLt).1 I.dproj (base t.val) ∧
      Rows (φ := .f32) (outsAt0 m c t.val t.isLt).2.1 I.dx (base t.val) ∧
      ∀ j : Fin 1024, (outsAt0 m c t.val t.isLt).2.2.1 (ix2 0 j) = bsum (I.tg j) (base t.val) := by
  rw [outsAt0_A m c t h h h' h h' h h' h h' h h' h h' h h' h h' h h' ]
  dsimp only
  unfold out0_A_13 out0_A_14 out0_A_15
  rw [View.read_writes_eq_canon _ _ _ (fun y => cover0_A_13 (y := y) ..), View.read_writes_eq_canon _ _ _ (fun y => cover0_A_14 (y := y) ..), View.read_writes_eq_canon _ _ _ (fun y => cover0_A_15 (y := y) ..)]
  unfold kernelRun0_A
  dsimp only
  sl_unfold_words
  simp only [View.readAt_eq_ld, Memref.IsWhole.read_unread]
  refine (fun hq : Rows _ I.dproj (base t.val) =>
    ⟨fun ρ j => (canon2 _ ρ j ρ j (Nat.zero_add _).symm (Nat.zero_add _).symm).trans (hq ρ j),
      fun ρ j => (canon2 _ ρ j ρ j (Nat.zero_add _).symm (Nat.zero_add _).symm).trans (p76 hq (whole10 t F _) (rows11 t F _) (whole12 t F _) (rows1 t F _) ρ j),
      fun j => (canon2 _ 0 j 0 j (Nat.zero_add _).symm (Nat.zero_add _).symm).trans (p75 hq (whole10 t F _) (rows11 t F _) j)⟩) ?_
  exact (p71 (p13 (rows0 t F _) (whole2 t F _) (rows4 t F _)) (p26 (p12 (rows3 t F _)) (p14 (rows0 t F _) (whole2 t F _) (rows3 t F _)) (p16 (halo_rows (v := View.whole cc0_scratch0) (one_fills (p15 (rows0 t F _) (whole2 t F _) (rows3 t F _))) (pad5 t F h) rfl _)) (p17 (halo_rows (v := View.whole cc0_scratch0) (one_fills (p15 (rows0 t F _) (whole2 t F _) (rows3 t F _))) (pad5 t F h) rfl _)) (part6 t F 2 rfl _) (part6 t F 1 rfl _) (part6 t F 0 rfl _)) (p27 (p11 (rows3 t F _)) (p14 (rows0 t F _) (whole2 t F _) (rows3 t F _)) (p16 (halo_rows (v := View.whole cc0_scratch0) (one_fills (p15 (rows0 t F _) (whole2 t F _) (rows3 t F _))) (pad5 t F h) rfl _)) (p17 (halo_rows (v := View.whole cc0_scratch0) (one_fills (p15 (rows0 t F _) (whole2 t F _) (rows3 t F _))) (pad5 t F h) rfl _)) (part6 t F 2 rfl _) (part6 t F 1 rfl _) (part6 t F 0 rfl _)) (p67 (halo_rows (four_fills (p36 (coord_lt t) (coord_base t) (p9 (rows0 t F _) (whole2 t F _)) (part9 t F 0 rfl _) (part8 t F 0 rfl _)) (p44 (coord_lt t) (coord_base t) (p9 (rows0 t F _) (whole2 t F _)) (part9 t F 1 rfl _) (part8 t F 1 rfl _)) (p55 (coord_lt t) (coord_base t) (p9 (rows0 t F _) (whole2 t F _)) (part9 t F 2 rfl _) (part8 t F 2 rfl _)) (p64 (coord_lt t) (coord_base t) (p9 (rows0 t F _) (whole2 t F _)) (part9 t F 3 rfl _) (part8 t F 3 rfl _))) (pad6 t F h) rfl _) (p35 (p9 (rows0 t F _) (whole2 t F _)) (part9 t F 0 rfl _) (part8 t F 0 rfl _))) (p68 (halo_rows (four_fills (p36 (coord_lt t) (coord_base t) (p9 (rows0 t F _) (whole2 t F _)) (part9 t F 0 rfl _) (part8 t F 0 rfl _)) (p44 (coord_lt t) (coord_base t) (p9 (rows0 t F _) (whole2 t F _)) (part9 t F 1 rfl _) (part8 t F 1 rfl _)) (p55 (coord_lt t) (coord_base t) (p9 (rows0 t F _) (whole2 t F _)) (part9 t F 2 rfl _) (part8 t F 2 rfl _)) (p64 (coord_lt t) (coord_base t) (p9 (rows0 t F _) (whole2 t F _)) (part9 t F 3 rfl _) (part8 t F 3 rfl _))) (pad6 t F h) rfl _) (p43 (p9 (rows0 t F _) (whole2 t F _)) (part9 t F 1 rfl _) (part8 t F 1 rfl _))) (p69 (halo_rows (four_fills (p36 (coord_lt t) (coord_base t) (p9 (rows0 t F _) (whole2 t F _)) (part9 t F 0 rfl _) (part8 t F 0 rfl _)) (p44 (coord_lt t) (coord_base t) (p9 (rows0 t F _) (whole2 t F _)) (part9 t F 1 rfl _) (part8 t F 1 rfl _)) (p55 (coord_lt t) (coord_base t) (p9 (rows0 t F _) (whole2 t F _)) (part9 t F 2 rfl _) (part8 t F 2 rfl _)) (p64 (coord_lt t) (coord_base t) (p9 (rows0 t F _) (whole2 t F _)) (part9 t F 3 rfl _) (part8 t F 3 rfl _))) (pad6 t F h) rfl _) (p52 (p9 (rows0 t F _) (whole2 t F _)) (part9 t F 2 rfl _) (part8 t F 2 rfl _))) (p70 (halo_rows (four_fills (p36 (coord_lt t) (coord_base t) (p9 (rows0 t F _) (whole2 t F _)) (part9 t F 0 rfl _) (part8 t F 0 rfl _)) (p44 (coord_lt t) (coord_base t) (p9 (rows0 t F _) (whole2 t F _)) (part9 t F 1 rfl _) (part8 t F 1 rfl _)) (p55 (coord_lt t) (coord_base t) (p9 (rows0 t F _) (whole2 t F _)) (part9 t F 2 rfl _) (part8 t F 2 rfl _)) (p64 (coord_lt t) (coord_base t) (p9 (rows0 t F _) (whole2 t F _)) (part9 t F 3 rfl _) (part8 t F 3 rfl _))) (pad6 t F h) rfl _)) (p62 (p9 (rows0 t F _) (whole2 t F _)) (part9 t F 3 rfl _) (part8 t F 3 rfl _)))

theorem proj_B (h : ¬t.val % 8 = 0) (h' : 1 ≤ t.val)
    (hC : ∀ (i : Fin 528) (j : Fin 512), 512 ≤ i.val → (outsAt0 m c (t.val - 1) (Nat.lt_of_le_of_lt (Nat.sub_le _ _) t.isLt)).2.2.2.2.2.2.1 (ix2 i j) = I.dcq (base t.val + i.val) j)
    (hE : ∀ (i : Fin 528) (j : Fin 512), 512 ≤ i.val → (outsAt0 m c (t.val - 1) (Nat.lt_of_le_of_lt (Nat.sub_le _ _) t.isLt)).2.2.2.2.2.2.2 (ix2 i j) = I.e (base t.val + i.val) j) :
    Rows (φ := .bf16) (outsAt0 m c t.val t.isLt).1 I.dproj (base t.val) ∧
      Rows (φ := .f32) (outsAt0 m c t.val t.isLt).2.1 I.dx (base t.val) ∧
      ∀ j : Fin 1024, (outsAt0 m c t.val t.isLt).2.2.1 (ix2 0 j) = (outsAt0 m c (t.val - 1) (Nat.lt_of_le_of_lt (Nat.sub_le _ _) t.isLt)).2.2.1 (ix2 0 j) + bsum (I.tg j) (base t.val) := by
  rw [outsAt0_B m c t h h h' h h' h h' h h' h h' h h' h h' h h' h h' ]
  dsimp only
  unfold out0_B_13 out0_B_14 out0_B_15
  rw [View.read_writes_eq_canon _ _ _ (fun y => cover0_B_13 (y := y) ..), View.read_writes_eq_canon _ _ _ (fun y => cover0_B_14 (y := y) ..), View.read_writes_eq_canon _ _ _ (fun y => cover0_B_15 (y := y) ..)]
  unfold kernelRun0_B
  dsimp only
  sl_unfold_words
  simp only [View.readAt_eq_ld, Memref.IsWhole.read_unread]
  refine (fun hq : Rows _ I.dproj (base t.val) =>
    ⟨fun ρ j => (canon2 _ ρ j ρ j (Nat.zero_add _).symm (Nat.zero_add _).symm).trans (hq ρ j),
      fun ρ j => (canon2 _ ρ j ρ j (Nat.zero_add _).symm (Nat.zero_add _).symm).trans (p76 hq (whole10 t F _) (rows11 t F _) (whole12 t F _) (rows1 t F _) ρ j),
      fun j => (canon2 _ 0 j 0 j (Nat.zero_add _).symm (Nat.zero_add _).symm).trans ((p2 _ _ j).trans (congr (congrArg HAdd.hAdd (ld2 _ _ 0 j 0 j (Nat.zero_add _).symm (Nat.zero_add _).symm)) (p75 hq (whole10 t F _) (rows11 t F _) j)))⟩) ?_
  refine have f1 : Fills _ I.dcq (base t.val) := ?_
    have ff : Fills _ I.e (base t.val) := ?_
    p71 (p13 (rows0 t F _) (whole2 t F _) (rows4 t F _)) (p26 (p12 (rows3 t F _)) (p14 (rows0 t F _) (whole2 t F _) (rows3 t F _)) (p16 (over_rows (v := View.whole cc0_scratch0) f1 (left0 hC) _)) (p17 (over_rows (v := View.whole cc0_scratch0) f1 (left0 hC) _)) (part6 t F 2 rfl _) (part6 t F 1 rfl _) (part6 t F 0 rfl _)) (p27 (p11 (rows3 t F _)) (p14 (rows0 t F _) (whole2 t F _) (rows3 t F _)) (p16 (over_rows (v := View.whole cc0_scratch0) f1 (left0 hC) _)) (p17 (over_rows (v := View.whole cc0_scratch0) f1 (left0 hC) _)) (part6 t F 2 rfl _) (part6 t F 1 rfl _) (part6 t F 0 rfl _)) (p67 (over_rows (v := View.whole cc0_scratch1) ff (left1 hE) _) (p35 (p9 (rows0 t F _) (whole2 t F _)) (part9 t F 0 rfl _) (part8 t F 0 rfl _))) (p68 (over_rows (v := View.whole cc0_scratch1) ff (left1 hE) _) (p43 (p9 (rows0 t F _) (whole2 t F _)) (part9 t F 1 rfl _) (part8 t F 1 rfl _))) (p69 (over_rows (v := View.whole cc0_scratch1) ff (left1 hE) _) (p52 (p9 (rows0 t F _) (whole2 t F _)) (part9 t F 2 rfl _) (part8 t F 2 rfl _))) (p70 (over_rows (v := View.whole cc0_scratch1) ff (left1 hE) _)) (p62 (p9 (rows0 t F _) (whole2 t F _)) (part9 t F 3 rfl _) (part8 t F 3 rfl _))
  · exact one_fills (p15 (rows0 t F _) (whole2 t F _) (rows3 t F _))
  · exact four_fills (p36 (coord_lt t) (coord_base t) (p9 (rows0 t F _) (whole2 t F _)) (part9 t F 0 rfl _) (part8 t F 0 rfl _)) (p44 (coord_lt t) (coord_base t) (p9 (rows0 t F _) (whole2 t F _)) (part9 t F 1 rfl _) (part8 t F 1 rfl _)) (p55 (coord_lt t) (coord_base t) (p9 (rows0 t F _) (whole2 t F _)) (part9 t F 2 rfl _) (part8 t F 2 rfl _)) (p64 (coord_lt t) (coord_base t) (p9 (rows0 t F _) (whole2 t F _)) (part9 t F 3 rfl _) (part8 t F 3 rfl _))

end Cert.Even
-- ==== Proof.Win2.lean ====
/-
  The sums that a grid point adds to, for the depthwise weights, the mixing weights and the scale, and the
  first rows of the block that it leaves in the two scratch buffers.
-/
module

public import proofs.«01_k».proof.Proof.Held

@[expose] public section

set_option maxRecDepth 16384

noncomputable section

open Idealize.ShloMosaic Idealize.ShloMosaic.TcCoe Idealize.SL.Sem

namespace Cert.Even

open Cert.KernelIdeal Cert.KernelIdeal.Gen

variable {m : (ℓ : Loc nD τ sig) → Buf (Elt Ideal) ℓ} {c : Dev nD} (t : Fin cfg0.N) {I : In} (F : Feeds m c I)
include F

theorem dca2_A (h : t.val % 8 = 0) (h' : ¬1 ≤ t.val) (j : Fin 512) :
    (outsAt0 m c t.val t.isLt).2.2.2.1 (ix2 2 j) = bsum (I.tca 2 j) (base t.val) := by
  rw [outsAt0_A m c t h h h' h h' h h' h h' h h' h h' h h' h h' h h' ]
  dsimp only
  unfold out0_A_16
  rw [View.read_writes_eq_canon _ _ _ (fun y => cover0_A_16 (y := y) ..)]
  unfold kernelRun0_A
  dsimp only
  sl_unfold_words
  simp only [View.readAt_eq_ld, Memref.IsWhole.read_unread]
  refine (canon2 _ 0 j 2 j (by simp) (Nat.zero_add _).symm).trans ?_
  exact p23 (p14 (rows0 t F _) (whole2 t F _) (rows3 t F _)) (p18 (rows3 t F _)) j

theorem dca1_A (h : t.val % 8 = 0) (h' : ¬1 ≤ t.val) (j : Fin 512) :
    (outsAt0 m c t.val t.isLt).2.2.2.1 (ix2 1 j) = bsum (I.tca 1 j) (base t.val) := by
  rw [outsAt0_A m c t h h h' h h' h h' h h' h h' h h' h h' h h' h h' ]
  dsimp only
  unfold out0_A_16
  rw [View.read_writes_eq_canon _ _ _ (fun y => cover0_A_16 (y := y) ..)]
  unfold kernelRun0_A
  dsimp only
  sl_unfold_words
  simp only [View.readAt_eq_ld, Memref.IsWhole.read_unread]
  refine (canonNot2 _ 1 j (Or.inl (Or.inl (by decide)))).trans ?_
  refine (canon2 _ 0 j 1 j (by simp) (Nat.zero_add _).symm).trans ?_
  exact p21 (p16 (halo_rows (v := View.whole cc0_scratch0) (one_fills (p15 (rows0 t F _) (whole2 t F _) (rows3 t F _))) (pad5 t F h) rfl _)) (p18 (rows3 t F _)) j

theorem dca0_A (h : t.val % 8 = 0) (h' : ¬1 ≤ t.val) (j : Fin 512) :
    (outsAt0 m c t.val t.isLt).2.2.2.1 (ix2 0 j) = bsum (I.tca 0 j) (base t.val) := by
  rw [outsAt0_A m c t h h h' h h' h h' h h' h h' h h' h h' h h' h h' ]
  dsimp only
  unfold out0_A_16
  rw [View.read_writes_eq_canon _ _ _ (fun y => cover0_A_16 (y := y) ..)]
  unfold kernelRun0_A
  dsimp only
  sl_unfold_words
  simp only [View.readAt_eq_ld, Memref.IsWhole.read_unread]
  refine (canonNot2 _ 0 j (Or.inl (Or.inl (by decide)))).trans ?_
  refine (canonNot2 _ 0 j (Or.inl (Or.inl (by decide)))).trans ?_
  refine (canon2 _ 0 j 0 j (by simp) (Nat.zero_add _).symm).trans ?_
  exact p19 (rows3 t F _) (halo_rows (v := View.whole cc0_scratch0) (one_fills (p15 (rows0 t F _) (whole2 t F _) (rows3 t F _))) (pad5 t F h) rfl _) j

theorem dwp3_A (h : t.val % 8 = 0) (h' : ¬1 ≤ t.val) (a b : Fin 128) :
    (outsAt0 m c t.val t.isLt).2.2.2.2.1 (ix3 3 a b) = bsum (I.twp 3 a b) (base t.val) := by
  rw [outsAt0_A m c t h h h' h h' h h' h h' h h' h h' h h' h h' h h' ]
  dsimp only
  unfold out0_A_17
  rw [View.read_writes_eq_canon _ _ _ (fun y => cover0_A_17 (y := y) ..)]
  unfold kernelRun0_A
  dsimp only
  sl_unfold_words
  simp only [View.readAt_eq_ld, Memref.IsWhole.read_unread]
  refine (canon3 _ 0 a b 3 (by simp)).trans ?_
  exact p60 (p9 (rows0 t F _) (whole2 t F _)) (part9 t F 3 rfl _) (part5 t F 3 rfl _) a b

theorem dwp2_A (h : t.val % 8 = 0) (h' : ¬1 ≤ t.val) (a b : Fin 128) :
    (outsAt0 m c t.val t.isLt).2.2.2.2.1 (ix3 2 a b) = bsum (I.twp 2 a b) (base t.val) := by
  rw [outsAt0_A m c t h h h' h h' h h' h h' h h' h h' h h' h h' h h' ]
  dsimp only
  unfold out0_A_17
  rw [View.read_writes_eq_canon _ _ _ (fun y => cover0_A_17 (y := y) ..)]
  unfold kernelRun0_A
  dsimp only
  sl_unfold_words
  simp only [View.readAt_eq_ld, Memref.IsWhole.read_unread]
  refine (canonNot3 _ 2 a b (Or.inl (by decide))).trans ?_
  refine (canon3 _ 0 a b 2 (by simp)).trans ?_
  exact p50 (p9 (rows0 t F _) (whole2 t F _)) (part9 t F 2 rfl _) (part5 t F 2 rfl _) a b

theorem dwp1_A (h : t.val % 8 = 0) (h' : ¬1 ≤ t.val) (a b : Fin 128) :
    (outsAt0 m c t.val t.isLt).2.2.2.2.1 (ix3 1 a b) = bsum (I.twp 1 a b) (base t.val) := by
  rw [outsAt0_A m c t h h h' h h' h h' h h' h h' h h' h h' h h' h h' ]
  dsimp only
  unfold out0_A_17
  rw [View.read_writes_eq_canon _ _ _ (fun y => cover0_A_17 (y := y) ..)]
  unfold kernelRun0_A
  dsimp only
  sl_unfold_words
  simp only [View.readAt_eq_ld, Memref.IsWhole.read_unread]
  refine (canonNot3 _ 1 a b (Or.inl (by decide))).trans ?_
  refine (canonNot3 _ 1 a b (Or.inl (by decide))).trans ?_
  refine (canon3 _ 0 a b 1 (by simp)).trans ?_
  exact p41 (p9 (rows0 t F _) (whole2 t F _)) (part9 t F 1 rfl _) (part5 t F 1 rfl _) a b

theorem dwp0_A (h : t.val % 8 = 0) (h' : ¬1 ≤ t.val) (a b : Fin 128) :
    (outsAt0 m c t.val t.isLt).2.2.2.2.1 (ix3 0 a b) = bsum (I.twp 0 a b) (base t.val) := by
  rw [outsAt0_A m c t h h h' h h' h h' h h' h h' h h' h h' h h' h h' ]
  dsimp only
  unfold out0_A_17
  rw [View.read_writes_eq_canon _ _ _ (fun y => cover0_A_17 (y := y) ..)]
  unfold kernelRun0_A
  dsimp only
  sl_unfold_words
  simp only [View.readAt_eq_ld, Memref.IsWhole.read_unread]
  refine (canonNot3 _ 0 a b (Or.inl (by decide))).trans ?_
  refine (canonNot3 _ 0 a b (Or.inl (by decide))).trans ?_
  refine (canonNot3 _ 0 a b (Or.inl (by decide))).trans ?_
  refine (canon3 _ 0 a b 0 (by simp)).trans ?_
  exact p33 (p9 (rows0 t F _) (whole2 t F _)) (part9 t F 0 rfl _) (part5 t F 0 rfl _) a b

theorem dps_A (h : t.val % 8 = 0) (h' : ¬1 ≤ t.val) (j : Fin 512) :
    (outsAt0 m c t.val t.isLt).2.2.2.2.2.1 (ix2 0 j) = bsum (I.tps j) (base t.val) := by
  rw [outsAt0_A m c t h h h' h h' h h' h h' h h' h h' h h' h h' h h' ]
  dsimp only
  unfold out0_A_18
  rw [View.read_writes_eq_canon _ _ _ (fun y => cover0_A_18 (y := y) ..)]
  unfold kernelRun0_A
  dsimp only
  sl_unfold_words
  simp only [View.readAt_eq_ld, Memref.IsWhole.read_unread]
  refine (canon2 _ 0 j 0 j (Nat.zero_add _).symm (Nat.zero_add _).symm).trans ?_
  exact p65 (p30 (p9 (rows0 t F _) (whole2 t F _)) (part5 t F 0 rfl _) (part7 t F 0 rfl _)) (p38 (p9 (rows0 t F _) (whole2 t F _)) (part5 t F 1 rfl _) (part7 t F 1 rfl _)) (p47 (p9 (rows0 t F _) (whole2 t F _)) (part5 t F 2 rfl _) (part7 t F 2 rfl _)) (p57 (p9 (rows0 t F _) (whole2 t F _)) (part5 t F 3 rfl _) (part7 t F 3 rfl _)) j

theorem carry0_A (h : t.val % 8 = 0) (h' : ¬1 ≤ t.val) (i : Fin 528) (j : Fin 512) (hi : 512 ≤ i.val) :
    (outsAt0 m c t.val t.isLt).2.2.2.2.2.2.1 (ix2 i j) = I.dcq (base t.val + (i.val - 512)) j := by
  rw [outsAt0_A m c t h h h' h h' h h' h h' h h' h h' h h' h h' h h' ]
  dsimp only
  unfold sout0_A_0
  rw [View.read_writes_eq_canon _ _ _ (fun y => scover0_A_0 (y := y) ..)]
  unfold kernelRun0_A
  dsimp only
  sl_unfold_words
  simp only [View.readAt_eq_ld, Memref.IsWhole.read_unread]
  refine (canon2 _ ⟨i.val - 512, by omega⟩ j i j (by simp; omega) (Nat.zero_add _).symm).trans ?_
  refine (p3 _ _ j).trans ?_
  exact top_halo (one_fills (p15 (rows0 t F _) (whole2 t F _) (rows3 t F _))) (pad5 t F h) rfl _ _ j

theorem carry1_A (h : t.val % 8 = 0) (h' : ¬1 ≤ t.val) (i : Fin 528) (j : Fin 512) (hi : 512 ≤ i.val) :
    (outsAt0 m c t.val t.isLt).2.2.2.2.2.2.2 (ix2 i j) = I.e (base t.val + (i.val - 512)) j := by
  rw [outsAt0_A m c t h h h' h h' h h' h h' h h' h h' h h' h h' h h' ]
  dsimp only
  unfold sout0_A_1
  rw [View.read_writes_eq_canon _ _ _ (fun y => scover0_A_1 (y := y) ..)]
  unfold kernelRun0_A
  dsimp only
  sl_unfold_words
  simp only [View.readAt_eq_ld, Memref.IsWhole.read_unread]
  refine (canon2 _ ⟨i.val - 512, by omega⟩ j i j (by simp; omega) (Nat.zero_add _).symm).trans ?_
  refine (p4 _ _ j).trans ?_
  exact top_halo (four_fills (p36 (coord_lt t) (coord_base t) (p9 (rows0 t F _) (whole2 t F _)) (part9 t F 0 rfl _) (part8 t F 0 rfl _)) (p44 (coord_lt t) (coord_base t) (p9 (rows0 t F _) (whole2 t F _)) (part9 t F 1 rfl _) (part8 t F 1 rfl _)) (p55 (coord_lt t) (coord_base t) (p9 (rows0 t F _) (whole2 t F _)) (part9 t F 2 rfl _) (part8 t F 2 rfl _)) (p64 (coord_lt t) (coord_base t) (p9 (rows0 t F _) (whole2 t F _)) (part9 t F 3 rfl _) (part8 t F 3 rfl _))) (pad6 t F h) rfl _ _ j

theorem dca2_B (h : ¬t.val % 8 = 0) (h' : 1 ≤ t.val)
    (hC : ∀ (i : Fin 528) (j : Fin 512), 512 ≤ i.val → (outsAt0 m c (t.val - 1) (Nat.lt_of_le_of_lt (Nat.sub_le _ _) t.isLt)).2.2.2.2.2.2.1 (ix2 i j) = I.dcq (base t.val + i.val) j) (j : Fin 512) :
    (outsAt0 m c t.val t.isLt).2.2.2.1 (ix2 2 j) = (outsAt0 m c (t.val - 1) (Nat.lt_of_le_of_lt (Nat.sub_le _ _) t.isLt)).2.2.2.1 (ix2 2 j) + bsum (I.tca 2 j) (base t.val) := by
  rw [outsAt0_B m c t h h h' h h' h h' h h' h h' h h' h h' h h' h h' ]
  dsimp only
  unfold out0_B_16
  rw [View.read_writes_eq_canon _ _ _ (fun y => cover0_B_16 (y := y) ..)]
  unfold kernelRun0_B
  dsimp only
  sl_unfold_words
  simp only [View.readAt_eq_ld, Memref.IsWhole.read_unread]
  refine (canon2 _ 0 j 2 j (by simp) (Nat.zero_add _).symm).trans ?_
  refine (p24 _ j).trans (congr (congrArg HAdd.hAdd (ld2 _ _ 0 j 2 j (by simp) (Nat.zero_add _).symm)) ?_)
  exact p23 (p14 (rows0 t F _) (whole2 t F _) (rows3 t F _)) (p18 (rows3 t F _)) j

theorem dca1_B (h : ¬t.val % 8 = 0) (h' : 1 ≤ t.val)
    (hC : ∀ (i : Fin 528) (j : Fin 512), 512 ≤ i.val → (outsAt0 m c (t.val - 1) (Nat.lt_of_le_of_lt (Nat.sub_le _ _) t.isLt)).2.2.2.2.2.2.1 (ix2 i j) = I.dcq (base t.val + i.val) j) (j : Fin 512) :
    (outsAt0 m c t.val t.isLt).2.2.2.1 (ix2 1 j) = (outsAt0 m c (t.val - 1) (Nat.lt_of_le_of_lt (Nat.sub_le _ _) t.isLt)).2.2.2.1 (ix2 1 j) + bsum (I.tca 1 j) (base t.val) := by
  rw [outsAt0_B m c t h h h' h h' h h' h h' h h' h h' h h' h h' h h' ]
  dsimp only
  unfold out0_B_16
  rw [View.read_writes_eq_canon _ _ _ (fun y => cover0_B_16 (y := y) ..)]
  unfold kernelRun0_B
  dsimp only
  sl_unfold_words
  simp only [View.readAt_eq_ld, Memref.IsWhole.read_unread]
  refine (canonNot2 _ 1 j (Or.inl (Or.inl (by decide)))).trans ?_
  refine (canon2 _ 0 j 1 j (by simp) (Nat.zero_add _).symm).trans ?_
  refine (p22 _ j).trans (congr (congrArg HAdd.hAdd (ld2 _ _ 0 j 1 j (by simp) (Nat.zero_add _).symm)) ?_)
  exact p21 (p16 (over_rows (v := View.whole cc0_scratch0) (one_fills (p15 (rows0 t F _) (whole2 t F _) (rows3 t F _))) (left0 hC) _)) (p18 (rows3 t F _)) j

theorem dca0_B (h : ¬t.val % 8 = 0) (h' : 1 ≤ t.val)
    (hC : ∀ (i : Fin 528) (j : Fin 512), 512 ≤ i.val → (outsAt0 m c (t.val - 1) (Nat.lt_of_le_of_lt (Nat.sub_le _ _) t.isLt)).2.2.2.2.2.2.1 (ix2 i j) = I.dcq (base t.val + i.val) j) (j : Fin 512) :
    (outsAt0 m c t.val t.isLt).2.2.2.1 (ix2 0 j) = (outsAt0 m c (t.val - 1) (Nat.lt_of_le_of_lt (Nat.sub_le _ _) t.isLt)).2.2.2.1 (ix2 0 j) + bsum (I.tca 0 j) (base t.val) := by
  rw [outsAt0_B m c t h h h' h h' h h' h h' h h' h h' h h' h h' h h' ]
  dsimp only
  unfold out0_B_16
  rw [View.read_writes_eq_canon _ _ _ (fun y => cover0_B_16 (y := y) ..)]
  unfold kernelRun0_B
  dsimp only
  sl_unfold_words
  simp only [View.readAt_eq_ld, Memref.IsWhole.read_unread]
  refine (canonNot2 _ 0 j (Or.inl (Or.inl (by decide)))).trans ?_
  refine (canonNot2 _ 0 j (Or.inl (Or.inl (by decide)))).trans ?_
  refine (canon2 _ 0 j 0 j (by simp) (Nat.zero_add _).symm).trans ?_
  refine (p20 _ _ j).trans (congr (congrArg HAdd.hAdd (ld2 _ _ 0 j 0 j (by simp) (Nat.zero_add _).symm)) ?_)
  exact p19 (rows3 t F _) (over_rows (v := View.whole cc0_scratch0) (one_fills (p15 (rows0 t F _) (whole2 t F _) (rows3 t F _))) (left0 hC) _) j

theorem dwp3_B (h : ¬t.val % 8 = 0) (h' : 1 ≤ t.val) (a b : Fin 128) :
    (outsAt0 m c t.val t.isLt).2.2.2.2.1 (ix3 3 a b) = (outsAt0 m c (t.val - 1) (Nat.lt_of_le_of_lt (Nat.sub_le _ _) t.isLt)).2.2.2.2.1 (ix3 3 a b) + bsum (I.twp 3 a b) (base t.val) := by
  rw [outsAt0_B m c t h h h' h h' h h' h h' h h' h h' h h' h h' h h' ]
  dsimp only
  unfold out0_B_17
  rw [View.read_writes_eq_canon _ _ _ (fun y => cover0_B_17 (y := y) ..)]
  unfold kernelRun0_B
  dsimp only
  sl_unfold_words
  simp only [View.readAt_eq_ld, Memref.IsWhole.read_unread]
  refine (canon3 _ 0 a b 3 (by simp)).trans ?_
  refine (p61 (p9 (rows0 t F _) (whole2 t F _)) (part9 t F 3 rfl _) (part5 t F 3 rfl _) _ a b).trans (congrArg (· + _) ?_)
  exact ld3 _ _ 0 a b 3 (by simp)

theorem dwp2_B (h : ¬t.val % 8 = 0) (h' : 1 ≤ t.val) (a b : Fin 128) :
    (outsAt0 m c t.val t.isLt).2.2.2.2.1 (ix3 2 a b) = (outsAt0 m c (t.val - 1) (Nat.lt_of_le_of_lt (Nat.sub_le _ _) t.isLt)).2.2.2.2.1 (ix3 2 a b) + bsum (I.twp 2 a b) (base t.val) := by
  rw [outsAt0_B m c t h h h' h h' h h' h h' h h' h h' h h' h h' h h' ]
  dsimp only
  unfold out0_B_17
  rw [View.read_writes_eq_canon _ _ _ (fun y => cover0_B_17 (y := y) ..)]
  unfold kernelRun0_B
  dsimp only
  sl_unfold_words
  simp only [View.readAt_eq_ld, Memref.IsWhole.read_unread]
  refine (canonNot3 _ 2 a b (Or.inl (by decide))).trans ?_
  refine (canon3 _ 0 a b 2 (by simp)).trans ?_
  refine (p51 (p9 (rows0 t F _) (whole2 t F _)) (part9 t F 2 rfl _) (part5 t F 2 rfl _) _ a b).trans (congrArg (· + _) ?_)
  exact ld3 _ _ 0 a b 2 (by simp)

theorem dwp1_B (h : ¬t.val % 8 = 0) (h' : 1 ≤ t.val) (a b : Fin 128) :
    (outsAt0 m c t.val t.isLt).2.2.2.2.1 (ix3 1 a b) = (outsAt0 m c (t.val - 1) (Nat.lt_of_le_of_lt (Nat.sub_le _ _) t.isLt)).2.2.2.2.1 (ix3 1 a b) + bsum (I.twp 1 a b) (base t.val) := by
  rw [outsAt0_B m c t h h h' h h' h h' h h' h h' h h' h h' h h' h h' ]
  dsimp only
  unfold out0_B_17
  rw [View.read_writes_eq_canon _ _ _ (fun y => cover0_B_17 (y := y) ..)]
  unfold kernelRun0_B
  dsimp only
  sl_unfold_words
  simp only [View.readAt_eq_ld, Memref.IsWhole.read_unread]
  refine (canonNot3 _ 1 a b (Or.inl (by decide))).trans ?_
  refine (canonNot3 _ 1 a b (Or.inl (by decide))).trans ?_
  refine (canon3 _ 0 a b 1 (by simp)).trans ?_
  refine (p42 (p9 (rows0 t F _) (whole2 t F _)) (part9 t F 1 rfl _) (part5 t F 1 rfl _) _ a b).trans (congrArg (· + _) ?_)
  exact ld3 _ _ 0 a b 1 (by simp)

theorem dwp0_B (h : ¬t.val % 8 = 0) (h' : 1 ≤ t.val) (a b : Fin 128) :
    (outsAt0 m c t.val t.isLt).2.2.2.2.1 (ix3 0 a b) = (outsAt0 m c (t.val - 1) (Nat.lt_of_le_of_lt (Nat.sub_le _ _) t.isLt)).2.2.2.2.1 (ix3 0 a b) + bsum (I.twp 0 a b) (base t.val) := by
  rw [outsAt0_B m c t h h h' h h' h h' h h' h h' h h' h h' h h' h h' ]
  dsimp only
  unfold out0_B_17
  rw [View.read_writes_eq_canon _ _ _ (fun y => cover0_B_17 (y := y) ..)]
  unfold kernelRun0_B
  dsimp only
  sl_unfold_words
  simp only [View.readAt_eq_ld, Memref.IsWhole.read_unread]
  refine (canonNot3 _ 0 a b (Or.inl (by decide))).trans ?_
  refine (canonNot3 _ 0 a b (Or.inl (by decide))).trans ?_
  refine (canonNot3 _ 0 a b (Or.inl (by decide))).trans ?_
  refine (canon3 _ 0 a b 0 (by simp)).trans ?_
  refine (p34 (p9 (rows0 t F _) (whole2 t F _)) (part9 t F 0 rfl _) (part5 t F 0 rfl _) _ a b).trans (congrArg (· + _) ?_)
  exact ld3 _ _ 0 a b 0 (by simp)

theorem dps_B (h : ¬t.val % 8 = 0) (h' : 1 ≤ t.val) (j : Fin 512) :
    (outsAt0 m c t.val t.isLt).2.2.2.2.2.1 (ix2 0 j) = (outsAt0 m c (t.val - 1) (Nat.lt_of_le_of_lt (Nat.sub_le _ _) t.isLt)).2.2.2.2.2.1 (ix2 0 j) + bsum (I.tps j) (base t.val) := by
  rw [outsAt0_B m c t h h h' h h' h h' h h' h h' h h' h h' h h' h h' ]
  dsimp only
  unfold out0_B_18
  rw [View.read_writes_eq_canon _ _ _ (fun y => cover0_B_18 (y := y) ..)]
  unfold kernelRun0_B
  dsimp only
  sl_unfold_words
  simp only [View.readAt_eq_ld, Memref.IsWhole.read_unread]
  refine (canon2 _ 0 j 0 j (Nat.zero_add _).symm (Nat.zero_add _).symm).trans ?_
  refine (p66 _ _ _ _ _ j).trans (congr (congrArg HAdd.hAdd (ld2 _ _ 0 j 0 j (by simp) (Nat.zero_add _).symm)) ?_)
  exact p65 (p30 (p9 (rows0 t F _) (whole2 t F _)) (part5 t F 0 rfl _) (part7 t F 0 rfl _)) (p38 (p9 (rows0 t F _) (whole2 t F _)) (part5 t F 1 rfl _) (part7 t F 1 rfl _)) (p47 (p9 (rows0 t F _) (whole2 t F _)) (part5 t F 2 rfl _) (part7 t F 2 rfl _)) (p57 (p9 (rows0 t F _) (whole2 t F _)) (part5 t F 3 rfl _) (part7 t F 3 rfl _)) j

theorem carry0_B (h : ¬t.val % 8 = 0) (h' : 1 ≤ t.val) (i : Fin 528) (j : Fin 512) (hi : 512 ≤ i.val) :
    (outsAt0 m c t.val t.isLt).2.2.2.2.2.2.1 (ix2 i j) = I.dcq (base t.val + (i.val - 512)) j := by
  rw [outsAt0_B m c t h h h' h h' h h' h h' h h' h h' h h' h h' h h' ]
  dsimp only
  unfold sout0_B_0
  rw [View.read_writes_eq_canon _ _ _ (fun y => scover0_B_0 (y := y) ..)]
  unfold kernelRun0_B
  dsimp only
  sl_unfold_words
  simp only [View.readAt_eq_ld, Memref.IsWhole.read_unread]
  refine (canon2 _ ⟨i.val - 512, by omega⟩ j i j (by simp; omega) (Nat.zero_add _).symm).trans ?_
  refine (p3 _ _ j).trans ?_
  exact top_rows (one_fills (p15 (rows0 t F _) (whole2 t F _) (rows3 t F _))) _ _ j

theorem carry1_B (h : ¬t.val % 8 = 0) (h' : 1 ≤ t.val) (i : Fin 528) (j : Fin 512) (hi : 512 ≤ i.val) :
    (outsAt0 m c t.val t.isLt).2.2.2.2.2.2.2 (ix2 i j) = I.e (base t.val + (i.val - 512)) j := by
  rw [outsAt0_B m c t h h h' h h' h h' h h' h h' h h' h h' h h' h h' ]
  dsimp only
  unfold sout0_B_1
  rw [View.read_writes_eq_canon _ _ _ (fun y => scover0_B_1 (y := y) ..)]
  unfold kernelRun0_B
  dsimp only
  sl_unfold_words
  simp only [View.readAt_eq_ld, Memref.IsWhole.read_unread]
  refine (canon2 _ ⟨i.val - 512, by omega⟩ j i j (by simp; omega) (Nat.zero_add _).symm).trans ?_
  refine (p4 _ _ j).trans ?_
  exact top_rows (four_fills (p36 (coord_lt t) (coord_base t) (p9 (rows0 t F _) (whole2 t F _)) (part9 t F 0 rfl _) (part8 t F 0 rfl _)) (p44 (coord_lt t) (coord_base t) (p9 (rows0 t F _) (whole2 t F _)) (part9 t F 1 rfl _) (part8 t F 1 rfl _)) (p55 (coord_lt t) (coord_base t) (p9 (rows0 t F _) (whole2 t F _)) (part9 t F 2 rfl _) (part8 t F 2 rfl _)) (p64 (coord_lt t) (coord_base t) (p9 (rows0 t F _) (whole2 t F _)) (part9 t F 3 rfl _) (part8 t F 3 rfl _))) _ _ j

end Cert.Even
-- ==== Proof.State.lean ====
/-
  What every grid point leaves, by induction on the point, and the six arrays at the end.
-/
module

public import proofs.«01_k».proof.Proof.Win1
public import proofs.«01_k».proof.Proof.Win2
public import proofs.«01_k».proof.Proof.Gen.KernelIdeal.Value

@[expose] public section

set_option maxRecDepth 16384

noncomputable section

open Idealize.ShloMosaic Idealize.ShloMosaic.TcCoe Idealize.SL.Sem

namespace Cert.Even

open Cert.KernelIdeal Cert.KernelIdeal.Gen

open Cert.KernelIdeal.Value

/-- What a grid point leaves: its rows of the two arrays, the sums over the rows from its block to the end, and in the
    scratch buffers' halos the first rows of its block. -/
structure St (m : (ℓ : Loc nD τ sig) → Buf (Elt Ideal) ℓ) (c : Dev nD) (I : In) (n : ℕ) (h : n < cfg0.N) : Prop where
  dproj : Rows (φ := .bf16) (outsAt0 m c n h).1 I.dproj (base n)
  dx : Rows (φ := .f32) (outsAt0 m c n h).2.1 I.dx (base n)
  dgain : ∀ j : Fin 1024, (outsAt0 m c n h).2.2.1 (ix2 0 j) = tail (I.tg j) (base n)
  dca : ∀ (k : Fin 3) (j : Fin 512), (outsAt0 m c n h).2.2.2.1 (ix2 k j) = tail (I.tca k j) (base n)
  dwp : ∀ (g : Fin 4) (a b : Fin 128), (outsAt0 m c n h).2.2.2.2.1 (ix3 g a b) = tail (I.twp g a b) (base n)
  dps : ∀ j : Fin 512, (outsAt0 m c n h).2.2.2.2.2.1 (ix2 0 j) = tail (I.tps j) (base n)
  c0 : ∀ (i : Fin 528) (j : Fin 512), 512 ≤ i.val → (outsAt0 m c n h).2.2.2.2.2.2.1 (ix2 i j) = I.dcq (base n + (i.val - 512)) j
  c1 : ∀ (i : Fin 528) (j : Fin 512), 512 ≤ i.val → (outsAt0 m c n h).2.2.2.2.2.2.2 (ix2 i j) = I.e (base n + (i.val - 512)) j

variable {m : (ℓ : Loc nD τ sig) → Buf (Elt Ideal) ℓ} {c : Dev nD} {I : In} (F : Feeds m c I)

theorem first_sum (f : ℕ → EReal) (h : 0 < cfg0.N) : bsum f (base (⟨0, h⟩ : Fin cfg0.N).val) = tail f (base 0) := (tail_first f).symm

theorem next_sum (f : ℕ → EReal) {n : ℕ} (h : n + 1 < 8) : tail f (base n) + bsum f (base (n + 1)) = tail f (base (n + 1)) := by
  have e : base n = base (n + 1) + 512 := by unfold base; omega
  rw [e]
  exact tail_step f (by unfold base; omega)

include F

theorem st_first (h : 0 < cfg0.N) : St m c I 0 h where
  dproj := (proj_A ⟨0, h⟩ F rfl (Nat.not_succ_le_zero 0)).1
  dx := (proj_A ⟨0, h⟩ F rfl (Nat.not_succ_le_zero 0)).2.1
  dgain j := ((proj_A ⟨0, h⟩ F rfl (Nat.not_succ_le_zero 0)).2.2 j).trans (first_sum _ h)
  dca := fun k j => match k with
    | ⟨0, _⟩ => (dca0_A ⟨0, h⟩ F rfl (Nat.not_succ_le_zero 0) j).trans (first_sum _ h)
    | ⟨1, _⟩ => (dca1_A ⟨0, h⟩ F rfl (Nat.not_succ_le_zero 0) j).trans (first_sum _ h)
    | ⟨2, _⟩ => (dca2_A ⟨0, h⟩ F rfl (Nat.not_succ_le_zero 0) j).trans (first_sum _ h)
  dwp := fun g a b => match g with
    | ⟨0, _⟩ => (dwp0_A ⟨0, h⟩ F rfl (Nat.not_succ_le_zero 0) a b).trans (first_sum _ h)
    | ⟨1, _⟩ => (dwp1_A ⟨0, h⟩ F rfl (Nat.not_succ_le_zero 0) a b).trans (first_sum _ h)
    | ⟨2, _⟩ => (dwp2_A ⟨0, h⟩ F rfl (Nat.not_succ_le_zero 0) a b).trans (first_sum _ h)
    | ⟨3, _⟩ => (dwp3_A ⟨0, h⟩ F rfl (Nat.not_succ_le_zero 0) a b).trans (first_sum _ h)
  dps j := (dps_A ⟨0, h⟩ F rfl (Nat.not_succ_le_zero 0) j).trans (first_sum _ h)
  c0 := carry0_A ⟨0, h⟩ F rfl (Nat.not_succ_le_zero 0)
  c1 := carry1_A ⟨0, h⟩ F rfl (Nat.not_succ_le_zero 0)

theorem st_next {n : ℕ} (h : n + 1 < cfg0.N) (S : St m c I n (Nat.lt_of_succ_lt h)) : St m c I (n + 1) h := by
  have h8 : n + 1 < 8 := lt_of_lt_of_eq h N_0
  have hA : ¬(⟨n + 1, h⟩ : Fin cfg0.N).val % 8 = 0 := by show ¬(n + 1) % 8 = 0; omega
  have hB : 1 ≤ (⟨n + 1, h⟩ : Fin cfg0.N).val := Nat.le_add_left 1 n
  have hr : ∀ i : Fin 528, 512 ≤ i.val → base n + (i.val - 512) = base (n + 1) + i.val := by intro i hi; unfold base; omega
  have hC := fun (i : Fin 528) (j : Fin 512) (hi : 512 ≤ i.val) => (S.c0 i j hi).trans (congrArg (fun r => I.dcq r j) (hr i hi))
  have hE := fun (i : Fin 528) (j : Fin 512) (hi : 512 ≤ i.val) => (S.c1 i j hi).trans (congrArg (fun r => I.e r j) (hr i hi))
  have hs : ∀ {x y : EReal} {f : ℕ → EReal}, x = y + bsum f (base (n + 1)) → y = tail f (base n) → x = tail f (base (n + 1)) := by
    intro x y f hx hy
    rw [hx, hy, next_sum f h8]
  exact
  { dproj := (proj_B ⟨n + 1, h⟩ F hA hB hC hE).1
    dx := (proj_B ⟨n + 1, h⟩ F hA hB hC hE).2.1
    dgain := fun j => hs ((proj_B ⟨n + 1, h⟩ F hA hB hC hE).2.2 j) (S.dgain j)
    dca := fun k j => match k with
      | ⟨0, _⟩ => hs (dca0_B ⟨n + 1, h⟩ F hA hB hC j) (S.dca 0 j)
      | ⟨1, _⟩ => hs (dca1_B ⟨n + 1, h⟩ F hA hB hC j) (S.dca 1 j)
      | ⟨2, _⟩ => hs (dca2_B ⟨n + 1, h⟩ F hA hB hC j) (S.dca 2 j)
    dwp := fun g a b => match g with
      | ⟨0, _⟩ => hs (dwp0_B ⟨n + 1, h⟩ F hA hB a b) (S.dwp 0 a b)
      | ⟨1, _⟩ => hs (dwp1_B ⟨n + 1, h⟩ F hA hB a b) (S.dwp 1 a b)
      | ⟨2, _⟩ => hs (dwp2_B ⟨n + 1, h⟩ F hA hB a b) (S.dwp 2 a b)
      | ⟨3, _⟩ => hs (dwp3_B ⟨n + 1, h⟩ F hA hB a b) (S.dwp 3 a b)
    dps := fun j => hs (dps_B ⟨n + 1, h⟩ F hA hB j) (S.dps j)
    c0 := carry0_B ⟨n + 1, h⟩ F hA hB
    c1 := carry1_B ⟨n + 1, h⟩ F hA hB }

theorem st : ∀ (n : ℕ) (h : n < cfg0.N), St m c I n h
  | 0, h => st_first F h
  | n + 1, h => st_next F h (st n (Nat.lt_of_succ_lt h))

/-- The grid point whose block holds a row. -/
def pt (r : Fin 4096) : Fin cfg0.N := ⟨7 - r.val / 512, lt_of_lt_of_eq (by omega) N_0.symm⟩

omit F in
theorem row_pt (r : Fin 4096) : rowAt (pt r).val ⟨r.val % 512, Nat.mod_lt _ (by decide)⟩ = r := by
  apply Fin.ext
  show base (7 - r.val / 512) + r.val % 512 = r.val
  unfold base
  omega

omit F in
theorem base_pt (r : Fin 4096) : base (pt r).val + r.val % 512 = r.val := congrArg Fin.val (row_pt r)

theorem end_dproj (r : Fin 4096) (j : Fin 2048) :
    ((dats m 0 c).arrAt 13 cfg0.N : FVec Ideal S4096x2048 .bf16) (ix2 r j) = I.dproj r.val j := by
  have hb := congrFun (blocks13 m c (pt r) (flush0_13 _)) (ix2 ⟨r.val % 512, Nat.mod_lt _ (by decide)⟩ j)
  rw [flushed13] at hb
  have hS := (st F (pt r).val (pt r).isLt).dproj ⟨r.val % 512, Nat.mod_lt _ (by decide)⟩ j
  rw [show base (pt r).val + (⟨r.val % 512, Nat.mod_lt _ (by decide)⟩ : Fin 512).val = r.val from base_pt r] at hS
  refine Eq.trans ?_ (hb.trans hS)
  exact ((rd2 ((dats m 0 c).arrAt 13 cfg0.N : FVec Ideal S4096x2048 .bf16) _ r j
    ((row_off (idx_row (pt r)).2.2.2.2.2.2.1.1 (Nat.mod_lt _ (by decide))).trans (base_pt r)) (zero_off (idx_row (pt r)).2.2.2.2.2.2.1.2))).symm

theorem end_dx (r : Fin 4096) (j : Fin 1024) :
    ((dats m 0 c).arrAt 14 cfg0.N : FVec Ideal S4096x1024 .f32) (ix2 r j) = I.dx r.val j := by
  have hb := congrFun (blocks14 m c (pt r) (flush0_14 _)) (ix2 ⟨r.val % 512, Nat.mod_lt _ (by decide)⟩ j)
  rw [flushed14] at hb
  have hS := (st F (pt r).val (pt r).isLt).dx ⟨r.val % 512, Nat.mod_lt _ (by decide)⟩ j
  rw [show base (pt r).val + (⟨r.val % 512, Nat.mod_lt _ (by decide)⟩ : Fin 512).val = r.val from base_pt r] at hS
  refine Eq.trans ?_ (hb.trans hS)
  exact ((rd2 ((dats m 0 c).arrAt 14 cfg0.N : FVec Ideal S4096x1024 .f32) _ r j
    ((row_off (idx_row (pt r)).2.2.2.2.2.2.2.1 (Nat.mod_lt _ (by decide))).trans (base_pt r)) (zero_off (idx_row (pt r)).2.2.2.2.2.2.2.2))).symm

/-- The last grid point. -/
def fin7 : Fin cfg0.N := ⟨7, lt_of_lt_of_eq (by decide) N_0.symm⟩

omit F in
theorem only7 {t : Fin cfg0.N} (h : t.val % 8 = 7) : t = fin7 := by
  have h8 : t.val < 8 := lt_of_lt_of_eq t.isLt N_0
  exact Fin.ext (by show t.val = 7; omega)

omit F in
theorem idx_last : ∀ t : Fin grid0.N, (win0_15.index t 0 = 0 ∧ win0_15.index t 1 = 0) ∧ (win0_16.index t 0 = 0 ∧ win0_16.index t 1 = 0)
    ∧ (win0_17.index t 0 = 0 ∧ win0_17.index t 1 = 0 ∧ win0_17.index t 2 = 0) ∧ (win0_18.index t 0 = 0 ∧ win0_18.index t 1 = 0) := by
  decide +kernel

omit F in
theorem base7 : base 7 = 0 := rfl

theorem end_dgain (j : Fin 1024) :
    ((dats m 0 c).arrAt 15 cfg0.N : FVec Ideal S1x1024 .f32) (ix2 0 j) = ∑ r : Fin 4096, I.tg j r.val := by
  have hb := congrFun ((dats m 0 c).read_blk_arrAt_eq_flushed 15 (fun t t' h h' hn => absurd ((only7 ((flush0_15 t).mp h)).trans (only7 ((flush0_15 t').mp h')).symm) hn)
    cfg0.N fin7 fin7.isLt ((flush0_15 fin7).mpr rfl)) (ix2 0 j)
  rw [flushed15] at hb
  refine Eq.trans ?_ (hb.trans (((st F 7 fin7.isLt).dgain j).trans (tail_zero _)))
  exact (rd2 ((dats m 0 c).arrAt 15 cfg0.N : FVec Ideal S1x1024 .f32) _ 0 j (zero_off (idx_last fin7).1.1) (zero_off (idx_last fin7).1.2)).symm

theorem end_dca (k : Fin 3) (j : Fin 512) :
    ((dats m 0 c).arrAt 16 cfg0.N : FVec Ideal S3x512 .f32) (ix2 k j) = ∑ r : Fin 4096, I.tca k j r.val := by
  have hb := congrFun ((dats m 0 c).read_blk_arrAt_eq_flushed 16 (fun t t' h h' hn => absurd ((only7 ((flush0_16 t).mp h)).trans (only7 ((flush0_16 t').mp h')).symm) hn)
    cfg0.N fin7 fin7.isLt ((flush0_16 fin7).mpr rfl)) (ix2 k j)
  rw [flushed16] at hb
  refine Eq.trans ?_ (hb.trans (((st F 7 fin7.isLt).dca k j).trans (tail_zero _)))
  exact (rd2 ((dats m 0 c).arrAt 16 cfg0.N : FVec Ideal S3x512 .f32) _ k j (zero_off (idx_last fin7).2.1.1) (zero_off (idx_last fin7).2.1.2)).symm

theorem end_dwp (g : Fin 4) (a b : Fin 128) :
    ((dats m 0 c).arrAt 17 cfg0.N : FVec Ideal S4x128x128 .f32) (ix3 g a b) = ∑ r : Fin 4096, I.twp g a b r.val := by
  have hb := congrFun ((dats m 0 c).read_blk_arrAt_eq_flushed 17 (fun t t' h h' hn => absurd ((only7 ((flush0_17 t).mp h)).trans (only7 ((flush0_17 t').mp h')).symm) hn)
    cfg0.N fin7 fin7.isLt ((flush0_17 fin7).mpr rfl)) (ix3 g a b)
  rw [flushed17] at hb
  refine Eq.trans ?_ (hb.trans (((st F 7 fin7.isLt).dwp g a b).trans (tail_zero _)))
  exact (rd3 ((dats m 0 c).arrAt 17 cfg0.N : FVec Ideal S4x128x128 .f32) _ g a b (zero_off (idx_last fin7).2.2.1.1) (zero_off (idx_last fin7).2.2.1.2.1) (zero_off (idx_last fin7).2.2.1.2.2)).symm

theorem end_dps (j : Fin 512) :
    ((dats m 0 c).arrAt 18 cfg0.N : FVec Ideal S1x512 .f32) (ix2 0 j) = ∑ r : Fin 4096, I.tps j r.val := by
  have hb := congrFun ((dats m 0 c).read_blk_arrAt_eq_flushed 18 (fun t t' h h' hn => absurd ((only7 ((flush0_18 t).mp h)).trans (only7 ((flush0_18 t').mp h')).symm) hn)
    cfg0.N fin7 fin7.isLt ((flush0_18 fin7).mpr rfl)) (ix2 0 j)
  rw [flushed18] at hb
  refine Eq.trans ?_ (hb.trans (((st F 7 fin7.isLt).dps j).trans (tail_zero _)))
  exact (rd2 ((dats m 0 c).arrAt 18 cfg0.N : FVec Ideal S1x512 .f32) _ 0 j (zero_off (idx_last fin7).2.2.2.1) (zero_off (idx_last fin7).2.2.2.2)).symm

end Cert.Even
-- ==== Proof.Mk.lean ====
/-
  The arrays of the backward pass as the reference computes them.
-/
module

public import proofs.«01_k».proof.Proof.Spec
public import proofs.«01_k».proof.Proof.Gen.ReferenceIdeal.Run

@[expose] public section

set_option maxRecDepth 16384

noncomputable section

open Idealize.ShloMosaic Idealize.ShloMosaic.TcCoe Idealize.SL.Sem

namespace Cert.Even

open Cert.ReferenceIdeal Cert.ReferenceIdeal.Gen Cert.ReferenceIdeal.Value

/-- A matrix of 4096 rows as a function of the row's number, zero past the last row. -/
def rows {n : ℕ} {φ : FTy} (X : FVec Ideal ⟨2, ![4096, n]⟩ φ) (r : ℕ) (k : Fin n) : EReal :=
  if h : r < 4096 then X (ix2 ⟨r, h⟩ k) else 0

theorem rows_at {n : ℕ} {φ : FTy} (X : FVec Ideal ⟨2, ![4096, n]⟩ φ) (r : Fin 4096) (k : Fin n) :
    rows X r.val k = X (ix2 r k) := dif_pos r.isLt

theorem rows_past {n : ℕ} {φ : FTy} (X : FVec Ideal ⟨2, ![4096, n]⟩ φ) (r : ℕ) (k : Fin n) (h : 4096 ≤ r) :
    rows X r k = 0 := dif_neg (by omega)

variable (W : Valuation τ sig (Elt Ideal))

abbrev A0 : FVec Ideal S4096x1024 .f32 := W (Proc.devRef .tc main_arg0)
abbrev A1 : FVec Ideal S1x1024 .f32 := W (Proc.devRef .tc main_arg1)
abbrev A2 : FVec Ideal S1024x2048 .f32 := W (Proc.devRef .tc main_arg2)
abbrev A3 : FVec Ideal S3x512 .f32 := W (Proc.devRef .tc main_arg3)
abbrev A4 : FVec Ideal S4x128x128 .f32 := W (Proc.devRef .tc main_arg4)
abbrev A5 : FVec Ideal S1x512 .f32 := W (Proc.devRef .tc main_arg5)
abbrev A6 : FVec Ideal S1024x1024 .f32 := W (Proc.devRef .tc main_arg6)
abbrev A7 : FVec Ideal S4096x1024 .f32 := W (Proc.devRef .tc main_arg7)

/-- The arrays and weights of the backward pass from the reference's arguments and forward values. -/
def mkIn : In where
  dh := rows (A7 W)
  x := rows (A0 W)
  P := rows (φ := .f32) (res_main_v15 W)
  cq := rows (φ := .f32) (res_main_v43 W)
  pl := fun r j => if h : r < 4096 then (res_main_v111 W : FVec Ideal S4096x4x128 .f32) (ix3 ⟨r, h⟩ (grp j) (pos j)) else 0
  wo := fun i k => A6 W (ix2 i k)
  ca := fun i k => A3 W (ix2 i k)
  wp := fun g i k => A4 W (ix3 g i k)
  ps := fun k => A5 W (ix2 0 k)
  wi := fun i k => A2 W (ix2 i k)
  gn := fun k => A1 W (ix2 0 k)

end Cert.Even
-- ==== Proof.Groups.lean ====
/-
  The reference's pooled array, group by group.
-/
module

public import proofs.«01_k».proof.Proof.Gen.ReferenceIdeal.Run
public import Idealize.ShloMosaic.Lib.Pointwise

@[expose] public section

set_option maxRecDepth 16384

noncomputable section

open Idealize.ShloMosaic Idealize.ShloMosaic.TcCoe Idealize.SL.Sem

namespace Cert.Even

open Cert.ReferenceIdeal Cert.ReferenceIdeal.Gen Cert.ReferenceIdeal.Value

variable (W : Valuation τ sig (Elt Ideal))

/-- Group 0: the rows that the window leaves behind. -/
def low0 : FVec Ideal S4094x128 .f32 := extractStridedSlice S4094x128 ![0, 0] (res_main_v52 W) slices_S4096x128_S4094x128_0_0

/-- Group 0: the window's mean less the row. -/
def pool0 : FVec Ideal S4096x1x128 .f32 :=
  (broadcastInDim S4096x1x128 ![0, 2] bcast_S4096x128_S4096x1x128_0_2 (subf (Host.divf (subf (res_main_v52 W) (concatenate S4096x128 0 [⟨S2x128, (broadcastInDim S2x128 ![] bcast_S_S2x128 (constant S_ .f32 0x00000000#32))⟩, ⟨S4094x128, (extractStridedSlice S4094x128 ![0, 0] (res_main_v52 W) slices_S4096x128_S4094x128_0_0)⟩] concatenates_S2x128_S4094x128_S4096x128_d0)) (broadcastInDim S4096x128 ![0, 1] bcast_S4096x1_S4096x128_0_1 (res_main_v58 W))) (shapeCast _ (extractStridedSlice S4096x1x128 ![0, 0, 0] (res_main_v45 W) slices_S4096x4x128_S4096x1x128_0_0_0) shapeCasts_S4096x1x128_S4096x128)))

/-- Group 1: the rows that the window leaves behind. -/
def low1 : FVec Ideal S4092x128 .f32 := extractStridedSlice S4092x128 ![0, 0] (res_main_v66 W) slices_S4096x128_S4092x128_0_0

/-- Group 1: the window's mean less the row. -/
def pool1 : FVec Ideal S4096x1x128 .f32 :=
  (broadcastInDim S4096x1x128 ![0, 2] bcast_S4096x128_S4096x1x128_0_2 (subf (Host.divf (subf (res_main_v66 W) (concatenate S4096x128 0 [⟨S4x128, (broadcastInDim S4x128 ![] bcast_S_S4x128 (constant S_ .f32 0x00000000#32))⟩, ⟨S4092x128, (extractStridedSlice S4092x128 ![0, 0] (res_main_v66 W) slices_S4096x128_S4092x128_0_0)⟩] concatenates_S4x128_S4092x128_S4096x128_d0)) (broadcastInDim S4096x128 ![0, 1] bcast_S4096x1_S4096x128_0_1 (res_main_v72 W))) (shapeCast _ (extractStridedSlice S4096x1x128 ![0, 1, 0] (res_main_v45 W) slices_S4096x4x128_S4096x1x128_0_1_0) shapeCasts_S4096x1x128_S4096x128)))

/-- Group 2: the rows that the window leaves behind. -/
def low2 : FVec Ideal S4088x128 .f32 := extractStridedSlice S4088x128 ![0, 0] (res_main_v80 W) slices_S4096x128_S4088x128_0_0

/-- Group 2: the window's mean less the row. -/
def pool2 : FVec Ideal S4096x1x128 .f32 :=
  (broadcastInDim S4096x1x128 ![0, 2] bcast_S4096x128_S4096x1x128_0_2 (subf (Host.divf (subf (res_main_v80 W) (concatenate S4096x128 0 [⟨S8x128, (broadcastInDim S8x128 ![] bcast_S_S8x128 (constant S_ .f32 0x00000000#32))⟩, ⟨S4088x128, (extractStridedSlice S4088x128 ![0, 0] (res_main_v80 W) slices_S4096x128_S4088x128_0_0)⟩] concatenates_S8x128_S4088x128_S4096x128_d0)) (broadcastInDim S4096x128 ![0, 1] bcast_S4096x1_S4096x128_0_1 (res_main_v86 W))) (shapeCast _ (extractStridedSlice S4096x1x128 ![0, 2, 0] (res_main_v45 W) slices_S4096x4x128_S4096x1x128_0_2_0) shapeCasts_S4096x1x128_S4096x128)))

/-- Group 3: the rows that the window leaves behind. -/
def low3 : FVec Ideal S4080x128 .f32 := extractStridedSlice S4080x128 ![0, 0] (res_main_v94 W) slices_S4096x128_S4080x128_0_0

/-- Group 3: the window's mean less the row. -/
def pool3 : FVec Ideal S4096x1x128 .f32 :=
  (broadcastInDim S4096x1x128 ![0, 2] bcast_S4096x128_S4096x1x128_0_2 (subf (Host.divf (subf (res_main_v94 W) (concatenate S4096x128 0 [⟨S16x128, (broadcastInDim S16x128 ![] bcast_S_S16x128 (constant S_ .f32 0x00000000#32))⟩, ⟨S4080x128, (extractStridedSlice S4080x128 ![0, 0] (res_main_v94 W) slices_S4096x128_S4080x128_0_0)⟩] concatenates_S16x128_S4080x128_S4096x128_d0)) (broadcastInDim S4096x128 ![0, 1] bcast_S4096x1_S4096x128_0_1 (res_main_v100 W))) (shapeCast _ (extractStridedSlice S4096x1x128 ![0, 3, 0] (res_main_v45 W) slices_S4096x4x128_S4096x1x128_0_3_0) shapeCasts_S4096x1x128_S4096x128)))

theorem pooled_eq : res_main_v111 W = concatenate S4096x4x128 1 [⟨S4096x1x128, pool0 W⟩, ⟨S4096x1x128, pool1 W⟩, ⟨S4096x1x128, pool2 W⟩, ⟨S4096x1x128, pool3 W⟩]
    concatenates_S4096x1x128_S4096x1x128_S4096x1x128_S4096x1x128_S4096x4x128_d1 := rfl

end Cert.Even
-- ==== Proof.Host.lean ====
/-
  What the host code before the call leaves in the call's arrays, as the reference's own values.
-/
module

public import proofs.«01_k».proof.Proof.Groups
public import proofs.«01_k».proof.Proof.Gen.KernelIdeal.Frame
public import proofs.«01_k».proof.Proof.Gen.ReferenceIdeal.Run
public import Idealize.ShloMosaic.Lib.Pointwise
public import Idealize.ShloMosaic.Lib.StableHlo.ReadAt
public import Idealize.ShloMosaic.Lib.StableHlo.RunRead

@[expose] public section

set_option maxRecDepth 16384

noncomputable section

open Idealize.ShloMosaic Idealize.ShloMosaic.TcCoe Idealize.SL.Sem

namespace Cert.Even

open Cert.KernelIdeal Cert.KernelIdeal.Gen

/-- The two programs are launched with the same arguments. -/
structure Same (m : (ℓ : Loc nD τ sig) → Buf (Elt Ideal) ℓ) (c : Dev nD) (W : Valuation Cert.ReferenceIdeal.τ Cert.ReferenceIdeal.sig (Elt Ideal)) : Prop where
  a0 : (m (c, Proc.tc.devRef main_arg0) : FVec Ideal S4096x1024 .f32) = W (Proc.devRef .tc Cert.ReferenceIdeal.main_arg0)
  a1 : (m (c, Proc.tc.devRef main_arg1) : FVec Ideal S1x1024 .f32) = W (Proc.devRef .tc Cert.ReferenceIdeal.main_arg1)
  a2 : (m (c, Proc.tc.devRef main_arg2) : FVec Ideal S1024x2048 .f32) = W (Proc.devRef .tc Cert.ReferenceIdeal.main_arg2)
  a3 : (m (c, Proc.tc.devRef main_arg3) : FVec Ideal S3x512 .f32) = W (Proc.devRef .tc Cert.ReferenceIdeal.main_arg3)
  a4 : (m (c, Proc.tc.devRef main_arg4) : FVec Ideal S4x128x128 .f32) = W (Proc.devRef .tc Cert.ReferenceIdeal.main_arg4)
  a5 : (m (c, Proc.tc.devRef main_arg5) : FVec Ideal S1x512 .f32) = W (Proc.devRef .tc Cert.ReferenceIdeal.main_arg5)
  a6 : (m (c, Proc.tc.devRef main_arg6) : FVec Ideal S1024x1024 .f32) = W (Proc.devRef .tc Cert.ReferenceIdeal.main_arg6)
  a7 : (m (c, Proc.tc.devRef main_arg7) : FVec Ideal S4096x1024 .f32) = W (Proc.devRef .tc Cert.ReferenceIdeal.main_arg7)

variable {m : (ℓ : Loc nD τ sig) → Buf (Elt Ideal) ℓ} {c : Dev nD} {W : Valuation Cert.ReferenceIdeal.τ Cert.ReferenceIdeal.sig (Elt Ideal)} (S : Same m c W)
include S
open Cert.ReferenceIdeal.Value

/-- The projections. -/
theorem V105 : @Eq (FVec Ideal S4096x2048 .bf16) (V m c main_v105) (truncf .bf16 (φ := .f32) (res_main_v15 W) bitsLt_bf16_f32) := by
  unfold V
  after_reads_simp
  unfold res_main_v15 res_main_v12 res_main_v7 res_main_v6
  rw [← S.a0, ← S.a1, ← S.a2]
  rfl

/-- The gated rows behind the depthwise weights. -/
theorem V106 : @Eq (FVec Ideal S4096x512 .bf16) (V m c main_v106) (truncf .bf16 (φ := .f32) (res_main_v43 W) bitsLt_bf16_f32) := by
  have h15 : StableHlo.upto [hostOps0, hostOps0_1, hostOps0_2].flatten (fun b => m (c, b)) 21 (Proc.tc.devRef main_v15) = mulf (F := Ideal) (φ := .f32) (s := S4096x512) (res_main_v17 W) (res_main_v18 W) := by
    after_reads_simp
    unfold res_main_v17 res_main_v18 res_main_v15 res_main_v12 res_main_v7 res_main_v6
    rw [← S.a0, ← S.a1, ← S.a2]
    rfl
  have h16 : StableHlo.upto [hostOps0, hostOps0_1, hostOps0_2].flatten (fun b => m (c, b)) 21 (Proc.tc.devRef main_v16) = (broadcastInDim S2x512 ![] bcast_S_S2x512 (constant S_ .f32 0x00000000#32) : FVec Ideal S2x512 .f32) := by
    after_reads_simp
  unfold V
  after_reads_simp
  generalize StableHlo.upto [hostOps0, hostOps0_1, hostOps0_2].flatten (fun b => m (c, b)) 21 (Proc.tc.devRef main_v15) = y at h15 ⊢
  generalize StableHlo.upto [hostOps0, hostOps0_1, hostOps0_2].flatten (fun b => m (c, b)) 21 (Proc.tc.devRef main_v16) = z at h16 ⊢
  subst h15 h16
  unfold res_main_v43 res_main_v24 res_main_v30 res_main_v37 res_main_v27 res_main_v33 res_main_v40 res_main_v22
  rw [← S.a3]
  rfl

theorem group0 : StableHlo.upto [hostOps0, hostOps0_1, hostOps0_2].flatten (fun b => m (c, b)) 116 (Proc.tc.devRef main_v97) = pool0 W := by
  have h1 : StableHlo.upto [hostOps0, hostOps0_1, hostOps0_2].flatten (fun b => m (c, b)) 57 (Proc.tc.devRef main_v48) = low0 W := by
    after_reads_simp
    simp -implicitDefEqProofs only [StableHlo.TRef.toBuf, StableHlo.TRef.ofBuf, cast_cast, cast_eq]
    unfold low0 res_main_v52 res_main_v46 res_main_v45 res_main_v15 res_main_v12 res_main_v7 res_main_v6
    rw [← S.a0, ← S.a1, ← S.a2]
    rfl
  have h0 : StableHlo.upto [hostOps0, hostOps0_1, hostOps0_2].flatten (fun b => m (c, b)) 57 (Proc.tc.devRef main_v47) = (broadcastInDim S2x128 ![] bcast_S_S2x128 (constant S_ .f32 0x00000000#32) : FVec Ideal S2x128 .f32) := by
    after_reads_simp
  after_reads_simp
  simp -implicitDefEqProofs only [StableHlo.TRef.toBuf, StableHlo.TRef.ofBuf, cast_cast, cast_eq]
  generalize StableHlo.upto [hostOps0, hostOps0_1, hostOps0_2].flatten (fun b => m (c, b)) 57 (Proc.tc.devRef main_v48) = y at h1 ⊢
  generalize StableHlo.upto [hostOps0, hostOps0_1, hostOps0_2].flatten (fun b => m (c, b)) 57 (Proc.tc.devRef main_v47) = z at h0 ⊢
  subst h1 h0
  unfold pool0 low0 res_main_v52 res_main_v58 res_main_v50 res_main_v46 res_main_v45 res_main_v15 res_main_v12 res_main_v7 res_main_v6
  rw [← S.a0, ← S.a1, ← S.a2]
  rfl

theorem group1 : StableHlo.upto [hostOps0, hostOps0_1, hostOps0_2].flatten (fun b => m (c, b)) 116 (Proc.tc.devRef main_v98) = pool1 W := by
  have h1 : StableHlo.upto [hostOps0, hostOps0_1, hostOps0_2].flatten (fun b => m (c, b)) 72 (Proc.tc.devRef main_v61) = low1 W := by
    after_reads_simp
    simp -implicitDefEqProofs only [StableHlo.TRef.toBuf, StableHlo.TRef.ofBuf, cast_cast, cast_eq]
    unfold low1 res_main_v66 res_main_v46 res_main_v45 res_main_v15 res_main_v12 res_main_v7 res_main_v6
    rw [← S.a0, ← S.a1, ← S.a2]
    rfl
  have h0 : StableHlo.upto [hostOps0, hostOps0_1, hostOps0_2].flatten (fun b => m (c, b)) 72 (Proc.tc.devRef main_v60) = (broadcastInDim S4x128 ![] bcast_S_S4x128 (constant S_ .f32 0x00000000#32) : FVec Ideal S4x128 .f32) := by
    after_reads_simp
  after_reads_simp
  simp -implicitDefEqProofs only [StableHlo.TRef.toBuf, StableHlo.TRef.ofBuf, cast_cast, cast_eq]
  generalize StableHlo.upto [hostOps0, hostOps0_1, hostOps0_2].flatten (fun b => m (c, b)) 72 (Proc.tc.devRef main_v61) = y at h1 ⊢
  generalize StableHlo.upto [hostOps0, hostOps0_1, hostOps0_2].flatten (fun b => m (c, b)) 72 (Proc.tc.devRef main_v60) = z at h0 ⊢
  subst h1 h0
  unfold pool1 low1 res_main_v66 res_main_v72 res_main_v50 res_main_v46 res_main_v45 res_main_v15 res_main_v12 res_main_v7 res_main_v6
  rw [← S.a0, ← S.a1, ← S.a2]
  rfl

theorem group2 : StableHlo.upto [hostOps0, hostOps0_1, hostOps0_2].flatten (fun b => m (c, b)) 116 (Proc.tc.devRef main_v99) = pool2 W := by
  have h1 : StableHlo.upto [hostOps0, hostOps0_1, hostOps0_2].flatten (fun b => m (c, b)) 87 (Proc.tc.devRef main_v74) = low2 W := by
    after_reads_simp
    simp -implicitDefEqProofs only [StableHlo.TRef.toBuf, StableHlo.TRef.ofBuf, cast_cast, cast_eq]
    unfold low2 res_main_v80 res_main_v46 res_main_v45 res_main_v15 res_main_v12 res_main_v7 res_main_v6
    rw [← S.a0, ← S.a1, ← S.a2]
    rfl
  have h0 : StableHlo.upto [hostOps0, hostOps0_1, hostOps0_2].flatten (fun b => m (c, b)) 87 (Proc.tc.devRef main_v73) = (broadcastInDim S8x128 ![] bcast_S_S8x128 (constant S_ .f32 0x00000000#32) : FVec Ideal S8x128 .f32) := by
    after_reads_simp
  after_reads_simp
  simp -implicitDefEqProofs only [StableHlo.TRef.toBuf, StableHlo.TRef.ofBuf, cast_cast, cast_eq]
  generalize StableHlo.upto [hostOps0, hostOps0_1, hostOps0_2].flatten (fun b => m (c, b)) 87 (Proc.tc.devRef main_v74) = y at h1 ⊢
  generalize StableHlo.upto [hostOps0, hostOps0_1, hostOps0_2].flatten (fun b => m (c, b)) 87 (Proc.tc.devRef main_v73) = z at h0 ⊢
  subst h1 h0
  unfold pool2 low2 res_main_v80 res_main_v86 res_main_v50 res_main_v46 res_main_v45 res_main_v15 res_main_v12 res_main_v7 res_main_v6
  rw [← S.a0, ← S.a1, ← S.a2]
  rfl

theorem group3 : StableHlo.upto [hostOps0, hostOps0_1, hostOps0_2].flatten (fun b => m (c, b)) 116 (Proc.tc.devRef main_v100) = pool3 W := by
  have h1 : StableHlo.upto [hostOps0, hostOps0_1, hostOps0_2].flatten (fun b => m (c, b)) 102 (Proc.tc.devRef main_v87) = low3 W := by
    after_reads_simp
    simp -implicitDefEqProofs only [StableHlo.TRef.toBuf, StableHlo.TRef.ofBuf, cast_cast, cast_eq]
    unfold low3 res_main_v94 res_main_v46 res_main_v45 res_main_v15 res_main_v12 res_main_v7 res_main_v6
    rw [← S.a0, ← S.a1, ← S.a2]
    rfl
  have h0 : StableHlo.upto [hostOps0, hostOps0_1, hostOps0_2].flatten (fun b => m (c, b)) 102 (Proc.tc.devRef main_v86) = (broadcastInDim S16x128 ![] bcast_S_S16x128 (constant S_ .f32 0x00000000#32) : FVec Ideal S16x128 .f32) := by
    after_reads_simp
  after_reads_simp
  simp -implicitDefEqProofs only [StableHlo.TRef.toBuf, StableHlo.TRef.ofBuf, cast_cast, cast_eq]
  generalize StableHlo.upto [hostOps0, hostOps0_1, hostOps0_2].flatten (fun b => m (c, b)) 102 (Proc.tc.devRef main_v87) = y at h1 ⊢
  generalize StableHlo.upto [hostOps0, hostOps0_1, hostOps0_2].flatten (fun b => m (c, b)) 102 (Proc.tc.devRef main_v86) = z at h0 ⊢
  subst h1 h0
  unfold pool3 low3 res_main_v94 res_main_v100 res_main_v50 res_main_v46 res_main_v45 res_main_v15 res_main_v12 res_main_v7 res_main_v6
  rw [← S.a0, ← S.a1, ← S.a2]
  rfl

/-- The pooled rows. -/
theorem V107 : @Eq (FVec Ideal S4096x512 .bf16) (V m c main_v107)
    (truncf .bf16 (φ := .f32) (shapeCast S4096x512 (s := S4096x4x128) (α := Ideal .f32) (res_main_v111 W) shapeCasts_S4096x4x128_S4096x512) bitsLt_bf16_f32) := by
  unfold V
  after_reads_simp
  have h0 : StableHlo.upto [hostOps0, hostOps0_1, hostOps0_2].flatten (fun b => m (c, b)) 116 (Proc.tc.devRef (![main_v97, main_v98, main_v99, main_v100] 0)) = pool0 W := group0 S
  have h1 : StableHlo.upto [hostOps0, hostOps0_1, hostOps0_2].flatten (fun b => m (c, b)) 116 (Proc.tc.devRef (![main_v97, main_v98, main_v99, main_v100] 1)) = pool1 W := group1 S
  have h2 : StableHlo.upto [hostOps0, hostOps0_1, hostOps0_2].flatten (fun b => m (c, b)) 116 (Proc.tc.devRef (![main_v97, main_v98, main_v99, main_v100] 2)) = pool2 W := group2 S
  have h3 : StableHlo.upto [hostOps0, hostOps0_1, hostOps0_2].flatten (fun b => m (c, b)) 116 (Proc.tc.devRef (![main_v97, main_v98, main_v99, main_v100] 3)) = pool3 W := group3 S
  generalize StableHlo.upto [hostOps0, hostOps0_1, hostOps0_2].flatten (fun b => m (c, b)) 116 (Proc.tc.devRef (![main_v97, main_v98, main_v99, main_v100] 0)) = y0 at h0 ⊢
  generalize StableHlo.upto [hostOps0, hostOps0_1, hostOps0_2].flatten (fun b => m (c, b)) 116 (Proc.tc.devRef (![main_v97, main_v98, main_v99, main_v100] 1)) = y1 at h1 ⊢
  generalize StableHlo.upto [hostOps0, hostOps0_1, hostOps0_2].flatten (fun b => m (c, b)) 116 (Proc.tc.devRef (![main_v97, main_v98, main_v99, main_v100] 2)) = y2 at h2 ⊢
  generalize StableHlo.upto [hostOps0, hostOps0_1, hostOps0_2].flatten (fun b => m (c, b)) 116 (Proc.tc.devRef (![main_v97, main_v98, main_v99, main_v100] 3)) = y3 at h3 ⊢
  subst h0 h1 h2 h3
  rfl

/-- The cotangent. -/
theorem V103 : @Eq (FVec Ideal S4096x1024 .bf16) (V m c main_v103)
    (truncf .bf16 (φ := .f32) (s := S4096x1024) (F := Ideal) (W (Proc.devRef .tc Cert.ReferenceIdeal.main_arg7)) bitsLt_bf16_f32) := by
  unfold V
  after_reads_simp
  rw [← S.a7]

/-- The output projection. -/
theorem V104 : @Eq (FVec Ideal S1024x1024 .bf16) (V m c main_v104)
    (truncf .bf16 (φ := .f32) (s := S1024x1024) (F := Ideal) (W (Proc.devRef .tc Cert.ReferenceIdeal.main_arg6)) bitsLt_bf16_f32) := by
  unfold V
  after_reads_simp
  rw [← S.a6]

/-- The pooling weights. -/
theorem V108 : @Eq (FVec Ideal S4x128x128 .bf16) (V m c main_v108)
    (truncf .bf16 (φ := .f32) (s := S4x128x128) (F := Ideal) (W (Proc.devRef .tc Cert.ReferenceIdeal.main_arg4)) bitsLt_bf16_f32) := by
  unfold V
  after_reads_simp
  rw [← S.a4]

/-- The pooling weights, transposed in each group. -/
theorem V110 : @Eq (FVec Ideal S4x128x128 .bf16) (V m c main_v110)
    (truncf .bf16 (φ := .f32) (transpose S4x128x128 (s := S4x128x128) (α := Ideal .f32) [0, 2, 1] (W (Proc.devRef .tc Cert.ReferenceIdeal.main_arg4)) transposes_S4x128x128_S4x128x128_0_2_1) bitsLt_bf16_f32) := by
  unfold V
  after_reads_simp
  rw [← S.a4]

/-- The input projection. -/
theorem V111 : @Eq (FVec Ideal S1024x2048 .bf16) (V m c main_v111)
    (truncf .bf16 (φ := .f32) (s := S1024x2048) (F := Ideal) (W (Proc.devRef .tc Cert.ReferenceIdeal.main_arg2)) bitsLt_bf16_f32) := by
  unfold V
  after_reads_simp
  rw [← S.a2]

end Cert.Even
-- ==== Proof.Fit.lean ====
/-
  The call's arrays hold the arrays of the backward pass.
-/
module

public import proofs.«01_k».proof.Proof.Mk
public import proofs.«01_k».proof.Proof.Host
public import proofs.«01_k».proof.Proof.Blk

@[expose] public section

set_option maxRecDepth 16384

noncomputable section

open Idealize.ShloMosaic Idealize.ShloMosaic.TcCoe Idealize.SL.Sem

namespace Cert.Even

open Cert.KernelIdeal Cert.KernelIdeal.Gen

variable {m : (ℓ : Loc nD τ sig) → Buf (Elt Ideal) ℓ} {c : Dev nD}
  {W : Valuation Cert.ReferenceIdeal.τ Cert.ReferenceIdeal.sig (Elt Ideal)}

theorem fit (S : Same m c W) : Feeds m c (mkIn W) where
  dh r k := (congrFun (V103 S) (ix2 r k)).trans (rows_at (A7 W) r k).symm
  dh' r k := (congrFun ((V_main_arg7 m c).trans S.a7) (ix2 r k)).trans (rows_at (A7 W) r k).symm
  wo i k := congrFun (V104 S) (ix2 i k)
  P r k := (congrFun (V105 S) (ix2 r k)).trans (rows_at (φ := .f32) _ r k).symm
  cq r k := (congrFun (V106 S) (ix2 r k)).trans (rows_at (φ := .f32) _ r k).symm
  pl r k := by
    refine (congrFun (V107 S) (ix2 r k)).trans ?_
    refine Eq.trans ?_ (dif_pos r.isLt).symm
    pointwise
    rfl
  ca i k := congrFun ((V_main_arg3 m c).trans S.a3) (ix2 i k)
  wp g i k := congrFun (V108 S) (ix3 g i k)
  wpT g i k := by
    refine (congrFun (V110 S) (ix3 g i k)).trans ?_
    pointwise
    rfl
  ps k := congrFun ((V_main_arg5 m c).trans S.a5) (ix2 0 k)
  wi i k := congrFun (V111 S) (ix2 i k)
  x r k := (congrFun ((V_main_arg0 m c).trans S.a0) (ix2 r k)).trans (rows_at (A0 W) r k).symm
  gn k := congrFun ((V_main_arg1 m c).trans S.a1) (ix2 0 k)
  zero r k h := rows_past (A7 W) r k h

end Cert.Even
-- ==== Proof.Ref1.lean ====
/-
  The reference's intermediate arrays at an index.
-/
module

public import proofs.«01_k».proof.Proof.Mk
public import proofs.«01_k».proof.Proof.Lits
public import Idealize.ShloMosaic.Lib.Tactic.CleanTypes
public import Idealize.ShloMosaic.Lib.Pointwise

@[expose] public section

set_option maxRecDepth 16384

noncomputable section

open Idealize.ShloMosaic Idealize.ShloMosaic.TcCoe Idealize.SL.Sem

namespace Cert.Even

open Cert.ReferenceIdeal Cert.ReferenceIdeal.Gen Cert.ReferenceIdeal.Value

variable (W : Valuation τ sig (Elt Ideal))

theorem r_dmix (r : Fin 4096) (j : Fin 1024) : (res_main_v119 W : FVec Ideal S4096x1024 .f32) (ix2 r j) = (mkIn W).dmix r.val j := by
  unfold res_main_v119
  clean_types
  pointwise
  exact Finset.sum_congr rfl fun k _ => congrArg (· * _) (rows_at (A7 W) r k).symm

theorem r_dya (r : Fin 4096) (j : Fin 512) : (res_main_v120 W : FVec Ideal S4096x512 .f32) (ix2 r j) = (mkIn W).dya r.val j := by
  unfold res_main_v120
  clean_types
  pointwise
  refine Eq.trans ?_ (r_dmix W r _)
  congr 2
  apply Fin.ext
  simp only [at_, Nat.zero_add]

theorem r_dyb (r : Fin 4096) (j : Fin 512) : (res_main_v121 W : FVec Ideal S4096x512 .f32) (ix2 r j) = (mkIn W).dyb r.val j := by
  unfold res_main_v121
  clean_types
  pointwise
  exact r_dmix W r _

theorem r_ab (r : Fin 4096) (j : Fin 512) : (res_main_v16 W : FVec Ideal S4096x512 .f32) (ix2 r j) = (mkIn W).ab r.val j := by
  unfold res_main_v16
  clean_types
  pointwise
  refine Eq.trans ?_ (rows_at (φ := .f32) (res_main_v15 W) r _).symm
  congr 2
  apply Fin.ext
  simp only [at_, Nat.zero_add]

theorem r_ac (r : Fin 4096) (j : Fin 512) : (res_main_v17 W : FVec Ideal S4096x512 .f32) (ix2 r j) = (mkIn W).ac r.val j := by
  unfold res_main_v17
  clean_types
  pointwise
  exact (rows_at (φ := .f32) (res_main_v15 W) r _).symm

theorem r_av (r : Fin 4096) (j : Fin 512) : (res_main_v18 W : FVec Ideal S4096x512 .f32) (ix2 r j) = (mkIn W).av r.val j := by
  unfold res_main_v18
  clean_types
  pointwise
  exact (rows_at (φ := .f32) (res_main_v15 W) r _).symm

theorem r_dcq (r : Fin 4096) (j : Fin 512) : (res_main_v198 W : FVec Ideal S4096x512 .f32) (ix2 r j) = (mkIn W).dcq r.val j := by
  unfold res_main_v198
  clean_types
  pointwise
  rw [r_dya, r_ab, In.dcq, mul_comm]

theorem zero_past (r : ℕ) (k : Fin 1024) (h : 4096 ≤ r) : (mkIn W).dh r k = 0 := rows_past (A7 W) r k h

theorem tap1 (X : FVec Ideal S4096x512 .f32) (hX : ∀ r j, X (ix2 r j) = (mkIn W).dcq r.val j) (a : EReal) (r : Fin 4096) (j : Fin 512) :
    (if h : 1 ≤ 2 + r.val ∧ 2 + r.val - 1 < 4096 then X (ix2 ⟨2 + r.val - 1, h.2⟩ j) * a else 0) = a * (mkIn W).dcq (r.val + 1) j := by
  have hr : 2 + r.val - 1 = r.val + 1 := by omega
  split
  · rw [hX, mul_comm]
    exact congrArg (fun n => a * (mkIn W).dcq n j) hr
  · rw [dcq_zero (zero_past W) (by omega), mul_zero]

theorem tap2 (X : FVec Ideal S4096x512 .f32) (hX : ∀ r j, X (ix2 r j) = (mkIn W).dcq r.val j) (a : EReal) (r : Fin 4096) (j : Fin 512) :
    (if h : 2 + r.val < 4096 then X (ix2 ⟨2 + r.val, h⟩ j) * a else 0) = a * (mkIn W).dcq (r.val + 2) j := by
  split
  · rw [hX, mul_comm]
    exact congrArg (fun n => a * (mkIn W).dcq n j) (Nat.add_comm 2 r.val)
  · rw [dcq_zero (zero_past W) (by omega), mul_zero]

theorem r_dq (r : Fin 4096) (j : Fin 512) : (res_main_v232 W : FVec Ideal S4096x512 .f32) (ix2 r j) = (mkIn W).dq r.val j := by
  unfold res_main_v232 res_main_v230 res_main_v40 res_main_v33 res_main_v27
  clean_types
  pointwise
  refine congr (congrArg HAdd.hAdd (congr (congrArg HAdd.hAdd ?_) (tap1 W _ (r_dcq W) (A3 W (ix2 1 j)) r j))) (tap2 W _ (r_dcq W) (A3 W (ix2 0 j)) r j)
  rw [r_dcq, mul_comm]
  rfl

theorem r_dpl (r : Fin 4096) (g : Fin 4) (c : Fin 128) : (res_main_v130 W : FVec Ideal S4096x4x128 .f32) (ix3 r g c) = (mkIn W).dpl r.val (col g c) := by
  unfold res_main_v130 res_main_v128
  clean_types
  pointwise
  rw [In.dpl, grp_col, pos_col]
  refine Finset.sum_congr rfl fun x _ => ?_
  have hx : (⟨g.val * 128 + x.val, by omega⟩ : Fin 512) = col g x := Fin.ext (by simp only [col]; omega)
  rw [hx, r_dyb]
  rfl

theorem r_cnt (r : Fin 4096) : (res_main_v50 W : FVec Ideal S4096x1 .f32) (ix2 r 0) = ((r.val + 1 : ℕ) : EReal) := by
  unfold res_main_v50
  clean_types
  pointwise
  show (1 : EReal) + (((BitVec.toInt (BitVec.ofNat 32 r.val) : ℤ) : ℝ) : EReal) = _
  have hr := r.isLt
  have h : (BitVec.ofNat 32 r.val).toInt = (r.val : ℤ) := by
    rw [BitVec.toInt_eq_toNat_of_lt (by rw [BitVec.toNat_ofNat]; omega), BitVec.toNat_ofNat, Nat.mod_eq_of_lt (by omega)]
  rw [h, Int.cast_natCast, add_comm, Nat.cast_add, Nat.cast_one]
  rfl

theorem r_s0 (r : Fin 4096) (c : Fin 128) : (res_main_v134 W : FVec Ideal S4096x128 .f32) (ix2 r c) = (mkIn W).dpl r.val (col 0 c) := by
  unfold res_main_v134
  clean_types
  pointwise
  exact r_dpl W r 0 c

theorem r_e0 (r : Fin 4096) (c : Fin 128) : (res_main_v186 W : FVec Ideal S4096x128 .f32) (ix2 r c) = (mkIn W).e r.val (col 0 c) := by
  unfold res_main_v186 res_main_v58
  clean_types
  pointwise
  rw [r_s0, r_cnt, In.e, grp_col]
  rfl

theorem r_s1 (r : Fin 4096) (c : Fin 128) : (res_main_v136 W : FVec Ideal S4096x128 .f32) (ix2 r c) = (mkIn W).dpl r.val (col 1 c) := by
  unfold res_main_v136
  clean_types
  pointwise
  exact r_dpl W r 1 c

theorem r_e1 (r : Fin 4096) (c : Fin 128) : (res_main_v172 W : FVec Ideal S4096x128 .f32) (ix2 r c) = (mkIn W).e r.val (col 1 c) := by
  unfold res_main_v172 res_main_v72
  clean_types
  pointwise
  rw [r_s1, r_cnt, In.e, grp_col]
  rfl

theorem r_s2 (r : Fin 4096) (c : Fin 128) : (res_main_v138 W : FVec Ideal S4096x128 .f32) (ix2 r c) = (mkIn W).dpl r.val (col 2 c) := by
  unfold res_main_v138
  clean_types
  pointwise
  exact r_dpl W r 2 c

theorem r_e2 (r : Fin 4096) (c : Fin 128) : (res_main_v158 W : FVec Ideal S4096x128 .f32) (ix2 r c) = (mkIn W).e r.val (col 2 c) := by
  unfold res_main_v158 res_main_v86
  clean_types
  pointwise
  rw [r_s2, r_cnt, In.e, grp_col]
  rfl

theorem r_s3 (r : Fin 4096) (c : Fin 128) : (res_main_v140 W : FVec Ideal S4096x128 .f32) (ix2 r c) = (mkIn W).dpl r.val (col 3 c) := by
  unfold res_main_v140
  clean_types
  pointwise
  exact r_dpl W r 3 c

theorem r_e3 (r : Fin 4096) (c : Fin 128) : (res_main_v145 W : FVec Ideal S4096x128 .f32) (ix2 r c) = (mkIn W).e r.val (col 3 c) := by
  unfold res_main_v145 res_main_v100
  clean_types
  pointwise
  rw [r_s3, r_cnt, In.e, grp_col]
  rfl

end Cert.Even
-- ==== Proof.Sums.lean ====
/-
  The sums of the reference's pooling path: the running sum from the last row, and its window.
-/
module

public import Idealize.ShloMosaic.Lib.Pointwise

@[expose] public section

set_option maxRecDepth 16384

noncomputable section

open Idealize.ShloMosaic

namespace Cert.Even

/-- The running sum from the last row: a window of all rows, padded after the last. -/
theorem rev_sum {N Nm1 : ℕ} (X : FVec Ideal ⟨3, ![N, 4, 128]⟩ .f32) (z : (⟨0, ![]⟩ : Shape).Idx → Ideal .f32) (hz : ∀ i, z i = (0 : EReal))
    (h : (⟨3, ![N, 4, 128]⟩ : Shape).ReduceWindows (![N, 1, 1] : Fin 3 → Nat) ![1, 1, 1] ![0, 0, 0] ![Nm1, 0, 0] ⟨3, ![N, 4, 128]⟩)
    (hu : 0 < (⟨0, ![]⟩ : Shape).numel) (r : Fin N) (g : Fin 4) (c : Fin 128) :
    Host.reduceWindowAdd ![N, 1, 1] ![1, 1, 1] ![0, 0, 0] ![Nm1, 0, 0] X z h hu (ix3 r g c)
      = ∑ k : Fin N, if h : r.val + k.val < N then X (ix3 ⟨r.val + k.val, h⟩ g c) else 0 := by
  show (List.finRange (⟨3, ![N, 1, 1]⟩ : Shape).numel).foldl _ (z (Shape.Idx.first hu)) = _
  rw [hz]
  refine Eq.trans ?_ ((sum_idx_eq_foldl (⟨3, ![N, 1, 1]⟩ : Shape) (fun i : (⟨3, ![N, 1, 1]⟩ : Shape).Idx =>
    if h : r.val + (i 0).val < N then X (ix3 ⟨r.val + (i 0).val, h⟩ g c) else 0)).symm.trans ?_)
  · refine congrArg (fun φ => List.foldl φ (0 : EReal) (List.finRange (⟨3, ![N, 1, 1]⟩ : Shape).numel)) (funext fun a => funext fun n => ?_)
    refine congrArg (a + ·) ?_
    dsimp only
    have i1 : ((⟨3, ![N, 1, 1]⟩ : Shape).rowMajor.symm n 1).val = 0 := Nat.lt_one_iff.mp ((⟨3, ![N, 1, 1]⟩ : Shape).rowMajor.symm n 1).isLt
    have i2 : ((⟨3, ![N, 1, 1]⟩ : Shape).rowMajor.symm n 2).val = 0 := Nat.lt_one_iff.mp ((⟨3, ![N, 1, 1]⟩ : Shape).rowMajor.symm n 2).isLt
    split
    · next hin =>
      have h0 : 0 ≤ r.val * 1 + ((⟨3, ![N, 1, 1]⟩ : Shape).rowMajor.symm n 0).val ∧ r.val * 1 + ((⟨3, ![N, 1, 1]⟩ : Shape).rowMajor.symm n 0).val - 0 < N := hin 0
      rw [dif_pos (by omega : r.val + ((⟨3, ![N, 1, 1]⟩ : Shape).rowMajor.symm n 0).val < N)]
      refine congrArg X (funext fun a => Fin.ext ?_)
      match a with
      | ⟨0, _⟩ =>
        show r.val * 1 + ((⟨3, ![N, 1, 1]⟩ : Shape).rowMajor.symm n 0).val - 0 = r.val + ((⟨3, ![N, 1, 1]⟩ : Shape).rowMajor.symm n 0).val
        omega
      | ⟨1, _⟩ =>
        show g.val * 1 + ((⟨3, ![N, 1, 1]⟩ : Shape).rowMajor.symm n 1).val - 0 = g.val
        omega
      | ⟨2, _⟩ =>
        show c.val * 1 + ((⟨3, ![N, 1, 1]⟩ : Shape).rowMajor.symm n 2).val - 0 = c.val
        omega
    · next hin =>
      have hg := g.isLt
      have hc := c.isLt
      rw [dif_neg fun hle => hin fun a => by
        match a with
        | ⟨0, _⟩ =>
          show 0 ≤ r.val * 1 + ((⟨3, ![N, 1, 1]⟩ : Shape).rowMajor.symm n 0).val ∧ r.val * 1 + ((⟨3, ![N, 1, 1]⟩ : Shape).rowMajor.symm n 0).val - 0 < N
          omega
        | ⟨1, _⟩ =>
          show 0 ≤ g.val * 1 + ((⟨3, ![N, 1, 1]⟩ : Shape).rowMajor.symm n 1).val ∧ g.val * 1 + ((⟨3, ![N, 1, 1]⟩ : Shape).rowMajor.symm n 1).val - 0 < 4
          omega
        | ⟨2, _⟩ =>
          show 0 ≤ c.val * 1 + ((⟨3, ![N, 1, 1]⟩ : Shape).rowMajor.symm n 2).val ∧ c.val * 1 + ((⟨3, ![N, 1, 1]⟩ : Shape).rowMajor.symm n 2).val - 0 < 128
          omega]
  · rw [sum_idx3]
    refine Finset.sum_congr rfl fun k _ => ?_
    rw [Fin.sum_univ_one, Fin.sum_univ_one]
    rfl

/-- Sums of a function's steps of width `w` leave the first window less the last. -/
theorem steps (y : ℕ → ℝ) (r w : ℕ) : ∀ n : ℕ, ∑ k ∈ Finset.range n, (y (r + k) - y (r + k + w))
    = ∑ k ∈ Finset.range w, y (r + k) - ∑ k ∈ Finset.range w, y (r + n + k)
  | 0 => by simp only [Finset.range_zero, Finset.sum_empty, Nat.add_zero, sub_self]
  | n + 1 => by
    have h1 := Finset.sum_range_succ (fun k => y (r + n + k)) w
    have h2 := Finset.sum_range_succ' (fun k => y (r + n + k)) w
    have h3 : ∀ k, y (r + n + (k + 1)) = y (r + (n + 1) + k) := fun k => congrArg y (by omega)
    simp only [h3, Nat.add_zero] at h2
    rw [Finset.sum_range_succ, steps y r w n]
    linarith

/-- The running sum from the last row of a function less its shift is the function's window. -/
theorem window (f : ℕ → EReal) (hf : ∀ n, ∃ y : ℝ, f n = (y : EReal)) (h0 : ∀ n, 4096 ≤ n → f n = 0) (r w : ℕ) :
    ∑ k : Fin 4096, (if r + k.val < 4096 then f (r + k.val) + (if r + k.val + w < 4096 then -f (r + k.val + w) else 0) else 0)
      = ∑ k : Fin w, f (r + k.val) := by
  choose y hy using hf
  have y0 : ∀ n, 4096 ≤ n → y n = 0 := fun n h => EReal.coe_eq_zero.mp ((hy n).symm.trans (h0 n h))
  rw [← Finset.sum_range (fun k => if r + k < 4096 then f (r + k) + (if r + k + w < 4096 then -f (r + k + w) else 0) else 0),
    ← Finset.sum_range (fun k => f (r + k))]
  have hl : ∀ k, (if r + k < 4096 then f (r + k) + (if r + k + w < 4096 then -f (r + k + w) else 0) else 0)
      = ((y (r + k) - y (r + k + w) : ℝ) : EReal) := by
    intro k
    rcases lt_or_ge (r + k) 4096 with h | h
    · rw [if_pos h]
      rcases lt_or_ge (r + k + w) 4096 with h' | h'
      · rw [if_pos h', hy, hy, EReal.coe_sub, sub_eq_add_neg]
      · rw [if_neg (not_lt.mpr h'), y0 _ h', hy, add_zero, sub_zero]
    · rw [if_neg (not_lt.mpr h), y0 _ h, y0 _ (by omega), sub_self, EReal.coe_zero]
  simp only [hl]
  simp only [hy]
  have hs := steps y r w 4096
  have hz : ∑ k ∈ Finset.range w, y (r + 4096 + k) = 0 := Finset.sum_eq_zero fun k _ => y0 _ (by omega)
  rw [hz, sub_zero] at hs
  have hc : ∀ (n : ℕ) (v : ℕ → ℝ), ∑ k ∈ Finset.range n, ((v k : ℝ) : EReal) = ((∑ k ∈ Finset.range n, v k : ℝ) : EReal) := by
    intro n v
    induction n with
    | zero => rfl
    | succ n ih => rw [Finset.sum_range_succ, Finset.sum_range_succ, ih, EReal.coe_add]
  rw [hc, hc, hs]

end Cert.Even
-- ==== Proof.Ref2.lean ====
/-
  The reference's gradient of the projection at an index.
-/
module

public import proofs.«01_k».proof.Proof.Ref1
public import proofs.«01_k».proof.Proof.Sums
public import Idealize.ShloMosaic.Lib.IdealHost

@[expose] public section

set_option maxRecDepth 16384

noncomputable section

open Idealize.ShloMosaic Idealize.ShloMosaic.TcCoe Idealize.SL.Sem

namespace Cert.Even

open Cert.ReferenceIdeal Cert.ReferenceIdeal.Gen Cert.ReferenceIdeal.Value

variable (W : Valuation τ sig (Elt Ideal))

/-- The four groups' gradients of the pooled rows, negated. -/
def neg4 : FVec Ideal S4096x4x128 .f32 :=
  (addf (addf (addf (pad S4096x4x128 ![0, 3, 0] ![0, 0, 0] ![0, 0, 0] (broadcastInDim S4096x1x128 ![0, 2] bcast_S4096x128_S4096x1x128_0_2 (Host.negf (res_main_v140 W))) (constant S_ .f32 0x00000000#32) pads_S4096x1x128_S4096x4x128_000_300_000 h_S_) (pad S4096x4x128 ![0, 2, 0] ![0, 1, 0] ![0, 0, 0] (broadcastInDim S4096x1x128 ![0, 2] bcast_S4096x128_S4096x1x128_0_2 (Host.negf (res_main_v138 W))) (constant S_ .f32 0x00000000#32) pads_S4096x1x128_S4096x4x128_000_210_000 h_S_)) (pad S4096x4x128 ![0, 1, 0] ![0, 2, 0] ![0, 0, 0] (broadcastInDim S4096x1x128 ![0, 2] bcast_S4096x128_S4096x1x128_0_2 (Host.negf (res_main_v136 W))) (constant S_ .f32 0x00000000#32) pads_S4096x1x128_S4096x4x128_000_120_000 h_S_)) (pad S4096x4x128 ![0, 0, 0] ![0, 3, 0] ![0, 0, 0] (broadcastInDim S4096x1x128 ![0, 2] bcast_S4096x128_S4096x1x128_0_2 (Host.negf (res_main_v134 W))) (constant S_ .f32 0x00000000#32) pads_S4096x1x128_S4096x4x128_000_030_000 h_S_))

/-- What the running sum from the last row adds up, in the four groups. -/
def adj : FVec Ideal S4096x4x128 .f32 :=
  (addf (addf (addf (pad S4096x4x128 ![0, 3, 0] ![0, 0, 0] ![0, 0, 0] (broadcastInDim S4096x1x128 ![0, 2] bcast_S4096x128_S4096x1x128_0_2 (addf (res_main_v145 W) (pad S4096x128 ![0, 0] ![16, 0] ![0, 0] (extractStridedSlice S4080x128 ![16, 0] (res_main_v146 W) slices_S4096x128_S4080x128_16_0) (constant S_ .f32 0x00000000#32) pads_S4080x128_S4096x128_0160_000 h_S_))) (constant S_ .f32 0x00000000#32) pads_S4096x1x128_S4096x4x128_000_300_000 h_S_) (pad S4096x4x128 ![0, 2, 0] ![0, 1, 0] ![0, 0, 0] (broadcastInDim S4096x1x128 ![0, 2] bcast_S4096x128_S4096x1x128_0_2 (addf (res_main_v158 W) (pad S4096x128 ![0, 0] ![8, 0] ![0, 0] (extractStridedSlice S4088x128 ![8, 0] (res_main_v159 W) slices_S4096x128_S4088x128_8_0) (constant S_ .f32 0x00000000#32) pads_S4088x128_S4096x128_080_000 h_S_))) (constant S_ .f32 0x00000000#32) pads_S4096x1x128_S4096x4x128_000_210_000 h_S_)) (pad S4096x4x128 ![0, 1, 0] ![0, 2, 0] ![0, 0, 0] (broadcastInDim S4096x1x128 ![0, 2] bcast_S4096x128_S4096x1x128_0_2 (addf (res_main_v172 W) (pad S4096x128 ![0, 0] ![4, 0] ![0, 0] (extractStridedSlice S4092x128 ![4, 0] (res_main_v173 W) slices_S4096x128_S4092x128_4_0) (constant S_ .f32 0x00000000#32) pads_S4092x128_S4096x128_040_000 h_S_))) (constant S_ .f32 0x00000000#32) pads_S4096x1x128_S4096x4x128_000_120_000 h_S_)) (pad S4096x4x128 ![0, 0, 0] ![0, 3, 0] ![0, 0, 0] (broadcastInDim S4096x1x128 ![0, 2] bcast_S4096x128_S4096x1x128_0_2 (addf (res_main_v186 W) (pad S4096x128 ![0, 0] ![2, 0] ![0, 0] (extractStridedSlice S4094x128 ![2, 0] (res_main_v187 W) slices_S4096x128_S4094x128_2_0) (constant S_ .f32 0x00000000#32) pads_S4094x128_S4096x128_020_000 h_S_))) (constant S_ .f32 0x00000000#32) pads_S4096x1x128_S4096x4x128_000_030_000 h_S_))

/-- The gradient of the pooling's input. -/
def pin : FVec Ideal S4096x4x128 .f32 :=
  (addf (neg4 W) (Host.reduceWindowAdd ![4096, 1, 1] ![1, 1, 1] ![0, 0, 0] ![4095, 0, 0] (adj W) (broadcastInDim S_ ![] bcast_S_S_ (constant S_ .f32 0x00000000#32)) reduceWindows_S4096x4x128_S4096x4x128_w4096s1p0_4095_w1s1p0_0_w1s1p0_0 h_S_))

theorem dproj_eq : res_main_v241 W = addf (addf (addf (pad S4096x2048 ![0, 1536] ![0, 0] ![0, 0] (shapeCast S4096x512 (pin W) shapeCasts_S4096x4x128_S4096x512) (constant S_ .f32 0x00000000#32) pads_S4096x512_S4096x2048_000_153600 h_S_) (pad S4096x2048 ![0, 1024] ![0, 512] ![0, 0] (mulf (res_main_v17 W) (res_main_v232 W)) (constant S_ .f32 0x00000000#32) pads_S4096x512_S4096x2048_000_10245120 h_S_)) (pad S4096x2048 ![0, 512] ![0, 1024] ![0, 0] (mulf (res_main_v232 W) (res_main_v18 W)) (constant S_ .f32 0x00000000#32) pads_S4096x512_S4096x2048_000_51210240 h_S_)) (pad S4096x2048 ![0, 0] ![0, 1536] ![0, 0] (mulf (res_main_v120 W) (res_main_v43 W)) (constant S_ .f32 0x00000000#32) pads_S4096x512_S4096x2048_000_015360 h_S_) := rfl

theorem neg4_at (r : Fin 4096) (g : Fin 4) (c : Fin 128) : neg4 W (ix3 r g c) = -(mkIn W).dpl r.val (col g c) := by
  unfold neg4
  clean_types
  fin_cases g
  · pointwise
    exact congrArg Neg.neg (r_s0 W r c)
  · pointwise
    exact congrArg Neg.neg (r_s1 W r c)
  · pointwise
    exact congrArg Neg.neg (r_s2 W r c)
  · pointwise
    exact congrArg Neg.neg (r_s3 W r c)

theorem shift {w v : ℕ} {g : Fin 4} (X : FVec Ideal S4096x128 .f32) (p : ℕ) (hX : ∀ r c, X (ix2 r c) = (mkIn W).e r.val (col g c)) (r : Fin 4096) (c : Fin 128)
    (h : w = p ∧ v + w = 4096) :
    (if h' : r.val < v then -X (ix2 ⟨w + r.val, by omega⟩ c) else (0 : EReal))
      = if r.val + p < 4096 then -(mkIn W).e (r.val + p) (col g c) else 0 := by
  obtain ⟨rfl, hv⟩ := h
  split
  · rw [hX, if_pos (by omega)]
    exact congrArg (fun n => -(mkIn W).e n (col g c)) (Nat.add_comm w r.val)
  · rw [if_neg (by omega)]

theorem adj_at (r : Fin 4096) (g : Fin 4) (c : Fin 128) : adj W (ix3 r g c) = (mkIn W).e r.val (col g c)
    + (if r.val + 2 ^ (g.val + 1) < 4096 then -(mkIn W).e (r.val + 2 ^ (g.val + 1)) (col g c) else 0) := by
  unfold adj res_main_v146 res_main_v159 res_main_v173 res_main_v187
  clean_types
  fin_cases g
  · pointwise
    exact congr (congrArg HAdd.hAdd (r_e0 W r c)) (shift W (w := 2) (v := 4094) _ _ (r_e0 W) r c ⟨by norm_num, by norm_num⟩)
  · pointwise
    exact congr (congrArg HAdd.hAdd (r_e1 W r c)) (shift W (w := 4) (v := 4092) _ _ (r_e1 W) r c ⟨by norm_num, by norm_num⟩)
  · pointwise
    exact congr (congrArg HAdd.hAdd (r_e2 W r c)) (shift W (w := 8) (v := 4088) _ _ (r_e2 W) r c ⟨by norm_num, by norm_num⟩)
  · pointwise
    exact congr (congrArg HAdd.hAdd (r_e3 W r c)) (shift W (w := 16) (v := 4080) _ _ (r_e3 W) r c ⟨by norm_num, by norm_num⟩)

theorem pin_at (hf : ∀ r j, ∃ y : ℝ, (mkIn W).e r j = (y : EReal)) (r : Fin 4096) (g : Fin 4) (c : Fin 128) :
    pin W (ix3 r g c) = (mkIn W).dz r.val (col g c) := by
  unfold pin
  clean_types
  pointwise
  rw [neg4_at]
  rw [rev_sum (N := 4096) (Nm1 := 4095) (adj W) (broadcastInDim S_ ![] bcast_S_S_ (constant S_ .f32 0x00000000#32)) (fun _ => Ideal.ofBits_zero_f32)
    reduceWindows_S4096x4x128_S4096x4x128_w4096s1p0_4095_w1s1p0_0_w1s1p0_0 h_S_ r g c]
  have h : ∀ k : Fin 4096, (if h : r.val + k.val < 4096 then adj W (ix3 ⟨r.val + k.val, h⟩ g c) else (0 : EReal))
      = if r.val + k.val < 4096 then (mkIn W).e (r.val + k.val) (col g c)
        + (if r.val + k.val + 2 ^ (g.val + 1) < 4096 then -(mkIn W).e (r.val + k.val + 2 ^ (g.val + 1)) (col g c) else 0) else 0 := by
    intro k
    split
    · exact adj_at W _ g c
    · rfl
  simp only [h]
  rw [window (fun n => (mkIn W).e n (col g c)) (fun n => hf n _) (fun n hn => e_zero (zero_past W) hn _), ← wsum_eq (fun n => (mkIn W).e n (col g c)),
    In.dz, grp_col, add_comm, sub_eq_add_neg]

theorem r_dproj (hf : ∀ r j, ∃ y : ℝ, (mkIn W).e r j = (y : EReal)) (r : Fin 4096) (j : Fin 2048) :
    (res_main_v241 W : FVec Ideal S4096x2048 .f32) (ix2 r j) = (mkIn W).dproj r.val j := by
  rw [dproj_eq]
  clean_types
  pointwise
  have hj := j.isLt
  unfold In.dproj
  by_cases h0 : j.val < 512
  · rw [dif_neg (by omega), dif_neg (by omega), dif_neg (by omega), dif_pos h0, dif_pos h0, zero_add, zero_add, zero_add, r_dya]
    exact congrArg (_ * ·) (rows_at (φ := .f32) (res_main_v43 W) r _).symm
  by_cases h1 : j.val < 1024
  · rw [dif_neg (by omega), dif_neg (by omega), dif_pos (by omega), dif_neg h0, dif_neg h0, dif_pos h1, zero_add, zero_add, add_zero, r_dq, r_av]
    rfl
  by_cases h2 : j.val < 1536
  · rw [dif_neg (by omega), dif_pos (by omega), dif_neg (by omega), dif_neg h0, dif_neg h0, dif_neg h1, dif_pos h2, zero_add, add_zero, add_zero,
      r_dq, r_ac, mul_comm]
    rfl
  · rw [dif_pos (by omega), dif_neg (by omega), dif_neg (by omega), dif_neg h0, dif_neg h0, dif_neg h1, dif_neg h2, add_zero, add_zero, add_zero,
      pin_at W hf]
    exact congrArg _ (col_grp_pos ⟨j.val - 1536, by omega⟩)

end Cert.Even
-- ==== Proof.Reals.lean ====
/-
  Of real inputs every array of the backward pass is real, and the norm's backward pass in its two forms.
-/
module

public import proofs.«01_k».proof.Proof.Lits

@[expose] public section

noncomputable section

open Idealize.ShloMosaic

namespace Cert.Even

/-- A real entry. -/
def Re (x : EReal) : Prop := ∃ y : ℝ, x = (y : EReal)

theorem Re.add {x y : EReal} : Re x → Re y → Re (x + y)
  | ⟨a, ha⟩, ⟨b, hb⟩ => ⟨a + b, by rw [ha, hb, EReal.coe_add]⟩

theorem Re.mul {x y : EReal} : Re x → Re y → Re (x * y)
  | ⟨a, ha⟩, ⟨b, hb⟩ => ⟨a * b, by rw [ha, hb, EReal.coe_mul]⟩

theorem Re.sub {x y : EReal} : Re x → Re y → Re (x - y)
  | ⟨a, ha⟩, ⟨b, hb⟩ => ⟨a - b, by rw [ha, hb, EReal.coe_sub]⟩

theorem Re.zero : Re 0 := ⟨0, rfl⟩

theorem coe_sum {ι : Type} (s : Finset ι) (v : ι → ℝ) : ∑ k ∈ s, ((v k : ℝ) : EReal) = ((∑ k ∈ s, v k : ℝ) : EReal) := by
  classical
  induction s using Finset.induction_on with
  | empty => rfl
  | insert a s ha ih => rw [Finset.sum_insert ha, Finset.sum_insert ha, ih, EReal.coe_add]

theorem Re.sum {ι : Type} {s : Finset ι} {f : ι → EReal} (h : ∀ k, Re (f k)) : Re (∑ k ∈ s, f k) := by
  choose y hy using h
  exact ⟨∑ k ∈ s, y k, by simp only [hy, coe_sum]⟩

theorem Re.div {x : EReal} (hx : Re x) {y : ℝ} (hy : y ≠ 0) : Re (Ideal.div x (y : EReal)) := by
  rw [Ideal.div_coe hy]
  exact hx.mul ⟨_, rfl⟩

theorem Re.wsum {f : ℕ → EReal} (h : ∀ n, Re (f n)) (n r : ℕ) : Re (wsum f n r) := by
  rw [wsum_eq]
  exact Re.sum fun k => h _

/-- The norm's mean square and epsilon. -/
def ms (x : Fin 1024 → EReal) : EReal := Ideal.div (∑ k, x k * x k) (Ideal.ofBits .f32 0x44800000#32) + Ideal.ofBits .f32 0x358637BD#32

theorem ms_real (x : Fin 1024 → ℝ) : ∃ v : ℝ, 0 < v ∧ ms (fun k => (x k : EReal)) = (v : EReal) := by
  refine ⟨(∑ k, x k * x k) * (1 / 1024) + 8796093 / 8796093022208, ?_, ?_⟩
  · have h : 0 ≤ ∑ k, x k * x k := Finset.sum_nonneg fun k _ => mul_self_nonneg _
    positivity
  · rw [ms, lit_1024, lit_eps, Ideal.div_coe (by norm_num)]
    simp only [← EReal.coe_mul, coe_sum, EReal.coe_add]

theorem rsqrt_real {v : ℝ} (h : 0 < v) : Ideal.rsqrt (v : EReal) = (((Real.sqrt v)⁻¹ : ℝ) : EReal) := by
  rw [Ideal.rsqrt_coe, if_neg (not_lt.mpr h.le), if_neg h.ne']

theorem lit_mhalf : Ideal.ofBits .f32 0xBF000000#32 = ((-(1 / 2) : ℝ) : EReal) := by
  simp [Ideal.ofBits, Ideal.ieee, -EReal.coe_mul]; norm_num

/-- The norm's backward pass as the derivative of `x * rsqrt (ms x)` writes it. -/
theorem norm_back (x y : Fin 1024 → EReal) (hx : ∀ k, Re (x k)) (hy : ∀ k, Re (y k)) (d : EReal) (i : Fin 1024) :
    d + (y i * Ideal.rsqrt (ms x)
        + x i * Ideal.div ((∑ k, x k * y k) * (Ideal.ofBits .f32 0xBF000000#32 * Ideal.div (Ideal.rsqrt (ms x)) (ms x))) (Ideal.ofBits .f32 0x44800000#32)
        + Ideal.div ((∑ k, x k * y k) * (Ideal.ofBits .f32 0xBF000000#32 * Ideal.div (Ideal.rsqrt (ms x)) (ms x))) (Ideal.ofBits .f32 0x44800000#32) * x i)
      = d + Ideal.rsqrt (ms x) * (y i - x i * Ideal.rsqrt (ms x)
        * Ideal.div (∑ k, y k * (x k * Ideal.rsqrt (ms x))) (Ideal.ofBits .f32 0x44800000#32)) := by
  choose a ha using hx
  choose b hb using hy
  obtain rfl : x = fun k => (a k : EReal) := funext ha
  obtain rfl : y = fun k => (b k : EReal) := funext hb
  obtain ⟨v, hv, hm⟩ := ms_real a
  rw [hm, rsqrt_real hv, lit_1024, lit_mhalf, Ideal.div_coe hv.ne', Ideal.div_coe (by norm_num), Ideal.div_coe (by norm_num)]
  simp only [← EReal.coe_mul, coe_sum, ← EReal.coe_add, ← EReal.coe_sub]
  refine congrArg (d + ·) (congrArg Real.toEReal ?_)
  have hs : (Real.sqrt v)⁻¹ * (Real.sqrt v)⁻¹ = 1 / v := by
    rw [← mul_inv, Real.mul_self_sqrt hv.le, one_div]
  have h2 : ∑ k, b k * (a k * (Real.sqrt v)⁻¹) = (∑ k, a k * b k) * (Real.sqrt v)⁻¹ := by
    rw [Finset.sum_mul]
    exact Finset.sum_congr rfl fun k _ => by ring
  rw [h2, ← hs]
  ring

namespace In

/-- Every input is real. -/
structure Ok (I : In) : Prop where
  dh : ∀ r k, Re (I.dh r k)
  x : ∀ r k, Re (I.x r k)
  P : ∀ r k, Re (I.P r k)
  cq : ∀ r k, Re (I.cq r k)
  wo : ∀ i k, Re (I.wo i k)
  ca : ∀ i k, Re (I.ca i k)
  wp : ∀ g i k, Re (I.wp g i k)
  ps : ∀ k, Re (I.ps k)
  wi : ∀ i k, Re (I.wi i k)
  gn : ∀ k, Re (I.gn k)

variable {I : In} (H : I.Ok)

include H

theorem Ok.dmix (r : ℕ) (j : Fin 1024) : Re (I.dmix r j) := Re.sum fun k => (H.dh r k).mul (H.wo j k)
theorem Ok.dpl (r : ℕ) (j : Fin 512) : Re (I.dpl r j) := Re.sum fun _ => ((H.dmix r _).mul (H.ps _)).mul (H.wp _ _ _)
theorem Ok.e (r : ℕ) (j : Fin 512) : Re (I.e r j) := by
  obtain ⟨y, hy, hc⟩ := cnt_real r (grp j)
  rw [In.e, hc]
  exact (H.dpl r j).div hy.ne'
theorem Ok.dz (r : ℕ) (j : Fin 512) : Re (I.dz r j) := (Re.wsum (fun n => H.e n j) _ r).sub (H.dpl r j)
theorem Ok.dcq (r : ℕ) (j : Fin 512) : Re (I.dcq r j) := (H.dmix r _).mul (H.P r _)
theorem Ok.dq (r : ℕ) (j : Fin 512) : Re (I.dq r j) :=
  (((H.ca _ _).mul (H.dcq _ _)).add ((H.ca _ _).mul (H.dcq _ _))).add ((H.ca _ _).mul (H.dcq _ _))
theorem Ok.dproj (r : ℕ) (j : Fin 2048) : Re (I.dproj r j) := by
  unfold In.dproj
  split
  · exact (H.dmix r _).mul (H.cq r _)
  split
  · exact (H.dq r _).mul (H.P r _)
  split
  · exact (H.dq r _).mul (H.P r _)
  · exact H.dz r _
theorem Ok.dxh (r : ℕ) (i : Fin 1024) : Re (I.dxh r i) := (Re.sum fun j => (H.dproj r j).mul (H.wi i j)).mul (H.gn i)

end In

end Cert.Even
-- ==== Proof.Ref3.lean ====
/-
  The reference's six results at an index.
-/
module

public import proofs.«01_k».proof.Proof.Ref2
public import proofs.«01_k».proof.Proof.Reals

@[expose] public section

set_option maxRecDepth 16384

noncomputable section

open Idealize.ShloMosaic Idealize.ShloMosaic.TcCoe Idealize.SL.Sem

namespace Cert.Even

open Cert.ReferenceIdeal Cert.ReferenceIdeal.Gen Cert.ReferenceIdeal.Value

/-- Every argument's entries are real. -/
structure Fin' (W : Valuation τ sig (Elt Ideal)) : Prop where
  a0 : ∀ i, Re (A0 W i)
  a1 : ∀ i, Re (A1 W i)
  a2 : ∀ i, Re (A2 W i)
  a3 : ∀ i, Re (A3 W i)
  a4 : ∀ i, Re (A4 W i)
  a5 : ∀ i, Re (A5 W i)
  a6 : ∀ i, Re (A6 W i)
  a7 : ∀ i, Re (A7 W i)

theorem Re.rows {n : ℕ} {φ : FTy} {X : FVec Ideal ⟨2, ![4096, n]⟩ φ} (h : ∀ r k, Re (X (ix2 r k))) (r : ℕ) (k : Fin n) : Re (rows X r k) := by
  unfold Cert.Even.rows
  split
  · exact h _ _
  · exact Re.zero

variable (W : Valuation τ sig (Elt Ideal))

theorem r_ms (r : Fin 4096) : (res_main_v6 W : FVec Ideal S4096x1 .f32) (ix2 r 0) = ms (fun k => (mkIn W).x r.val k) := by
  unfold res_main_v6
  clean_types
  pointwise
  have h : ∀ k, A0 W (ix2 r k) = (mkIn W).x r.val k := fun k => (rows_at (A0 W) r k).symm
  simp only [h, ms]

theorem r_rr (r : Fin 4096) : (res_main_v7 W : FVec Ideal S4096x1 .f32) (ix2 r 0) = Ideal.rsqrt (ms (fun k => (mkIn W).x r.val k)) := by
  unfold res_main_v7
  clean_types
  pointwise
  exact congrArg Ideal.rsqrt (r_ms W r)

theorem r_xh (r : Fin 4096) (k : Fin 1024) : (res_main_v12 W : FVec Ideal S4096x1024 .f32) (ix2 r k) = (mkIn W).xh r.val k := by
  unfold res_main_v12
  clean_types
  pointwise
  rw [r_rr]
  exact congrArg (· * _) (rows_at (A0 W) r k).symm

theorem r_P (r : Fin 4096) (j : Fin 2048) : (res_main_v15 W : FVec Ideal S4096x2048 .f32) (ix2 r j)
    = ∑ k, (mkIn W).xh r.val k * (mkIn W).gn k * (mkIn W).wi k j := by
  unfold res_main_v15
  clean_types
  pointwise
  exact Finset.sum_congr rfl fun k _ => by rw [r_xh]; rfl

theorem t37 (r : Fin 4096) (j : Fin 512) : (res_main_v37 W : FVec Ideal S4096x512 .f32) (ix2 r j) = (mkIn W).q r.val j := by
  unfold res_main_v37 res_main_v22
  clean_types
  pointwise
  rw [r_ac, r_av]
  rfl

theorem t30 (r : Fin 4096) (j : Fin 512) : (res_main_v30 W : FVec Ideal S4096x512 .f32) (ix2 r j)
    = if 1 ≤ r.val then (mkIn W).q (r.val - 1) j else 0 := by
  unfold res_main_v30 res_main_v22
  clean_types
  pointwise
  by_cases h : 1 + r.val < 2
  · exact (dif_pos h).trans (if_neg (by omega)).symm
  · refine (dif_neg h).trans (Eq.trans ?_ (if_pos (by omega)).symm)
    refine (congrArg₂ (fun a b : EReal => a * b) (r_ac W _ j) (r_av W _ j)).trans ?_
    exact congrArg (fun n => (mkIn W).q n j) (by omega : 1 + r.val - 2 = r.val - 1)

theorem t24 (r : Fin 4096) (j : Fin 512) : (res_main_v24 W : FVec Ideal S4096x512 .f32) (ix2 r j)
    = if 2 ≤ r.val then (mkIn W).q (r.val - 2) j else 0 := by
  unfold res_main_v24 res_main_v22
  clean_types
  pointwise
  by_cases h : r.val < 2
  · exact (dif_pos h).trans (if_neg (by omega)).symm
  · refine (dif_neg h).trans (Eq.trans ?_ (if_pos (by omega)).symm)
    exact congr (congrArg HMul.hMul (r_ac W _ j)) (r_av W _ j)

variable {W} (H : Fin' W)

include H

theorem ok : (mkIn W).Ok := by
  have hx : ∀ r k, Re ((mkIn W).x r k) := Re.rows fun r k => H.a0 _
  have hrr : ∀ r : ℕ, Re (Ideal.rsqrt (ms (fun k => (mkIn W).x r k))) := by
    intro r
    choose y hy using hx r
    obtain ⟨v, hv, hm⟩ := ms_real y
    simp only [hy]
    rw [hm, rsqrt_real hv]
    exact ⟨_, rfl⟩
  have hP : ∀ r k, Re ((mkIn W).P r k) := Re.rows (φ := .f32) (X := res_main_v15 W) fun r k => by
    rw [r_P]
    exact Re.sum fun i => (((hx r.val i).mul (hrr r.val)).mul (H.a1 _)).mul (H.a2 _)
  have hq : ∀ r j, Re ((mkIn W).q r j) := fun r j => (hP r _).mul (hP r _)
  refine ⟨Re.rows fun r k => H.a7 _, hx, hP, Re.rows (φ := .f32) (X := res_main_v43 W) fun r k => ?_, fun i k => H.a6 _, fun i k => H.a3 _, fun g i k => H.a4 _,
    fun k => H.a5 _, fun i k => H.a2 _, fun k => H.a1 _⟩
  unfold res_main_v43 res_main_v40 res_main_v33 res_main_v27
  clean_types
  pointwise
  rw [t24, t30, t37]
  refine ((Re.mul ?_ (H.a3 _)).add (Re.mul ?_ (H.a3 _))).add ((hq _ _).mul (H.a3 _))
  · split
    · exact hq _ _
    · exact Re.zero
  · split
    · exact hq _ _
    · exact Re.zero

end Cert.Even
-- ==== Proof.Ref4.lean ====
/-
  The reference's six results at an index.
-/
module

public import proofs.«01_k».proof.Proof.Ref3

@[expose] public section

set_option maxRecDepth 16384

noncomputable section

open Idealize.ShloMosaic Idealize.ShloMosaic.TcCoe Idealize.SL.Sem

namespace Cert.Even

open Cert.ReferenceIdeal Cert.ReferenceIdeal.Gen Cert.ReferenceIdeal.Value

variable {W : Valuation τ sig (Elt Ideal)}

theorem moved (f g : ℕ → EReal) (hg : ∀ n, 4096 ≤ n → g n = 0) (s : ℕ) :
    ∑ r : Fin 4096, (if s ≤ r.val then f (r.val - s) else 0) * g r.val = ∑ r : Fin 4096, g (r.val + s) * f r.val := by
  rw [← Finset.sum_range (fun r => (if s ≤ r then f (r - s) else 0) * g r), ← Finset.sum_range (fun r => g (r + s) * f r)]
  have h1 := Finset.sum_range_add (fun r => (if s ≤ r then f (r - s) else 0) * g r) 4096 s
  have h2 := Finset.sum_range_add (fun r => (if s ≤ r then f (r - s) else 0) * g r) s 4096
  rw [Finset.sum_eq_zero (s := Finset.range s) (f := fun x => (if s ≤ 4096 + x then f (4096 + x - s) else 0) * g (4096 + x))
    (fun x _ => by rw [hg _ (by omega), mul_zero]), add_zero] at h1
  rw [Finset.sum_eq_zero (s := Finset.range s) (f := fun r => (if s ≤ r then f (r - s) else 0) * g r)
    (fun x hx => by rw [if_neg (by have := Finset.mem_range.mp hx; omega), zero_mul]), zero_add] at h2
  rw [← h1, Nat.add_comm 4096 s, h2]
  refine Finset.sum_congr rfl fun r _ => ?_
  rw [if_pos (by omega), mul_comm, Nat.add_comm s r, Nat.add_sub_cancel]

theorem r_pl (r : Fin 4096) (g : Fin 4) (c : Fin 128) : (res_main_v111 W : FVec Ideal S4096x4x128 .f32) (ix3 r g c) = (mkIn W).pl r.val (col g c) := by
  refine Eq.trans ?_ (dif_pos r.isLt).symm
  rw [grp_col, pos_col]

theorem r_dmx (r : Fin 4096) (g : Fin 4) (c : Fin 128) : (res_main_v128 W : FVec Ideal S4x128x4096 .f32) (ix3 g c r) = (mkIn W).dmx r.val g c := by
  unfold res_main_v128
  clean_types
  pointwise
  have hx : (⟨g.val * 128 + c.val, by omega⟩ : Fin 512) = col g c := Fin.ext (by simp only [col]; omega)
  rw [hx, r_dyb]
  rfl

theorem r_mixed (r : Fin 4096) (j : Fin 512) : (res_main_v114 W : FVec Ideal S4096x512 .f32) (ix2 r j) = (mkIn W).mixed r.val j := by
  unfold res_main_v114
  clean_types
  pointwise
  refine Finset.sum_congr rfl fun c _ => ?_
  refine (congrArg (fun a : EReal => _ * a) (r_pl r (grp j) c)).trans ?_
  rw [mul_comm]
  rfl

theorem r_dxn (H : Fin' W) (r : Fin 4096) (i : Fin 1024) : (res_main_v242 W : FVec Ideal S4096x1024 .f32) (ix2 r i) = (mkIn W).dxn r.val i := by
  unfold res_main_v242
  clean_types
  pointwise
  exact Finset.sum_congr rfl fun j _ => congrArg (· * _) (r_dproj W (fun n i => (ok H).e n i) r j)

theorem r_dxh (H : Fin' W) (r : Fin 4096) (i : Fin 1024) : (res_main_v247 W : FVec Ideal S4096x1024 .f32) (ix2 r i) = (mkIn W).dxh r.val i := by
  unfold res_main_v247
  clean_types
  pointwise
  rw [r_dxn H]
  rfl

theorem r_c (H : Fin' W) (r : Fin 4096) (i : Fin 1024) : (res_main_v257 W : FVec Ideal S4096x1024 .f32) (ix2 r i)
    = Ideal.div ((∑ k, (mkIn W).x r.val k * (mkIn W).dxh r.val k) * (Ideal.ofBits .f32 0xBF000000#32
      * Ideal.div (Ideal.rsqrt (ms (fun k => (mkIn W).x r.val k))) (ms (fun k => (mkIn W).x r.val k)))) (Ideal.ofBits .f32 0x44800000#32) := by
  unfold res_main_v257
  clean_types
  pointwise
  have h : ∀ k, A0 W (ix2 r k) = (mkIn W).x r.val k := fun k => (rows_at (A0 W) r k).symm
  rw [Fin.sum_univ_one]
  simp only [r_dxh H, r_rr, r_ms, h]

theorem out_dproj (H : Fin' W) (r : Fin 4096) (j : Fin 2048) : (truncf .bf16 (res_main_v241 W) bitsLt_bf16_f32 : FVec Ideal S4096x2048 .bf16) (ix2 r j) = (mkIn W).dproj r.val j := by
  exact r_dproj W (fun n i => (ok H).e n i) r j

theorem out_dx (H : Fin' W) (r : Fin 4096) (j : Fin 1024) : (addf (W (Proc.devRef .tc main_arg7)) (addf (addf (mulf (res_main_v247 W) (broadcastInDim S4096x1024 ![0, 1] bcast_S4096x1_S4096x1024_0_1 (res_main_v7 W))) (mulf (W (Proc.devRef .tc main_arg0)) (res_main_v257 W))) (mulf (res_main_v257 W) (W (Proc.devRef .tc main_arg0)))) : FVec Ideal S4096x1024 .f32) (ix2 r j) = (mkIn W).dx r.val j := by
  clean_types
  pointwise
  rw [r_dxh H, r_rr, r_c H]
  have h : A0 W (ix2 r j) = (mkIn W).x r.val j := (rows_at (A0 W) r j).symm
  have h' : A7 W (ix2 r j) = (mkIn W).dh r.val j := (rows_at (A7 W) r j).symm
  simp only [h, h']
  exact norm_back _ _ ((ok H).x r.val) ((ok H).dxh r.val) _ j

theorem out_dgain (H : Fin' W) (j : Fin 1024) : (shapeCast S1x1024 (Host.reduceAdd (mulf (res_main_v12 W) (res_main_v242 W)) (constant S_ .f32 0x00000000#32) reducesTo_S4096x1024_S1024_d0 h_S_) shapeCasts_S1024_S1x1024 : FVec Ideal S1x1024 .f32) (ix2 0 j) = ∑ r : Fin 4096, (mkIn W).tg j r.val := by
  clean_types
  pointwise
  exact Finset.sum_congr rfl fun r _ => by rw [r_xh, r_dxn H, mul_comm]; rfl

theorem out_dca (H : Fin' W) (k : Fin 3) (j : Fin 512) : (addf (addf (pad S3x512 ![2, 0] ![0, 0] ![0, 0] (broadcastInDim S1x512 ![1] bcast_S512_S1x512_1 (Host.reduceAdd (shapeCast _ (Host.reduceAdd (mulf (res_main_v37 W) (res_main_v198 W)) (constant S_ .f32 0x00000000#32) reducesTo_S4096x512_S512_d0 h_S_) shapeCasts_S512_S1x512) (constant S_ .f32 0x00000000#32) reducesTo_S1x512_S512_d0 h_S_)) (constant S_ .f32 0x00000000#32) pads_S1x512_S3x512_200_000 h_S_) (pad S3x512 ![1, 0] ![1, 0] ![0, 0] (broadcastInDim S1x512 ![1] bcast_S512_S1x512_1 (Host.reduceAdd (shapeCast _ (Host.reduceAdd (mulf (res_main_v30 W) (res_main_v198 W)) (constant S_ .f32 0x00000000#32) reducesTo_S4096x512_S512_d0 h_S_) shapeCasts_S512_S1x512) (constant S_ .f32 0x00000000#32) reducesTo_S1x512_S512_d0 h_S_)) (constant S_ .f32 0x00000000#32) pads_S1x512_S3x512_110_000 h_S_)) (pad S3x512 ![0, 0] ![2, 0] ![0, 0] (broadcastInDim S1x512 ![1] bcast_S512_S1x512_1 (Host.reduceAdd (shapeCast _ (Host.reduceAdd (mulf (res_main_v24 W) (res_main_v198 W)) (constant S_ .f32 0x00000000#32) reducesTo_S4096x512_S512_d0 h_S_) shapeCasts_S512_S1x512) (constant S_ .f32 0x00000000#32) reducesTo_S1x512_S512_d0 h_S_)) (constant S_ .f32 0x00000000#32) pads_S1x512_S3x512_020_000 h_S_) : FVec Ideal S3x512 .f32) (ix2 k j) = ∑ r : Fin 4096, (mkIn W).tca k j r.val := by
  clean_types
  pointwise
  have hs : ∀ (X Y : FVec Ideal S4096x512 .f32) (s : ℕ) (hX : ∀ r j, X (ix2 r j) = if s ≤ r.val then (mkIn W).q (r.val - s) j else 0)
      (hY : ∀ r j, Y (ix2 r j) = (mkIn W).dcq r.val j),
      ∑ _x : Fin 1, ∑ x : Fin 4096, X (ix2 x j) * Y (ix2 x j) = ∑ r : Fin 4096, (mkIn W).dcq (r.val + s) j * (mkIn W).q r.val j := by
    intro X Y s hX hY
    rw [Fin.sum_univ_one]
    refine (Finset.sum_congr rfl fun x _ => ?_).trans (moved (fun n => (mkIn W).q n j) (fun n => (mkIn W).dcq n j)
      (fun n hn => dcq_zero (zero_past W) hn j) s)
    rw [hX, hY]
  have h37 := hs _ _ 0 (fun r j => (t37 W r j).trans (if_pos (Nat.zero_le _)).symm) (r_dcq W)
  have h30 := hs _ _ 1 (t30 W) (r_dcq W)
  have h24 := hs _ _ 2 (t24 W) (r_dcq W)
  fin_cases k
  · refine (congrArg₂ (fun a b : EReal => a + b) (congrArg₂ (fun a b : EReal => a + b) (dif_neg (by decide)) (dif_neg (by decide))) (dif_pos (by decide))).trans ?_
    rw [zero_add, zero_add]
    exact h24
  · refine (congrArg₂ (fun a b : EReal => a + b) (congrArg₂ (fun a b : EReal => a + b) (dif_neg (by decide)) (dif_pos (by decide))) (dif_neg (by decide))).trans ?_
    rw [add_zero, zero_add]
    exact h30
  · refine (congrArg₂ (fun a b : EReal => a + b) (congrArg₂ (fun a b : EReal => a + b) (dif_pos (by decide)) (dif_neg (by decide))) (dif_neg (by decide))).trans ?_
    rw [add_zero, add_zero]
    exact h37

theorem out_dwp (H : Fin' W) (g : Fin 4) (a b : Fin 128) : (transpose S4x128x128 [0, 2, 1] (Host.dotGeneral (φ₁ := .f32) (φ₂ := .f32) dot_S4x128x4096_S4096x4x128_S4x128x128_2_0_1_2_0_1 none (res_main_v128 W) (res_main_v111 W)) transposes_S4x128x128_S4x128x128_0_2_1 : FVec Ideal S4x128x128 .f32) (ix3 g a b) = ∑ r : Fin 4096, (mkIn W).twp g a b r.val := by
  clean_types
  pointwise
  refine Finset.sum_congr rfl fun r _ => ?_
  rw [r_dmx, r_pl, mul_comm]
  rfl

theorem out_dps (H : Fin' W) (j : Fin 512) : (shapeCast S1x512 (Host.reduceAdd (mulf (res_main_v114 W) (res_main_v121 W)) (constant S_ .f32 0x00000000#32) reducesTo_S4096x512_S512_d0 h_S_) shapeCasts_S512_S1x512 : FVec Ideal S1x512 .f32) (ix2 0 j) = ∑ r : Fin 4096, (mkIn W).tps j r.val := by
  clean_types
  pointwise
  refine Finset.sum_congr rfl fun r _ => ?_
  rw [r_mixed, r_dyb, mul_comm]
  rfl

end Cert.Even
-- ==== Proof.Even.lean ====
/-
  The kernel's claims: the argument arrays finite from the precondition, and the kernel's six results set beside the reference's.
-/
module

public import proofs.«01_k».proof.Defs
public import proofs.«01_k».proof.Proof.State
public import proofs.«01_k».proof.Proof.Fit
public import proofs.«01_k».proof.Proof.Ref4
public import proofs.«01_k».proof.Proof.Gen.Kernel.Frame
public import proofs.«01_k».proof.Proof.Gen.Pre_finite
public import Idealize.ShloMosaic.Lib.ReduceAll

@[expose] public section

set_option maxRecDepth 16384

noncomputable section

open Idealize.ShloMosaic Idealize.ShloMosaic.TcCoe Idealize.SL.Sem Idealize.ShloMosaic.StableHlo

namespace Cert.Even

theorem lit_inf : Ideal.ofBits .f32 0x7F800000#32 = ⊤ := by
  simp [Ideal.ofBits, Ideal.ieee]

theorem real_of_lt (x : EReal) (h : Ideal.cmp .olt (max x (-x)) (Ideal.ofBits .f32 0x7F800000#32) = 1#1) : Re x := by
  rw [lit_inf] at h
  have h' : max x (-x) < ⊤ := by
    by_contra hn
    simp only [Ideal.cmp, hn, decide_false] at h
    exact absurd h (by decide)
  induction x with
  | bot => simp at h'
  | top => simp at h'
  | coe y => exact ⟨y, rfl⟩

/-- What the precondition says of one array: all its elements are finite. -/
theorem all_real {s t u : Shape} [Subsingleton t.Idx] {axes : List (Fin s.rank)} {x : FVec Ideal s .f32}
    {init : u.Idx → BitVec 1} {y : FVec Ideal s .f32} {hr : s.ReducesTo axes t} {hu : 0 < u.numel} {j : t.Idx}
    (e : Host.reduce IntOp.andi (cmpf .olt (Host.absf x) y) init hr hu j = 1#1)
    (hy : ∀ i, y i = Ideal.ofBits .f32 0x7F800000#32) (i : s.Idx) : Re (x i) := by
  have h := Host.reduce_andi_all _ _ _ _ j e i
  refine real_of_lt _ ?_
  rw [← hy i]
  exact h

theorem finite_of {W : Valuation Cert.ReferenceIdeal.τ Cert.ReferenceIdeal.sig (Elt Ideal)}
    (h : Cert.Pre_finite.fn (F := Ideal) (A0 W) (A1 W) (A2 W) (A3 W) (A4 W) (A5 W) (A6 W) (A7 W) = fun _ => 1#1) : Fin' W := by
  have : Subsingleton Cert.Pre_finite.S_.Idx := ⟨fun a b => funext fun k => k.elim0⟩
  have e := congrFun h (fun k => k.elim0)
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨all_real h0 fun _ => rfl, all_real h1 fun _ => rfl, all_real h2 fun _ => rfl, all_real h3 fun _ => rfl,
    all_real h4 fun _ => rfl, all_real h5 fun _ => rfl, all_real h6 fun _ => rfl, all_real h7 fun _ => rfl⟩

theorem frame_k : Cert.quiescent_Kernel := fun m ρ _ => Cert.Kernel.Gen.frame m ρ

theorem frame_ki : Cert.quiescent_KernelIdeal := fun m ρ _ => Cert.KernelIdeal.Gen.frame m ρ

theorem frame_ri : Cert.quiescent_ReferenceIdeal := fun m ρ _ =>
  (θ_run Cert.ReferenceIdeal.defs _ _).mono (fun r h => ⟨fun c => (h c).2.2.2.2.2.2,
      sem_eq_zero_of_no_sems (by decide) r.2⟩)
    (Cert.ReferenceIdeal.Value.run (F := Ideal) m ρ)

theorem alg : Cert.algebraic_KernelIdeal_ReferenceIdeal_pre_finite := by
  intro m ρ m' ρ' hpre hag
  have S : ∀ c, Same m c (launchContents m' c) := fun c => by
    obtain ⟨h0, h1, h2, h3, h4, h5, h6, h7⟩ := hag c
    exact ⟨h0.symm, h1.symm, h2.symm, h3.symm, h4.symm, h5.symm, h6.symm, h7.symm⟩
  have H : ∀ c, Fin' (launchContents m' c) := fun c => by
    have h := hpre c
    have s := S c
    refine finite_of ?_
    rw [← show _ = A0 (launchContents m' c) from s.a0, ← show _ = A1 (launchContents m' c) from s.a1,
      ← show _ = A2 (launchContents m' c) from s.a2, ← show _ = A3 (launchContents m' c) from s.a3,
      ← show _ = A4 (launchContents m' c) from s.a4, ← show _ = A5 (launchContents m' c) from s.a5,
      ← show _ = A6 (launchContents m' c) from s.a6, ← show _ = A7 (launchContents m' c) from s.a7]
    exact h
  refine ⟨_, _, _, _, _, _, Cert.KernelIdeal.Value.run_blocks m ρ, ?_⟩
  refine (θ_run Cert.ReferenceIdeal.defs _ _).mono (fun _ h c => ?_) (Cert.ReferenceIdeal.Value.run (F := Ideal) m' ρ')
  obtain ⟨h0, h1, h2, h3, h4, h5, hr⟩ := h c
  have F := fit (S c)
  refine ⟨h0.trans ?_, h1.trans ?_, h2.trans ?_, h3.trans ?_, h4.trans ?_, h5.trans ?_, hr⟩
  · funext i
    obtain ⟨r, j, rfl⟩ : ∃ (r : Fin 4096) (j : Fin 2048), i = ix2 r j := ⟨i 0, i 1, eq_ix2 i⟩
    exact (out_dproj (H c) r j).trans (end_dproj F r j).symm
  · funext i
    obtain ⟨r, j, rfl⟩ : ∃ (r : Fin 4096) (j : Fin 1024), i = ix2 r j := ⟨i 0, i 1, eq_ix2 i⟩
    exact (out_dx (H c) r j).trans (end_dx F r j).symm
  · funext i
    obtain ⟨r, j, rfl⟩ : ∃ (r : Fin 1) (j : Fin 1024), i = ix2 r j := ⟨i 0, i 1, eq_ix2 i⟩
    rw [Subsingleton.elim r 0]
    exact (out_dgain (H c) j).trans (end_dgain F j).symm
  · funext i
    obtain ⟨r, j, rfl⟩ : ∃ (r : Fin 3) (j : Fin 512), i = ix2 r j := ⟨i 0, i 1, eq_ix2 i⟩
    exact (out_dca (H c) r j).trans (end_dca F r j).symm
  · funext i
    obtain ⟨g, a, b, rfl⟩ : ∃ (g : Fin 4) (a b : Fin 128), i = ix3 g a b := ⟨i 0, i 1, i 2, eq_ix3 i⟩
    exact (out_dwp (H c) g a b).trans (end_dwp F g a b).symm
  · funext i
    obtain ⟨r, j, rfl⟩ : ∃ (r : Fin 1) (j : Fin 512), i = ix2 r j := ⟨i 0, i 1, eq_ix2 i⟩
    rw [Subsingleton.elim r 0]
    exact (out_dps (H c) j).trans (end_dps F j).symm

end Cert.Even
end
-- ==== Proof.FbPay.lean ====
/-
  The backward pass through the feed-forward projections and the norm before them, row by row, and what the kernel's
  payloads hold of it.
-/
module

public import proofs.«01_k».proof.Proof.Feed
public import proofs.«01_k».proof.Proof.Reals
public import proofs.«01_k».proof.Proof.Gen.FfnBackIdeal.Value

@[expose] public section

set_option maxRecDepth 16384

noncomputable section

open Idealize.ShloMosaic Idealize.ShloMosaic.TcCoe

namespace Cert.Fb

open Cert.FfnBackIdeal Cert.FfnBackIdeal.Gen
open Cert.Even (ms Rows)

/-- What the pass reads. -/
structure In where
  /-- the gradients of the two projections -/
  dg : ℕ → Fin 3072 → EReal
  du : ℕ → Fin 3072 → EReal
  /-- the two weights -/
  wg : Fin 1024 → Fin 3072 → EReal
  wu : Fin 1024 → Fin 3072 → EReal
  /-- the layer's input and the norm's gain -/
  h : ℕ → Fin 1024 → EReal
  gn : Fin 1024 → EReal
  /-- the gradient that has come past the layer -/
  dh : ℕ → Fin 1024 → EReal

namespace In

variable (I : In)

/-- The gradient of the normalized rows. -/
def dxn (r : ℕ) (i : Fin 1024) : EReal := ∑ k, I.dg r k * I.wg i k + ∑ k, I.du r k * I.wu i k
/-- The norm's factor. -/
def rr (r : ℕ) : EReal := Ideal.rsqrt (ms (I.h r))
def xh (r : ℕ) (i : Fin 1024) : EReal := I.h r i * I.rr r
def dy (r : ℕ) (i : Fin 1024) : EReal := I.dxn r i * I.gn i
/-- The gradient through the norm. -/
def dx (r : ℕ) (i : Fin 1024) : EReal :=
  I.rr r * (I.dy r i - I.xh r i * Ideal.div (∑ k, I.dy r k * I.xh r k) (Ideal.ofBits .f32 0x44800000#32))
def dho (r : ℕ) (i : Fin 1024) : EReal := I.dh r i + I.dx r i
/-- A row's part of the gain's gradient. -/
def tg (i : Fin 1024) (r : ℕ) : EReal := I.dxn r i * I.xh r i

end In

variable {I : In} {B : ℕ}
variable {v1 v3 : FVec Ideal S3072x1024 .bf16} {v4 : FVec Ideal S1x1024 .f32} {v43 v46 : FVec Ideal S256x3072 .bf16} {v50 v77 : FVec Ideal S256x1024 .f32}
  (h1 : ∀ (k : Fin 3072) (i : Fin 1024), v1 (ix2 k i) = I.wg i k) (h3 : ∀ (k : Fin 3072) (i : Fin 1024), v3 (ix2 k i) = I.wu i k)
  (h4 : ∀ i : Fin 1024, v4 (ix2 0 i) = I.gn i)
  (h43 : Rows v43 I.dg B) (h46 : Rows v46 I.du B) (h50 : Rows v50 I.h B) (h77 : Rows v77 I.dh B)

include h1 h3 h43 h46 in
theorem p13 : Rows (k0_pay13 (F := Ideal) v1 v3 v43 v46) I.dxn B := by
  intro ρ j
  unfold k0_pay13
  pointwise
  simp only [h43 _ _, h46 _ _, h1, h3]
  rfl

include h50 in
theorem p14 (ρ : Fin 256) : k0_pay14 (F := Ideal) v50 (ix2 ρ 0) = I.rr (B + ρ.val) := by
  unfold k0_pay14
  pointwise
  simp only [h50 _ _]
  rfl

include h50 in
theorem p15 : Rows (k0_pay15 (F := Ideal) v50) I.xh B := by
  intro ρ j
  unfold k0_pay15
  pointwise
  rw [p14 h50, h50]
  rfl

include h1 h3 h4 h43 h46 h50 in
theorem p16 : Rows (k0_pay16 (F := Ideal) v1 v3 v4 v43 v46 v50) I.dx B := by
  intro ρ j
  unfold k0_pay16
  pointwise
  simp only [p14 h50, p13 h1 h3 h43 h46 _ _, p15 h50 _ _, h4]
  rfl

include h1 h3 h43 h46 h50 in
theorem p17 (v25 : FVec Ideal S1x1024 .f32) (j : Fin 1024) :
    k0_pay17 (F := Ideal) v1 v3 v25 v43 v46 v50 (ix2 0 j) = v25 (ix2 0 j) + ∑ ρ : Fin 256, I.tg j (B + ρ.val) := by
  unfold k0_pay17
  pointwise
  simp only [p13 h1 h3 h43 h46 _ _, p15 h50 _ _]
  rfl

include h1 h3 h43 h46 h50 in
theorem p9 (j : Fin 1024) : k0_pay9 (F := Ideal) v1 v3 v43 v46 v50 (ix2 0 j) = ∑ ρ : Fin 256, I.tg j (B + ρ.val) := by
  unfold k0_pay9
  pointwise
  refine Finset.sum_congr rfl fun ρ _ => congrArg₂ (fun a b : EReal => a * b) ?_ (p15 h50 ρ j)
  exact p13 (v1 := k0_pay4 v1) (v3 := k0_pay5 v3) (fun k i => by unfold k0_pay4; pointwise; exact h1 k i) (fun k i => by unfold k0_pay5; pointwise; exact h3 k i) h43 h46 ρ j

include h1 h3 h4 h43 h46 h50 in
theorem p10 : Rows (k0_pay10 (F := Ideal) v1 v3 v4 v43 v46 v50) I.dx B :=
  p16 (v1 := k0_pay4 v1) (v3 := k0_pay5 v3) (fun k i => by unfold k0_pay4; pointwise; exact h1 k i) (fun k i => by unfold k0_pay5; pointwise; exact h3 k i) h4 h43 h46 h50

include h77 in
theorem p1 {x : FVec Ideal S256x1024 .f32} (hx : Rows x I.dx B) : Rows (k0_pay1 (F := Ideal) x v77) I.dho B := by
  intro ρ j
  unfold k0_pay1
  pointwise
  rw [h77, hx]
  rfl

end Cert.Fb
-- ==== Proof.WgSum.lean ====
/-
  A sum over all rows taken a block of rows at a time.
-/
module

public import Idealize.ShloMosaic.Lib.Pointwise

@[expose] public section

noncomputable section

namespace Cert.Wg

/-- The sum over the rows of the first `n` blocks of `s` rows. -/
def first (s : ℕ) (f : ℕ → EReal) (n : ℕ) : EReal := ∑ r ∈ Finset.range (n * s), f r

theorem first_one {s : ℕ} (f : ℕ → EReal) : first s f 1 = ∑ ρ : Fin s, f (0 * s + ρ.val) := by
  unfold first
  rw [Nat.one_mul, Finset.sum_range]
  simp only [Nat.zero_mul, Nat.zero_add]

theorem first_succ {s : ℕ} (f : ℕ → EReal) (n : ℕ) : first s f (n + 1) = first s f n + ∑ ρ : Fin s, f (n * s + ρ.val) := by
  unfold first
  rw [Nat.succ_mul, Finset.sum_range_add, Finset.sum_range (fun x => f (n * s + x))]

theorem first_all {s N n : ℕ} (f : ℕ → EReal) (h : n * s = N) : first s f n = ∑ r : Fin N, f r.val := by
  unfold first
  rw [h, Finset.sum_range]

end Cert.Wg
-- ==== Proof.FbWin.lean ====
/-
  What a grid point of the pass through the feed-forward projections reads and writes, and the three arrays at the end.
-/
module

public import proofs.«01_k».proof.Proof.FbPay
public import proofs.«01_k».proof.Proof.WgSum
public import Idealize.ShloMosaic.Lib.StableHlo.RunRead

@[expose] public section

set_option maxRecDepth 16384

noncomputable section

open Idealize.ShloMosaic Idealize.ShloMosaic.TcCoe Idealize.SL.Sem Idealize.ShloMosaic.StableHlo

namespace Cert.Fb

open Cert.FfnBackIdeal Cert.FfnBackIdeal.Gen Cert.FfnBackIdeal.Value
open Cert.Even (Rows rd2 ld2 canon2 canonNot2 emb2 zero_off)
open Cert.Wg (first first_one first_succ first_all)

variable (m : (ℓ : Loc nD τ sig) → Buf (Elt Ideal) ℓ) (c : Dev nD) (t : Fin cfg0.N)

/-- A row number within the arrays. -/
def row (r : ℕ) : Fin 4096 := ⟨r % 4096, Nat.mod_lt _ (by decide)⟩

theorem row_val (r : Fin 4096) : row r.val = r := Fin.ext (Nat.mod_eq_of_lt r.isLt)

/-- The arguments. -/
def inp : In where
  dg r k := (m (c, Proc.tc.devRef main_arg0) : FVec Ideal S4096x3072 .f32) (ix2 (row r) k)
  du r k := (m (c, Proc.tc.devRef main_arg1) : FVec Ideal S4096x3072 .f32) (ix2 (row r) k)
  wg i k := (m (c, Proc.tc.devRef main_arg2) : FVec Ideal S1024x3072 .f32) (ix2 i k)
  wu i k := (m (c, Proc.tc.devRef main_arg3) : FVec Ideal S1024x3072 .f32) (ix2 i k)
  h r i := (m (c, Proc.tc.devRef main_arg4) : FVec Ideal S4096x1024 .f32) (ix2 (row r) i)
  gn i := (m (c, Proc.tc.devRef main_arg5) : FVec Ideal S1x1024 .f32) (ix2 0 i)
  dh r i := (m (c, Proc.tc.devRef main_arg6) : FVec Ideal S4096x1024 .f32) (ix2 (row r) i)

theorem V0 (r : ℕ) (k : Fin 3072) : (V m c main_v0 : FVec Ideal S4096x3072 .bf16) (ix2 (row r) k) = (inp m c).dg r k := by
  unfold V inp; after_reads_simp; rfl
theorem V1 (r : ℕ) (k : Fin 3072) : (V m c main_v1 : FVec Ideal S4096x3072 .bf16) (ix2 (row r) k) = (inp m c).du r k := by
  unfold V inp; after_reads_simp; rfl
theorem V3 (k : Fin 3072) (i : Fin 1024) : (V m c main_v3 : FVec Ideal S3072x1024 .bf16) (ix2 k i) = (inp m c).wg i k := by
  unfold V inp; after_reads_simp; pointwise
theorem V5 (k : Fin 3072) (i : Fin 1024) : (V m c main_v5 : FVec Ideal S3072x1024 .bf16) (ix2 k i) = (inp m c).wu i k := by
  unfold V inp; after_reads_simp; pointwise
theorem V4 (r : ℕ) (i : Fin 1024) : (V m c main_arg4 : FVec Ideal S4096x1024 .f32) (ix2 (row r) i) = (inp m c).h r i := by
  unfold V inp; after_reads_simp
theorem VG (i : Fin 1024) : (V m c main_arg5 : FVec Ideal S1x1024 .f32) (ix2 0 i) = (inp m c).gn i := by
  unfold V inp; after_reads_simp
theorem V6 (r : ℕ) (i : Fin 1024) : (V m c main_arg6 : FVec Ideal S4096x1024 .f32) (ix2 (row r) i) = (inp m c).dh r i := by
  unfold V inp; after_reads_simp

theorem idx_row : ∀ t : Fin grid0.N, (win0_0.index t 0 = t.val ∧ win0_0.index t 1 = 0) ∧ (win0_1.index t 0 = t.val ∧ win0_1.index t 1 = 0)
    ∧ (win0_4.index t 0 = t.val ∧ win0_4.index t 1 = 0) ∧ (win0_6.index t 0 = t.val ∧ win0_6.index t 1 = 0)
    ∧ (win0_7.index t 0 = t.val ∧ win0_7.index t 1 = 0) ∧ (win0_8.index t 0 = t.val ∧ win0_8.index t 1 = 0) := by
  decide +kernel

theorem idx_whole : ∀ t : Fin grid0.N, (win0_2.index t 0 = 0 ∧ win0_2.index t 1 = 0) ∧ (win0_3.index t 0 = 0 ∧ win0_3.index t 1 = 0)
    ∧ (win0_5.index t 0 = 0 ∧ win0_5.index t 1 = 0) ∧ (win0_9.index t 0 = 0 ∧ win0_9.index t 1 = 0) := by
  decide +kernel

theorem t_lt : t.val < 8 := lt_of_lt_of_eq t.isLt N_0

theorem off {n x : ℕ} (h : n = t.val) (hx : x < 512) : n * 512 + 1 * x = (row (t.val * 512 + x)).val := by
  have := t_lt t
  show _ = (t.val * 512 + x) % 4096
  rw [Nat.mod_eq_of_lt (by omega), h]; omega

theorem iblk0 : Rows (φ := .bf16) (iblk m c 0 t : FVec Ideal S512x3072 .bf16) (inp m c).dg (t.val * 512) := fun ρ k =>
  (rd2 (V m c main_v0 : FVec Ideal S4096x3072 .bf16) _ _ k (off t (idx_row t).1.1 ρ.isLt) (zero_off (idx_row t).1.2)).trans (V0 m c _ k)
theorem iblk1 : Rows (φ := .bf16) (iblk m c 1 t : FVec Ideal S512x3072 .bf16) (inp m c).du (t.val * 512) := fun ρ k =>
  (rd2 (V m c main_v1 : FVec Ideal S4096x3072 .bf16) _ _ k (off t (idx_row t).2.1.1 ρ.isLt) (zero_off (idx_row t).2.1.2)).trans (V1 m c _ k)
theorem iblk4 : Rows (φ := .f32) (iblk m c 4 t : FVec Ideal S512x1024 .f32) (inp m c).h (t.val * 512) := fun ρ k =>
  (rd2 (V m c main_arg4 : FVec Ideal S4096x1024 .f32) _ _ k (off t (idx_row t).2.2.1.1 ρ.isLt) (zero_off (idx_row t).2.2.1.2)).trans (V4 m c _ k)
theorem iblk6 : Rows (φ := .f32) (iblk m c 6 t : FVec Ideal S512x1024 .f32) (inp m c).dh (t.val * 512) := fun ρ k =>
  (rd2 (V m c main_arg6 : FVec Ideal S4096x1024 .f32) _ _ k (off t (idx_row t).2.2.2.1.1 ρ.isLt) (zero_off (idx_row t).2.2.2.1.2)).trans (V6 m c _ k)

theorem w2 (inb) (k : Fin 3072) (i : Fin 1024) :
    View.ld (Val := Elt Ideal) (e' := .bf16) (iblk m c 2 t) (Rect.unit (s := S3072x1024) ![0, 0] S3072x1024.size inb) (ix2 k i) = (inp m c).wg i k :=
  (ld2 (iblk m c 2 t : FVec Ideal S3072x1024 .bf16) inb k i k i (Nat.zero_add _).symm (Nat.zero_add _).symm).trans
    ((rd2 (V m c main_v3 : FVec Ideal S3072x1024 .bf16) _ k i (zero_off (idx_whole t).1.1) (zero_off (idx_whole t).1.2)).trans (V3 m c k i))
theorem w3 (inb) (k : Fin 3072) (i : Fin 1024) :
    View.ld (Val := Elt Ideal) (e' := .bf16) (iblk m c 3 t) (Rect.unit (s := S3072x1024) ![0, 0] S3072x1024.size inb) (ix2 k i) = (inp m c).wu i k :=
  (ld2 (iblk m c 3 t : FVec Ideal S3072x1024 .bf16) inb k i k i (Nat.zero_add _).symm (Nat.zero_add _).symm).trans
    ((rd2 (V m c main_v5 : FVec Ideal S3072x1024 .bf16) _ k i (zero_off (idx_whole t).2.1.1) (zero_off (idx_whole t).2.1.2)).trans (V5 m c k i))
theorem g5 (inb) (i : Fin 1024) :
    View.ld (Val := Elt Ideal) (e' := .f32) (iblk m c 5 t) (Rect.unit (s := S1x1024) ![0, 0] S1x1024.size inb) (ix2 0 i) = (inp m c).gn i :=
  (ld2 (iblk m c 5 t : FVec Ideal S1x1024 .f32) inb 0 i 0 i (Nat.zero_add _).symm (Nat.zero_add _).symm).trans
    ((rd2 (V m c main_arg5 : FVec Ideal S1x1024 .f32) _ 0 i (zero_off (idx_whole t).2.2.1.1) (zero_off (idx_whole t).2.2.1.2)).trans (VG m c i))
theorem w2' (inb) (k : Fin 3072) (i : Fin 1024) :
    k0_pay4 (F := Ideal) (View.ld (Val := Elt Ideal) (e' := .bf16) (iblk m c 2 t) (Rect.unit (s := S3072x1024) ![0, 0] S3072x1024.size inb)) (ix2 k i) = (inp m c).wg i k :=
  Eq.trans (by unfold k0_pay4; pointwise) (w2 m c t inb k i)
theorem w3' (inb) (k : Fin 3072) (i : Fin 1024) :
    k0_pay5 (F := Ideal) (View.ld (Val := Elt Ideal) (e' := .bf16) (iblk m c 3 t) (Rect.unit (s := S3072x1024) ![0, 0] S3072x1024.size inb)) (ix2 k i) = (inp m c).wu i k :=
  Eq.trans (by unfold k0_pay5; pointwise) (w3 m c t inb k i)

/-- Some rows of a block, from row `o` on. -/
theorem part {n a o B : ℕ} {X : FVec Ideal ⟨2, ![512, n]⟩ .f32} {f : ℕ → Fin n → EReal} (hX : Rows (φ := .f32) X f B)
    (inb : ∀ x : Fin 2, (![o, 0] : Fin 2 → ℕ) x + (![a, n] : Fin 2 → ℕ) x ≤ (![512, n] : Fin 2 → ℕ) x) :
    Rows (φ := .f32) (View.ld (Val := Elt Ideal) (e' := .f32) X (Rect.unit (s := ⟨2, ![512, n]⟩) ![o, 0] ![a, n] inb)) f (B + o) := by
  intro ρ k
  have h0 : o + a ≤ 512 := inb 0
  refine (ld2 (e := .f32) X inb ρ k ⟨o + ρ.val, by omega⟩ k rfl (Nat.zero_add _).symm).trans ((hX _ _).trans ?_)
  exact congrArg (fun r => f r k) (Nat.add_assoc _ _ _).symm

theorem part' {n a o B : ℕ} {X : FVec Ideal ⟨2, ![512, n]⟩ .bf16} {f : ℕ → Fin n → EReal} (hX : Rows (φ := .bf16) X f B)
    (inb : ∀ x : Fin 2, (![o, 0] : Fin 2 → ℕ) x + (![a, n] : Fin 2 → ℕ) x ≤ (![512, n] : Fin 2 → ℕ) x) :
    Rows (φ := .bf16) (View.ld (Val := Elt Ideal) (e' := .bf16) X (Rect.unit (s := ⟨2, ![512, n]⟩) ![o, 0] ![a, n] inb)) f (B + o) :=
  part (X := X) hX inb

/-- The two halves of a block, written one after the other. -/
theorem halves {e : EltTy} {n B : ℕ} {f : ℕ → Fin n → EReal} {w w' : (⟨2, ![256, n]⟩ : Shape).Idx → Elt Ideal e} {q : Elt Ideal e → EReal} {inb inb'}
    (h : ∀ (ρ : Fin 256) (j : Fin n), q (w (ix2 ρ j)) = f (B + 256 + ρ.val) j) (h' : ∀ (ρ : Fin 256) (j : Fin n), q (w' (ix2 ρ j)) = f (B + 0 + ρ.val) j)
    (ρ : Fin 512) (j : Fin n) :
    q (View.canon [(⟨Rect.unit (s := ⟨2, ![512, n]⟩) ![256, 0] ![256, n] inb, w⟩ : View.Piece (Elt Ideal) _ e),
      ⟨Rect.unit (s := ⟨2, ![512, n]⟩) ![0, 0] ![256, n] inb', w'⟩] (ix2 ρ j)) = f (B + ρ.val) j := by
  by_cases hρ : ρ.val < 256
  · rw [canonNot2 inb ρ j (Or.inl (Or.inl hρ)), canon2 inb' ⟨ρ.val, hρ⟩ j ρ j (Nat.zero_add _).symm (Nat.zero_add _).symm]
    exact h' _ _
  · rw [canon2 inb ⟨ρ.val - 256, by omega⟩ j ρ j (by show ρ.val = 256 + (ρ.val - 256); omega) (Nat.zero_add _).symm]
    refine (h _ _).trans (congrArg (fun r => f r j) ?_)
    show B + 256 + (ρ.val - 256) = B + ρ.val
    omega

/-- The rows that a point writes of the gradient that goes on, in both widths. -/
theorem dho_A (h : t.val % 8 = 0) (h' : ¬1 ≤ t.val) : Rows (φ := .f32) (outsAt0 m c t.val t.isLt).1 (inp m c).dho (t.val * 512) := by
  intro ρ j
  rw [outsAt0_A m c t h h']
  dsimp only
  unfold out0_A_7
  rw [View.read_writes_eq_canon _ _ _ (fun y => cover0_A_7 (y := y) ..)]
  unfold kernelRun0_A
  dsimp only
  sl_unfold_words
  simp only [View.readAt_eq_ld, Memref.IsWhole.read_unread]
  exact halves (e := .f32) (q := fun x => x)
    (p1 (part (iblk6 m c t) _) (p16 (w2' m c t _) (w3' m c t _) (g5 m c t _) (part' (iblk0 m c t) _) (part' (iblk1 m c t) _) (part (iblk4 m c t) _)))
    (p1 (part (iblk6 m c t) _) (p10 (w2 m c t _) (w3 m c t _) (g5 m c t _) (part' (iblk0 m c t) _) (part' (iblk1 m c t) _) (part (iblk4 m c t) _))) ρ j

theorem dhb_A (h : t.val % 8 = 0) (h' : ¬1 ≤ t.val) : Rows (φ := .bf16) (outsAt0 m c t.val t.isLt).2.1 (inp m c).dho (t.val * 512) := by
  intro ρ j
  rw [outsAt0_A m c t h h']
  dsimp only
  unfold out0_A_8
  rw [View.read_writes_eq_canon _ _ _ (fun y => cover0_A_8 (y := y) ..)]
  unfold kernelRun0_A
  dsimp only
  sl_unfold_words
  simp only [View.readAt_eq_ld, Memref.IsWhole.read_unread]
  exact halves (e := .bf16) (q := fun x => x)
    (p1 (part (iblk6 m c t) _) (p16 (w2' m c t _) (w3' m c t _) (g5 m c t _) (part' (iblk0 m c t) _) (part' (iblk1 m c t) _) (part (iblk4 m c t) _)))
    (p1 (part (iblk6 m c t) _) (p10 (w2 m c t _) (w3 m c t _) (g5 m c t _) (part' (iblk0 m c t) _) (part' (iblk1 m c t) _) (part (iblk4 m c t) _))) ρ j

theorem dho_B (h : ¬t.val % 8 = 0) (h' : 1 ≤ t.val) : Rows (φ := .f32) (outsAt0 m c t.val t.isLt).1 (inp m c).dho (t.val * 512) := by
  intro ρ j
  rw [outsAt0_B m c t h h']
  dsimp only
  unfold out0_B_7
  rw [View.read_writes_eq_canon _ _ _ (fun y => cover0_B_7 (y := y) ..)]
  unfold kernelRun0_B
  dsimp only
  sl_unfold_words
  simp only [View.readAt_eq_ld, Memref.IsWhole.read_unread]
  exact halves (e := .f32) (q := fun x => x)
    (p1 (part (iblk6 m c t) _) (p16 (w2' m c t _) (w3' m c t _) (g5 m c t _) (part' (iblk0 m c t) _) (part' (iblk1 m c t) _) (part (iblk4 m c t) _)))
    (p1 (part (iblk6 m c t) _) (p10 (w2 m c t _) (w3 m c t _) (g5 m c t _) (part' (iblk0 m c t) _) (part' (iblk1 m c t) _) (part (iblk4 m c t) _))) ρ j

theorem dhb_B (h : ¬t.val % 8 = 0) (h' : 1 ≤ t.val) : Rows (φ := .bf16) (outsAt0 m c t.val t.isLt).2.1 (inp m c).dho (t.val * 512) := by
  intro ρ j
  rw [outsAt0_B m c t h h']
  dsimp only
  unfold out0_B_8
  rw [View.read_writes_eq_canon _ _ _ (fun y => cover0_B_8 (y := y) ..)]
  unfold kernelRun0_B
  dsimp only
  sl_unfold_words
  simp only [View.readAt_eq_ld, Memref.IsWhole.read_unread]
  exact halves (e := .bf16) (q := fun x => x)
    (p1 (part (iblk6 m c t) _) (p16 (w2' m c t _) (w3' m c t _) (g5 m c t _) (part' (iblk0 m c t) _) (part' (iblk1 m c t) _) (part (iblk4 m c t) _)))
    (p1 (part (iblk6 m c t) _) (p10 (w2 m c t _) (w3 m c t _) (g5 m c t _) (part' (iblk0 m c t) _) (part' (iblk1 m c t) _) (part (iblk4 m c t) _))) ρ j

theorem dho_t : Rows (φ := .f32) (outsAt0 m c t.val t.isLt).1 (inp m c).dho (t.val * 512) := by
  have := t_lt t
  by_cases h : t.val % 8 = 0
  · exact dho_A m c t h (by omega)
  · exact dho_B m c t h (by omega)

theorem dhb_t : Rows (φ := .bf16) (outsAt0 m c t.val t.isLt).2.1 (inp m c).dho (t.val * 512) := by
  have := t_lt t
  by_cases h : t.val % 8 = 0
  · exact dhb_A m c t h (by omega)
  · exact dhb_B m c t h (by omega)

/-- What a point adds for the gain, over its two halves. -/
theorem both (f : ℕ → EReal) (B : ℕ) : (∑ ρ : Fin 256, f (B + 0 + ρ.val)) + ∑ ρ : Fin 256, f (B + 256 + ρ.val) = ∑ ρ : Fin 512, f (B + ρ.val) := by
  rw [← Finset.sum_range (fun x => f (B + 0 + x)), ← Finset.sum_range (fun x => f (B + 256 + x)), ← Finset.sum_range (fun x => f (B + x)),
    show 512 = 256 + 256 from rfl, Finset.sum_range_add]
  simp only [Nat.add_zero, Nat.add_assoc]

theorem dgain_A (h : t.val % 8 = 0) (h' : ¬1 ≤ t.val) (j : Fin 1024) :
    (outsAt0 m c t.val t.isLt).2.2 (ix2 0 j) = ∑ ρ : Fin 512, (inp m c).tg j (t.val * 512 + ρ.val) := by
  rw [outsAt0_A m c t h h']
  dsimp only
  unfold out0_A_9
  rw [View.read_writes_eq_canon _ _ _ (fun y => cover0_A_9 (y := y) ..)]
  unfold kernelRun0_A
  dsimp only
  sl_unfold_words
  simp only [View.readAt_eq_ld, Memref.IsWhole.read_unread]
  refine (canon2 _ 0 j 0 j (Nat.zero_add _).symm (Nat.zero_add _).symm).trans ?_
  exact (p17 (w2' m c t _) (w3' m c t _) (part' (iblk0 m c t) _) (part' (iblk1 m c t) _) (part (iblk4 m c t) _) _ j).trans ((congrArg (fun x : EReal => x + _) (p9 (w2 m c t _) (w3 m c t _) (part' (iblk0 m c t) _) (part' (iblk1 m c t) _) (part (iblk4 m c t) _) j)).trans (both ((inp m c).tg j) _))

theorem dgain_B (h : ¬t.val % 8 = 0) (h' : 1 ≤ t.val) (j : Fin 1024) :
    (outsAt0 m c t.val t.isLt).2.2 (ix2 0 j) = (outsAt0 m c (t.val - 1) (Nat.lt_of_le_of_lt (Nat.sub_le _ _) t.isLt)).2.2 (ix2 0 j)
      + ∑ ρ : Fin 512, (inp m c).tg j (t.val * 512 + ρ.val) := by
  rw [outsAt0_B m c t h h']
  dsimp only
  unfold out0_B_9
  rw [View.read_writes_eq_canon _ _ _ (fun y => cover0_B_9 (y := y) ..)]
  unfold kernelRun0_B
  dsimp only
  sl_unfold_words
  simp only [View.readAt_eq_ld, Memref.IsWhole.read_unread]
  refine (canon2 _ 0 j 0 j (Nat.zero_add _).symm (Nat.zero_add _).symm).trans ?_
  unfold k0_pay3
  pointwise
  exact congrArg₂ (fun a b : EReal => a + b) rfl ((p17 (w2' m c t _) (w3' m c t _) (part' (iblk0 m c t) _) (part' (iblk1 m c t) _) (part (iblk4 m c t) _) _ j).trans ((congrArg (fun x : EReal => x + _) (p9 (w2 m c t _) (w3 m c t _) (part' (iblk0 m c t) _) (part' (iblk1 m c t) _) (part (iblk4 m c t) _) j)).trans (both ((inp m c).tg j) _)))

theorem acc (j : Fin 1024) : ∀ (n : ℕ) (h : n < cfg0.N), (outsAt0 m c n h).2.2 (ix2 0 j) = first 512 ((inp m c).tg j) (n + 1)
  | 0, h => (dgain_A m c ⟨0, h⟩ rfl (Nat.not_succ_le_zero 0) j).trans (first_one _).symm
  | n + 1, h =>
    (dgain_B m c ⟨n + 1, h⟩ (by have := lt_of_lt_of_eq h N_0; show ¬(n + 1) % 8 = 0; omega) (Nat.le_add_left 1 n) j).trans
      ((congrArg (fun x : EReal => x + _) (acc j n (Nat.lt_of_succ_lt h))).trans (first_succ _ _).symm)

/-- The last grid point. -/
def last : Fin cfg0.N := ⟨7, lt_of_lt_of_eq (by decide) N_0.symm⟩

theorem only {t : Fin cfg0.N} (h : t.val % 8 = 7) : t = last := by
  have := t_lt t
  exact Fin.ext (by show t.val = 7; omega)

theorem end_dgain (j : Fin 1024) : ((dats m 0 c).arrAt 9 cfg0.N : FVec Ideal S1x1024 .f32) (ix2 0 j) = ∑ r : Fin 4096, (inp m c).tg j r.val := by
  have hb := congrFun ((dats m 0 c).read_blk_arrAt_eq_flushed 9 (fun t t' h h' hn => absurd ((only ((flush0_9 t).mp h)).trans (only ((flush0_9 t').mp h')).symm) hn)
    cfg0.N last last.isLt ((flush0_9 last).mpr rfl)) (ix2 0 j)
  rw [flushed9] at hb
  refine Eq.trans ?_ (hb.trans ((acc m c j 7 last.isLt).trans (first_all (N := 4096) _ (by norm_num))))
  exact (rd2 ((dats m 0 c).arrAt 9 cfg0.N : FVec Ideal S1x1024 .f32) _ 0 j (zero_off (idx_whole last).2.2.2.1) (zero_off (idx_whole last).2.2.2.2)).symm

/-- The grid point that writes a row, and the row within its block. -/
def pt (r : Fin 4096) : Fin cfg0.N := ⟨r.val / 512, lt_of_lt_of_eq (Nat.div_lt_of_lt_mul r.isLt) N_0.symm⟩

def rem (r : Fin 4096) : Fin 512 := ⟨r.val % 512, Nat.mod_lt _ (by decide)⟩

theorem pt_rem (r : Fin 4096) : (pt r).val * 512 + (rem r).val = r.val := Nat.div_add_mod' _ _

theorem off_pt {n : ℕ} (r : Fin 4096) (h : n = (pt r).val) : n * 512 + 1 * (rem r).val = r.val := by
  rw [h, Nat.one_mul]; exact pt_rem r

theorem end_dho (r : Fin 4096) (j : Fin 1024) : ((dats m 0 c).arrAt 7 cfg0.N : FVec Ideal S4096x1024 .f32) (ix2 r j) = (inp m c).dho r.val j := by
  have hb := congrFun (blocks7 m c (pt r) (flush0_7 _)) (ix2 (rem r) j)
  rw [flushed7] at hb
  refine Eq.trans ?_ (hb.trans ((dho_t m c (pt r) (rem r) j).trans (congrArg (fun n => (inp m c).dho n j) (pt_rem r))))
  exact (rd2 ((dats m 0 c).arrAt 7 cfg0.N : FVec Ideal S4096x1024 .f32) _ r j (off_pt r (idx_row (pt r)).2.2.2.2.1.1) (zero_off (idx_row (pt r)).2.2.2.2.1.2)).symm

theorem end_dhb (r : Fin 4096) (j : Fin 1024) : ((dats m 0 c).arrAt 8 cfg0.N : FVec Ideal S4096x1024 .bf16) (ix2 r j) = (inp m c).dho r.val j := by
  have hb := congrFun (blocks8 m c (pt r) (flush0_8 _)) (ix2 (rem r) j)
  rw [flushed8] at hb
  refine Eq.trans ?_ (hb.trans ((dhb_t m c (pt r) (rem r) j).trans (congrArg (fun n => (inp m c).dho n j) (pt_rem r))))
  exact (rd2 ((dats m 0 c).arrAt 8 cfg0.N : FVec Ideal S4096x1024 .bf16) _ r j (off_pt r (idx_row (pt r)).2.2.2.2.2.1) (zero_off (idx_row (pt r)).2.2.2.2.2.2)).symm

end Cert.Fb
-- ==== Proof.FbRef.lean ====
/-
  The reference of the pass through the feed-forward projections at an index.
-/
module

public import proofs.«01_k».proof.Proof.FbPay
public import proofs.«01_k».proof.Proof.Gen.FfnBackRefIdeal.Run
public import Idealize.ShloMosaic.Lib.Tactic.CleanTypes
public import Idealize.ShloMosaic.Lib.Pointwise

@[expose] public section

set_option maxRecDepth 16384

noncomputable section

open Idealize.ShloMosaic Idealize.ShloMosaic.TcCoe Idealize.SL.Sem

namespace Cert.Fb

open Cert.FfnBackRefIdeal Cert.FfnBackRefIdeal.Gen Cert.FfnBackRefIdeal.Value
open Cert.Even (ms Re norm_back)

variable (m : (ℓ : Loc nD τ sig) → Buf (Elt Ideal) ℓ) (c : Dev nD) (I : In)

/-- The reference's arguments are the given ones. -/
structure Args : Prop where
  a0 : ∀ (r : Fin 4096) (k : Fin 3072), (m ((c.tc : Thread nD τ).loc main_arg0) : FVec Ideal S4096x3072 .f32) (ix2 r k) = I.dg r.val k
  a1 : ∀ (r : Fin 4096) (k : Fin 3072), (m ((c.tc : Thread nD τ).loc main_arg1) : FVec Ideal S4096x3072 .f32) (ix2 r k) = I.du r.val k
  a2 : ∀ (i : Fin 1024) (k : Fin 3072), (m ((c.tc : Thread nD τ).loc main_arg2) : FVec Ideal S1024x3072 .f32) (ix2 i k) = I.wg i k
  a3 : ∀ (i : Fin 1024) (k : Fin 3072), (m ((c.tc : Thread nD τ).loc main_arg3) : FVec Ideal S1024x3072 .f32) (ix2 i k) = I.wu i k
  a4 : ∀ (r : Fin 4096) (k : Fin 1024), (m ((c.tc : Thread nD τ).loc main_arg4) : FVec Ideal S4096x1024 .f32) (ix2 r k) = I.h r.val k
  a5 : ∀ k : Fin 1024, (m ((c.tc : Thread nD τ).loc main_arg5) : FVec Ideal S1x1024 .f32) (ix2 0 k) = I.gn k
  a6 : ∀ (r : Fin 4096) (k : Fin 1024), (m ((c.tc : Thread nD τ).loc main_arg6) : FVec Ideal S4096x1024 .f32) (ix2 r k) = I.dh r.val k

/-- What the norm's gradient reads is real. -/
structure Real : Prop where
  h : ∀ r k, Re (I.h r k)
  dy : ∀ r k, Re (I.dy r k)

variable {m c I} (A : Args m c I) (H : Real I)

include A H in
theorem ref_dho (r : Fin 4096) (j : Fin 1024) : (res_main_v39 m c : FVec Ideal S4096x1024 .f32) (ix2 r j) = I.dho r.val j := by
  unfold res_main_v39
  clean_types
  pointwise
  simp only [Fin.sum_univ_one, A.a0, A.a1, A.a2, A.a3, A.a4, A.a5, A.a6]
  refine Eq.trans ?_ (norm_back (I.h r.val) (I.dy r.val) (H.h _) (H.dy _) (I.dh r.val j) j)
  simp only [In.dy, In.dxn, add_comm (∑ k, I.dg _ k * _), ms]

include A in
theorem ref_tg (j : Fin 1024) : (shapeCast S1x1024 (Host.reduceAdd (mulf (mulf (m ((c.tc : Thread nD τ).loc main_arg4)) (broadcastInDim S4096x1024 ![0, 1] bcast_S4096x1_S4096x1024_0_1 (Host.rsqrt (addf (Host.divf (broadcastInDim S4096x1 ![0] bcast_S4096_S4096x1_0 (Host.reduceAdd (mulf (m ((c.tc : Thread nD τ).loc main_arg4)) (m ((c.tc : Thread nD τ).loc main_arg4))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (addf (Host.dotGeneral (φ₁ := .f32) (φ₂ := .f32) dot_S4096x3072_S1024x3072_S4096x1024_1_1_0_0_n_n none (m ((c.tc : Thread nD τ).loc main_arg1)) (m ((c.tc : Thread nD τ).loc main_arg3))) (Host.dotGeneral (φ₁ := .f32) (φ₂ := .f32) dot_S4096x3072_S1024x3072_S4096x1024_1_1_0_0_n_n none (m ((c.tc : Thread nD τ).loc main_arg0)) (m ((c.tc : Thread nD τ).loc main_arg2))))) (constant S_ .f32 0x00000000#32) reducesTo_S4096x1024_S1024_d0 h_S_) shapeCasts_S1024_S1x1024 : FVec Ideal S1x1024 .f32) (ix2 0 j)
    = ∑ r : Fin 4096, I.tg j r.val := by
  clean_types
  pointwise
  refine Finset.sum_congr rfl fun r _ => ?_
  simp only [A.a0, A.a1, A.a2, A.a3, A.a4]
  rw [mul_comm, add_comm]
  rfl

end Cert.Fb
-- ==== Proof.FbClaims.lean ====
/-
  The claims of the pass through the feed-forward projections.
-/
module

public import proofs.«01_k».proof.Proof.FbWin
public import proofs.«01_k».proof.Proof.FbRef
public import proofs.«01_k».proof.Proof.Even
public import proofs.«01_k».proof.Proof.Gen.FfnBack.Frame
public import proofs.«01_k».proof.Proof.Gen.Pre_finite2

@[expose] public section

set_option maxRecDepth 16384

noncomputable section

open Idealize.ShloMosaic Idealize.ShloMosaic.TcCoe Idealize.SL.Sem Idealize.ShloMosaic.StableHlo

namespace Cert.Fb

open Cert.Even (Re all_real ms ms_real rsqrt_real)

theorem frame_k : Cert.quiescent_FfnBack := fun m ρ _ => Cert.FfnBack.Gen.frame m ρ

theorem frame_ki : Cert.quiescent_FfnBackIdeal := fun m ρ _ => Cert.FfnBackIdeal.Gen.frame m ρ

theorem frame_ri : Cert.quiescent_FfnBackRefIdeal := fun m ρ _ =>
  (θ_run Cert.FfnBackRefIdeal.defs _ _).mono (fun r h => ⟨fun c => (h c).2.2.2, sem_eq_zero_of_no_sems (by decide) r.2⟩)
    (Cert.FfnBackRefIdeal.Value.run (F := Ideal) m ρ)

theorem real_of {x0 x1 : FVec Ideal Cert.Pre_finite2.S4096x3072 .f32} {x2 x3 : FVec Ideal Cert.Pre_finite2.S1024x3072 .f32}
    {x4 x6 : FVec Ideal Cert.Pre_finite2.S4096x1024 .f32} {x5 : FVec Ideal Cert.Pre_finite2.S1x1024 .f32}
    (h : Cert.Pre_finite2.fn (F := Ideal) x0 x1 x2 x3 x4 x5 x6 = fun _ => 1#1) :
    (∀ i, Re (x0 i)) ∧ (∀ i, Re (x1 i)) ∧ (∀ i, Re (x2 i)) ∧ (∀ i, Re (x3 i)) ∧ (∀ i, Re (x4 i)) ∧ ∀ i, Re (x5 i) := by
  have : Subsingleton Cert.Pre_finite2.S_.Idx := ⟨fun a b => funext fun k => k.elim0⟩
  have e := congrFun h (fun k => k.elim0)
  obtain ⟨e, -⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨all_real h0 fun _ => rfl, all_real h1 fun _ => rfl, all_real h2 fun _ => rfl, all_real h3 fun _ => rfl,
    all_real h4 fun _ => rfl, all_real h5 fun _ => rfl⟩

theorem alg : Cert.algebraic_FfnBackIdeal_FfnBackRefIdeal_pre_finite2 := by
  intro m ρ m' ρ' hpre hag
  refine ⟨_, _, _, Cert.FfnBackIdeal.Value.run_blocks m ρ, ?_⟩
  refine (θ_run Cert.FfnBackRefIdeal.defs _ _).mono (fun _ h c => ?_) (Cert.FfnBackRefIdeal.Value.run (F := Ideal) m' ρ')
  obtain ⟨h0, h1, h2, hr⟩ := h c
  have A : Args m' c (inp m c) := by
    obtain ⟨e0, e1, e2, e3, e4, e5, e6⟩ := hag c
    refine ⟨fun r k => ?_, fun r k => ?_, fun i k => ?_, fun i k => ?_, fun r k => ?_, fun k => ?_, fun r k => ?_⟩
    · simp only [inp, row_val]; exact congrFun e0 _
    · simp only [inp, row_val]; exact congrFun e1 _
    · exact congrFun e2 _
    · exact congrFun e3 _
    · simp only [inp, row_val]; exact congrFun e4 _
    · exact congrFun e5 _
    · simp only [inp, row_val]; exact congrFun e6 _
  have H : Real (inp m c) := by
    obtain ⟨r0, r1, r2, r3, r4, r5⟩ := real_of (hpre c)
    exact ⟨fun r k => r4 _, fun r k => ((Re.sum fun k => (r0 _).mul (r2 _)).add (Re.sum fun k => (r1 _).mul (r3 _))).mul (r5 _)⟩
  refine ⟨h0.trans ?_, h1.trans ?_, h2.trans ?_, hr⟩
  · funext i
    obtain ⟨r, j, rfl⟩ : ∃ (r : Fin 4096) (j : Fin 1024), i = ix2 r j := ⟨i 0, i 1, eq_ix2 i⟩
    exact (ref_dho A H r j).trans (end_dho m c r j).symm
  · funext i
    obtain ⟨r, j, rfl⟩ : ∃ (r : Fin 4096) (j : Fin 1024), i = ix2 r j := ⟨i 0, i 1, eq_ix2 i⟩
    exact (ref_dho A H r j).trans (end_dhb m c r j).symm
  · funext i
    obtain ⟨r, j, rfl⟩ : ∃ (r : Fin 1) (j : Fin 1024), i = ix2 r j := ⟨i 0, i 1, eq_ix2 i⟩
    rw [Subsingleton.elim r 0]
    exact (ref_tg A j).trans (end_dgain m c j).symm

end Cert.Fb
-- ==== Proof.WgFfn.lean ====
/-
  The weight gradient of the feed-forward projections: a grid point holds a column block of the one array and
  the whole of the other, and their product over the rows is the reference's.
-/
module

public import proofs.«01_k».proof.Defs
public import proofs.«01_k».proof.Proof.Feed
public import Idealize.ShloMosaic.Lib.StableHlo.RunRead
public import proofs.«01_k».proof.Proof.Gen.WgradFfnIdeal.Value
public import proofs.«01_k».proof.Proof.Gen.WgradFfnRefIdeal

@[expose] public section

set_option maxRecDepth 16384

noncomputable section

open Idealize.ShloMosaic Idealize.ShloMosaic.TcCoe Idealize.SL.Sem Idealize.ShloMosaic.StableHlo

namespace Cert.WgFfn

open Cert.WgradFfnIdeal Cert.WgradFfnIdeal.Gen Cert.WgradFfnIdeal.Value

open Cert.Even (rd2 ld2 canon2 emb2 zero_off)

variable (m : (ℓ : Loc nD τ sig) → Buf (Elt Ideal) ℓ) (c : Dev nD) (t : Fin cfg0.N)

/-- The first array of the product. -/
def a (r : Fin 4096) (i : Fin 3072) : EReal := (m (c, Proc.tc.devRef main_arg0) : FVec Ideal S4096x3072 .f32) (ix2 r i)

/-- The second. -/
def b (r : Fin 4096) (j : Fin 1024) : EReal := (m (c, Proc.tc.devRef main_arg1) : FVec Ideal S4096x1024 .f32) (ix2 r j)

/-- The product over the rows. -/
def w (i : Fin 3072) (j : Fin 1024) : EReal := ∑ r : Fin 4096, a m c r i * b m c r j

theorem V0 (r : Fin 4096) (i : Fin 3072) : (V m c main_v0 : FVec Ideal S4096x3072 .bf16) (ix2 r i) = a m c r i := by
  unfold V a
  after_reads_simp
  rfl

theorem V1 (r : Fin 4096) (j : Fin 1024) : (V m c main_v1 : FVec Ideal S4096x1024 .bf16) (ix2 r j) = b m c r j := by
  unfold V b
  after_reads_simp
  rfl

theorem idx : ∀ t : Fin grid0.N, (win0_0.index t 0 = 0 ∧ win0_0.index t 1 = t.val) ∧ (win0_1.index t 0 = 0 ∧ win0_1.index t 1 = 0)
    ∧ (win0_2.index t 0 = t.val ∧ win0_2.index t 1 = 0) := by
  decide +kernel

theorem t_lt : t.val < 3 := lt_of_lt_of_eq t.isLt N_0

/-- The column of the whole array that column `i` of the block is. -/
def colAt (i : Fin 1024) : Fin 3072 := ⟨t.val * 1024 + i.val, by have := t_lt t; omega⟩

theorem off {n t x : ℕ} (h : n = t) : n * 1024 + 1 * x = t * 1024 + x := by rw [h]; omega

theorem iblk0 (r : Fin 4096) (i : Fin 1024) : (iblk m c 0 t : FVec Ideal S4096x1024 .bf16) (ix2 r i) = a m c r (colAt t i) :=
  (rd2 (V m c main_v0 : FVec Ideal S4096x3072 .bf16) _ r (colAt t i) (zero_off (idx t).1.1) (off (idx t).1.2)).trans (V0 m c r _)

theorem iblk1 (r : Fin 4096) (j : Fin 1024) : (iblk m c 1 t : FVec Ideal S4096x1024 .bf16) (ix2 r j) = b m c r j :=
  (rd2 (V m c main_v1 : FVec Ideal S4096x1024 .bf16) _ r j (zero_off (idx t).2.1.1) (zero_off (idx t).2.1.2)).trans (V1 m c r _)

theorem prod (x : FVec Ideal S4096x1024 .bf16) (y : FVec Ideal S4096x1024 .bf16) (i j : Fin 1024) :
    k0_pay2 (F := Ideal) x y (ix2 i j) = ∑ r : Fin 4096, (x (ix2 r i) * y (ix2 r j) : EReal) := by
  unfold k0_pay2 k0_pay1
  pointwise

/-- What a grid point writes. -/
theorem out (i j : Fin 1024) : (outsAt0 m c t : FVec Ideal S1024x1024 .bf16) (ix2 i j) = w m c (colAt t i) j := by
  unfold outsAt0 out0_A_2
  rw [View.read_writes_eq_canon _ _ _ (fun y => cover0_A_2 (y := y) ..)]
  unfold kernelRun0_A
  dsimp only
  sl_unfold_words
  simp only [View.readAt_eq_ld, Memref.IsWhole.read_unread]
  refine (canon2 _ i j i j (Nat.zero_add _).symm (Nat.zero_add _).symm).trans ?_
  unfold k0_pay4
  pointwise
  rw [View.readCov_eq_canon']
  refine (congrArg (View.canon _) (emb2 _ i j i j (Nat.zero_add _).symm (Nat.zero_add _).symm)).trans ?_
  refine (canon2 _ i j i j (Nat.zero_add _).symm (Nat.zero_add _).symm).trans ((prod _ _ i j).trans ?_)
  refine Finset.sum_congr rfl fun r _ => congrArg₂ (fun a b : EReal => a * b) ?_ ?_
  · exact (ld2 (iblk m c 0 t) _ r i r i (Nat.zero_add _).symm (Nat.zero_add _).symm).trans (iblk0 m c t r i)
  · exact (ld2 (iblk m c 1 t) _ r j r j (Nat.zero_add _).symm (Nat.zero_add _).symm).trans (iblk1 m c t r j)

/-- The grid point whose block holds a column. -/
def pt (i : Fin 3072) : Fin cfg0.N := ⟨i.val / 1024, lt_of_lt_of_eq (by omega) N_0.symm⟩

theorem col_pt (i : Fin 3072) : colAt (pt i) ⟨i.val % 1024, Nat.mod_lt _ (by decide)⟩ = i := by
  apply Fin.ext
  show i.val / 1024 * 1024 + i.val % 1024 = i.val
  omega

theorem flush2 : ∀ t : Fin grid0.N, win0_2.flush t = true := by decide +kernel

/-- The array at the end. -/
theorem fin (i : Fin 3072) (j : Fin 1024) : ((dats m 0 c).arrAt 2 cfg0.N : FVec Ideal S3072x1024 .bf16) (ix2 i j) = w m c i j := by
  have hb := congrFun (blocks2 m c (pt i) (flush2 _)) (ix2 ⟨i.val % 1024, Nat.mod_lt _ (by decide)⟩ j)
  rw [flushed2] at hb
  have ho := out m c (pt i) ⟨i.val % 1024, Nat.mod_lt _ (by decide)⟩ j
  rw [col_pt] at ho
  refine Eq.trans ?_ (hb.trans ho)
  exact (rd2 ((dats m 0 c).arrAt 2 cfg0.N : FVec Ideal S3072x1024 .bf16) _ i j
    ((off (idx (pt i)).2.2.1).trans (congrArg Fin.val (col_pt i))) (zero_off (idx (pt i)).2.2.2)).symm

/-- The reference's product. -/
theorem ref (x : FVec Ideal Cert.WgradFfnRefIdeal.S4096x3072 .f32) (y : FVec Ideal Cert.WgradFfnRefIdeal.S4096x1024 .f32) (i : Fin 3072) (j : Fin 1024) :
    truncf .bf16 (transpose Cert.WgradFfnRefIdeal.S3072x1024 [1, 0] (Host.dotGeneral (φ₁ := .f32) (φ₂ := .f32) Cert.WgradFfnRefIdeal.dot_S4096x1024_S4096x3072_S1024x3072_0_0_1_1_n_n none y x)
      Cert.WgradFfnRefIdeal.Facts₀.transposes_S1024x3072_S3072x1024_1_0) Cert.WgradFfnRefIdeal.Facts₀.bitsLt_bf16_f32 (ix2 i j) = ∑ r : Fin 4096, (x (ix2 r i) * y (ix2 r j) : EReal) := by
  pointwise
  exact Finset.sum_congr rfl fun r _ => mul_comm _ _

end Cert.WgFfn
-- ==== Proof.WgIn.lean ====
/-
  The weight gradient of the projections into the mixers: the walk goes over blocks of 1024 rows, and the sum of the
  blocks' products is carried from point to point and written at the last.
-/
module

public import proofs.«01_k».proof.Proof.Feed
public import proofs.«01_k».proof.Proof.WgSum
public import Idealize.ShloMosaic.Lib.StableHlo.RunRead
public import proofs.«01_k».proof.Proof.Gen.WgradInIdeal.Value
public import proofs.«01_k».proof.Proof.Gen.WgradInRefIdeal

@[expose] public section

set_option maxRecDepth 16384

noncomputable section

open Idealize.ShloMosaic Idealize.ShloMosaic.TcCoe Idealize.SL.Sem Idealize.ShloMosaic.StableHlo

namespace Cert.WgIn

open Cert.WgradInIdeal Cert.WgradInIdeal.Gen Cert.WgradInIdeal.Value
open Cert.Even (rd2 ld2 canon2 emb2 zero_off)

variable (m : (ℓ : Loc nD τ sig) → Buf (Elt Ideal) ℓ) (c : Dev nD) (t : Fin cfg0.N)

/-- A row number within the array. -/
def row (r : ℕ) : Fin 4096 := ⟨r % 4096, Nat.mod_lt _ (by decide)⟩

theorem row_val (r : Fin 4096) : row r.val = r := Fin.ext (Nat.mod_eq_of_lt r.isLt)

/-- The first array of the product. -/
def a (r : Fin 4096) (i : Fin 1024) : EReal := (m (c, Proc.tc.devRef main_arg0) : FVec Ideal S4096x1024 .f32) (ix2 r i)

/-- The second. -/
def b (r : Fin 4096) (j : Fin 2048) : EReal := (m (c, Proc.tc.devRef main_arg1) : FVec Ideal S4096x2048 .f32) (ix2 r j)

/-- A row's part of the product. -/
def p (i : Fin 1024) (j : Fin 2048) (r : ℕ) : EReal := a m c (row r) i * b m c (row r) j

theorem V0 (r : Fin 4096) (i : Fin 1024) : (V m c main_v0 : FVec Ideal S4096x1024 .bf16) (ix2 r i) = a m c r i := by
  unfold V a
  after_reads_simp
  rfl

theorem V1 (r : Fin 4096) (j : Fin 2048) : (V m c main_v1 : FVec Ideal S4096x2048 .bf16) (ix2 r j) = b m c r j := by
  unfold V b
  after_reads_simp
  rfl

theorem idx : ∀ t : Fin grid0.N, (win0_0.index t 0 = t.val ∧ win0_0.index t 1 = 0) ∧ (win0_1.index t 0 = t.val ∧ win0_1.index t 1 = 0)
    ∧ (win0_2.index t 0 = 0 ∧ win0_2.index t 1 = 0) := by
  decide +kernel

theorem t_lt : t.val < 4 := lt_of_lt_of_eq t.isLt N_0

theorem off {n x : ℕ} (h : n = t.val) (hx : x < 1024) : n * 1024 + 1 * x = (row (t.val * 1024 + x)).val := by
  have := t_lt t
  show _ = (t.val * 1024 + x) % 4096
  rw [Nat.mod_eq_of_lt (by omega), h]; omega

theorem iblk0 (ρ : Fin 1024) (i : Fin 1024) : (iblk m c 0 t : FVec Ideal S1024x1024 .bf16) (ix2 ρ i) = a m c (row (t.val * 1024 + ρ.val)) i :=
  (rd2 (V m c main_v0 : FVec Ideal S4096x1024 .bf16) _ _ i (off t (idx t).1.1 ρ.isLt) (zero_off (idx t).1.2)).trans (V0 m c _ _)

theorem iblk1 (ρ : Fin 1024) (j : Fin 2048) : (iblk m c 1 t : FVec Ideal S1024x2048 .bf16) (ix2 ρ j) = b m c (row (t.val * 1024 + ρ.val)) j :=
  (rd2 (V m c main_v1 : FVec Ideal S4096x2048 .bf16) _ _ j (off t (idx t).2.1.1 ρ.isLt) (zero_off (idx t).2.1.2)).trans (V1 m c _ _)

theorem prod (x : FVec Ideal S1024x1024 .bf16) (y : FVec Ideal S1024x2048 .bf16) (i : Fin 1024) (j : Fin 2048) :
    k0_pay1 (F := Ideal) x y (ix2 i j) = ∑ r : Fin 1024, (x (ix2 r i) * y (ix2 r j) : EReal) := by
  unfold k0_pay1
  pointwise

/-- The product of a grid point's blocks. -/
theorem blk (h0 h1) (i : Fin 1024) (j : Fin 2048) :
    k0_pay1 (F := Ideal) (View.ld (Val := Elt Ideal) (e' := .bf16) (iblk m c 0 t) (Rect.unit (s := S1024x1024) ![0, 0] S1024x1024.size h0))
      (View.ld (Val := Elt Ideal) (e' := .bf16) (iblk m c 1 t) (Rect.unit (s := S1024x2048) ![0, 0] S1024x2048.size h1)) (ix2 i j)
      = ∑ ρ : Fin 1024, p m c i j (t.val * 1024 + ρ.val) := by
  refine (prod _ _ i j).trans (Finset.sum_congr rfl fun r _ => congrArg₂ (fun a b : EReal => a * b) ?_ ?_)
  · exact (ld2 (iblk m c 0 t) _ r i r i (Nat.zero_add _).symm (Nat.zero_add _).symm).trans (iblk0 m c t r i)
  · exact (ld2 (iblk m c 1 t) _ r j r j (Nat.zero_add _).symm (Nat.zero_add _).symm).trans (iblk1 m c t r j)

/-- What the first point carries on. -/
theorem car_A (h0 : t.val % 4 = 0) (h1 : ¬1 ≤ t.val) (h2 : ¬t.val % 4 = 3) (i : Fin 1024) (j : Fin 2048) :
    (outsAt0 m c t.val t.isLt).2 (ix2 i j) = ∑ ρ : Fin 1024, p m c i j (t.val * 1024 + ρ.val) := by
  rw [outsAt0_A m c t h0 h1 h2]
  dsimp only
  unfold sout0_A_0
  rw [View.read_writes_eq_canon _ _ _ (fun y => scover0_A_0 (y := y) ..)]
  unfold kernelRun0_A
  dsimp only
  sl_unfold_words
  simp only [View.readAt_eq_ld, Memref.IsWhole.read_unread]
  refine (canon2 _ i j i j (Nat.zero_add _).symm (Nat.zero_add _).symm).trans ?_
  unfold k0_pay2
  pointwise
  exact blk m c t _ _ i j

/-- What a point in between carries on. -/
theorem car_B (h0 : ¬t.val % 4 = 0) (h1 : 1 ≤ t.val) (h2 : ¬t.val % 4 = 3) (i : Fin 1024) (j : Fin 2048) :
    (outsAt0 m c t.val t.isLt).2 (ix2 i j) = (outsAt0 m c (t.val - 1) (Nat.lt_of_le_of_lt (Nat.sub_le _ _) t.isLt)).2 (ix2 i j)
      + ∑ ρ : Fin 1024, p m c i j (t.val * 1024 + ρ.val) := by
  rw [outsAt0_B m c t h0 h1 h2]
  dsimp only
  unfold sout0_B_0
  rw [View.read_writes_eq_canon _ _ _ (fun y => scover0_B_0 (y := y) ..)]
  unfold kernelRun0_B
  dsimp only
  sl_unfold_words
  simp only [View.readAt_eq_ld, Memref.IsWhole.read_unread, (Memref.isWhole_whole cc0_scratch0).read_unread]
  refine (canon2 _ i j i j (Nat.zero_add _).symm (Nat.zero_add _).symm).trans ?_
  unfold k0_pay3
  pointwise
  exact congrArg₂ (fun a b : EReal => a + b) rfl (blk m c t _ _ i j)

/-- What the last point writes. -/
theorem out_C (h0 : ¬t.val % 4 = 0) (h1 : 1 ≤ t.val) (h2 : t.val % 4 = 3) (i : Fin 1024) (j : Fin 2048) :
    (outsAt0 m c t.val t.isLt).1 (ix2 i j) = (outsAt0 m c (t.val - 1) (Nat.lt_of_le_of_lt (Nat.sub_le _ _) t.isLt)).2 (ix2 i j)
      + ∑ ρ : Fin 1024, p m c i j (t.val * 1024 + ρ.val) := by
  rw [outsAt0_C m c t h0 h1 h2]
  dsimp only
  unfold out0_C_2
  rw [View.read_writes_eq_canon _ _ _ (fun y => cover0_C_2 (y := y) ..)]
  unfold kernelRun0_C
  dsimp only
  sl_unfold_words
  simp only [View.readAt_eq_ld, Memref.IsWhole.read_unread, (Memref.isWhole_whole cc0_scratch0).read_unread]
  refine (canon2 _ i j i j (Nat.zero_add _).symm (Nat.zero_add _).symm).trans ?_
  unfold k0_pay4
  pointwise
  rw [View.readCov_eq_canon']
  refine (congrArg (View.canon _) (emb2 _ i j i j (Nat.zero_add _).symm (Nat.zero_add _).symm)).trans ?_
  refine (canon2 _ i j i j (Nat.zero_add _).symm (Nat.zero_add _).symm).trans ?_
  unfold k0_pay3
  pointwise
  exact congrArg₂ (fun a b : EReal => a + b) rfl (blk m c t _ _ i j)

open Cert.Wg (first first_one first_succ first_all)

/-- What the points before the last carry on: the sum over the rows so far. -/
theorem car (i : Fin 1024) (j : Fin 2048) : ∀ (n : ℕ) (h : n < cfg0.N), n < 3 → (outsAt0 m c n h).2 (ix2 i j) = first 1024 (p m c i j) (n + 1)
  | 0, h, _ => (car_A m c ⟨0, h⟩ rfl (Nat.not_succ_le_zero 0) (by show ¬0 % 4 = 3; decide) i j).trans (first_one _).symm
  | n + 1, h, h3 =>
    (car_B m c ⟨n + 1, h⟩ (by show ¬(n + 1) % 4 = 0; omega) (Nat.le_add_left 1 n) (by show ¬(n + 1) % 4 = 3; omega) i j).trans
      ((congrArg (fun x : EReal => x + _) (car i j n (Nat.lt_of_succ_lt h) (Nat.lt_of_succ_lt h3))).trans (first_succ _ _).symm)

/-- The last grid point. -/
def last : Fin cfg0.N := ⟨3, lt_of_lt_of_eq (by decide) N_0.symm⟩

theorem only {t : Fin cfg0.N} (h : t.val % 4 = 3) : t = last := by
  have := t_lt t
  exact Fin.ext (by show t.val = 3; omega)

theorem out (i : Fin 1024) (j : Fin 2048) : (outsAt0 m c last.val last.isLt).1 (ix2 i j) = ∑ r : Fin 4096, a m c r i * b m c r j := by
  refine (out_C m c last (by show ¬3 % 4 = 0; decide) (by show 1 ≤ 3; decide) rfl i j).trans ?_
  rw [show (outsAt0 m c (last.val - 1) (Nat.lt_of_le_of_lt (Nat.sub_le _ _) last.isLt)).2 (ix2 i j) = first 1024 (p m c i j) 3 from car m c i j 2 _ (by decide)]
  rw [show ∑ ρ : Fin 1024, p m c i j (last.val * 1024 + ρ.val) = ∑ ρ : Fin 1024, p m c i j (3 * 1024 + ρ.val) from rfl, ← first_succ]
  rw [first_all (N := 4096) _ (by norm_num)]
  refine Finset.sum_congr rfl fun r _ => ?_
  unfold p
  rw [row_val]

/-- The array at the end. -/
theorem fin (i : Fin 1024) (j : Fin 2048) : ((dats m 0 c).arrAt 2 cfg0.N : FVec Ideal S1024x2048 .bf16) (ix2 i j) = ∑ r : Fin 4096, a m c r i * b m c r j := by
  have hb := congrFun ((dats m 0 c).read_blk_arrAt_eq_flushed 2 (fun t t' h h' hn => absurd ((only ((flush0_2 t).mp h)).trans (only ((flush0_2 t').mp h')).symm) hn)
    cfg0.N last last.isLt ((flush0_2 last).mpr rfl)) (ix2 i j)
  rw [flushed2] at hb
  refine Eq.trans ?_ (hb.trans (out m c i j))
  exact (rd2 ((dats m 0 c).arrAt 2 cfg0.N : FVec Ideal S1024x2048 .bf16) _ i j (zero_off (idx last).2.2.1) (zero_off (idx last).2.2.2)).symm

/-- The reference's product. -/
theorem ref (x : FVec Ideal Cert.WgradInRefIdeal.S4096x1024 .f32) (y : FVec Ideal Cert.WgradInRefIdeal.S4096x2048 .f32) (i : Fin 1024) (j : Fin 2048) :
    truncf .bf16 (transpose Cert.WgradInRefIdeal.S1024x2048 [1, 0] (Host.dotGeneral (φ₁ := .f32) (φ₂ := .f32) Cert.WgradInRefIdeal.dot_S4096x2048_S4096x1024_S2048x1024_0_0_1_1_n_n none y x)
      Cert.WgradInRefIdeal.Facts₀.transposes_S2048x1024_S1024x2048_1_0) Cert.WgradInRefIdeal.Facts₀.bitsLt_bf16_f32 (ix2 i j) = ∑ r : Fin 4096, (x (ix2 r i) * y (ix2 r j) : EReal) := by
  pointwise
  exact Finset.sum_congr rfl fun r _ => mul_comm _ _

end Cert.WgIn
-- ==== Proof.WgOut.lean ====
/-
  The weight gradient of the projections out of the mixers: the walk goes over blocks of 1024 rows, and the sum of the
  blocks' products is carried from point to point and written at the last.
-/
module

public import proofs.«01_k».proof.Proof.Feed
public import proofs.«01_k».proof.Proof.WgSum
public import Idealize.ShloMosaic.Lib.StableHlo.RunRead
public import proofs.«01_k».proof.Proof.Gen.WgradOutIdeal.Value
public import proofs.«01_k».proof.Proof.Gen.WgradOutRefIdeal

@[expose] public section

set_option maxRecDepth 16384

noncomputable section

open Idealize.ShloMosaic Idealize.ShloMosaic.TcCoe Idealize.SL.Sem Idealize.ShloMosaic.StableHlo

namespace Cert.WgOut

open Cert.WgradOutIdeal Cert.WgradOutIdeal.Gen Cert.WgradOutIdeal.Value
open Cert.Even (rd2 ld2 canon2 emb2 zero_off)

variable (m : (ℓ : Loc nD τ sig) → Buf (Elt Ideal) ℓ) (c : Dev nD) (t : Fin cfg0.N)

/-- A row number within the array. -/
def row (r : ℕ) : Fin 4096 := ⟨r % 4096, Nat.mod_lt _ (by decide)⟩

theorem row_val (r : Fin 4096) : row r.val = r := Fin.ext (Nat.mod_eq_of_lt r.isLt)

/-- The first array of the product. -/
def a (r : Fin 4096) (i : Fin 1024) : EReal := (m (c, Proc.tc.devRef main_arg0) : FVec Ideal S4096x1024 .f32) (ix2 r i)

/-- The second. -/
def b (r : Fin 4096) (j : Fin 1024) : EReal := (m (c, Proc.tc.devRef main_arg1) : FVec Ideal S4096x1024 .f32) (ix2 r j)

/-- A row's part of the product. -/
def p (i : Fin 1024) (j : Fin 1024) (r : ℕ) : EReal := a m c (row r) i * b m c (row r) j

theorem V0 (r : Fin 4096) (i : Fin 1024) : (V m c main_v0 : FVec Ideal S4096x1024 .bf16) (ix2 r i) = a m c r i := by
  unfold V a
  after_reads_simp
  rfl

theorem V1 (r : Fin 4096) (j : Fin 1024) : (V m c main_v1 : FVec Ideal S4096x1024 .bf16) (ix2 r j) = b m c r j := by
  unfold V b
  after_reads_simp
  rfl

theorem idx : ∀ t : Fin grid0.N, (win0_0.index t 0 = t.val ∧ win0_0.index t 1 = 0) ∧ (win0_1.index t 0 = t.val ∧ win0_1.index t 1 = 0)
    ∧ (win0_2.index t 0 = 0 ∧ win0_2.index t 1 = 0) := by
  decide +kernel

theorem t_lt : t.val < 4 := lt_of_lt_of_eq t.isLt N_0

theorem off {n x : ℕ} (h : n = t.val) (hx : x < 1024) : n * 1024 + 1 * x = (row (t.val * 1024 + x)).val := by
  have := t_lt t
  show _ = (t.val * 1024 + x) % 4096
  rw [Nat.mod_eq_of_lt (by omega), h]; omega

theorem iblk0 (ρ : Fin 1024) (i : Fin 1024) : (iblk m c 0 t : FVec Ideal S1024x1024 .bf16) (ix2 ρ i) = a m c (row (t.val * 1024 + ρ.val)) i :=
  (rd2 (V m c main_v0 : FVec Ideal S4096x1024 .bf16) _ _ i (off t (idx t).1.1 ρ.isLt) (zero_off (idx t).1.2)).trans (V0 m c _ _)

theorem iblk1 (ρ : Fin 1024) (j : Fin 1024) : (iblk m c 1 t : FVec Ideal S1024x1024 .bf16) (ix2 ρ j) = b m c (row (t.val * 1024 + ρ.val)) j :=
  (rd2 (V m c main_v1 : FVec Ideal S4096x1024 .bf16) _ _ j (off t (idx t).2.1.1 ρ.isLt) (zero_off (idx t).2.1.2)).trans (V1 m c _ _)

theorem prod (x : FVec Ideal S1024x1024 .bf16) (y : FVec Ideal S1024x1024 .bf16) (i : Fin 1024) (j : Fin 1024) :
    k0_pay1 (F := Ideal) x y (ix2 i j) = ∑ r : Fin 1024, (x (ix2 r i) * y (ix2 r j) : EReal) := by
  unfold k0_pay1
  pointwise

/-- The product of a grid point's blocks. -/
theorem blk (h0 h1) (i : Fin 1024) (j : Fin 1024) :
    k0_pay1 (F := Ideal) (View.ld (Val := Elt Ideal) (e' := .bf16) (iblk m c 0 t) (Rect.unit (s := S1024x1024) ![0, 0] S1024x1024.size h0))
      (View.ld (Val := Elt Ideal) (e' := .bf16) (iblk m c 1 t) (Rect.unit (s := S1024x1024) ![0, 0] S1024x1024.size h1)) (ix2 i j)
      = ∑ ρ : Fin 1024, p m c i j (t.val * 1024 + ρ.val) := by
  refine (prod _ _ i j).trans (Finset.sum_congr rfl fun r _ => congrArg₂ (fun a b : EReal => a * b) ?_ ?_)
  · exact (ld2 (iblk m c 0 t) _ r i r i (Nat.zero_add _).symm (Nat.zero_add _).symm).trans (iblk0 m c t r i)
  · exact (ld2 (iblk m c 1 t) _ r j r j (Nat.zero_add _).symm (Nat.zero_add _).symm).trans (iblk1 m c t r j)

/-- What the first point carries on. -/
theorem car_A (h0 : t.val % 4 = 0) (h1 : ¬1 ≤ t.val) (h2 : ¬t.val % 4 = 3) (i : Fin 1024) (j : Fin 1024) :
    (outsAt0 m c t.val t.isLt).2 (ix2 i j) = ∑ ρ : Fin 1024, p m c i j (t.val * 1024 + ρ.val) := by
  rw [outsAt0_A m c t h0 h1 h2]
  dsimp only
  unfold sout0_A_0
  rw [View.read_writes_eq_canon _ _ _ (fun y => scover0_A_0 (y := y) ..)]
  unfold kernelRun0_A
  dsimp only
  sl_unfold_words
  simp only [View.readAt_eq_ld, Memref.IsWhole.read_unread]
  refine (canon2 _ i j i j (Nat.zero_add _).symm (Nat.zero_add _).symm).trans ?_
  unfold k0_pay2
  pointwise
  exact blk m c t _ _ i j

/-- What a point in between carries on. -/
theorem car_B (h0 : ¬t.val % 4 = 0) (h1 : 1 ≤ t.val) (h2 : ¬t.val % 4 = 3) (i : Fin 1024) (j : Fin 1024) :
    (outsAt0 m c t.val t.isLt).2 (ix2 i j) = (outsAt0 m c (t.val - 1) (Nat.lt_of_le_of_lt (Nat.sub_le _ _) t.isLt)).2 (ix2 i j)
      + ∑ ρ : Fin 1024, p m c i j (t.val * 1024 + ρ.val) := by
  rw [outsAt0_B m c t h0 h1 h2]
  dsimp only
  unfold sout0_B_0
  rw [View.read_writes_eq_canon _ _ _ (fun y => scover0_B_0 (y := y) ..)]
  unfold kernelRun0_B
  dsimp only
  sl_unfold_words
  simp only [View.readAt_eq_ld, Memref.IsWhole.read_unread, (Memref.isWhole_whole cc0_scratch0).read_unread]
  refine (canon2 _ i j i j (Nat.zero_add _).symm (Nat.zero_add _).symm).trans ?_
  unfold k0_pay3
  pointwise
  exact congrArg₂ (fun a b : EReal => a + b) rfl (blk m c t _ _ i j)

/-- What the last point writes. -/
theorem out_C (h0 : ¬t.val % 4 = 0) (h1 : 1 ≤ t.val) (h2 : t.val % 4 = 3) (i : Fin 1024) (j : Fin 1024) :
    (outsAt0 m c t.val t.isLt).1 (ix2 i j) = (outsAt0 m c (t.val - 1) (Nat.lt_of_le_of_lt (Nat.sub_le _ _) t.isLt)).2 (ix2 i j)
      + ∑ ρ : Fin 1024, p m c i j (t.val * 1024 + ρ.val) := by
  rw [outsAt0_C m c t h0 h1 h2]
  dsimp only
  unfold out0_C_2
  rw [View.read_writes_eq_canon _ _ _ (fun y => cover0_C_2 (y := y) ..)]
  unfold kernelRun0_C
  dsimp only
  sl_unfold_words
  simp only [View.readAt_eq_ld, Memref.IsWhole.read_unread, (Memref.isWhole_whole cc0_scratch0).read_unread]
  refine (canon2 _ i j i j (Nat.zero_add _).symm (Nat.zero_add _).symm).trans ?_
  unfold k0_pay4
  pointwise
  rw [View.readCov_eq_canon']
  refine (congrArg (View.canon _) (emb2 _ i j i j (Nat.zero_add _).symm (Nat.zero_add _).symm)).trans ?_
  refine (canon2 _ i j i j (Nat.zero_add _).symm (Nat.zero_add _).symm).trans ?_
  unfold k0_pay3
  pointwise
  exact congrArg₂ (fun a b : EReal => a + b) rfl (blk m c t _ _ i j)

open Cert.Wg (first first_one first_succ first_all)

/-- What the points before the last carry on: the sum over the rows so far. -/
theorem car (i : Fin 1024) (j : Fin 1024) : ∀ (n : ℕ) (h : n < cfg0.N), n < 3 → (outsAt0 m c n h).2 (ix2 i j) = first 1024 (p m c i j) (n + 1)
  | 0, h, _ => (car_A m c ⟨0, h⟩ rfl (Nat.not_succ_le_zero 0) (by show ¬0 % 4 = 3; decide) i j).trans (first_one _).symm
  | n + 1, h, h3 =>
    (car_B m c ⟨n + 1, h⟩ (by show ¬(n + 1) % 4 = 0; omega) (Nat.le_add_left 1 n) (by show ¬(n + 1) % 4 = 3; omega) i j).trans
      ((congrArg (fun x : EReal => x + _) (car i j n (Nat.lt_of_succ_lt h) (Nat.lt_of_succ_lt h3))).trans (first_succ _ _).symm)

/-- The last grid point. -/
def last : Fin cfg0.N := ⟨3, lt_of_lt_of_eq (by decide) N_0.symm⟩

theorem only {t : Fin cfg0.N} (h : t.val % 4 = 3) : t = last := by
  have := t_lt t
  exact Fin.ext (by show t.val = 3; omega)

theorem out (i : Fin 1024) (j : Fin 1024) : (outsAt0 m c last.val last.isLt).1 (ix2 i j) = ∑ r : Fin 4096, a m c r i * b m c r j := by
  refine (out_C m c last (by show ¬3 % 4 = 0; decide) (by show 1 ≤ 3; decide) rfl i j).trans ?_
  rw [show (outsAt0 m c (last.val - 1) (Nat.lt_of_le_of_lt (Nat.sub_le _ _) last.isLt)).2 (ix2 i j) = first 1024 (p m c i j) 3 from car m c i j 2 _ (by decide)]
  rw [show ∑ ρ : Fin 1024, p m c i j (last.val * 1024 + ρ.val) = ∑ ρ : Fin 1024, p m c i j (3 * 1024 + ρ.val) from rfl, ← first_succ]
  rw [first_all (N := 4096) _ (by norm_num)]
  refine Finset.sum_congr rfl fun r _ => ?_
  unfold p
  rw [row_val]

/-- The array at the end. -/
theorem fin (i : Fin 1024) (j : Fin 1024) : ((dats m 0 c).arrAt 2 cfg0.N : FVec Ideal S1024x1024 .bf16) (ix2 i j) = ∑ r : Fin 4096, a m c r i * b m c r j := by
  have hb := congrFun ((dats m 0 c).read_blk_arrAt_eq_flushed 2 (fun t t' h h' hn => absurd ((only ((flush0_2 t).mp h)).trans (only ((flush0_2 t').mp h')).symm) hn)
    cfg0.N last last.isLt ((flush0_2 last).mpr rfl)) (ix2 i j)
  rw [flushed2] at hb
  refine Eq.trans ?_ (hb.trans (out m c i j))
  exact (rd2 ((dats m 0 c).arrAt 2 cfg0.N : FVec Ideal S1024x1024 .bf16) _ i j (zero_off (idx last).2.2.1) (zero_off (idx last).2.2.2)).symm

/-- The reference's product. -/
theorem ref (x : FVec Ideal Cert.WgradOutRefIdeal.S4096x1024 .f32) (y : FVec Ideal Cert.WgradOutRefIdeal.S4096x1024 .f32) (i : Fin 1024) (j : Fin 1024) :
    truncf .bf16 (transpose Cert.WgradOutRefIdeal.S1024x1024 [1, 0] (Host.dotGeneral (φ₁ := .f32) (φ₂ := .f32) Cert.WgradOutRefIdeal.dot_S4096x1024_S4096x1024_S1024x1024_0_0_1_1_n_n none y x)
      Cert.WgradOutRefIdeal.Facts₀.transposes_S1024x1024_S1024x1024_1_0) Cert.WgradOutRefIdeal.Facts₀.bitsLt_bf16_f32 (ix2 i j) = ∑ r : Fin 4096, (x (ix2 r i) * y (ix2 r j) : EReal) := by
  pointwise
  exact Finset.sum_congr rfl fun r _ => mul_comm _ _

end Cert.WgOut
-- ==== Proof.WgClaims.lean ====
/-
  The claims of the three calls that sum weights' gradients.
-/
module

public import proofs.«01_k».proof.Defs
public import proofs.«01_k».proof.Proof.WgFfn
public import proofs.«01_k».proof.Proof.WgIn
public import proofs.«01_k».proof.Proof.WgOut
public import proofs.«01_k».proof.Proof.Gen.WgradFfn.Frame
public import proofs.«01_k».proof.Proof.Gen.WgradIn.Frame
public import proofs.«01_k».proof.Proof.Gen.WgradOut.Frame
public import proofs.«01_k».proof.Proof.Gen.WgradFfnRefIdeal.Run
public import proofs.«01_k».proof.Proof.Gen.WgradInRefIdeal.Run
public import proofs.«01_k».proof.Proof.Gen.WgradOutRefIdeal.Run

@[expose] public section

set_option maxRecDepth 16384

noncomputable section

open Idealize.ShloMosaic Idealize.ShloMosaic.TcCoe Idealize.SL.Sem Idealize.ShloMosaic.StableHlo

namespace Cert.WgFfn

theorem frame_k : Cert.quiescent_WgradFfn := fun m ρ _ => Cert.WgradFfn.Gen.frame m ρ

theorem frame_ki : Cert.quiescent_WgradFfnIdeal := fun m ρ _ => Cert.WgradFfnIdeal.Gen.frame m ρ

theorem frame_ri : Cert.quiescent_WgradFfnRefIdeal := fun m ρ _ =>
  (θ_run Cert.WgradFfnRefIdeal.defs _ _).mono (fun r h => ⟨fun c => (h c).2, sem_eq_zero_of_no_sems (by decide) r.2⟩)
    (Cert.WgradFfnRefIdeal.Value.run (F := Ideal) m ρ)

theorem alg : Cert.algebraic_WgradFfnIdeal_WgradFfnRefIdeal := by
  intro m ρ m' ρ' _ hag
  refine ⟨_, Cert.WgradFfnIdeal.Value.run_blocks m ρ, ?_⟩
  refine (θ_run Cert.WgradFfnRefIdeal.defs _ _).mono (fun _ h c => ?_) (Cert.WgradFfnRefIdeal.Value.run (F := Ideal) m' ρ')
  obtain ⟨h0, hr⟩ := h c
  obtain ⟨e0, e1⟩ := hag c
  refine ⟨h0.trans ?_, hr⟩
  rw [e0, e1]
  funext i
  obtain ⟨r, j, rfl⟩ : ∃ (r : Fin 3072) (j : Fin 1024), i = ix2 r j := ⟨i 0, i 1, eq_ix2 i⟩
  exact (ref _ _ r j).trans (fin m c r j).symm

end Cert.WgFfn

namespace Cert.WgIn

theorem frame_k : Cert.quiescent_WgradIn := fun m ρ _ => Cert.WgradIn.Gen.frame m ρ

theorem frame_ki : Cert.quiescent_WgradInIdeal := fun m ρ _ => Cert.WgradInIdeal.Gen.frame m ρ

theorem frame_ri : Cert.quiescent_WgradInRefIdeal := fun m ρ _ =>
  (θ_run Cert.WgradInRefIdeal.defs _ _).mono (fun r h => ⟨fun c => (h c).2, sem_eq_zero_of_no_sems (by decide) r.2⟩)
    (Cert.WgradInRefIdeal.Value.run (F := Ideal) m ρ)

theorem alg : Cert.algebraic_WgradInIdeal_WgradInRefIdeal := by
  intro m ρ m' ρ' _ hag
  refine ⟨_, Cert.WgradInIdeal.Value.run_blocks m ρ, ?_⟩
  refine (θ_run Cert.WgradInRefIdeal.defs _ _).mono (fun _ h c => ?_) (Cert.WgradInRefIdeal.Value.run (F := Ideal) m' ρ')
  obtain ⟨h0, hr⟩ := h c
  obtain ⟨e0, e1⟩ := hag c
  refine ⟨h0.trans ?_, hr⟩
  rw [e0, e1]
  funext i
  obtain ⟨r, j, rfl⟩ : ∃ (r : Fin 1024) (j : Fin 2048), i = ix2 r j := ⟨i 0, i 1, eq_ix2 i⟩
  exact (ref _ _ r j).trans (fin m c r j).symm

end Cert.WgIn

namespace Cert.WgOut

theorem frame_k : Cert.quiescent_WgradOut := fun m ρ _ => Cert.WgradOut.Gen.frame m ρ

theorem frame_ki : Cert.quiescent_WgradOutIdeal := fun m ρ _ => Cert.WgradOutIdeal.Gen.frame m ρ

theorem frame_ri : Cert.quiescent_WgradOutRefIdeal := fun m ρ _ =>
  (θ_run Cert.WgradOutRefIdeal.defs _ _).mono (fun r h => ⟨fun c => (h c).2, sem_eq_zero_of_no_sems (by decide) r.2⟩)
    (Cert.WgradOutRefIdeal.Value.run (F := Ideal) m ρ)

theorem alg : Cert.algebraic_WgradOutIdeal_WgradOutRefIdeal := by
  intro m ρ m' ρ' _ hag
  refine ⟨_, Cert.WgradOutIdeal.Value.run_blocks m ρ, ?_⟩
  refine (θ_run Cert.WgradOutRefIdeal.defs _ _).mono (fun _ h c => ?_) (Cert.WgradOutRefIdeal.Value.run (F := Ideal) m' ρ')
  obtain ⟨h0, hr⟩ := h c
  obtain ⟨e0, e1⟩ := hag c
  refine ⟨h0.trans ?_, hr⟩
  rw [e0, e1]
  funext i
  obtain ⟨r, j, rfl⟩ : ∃ (r : Fin 1024) (j : Fin 1024), i = ix2 r j := ⟨i 0, i 1, eq_ix2 i⟩
  exact (ref _ _ r j).trans (fin m c r j).symm

end Cert.WgOut
-- ==== Proof.Ff.lean ====
/-
  Arrays of rows whose columns are cut into blocks: a block's entries by the array's row and column, a block read in parts
  and written in parts.
-/
module

public import proofs.«01_k».proof.Proof.Feed
public import proofs.«01_k».proof.Proof.Scr
public import proofs.«01_k».proof.Proof.Reals

@[expose] public section

set_option maxRecDepth 16384

noncomputable section

open Idealize.ShloMosaic Idealize.ShloMosaic.TcCoe

namespace Cert.Ff

open Cert.Even (Rows Re emb2 ld2 canon2 canonNot2 mem2 notMem2 agr2)

/-- The columns from `C` on. -/
def cols {α : Type} {n : ℕ} (f : α → ℕ → EReal) (C : ℕ) : α → Fin n → EReal := fun r j => f r (C + j.val)

/-- Some rows of a block, from row `o` on. -/
theorem part {N n a o B : ℕ} {X : FVec Ideal ⟨2, ![N, n]⟩ .f32} {f : ℕ → Fin n → EReal} (hX : Rows (φ := .f32) X f B)
    (inb : ∀ x : Fin 2, (![o, 0] : Fin 2 → ℕ) x + (![a, n] : Fin 2 → ℕ) x ≤ (![N, n] : Fin 2 → ℕ) x) :
    Rows (φ := .f32) (View.ld (Val := Elt Ideal) (e' := .f32) X (Rect.unit (s := ⟨2, ![N, n]⟩) ![o, 0] ![a, n] inb)) f (B + o) := by
  intro ρ k
  have h0 : o + a ≤ N := inb 0
  refine (ld2 (e := .f32) X inb ρ k ⟨o + ρ.val, by omega⟩ k rfl (Nat.zero_add _).symm).trans ((hX _ _).trans ?_)
  exact congrArg (fun r => f r k) (Nat.add_assoc _ _ _).symm

theorem part' {N n a o B : ℕ} {X : FVec Ideal ⟨2, ![N, n]⟩ .bf16} {f : ℕ → Fin n → EReal} (hX : Rows (φ := .bf16) X f B)
    (inb : ∀ x : Fin 2, (![o, 0] : Fin 2 → ℕ) x + (![a, n] : Fin 2 → ℕ) x ≤ (![N, n] : Fin 2 → ℕ) x) :
    Rows (φ := .bf16) (View.ld (Val := Elt Ideal) (e' := .bf16) X (Rect.unit (s := ⟨2, ![N, n]⟩) ![o, 0] ![a, n] inb)) f (B + o) :=
  part (X := X) hX inb

/-- The whole of a block. -/
theorem all' {N n B : ℕ} {X : FVec Ideal ⟨2, ![N, n]⟩ .bf16} {f : ℕ → Fin n → EReal} (hX : Rows (φ := .bf16) X f B)
    (inb : ∀ x : Fin 2, (![0, 0] : Fin 2 → ℕ) x + (![N, n] : Fin 2 → ℕ) x ≤ (![N, n] : Fin 2 → ℕ) x) :
    Rows (φ := .bf16) (View.ld (Val := Elt Ideal) (e' := .bf16) X (Rect.unit (s := ⟨2, ![N, n]⟩) ![0, 0] ![N, n] inb)) f B :=
  part (X := X) (o := 0) hX inb

theorem all {N n B : ℕ} {X : FVec Ideal ⟨2, ![N, n]⟩ .f32} {f : ℕ → Fin n → EReal} (hX : Rows (φ := .f32) X f B)
    (inb : ∀ x : Fin 2, (![0, 0] : Fin 2 → ℕ) x + (![N, n] : Fin 2 → ℕ) x ≤ (![N, n] : Fin 2 → ℕ) x) :
    Rows (φ := .f32) (View.ld (Val := Elt Ideal) (e' := .f32) X (Rect.unit (s := ⟨2, ![N, n]⟩) ![0, 0] ![N, n] inb)) f B :=
  part (X := X) (o := 0) hX inb

/-- Some rows of a block, from a row that the grid point names. -/
theorem dyn {N n a o : ℕ} {off : Fin 2 → ℕ} {X : FVec Ideal ⟨2, ![N, n]⟩ .bf16} {f : ℕ → Fin n → EReal} (h : off = ![o, 0]) (hX : Rows (φ := .bf16) X f 0)
    (inb : ∀ x : Fin 2, off x + (![a, n] : Fin 2 → ℕ) x ≤ (![N, n] : Fin 2 → ℕ) x) :
    Rows (φ := .bf16) (View.ld (Val := Elt Ideal) (e' := .bf16) X (Rect.unit (s := ⟨2, ![N, n]⟩) off ![a, n] inb)) f o := by
  subst h
  have := part' hX inb
  rwa [Nat.zero_add] at this

section

variable {e : EltTy} {N n B : ℕ} {q : Elt Ideal e → EReal} {f : ℕ → Fin n → EReal}

/-- The pieces of a list hold a function's rows up to row `s`. -/
def Low (q : Elt Ideal e → EReal) (L : List (View.Piece (Elt Ideal) ⟨2, ![N, n]⟩ e)) (f : ℕ → Fin n → EReal) (B s : ℕ) : Prop :=
  ∀ (ρ : Fin N) (j : Fin n), ρ.val < s → q (View.canon L (ix2 ρ j)) = f (B + ρ.val) j

theorem Low.nil : Low (N := N) q [] f B 0 := fun _ _ h => absurd h (Nat.not_lt_zero _)

theorem Low.cons {L : List (View.Piece (Elt Ideal) ⟨2, ![N, n]⟩ e)} {o a s : ℕ} {w : (⟨2, ![a, n]⟩ : Shape).Idx → Elt Ideal e} {inb} (hs : s = o + a) (hL : Low q L f B o)
    (h : ∀ (ρ : Fin a) (j : Fin n), q (w (ix2 ρ j)) = f (B + o + ρ.val) j) :
    Low q (⟨Rect.unit (s := ⟨2, ![N, n]⟩) ![o, 0] ![a, n] inb, w⟩ :: L) f B s := by
  subst hs
  intro ρ j hρ
  by_cases hs : ρ.val < o
  · rw [canonNot2 inb ρ j (Or.inl (Or.inl hs))]
    exact hL ρ j hs
  · rw [canon2 inb ⟨ρ.val - o, by omega⟩ j ρ j (by show ρ.val = o + (ρ.val - o); omega) (Nat.zero_add _).symm]
    refine (h _ _).trans (congrArg (fun r => f r j) ?_)
    show B + o + (ρ.val - o) = B + ρ.val
    omega

theorem Low.done {L : List (View.Piece (Elt Ideal) ⟨2, ![N, n]⟩ e)} (h : Low q L f B N) (ρ : Fin N) (j : Fin n) :
    q (View.canon L (ix2 ρ j)) = f (B + ρ.val) j := h ρ j ρ.isLt

end

section Held

variable {N n a o B : ℕ} {f : ℕ → Fin n → EReal} {w : FVec Ideal ⟨2, ![a, n]⟩ .f32}
  {inb : ∀ x : Fin 2, (![o, 0] : Fin 2 → ℕ) x + (![a, n] : Fin 2 → ℕ) x ≤ (![N, n] : Fin 2 → ℕ) x} {sig : RefSig}

/-- A buffer's rows, from row `o` on the ones just written over what it held. -/
theorem over (hN : N = o + a) (hw : Rows (φ := .f32) w f (B + o)) {κ : Kind} {sp : Space} {v : View sig κ sp ⟨2, ![N, n]⟩ .f32} {X : v.ty.Contents (Elt Ideal)}
    (hX : ∀ (i : Fin N) (j : Fin n), i.val < o → v.read (Elt Ideal) X (ix2 i j) = f (B + i.val) j) :
    Rows (φ := .f32) (v.read (Elt Ideal) (v.writes (Elt Ideal) X [(⟨Rect.unit (s := ⟨2, ![N, n]⟩) ![o, 0] ![a, n] inb, w⟩ : View.Piece (Elt Ideal) _ .f32)])) f B := by
  intro i j
  by_cases c : i.val < o
  · rw [View.read_writes_apply_of_forall_not_mem v X (ix2 i j) _ (by
      intro p hp
      rw [List.mem_singleton] at hp
      subst hp
      exact notMem2 inb i j (Or.inl (Or.inl c)))]
    exact hX i j c
  · have e := emb2 inb (⟨i.val - o, by omega⟩ : Fin a) j i j (by show i.val = o + (i.val - o); omega) (Nat.zero_add _).symm
    rw [← e, View.read_writes_cons_emb]
    refine (hw _ _).trans (congrArg (fun r => f r j) ?_)
    show B + o + (i.val - o) = B + i.val
    omega

/-- Some rows of a buffer that its pieces cover, read back. -/
theorem back {L : List (View.Piece (Elt Ideal) ⟨2, ![N, n]⟩ .f32)} {κ : Kind} {sp : Space} {v : View sig κ sp ⟨2, ![N, n]⟩ .f32}
    (h : Low (e := .f32) (fun x => x) L f B N)
    (inb : ∀ x : Fin 2, (![o, 0] : Fin 2 → ℕ) x + (![a, n] : Fin 2 → ℕ) x ≤ (![N, n] : Fin 2 → ℕ) x) :
    Rows (φ := .f32) (v.readCov (Val := Elt Ideal) L (Rect.unit (s := ⟨2, ![N, n]⟩) ![o, 0] ![a, n] inb).toLoadRect) f (B + o) := by
  intro i j
  have h0 : o + a ≤ N := inb 0
  rw [View.readCov_eq_canon']
  refine (congrArg (View.canon L) (emb2 inb i j ⟨o + i.val, by omega⟩ j rfl (Nat.zero_add _).symm)).trans ((h.done _ _).trans ?_)
  exact congrArg (fun r => f r j) (Nat.add_assoc _ _ _).symm

end Held

section Up

variable {N n a o s B : ℕ} {f : ℕ → Fin n → EReal}

/-- An array holds a function's rows from row `s` on. -/
def Hi (X : (⟨2, ![N, n]⟩ : Shape).Idx → EReal) (f : ℕ → Fin n → EReal) (B s : ℕ) : Prop :=
  ∀ (ρ : Fin N) (j : Fin n), s ≤ ρ.val → X (ix2 ρ j) = f (B + ρ.val) j

theorem Hi.rows {X : FVec Ideal ⟨2, ![N, n]⟩ .f32} (h : Hi X f B 0) : Rows (φ := .f32) X f B := fun ρ j => h ρ j (Nat.zero_le _)

theorem Hi.none (X : (⟨2, ![N, n]⟩ : Shape).Idx → EReal) : Hi X f B N := fun ρ _ h => absurd ρ.isLt (Nat.not_lt.mpr h)

theorem Hi.canon_cons {e : EltTy} {q : Elt Ideal e → EReal} {L : List (View.Piece (Elt Ideal) ⟨2, ![N, n]⟩ e)} {w : (⟨2, ![a, n]⟩ : Shape).Idx → Elt Ideal e} {inb}
    (hL : Hi (fun x => q (View.canon L x)) f B (o + a)) (hw : ∀ (ρ : Fin a) (j : Fin n), q (w (ix2 ρ j)) = f (B + o + ρ.val) j) :
    Hi (fun x => q (View.canon ((⟨Rect.unit (s := ⟨2, ![N, n]⟩) ![o, 0] ![a, n] inb, w⟩ : View.Piece (Elt Ideal) _ e) :: L) x)) f B o := by
  intro ρ j hρ
  by_cases c : ρ.val < o + a
  · refine (congrArg q (canon2 inb ⟨ρ.val - o, by omega⟩ j ρ j (by show ρ.val = o + (ρ.val - o); omega) (Nat.zero_add _).symm)).trans ((hw _ _).trans ?_)
    refine congrArg (fun r => f r j) ?_
    show B + o + (ρ.val - o) = B + ρ.val
    omega
  · exact (congrArg q (canonNot2 inb ρ j (Or.inl (Or.inr (by omega))))).trans (hL ρ j (by omega))

theorem Hi.writes_cons {sig : RefSig} {κ : Kind} {sp : Space} {v : View sig κ sp ⟨2, ![N, n]⟩ .f32} {X : v.ty.Contents (Elt Ideal)}
    {L : List (View.Piece (Elt Ideal) ⟨2, ![N, n]⟩ .f32)} {w : FVec Ideal ⟨2, ![a, n]⟩ .f32} {inb}
    (hL : Hi (v.read (Elt Ideal) (v.writes (Elt Ideal) X L)) f B (o + a)) (hw : Rows (φ := .f32) w f (B + o)) :
    Hi (v.read (Elt Ideal) (v.writes (Elt Ideal) X ((⟨Rect.unit (s := ⟨2, ![N, n]⟩) ![o, 0] ![a, n] inb, w⟩ : View.Piece (Elt Ideal) _ .f32) :: L))) f B o := by
  intro ρ j hρ
  by_cases c : ρ.val < o + a
  · have e := emb2 inb (⟨ρ.val - o, by omega⟩ : Fin a) j ρ j (by show ρ.val = o + (ρ.val - o); omega) (Nat.zero_add _).symm
    rw [← e, View.read_writes_cons_emb]
    refine (hw _ _).trans (congrArg (fun r => f r j) ?_)
    show B + o + (ρ.val - o) = B + ρ.val
    omega
  · refine Eq.trans ?_ (hL ρ j (by omega))
    rw [View.writes_cons, View.read_slice_write_of_not_mem _ _ _ _ (by rw [Rect.map_emb_univ]; exact notMem2 inb ρ j (Or.inl (Or.inr (by omega))))]

/-- Some rows read back from an array that holds them. -/
theorem Hi.ld {X : FVec Ideal ⟨2, ![N, n]⟩ .f32} (h : Hi X f B o)
    (inb : ∀ x : Fin 2, (![o, 0] : Fin 2 → ℕ) x + (![a, n] : Fin 2 → ℕ) x ≤ (![N, n] : Fin 2 → ℕ) x) :
    Rows (φ := .f32) (View.ld (Val := Elt Ideal) (e' := .f32) X (Rect.unit (s := ⟨2, ![N, n]⟩) ![o, 0] ![a, n] inb)) f (B + o) := by
  intro i j
  have h0 : o + a ≤ N := inb 0
  refine (ld2 (e := .f32) X inb i j ⟨o + i.val, by omega⟩ j rfl (Nat.zero_add _).symm).trans ((h _ _ (Nat.le_add_right _ _)).trans ?_)
  exact congrArg (fun r => f r j) (Nat.add_assoc _ _ _).symm

theorem Hi.readCov {sig : RefSig} {L : List (View.Piece (Elt Ideal) ⟨2, ![N, n]⟩ .f32)} {κ : Kind} {sp : Space} {v : View sig κ sp ⟨2, ![N, n]⟩ .f32}
    (h : Hi (View.canon L) f B o) (inb : ∀ x : Fin 2, (![o, 0] : Fin 2 → ℕ) x + (![a, n] : Fin 2 → ℕ) x ≤ (![N, n] : Fin 2 → ℕ) x) :
    Rows (φ := .f32) (v.readCov (Val := Elt Ideal) L (Rect.unit (s := ⟨2, ![N, n]⟩) ![o, 0] ![a, n] inb).toLoadRect) f (B + o) := by
  rw [View.readCov_eq_canon']
  exact Hi.ld h inb

end Up

end Cert.Ff
-- ==== Proof.B1Pay.lean ====
/-
  The feed-forward layer's backward pass, its first call: its rows, and what a block's payloads hold of them.
-/
module

public import proofs.«01_k».proof.Proof.Ff
public import proofs.«01_k».proof.Proof.Gen.FfnGateIdeal.Value

@[expose] public section

set_option maxRecDepth 16384

noncomputable section

open Idealize.ShloMosaic Idealize.ShloMosaic.TcCoe Idealize.SL.Sem Idealize.ShloMosaic.StableHlo

namespace Cert.B1

open Cert.FfnGateIdeal Cert.FfnGateIdeal.Gen Cert.FfnGateIdeal.Value
open Cert.Even (Rows canon2 canonNot2 emb2 ld2 notMem2)
open Cert.Ff (cols)

/-- What the call's arrays are made of. -/
structure In where
  g : ℕ → ℕ → EReal
  up : ℕ → ℕ → EReal
  cw : ℕ → ℕ → EReal
  cb : ℕ → ℕ → EReal
  /-- the down projection's weight, by its row -/
  wd : ℕ → Fin 1024 → EReal
  /-- the gradient of the layer's result -/
  dh : ℕ → Fin 1024 → EReal

namespace In

variable (I : In)

/-- The rows with two zero rows before them. -/
def gp (r f : ℕ) : EReal := if r < 2 then 0 else I.g (r - 2) f
def gate (r f : ℕ) : EReal := I.gp r f * I.cw 0 f + I.gp (r + 1) f * I.cw 1 f + I.gp (r + 2) f * I.cw 2 f + I.cb 0 f
def sg (r f : ℕ) : EReal := Ideal.logistic (I.gate r f)
def silu (r f : ℕ) : EReal := I.gate r f * I.sg r f
def upds (r f : ℕ) : EReal := I.up r f * (I.sg r f * (1 - I.silu r f) + I.silu r f)
def da (r f : ℕ) : EReal := ∑ k, I.dh r k * I.wd f k
def dup (r f : ℕ) : EReal := I.da r f * I.silu r f
/-- The gate's gradient, and zero after the last row. -/
def dgc (r f : ℕ) : EReal := if r < 4096 then I.da r f * I.upds r f else 0
def dg (r f : ℕ) : EReal := I.cw 2 f * I.dgc r f + I.cw 1 f * I.dgc (r + 1) f + I.cw 0 f * I.dgc (r + 2) f
/-- A row's share of the convolution weights' gradients. -/
def tw (s r f : ℕ) : EReal := I.dgc (r + s) f * I.g r f

end In

theorem p3 (ρ : Fin 16) (j : Fin 512) : k0_pay3 (F := Ideal) (ix2 ρ j) = 0 := by
  unfold k0_pay3
  pointwise

theorem p2 (v : FVec Ideal S16x512 .f32) (ρ : Fin 16) (j : Fin 512) : k0_pay2 (F := Ideal) v (ix2 ρ j) = v (ix2 ρ j) := by
  unfold k0_pay2
  pointwise

theorem p1 (x y : FVec Ideal S1x512 .f32) (j : Fin 512) : k0_pay1 (F := Ideal) x y (ix2 0 j) = y (ix2 0 j) + x (ix2 0 j) := by
  unfold k0_pay1
  pointwise

section

variable {I : In} {B C : ℕ} {w : FVec Ideal S512x1024 .bf16} {h : FVec Ideal S256x1024 .bf16} {u v : FVec Ideal S256x512 .bf16}
  {e : FVec Ideal S272x512 .f32} {c0 c1 c2 : FVec Ideal S1x512 .f32} (hw : Rows w I.wd C) (hh : Rows h I.dh B)

include hw hh in
theorem p5 : Rows (k0_pay5 (F := Ideal) w h) (cols I.da C) B := by
  intro ρ j
  unfold k0_pay5 k0_pay4
  pointwise
  simp only [hh _ _, hw _ _]
  rfl

include hw hh in
theorem p6 (hv : Rows v (cols I.silu C) B) : Rows (k0_pay6 (F := Ideal) w h v) (cols I.dup C) B := by
  intro ρ j
  unfold k0_pay6
  pointwise
  rw [p5 hw hh, hv]
  rfl

include hw hh in
theorem p7 (hu : Rows u (cols I.upds C) B) (hB : B + 256 ≤ 4096) : Rows (k0_pay7 (F := Ideal) w h u) (cols I.dgc C) B := by
  intro ρ j
  unfold k0_pay7
  pointwise
  rw [p5 hw hh, hu]
  unfold cols In.dgc
  rw [if_pos (by omega)]

include hw hh in
theorem p8 (hu : Rows u (cols I.upds C) B) (hB : B + 256 ≤ 4096) : Rows (k0_pay8 (F := Ideal) w h u) (cols I.dgc C) B := by
  intro ρ j
  unfold k0_pay8
  pointwise
  exact p7 hw hh hu hB ρ j

theorem p9 (he : Rows e (cols I.dgc C) B) : Rows (k0_pay9 (F := Ideal) e) (fun r j => cols I.dgc C (r + 1) j) B := by
  intro ρ j
  unfold k0_pay9
  pointwise
  rw [he]
  congr 1
  show B + (ρ.val + 272 - 271) % 272 = B + ρ.val + 1
  omega

theorem p10 (he : Rows e (cols I.dgc C) B) : Rows (k0_pay10 (F := Ideal) e) (fun r j => cols I.dgc C (r + 2) j) B := by
  intro ρ j
  unfold k0_pay10
  pointwise
  rw [he]
  congr 1
  show B + (ρ.val + 272 - 270) % 272 = B + ρ.val + 2
  omega

include hw hh in
theorem p11 (hu : Rows u (cols I.upds C) B) (hB : B + 256 ≤ 4096) (he : Rows e (cols I.dgc C) B) (h2 : Rows c2 (cols I.cw C) 2) (h1 : Rows c1 (cols I.cw C) 1)
    (h0 : Rows c0 (cols I.cw C) 0) :
    Rows (k0_pay11 (F := Ideal) (k0_pay7 (F := Ideal) w h u) (k0_pay9 (F := Ideal) e) (k0_pay10 (F := Ideal) e) c2 c1 c0) (cols I.dg C) B := by
  intro ρ j
  unfold k0_pay11
  pointwise
  rw [p7 hw hh hu hB, p9 he, p10 he, h0, h1, h2]
  rfl

end

section

variable {F : ℕ → ℕ → EReal}

/-- The sums of some blocks' rows, added up from the last block to the first. -/
def tot (T : ℕ → FVec Ideal S256x512 .f32) : ℕ → FVec Ideal S1x512 .f32
  | 0 => k0_pay16 (F := Ideal) (T 0)
  | k + 1 => k0_pay30 (F := Ideal) (tot T k) (T (k + 1))

theorem p16 {B C : ℕ} {x : FVec Ideal S256x512 .f32} (hx : Rows x (cols F C) B) (j : Fin 512) :
    k0_pay16 (F := Ideal) x (ix2 0 j) = ∑ r ∈ Finset.Ico B (B + 256), F r (C + j.val) := by
  unfold k0_pay16
  pointwise
  rw [Finset.sum_Ico_eq_sum_range, Nat.add_sub_cancel_left, ← Fin.sum_univ_eq_sum_range (fun ρ => F (B + ρ) (C + j.val)) 256]
  exact Finset.sum_congr rfl fun ρ _ => hx ρ j

theorem p30 (x : FVec Ideal S256x512 .f32) (y : FVec Ideal S1x512 .f32) (j : Fin 512) :
    k0_pay30 (F := Ideal) y x (ix2 0 j) = y (ix2 0 j) + k0_pay16 (F := Ideal) x (ix2 0 j) := by
  unfold k0_pay30 k0_pay16
  pointwise

theorem tot_eq {B C : ℕ} {T : ℕ → FVec Ideal S256x512 .f32} (hT : ∀ k, k < 8 → Rows (T k) (cols F C) (B + 256 * (7 - k))) (j : Fin 512) :
    ∀ k, k < 8 → tot T k (ix2 0 j) = ∑ r ∈ Finset.Ico (B + 256 * (7 - k)) (B + 2048), F r (C + j.val)
  | 0, h => p16 (hT 0 h) j
  | k + 1, h => by
    show k0_pay30 (F := Ideal) (tot T k) (T (k + 1)) (ix2 0 j) = _
    rw [p30, tot_eq hT j k (by omega), p16 (hT (k + 1) h) j, add_comm, show B + 256 * (7 - (k + 1)) + 256 = B + 256 * (7 - k) by omega]
    exact Finset.sum_Ico_consecutive _ (by omega) (by omega)

end

end Cert.B1
-- ==== Proof.B1Win.lean ====
/-
  The feed-forward layer's backward pass, its first call: what a grid point reads, carries and writes, and the arrays at the end.
-/
module

public import proofs.«01_k».proof.Proof.B1Pay
public import Idealize.ShloMosaic.Lib.StableHlo.RunRead

@[expose] public section

set_option maxRecDepth 16384

noncomputable section

open Idealize.ShloMosaic Idealize.ShloMosaic.TcCoe Idealize.SL.Sem Idealize.ShloMosaic.StableHlo

namespace Cert.B1

open Cert.FfnGateIdeal Cert.FfnGateIdeal.Gen Cert.FfnGateIdeal.Value
open Cert.Even (Rows rd2 ld2 canon2 canonNot2 zero_off)
open Cert.Ff (cols part part' all all' dyn Low Hi)

variable (m : (ℓ : Loc nD τ sig) → Buf (Elt Ideal) ℓ) (c : Dev nD) (t : Fin cfg0.N)

/-- A row number, and a column number, within the arrays. -/
def row (r : ℕ) : Fin 4096 := ⟨r % 4096, Nat.mod_lt _ (by decide)⟩

def col (f : ℕ) : Fin 3072 := ⟨f % 3072, Nat.mod_lt _ (by decide)⟩

theorem row_val (r : Fin 4096) : row r.val = r := Fin.ext (Nat.mod_eq_of_lt r.isLt)

theorem col_val (f : Fin 3072) : col f.val = f := Fin.ext (Nat.mod_eq_of_lt f.isLt)

/-- The arguments. -/
def inp : In where
  g r f := (m (c, Proc.tc.devRef main_arg0) : FVec Ideal S4096x3072 .f32) (ix2 (row r) (col f))
  up r f := (m (c, Proc.tc.devRef main_arg1) : FVec Ideal S4096x3072 .f32) (ix2 (row r) (col f))
  cw k f := (m (c, Proc.tc.devRef main_arg2) : FVec Ideal S3x3072 .f32) (ix2 ⟨k % 3, Nat.mod_lt _ (by decide)⟩ (col f))
  cb _ f := (m (c, Proc.tc.devRef main_arg3) : FVec Ideal S1x3072 .f32) (ix2 0 (col f))
  wd f k := (m (c, Proc.tc.devRef main_arg4) : FVec Ideal S3072x1024 .f32) (ix2 (col f) k)
  dh r k := (m (c, Proc.tc.devRef main_arg5) : FVec Ideal S4096x1024 .f32) (ix2 (row r) k)

theorem g_at (r : Fin 4096) (f : Fin 3072) : (m (c, Proc.tc.devRef main_arg0) : FVec Ideal S4096x3072 .f32) (ix2 r f) = (inp m c).g r.val f.val := by
  simp only [inp, row_val, col_val]
theorem up_at (r : Fin 4096) (f : Fin 3072) : (m (c, Proc.tc.devRef main_arg1) : FVec Ideal S4096x3072 .f32) (ix2 r f) = (inp m c).up r.val f.val := by
  simp only [inp, row_val, col_val]
theorem cw_at (k : Fin 3) (f : Fin 3072) : (m (c, Proc.tc.devRef main_arg2) : FVec Ideal S3x3072 .f32) (ix2 k f) = (inp m c).cw k.val f.val := by
  simp only [inp, col_val, Nat.mod_eq_of_lt k.isLt]
theorem cb_at (f : Fin 3072) : (m (c, Proc.tc.devRef main_arg3) : FVec Ideal S1x3072 .f32) (ix2 0 f) = (inp m c).cb 0 f.val := by
  simp only [inp, col_val]

theorem V36 (r : ℕ) (k : Fin 1024) : (V m c main_v36 : FVec Ideal S4096x1024 .bf16) (ix2 (row r) k) = (inp m c).dh r k := by
  unfold V inp; after_reads_simp; rfl
theorem V37 (r : Fin 4096) (f : Fin 3072) : (V m c main_v37 : FVec Ideal S4096x3072 .bf16) (ix2 r f) = (inp m c).g r.val f.val := by
  rw [← g_at]; unfold V; after_reads_simp; rfl
theorem V40 (f : ℕ) (k : Fin 1024) : (V m c main_v40 : FVec Ideal S3072x1024 .bf16) (ix2 (col f) k) = (inp m c).wd f k := by
  unfold V inp; after_reads_simp; rfl
theorem VW (k : Fin 3) (f : Fin 3072) : (V m c main_arg2 : FVec Ideal S3x3072 .f32) (ix2 k f) = (inp m c).cw k.val f.val := by
  rw [← cw_at]; unfold V; after_reads_simp
theorem gate_eq (I : In) (r f : ℕ) :
    (if _ : r < 2 then (0 : EReal) else I.g (r - 2) f) * I.cw 0 f + (if _ : 1 + r < 2 then 0 else I.g (1 + r - 2) f) * I.cw 1 f + I.g r f * I.cw 2 f + I.cb 0 f
      = I.gate r f := by
  have e (s : ℕ) : (if _ : s < 2 then (0 : EReal) else I.g (s - 2) f) = I.gp s f := by
    unfold In.gp
    by_cases h : s < 2
    · rw [dif_pos h, if_pos h]
    · rw [dif_neg h, if_neg h]
  have e2 : I.g r f = I.gp (r + 2) f := by
    unfold In.gp
    rw [if_neg (by omega), Nat.add_sub_cancel]
  rw [e, e, e2, Nat.add_comm 1]
  rfl

theorem V38 (r : Fin 4096) (f : Fin 3072) : (V m c main_v38 : FVec Ideal S4096x3072 .bf16) (ix2 r f) = (inp m c).silu r.val f.val := by
  unfold V; after_reads_simp
  pointwise
  after_reads_simp
  pointwise
  simp only [g_at, cw_at, cb_at]
  unfold In.silu In.sg
  rw [← gate_eq]
  rfl

theorem V39 (r : Fin 4096) (f : Fin 3072) : (V m c main_v39 : FVec Ideal S4096x3072 .bf16) (ix2 r f) = (inp m c).upds r.val f.val := by
  unfold V; after_reads_simp
  pointwise
  after_reads_simp
  pointwise
  simp only [g_at, up_at, cw_at, cb_at]
  unfold In.upds In.silu In.sg
  rw [← gate_eq]
  rfl

theorem t_lt : t.val < 12 := lt_of_lt_of_eq t.isLt N_0

/-- The first row that a point writes. -/
def base : ℕ := (1 - t.val % 2) * 2048

theorem idx_in : ∀ t : Fin grid0.N, (win0_0.index t 0 = 0 ∧ win0_0.index t 1 = 0) ∧ (win0_1.index t 0 = 1 - t.val % 2 ∧ win0_1.index t 1 = t.val / 2)
    ∧ (win0_2.index t 0 = 1 - t.val % 2 ∧ win0_2.index t 1 = t.val / 2) ∧ (win0_3.index t 0 = 1 - t.val % 2 ∧ win0_3.index t 1 = t.val / 2)
    ∧ (win0_4.index t 0 = t.val / 2 ∧ win0_4.index t 1 = 0) ∧ (win0_5.index t 0 = 0 ∧ win0_5.index t 1 = t.val / 2) := by
  decide +kernel

theorem idx_out : ∀ t : Fin grid0.N, (win0_6.index t 0 = 1 - t.val % 2 ∧ win0_6.index t 1 = t.val / 2)
    ∧ (win0_7.index t 0 = 1 - t.val % 2 ∧ win0_7.index t 1 = t.val / 2) ∧ (win0_8.index t 0 = 0 ∧ win0_8.index t 1 = t.val / 2)
    ∧ (win0_9.index t 0 = 0 ∧ win0_9.index t 1 = t.val / 2) := by
  decide +kernel

/-- Where a chunk's gradient rows lie. -/
theorem offs : ∀ t : Fin grid0.N, ∀ r : Fin 8, k0_off1 (grid0.coords t) (BitVec.ofNat 32 (256 * r.val)) = ![(1 - t.val % 2) * 2048 + 256 * r.val, 0] := by
  decide +kernel

theorem off_r {n x : ℕ} (h : n = 1 - t.val % 2) (hx : x < 2048) : n * 2048 + 1 * x = (row (base t + x)).val := by
  show _ = ((1 - t.val % 2) * 2048 + x) % 4096
  rw [Nat.mod_eq_of_lt (by omega), h]; omega

theorem off_c {n x : ℕ} (h : n = t.val / 2) (hx : x < 512) : n * 512 + 1 * x = (col (t.val / 2 * 512 + x)).val := by
  have := t_lt t
  show _ = (t.val / 2 * 512 + x) % 3072
  rw [Nat.mod_eq_of_lt (by omega), h]; omega

theorem row_at {x : ℕ} (hx : x < 2048) : (row (base t + x)).val = base t + x := Nat.mod_eq_of_lt (by unfold base; omega)

theorem col_at {x : ℕ} (hx : x < 512) : (col (t.val / 2 * 512 + x)).val = t.val / 2 * 512 + x := by
  have := t_lt t
  exact Nat.mod_eq_of_lt (by omega)

theorem iblk0 : Rows (φ := .bf16) (iblk m c 0 t : FVec Ideal S4096x1024 .bf16) (inp m c).dh 0 := fun ρ k =>
  (rd2 (V m c main_v36 : FVec Ideal S4096x1024 .bf16) _ (row (0 + ρ.val)) k
    ((zero_off (idx_in t).1.1).trans (by rw [Nat.zero_add, row_val]; rfl)) (zero_off (idx_in t).1.2)).trans (V36 m c _ k)
theorem iblk1 : Rows (φ := .bf16) (iblk m c 1 t : FVec Ideal S2048x512 .bf16) (cols (inp m c).g (t.val / 2 * 512)) (base t) := fun ρ j =>
  (rd2 (V m c main_v37 : FVec Ideal S4096x3072 .bf16) _ _ _ (off_r t (idx_in t).2.1.1 ρ.isLt) (off_c t (idx_in t).2.1.2 j.isLt)).trans
    ((V37 m c _ _).trans (congrArg₂ _ (row_at t ρ.isLt) (col_at t j.isLt)))
theorem iblk2 : Rows (φ := .bf16) (iblk m c 2 t : FVec Ideal S2048x512 .bf16) (cols (inp m c).silu (t.val / 2 * 512)) (base t) := fun ρ j =>
  (rd2 (V m c main_v38 : FVec Ideal S4096x3072 .bf16) _ _ _ (off_r t (idx_in t).2.2.1.1 ρ.isLt) (off_c t (idx_in t).2.2.1.2 j.isLt)).trans
    ((V38 m c _ _).trans (congrArg₂ _ (row_at t ρ.isLt) (col_at t j.isLt)))
theorem iblk3 : Rows (φ := .bf16) (iblk m c 3 t : FVec Ideal S2048x512 .bf16) (cols (inp m c).upds (t.val / 2 * 512)) (base t) := fun ρ j =>
  (rd2 (V m c main_v39 : FVec Ideal S4096x3072 .bf16) _ _ _ (off_r t (idx_in t).2.2.2.1.1 ρ.isLt) (off_c t (idx_in t).2.2.2.1.2 j.isLt)).trans
    ((V39 m c _ _).trans (congrArg₂ _ (row_at t ρ.isLt) (col_at t j.isLt)))
theorem iblk4 : Rows (φ := .bf16) (iblk m c 4 t : FVec Ideal S512x1024 .bf16) (inp m c).wd (t.val / 2 * 512) := fun ρ k =>
  (rd2 (V m c main_v40 : FVec Ideal S3072x1024 .bf16) _ _ k (off_c t (idx_in t).2.2.2.2.1.1 ρ.isLt) (zero_off (idx_in t).2.2.2.2.1.2)).trans (V40 m c _ k)
theorem iblk5 : Rows (φ := .f32) (iblk m c 5 t : FVec Ideal S3x512 .f32) (cols (inp m c).cw (t.val / 2 * 512)) 0 := fun ρ j =>
  (rd2 (V m c main_arg2 : FVec Ideal S3x3072 .f32) _ ⟨0 + ρ.val, by omega⟩ _ ((zero_off (idx_in t).2.2.2.2.2.1).trans (Nat.zero_add _).symm)
    (off_c t (idx_in t).2.2.2.2.2.2 j.isLt)).trans ((VW m c _ _).trans (congrArg₂ _ rfl (col_at t j.isLt)))

/-! ## A chunk: the rows from `256 * (7 - k)` on -/

section

theorem fits {N : ℕ} (a k : ℕ) (h : 1792 + a ≤ N) : ∀ x : Fin 2, (![256 * (7 - k), 0] : Fin 2 → ℕ) x + (![a, 512] : Fin 2 → ℕ) x ≤ (![N, 512] : Fin 2 → ℕ) x
  | 0 => show 256 * (7 - k) + a ≤ N by omega
  | 1 => show 0 + 512 ≤ 512 from le_rfl

/-- The weight's block, the chunk's rows of the gradient, and of a block of columns. -/
def wdb : FVec Ideal S512x1024 .bf16 := View.ld (Val := Elt Ideal) (e' := .bf16) (iblk m c 4 t) (Rect.unit (s := S512x1024) ![0, 0] ![512, 1024] inb_S512x1024_S512x1024_0_0)

def dhr (k : ℕ) : FVec Ideal S256x1024 .bf16 :=
  View.ld (Val := Elt Ideal) (e' := .bf16) (iblk m c 0 t) (Rect.unit (s := S4096x1024) (k0_off1 (grid0.coords t) (BitVec.ofNat 32 (256 * (7 - k)))) S256x1024.size
    (k0_off1_inb (grid0.coords t) ⟨7 - k, by omega⟩))

def chunk (X : FVec Ideal S2048x512 .bf16) (k : ℕ) : FVec Ideal S256x512 .bf16 :=
  View.ld (Val := Elt Ideal) (e' := .bf16) X (Rect.unit (s := S2048x512) ![256 * (7 - k), 0] ![256, 512] (fits 256 k (by norm_num)))

def cwr (k : ℕ) (inb : ∀ x : Fin 2, (![k, 0] : Fin 2 → ℕ) x + (![1, 512] : Fin 2 → ℕ) x ≤ (![3, 512] : Fin 2 → ℕ) x) : FVec Ideal S1x512 .f32 := View.ld (Val := Elt Ideal) (e' := .f32) (iblk m c 5 t) (Rect.unit (s := S3x512) ![k, 0] ![1, 512] inb)

theorem wdb_rows : Rows (φ := .bf16) (wdb m c t) (inp m c).wd (t.val / 2 * 512) := all' (iblk4 m c t) _

theorem dhr_rows (k : ℕ) : Rows (φ := .bf16) (dhr m c t k) (inp m c).dh (base t + 256 * (7 - k)) := dyn (offs t ⟨7 - k, by omega⟩) (iblk0 m c t) _

theorem chunk_rows {X : FVec Ideal S2048x512 .bf16} {F : ℕ → Fin 512 → EReal} {B : ℕ} (h : Rows (φ := .bf16) X F B) (k : ℕ) :
    Rows (φ := .bf16) (chunk X k) F (B + 256 * (7 - k)) := part' h _

theorem cwr_rows (k : ℕ) (inb) : Rows (φ := .f32) (cwr m c t k inb) (cols (inp m c).cw (t.val / 2 * 512)) k := by
  have := part (o := k) (iblk5 m c t) inb
  rwa [Nat.zero_add] at this

theorem base_le (k : ℕ) : base t + 256 * (7 - k) + 256 ≤ 4096 := by unfold base; omega

/-- The chunks' gate gradients, as the pieces of the buffer. -/
def gcs (L : List (View.Piece (Elt Ideal) S2064x512 .f32)) : ℕ → List (View.Piece (Elt Ideal) S2064x512 .f32)
  | 0 => L
  | k + 1 => ⟨Rect.unit (s := S2064x512) ![256 * (7 - k), 0] ![256, 512] (fits 256 k (by norm_num)),
      k0_pay8 (F := Ideal) (wdb m c t) (dhr m c t k) (chunk (iblk m c 3 t) k)⟩ :: gcs L k

theorem pay8_rows (k : ℕ) : Rows (φ := .f32) (k0_pay8 (F := Ideal) (wdb m c t) (dhr m c t k) (chunk (iblk m c 3 t) k)) (cols (inp m c).dgc (t.val / 2 * 512))
    (base t + 256 * (7 - k)) := p8 (wdb_rows m c t) (dhr_rows m c t k) (chunk_rows (iblk3 m c t) k) (base_le t k)

theorem gcs_hi {L} (hL : Hi (N := 2064) (fun x => View.canon (Val := Elt Ideal) (e := .f32) L x) (cols (inp m c).dgc (t.val / 2 * 512)) (base t) 2048) :
    ∀ k, k < 9 → Hi (N := 2064) (fun x => View.canon (Val := Elt Ideal) (e := .f32) (gcs m c t L k) x) (cols (inp m c).dgc (t.val / 2 * 512)) (base t) (256 * (8 - k))
  | 0, _ => hL
  | k + 1, h => by
    rw [show 256 * (8 - (k + 1)) = 256 * (7 - k) by omega]
    refine Hi.canon_cons (e := .f32) (q := fun x => x) ?_ (pay8_rows m c t k)
    rw [show 256 * (7 - k) + 256 = 256 * (8 - k) by omega]
    exact gcs_hi hL k (by omega)

theorem gcs_over {κ : Kind} {sp : Space} {v : View sig κ sp S2064x512 .f32} {X : v.ty.Contents (Elt Ideal)}
    (hX : Hi (N := 2064) (v.read (Elt Ideal) X) (cols (inp m c).dgc (t.val / 2 * 512)) (base t) 2048) :
    ∀ k, k < 9 → Hi (N := 2064) (v.read (Elt Ideal) (v.writes (Elt Ideal) X (gcs m c t [] k))) (cols (inp m c).dgc (t.val / 2 * 512)) (base t) (256 * (8 - k))
  | 0, _ => hX
  | k + 1, h => by
    rw [show 256 * (8 - (k + 1)) = 256 * (7 - k) by omega]
    refine Hi.writes_cons ?_ (pay8_rows m c t k)
    rw [show 256 * (7 - k) + 256 = 256 * (8 - k) by omega]
    exact gcs_over hX k (by omega)

end

section

variable (E : ℕ → FVec Ideal S272x512 .f32)

/-- The chunks' gradients of the gate's input, and of the upward projection, as the pieces of their blocks. -/
def dgs : ℕ → List (View.Piece (Elt Ideal) S2048x512 .bf16)
  | 0 => []
  | k + 1 => ⟨Rect.unit (s := S2048x512) ![256 * (7 - k), 0] ![256, 512] (fits 256 k (by norm_num)),
      k0_pay11 (F := Ideal) (k0_pay7 (F := Ideal) (wdb m c t) (dhr m c t k) (chunk (iblk m c 3 t) k)) (k0_pay9 (F := Ideal) (E k)) (k0_pay10 (F := Ideal) (E k))
        (cwr m c t 2 inb_S3x512_S1x512_2_0) (cwr m c t 1 inb_S3x512_S1x512_1_0) (cwr m c t 0 inb_S3x512_S1x512_0_0)⟩ :: dgs k

def dups : ℕ → List (View.Piece (Elt Ideal) S2048x512 .bf16)
  | 0 => []
  | k + 1 => ⟨Rect.unit (s := S2048x512) ![256 * (7 - k), 0] ![256, 512] (fits 256 k (by norm_num)),
      k0_pay6 (F := Ideal) (wdb m c t) (dhr m c t k) (chunk (iblk m c 2 t) k)⟩ :: dups k

/-- The terms of a chunk that are summed over its rows. -/
def tb (k : ℕ) : FVec Ideal S256x512 .f32 := k0_pay7 (F := Ideal) (wdb m c t) (dhr m c t k) (chunk (iblk m c 3 t) k)

def t0 (k : ℕ) : FVec Ideal S256x512 .f32 := mulf (tb m c t k) (k0_pay12 (F := Ideal) (chunk (iblk m c 1 t) k))

def t1 (k : ℕ) : FVec Ideal S256x512 .f32 := mulf (k0_pay9 (F := Ideal) (E k)) (k0_pay12 (F := Ideal) (chunk (iblk m c 1 t) k))

def t2 (k : ℕ) : FVec Ideal S256x512 .f32 := mulf (k0_pay10 (F := Ideal) (E k)) (k0_pay12 (F := Ideal) (chunk (iblk m c 1 t) k))

theorem dups_hi : ∀ k, k < 9 → Hi (N := 2048) (fun x => View.canon (Val := Elt Ideal) (e := .bf16) (dups m c t k) x) (cols (inp m c).dup (t.val / 2 * 512)) (base t) (256 * (8 - k))
  | 0, _ => Hi.none _
  | k + 1, h => by
    rw [show 256 * (8 - (k + 1)) = 256 * (7 - k) by omega]
    refine Hi.canon_cons (e := .bf16) (q := fun x => x) ?_ (p6 (wdb_rows m c t) (dhr_rows m c t k) (chunk_rows (iblk2 m c t) k))
    rw [show 256 * (7 - k) + 256 = 256 * (8 - k) by omega]
    exact dups_hi k (by omega)

theorem tb_rows (k : ℕ) : Rows (φ := .f32) (tb m c t k) (cols (inp m c).dgc (t.val / 2 * 512)) (base t + 256 * (7 - k)) :=
  p7 (wdb_rows m c t) (dhr_rows m c t k) (chunk_rows (iblk3 m c t) k) (base_le t k)

theorem g_rows (k : ℕ) : Rows (φ := .f32) (k0_pay12 (F := Ideal) (chunk (iblk m c 1 t) k)) (cols (inp m c).g (t.val / 2 * 512)) (base t + 256 * (7 - k)) := by
  intro ρ j
  unfold k0_pay12
  pointwise
  exact chunk_rows (iblk1 m c t) k ρ j

theorem t0_rows (k : ℕ) : Rows (φ := .f32) (t0 m c t k) (cols ((inp m c).tw 0) (t.val / 2 * 512)) (base t + 256 * (7 - k)) :=
  fun ρ j => congrArg₂ (· * ·) (tb_rows m c t k ρ j) (g_rows m c t k ρ j)

variable {E} (hE : ∀ k, k < 8 → Rows (φ := .f32) (E k) (cols (inp m c).dgc (t.val / 2 * 512)) (base t + 256 * (7 - k)))

include hE

theorem t1_rows (k : ℕ) (h : k < 8) : Rows (φ := .f32) (t1 m c t E k) (cols ((inp m c).tw 1) (t.val / 2 * 512)) (base t + 256 * (7 - k)) :=
  fun ρ j => congrArg₂ (· * ·) (p9 (hE k h) ρ j) (g_rows m c t k ρ j)

theorem t2_rows (k : ℕ) (h : k < 8) : Rows (φ := .f32) (t2 m c t E k) (cols ((inp m c).tw 2) (t.val / 2 * 512)) (base t + 256 * (7 - k)) :=
  fun ρ j => congrArg₂ (· * ·) (p10 (hE k h) ρ j) (g_rows m c t k ρ j)

theorem dgs_hi : ∀ k, k < 9 → Hi (N := 2048) (fun x => View.canon (Val := Elt Ideal) (e := .bf16) (dgs m c t E k) x) (cols (inp m c).dg (t.val / 2 * 512)) (base t) (256 * (8 - k))
  | 0, _ => Hi.none _
  | k + 1, h => by
    rw [show 256 * (8 - (k + 1)) = 256 * (7 - k) by omega]
    refine Hi.canon_cons (e := .bf16) (q := fun x => x) ?_
      (p11 (wdb_rows m c t) (dhr_rows m c t k) (chunk_rows (iblk3 m c t) k) (base_le t k) (hE k (by omega)) (cwr_rows m c t 2 _) (cwr_rows m c t 1 _) (cwr_rows m c t 0 _))
    rw [show 256 * (7 - k) + 256 = 256 * (8 - k) by omega]
    exact dgs_hi k (by omega)

end

/-! ## What a point reads of the buffer -/

def eA (L : List (View.Piece (Elt Ideal) S2064x512 .f32)) (k : ℕ) : FVec Ideal S272x512 .f32 :=
  (View.whole cc0_scratch0).readCov (Val := Elt Ideal) (gcs m c t L (k + 1))
    (Rect.unit (s := S2064x512) ![256 * (7 - k), 0] ![272, 512] (fits 272 k (by norm_num))).toLoadRect

def eB (X : (View.whole cc0_scratch0).ty.Contents (Elt Ideal)) : ℕ → FVec Ideal S272x512 .f32
  | 0 => View.ld (Val := Elt Ideal) (e' := .f32) ((View.whole cc0_scratch0).read (Elt Ideal) ((View.whole cc0_scratch0).writes (Elt Ideal) X (gcs m c t [] 1)))
      (Rect.unit (s := S2064x512) ![256 * (7 - 0), 0] ![272, 512] (fits 272 0 (by norm_num)))
  | k + 1 => eA m c t [] (k + 1)

theorem eA_rows {L} (hL : Hi (N := 2064) (fun x => View.canon (Val := Elt Ideal) (e := .f32) L x) (cols (inp m c).dgc (t.val / 2 * 512)) (base t) 2048) (k : ℕ) (hk : k < 8) :
    Rows (φ := .f32) (eA m c t L k) (cols (inp m c).dgc (t.val / 2 * 512)) (base t + 256 * (7 - k)) := by
  have h := gcs_hi m c t hL (k + 1) (by omega)
  rw [show 256 * (8 - (k + 1)) = 256 * (7 - k) by omega] at h
  exact h.readCov _

theorem gcs_band : ∀ k, k < 9 → ∀ (ρ : Fin 2064) (j : Fin 512), 256 * (8 - k) ≤ ρ.val → ρ.val < 2048 →
    View.canon (Val := Elt Ideal) (e := .f32) (gcs m c t [] k) (ix2 ρ j) = cols (inp m c).dgc (t.val / 2 * 512) (base t + ρ.val) j
  | 0, _, ρ, j, h1, h2 => by omega
  | k + 1, hk, ρ, j, h1, h2 => by
    by_cases hc : ρ.val < 256 * (7 - k) + 256
    · refine (canon2 (e := .f32) (fits 256 k (by norm_num)) (⟨ρ.val - 256 * (7 - k), by omega⟩ : Fin 256) j ρ j (by show ρ.val = 256 * (7 - k) + (ρ.val - 256 * (7 - k)); omega)
        (Nat.zero_add _).symm).trans ((pay8_rows m c t k _ _).trans (congrArg (fun r => cols (inp m c).dgc (t.val / 2 * 512) r j) ?_))
      show base t + 256 * (7 - k) + (ρ.val - 256 * (7 - k)) = base t + ρ.val
      omega
    · exact (canonNot2 (e := .f32) (fits 256 k (by norm_num)) ρ j (Or.inl (Or.inr (by omega)))).trans (gcs_band k (by omega) ρ j (by omega) h2)

theorem eB_rows {X : (View.whole cc0_scratch0).ty.Contents (Elt Ideal)}
    (hX : Hi (N := 2064) ((View.whole cc0_scratch0).read (Elt Ideal) X) (cols (inp m c).dgc (t.val / 2 * 512)) (base t) 2048) :
    ∀ k, k < 8 → Rows (φ := .f32) (eB m c t X k) (cols (inp m c).dgc (t.val / 2 * 512)) (base t + 256 * (7 - k))
  | 0, _ => (gcs_over m c t hX 1 (by norm_num)).ld _
  | k + 1, hk => by
    intro ρ j
    show eA m c t [] (k + 1) (ix2 ρ j) = _
    unfold eA
    rw [View.readCov_eq_canon']
    refine (ld2 (e := .f32) (View.canon (Val := Elt Ideal) (e := .f32) (gcs m c t [] (k + 1 + 1))) (fits 272 (k + 1) (by norm_num)) ρ j
      ⟨256 * (7 - (k + 1)) + ρ.val, by omega⟩ j rfl (Nat.zero_add _).symm).trans ((gcs_band m c t _ (by omega) _ _ ?_ ?_).trans ?_)
    · show _ ≤ 256 * (7 - (k + 1)) + ρ.val; omega
    · show 256 * (7 - (k + 1)) + ρ.val < 2048; omega
    · exact congrArg (fun r => cols (inp m c).dgc (t.val / 2 * 512) r j) (Nat.add_assoc _ _ _).symm

/-- The cleared rows after the last one. -/
def rest : List (View.Piece (Elt Ideal) S2064x512 .f32) := [⟨Rect.unit (s := S2064x512) ![2048, 0] ![16, 512] inb_S2064x512_S16x512_2048_0, k0_pay3 (F := Ideal)⟩]

theorem rest_hi (h : t.val % 2 = 0) :
    Hi (N := 2064) (fun x => View.canon (Val := Elt Ideal) (e := .f32) rest x) (cols (inp m c).dgc (t.val / 2 * 512)) (base t) 2048 := by
  refine Hi.canon_cons (e := .f32) (q := fun x => x) (Hi.none _) fun ρ j => ?_
  rw [p3]
  unfold cols In.dgc base
  rw [if_neg (by omega)]

theorem at_dg_A (h : t.val % 2 = 0) : Rows (φ := .bf16) (outsAt0 m c t.val t.isLt).1 (cols (inp m c).dg (t.val / 2 * 512)) (base t) := by
  intro ρ j
  rw [outsAt0_A m c t h h (by omega) h (by omega) h (by omega) h (by omega)]
  dsimp only
  unfold out0_A_6
  rw [View.read_writes_eq_canon _ _ _ (fun y => cover0_A_6 (y := y) ..)]
  unfold kernelRun0_A
  dsimp only
  sl_unfold_words
  simp only [View.readAt_eq_ld, Memref.IsWhole.read_unread]
  exact dgs_hi m c t (eA_rows m c t (rest_hi m c t h)) 8 (by norm_num) ρ j (Nat.zero_le _)

theorem at_dup_A (h : t.val % 2 = 0) : Rows (φ := .bf16) (outsAt0 m c t.val t.isLt).2.1 (cols (inp m c).dup (t.val / 2 * 512)) (base t) := by
  intro ρ j
  rw [outsAt0_A m c t h h (by omega) h (by omega) h (by omega) h (by omega)]
  dsimp only
  unfold out0_A_7
  rw [View.read_writes_eq_canon _ _ _ (fun y => cover0_A_7 (y := y) ..)]
  unfold kernelRun0_A
  dsimp only
  sl_unfold_words
  simp only [View.readAt_eq_ld, Memref.IsWhole.read_unread]
  exact dups_hi m c t 8 (by norm_num) ρ j (Nat.zero_le _)

theorem topA_rows (h : t.val % 2 = 0) : Rows (φ := .f32) ((View.whole cc0_scratch0).readCov (Val := Elt Ideal) (gcs m c t rest 8)
    (Rect.unit (s := S2064x512) ![0, 0] ![16, 512] inb_S2064x512_S16x512_0_0).toLoadRect) (cols (inp m c).dgc (t.val / 2 * 512)) (base t + 0) := by
  have h8 := gcs_hi m c t (rest_hi m c t h) 8 (by norm_num)
  rw [show 256 * (8 - 8) = 0 from rfl] at h8
  exact h8.readCov _

/-- The rows that a point leaves for the next one. -/
theorem at_top (h : t.val % 2 = 0) (ρ : Fin 2064) (j : Fin 512) (hρ : 2048 ≤ ρ.val) :
    ((outsAt0 m c t.val t.isLt).2.2.2.2 : FVec Ideal S2064x512 .f32) (ix2 ρ j) = cols (inp m c).dgc (t.val / 2 * 512) ρ.val j := by
  rw [outsAt0_A m c t h h (by omega) h (by omega) h (by omega) h (by omega)]
  dsimp only
  unfold sout0_A_0
  rw [View.read_writes_eq_canon _ _ _ (fun y => scover0_A_0 (y := y) ..)]
  unfold kernelRun0_A
  dsimp only
  sl_unfold_words
  simp only [View.readAt_eq_ld, Memref.IsWhole.read_unread]
  refine (canon2 _ (⟨ρ.val - 2048, by omega⟩ : Fin 16) j ρ j (by show ρ.val = 2048 + (ρ.val - 2048); omega) (Nat.zero_add _).symm).trans ((p2 _ _ _).trans ?_)
  refine (topA_rows m c t h _ _).trans (congrArg (fun r => cols (inp m c).dgc (t.val / 2 * 512) r j) ?_)
  show (1 - t.val % 2) * 2048 + 0 + (ρ.val - 2048) = ρ.val
  omega

theorem pred_lt : t.val - 1 < cfg0.N := Nat.lt_of_le_of_lt (Nat.sub_le _ _) t.isLt

theorem left (h : ¬t.val % 2 = 0) :
    Hi (N := 2064) ((View.whole cc0_scratch0).read (Elt Ideal) ((Memref.isWhole_whole cc0_scratch0).unread (outsAt0 m c (t.val - 1) (pred_lt t)).2.2.2.2))
      (cols (inp m c).dgc (t.val / 2 * 512)) (base t) 2048 := by
  intro ρ j hρ
  refine (congrFun ((Memref.isWhole_whole cc0_scratch0).read_unread (Val := Elt Ideal) _) (ix2 ρ j)).trans ?_
  refine (at_top m c ⟨t.val - 1, pred_lt t⟩ (by show (t.val - 1) % 2 = 0; omega) ρ j hρ).trans ?_
  unfold base
  rw [show (t.val - 1) / 2 = t.val / 2 by omega, show (1 - t.val % 2) * 2048 + ρ.val = ρ.val by omega]

theorem at_dg_B (h : ¬t.val % 2 = 0) : Rows (φ := .bf16) (outsAt0 m c t.val t.isLt).1 (cols (inp m c).dg (t.val / 2 * 512)) (base t) := by
  intro ρ j
  rw [outsAt0_B m c t h h (by omega) h (by omega) h (by omega) h (by omega)]
  dsimp only
  unfold out0_B_6
  rw [View.read_writes_eq_canon _ _ _ (fun y => cover0_B_6 (y := y) ..)]
  unfold kernelRun0_B
  dsimp only
  sl_unfold_words
  simp only [View.readAt_eq_ld, Memref.IsWhole.read_unread]
  exact dgs_hi m c t (eB_rows m c t (left m c t h)) 8 (by norm_num) ρ j (Nat.zero_le _)

theorem at_dup_B (h : ¬t.val % 2 = 0) : Rows (φ := .bf16) (outsAt0 m c t.val t.isLt).2.1 (cols (inp m c).dup (t.val / 2 * 512)) (base t) := by
  intro ρ j
  rw [outsAt0_B m c t h h (by omega) h (by omega) h (by omega) h (by omega)]
  dsimp only
  unfold out0_B_7
  rw [View.read_writes_eq_canon _ _ _ (fun y => cover0_B_7 (y := y) ..)]
  unfold kernelRun0_B
  dsimp only
  sl_unfold_words
  simp only [View.readAt_eq_ld, Memref.IsWhole.read_unread]
  exact dups_hi m c t 8 (by norm_num) ρ j (Nat.zero_le _)

/-- The convolution weights' gradients over some rows, and the bias's. -/
def wsum (a b : ℕ) (k : ℕ) (j : Fin 512) : EReal := ∑ r ∈ Finset.Ico a b, (inp m c).tw (2 - k) r (t.val / 2 * 512 + j.val)

def bsum (a b : ℕ) (_ : ℕ) (j : Fin 512) : EReal := ∑ r ∈ Finset.Ico a b, (inp m c).dgc r (t.val / 2 * 512 + j.val)

theorem lone {w : FVec Ideal S1x512 .f32} {F : ℕ → Fin 512 → EReal} {o : ℕ} (h : ∀ j, w (ix2 0 j) = F o j) (n : Fin 1) (j : Fin 512) : w (ix2 n j) = F (0 + o + n.val) j := by
  obtain rfl : n = 0 := Subsingleton.elim _ _
  rw [h, Nat.zero_add]
  rfl

section

variable {E : ℕ → FVec Ideal S272x512 .f32} (hE : ∀ k, k < 8 → Rows (φ := .f32) (E k) (cols (inp m c).dgc (t.val / 2 * 512)) (base t + 256 * (7 - k)))

theorem sum_b (j : Fin 512) : tot (tb m c t) 7 (ix2 0 j) = bsum m c t (base t) (base t + 2048) 0 j :=
  tot_eq (fun k _ => tb_rows m c t k) j 7 (by norm_num)

theorem sum_0 (j : Fin 512) : tot (t0 m c t) 7 (ix2 0 j) = wsum m c t (base t) (base t + 2048) 2 j :=
  tot_eq (fun k _ => t0_rows m c t k) j 7 (by norm_num)

include hE in
theorem sum_1 (j : Fin 512) : tot (t1 m c t E) 7 (ix2 0 j) = wsum m c t (base t) (base t + 2048) 1 j :=
  tot_eq (fun k h => t1_rows m c t hE k h) j 7 (by norm_num)

include hE in
theorem sum_2 (j : Fin 512) : tot (t2 m c t E) 7 (ix2 0 j) = wsum m c t (base t) (base t + 2048) 0 j :=
  tot_eq (fun k h => t2_rows m c t hE k h) j 7 (by norm_num)

end

theorem at_dcw_A (h : t.val % 2 = 0) : Rows (φ := .f32) (outsAt0 m c t.val t.isLt).2.2.1 (wsum m c t (base t) (base t + 2048)) 0 := by
  intro ρ j
  rw [outsAt0_A m c t h h (by omega) h (by omega) h (by omega) h (by omega)]
  dsimp only
  unfold out0_A_8
  rw [View.read_writes_eq_canon _ _ _ (fun y => cover0_A_8 (y := y) ..)]
  unfold kernelRun0_A
  dsimp only
  sl_unfold_words
  simp only [View.readAt_eq_ld, Memref.IsWhole.read_unread]
  refine Low.done (e := .f32) (q := fun x => x) (B := 0) ?_ ρ j |>.trans (by rw [Nat.zero_add])
  have hE := eA_rows m c t (rest_hi m c t h)
  exact .cons rfl (.cons rfl (.cons rfl .nil fun n j => lone (sum_2 m c t hE) n j) fun n j => lone (sum_1 m c t hE) n j)
    fun n j => lone (sum_0 m c t) n j

theorem at_dcb_A (h : t.val % 2 = 0) : Rows (φ := .f32) (outsAt0 m c t.val t.isLt).2.2.2.1 (bsum m c t (base t) (base t + 2048)) 0 := by
  intro ρ j
  rw [outsAt0_A m c t h h (by omega) h (by omega) h (by omega) h (by omega)]
  dsimp only
  unfold out0_A_9
  rw [View.read_writes_eq_canon _ _ _ (fun y => cover0_A_9 (y := y) ..)]
  unfold kernelRun0_A
  dsimp only
  sl_unfold_words
  simp only [View.readAt_eq_ld, Memref.IsWhole.read_unread]
  refine Low.done (e := .f32) (q := fun x => x) (B := 0) ?_ ρ j |>.trans (by rw [Nat.zero_add])
  exact .cons rfl .nil fun n j => lone (sum_b m c t) n j

/-- A point's sum and the one of the point before it together go over all rows. -/
theorem halves (h : ¬t.val % 2 = 0) {g : ℕ → ℕ → EReal} (j : Fin 512) :
    ∑ r ∈ Finset.Ico (base ⟨t.val - 1, pred_lt t⟩) (base ⟨t.val - 1, pred_lt t⟩ + 2048), g r ((t.val - 1) / 2 * 512 + j.val)
      + ∑ r ∈ Finset.Ico (base t) (base t + 2048), g r (t.val / 2 * 512 + j.val) = ∑ r ∈ Finset.Ico 0 4096, g r (t.val / 2 * 512 + j.val) := by
  have e1 : base ⟨t.val - 1, pred_lt t⟩ = 2048 := by show (1 - (t.val - 1) % 2) * 2048 = 2048; rw [show (t.val - 1) % 2 = 0 by omega]
  have e2 : base t = 0 := by unfold base; rw [show 1 - t.val % 2 = 0 by omega, Nat.zero_mul]
  rw [e1, e2, show (t.val - 1) / 2 = t.val / 2 by omega, add_comm]
  exact Finset.sum_Ico_consecutive _ (by norm_num) (by norm_num)

theorem at_dcb_B (h : ¬t.val % 2 = 0) : Rows (φ := .f32) (outsAt0 m c t.val t.isLt).2.2.2.1 (bsum m c t 0 4096) 0 := by
  intro ρ j
  rw [outsAt0_B m c t h h (by omega) h (by omega) h (by omega) h (by omega)]
  dsimp only
  unfold out0_B_9
  rw [View.read_writes_eq_canon _ _ _ (fun y => cover0_B_9 (y := y) ..)]
  unfold kernelRun0_B
  dsimp only
  sl_unfold_words
  simp only [View.readAt_eq_ld, Memref.IsWhole.read_unread]
  refine Low.done (e := .f32) (q := fun x => x) (B := 0) ?_ ρ j |>.trans (by rw [Nat.zero_add])
  refine .cons rfl .nil fun n j => lone (F := bsum m c t 0 4096) (fun j => (p1 (tot (tb m c t) 7) _ _).trans ?_) n j
  refine (congrArg₂ (· + ·) ((ld2 (e := .f32) _ _ _ _ 0 j rfl (Nat.zero_add _).symm).trans (at_dcb_A m c ⟨t.val - 1, pred_lt t⟩ (by show (t.val - 1) % 2 = 0; omega) 0 j)) (sum_b m c t j)).trans ?_
  exact halves (t := t) h j

theorem at_dcw_B (h : ¬t.val % 2 = 0) : Rows (φ := .f32) (outsAt0 m c t.val t.isLt).2.2.1 (wsum m c t 0 4096) 0 := by
  intro ρ j
  rw [outsAt0_B m c t h h (by omega) h (by omega) h (by omega) h (by omega)]
  dsimp only
  unfold out0_B_8
  rw [View.read_writes_eq_canon _ _ _ (fun y => cover0_B_8 (y := y) ..)]
  unfold kernelRun0_B
  dsimp only
  sl_unfold_words
  simp only [View.readAt_eq_ld, Memref.IsWhole.read_unread]
  refine Low.done (e := .f32) (q := fun x => x) (B := 0) ?_ ρ j |>.trans (by rw [Nat.zero_add])
  have hE := eB_rows m c t (left m c t h)
  have hp := at_dcw_A m c ⟨t.val - 1, pred_lt t⟩ (by show (t.val - 1) % 2 = 0; omega)
  refine .cons rfl (.cons rfl (.cons rfl .nil fun n j => lone (F := wsum m c t 0 4096) (fun j => (p1 (tot (t2 m c t (eB m c t _)) 7) _ _).trans
    ((congrArg₂ (· + ·) ((ld2 (e := .f32) _ _ _ _ 0 j rfl (Nat.zero_add _).symm).trans (hp 0 j)) (sum_2 m c t hE j)).trans (halves (t := t) h j))) n j)
    fun n j => lone (F := wsum m c t 0 4096) (fun j => (p1 (tot (t1 m c t (eB m c t _)) 7) _ _).trans
    ((congrArg₂ (· + ·) ((ld2 (e := .f32) _ _ _ _ 1 j rfl (Nat.zero_add _).symm).trans (hp 1 j)) (sum_1 m c t hE j)).trans (halves (t := t) h j))) n j)
    fun n j => lone (F := wsum m c t 0 4096) (fun j => (p1 (tot (t0 m c t) 7) _ _).trans
    ((congrArg₂ (· + ·) ((ld2 (e := .f32) _ _ _ _ 2 j rfl (Nat.zero_add _).symm).trans (hp 2 j)) (sum_0 m c t j)).trans (halves (t := t) h j))) n j

/-! ## The arrays at the end -/

/-- The grid point that writes an entry, and the entry's row and column within its block. -/
def pt (r : Fin 4096) (f : Fin 3072) : Fin cfg0.N := ⟨f.val / 512 * 2 + (1 - r.val / 2048), lt_of_lt_of_eq (by omega) N_0.symm⟩

def rr (r : Fin 4096) : Fin 2048 := ⟨r.val % 2048, Nat.mod_lt _ (by decide)⟩

def rc (f : Fin 3072) : Fin 512 := ⟨f.val % 512, Nat.mod_lt _ (by decide)⟩

theorem pt_r (r : Fin 4096) (f : Fin 3072) : base (pt r f) + (rr r).val = r.val := by
  show (1 - (f.val / 512 * 2 + (1 - r.val / 2048)) % 2) * 2048 + r.val % 2048 = r.val
  omega

theorem pt_c (r : Fin 4096) (f : Fin 3072) : (pt r f).val / 2 * 512 + (rc f).val = f.val := by
  show (f.val / 512 * 2 + (1 - r.val / 2048)) / 2 * 512 + f.val % 512 = f.val
  omega

theorem off_pr {n : ℕ} (r : Fin 4096) (f : Fin 3072) (h : n = 1 - (pt r f).val % 2) : n * 2048 + 1 * (rr r).val = r.val := by
  rw [h, Nat.one_mul]; exact pt_r r f

theorem off_pc {n : ℕ} (r : Fin 4096) (f : Fin 3072) (h : n = (pt r f).val / 2) : n * 512 + 1 * (rc f).val = f.val := by
  rw [h, Nat.one_mul]; exact pt_c r f

theorem at_dg : Rows (φ := .bf16) (outsAt0 m c t.val t.isLt).1 (cols (inp m c).dg (t.val / 2 * 512)) (base t) := by
  by_cases h : t.val % 2 = 0
  · exact at_dg_A m c t h
  · exact at_dg_B m c t h

theorem at_dup : Rows (φ := .bf16) (outsAt0 m c t.val t.isLt).2.1 (cols (inp m c).dup (t.val / 2 * 512)) (base t) := by
  by_cases h : t.val % 2 = 0
  · exact at_dup_A m c t h
  · exact at_dup_B m c t h

theorem end_dg (r : Fin 4096) (f : Fin 3072) : ((dats m 0 c).arrAt 6 cfg0.N : FVec Ideal S4096x3072 .bf16) (ix2 r f) = (inp m c).dg r.val f.val := by
  have hb := congrFun (blocks6 m c (pt r f) (flush0_6 _)) (ix2 (rr r) (rc f))
  rw [flushed6] at hb
  refine Eq.trans ?_ (hb.trans ((at_dg m c (pt r f) (rr r) (rc f)).trans (congrArg₂ (inp m c).dg (pt_r r f) (pt_c r f))))
  exact (rd2 ((dats m 0 c).arrAt 6 cfg0.N : FVec Ideal S4096x3072 .bf16) _ r f (off_pr r f (idx_out (pt r f)).1.1) (off_pc r f (idx_out (pt r f)).1.2)).symm

theorem end_dup (r : Fin 4096) (f : Fin 3072) : ((dats m 0 c).arrAt 7 cfg0.N : FVec Ideal S4096x3072 .bf16) (ix2 r f) = (inp m c).dup r.val f.val := by
  have hb := congrFun (blocks7 m c (pt r f) (flush0_7 _)) (ix2 (rr r) (rc f))
  rw [flushed7] at hb
  refine Eq.trans ?_ (hb.trans ((at_dup m c (pt r f) (rr r) (rc f)).trans (congrArg₂ (inp m c).dup (pt_r r f) (pt_c r f))))
  exact (rd2 ((dats m 0 c).arrAt 7 cfg0.N : FVec Ideal S4096x3072 .bf16) _ r f (off_pr r f (idx_out (pt r f)).2.1.1) (off_pc r f (idx_out (pt r f)).2.1.2)).symm

/-- The last point of a block of columns. -/
def pc (f : Fin 3072) : Fin cfg0.N := pt 0 f

theorem pc_odd (f : Fin 3072) : (pc f).val % 2 = 1 := by show (f.val / 512 * 2 + (1 - 0)) % 2 = 1; omega

theorem same {t t' : Fin cfg0.N} (h : t.val % 2 = 1) (h' : t'.val % 2 = 1) (e : t.val / 2 = t'.val / 2) : t = t' := Fin.ext (by omega)

theorem end_dcw (k : Fin 3) (f : Fin 3072) : ((dats m 0 c).arrAt 8 cfg0.N : FVec Ideal S3x3072 .f32) (ix2 k f) = ∑ r : Fin 4096, (inp m c).tw (2 - k.val) r.val f.val := by
  have hb := congrFun ((dats m 0 c).read_blk_arrAt_eq_flushed 8 (fun t t' h h' hn => (cfg0.win 8).disjoint_blk fun e => hn (same ((flush0_8 t).mp h) ((flush0_8 t').mp h')
    ((idx_out t).2.2.1.2.symm.trans ((congrFun e 1).trans (idx_out t').2.2.1.2)))) cfg0.N (pc f) (pc f).isLt ((flush0_8 (pc f)).mpr (pc_odd f))) (ix2 k (rc f))
  rw [flushed8] at hb
  refine Eq.trans ?_ (hb.trans ((at_dcw_B m c (pc f) (by rw [pc_odd]; decide) k (rc f)).trans ?_))
  · exact (rd2 ((dats m 0 c).arrAt 8 cfg0.N : FVec Ideal S3x3072 .f32) _ k f (zero_off (idx_out (pc f)).2.2.1.1) (off_pc 0 f (idx_out (pc f)).2.2.1.2)).symm
  · unfold wsum
    rw [Nat.zero_add, ← Finset.range_eq_Ico, Finset.sum_range]
    exact Finset.sum_congr rfl fun r _ => congrArg _ (pt_c 0 f)

theorem end_dcb (f : Fin 3072) : ((dats m 0 c).arrAt 9 cfg0.N : FVec Ideal S1x3072 .f32) (ix2 0 f) = ∑ r : Fin 4096, (inp m c).dgc r.val f.val := by
  have hb := congrFun ((dats m 0 c).read_blk_arrAt_eq_flushed 9 (fun t t' h h' hn => (cfg0.win 9).disjoint_blk fun e => hn (same ((flush0_9 t).mp h) ((flush0_9 t').mp h')
    ((idx_out t).2.2.2.2.symm.trans ((congrFun e 1).trans (idx_out t').2.2.2.2)))) cfg0.N (pc f) (pc f).isLt ((flush0_9 (pc f)).mpr (pc_odd f))) (ix2 0 (rc f))
  rw [flushed9] at hb
  refine Eq.trans ?_ (hb.trans ((at_dcb_B m c (pc f) (by rw [pc_odd]; decide) 0 (rc f)).trans ?_))
  · exact (rd2 ((dats m 0 c).arrAt 9 cfg0.N : FVec Ideal S1x3072 .f32) _ 0 f (zero_off (idx_out (pc f)).2.2.2.1) (off_pc 0 f (idx_out (pc f)).2.2.2.2)).symm
  · unfold bsum
    rw [← Finset.range_eq_Ico, Finset.sum_range]
    exact Finset.sum_congr rfl fun r _ => congrArg _ (pt_c 0 f)

end Cert.B1
-- ==== Proof.UpWin.lean ====
/-
  The feed-forward layer's upward projection: its rows, what the payloads hold of them, what a grid point reads and writes, and
  the three arrays at the end.
-/
module

public import proofs.«01_k».proof.Proof.Ff
public import proofs.«01_k».proof.Proof.Gen.UpFwdIdeal.Value
public import Idealize.ShloMosaic.Lib.StableHlo.RunRead

@[expose] public section

set_option maxRecDepth 16384

noncomputable section

open Idealize.ShloMosaic Idealize.ShloMosaic.TcCoe Idealize.SL.Sem Idealize.ShloMosaic.StableHlo

namespace Cert.Up

open Cert.UpFwdIdeal Cert.UpFwdIdeal.Gen Cert.UpFwdIdeal.Value
open Cert.Even (Rows rd2 ld2 zero_off)
open Cert.Ff (cols part' all' dyn Low)

/-- What the projection reads. -/
structure In where
  hn : ℕ → Fin 1024 → EReal
  /-- the weight, by its column -/
  w : ℕ → Fin 1024 → EReal
  gate : ℕ → ℕ → EReal

namespace In

variable (I : In)

def up (r f : ℕ) : EReal := ∑ k, I.hn r k * I.w f k
def sg (r f : ℕ) : EReal := Ideal.logistic (I.gate r f)
def silu (r f : ℕ) : EReal := I.gate r f * I.sg r f
def a (r f : ℕ) : EReal := I.silu r f * I.up r f
/-- What the gate's gradient is multiplied by. -/
def upds (r f : ℕ) : EReal := I.up r f * (I.sg r f * (1 - I.silu r f) + I.silu r f)

end In

section

variable {I : In} {B C : ℕ} {v0 : FVec Ideal S512x1024 .bf16} {v6 : FVec Ideal S256x1024 .bf16} {v9 : FVec Ideal S256x512 .bf16}
  (h0 : Rows v0 I.w C) (h6 : Rows v6 I.hn B) (h9 : Rows v9 (cols I.gate C) B)

include h0 h6 in
theorem p8 : Rows (k0_pay8 (F := Ideal) v0 v6) (cols I.up C) B := by
  intro ρ j
  unfold k0_pay8 k0_pay7
  pointwise
  simp only [h6 _ _, h0 _ _]
  rfl

include h9 in
theorem p12 : Rows (k0_pay12 (F := Ideal) v9) (cols I.silu C) B := by
  intro ρ j
  unfold k0_pay12 k0_pay11 k0_pay10 k0_pay9
  pointwise
  rw [h9]
  rfl

include h0 h6 h9 in
theorem p13 : Rows (k0_pay13 (F := Ideal) v0 v6 v9) (cols I.upds C) B := by
  intro ρ j
  unfold k0_pay13 k0_pay11 k0_pay10 k0_pay9
  pointwise
  rw [h9, p8 h0 h6]
  rfl

include h0 h6 h9 in
theorem p14 : Rows (k0_pay14 (F := Ideal) v0 v6 v9) (cols I.a C) B := by
  intro ρ j
  unfold k0_pay14 k0_pay11 k0_pay10 k0_pay9
  pointwise
  rw [h9, p8 h0 h6]
  rfl

end

variable (m : (ℓ : Loc nD τ sig) → Buf (Elt Ideal) ℓ) (c : Dev nD) (t : Fin cfg0.N)

/-- A row number, and a column number, within the arrays. -/
def row (r : ℕ) : Fin 4096 := ⟨r % 4096, Nat.mod_lt _ (by decide)⟩

def col (f : ℕ) : Fin 3072 := ⟨f % 3072, Nat.mod_lt _ (by decide)⟩

theorem row_val (r : Fin 4096) : row r.val = r := Fin.ext (Nat.mod_eq_of_lt r.isLt)

theorem col_val (f : Fin 3072) : col f.val = f := Fin.ext (Nat.mod_eq_of_lt f.isLt)

/-- The arguments. -/
def inp : In where
  hn r k := (m (c, Proc.tc.devRef main_arg0) : FVec Ideal S4096x1024 .f32) (ix2 (row r) k)
  w f k := (m (c, Proc.tc.devRef main_arg1) : FVec Ideal S1024x3072 .f32) (ix2 k (col f))
  gate r f := (m (c, Proc.tc.devRef main_arg2) : FVec Ideal S4096x3072 .f32) (ix2 (row r) (col f))

theorem V0 (r : ℕ) (k : Fin 1024) : (V m c main_v0 : FVec Ideal S4096x1024 .bf16) (ix2 (row r) k) = (inp m c).hn r k := by
  unfold V inp; after_reads_simp; rfl
theorem V2 (f : ℕ) (k : Fin 1024) : (V m c main_v2 : FVec Ideal S3072x1024 .bf16) (ix2 (col f) k) = (inp m c).w f k := by
  unfold V inp; after_reads_simp; pointwise
theorem V3 (r f : ℕ) : (V m c main_v3 : FVec Ideal S4096x3072 .bf16) (ix2 (row r) (col f)) = (inp m c).gate r f := by
  unfold V inp; after_reads_simp; rfl

theorem idx_in : ∀ t : Fin grid0.N, (win0_0.index t 0 = 0 ∧ win0_0.index t 1 = 0) ∧ (win0_1.index t 0 = t.val / 2 ∧ win0_1.index t 1 = 0)
    ∧ (win0_2.index t 0 = t.val % 2 ∧ win0_2.index t 1 = t.val / 2) := by
  decide +kernel

theorem idx_out : ∀ t : Fin grid0.N, (win0_3.index t 0 = t.val % 2 ∧ win0_3.index t 1 = t.val / 2)
    ∧ (win0_4.index t 0 = t.val % 2 ∧ win0_4.index t 1 = t.val / 2) ∧ (win0_5.index t 0 = t.val % 2 ∧ win0_5.index t 1 = t.val / 2) := by
  decide +kernel

/-- Where a point's parts of the normalized rows lie. -/
theorem offs : ∀ t : Fin grid0.N, ∀ r : Fin 8, k0_off1 (grid0.coords t) (BitVec.ofNat 32 (256 * r.val)) = ![t.val % 2 * 2048 + 256 * r.val, 0] := by
  decide +kernel

theorem t_lt : t.val < 12 := lt_of_lt_of_eq t.isLt N_0

theorem off_r {n x : ℕ} (h : n = t.val % 2) (hx : x < 2048) : n * 2048 + 1 * x = (row (t.val % 2 * 2048 + x)).val := by
  have := t_lt t
  show _ = (t.val % 2 * 2048 + x) % 4096
  rw [Nat.mod_eq_of_lt (by omega), h]; omega

theorem off_c {n x : ℕ} (h : n = t.val / 2) (hx : x < 512) : n * 512 + 1 * x = (col (t.val / 2 * 512 + x)).val := by
  have := t_lt t
  show _ = (t.val / 2 * 512 + x) % 3072
  rw [Nat.mod_eq_of_lt (by omega), h]; omega

theorem iblk0 : Rows (φ := .bf16) (iblk m c 0 t : FVec Ideal S4096x1024 .bf16) (inp m c).hn 0 := fun ρ k =>
  (rd2 (V m c main_v0 : FVec Ideal S4096x1024 .bf16) _ (row (0 + ρ.val)) k
    ((zero_off (idx_in t).1.1).trans (by rw [Nat.zero_add, row_val]; rfl)) (zero_off (idx_in t).1.2)).trans (V0 m c _ k)
theorem iblk1 : Rows (φ := .bf16) (iblk m c 1 t : FVec Ideal S512x1024 .bf16) (inp m c).w (t.val / 2 * 512) := fun ρ k =>
  (rd2 (V m c main_v2 : FVec Ideal S3072x1024 .bf16) _ _ k (off_c t (idx_in t).2.1.1 ρ.isLt) (zero_off (idx_in t).2.1.2)).trans (V2 m c _ k)
theorem iblk2 : Rows (φ := .bf16) (iblk m c 2 t : FVec Ideal S2048x512 .bf16) (cols (inp m c).gate (t.val / 2 * 512)) (t.val % 2 * 2048) := fun ρ j =>
  (rd2 (V m c main_v3 : FVec Ideal S4096x3072 .bf16) _ _ _ (off_r t (idx_in t).2.2.1 ρ.isLt) (off_c t (idx_in t).2.2.2 j.isLt)).trans (V3 m c _ _)

/-- What a grid point writes. -/
theorem at_a : Rows (φ := .bf16) (outsAt0 m c t).1 (cols (inp m c).a (t.val / 2 * 512)) (t.val % 2 * 2048) := by
  intro ρ j
  unfold outsAt0
  dsimp only
  unfold out0_A_3
  rw [View.read_writes_eq_canon _ _ _ (fun y => cover0_A_3 (y := y) ..)]
  unfold kernelRun0_A
  dsimp only
  sl_unfold_words
  simp only [View.readAt_eq_ld, Memref.IsWhole.read_unread]
  have P (r : Fin 8) {v inb inb' inb''} (hv : v = BitVec.ofNat 32 (256 * r.val)) := p14 (all' (iblk1 m c t) inb)
    (dyn (off := k0_off1 (grid0.coords t) v) ((congrArg _ hv).trans (offs t r)) (iblk0 m c t) inb') (part' (o := 256 * r.val) (iblk2 m c t) inb'')
  refine Low.done (e := .bf16) (q := fun x => x) ?_ ρ j
  exact (.cons rfl (.cons rfl (.cons rfl (.cons rfl (.cons rfl (.cons rfl (.cons rfl (.cons rfl .nil (P 0 rfl)) (P 1 rfl)) (P 2 rfl)) (P 3 rfl)) (P 4 rfl)) (P 5 rfl)) (P 6 rfl)) (P 7 rfl))

theorem at_silu : Rows (φ := .bf16) (outsAt0 m c t).2.1 (cols (inp m c).silu (t.val / 2 * 512)) (t.val % 2 * 2048) := by
  intro ρ j
  unfold outsAt0
  dsimp only
  unfold out0_A_4
  rw [View.read_writes_eq_canon _ _ _ (fun y => cover0_A_4 (y := y) ..)]
  unfold kernelRun0_A
  dsimp only
  sl_unfold_words
  simp only [View.readAt_eq_ld, Memref.IsWhole.read_unread]
  have P (r : Fin 8) {inb} (_ : r = r) := p12 (part' (o := 256 * r.val) (iblk2 m c t) inb)
  refine Low.done (e := .bf16) (q := fun x => x) ?_ ρ j
  exact (.cons rfl (.cons rfl (.cons rfl (.cons rfl (.cons rfl (.cons rfl (.cons rfl (.cons rfl .nil (P 0 rfl)) (P 1 rfl)) (P 2 rfl)) (P 3 rfl)) (P 4 rfl)) (P 5 rfl)) (P 6 rfl)) (P 7 rfl))

theorem at_upds : Rows (φ := .bf16) (outsAt0 m c t).2.2 (cols (inp m c).upds (t.val / 2 * 512)) (t.val % 2 * 2048) := by
  intro ρ j
  unfold outsAt0
  dsimp only
  unfold out0_A_5
  rw [View.read_writes_eq_canon _ _ _ (fun y => cover0_A_5 (y := y) ..)]
  unfold kernelRun0_A
  dsimp only
  sl_unfold_words
  simp only [View.readAt_eq_ld, Memref.IsWhole.read_unread]
  have P (r : Fin 8) {v inb inb' inb''} (hv : v = BitVec.ofNat 32 (256 * r.val)) := p13 (all' (iblk1 m c t) inb)
    (dyn (off := k0_off1 (grid0.coords t) v) ((congrArg _ hv).trans (offs t r)) (iblk0 m c t) inb') (part' (o := 256 * r.val) (iblk2 m c t) inb'')
  refine Low.done (e := .bf16) (q := fun x => x) ?_ ρ j
  exact (.cons rfl (.cons rfl (.cons rfl (.cons rfl (.cons rfl (.cons rfl (.cons rfl (.cons rfl .nil (P 0 rfl)) (P 1 rfl)) (P 2 rfl)) (P 3 rfl)) (P 4 rfl)) (P 5 rfl)) (P 6 rfl)) (P 7 rfl))

/-- The grid point that writes an entry, and the entry's row and column within its block. -/
def pt (r : Fin 4096) (f : Fin 3072) : Fin cfg0.N := ⟨f.val / 512 * 2 + r.val / 2048, lt_of_lt_of_eq (by omega) N_0.symm⟩

def rr (r : Fin 4096) : Fin 2048 := ⟨r.val % 2048, Nat.mod_lt _ (by decide)⟩

def rc (f : Fin 3072) : Fin 512 := ⟨f.val % 512, Nat.mod_lt _ (by decide)⟩

theorem pt_r (r : Fin 4096) (f : Fin 3072) : (pt r f).val % 2 * 2048 + (rr r).val = r.val := by
  show (f.val / 512 * 2 + r.val / 2048) % 2 * 2048 + r.val % 2048 = r.val
  omega

theorem pt_c (r : Fin 4096) (f : Fin 3072) : (pt r f).val / 2 * 512 + (rc f).val = f.val := by
  show (f.val / 512 * 2 + r.val / 2048) / 2 * 512 + f.val % 512 = f.val
  omega

theorem off_pr {n : ℕ} (r : Fin 4096) (f : Fin 3072) (h : n = (pt r f).val % 2) : n * 2048 + 1 * (rr r).val = r.val := by
  rw [h, Nat.one_mul]; exact pt_r r f

theorem off_pc {n : ℕ} (r : Fin 4096) (f : Fin 3072) (h : n = (pt r f).val / 2) : n * 512 + 1 * (rc f).val = f.val := by
  rw [h, Nat.one_mul]; exact pt_c r f

theorem end_a (r : Fin 4096) (f : Fin 3072) : ((dats m 0 c).arrAt 3 cfg0.N : FVec Ideal S4096x3072 .bf16) (ix2 r f) = (inp m c).a r.val f.val := by
  have hb := congrFun (blocks3 m c (pt r f) (flush0_3 _)) (ix2 (rr r) (rc f))
  rw [flushed3] at hb
  refine Eq.trans ?_ (hb.trans ((at_a m c (pt r f) (rr r) (rc f)).trans (congrArg₂ (inp m c).a (pt_r r f) (pt_c r f))))
  exact (rd2 ((dats m 0 c).arrAt 3 cfg0.N : FVec Ideal S4096x3072 .bf16) _ r f (off_pr r f (idx_out (pt r f)).1.1) (off_pc r f (idx_out (pt r f)).1.2)).symm

theorem end_silu (r : Fin 4096) (f : Fin 3072) : ((dats m 0 c).arrAt 4 cfg0.N : FVec Ideal S4096x3072 .bf16) (ix2 r f) = (inp m c).silu r.val f.val := by
  have hb := congrFun (blocks4 m c (pt r f) (flush0_4 _)) (ix2 (rr r) (rc f))
  rw [flushed4] at hb
  refine Eq.trans ?_ (hb.trans ((at_silu m c (pt r f) (rr r) (rc f)).trans (congrArg₂ (inp m c).silu (pt_r r f) (pt_c r f))))
  exact (rd2 ((dats m 0 c).arrAt 4 cfg0.N : FVec Ideal S4096x3072 .bf16) _ r f (off_pr r f (idx_out (pt r f)).2.1.1) (off_pc r f (idx_out (pt r f)).2.1.2)).symm

theorem end_upds (r : Fin 4096) (f : Fin 3072) : ((dats m 0 c).arrAt 5 cfg0.N : FVec Ideal S4096x3072 .bf16) (ix2 r f) = (inp m c).upds r.val f.val := by
  have hb := congrFun (blocks5 m c (pt r f) (flush0_5 _)) (ix2 (rr r) (rc f))
  rw [flushed5] at hb
  refine Eq.trans ?_ (hb.trans ((at_upds m c (pt r f) (rr r) (rc f)).trans (congrArg₂ (inp m c).upds (pt_r r f) (pt_c r f))))
  exact (rd2 ((dats m 0 c).arrAt 5 cfg0.N : FVec Ideal S4096x3072 .bf16) _ r f (off_pr r f (idx_out (pt r f)).2.2.1) (off_pc r f (idx_out (pt r f)).2.2.2)).symm

end Cert.Up
-- ==== Proof.UpRef.lean ====
/-
  The reference of the upward projection at an index.
-/
module

public import proofs.«01_k».proof.Proof.UpWin
public import proofs.«01_k».proof.Proof.Gen.UpFwdRefIdeal.Run
public import Idealize.ShloMosaic.Lib.Tactic.CleanTypes
public import Idealize.ShloMosaic.Lib.Pointwise

@[expose] public section

set_option maxRecDepth 16384

noncomputable section

open Idealize.ShloMosaic Idealize.ShloMosaic.TcCoe Idealize.SL.Sem

namespace Cert.Up

open Cert.UpFwdRefIdeal Cert.UpFwdRefIdeal.Gen Cert.UpFwdRefIdeal.Value
open Cert.Even (Re)

variable (m : (ℓ : Loc nD τ sig) → Buf (Elt Ideal) ℓ) (c : Dev nD) (I : In)

/-- The reference's arguments are the given ones. -/
structure Args : Prop where
  a0 : ∀ (r : Fin 4096) (k : Fin 1024), (m ((c.tc : Thread nD τ).loc main_arg0) : FVec Ideal S4096x1024 .f32) (ix2 r k) = I.hn r.val k
  a1 : ∀ (k : Fin 1024) (f : Fin 3072), (m ((c.tc : Thread nD τ).loc main_arg1) : FVec Ideal S1024x3072 .f32) (ix2 k f) = I.w f.val k
  a2 : ∀ (r : Fin 4096) (f : Fin 3072), (m ((c.tc : Thread nD τ).loc main_arg2) : FVec Ideal S4096x3072 .f32) (ix2 r f) = I.gate r.val f.val

variable {m c I} (A : Args m c I)

theorem sg_real {x : EReal} : Re x → Re (Ideal.logistic x)
  | ⟨a, ha⟩ => ⟨_, by rw [ha, Ideal.logistic_coe]⟩

/-- The gate's derivative, in the two ways it is written. -/
theorem upds_eq {u g : EReal} (hu : Re u) (hg : Re g) :
    u * Ideal.logistic g + g * u * (Ideal.logistic g * (1 - Ideal.logistic g))
      = u * (Ideal.logistic g * (1 - g * Ideal.logistic g) + g * Ideal.logistic g) := by
  obtain ⟨s, hs⟩ := sg_real hg
  obtain ⟨u, rfl⟩ := hu
  obtain ⟨g, rfl⟩ := hg
  rw [hs]
  simp only [← EReal.coe_mul, ← EReal.coe_add, ← EReal.coe_sub, ← EReal.coe_one]
  exact congrArg Real.toEReal (by ring)

include A in
theorem ref_a (r : Fin 4096) (f : Fin 3072) : (truncf .bf16 (mulf (mulf (m ((c.tc : Thread nD τ).loc main_arg2)) (Host.divf (broadcastInDim S4096x3072 ![] bcast_S_S4096x3072 (constant S_ .f32 0x3F800000#32)) (addf (broadcastInDim S4096x3072 ![] bcast_S_S4096x3072 (constant S_ .f32 0x3F800000#32)) (Host.exp (Host.negf (m ((c.tc : Thread nD τ).loc main_arg2))))))) (Host.dotGeneral (φ₁ := .f32) (φ₂ := .f32) dot_S4096x1024_S1024x3072_S4096x3072_1_0_0_1_n_n none (m ((c.tc : Thread nD τ).loc main_arg0)) (m ((c.tc : Thread nD τ).loc main_arg1)))) bitsLt_bf16_f32 : FVec Ideal S4096x3072 .bf16) (ix2 r f) = I.a r.val f.val := by
  clean_types
  pointwise
  simp only [A.a0, A.a1, A.a2]
  rfl

include A in
theorem ref_silu (r : Fin 4096) (f : Fin 3072) : (truncf .bf16 (mulf (m ((c.tc : Thread nD τ).loc main_arg2)) (Host.divf (broadcastInDim S4096x3072 ![] bcast_S_S4096x3072 (constant S_ .f32 0x3F800000#32)) (addf (broadcastInDim S4096x3072 ![] bcast_S_S4096x3072 (constant S_ .f32 0x3F800000#32)) (Host.exp (Host.negf (m ((c.tc : Thread nD τ).loc main_arg2))))))) bitsLt_bf16_f32 : FVec Ideal S4096x3072 .bf16) (ix2 r f) = I.silu r.val f.val := by
  clean_types
  pointwise
  simp only [A.a2]
  rfl

include A in
theorem ref_upds (hu : ∀ r f, Re (I.up r f)) (hg : ∀ r f, Re (I.gate r f)) (r : Fin 4096) (f : Fin 3072) :
    (truncf .bf16 (addf (mulf (Host.dotGeneral (φ₁ := .f32) (φ₂ := .f32) dot_S4096x1024_S1024x3072_S4096x3072_1_0_0_1_n_n none (m ((c.tc : Thread nD τ).loc main_arg0)) (m ((c.tc : Thread nD τ).loc main_arg1))) (Host.divf (broadcastInDim S4096x3072 ![] bcast_S_S4096x3072 (constant S_ .f32 0x3F800000#32)) (addf (broadcastInDim S4096x3072 ![] bcast_S_S4096x3072 (constant S_ .f32 0x3F800000#32)) (Host.exp (Host.negf (m ((c.tc : Thread nD τ).loc main_arg2))))))) (mulf (mulf (m ((c.tc : Thread nD τ).loc main_arg2)) (Host.dotGeneral (φ₁ := .f32) (φ₂ := .f32) dot_S4096x1024_S1024x3072_S4096x3072_1_0_0_1_n_n none (m ((c.tc : Thread nD τ).loc main_arg0)) (m ((c.tc : Thread nD τ).loc main_arg1)))) (mulf (Host.divf (broadcastInDim S4096x3072 ![] bcast_S_S4096x3072 (constant S_ .f32 0x3F800000#32)) (addf (broadcastInDim S4096x3072 ![] bcast_S_S4096x3072 (constant S_ .f32 0x3F800000#32)) (Host.exp (Host.negf (m ((c.tc : Thread nD τ).loc main_arg2)))))) (subf (broadcastInDim S4096x3072 ![] bcast_S_S4096x3072 (constant S_ .f32 0x3F800000#32)) (Host.divf (broadcastInDim S4096x3072 ![] bcast_S_S4096x3072 (constant S_ .f32 0x3F800000#32)) (addf (broadcastInDim S4096x3072 ![] bcast_S_S4096x3072 (constant S_ .f32 0x3F800000#32)) (Host.exp (Host.negf (m ((c.tc : Thread nD τ).loc main_arg2)))))))))) bitsLt_bf16_f32 : FVec Ideal S4096x3072 .bf16) (ix2 r f) = I.upds r.val f.val := by
  clean_types
  pointwise
  simp only [A.a0, A.a1, A.a2]
  exact upds_eq (hu _ _) (hg _ _)

end Cert.Up
-- ==== Proof.B1Ref.lean ====
/-
  The reference of the feed-forward layer's backward pass, its first call, at an index.
-/
module

public import proofs.«01_k».proof.Proof.B1Win
public import proofs.«01_k».proof.Proof.UpRef
public import proofs.«01_k».proof.Proof.Ref4
public import proofs.«01_k».proof.Proof.Gen.FfnGateRefIdeal.Run

@[expose] public section

set_option maxRecDepth 16384

noncomputable section

open Idealize.ShloMosaic Idealize.ShloMosaic.TcCoe Idealize.SL.Sem

namespace Cert.B1

open Cert.FfnGateRefIdeal Cert.FfnGateRefIdeal.Gen Cert.FfnGateRefIdeal.Value
open Cert.Even (Re moved)
open Cert.Up (upds_eq)

variable (m : (ℓ : Loc nD τ sig) → Buf (Elt Ideal) ℓ) (c : Dev nD) (I : In)

/-- The reference's arguments are the given ones. -/
structure Args : Prop where
  a0 : ∀ (r : Fin 4096) (f : Fin 3072), (m ((c.tc : Thread nD τ).loc main_arg0) : FVec Ideal S4096x3072 .f32) (ix2 r f) = I.g r.val f.val
  a1 : ∀ (r : Fin 4096) (f : Fin 3072), (m ((c.tc : Thread nD τ).loc main_arg1) : FVec Ideal S4096x3072 .f32) (ix2 r f) = I.up r.val f.val
  a2 : ∀ (k : Fin 3) (f : Fin 3072), (m ((c.tc : Thread nD τ).loc main_arg2) : FVec Ideal S3x3072 .f32) (ix2 k f) = I.cw k.val f.val
  a3 : ∀ (f : Fin 3072), (m ((c.tc : Thread nD τ).loc main_arg3) : FVec Ideal S1x3072 .f32) (ix2 0 f) = I.cb 0 f.val
  a4 : ∀ (f : Fin 3072) (k : Fin 1024), (m ((c.tc : Thread nD τ).loc main_arg4) : FVec Ideal S3072x1024 .f32) (ix2 f k) = I.wd f.val k
  a5 : ∀ (r : Fin 4096) (k : Fin 1024), (m ((c.tc : Thread nD τ).loc main_arg5) : FVec Ideal S4096x1024 .f32) (ix2 r k) = I.dh r.val k

variable {m c I} (A : Args m c I)

/-- The gate before its activation. -/
def gt (m : (ℓ : Loc nD τ sig) → Buf (Elt Ideal) ℓ) (c : Dev nD) : FVec Ideal S4096x3072 .f32 :=
  addf (addf (addf (mulf (extractStridedSlice S4096x3072 ![0, 0] (concatenate S4098x3072 0 [⟨S2x3072, (broadcastInDim S2x3072 ![] bcast_S_S2x3072 (constant S_ .f32 0x00000000#32))⟩, ⟨S4096x3072, (m ((c.tc : Thread nD τ).loc main_arg0))⟩] concatenates_S2x3072_S4096x3072_S4098x3072_d0) slices_S4098x3072_S4096x3072_0_0) (broadcastInDim S4096x3072 ![0, 1] bcast_S1x3072_S4096x3072_0_1 (broadcastInDim S1x3072 ![1] bcast_S3072_S1x3072_1 (shapeCast _ (extractStridedSlice S1x3072 ![0, 0] (m ((c.tc : Thread nD τ).loc main_arg2)) slices_S3x3072_S1x3072_0_0) shapeCasts_S1x3072_S3072)))) (mulf (extractStridedSlice S4096x3072 ![1, 0] (concatenate S4098x3072 0 [⟨S2x3072, (broadcastInDim S2x3072 ![] bcast_S_S2x3072 (constant S_ .f32 0x00000000#32))⟩, ⟨S4096x3072, (m ((c.tc : Thread nD τ).loc main_arg0))⟩] concatenates_S2x3072_S4096x3072_S4098x3072_d0) slices_S4098x3072_S4096x3072_1_0) (broadcastInDim S4096x3072 ![0, 1] bcast_S1x3072_S4096x3072_0_1 (broadcastInDim S1x3072 ![1] bcast_S3072_S1x3072_1 (shapeCast _ (extractStridedSlice S1x3072 ![1, 0] (m ((c.tc : Thread nD τ).loc main_arg2)) slices_S3x3072_S1x3072_1_0) shapeCasts_S1x3072_S3072))))) (mulf (extractStridedSlice S4096x3072 ![2, 0] (concatenate S4098x3072 0 [⟨S2x3072, (broadcastInDim S2x3072 ![] bcast_S_S2x3072 (constant S_ .f32 0x00000000#32))⟩, ⟨S4096x3072, (m ((c.tc : Thread nD τ).loc main_arg0))⟩] concatenates_S2x3072_S4096x3072_S4098x3072_d0) slices_S4098x3072_S4096x3072_2_0) (broadcastInDim S4096x3072 ![0, 1] bcast_S1x3072_S4096x3072_0_1 (broadcastInDim S1x3072 ![1] bcast_S3072_S1x3072_1 (shapeCast _ (extractStridedSlice S1x3072 ![2, 0] (m ((c.tc : Thread nD τ).loc main_arg2)) slices_S3x3072_S1x3072_2_0) shapeCasts_S1x3072_S3072))))) (broadcastInDim S4096x3072 ![0, 1] bcast_S1x3072_S4096x3072_0_1 (m ((c.tc : Thread nD τ).loc main_arg3)))

include A in
theorem gt_at (r : Fin 4096) (f : Fin 3072) : gt m c (ix2 r f) = I.gate r.val f.val := by
  unfold gt
  clean_types
  pointwise
  simp only [A.a0, A.a2, A.a3]
  exact gate_eq I r.val f.val

include A in
theorem g0_at (r : Fin 4096) (f : Fin 3072) : (extractStridedSlice S4096x3072 ![0, 0] (concatenate S4098x3072 0 [⟨S2x3072, (broadcastInDim S2x3072 ![] bcast_S_S2x3072 (constant S_ .f32 0x00000000#32))⟩, ⟨S4096x3072, (m ((c.tc : Thread nD τ).loc main_arg0))⟩] concatenates_S2x3072_S4096x3072_S4098x3072_d0) slices_S4098x3072_S4096x3072_0_0 : FVec Ideal S4096x3072 .f32) (ix2 r f) = if 2 ≤ r.val then I.g (r.val - 2) f.val else 0 := by
  clean_types
  pointwise
  simp only [A.a0]
  by_cases h : r.val < 2
  · rw [dif_pos h, if_neg (by omega)]
  · rw [dif_neg h, if_pos (by omega)]

include A in
theorem g1_at (r : Fin 4096) (f : Fin 3072) : (extractStridedSlice S4096x3072 ![1, 0] (concatenate S4098x3072 0 [⟨S2x3072, (broadcastInDim S2x3072 ![] bcast_S_S2x3072 (constant S_ .f32 0x00000000#32))⟩, ⟨S4096x3072, (m ((c.tc : Thread nD τ).loc main_arg0))⟩] concatenates_S2x3072_S4096x3072_S4098x3072_d0) slices_S4098x3072_S4096x3072_1_0 : FVec Ideal S4096x3072 .f32) (ix2 r f) = if 1 ≤ r.val then I.g (r.val - 1) f.val else 0 := by
  clean_types
  pointwise
  simp only [A.a0]
  by_cases h : 1 + r.val < 2
  · rw [dif_pos h, if_neg (by omega)]
  · rw [dif_neg h, if_pos (by omega), show 1 + r.val - 2 = r.val - 1 by omega]

include A in
theorem g2_at (r : Fin 4096) (f : Fin 3072) : (extractStridedSlice S4096x3072 ![2, 0] (concatenate S4098x3072 0 [⟨S2x3072, (broadcastInDim S2x3072 ![] bcast_S_S2x3072 (constant S_ .f32 0x00000000#32))⟩, ⟨S4096x3072, (m ((c.tc : Thread nD τ).loc main_arg0))⟩] concatenates_S2x3072_S4096x3072_S4098x3072_d0) slices_S4098x3072_S4096x3072_2_0 : FVec Ideal S4096x3072 .f32) (ix2 r f) = if 0 ≤ r.val then I.g (r.val - 0) f.val else 0 := by
  clean_types
  pointwise
  simp only [A.a0]

include A in
theorem x_at (hd : ∀ r f, Re (I.da r f)) (hu : ∀ r f, Re (I.up r f)) (hg : ∀ r f, Re (I.gate r f)) (r : Fin 4096) (f : Fin 3072) :
    (addf (mulf (mulf (Host.dotGeneral (φ₁ := .f32) (φ₂ := .f32) dot_S4096x1024_S3072x1024_S4096x3072_1_1_0_0_n_n none (m ((c.tc : Thread nD τ).loc main_arg5)) (m ((c.tc : Thread nD τ).loc main_arg4))) (m ((c.tc : Thread nD τ).loc main_arg1))) (Host.divf (broadcastInDim S4096x3072 ![] bcast_S_S4096x3072 (constant S_ .f32 0x3F800000#32)) (addf (broadcastInDim S4096x3072 ![] bcast_S_S4096x3072 (constant S_ .f32 0x3F800000#32)) (Host.exp (Host.negf (gt m c)))))) (mulf (mulf (gt m c) (mulf (Host.dotGeneral (φ₁ := .f32) (φ₂ := .f32) dot_S4096x1024_S3072x1024_S4096x3072_1_1_0_0_n_n none (m ((c.tc : Thread nD τ).loc main_arg5)) (m ((c.tc : Thread nD τ).loc main_arg4))) (m ((c.tc : Thread nD τ).loc main_arg1)))) (mulf (Host.divf (broadcastInDim S4096x3072 ![] bcast_S_S4096x3072 (constant S_ .f32 0x3F800000#32)) (addf (broadcastInDim S4096x3072 ![] bcast_S_S4096x3072 (constant S_ .f32 0x3F800000#32)) (Host.exp (Host.negf (gt m c))))) (subf (broadcastInDim S4096x3072 ![] bcast_S_S4096x3072 (constant S_ .f32 0x3F800000#32)) (Host.divf (broadcastInDim S4096x3072 ![] bcast_S_S4096x3072 (constant S_ .f32 0x3F800000#32)) (addf (broadcastInDim S4096x3072 ![] bcast_S_S4096x3072 (constant S_ .f32 0x3F800000#32)) (Host.exp (Host.negf (gt m c)))))))) : FVec Ideal S4096x3072 .f32) (ix2 r f) = I.dgc r.val f.val := by
  clean_types
  pointwise
  simp only [A.a1, A.a4, A.a5, gt_at A]
  refine (upds_eq (((hd r.val f.val).mul (hu r.val f.val))) (hg r.val f.val)).trans ?_
  unfold In.dgc
  rw [if_pos r.isLt]
  exact mul_assoc _ _ _

include A in
theorem ref_dup (r : Fin 4096) (f : Fin 3072) : (res_main_v68 m c : FVec Ideal S4096x3072 .bf16) (ix2 r f) = I.dup r.val f.val := by
  unfold res_main_v68
  clean_types
  pointwise
  simp only [A.a0, A.a1, A.a2, A.a3, A.a4, A.a5]
  exact (congrArg (fun x => x * Ideal.logistic x * _) (gate_eq I r.val f.val)).trans (mul_comm _ _)

section

variable {X G0 G1 G2 : FVec Ideal S4096x3072 .f32} {w : FVec Ideal S3x3072 .f32} (hX : ∀ r f, X (ix2 r f) = I.dgc r.val f.val)

include hX

theorem dcb_of (f : Fin 3072) : (shapeCast S1x3072 (Host.reduceAdd X (constant S_ .f32 0x00000000#32) reducesTo_S4096x3072_S3072_d0 h_S_) shapeCasts_S3072_S1x3072 : FVec Ideal S1x3072 .f32) (ix2 0 f) = ∑ r : Fin 4096, I.dgc r.val f.val := by
  clean_types
  pointwise
  exact Finset.sum_congr rfl fun r _ => hX r f

theorem dg_of (hw : ∀ k f, w (ix2 k f) = I.cw k.val f.val) (r : Fin 4096) (f : Fin 3072) : (truncf .bf16 (extractStridedSlice S4096x3072 ![2, 0] (addf (addf (pad S4098x3072 ![2, 0] ![0, 0] ![0, 0] (mulf X (broadcastInDim S4096x3072 ![0, 1] bcast_S1x3072_S4096x3072_0_1 (broadcastInDim S1x3072 ![1] bcast_S3072_S1x3072_1 (shapeCast _ (extractStridedSlice S1x3072 ![2, 0] w slices_S3x3072_S1x3072_2_0) shapeCasts_S1x3072_S3072)))) (constant S_ .f32 0x00000000#32) pads_S4096x3072_S4098x3072_200_000 h_S_) (pad S4098x3072 ![1, 0] ![1, 0] ![0, 0] (mulf X (broadcastInDim S4096x3072 ![0, 1] bcast_S1x3072_S4096x3072_0_1 (broadcastInDim S1x3072 ![1] bcast_S3072_S1x3072_1 (shapeCast _ (extractStridedSlice S1x3072 ![1, 0] w slices_S3x3072_S1x3072_1_0) shapeCasts_S1x3072_S3072)))) (constant S_ .f32 0x00000000#32) pads_S4096x3072_S4098x3072_110_000 h_S_)) (pad S4098x3072 ![0, 0] ![2, 0] ![0, 0] (mulf X (broadcastInDim S4096x3072 ![0, 1] bcast_S1x3072_S4096x3072_0_1 (broadcastInDim S1x3072 ![1] bcast_S3072_S1x3072_1 (shapeCast _ (extractStridedSlice S1x3072 ![0, 0] w slices_S3x3072_S1x3072_0_0) shapeCasts_S1x3072_S3072)))) (constant S_ .f32 0x00000000#32) pads_S4096x3072_S4098x3072_020_000 h_S_)) slices_S4098x3072_S4096x3072_2_0) bitsLt_bf16_f32 : FVec Ideal S4096x3072 .bf16) (ix2 r f) = I.dg r.val f.val := by
  clean_types
  pointwise
  simp only [hX, hw]
  have z (n : ℕ) (x : EReal) (h : ¬n < 4096) : x * I.dgc n f.val = 0 := by unfold In.dgc; rw [if_neg h, mul_zero]
  have e1 : (if _ : 1 ≤ 2 + r.val ∧ 2 + r.val - 1 < 4096 then I.dgc (2 + r.val - 1) f.val * I.cw 1 f.val else 0) = I.cw 1 f.val * I.dgc (r.val + 1) f.val := by
    rw [mul_comm, ← show 2 + r.val - 1 = r.val + 1 by omega]
    by_cases h : 2 + r.val - 1 < 4096
    · exact dif_pos ⟨by omega, h⟩
    · exact (dif_neg fun h' => h h'.2).trans (z _ _ h).symm
  have e2 : (if _ : 2 + r.val < 4096 then I.dgc (2 + r.val) f.val * I.cw 0 f.val else 0) = I.cw 0 f.val * I.dgc (r.val + 2) f.val := by
    rw [mul_comm, Nat.add_comm r.val]
    by_cases h : 2 + r.val < 4096
    · exact dif_pos h
    · exact (dif_neg h).trans (z _ _ h).symm
  refine (congrArg₂ (· + ·) (congrArg₂ (· + ·) (mul_comm _ _) e1) e2).trans ?_
  rfl

theorem dcw_of (h0 : ∀ r f, G0 (ix2 r f) = if 2 ≤ r.val then I.g (r.val - 2) f.val else 0) (h1 : ∀ r f, G1 (ix2 r f) = if 1 ≤ r.val then I.g (r.val - 1) f.val else 0)
    (h2 : ∀ r f, G2 (ix2 r f) = if 0 ≤ r.val then I.g (r.val - 0) f.val else 0) (k : Fin 3) (f : Fin 3072) :
    (addf (addf (pad S3x3072 ![2, 0] ![0, 0] ![0, 0] (broadcastInDim S1x3072 ![1] bcast_S3072_S1x3072_1 (Host.reduceAdd (shapeCast _ (Host.reduceAdd (mulf G2 X) (constant S_ .f32 0x00000000#32) reducesTo_S4096x3072_S3072_d0 h_S_) shapeCasts_S3072_S1x3072) (constant S_ .f32 0x00000000#32) reducesTo_S1x3072_S3072_d0 h_S_)) (constant S_ .f32 0x00000000#32) pads_S1x3072_S3x3072_200_000 h_S_) (pad S3x3072 ![1, 0] ![1, 0] ![0, 0] (broadcastInDim S1x3072 ![1] bcast_S3072_S1x3072_1 (Host.reduceAdd (shapeCast _ (Host.reduceAdd (mulf G1 X) (constant S_ .f32 0x00000000#32) reducesTo_S4096x3072_S3072_d0 h_S_) shapeCasts_S3072_S1x3072) (constant S_ .f32 0x00000000#32) reducesTo_S1x3072_S3072_d0 h_S_)) (constant S_ .f32 0x00000000#32) pads_S1x3072_S3x3072_110_000 h_S_)) (pad S3x3072 ![0, 0] ![2, 0] ![0, 0] (broadcastInDim S1x3072 ![1] bcast_S3072_S1x3072_1 (Host.reduceAdd (shapeCast _ (Host.reduceAdd (mulf G0 X) (constant S_ .f32 0x00000000#32) reducesTo_S4096x3072_S3072_d0 h_S_) shapeCasts_S3072_S1x3072) (constant S_ .f32 0x00000000#32) reducesTo_S1x3072_S3072_d0 h_S_)) (constant S_ .f32 0x00000000#32) pads_S1x3072_S3x3072_020_000 h_S_) : FVec Ideal S3x3072 .f32) (ix2 k f) = ∑ r : Fin 4096, I.tw (2 - k.val) r.val f.val := by
  clean_types
  pointwise
  have hs : ∀ (Y : FVec Ideal S4096x3072 .f32) (s : ℕ) (hY : ∀ r f, Y (ix2 r f) = if s ≤ r.val then I.g (r.val - s) f.val else 0),
      ∑ _x : Fin 1, ∑ x : Fin 4096, Y (ix2 x f) * X (ix2 x f) = ∑ r : Fin 4096, I.tw s r.val f.val := by
    intro Y s hY
    rw [Fin.sum_univ_one]
    refine (Finset.sum_congr rfl fun x _ => ?_).trans (moved (fun n => I.g n f.val) (fun n => I.dgc n f.val) (fun n hn => if_neg (Nat.not_lt.mpr hn)) s)
    rw [hY, hX]
  have e0 := hs _ _ h0
  have e1 := hs _ _ h1
  have e2 := hs _ _ h2
  fin_cases k
  · refine (congrArg₂ (fun a b : EReal => a + b) (congrArg₂ (fun a b : EReal => a + b) (dif_neg (by decide)) (dif_neg (by decide))) (dif_pos (by decide))).trans ?_
    rw [zero_add, zero_add]
    exact e0
  · refine (congrArg₂ (fun a b : EReal => a + b) (congrArg₂ (fun a b : EReal => a + b) (dif_neg (by decide)) (dif_pos (by decide))) (dif_neg (by decide))).trans ?_
    rw [add_zero, zero_add]
    exact e1
  · refine (congrArg₂ (fun a b : EReal => a + b) (congrArg₂ (fun a b : EReal => a + b) (dif_pos (by decide)) (dif_neg (by decide))) (dif_neg (by decide))).trans ?_
    rw [add_zero, add_zero]
    exact e2

end

include A in
theorem ref_dcb (hd : ∀ r f, Re (I.da r f)) (hu : ∀ r f, Re (I.up r f)) (hg : ∀ r f, Re (I.gate r f)) (f : Fin 3072) :
    (res_main_v33 m c : FVec Ideal S1x3072 .f32) (ix2 0 f) = ∑ r : Fin 4096, I.dgc r.val f.val := by
  unfold res_main_v33
  exact dcb_of (x_at A hd hu hg) f

include A in
theorem ref_dg (hd : ∀ r f, Re (I.da r f)) (hu : ∀ r f, Re (I.up r f)) (hg : ∀ r f, Re (I.gate r f)) (r : Fin 4096) (f : Fin 3072) :
    (res_main_v67 m c : FVec Ideal S4096x3072 .bf16) (ix2 r f) = I.dg r.val f.val := by
  unfold res_main_v67
  exact dg_of (x_at A hd hu hg) A.a2 r f

include A in
theorem ref_dcw (hd : ∀ r f, Re (I.da r f)) (hu : ∀ r f, Re (I.up r f)) (hg : ∀ r f, Re (I.gate r f)) (k : Fin 3) (f : Fin 3072) :
    (res_main_v62 m c : FVec Ideal S3x3072 .f32) (ix2 k f) = ∑ r : Fin 4096, I.tw (2 - k.val) r.val f.val := by
  unfold res_main_v62
  exact dcw_of (x_at A hd hu hg) (g0_at A) (g1_at A) (g2_at A) k f

end Cert.B1
-- ==== Proof.B1Claims.lean ====
/-
  The claims of the feed-forward layer's backward pass, its first call.
-/
module

public import proofs.«01_k».proof.Proof.B1Ref
public import proofs.«01_k».proof.Proof.Even
public import proofs.«01_k».proof.Proof.Gen.FfnGate.Frame
public import proofs.«01_k».proof.Proof.Gen.Pre_finite6

@[expose] public section

set_option maxRecDepth 16384

noncomputable section

open Idealize.ShloMosaic Idealize.ShloMosaic.TcCoe Idealize.SL.Sem Idealize.ShloMosaic.StableHlo

namespace Cert.B1

open Cert.Even (Re all_real)

theorem frame_k : Cert.quiescent_FfnGate := fun m ρ _ => Cert.FfnGate.Gen.frame m ρ

theorem frame_ki : Cert.quiescent_FfnGateIdeal := fun m ρ _ => Cert.FfnGateIdeal.Gen.frame m ρ

theorem frame_ri : Cert.quiescent_FfnGateRefIdeal := fun m ρ _ =>
  (θ_run Cert.FfnGateRefIdeal.defs _ _).mono (fun r h => ⟨fun c => (h c).2.2.2.2, sem_eq_zero_of_no_sems (by decide) r.2⟩)
    (Cert.FfnGateRefIdeal.Value.run (F := Ideal) m ρ)

theorem real_of {x0 x1 : FVec Ideal Cert.Pre_finite6.S4096x3072 .f32} {x2 : FVec Ideal Cert.Pre_finite6.S3x3072 .f32} {x3 : FVec Ideal Cert.Pre_finite6.S1x3072 .f32}
    {x4 : FVec Ideal Cert.Pre_finite6.S3072x1024 .f32} {x5 : FVec Ideal Cert.Pre_finite6.S4096x1024 .f32}
    (h : Cert.Pre_finite6.fn (F := Ideal) x0 x1 x2 x3 x4 x5 = fun _ => 1#1) :
    (∀ i, Re (x0 i)) ∧ (∀ i, Re (x1 i)) ∧ (∀ i, Re (x2 i)) ∧ (∀ i, Re (x3 i)) ∧ (∀ i, Re (x4 i)) ∧ ∀ i, Re (x5 i) := by
  have : Subsingleton Cert.Pre_finite6.S_.Idx := ⟨fun a b => funext fun k => k.elim0⟩
  have e := congrFun h (fun k => k.elim0)
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨all_real h0 fun _ => rfl, all_real h1 fun _ => rfl, all_real h2 fun _ => rfl, all_real h3 fun _ => rfl, all_real h4 fun _ => rfl, all_real h5 fun _ => rfl⟩

theorem gate_real {I : In} (hg : ∀ r f, Re (I.g r f)) (hw : ∀ k f, Re (I.cw k f)) (hb : ∀ f, Re (I.cb 0 f)) (r f : ℕ) : Re (I.gate r f) := by
  have hp (r : ℕ) : Re (I.gp r f) := by
    unfold In.gp
    split
    · exact ⟨0, rfl⟩
    · exact hg _ _
  exact ((((hp _).mul (hw _ _)).add ((hp _).mul (hw _ _))).add ((hp _).mul (hw _ _))).add (hb _)

theorem alg : Cert.algebraic_FfnGateIdeal_FfnGateRefIdeal_pre_finite6 := by
  intro m ρ m' ρ' hpre hag
  refine ⟨_, _, _, _, Cert.FfnGateIdeal.Value.run_blocks m ρ, ?_⟩
  refine (θ_run Cert.FfnGateRefIdeal.defs _ _).mono (fun _ h c => ?_) (Cert.FfnGateRefIdeal.Value.run (F := Ideal) m' ρ')
  obtain ⟨h0, h1, h2, h3, hr⟩ := h c
  have A : Args m' c (inp m c) := by
    obtain ⟨e0, e1, e2, e3, e4, e5⟩ := hag c
    refine ⟨fun r f => ?_, fun r f => ?_, fun k f => ?_, fun f => ?_, fun f k => ?_, fun r k => ?_⟩
    · rw [← g_at]; exact congrFun e0 _
    · rw [← up_at]; exact congrFun e1 _
    · rw [← cw_at]; exact congrFun e2 _
    · rw [← cb_at]; exact congrFun e3 _
    · simp only [inp, col_val]; exact congrFun e4 _
    · simp only [inp, row_val]; exact congrFun e5 _
  obtain ⟨r0, r1, r2, r3, r4, r5⟩ := real_of (hpre c)
  have hd : ∀ r f, Re ((inp m c).da r f) := fun r f => Re.sum fun k => (r5 _).mul (r4 _)
  have hu : ∀ r f, Re ((inp m c).up r f) := fun r f => r1 _
  have hg : ∀ r f, Re ((inp m c).gate r f) := gate_real (fun r f => r0 _) (fun k f => r2 _) (fun f => r3 _)
  refine ⟨h0.trans ?_, h1.trans ?_, h2.trans ?_, h3.trans ?_, hr⟩
  · funext i
    obtain ⟨r, f, rfl⟩ : ∃ (r : Fin 4096) (f : Fin 3072), i = ix2 r f := ⟨i 0, i 1, eq_ix2 i⟩
    exact (ref_dg A hd hu hg r f).trans (end_dg m c r f).symm
  · funext i
    obtain ⟨r, f, rfl⟩ : ∃ (r : Fin 4096) (f : Fin 3072), i = ix2 r f := ⟨i 0, i 1, eq_ix2 i⟩
    exact (ref_dup A r f).trans (end_dup m c r f).symm
  · funext i
    obtain ⟨k, f, rfl⟩ : ∃ (k : Fin 3) (f : Fin 3072), i = ix2 k f := ⟨i 0, i 1, eq_ix2 i⟩
    exact (ref_dcw A hd hu hg k f).trans (end_dcw m c k f).symm
  · funext i
    obtain ⟨k, f, rfl⟩ : ∃ (k : Fin 1) (f : Fin 3072), i = ix2 k f := ⟨i 0, i 1, eq_ix2 i⟩
    obtain rfl : k = 0 := Subsingleton.elim _ _
    exact (ref_dcb A hd hu hg f).trans (end_dcb m c f).symm

end Cert.B1
-- ==== Proof.GtWin.lean ====
/-
  The feed-forward layer's gate: its rows, what the payloads hold of them, what a grid point reads, carries and writes, and
  the two arrays at the end.
-/
module

public import proofs.«01_k».proof.Proof.Ff
public import proofs.«01_k».proof.Proof.Gen.GateFwdIdeal.Value
public import Idealize.ShloMosaic.Lib.StableHlo.RunRead

@[expose] public section

set_option maxRecDepth 16384

noncomputable section

open Idealize.ShloMosaic Idealize.ShloMosaic.TcCoe Idealize.SL.Sem Idealize.ShloMosaic.StableHlo

namespace Cert.Gt

open Cert.GateFwdIdeal Cert.GateFwdIdeal.Gen Cert.GateFwdIdeal.Value
open Cert.Even (Rows rd2 ld2 canon2 zero_off)
open Cert.Ff (cols part all all' dyn Low over back)

/-- What the gate reads. -/
structure In where
  hn : ℕ → Fin 1024 → EReal
  /-- the weight, by its column -/
  w : ℕ → Fin 1024 → EReal
  /-- the convolution's weights and its bias -/
  cw : ℕ → ℕ → EReal
  cb : ℕ → ℕ → EReal

namespace In

variable (I : In)

def g (r f : ℕ) : EReal := ∑ k, I.hn r k * I.w f k
/-- The rows with sixteen zero rows before them. -/
def ge (r f : ℕ) : EReal := if r < 16 then 0 else I.g (r - 16) f
def gate (r f : ℕ) : EReal := I.cw 2 f * I.ge (r + 16) f + I.cw 1 f * I.ge (r + 15) f + I.cw 0 f * I.ge (r + 14) f + I.cb 0 f

end In

theorem ge_add {I : In} (r f : ℕ) : I.ge (r + 16) f = I.g r f := by
  unfold In.ge
  rw [if_neg (by omega), Nat.add_sub_cancel]

theorem p3 (ρ : Fin 16) (j : Fin 512) : k0_pay3 (F := Ideal) (ix2 ρ j) = 0 := by
  unfold k0_pay3
  pointwise

theorem p2 (v : FVec Ideal S16x512 .f32) (ρ : Fin 16) (j : Fin 512) : k0_pay2 (F := Ideal) v (ix2 ρ j) = v (ix2 ρ j) := by
  unfold k0_pay2
  pointwise

section

variable {I : In} {B C : ℕ} {v3 : FVec Ideal S512x1024 .bf16} {v9 : FVec Ideal S2048x1024 .bf16} {v17 : FVec Ideal S2064x512 .f32}
  {v18 v21 v27 v33 : FVec Ideal S1x512 .f32} (h3 : Rows v3 I.w C) (h9 : Rows v9 I.hn B) (h17 : Rows v17 (cols I.ge C) B)
  (h18 : Rows v18 (cols I.cw C) 2) (h21 : Rows v21 (cols I.cw C) 1) (h27 : Rows v27 (cols I.cw C) 0) (h33 : Rows v33 (cols I.cb C) 0)

include h3 h9 in
theorem p4 : Rows (k0_pay4 (F := Ideal) v3 v9) (cols I.g C) B := by
  intro ρ j
  unfold k0_pay4
  pointwise
  simp only [h9 _ _, h3 _ _]
  rfl

include h3 h9 in
theorem p5 : Rows (k0_pay5 (F := Ideal) v3 v9) (cols I.g C) B := by
  intro ρ j
  unfold k0_pay5
  pointwise
  exact p4 h3 h9 ρ j

include h3 h9 in
theorem p6 : Rows (k0_pay6 (F := Ideal) v3 v9) (cols I.ge C) (B + 16) := by
  intro ρ j
  unfold k0_pay6
  pointwise
  rw [p4 h3 h9, cols, cols, ← ge_add]
  congr 1; omega

include h3 h9 h17 h18 h21 h27 h33 in
theorem p1 : Rows (k0_pay1 (F := Ideal) (k0_pay7 (F := Ideal) v3 v9 v17 v18 v21 v27) v33) (cols I.gate C) B := by
  intro ρ j
  unfold k0_pay1 k0_pay7
  pointwise
  rw [p4 h3 h9, h17, h17, h18, h21, h27, h33]
  simp only [cols, In.gate, ge_add]
  have e1 : B + (16 + ρ.val + 2064 - 1) % 2064 = B + ρ.val + 15 := by omega
  have e2 : B + (16 + ρ.val + 2064 - 2) % 2064 = B + ρ.val + 14 := by omega
  rw [e1, e2]
  rfl

end

variable (m : (ℓ : Loc nD τ sig) → Buf (Elt Ideal) ℓ) (c : Dev nD) (t : Fin cfg0.N)

/-- A row number, and a column number, within the arrays. -/
def row (r : ℕ) : Fin 4096 := ⟨r % 4096, Nat.mod_lt _ (by decide)⟩

def col (f : ℕ) : Fin 3072 := ⟨f % 3072, Nat.mod_lt _ (by decide)⟩

theorem row_val (r : Fin 4096) : row r.val = r := Fin.ext (Nat.mod_eq_of_lt r.isLt)

theorem col_val (f : Fin 3072) : col f.val = f := Fin.ext (Nat.mod_eq_of_lt f.isLt)

/-- The arguments. -/
def inp : In where
  hn r k := (m (c, Proc.tc.devRef main_arg0) : FVec Ideal S4096x1024 .f32) (ix2 (row r) k)
  w f k := (m (c, Proc.tc.devRef main_arg1) : FVec Ideal S1024x3072 .f32) (ix2 k (col f))
  cw k f := (m (c, Proc.tc.devRef main_arg2) : FVec Ideal S3x3072 .f32) (ix2 ⟨k % 3, Nat.mod_lt _ (by decide)⟩ (col f))
  cb _ f := (m (c, Proc.tc.devRef main_arg3) : FVec Ideal S1x3072 .f32) (ix2 0 (col f))

theorem V0 (r : ℕ) (k : Fin 1024) : (V m c main_v0 : FVec Ideal S4096x1024 .bf16) (ix2 (row r) k) = (inp m c).hn r k := by
  unfold V inp; after_reads_simp; rfl
theorem V2 (f : ℕ) (k : Fin 1024) : (V m c main_v2 : FVec Ideal S3072x1024 .bf16) (ix2 (col f) k) = (inp m c).w f k := by
  unfold V inp; after_reads_simp; pointwise
theorem VW (k : ℕ) (h : k < 3) (f : ℕ) : (V m c main_arg2 : FVec Ideal S3x3072 .f32) (ix2 ⟨k, h⟩ (col f)) = (inp m c).cw k f := by
  unfold V inp; after_reads_simp; simp only [Nat.mod_eq_of_lt h]
theorem VB (f : ℕ) : (V m c main_arg3 : FVec Ideal S1x3072 .f32) (ix2 0 (col f)) = (inp m c).cb 0 f := by
  unfold V inp; after_reads_simp

theorem idx_in : ∀ t : Fin grid0.N, (win0_0.index t 0 = 0 ∧ win0_0.index t 1 = 0) ∧ (win0_1.index t 0 = t.val / 2 ∧ win0_1.index t 1 = 0)
    ∧ (win0_2.index t 0 = 0 ∧ win0_2.index t 1 = t.val / 2) ∧ (win0_3.index t 0 = 0 ∧ win0_3.index t 1 = t.val / 2) := by
  decide +kernel

theorem idx_out : ∀ t : Fin grid0.N, (win0_4.index t 0 = t.val % 2 ∧ win0_4.index t 1 = t.val / 2)
    ∧ (win0_5.index t 0 = t.val % 2 ∧ win0_5.index t 1 = t.val / 2) := by
  decide +kernel

/-- Where a point's normalized rows lie. -/
theorem offs : ∀ t : Fin grid0.N, k0_off1 (grid0.coords t) = ![t.val % 2 * 2048, 0] := by
  decide +kernel

theorem t_lt : t.val < 12 := lt_of_lt_of_eq t.isLt N_0

theorem off_r {n x : ℕ} (h : n = t.val % 2) (hx : x < 2048) : n * 2048 + 1 * x = (row (t.val % 2 * 2048 + x)).val := by
  have := t_lt t
  show _ = (t.val % 2 * 2048 + x) % 4096
  rw [Nat.mod_eq_of_lt (by omega), h]; omega

theorem off_c {n x : ℕ} (h : n = t.val / 2) (hx : x < 512) : n * 512 + 1 * x = (col (t.val / 2 * 512 + x)).val := by
  have := t_lt t
  show _ = (t.val / 2 * 512 + x) % 3072
  rw [Nat.mod_eq_of_lt (by omega), h]; omega

theorem iblk0 : Rows (φ := .bf16) (iblk m c 0 t : FVec Ideal S4096x1024 .bf16) (inp m c).hn 0 := fun ρ k =>
  (rd2 (V m c main_v0 : FVec Ideal S4096x1024 .bf16) _ (row (0 + ρ.val)) k
    ((zero_off (idx_in t).1.1).trans (by rw [Nat.zero_add, row_val]; rfl)) (zero_off (idx_in t).1.2)).trans (V0 m c _ k)
theorem iblk1 : Rows (φ := .bf16) (iblk m c 1 t : FVec Ideal S512x1024 .bf16) (inp m c).w (t.val / 2 * 512) := fun ρ k =>
  (rd2 (V m c main_v2 : FVec Ideal S3072x1024 .bf16) _ _ k (off_c t (idx_in t).2.1.1 ρ.isLt) (zero_off (idx_in t).2.1.2)).trans (V2 m c _ k)
theorem iblk2 : Rows (φ := .f32) (iblk m c 2 t : FVec Ideal S3x512 .f32) (cols (inp m c).cw (t.val / 2 * 512)) 0 := fun ρ j =>
  (rd2 (V m c main_arg2 : FVec Ideal S3x3072 .f32) _ ⟨0 + ρ.val, by omega⟩ _ ((zero_off (idx_in t).2.2.1.1).trans (Nat.zero_add _).symm)
    (off_c t (idx_in t).2.2.1.2 j.isLt)).trans (VW m c _ _ _)
theorem iblk3 : Rows (φ := .f32) (iblk m c 3 t : FVec Ideal S1x512 .f32) (cols (inp m c).cb (t.val / 2 * 512)) 0 := fun ρ j =>
  (rd2 (V m c main_arg3 : FVec Ideal S1x3072 .f32) _ ρ _ (zero_off (idx_in t).2.2.2.1) (off_c t (idx_in t).2.2.2.2 j.isLt)).trans
    (by rw [Subsingleton.elim ρ 0]; exact VB m c _)

theorem at_g_A (h : t.val % 2 = 0) : Rows (φ := .bf16) (outsAt0 m c t.val t.isLt).1 (cols (inp m c).g (t.val / 2 * 512)) (t.val % 2 * 2048) := by
  intro ρ j
  rw [outsAt0_A m c t h]
  dsimp only
  unfold out0_A_4
  rw [View.read_writes_eq_canon _ _ _ (fun y => cover0_A_4 (y := y) ..)]
  unfold kernelRun0_A
  dsimp only
  sl_unfold_words
  simp only [View.readAt_eq_ld, Memref.IsWhole.read_unread]
  refine Low.done (e := .bf16) (q := fun x => x) ?_ ρ j
  exact .cons rfl .nil (p5 (all' (iblk1 m c t) _) (dyn (offs t) (iblk0 m c t) _))

theorem at_g_B (h : ¬t.val % 2 = 0) : Rows (φ := .bf16) (outsAt0 m c t.val t.isLt).1 (cols (inp m c).g (t.val / 2 * 512)) (t.val % 2 * 2048) := by
  intro ρ j
  rw [outsAt0_B m c t h]
  dsimp only
  unfold out0_B_4
  rw [View.read_writes_eq_canon _ _ _ (fun y => cover0_B_4 (y := y) ..)]
  unfold kernelRun0_B
  dsimp only
  sl_unfold_words
  simp only [View.readAt_eq_ld, Memref.IsWhole.read_unread]
  refine Low.done (e := .bf16) (q := fun x => x) ?_ ρ j
  exact .cons rfl .nil (p5 (all' (iblk1 m c t) _) (dyn (offs t) (iblk0 m c t) _))

/-- The cleared rows and those after them, as the buffer's pieces. -/
theorem held (h : t.val % 2 = 0) {i1 i2 i3 inb} :
    Low (N := 2064) (e := .f32) (fun x => x)
      [⟨Rect.unit (s := S2064x512) ![16, 0] ![2048, 512] i1, k0_pay6 (F := Ideal) (View.ld (Val := Elt Ideal) (iblk m c 1 t) (Rect.unit ![0, 0] ![512, 1024] i3))
        (View.ld (Val := Elt Ideal) (iblk m c 0 t) (Rect.unit (k0_off1 (grid0.coords t)) ![2048, 1024] inb))⟩,
       ⟨Rect.unit (s := S2064x512) ![0, 0] ![16, 512] i2, k0_pay3 (F := Ideal)⟩]
      (cols (inp m c).ge (t.val / 2 * 512)) (t.val % 2 * 2048) 2064 := by
  refine .cons rfl (.cons rfl .nil fun ρ j => ?_) (p6 (all' (iblk1 m c t) _) (dyn (offs t) (iblk0 m c t) _))
  rw [p3, h]
  unfold cols In.ge
  rw [if_pos (by omega)]

theorem at_gate_A (h : t.val % 2 = 0) : Rows (φ := .bf16) (outsAt0 m c t.val t.isLt).2.1 (cols (inp m c).gate (t.val / 2 * 512)) (t.val % 2 * 2048) := by
  intro ρ j
  rw [outsAt0_A m c t h]
  dsimp only
  unfold out0_A_5
  rw [View.read_writes_eq_canon _ _ _ (fun y => cover0_A_5 (y := y) ..)]
  unfold kernelRun0_A
  dsimp only
  sl_unfold_words
  simp only [View.readAt_eq_ld, Memref.IsWhole.read_unread]
  refine Low.done (e := .bf16) (q := fun x => x) ?_ ρ j
  exact .cons rfl .nil (p1 (all' (iblk1 m c t) _) (dyn (offs t) (iblk0 m c t) _) (back (held m c t h) _)
    (part (o := 2) (iblk2 m c t) _) (part (o := 1) (iblk2 m c t) _) (part (o := 0) (iblk2 m c t) _) (all (iblk3 m c t) _))

/-- The rows that a point leaves for the next one. -/
theorem at_top (h : t.val % 2 = 0) (ρ : Fin 2064) (j : Fin 512) (hρ : ρ.val < 16) :
    ((outsAt0 m c t.val t.isLt).2.2 : FVec Ideal S2064x512 .f32) (ix2 ρ j) = cols (inp m c).ge (t.val / 2 * 512) (2048 + ρ.val) j := by
  rw [outsAt0_A m c t h]
  dsimp only
  unfold sout0_A_0
  rw [View.read_writes_eq_canon _ _ _ (fun y => scover0_A_0 (y := y) ..)]
  unfold kernelRun0_A
  dsimp only
  sl_unfold_words
  simp only [View.readAt_eq_ld, Memref.IsWhole.read_unread]
  refine (canon2 _ (⟨ρ.val, hρ⟩ : Fin 16) j ρ j (Nat.zero_add _).symm (Nat.zero_add _).symm).trans ((p2 _ _ _).trans ?_)
  refine (back (held m c t h) _ _ _).trans ?_
  rw [h]

theorem at_gate_B (h : ¬t.val % 2 = 0) : Rows (φ := .bf16) (outsAt0 m c t.val t.isLt).2.1 (cols (inp m c).gate (t.val / 2 * 512)) (t.val % 2 * 2048) := by
  have hp : t.val - 1 < cfg0.N := Nat.lt_of_le_of_lt (Nat.sub_le _ _) t.isLt
  have hX (i : Fin 2064) (j : Fin 512) (hi : i.val < 16) :
      (View.whole cc0_scratch0).read (Elt Ideal) ((Memref.isWhole_whole cc0_scratch0).unread (outsAt0 m c (t.val - 1) hp).2.2) (ix2 i j)
        = cols (inp m c).ge (t.val / 2 * 512) (t.val % 2 * 2048 + i.val) j := by
    refine (congrFun ((Memref.isWhole_whole cc0_scratch0).read_unread (Val := Elt Ideal) _) (ix2 i j)).trans ?_
    refine (at_top m c ⟨t.val - 1, hp⟩ (by show (t.val - 1) % 2 = 0; omega) i j hi).trans ?_
    rw [show (t.val - 1) / 2 = t.val / 2 by omega, show t.val % 2 = 1 by omega]
  intro ρ j
  rw [outsAt0_B m c t h]
  dsimp only
  unfold out0_B_5
  rw [View.read_writes_eq_canon _ _ _ (fun y => cover0_B_5 (y := y) ..)]
  unfold kernelRun0_B
  dsimp only
  sl_unfold_words
  simp only [View.readAt_eq_ld, Memref.IsWhole.read_unread]
  refine Low.done (e := .bf16) (q := fun x => x) ?_ ρ j
  exact .cons rfl .nil (p1 (all' (iblk1 m c t) _) (dyn (offs t) (iblk0 m c t) _) (all (over rfl (p6 (all' (iblk1 m c t) _) (dyn (offs t) (iblk0 m c t) _)) hX) _)
    (part (o := 2) (iblk2 m c t) _) (part (o := 1) (iblk2 m c t) _) (part (o := 0) (iblk2 m c t) _) (all (iblk3 m c t) _))

theorem at_g : Rows (φ := .bf16) (outsAt0 m c t.val t.isLt).1 (cols (inp m c).g (t.val / 2 * 512)) (t.val % 2 * 2048) := by
  by_cases h : t.val % 2 = 0
  · exact at_g_A m c t h
  · exact at_g_B m c t h

theorem at_gate : Rows (φ := .bf16) (outsAt0 m c t.val t.isLt).2.1 (cols (inp m c).gate (t.val / 2 * 512)) (t.val % 2 * 2048) := by
  by_cases h : t.val % 2 = 0
  · exact at_gate_A m c t h
  · exact at_gate_B m c t h

/-- The grid point that writes an entry, and the entry's row and column within its block. -/
def pt (r : Fin 4096) (f : Fin 3072) : Fin cfg0.N := ⟨f.val / 512 * 2 + r.val / 2048, lt_of_lt_of_eq (by omega) N_0.symm⟩

def rr (r : Fin 4096) : Fin 2048 := ⟨r.val % 2048, Nat.mod_lt _ (by decide)⟩

def rc (f : Fin 3072) : Fin 512 := ⟨f.val % 512, Nat.mod_lt _ (by decide)⟩

theorem pt_r (r : Fin 4096) (f : Fin 3072) : (pt r f).val % 2 * 2048 + (rr r).val = r.val := by
  show (f.val / 512 * 2 + r.val / 2048) % 2 * 2048 + r.val % 2048 = r.val
  omega

theorem pt_c (r : Fin 4096) (f : Fin 3072) : (pt r f).val / 2 * 512 + (rc f).val = f.val := by
  show (f.val / 512 * 2 + r.val / 2048) / 2 * 512 + f.val % 512 = f.val
  omega

theorem off_pr {n : ℕ} (r : Fin 4096) (f : Fin 3072) (h : n = (pt r f).val % 2) : n * 2048 + 1 * (rr r).val = r.val := by
  rw [h, Nat.one_mul]; exact pt_r r f

theorem off_pc {n : ℕ} (r : Fin 4096) (f : Fin 3072) (h : n = (pt r f).val / 2) : n * 512 + 1 * (rc f).val = f.val := by
  rw [h, Nat.one_mul]; exact pt_c r f

theorem end_g (r : Fin 4096) (f : Fin 3072) : ((dats m 0 c).arrAt 4 cfg0.N : FVec Ideal S4096x3072 .bf16) (ix2 r f) = (inp m c).g r.val f.val := by
  have hb := congrFun (blocks4 m c (pt r f) (flush0_4 _)) (ix2 (rr r) (rc f))
  rw [flushed4] at hb
  refine Eq.trans ?_ (hb.trans ((at_g m c (pt r f) (rr r) (rc f)).trans (congrArg₂ (inp m c).g (pt_r r f) (pt_c r f))))
  exact (rd2 ((dats m 0 c).arrAt 4 cfg0.N : FVec Ideal S4096x3072 .bf16) _ r f (off_pr r f (idx_out (pt r f)).1.1) (off_pc r f (idx_out (pt r f)).1.2)).symm

theorem end_gate (r : Fin 4096) (f : Fin 3072) : ((dats m 0 c).arrAt 5 cfg0.N : FVec Ideal S4096x3072 .bf16) (ix2 r f) = (inp m c).gate r.val f.val := by
  have hb := congrFun (blocks5 m c (pt r f) (flush0_5 _)) (ix2 (rr r) (rc f))
  rw [flushed5] at hb
  refine Eq.trans ?_ (hb.trans ((at_gate m c (pt r f) (rr r) (rc f)).trans (congrArg₂ (inp m c).gate (pt_r r f) (pt_c r f))))
  exact (rd2 ((dats m 0 c).arrAt 5 cfg0.N : FVec Ideal S4096x3072 .bf16) _ r f (off_pr r f (idx_out (pt r f)).2.1) (off_pc r f (idx_out (pt r f)).2.2)).symm

end Cert.Gt
-- ==== Proof.GtRef.lean ====
/-
  The reference of the gate at an index.
-/
module

public import proofs.«01_k».proof.Proof.GtWin
public import proofs.«01_k».proof.Proof.Gen.GateFwdRefIdeal.Run
public import Idealize.ShloMosaic.Lib.Tactic.CleanTypes
public import Idealize.ShloMosaic.Lib.Pointwise

@[expose] public section

set_option maxRecDepth 16384

noncomputable section

open Idealize.ShloMosaic Idealize.ShloMosaic.TcCoe Idealize.SL.Sem

namespace Cert.Gt

open Cert.GateFwdRefIdeal Cert.GateFwdRefIdeal.Gen Cert.GateFwdRefIdeal.Value

variable (m : (ℓ : Loc nD τ sig) → Buf (Elt Ideal) ℓ) (c : Dev nD) (I : In)

/-- The reference's arguments are the given ones. -/
structure Args : Prop where
  a0 : ∀ (r : Fin 4096) (k : Fin 1024), (m ((c.tc : Thread nD τ).loc main_arg0) : FVec Ideal S4096x1024 .f32) (ix2 r k) = I.hn r.val k
  a1 : ∀ (k : Fin 1024) (f : Fin 3072), (m ((c.tc : Thread nD τ).loc main_arg1) : FVec Ideal S1024x3072 .f32) (ix2 k f) = I.w f.val k
  a2 : ∀ (k : Fin 3) (f : Fin 3072), (m ((c.tc : Thread nD τ).loc main_arg2) : FVec Ideal S3x3072 .f32) (ix2 k f) = I.cw k.val f.val
  a3 : ∀ f : Fin 3072, (m ((c.tc : Thread nD τ).loc main_arg3) : FVec Ideal S1x3072 .f32) (ix2 0 f) = I.cb 0 f.val

variable {m c I} (A : Args m c I)

include A in
theorem ref_g (r : Fin 4096) (f : Fin 3072) : (truncf .bf16 (Host.dotGeneral (φ₁ := .f32) (φ₂ := .f32) dot_S4096x1024_S1024x3072_S4096x3072_1_0_0_1_n_n none (m ((c.tc : Thread nD τ).loc main_arg0)) (m ((c.tc : Thread nD τ).loc main_arg1))) bitsLt_bf16_f32 : FVec Ideal S4096x3072 .bf16) (ix2 r f) = I.g r.val f.val := by
  clean_types
  pointwise
  simp only [A.a0, A.a1]
  rfl

include A in
theorem ref_gate (r : Fin 4096) (f : Fin 3072) : (truncf .bf16 (addf (addf (addf (mulf (extractStridedSlice S4096x3072 ![0, 0] (concatenate S4098x3072 0 [⟨S2x3072, (broadcastInDim S2x3072 ![] bcast_S_S2x3072 (constant S_ .f32 0x00000000#32))⟩, ⟨S4096x3072, (Host.dotGeneral (φ₁ := .f32) (φ₂ := .f32) dot_S4096x1024_S1024x3072_S4096x3072_1_0_0_1_n_n none (m ((c.tc : Thread nD τ).loc main_arg0)) (m ((c.tc : Thread nD τ).loc main_arg1)))⟩] concatenates_S2x3072_S4096x3072_S4098x3072_d0) slices_S4098x3072_S4096x3072_0_0) (broadcastInDim S4096x3072 ![0, 1] bcast_S1x3072_S4096x3072_0_1 (broadcastInDim S1x3072 ![1] bcast_S3072_S1x3072_1 (shapeCast _ (extractStridedSlice S1x3072 ![0, 0] (m ((c.tc : Thread nD τ).loc main_arg2)) slices_S3x3072_S1x3072_0_0) shapeCasts_S1x3072_S3072)))) (mulf (extractStridedSlice S4096x3072 ![1, 0] (concatenate S4098x3072 0 [⟨S2x3072, (broadcastInDim S2x3072 ![] bcast_S_S2x3072 (constant S_ .f32 0x00000000#32))⟩, ⟨S4096x3072, (Host.dotGeneral (φ₁ := .f32) (φ₂ := .f32) dot_S4096x1024_S1024x3072_S4096x3072_1_0_0_1_n_n none (m ((c.tc : Thread nD τ).loc main_arg0)) (m ((c.tc : Thread nD τ).loc main_arg1)))⟩] concatenates_S2x3072_S4096x3072_S4098x3072_d0) slices_S4098x3072_S4096x3072_1_0) (broadcastInDim S4096x3072 ![0, 1] bcast_S1x3072_S4096x3072_0_1 (broadcastInDim S1x3072 ![1] bcast_S3072_S1x3072_1 (shapeCast _ (extractStridedSlice S1x3072 ![1, 0] (m ((c.tc : Thread nD τ).loc main_arg2)) slices_S3x3072_S1x3072_1_0) shapeCasts_S1x3072_S3072))))) (mulf (extractStridedSlice S4096x3072 ![2, 0] (concatenate S4098x3072 0 [⟨S2x3072, (broadcastInDim S2x3072 ![] bcast_S_S2x3072 (constant S_ .f32 0x00000000#32))⟩, ⟨S4096x3072, (Host.dotGeneral (φ₁ := .f32) (φ₂ := .f32) dot_S4096x1024_S1024x3072_S4096x3072_1_0_0_1_n_n none (m ((c.tc : Thread nD τ).loc main_arg0)) (m ((c.tc : Thread nD τ).loc main_arg1)))⟩] concatenates_S2x3072_S4096x3072_S4098x3072_d0) slices_S4098x3072_S4096x3072_2_0) (broadcastInDim S4096x3072 ![0, 1] bcast_S1x3072_S4096x3072_0_1 (broadcastInDim S1x3072 ![1] bcast_S3072_S1x3072_1 (shapeCast _ (extractStridedSlice S1x3072 ![2, 0] (m ((c.tc : Thread nD τ).loc main_arg2)) slices_S3x3072_S1x3072_2_0) shapeCasts_S1x3072_S3072))))) (broadcastInDim S4096x3072 ![0, 1] bcast_S1x3072_S4096x3072_0_1 (m ((c.tc : Thread nD τ).loc main_arg3)))) bitsLt_bf16_f32 : FVec Ideal S4096x3072 .bf16) (ix2 r f) = I.gate r.val f.val := by
  clean_types
  pointwise
  simp only [A.a0, A.a1, A.a2, A.a3]
  have e (s : ℕ) : (if _ : s < 2 then (0 : EReal) else ∑ x, I.hn (s - 2) x * I.w f.val x) = I.ge (s + 14) f.val := by
    unfold In.ge
    by_cases h : s < 2
    · rw [dif_pos h, if_pos (by omega)]
    · rw [dif_neg h, if_neg (by omega), show s + 14 - 16 = s - 2 by omega]
      rfl
  rw [e, e, Nat.add_comm 1]
  unfold In.gate
  rw [ge_add]
  show _ * I.cw 0 _ + _ * I.cw 1 _ + I.g r.val f.val * I.cw 2 _ + _ = _
  congr 1
  rw [mul_comm (I.cw 2 _), mul_comm (I.cw 1 _), mul_comm (I.cw 0 _), add_assoc, add_comm, add_comm (_ * I.cw 1 _)]

end Cert.Gt
-- ==== Proof.GtClaims.lean ====
/-
  The claims of the gate.
-/
module

public import proofs.«01_k».proof.Proof.GtRef
public import proofs.«01_k».proof.Proof.Even
public import proofs.«01_k».proof.Proof.Gen.GateFwd.Frame

@[expose] public section

set_option maxRecDepth 16384

noncomputable section

open Idealize.ShloMosaic Idealize.ShloMosaic.TcCoe Idealize.SL.Sem Idealize.ShloMosaic.StableHlo

namespace Cert.Gt

theorem frame_k : Cert.quiescent_GateFwd := fun m ρ _ => Cert.GateFwd.Gen.frame m ρ

theorem frame_ki : Cert.quiescent_GateFwdIdeal := fun m ρ _ => Cert.GateFwdIdeal.Gen.frame m ρ

theorem frame_ri : Cert.quiescent_GateFwdRefIdeal := fun m ρ _ =>
  (θ_run Cert.GateFwdRefIdeal.defs _ _).mono (fun r h => ⟨fun c => (h c).2.2, sem_eq_zero_of_no_sems (by decide) r.2⟩)
    (Cert.GateFwdRefIdeal.Value.run (F := Ideal) m ρ)

theorem alg : Cert.algebraic_GateFwdIdeal_GateFwdRefIdeal := by
  intro m ρ m' ρ' _ hag
  refine ⟨_, _, Cert.GateFwdIdeal.Value.run_blocks m ρ, ?_⟩
  refine (θ_run Cert.GateFwdRefIdeal.defs _ _).mono (fun _ h c => ?_) (Cert.GateFwdRefIdeal.Value.run (F := Ideal) m' ρ')
  obtain ⟨h0, h1, hr⟩ := h c
  have A : Args m' c (inp m c) := by
    obtain ⟨e0, e1, e2, e3⟩ := hag c
    refine ⟨fun r k => ?_, fun k f => ?_, fun k f => ?_, fun f => ?_⟩
    · simp only [inp, row_val]; exact congrFun e0 _
    · simp only [inp, col_val]; exact congrFun e1 _
    · simp only [inp, col_val, Nat.mod_eq_of_lt k.isLt]; exact congrFun e2 _
    · simp only [inp, col_val]; exact congrFun e3 _
  refine ⟨h0.trans ?_, h1.trans ?_, hr⟩
  · funext i
    obtain ⟨r, f, rfl⟩ : ∃ (r : Fin 4096) (f : Fin 3072), i = ix2 r f := ⟨i 0, i 1, eq_ix2 i⟩
    exact (ref_g A r f).trans (end_g m c r f).symm
  · funext i
    obtain ⟨r, f, rfl⟩ : ∃ (r : Fin 4096) (f : Fin 3072), i = ix2 r f := ⟨i 0, i 1, eq_ix2 i⟩
    exact (ref_gate A r f).trans (end_gate m c r f).symm

end Cert.Gt
-- ==== Proof.UpClaims.lean ====
/-
  The claims of the upward projection.
-/
module

public import proofs.«01_k».proof.Proof.UpRef
public import proofs.«01_k».proof.Proof.Even
public import proofs.«01_k».proof.Proof.Gen.UpFwd.Frame
public import proofs.«01_k».proof.Proof.Gen.Pre_finite8

@[expose] public section

set_option maxRecDepth 16384

noncomputable section

open Idealize.ShloMosaic Idealize.ShloMosaic.TcCoe Idealize.SL.Sem Idealize.ShloMosaic.StableHlo

namespace Cert.Up

open Cert.Even (Re all_real)

theorem frame_k : Cert.quiescent_UpFwd := fun m ρ _ => Cert.UpFwd.Gen.frame m ρ

theorem frame_ki : Cert.quiescent_UpFwdIdeal := fun m ρ _ => Cert.UpFwdIdeal.Gen.frame m ρ

theorem frame_ri : Cert.quiescent_UpFwdRefIdeal := fun m ρ _ =>
  (θ_run Cert.UpFwdRefIdeal.defs _ _).mono (fun r h => ⟨fun c => (h c).2.2.2, sem_eq_zero_of_no_sems (by decide) r.2⟩)
    (Cert.UpFwdRefIdeal.Value.run (F := Ideal) m ρ)

theorem real_of {x0 : FVec Ideal Cert.Pre_finite8.S4096x1024 .f32} {x1 : FVec Ideal Cert.Pre_finite8.S1024x3072 .f32}
    {x2 : FVec Ideal Cert.Pre_finite8.S4096x3072 .f32} (h : Cert.Pre_finite8.fn (F := Ideal) x0 x1 x2 = fun _ => 1#1) :
    (∀ i, Re (x0 i)) ∧ (∀ i, Re (x1 i)) ∧ ∀ i, Re (x2 i) := by
  have : Subsingleton Cert.Pre_finite8.S_.Idx := ⟨fun a b => funext fun k => k.elim0⟩
  have e := congrFun h (fun k => k.elim0)
  obtain ⟨e, h2⟩ := IntOp.andi_eq_one.1 e
  obtain ⟨h0, h1⟩ := IntOp.andi_eq_one.1 e
  exact ⟨all_real h0 fun _ => rfl, all_real h1 fun _ => rfl, all_real h2 fun _ => rfl⟩

theorem alg : Cert.algebraic_UpFwdIdeal_UpFwdRefIdeal_pre_finite8 := by
  intro m ρ m' ρ' hpre hag
  refine ⟨_, _, _, Cert.UpFwdIdeal.Value.run_blocks m ρ, ?_⟩
  refine (θ_run Cert.UpFwdRefIdeal.defs _ _).mono (fun _ h c => ?_) (Cert.UpFwdRefIdeal.Value.run (F := Ideal) m' ρ')
  obtain ⟨h0, h1, h2, hr⟩ := h c
  have A : Args m' c (inp m c) := by
    obtain ⟨e0, e1, e2⟩ := hag c
    refine ⟨fun r k => ?_, fun k f => ?_, fun r f => ?_⟩
    · simp only [inp, row_val]; exact congrFun e0 _
    · simp only [inp, col_val]; exact congrFun e1 _
    · simp only [inp, row_val, col_val]; exact congrFun e2 _
  obtain ⟨r0, r1, r2⟩ := real_of (hpre c)
  refine ⟨h0.trans ?_, h1.trans ?_, h2.trans ?_, hr⟩
  · funext i
    obtain ⟨r, f, rfl⟩ : ∃ (r : Fin 4096) (f : Fin 3072), i = ix2 r f := ⟨i 0, i 1, eq_ix2 i⟩
    exact (ref_a A r f).trans (end_a m c r f).symm
  · funext i
    obtain ⟨r, f, rfl⟩ : ∃ (r : Fin 4096) (f : Fin 3072), i = ix2 r f := ⟨i 0, i 1, eq_ix2 i⟩
    exact (ref_silu A r f).trans (end_silu m c r f).symm
  · funext i
    obtain ⟨r, f, rfl⟩ : ∃ (r : Fin 4096) (f : Fin 3072), i = ix2 r f := ⟨i 0, i 1, eq_ix2 i⟩
    exact (ref_upds A (fun r f => Re.sum fun k => (r0 _).mul (r1 _)) (fun r f => r2 _) r f).trans (end_upds m c r f).symm

end Cert.Up
-- ==== Proof.DnWin.lean ====
/-
  The feed-forward layer's downward projection and the norm after it: the rows, what the payloads hold of them, what a grid
  point reads and writes, and the two arrays at the end.
-/
module

public import proofs.«01_k».proof.Proof.Ff
public import proofs.«01_k».proof.Proof.Gen.DownFwdIdeal.Value
public import Idealize.ShloMosaic.Lib.StableHlo.RunRead

@[expose] public section

set_option maxRecDepth 16384

noncomputable section

open Idealize.ShloMosaic Idealize.ShloMosaic.TcCoe Idealize.SL.Sem Idealize.ShloMosaic.StableHlo

namespace Cert.Dn

open Cert.DownFwdIdeal Cert.DownFwdIdeal.Gen Cert.DownFwdIdeal.Value
open Cert.Even (ms Rows rd2 ld2 zero_off)
open Cert.Ff (part part' all all' Low)

/-- What the projection reads. -/
structure In where
  a : ℕ → Fin 3072 → EReal
  w : ℕ → Fin 1024 → EReal
  h : ℕ → Fin 1024 → EReal
  gn : ℕ → Fin 1024 → EReal

namespace In

variable (I : In)

def ho (r : ℕ) (i : Fin 1024) : EReal := I.h r i + ∑ k : Fin 3072, I.a r k * I.w k.val i
def hn (r : ℕ) (i : Fin 1024) : EReal := I.ho r i * Ideal.rsqrt (ms (I.ho r)) * I.gn 0 i

end In

section

variable {I : In} {B : ℕ} {v0 : FVec Ideal S3072x1024 .bf16} {v2 : FVec Ideal S1x1024 .f32} {v3 : FVec Ideal S256x1024 .f32}
  {v4 : FVec Ideal S256x3072 .bf16} (h0 : Rows v0 I.w 0) (h2 : Rows v2 I.gn 0) (h3 : Rows v3 I.h B) (h4 : Rows v4 I.a B)

include h0 h3 h4 in
theorem p3 : Rows (k0_pay3 (F := Ideal) v0 v3 v4) I.ho B := by
  intro ρ j
  unfold k0_pay3 k0_pay2
  pointwise
  simp only [h0 _ _, h3 _ _, h4 _ _, Nat.zero_add]
  rfl

include h0 h2 h3 h4 in
theorem p4 : Rows (k0_pay4 (F := Ideal) v0 v2 v3 v4) I.hn B := by
  intro ρ j
  unfold k0_pay4
  pointwise
  simp only [p3 h0 h3 h4 _ _, h2 _ _]
  rfl

end

variable (m : (ℓ : Loc nD τ sig) → Buf (Elt Ideal) ℓ) (c : Dev nD) (t : Fin cfg0.N)

/-- A row number within the arrays. -/
def row (r : ℕ) : Fin 4096 := ⟨r % 4096, Nat.mod_lt _ (by decide)⟩

theorem row_val (r : Fin 4096) : row r.val = r := Fin.ext (Nat.mod_eq_of_lt r.isLt)

def wrow (r : ℕ) : Fin 3072 := ⟨r % 3072, Nat.mod_lt _ (by decide)⟩

theorem wrow_val (r : Fin 3072) : wrow r.val = r := Fin.ext (Nat.mod_eq_of_lt r.isLt)

/-- The arguments. -/
def inp : In where
  a r k := (m (c, Proc.tc.devRef main_arg0) : FVec Ideal S4096x3072 .f32) (ix2 (row r) k)
  w k i := (m (c, Proc.tc.devRef main_arg1) : FVec Ideal S3072x1024 .f32) (ix2 (wrow k) i)
  h r i := (m (c, Proc.tc.devRef main_arg2) : FVec Ideal S4096x1024 .f32) (ix2 (row r) i)
  gn _ i := (m (c, Proc.tc.devRef main_arg3) : FVec Ideal S1x1024 .f32) (ix2 0 i)

theorem V0 (r : ℕ) (k : Fin 3072) : (V m c main_v0 : FVec Ideal S4096x3072 .bf16) (ix2 (row r) k) = (inp m c).a r k := by
  unfold V inp; after_reads_simp; rfl
theorem V1 (k : ℕ) (i : Fin 1024) : (V m c main_v1 : FVec Ideal S3072x1024 .bf16) (ix2 (wrow k) i) = (inp m c).w k i := by
  unfold V inp; after_reads_simp; rfl
theorem V2 (r : ℕ) (i : Fin 1024) : (V m c main_arg2 : FVec Ideal S4096x1024 .f32) (ix2 (row r) i) = (inp m c).h r i := by
  unfold V inp; after_reads_simp
theorem V3 (r : ℕ) (i : Fin 1024) : (V m c main_arg3 : FVec Ideal S1x1024 .f32) (ix2 0 i) = (inp m c).gn r i := by
  unfold V inp; after_reads_simp

theorem idx_row : ∀ t : Fin grid0.N, (win0_0.index t 0 = t.val ∧ win0_0.index t 1 = 0) ∧ (win0_2.index t 0 = t.val ∧ win0_2.index t 1 = 0)
    ∧ (win0_4.index t 0 = t.val ∧ win0_4.index t 1 = 0) ∧ (win0_5.index t 0 = t.val ∧ win0_5.index t 1 = 0) := by
  decide +kernel

theorem idx_whole : ∀ t : Fin grid0.N, (win0_1.index t 0 = 0 ∧ win0_1.index t 1 = 0) ∧ (win0_3.index t 0 = 0 ∧ win0_3.index t 1 = 0) := by
  decide +kernel

theorem t_lt : t.val < 8 := lt_of_lt_of_eq t.isLt N_0

theorem off {n x : ℕ} (h : n = t.val) (hx : x < 512) : n * 512 + 1 * x = (row (t.val * 512 + x)).val := by
  have := t_lt t
  show _ = (t.val * 512 + x) % 4096
  rw [Nat.mod_eq_of_lt (by omega), h]; omega

theorem iblk0 : Rows (φ := .bf16) (iblk m c 0 t : FVec Ideal S512x3072 .bf16) (inp m c).a (t.val * 512) := fun ρ k =>
  (rd2 (V m c main_v0 : FVec Ideal S4096x3072 .bf16) _ _ k (off t (idx_row t).1.1 ρ.isLt) (zero_off (idx_row t).1.2)).trans (V0 m c _ k)
theorem iblk1 : Rows (φ := .bf16) (iblk m c 1 t : FVec Ideal S3072x1024 .bf16) (inp m c).w 0 := fun ρ k =>
  (rd2 (V m c main_v1 : FVec Ideal S3072x1024 .bf16) _ (wrow (0 + ρ.val)) k
    ((zero_off (idx_whole t).1.1).trans (by rw [Nat.zero_add, wrow_val]; rfl)) (zero_off (idx_whole t).1.2)).trans (V1 m c _ k)
theorem iblk2 : Rows (φ := .f32) (iblk m c 2 t : FVec Ideal S512x1024 .f32) (inp m c).h (t.val * 512) := fun ρ k =>
  (rd2 (V m c main_arg2 : FVec Ideal S4096x1024 .f32) _ _ k (off t (idx_row t).2.1.1 ρ.isLt) (zero_off (idx_row t).2.1.2)).trans (V2 m c _ k)
theorem iblk3 : Rows (φ := .f32) (iblk m c 3 t : FVec Ideal S1x1024 .f32) (inp m c).gn 0 := fun ρ k =>
  (rd2 (V m c main_arg3 : FVec Ideal S1x1024 .f32) _ ρ k (zero_off (idx_whole t).2.1) (zero_off (idx_whole t).2.2)).trans
    (by rw [Subsingleton.elim ρ 0]; exact V3 m c _ k)

/-- What a grid point writes. -/
theorem at_ho : Rows (φ := .f32) (out0_4 (iblk m c 0 t) (iblk m c 1 t) (iblk m c 2 t) (iblk m c 3 t)) (inp m c).ho (t.val * 512) := by
  intro ρ j
  unfold out0_4 r0_0 r0_2 r0_3 r0_4 r0_5
  refine Low.done (e := .f32) (q := fun x => x) ?_ ρ j
  have P (o : ℕ) {inb inb' inb''} := p3 (I := inp m c) (all' (iblk1 m c t) inb) (part (o := o) (iblk2 m c t) inb') (part' (iblk0 m c t) inb'')
  exact .cons rfl (.cons rfl .nil (P 0)) (P 256)

theorem at_hn : Rows (φ := .bf16) (out0_5 (iblk m c 0 t) (iblk m c 1 t) (iblk m c 2 t) (iblk m c 3 t)) (inp m c).hn (t.val * 512) := by
  intro ρ j
  unfold out0_5 r0_0 r0_1 r0_2 r0_3 r0_4 r0_5
  refine Low.done (e := .bf16) (q := fun x => x) ?_ ρ j
  have P (o : ℕ) {inb inb' inb'' inb₃} := p4 (I := inp m c) (all' (iblk1 m c t) inb) (all (iblk3 m c t) inb₃) (part (o := o) (iblk2 m c t) inb') (part' (iblk0 m c t) inb'')
  exact .cons rfl (.cons rfl .nil (P 0)) (P 256)

/-- The grid point that writes a row, and the row within its block. -/
def pt (r : Fin 4096) : Fin cfg0.N := ⟨r.val / 512, lt_of_lt_of_eq (Nat.div_lt_of_lt_mul r.isLt) N_0.symm⟩

def rem (r : Fin 4096) : Fin 512 := ⟨r.val % 512, Nat.mod_lt _ (by decide)⟩

theorem pt_rem (r : Fin 4096) : (pt r).val * 512 + (rem r).val = r.val := Nat.div_add_mod' _ _

theorem off_pt {n : ℕ} (r : Fin 4096) (h : n = (pt r).val) : n * 512 + 1 * (rem r).val = r.val := by
  rw [h, Nat.one_mul]; exact pt_rem r

theorem end_ho (r : Fin 4096) (j : Fin 1024) : ((dats m 0 c).arrAt 4 cfg0.N : FVec Ideal S4096x1024 .f32) (ix2 r j) = (inp m c).ho r.val j := by
  have hb := congrFun (blocks4 m c (pt r) (flush0_4 _)) (ix2 (rem r) j)
  rw [flushed4] at hb
  refine Eq.trans ?_ (hb.trans ((at_ho m c (pt r) (rem r) j).trans (congrArg (fun n => (inp m c).ho n j) (pt_rem r))))
  exact (rd2 ((dats m 0 c).arrAt 4 cfg0.N : FVec Ideal S4096x1024 .f32) _ r j (off_pt r (idx_row (pt r)).2.2.1.1) (zero_off (idx_row (pt r)).2.2.1.2)).symm

theorem end_hn (r : Fin 4096) (j : Fin 1024) : ((dats m 0 c).arrAt 5 cfg0.N : FVec Ideal S4096x1024 .bf16) (ix2 r j) = (inp m c).hn r.val j := by
  have hb := congrFun (blocks5 m c (pt r) (flush0_5 _)) (ix2 (rem r) j)
  rw [flushed5] at hb
  refine Eq.trans ?_ (hb.trans ((at_hn m c (pt r) (rem r) j).trans (congrArg (fun n => (inp m c).hn n j) (pt_rem r))))
  exact (rd2 ((dats m 0 c).arrAt 5 cfg0.N : FVec Ideal S4096x1024 .bf16) _ r j (off_pt r (idx_row (pt r)).2.2.2.1) (zero_off (idx_row (pt r)).2.2.2.2)).symm

end Cert.Dn
-- ==== Proof.DnClaims.lean ====
/-
  The claims of the downward projection and the norm after it.
-/
module

public import proofs.«01_k».proof.Proof.DnWin
public import proofs.«01_k».proof.Proof.Even
public import proofs.«01_k».proof.Proof.Gen.DownFwdRefIdeal.Run
public import proofs.«01_k».proof.Proof.Gen.DownFwd.Frame
public import Idealize.ShloMosaic.Lib.Tactic.CleanTypes
public import Idealize.ShloMosaic.Lib.Pointwise

@[expose] public section

set_option maxRecDepth 16384

noncomputable section

open Idealize.ShloMosaic Idealize.ShloMosaic.TcCoe Idealize.SL.Sem Idealize.ShloMosaic.StableHlo

namespace Cert.Dn

open Cert.DownFwdRefIdeal Cert.DownFwdRefIdeal.Gen Cert.DownFwdRefIdeal.Value
open Cert.Even (ms)

section

variable (m : (ℓ : Loc nD τ sig) → Buf (Elt Ideal) ℓ) (c : Dev nD) (I : In)

/-- The reference's arguments are the given ones. -/
structure Args : Prop where
  a0 : ∀ (r : Fin 4096) (k : Fin 3072), (m ((c.tc : Thread nD τ).loc main_arg0) : FVec Ideal S4096x3072 .f32) (ix2 r k) = I.a r.val k
  a1 : ∀ (k : Fin 3072) (i : Fin 1024), (m ((c.tc : Thread nD τ).loc main_arg1) : FVec Ideal S3072x1024 .f32) (ix2 k i) = I.w k.val i
  a2 : ∀ (r : Fin 4096) (i : Fin 1024), (m ((c.tc : Thread nD τ).loc main_arg2) : FVec Ideal S4096x1024 .f32) (ix2 r i) = I.h r.val i
  a3 : ∀ i : Fin 1024, (m ((c.tc : Thread nD τ).loc main_arg3) : FVec Ideal S1x1024 .f32) (ix2 0 i) = I.gn 0 i

variable {m c I} (A : Args m c I)

include A in
theorem ref_ho (r : Fin 4096) (j : Fin 1024) : (addf (m ((c.tc : Thread nD τ).loc main_arg2)) (Host.dotGeneral (φ₁ := .f32) (φ₂ := .f32) dot_S4096x3072_S3072x1024_S4096x1024_1_0_0_1_n_n none (m ((c.tc : Thread nD τ).loc main_arg0)) (m ((c.tc : Thread nD τ).loc main_arg1))) : FVec Ideal S4096x1024 .f32) (ix2 r j) = I.ho r.val j := by
  clean_types
  pointwise
  simp only [A.a0, A.a1, A.a2]
  rfl

include A in
theorem ref_hn (r : Fin 4096) (j : Fin 1024) : (truncf .bf16 (mulf (mulf (addf (m ((c.tc : Thread nD τ).loc main_arg2)) (Host.dotGeneral (φ₁ := .f32) (φ₂ := .f32) dot_S4096x3072_S3072x1024_S4096x1024_1_0_0_1_n_n none (m ((c.tc : Thread nD τ).loc main_arg0)) (m ((c.tc : Thread nD τ).loc main_arg1)))) (broadcastInDim S4096x1024 ![0, 1] bcast_S4096x1_S4096x1024_0_1 (Host.rsqrt (addf (Host.divf (broadcastInDim S4096x1 ![0] bcast_S4096_S4096x1_0 (Host.reduceAdd (mulf (addf (m ((c.tc : Thread nD τ).loc main_arg2)) (Host.dotGeneral (φ₁ := .f32) (φ₂ := .f32) dot_S4096x3072_S3072x1024_S4096x1024_1_0_0_1_n_n none (m ((c.tc : Thread nD τ).loc main_arg0)) (m ((c.tc : Thread nD τ).loc main_arg1)))) (addf (m ((c.tc : Thread nD τ).loc main_arg2)) (Host.dotGeneral (φ₁ := .f32) (φ₂ := .f32) dot_S4096x3072_S3072x1024_S4096x1024_1_0_0_1_n_n none (m ((c.tc : Thread nD τ).loc main_arg0)) (m ((c.tc : Thread nD τ).loc main_arg1))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (m ((c.tc : Thread nD τ).loc main_arg3)))) bitsLt_bf16_f32 : FVec Ideal S4096x1024 .bf16) (ix2 r j) = I.hn r.val j := by
  clean_types
  pointwise
  simp only [A.a0, A.a1, A.a2, A.a3]
  rfl

end

theorem frame_k : Cert.quiescent_DownFwd := fun m ρ _ => Cert.DownFwd.Gen.frame m ρ

theorem frame_ki : Cert.quiescent_DownFwdIdeal := fun m ρ _ => Cert.DownFwdIdeal.Gen.frame m ρ

theorem frame_ri : Cert.quiescent_DownFwdRefIdeal := fun m ρ _ =>
  (θ_run Cert.DownFwdRefIdeal.defs _ _).mono (fun r h => ⟨fun c => (h c).2.2, sem_eq_zero_of_no_sems (by decide) r.2⟩)
    (Cert.DownFwdRefIdeal.Value.run (F := Ideal) m ρ)

theorem alg : Cert.algebraic_DownFwdIdeal_DownFwdRefIdeal := by
  intro m ρ m' ρ' _ hag
  refine ⟨_, _, Cert.DownFwdIdeal.Value.run_blocks m ρ, ?_⟩
  refine (θ_run Cert.DownFwdRefIdeal.defs _ _).mono (fun _ h c => ?_) (Cert.DownFwdRefIdeal.Value.run (F := Ideal) m' ρ')
  obtain ⟨h0, h1, hr⟩ := h c
  have A : Args m' c (inp m c) := by
    obtain ⟨e0, e1, e2, e3⟩ := hag c
    refine ⟨fun r k => ?_, fun k i => ?_, fun r i => ?_, fun i => ?_⟩
    · simp only [inp, row_val]; exact congrFun e0 _
    · simp only [inp, wrow_val]; exact congrFun e1 _
    · simp only [inp, row_val]; exact congrFun e2 _
    · exact congrFun e3 _
  refine ⟨h0.trans ?_, h1.trans ?_, hr⟩
  · funext i
    obtain ⟨r, j, rfl⟩ : ∃ (r : Fin 4096) (j : Fin 1024), i = ix2 r j := ⟨i 0, i 1, eq_ix2 i⟩
    exact (ref_ho A r j).trans (end_ho m c r j).symm
  · funext i
    obtain ⟨r, j, rfl⟩ : ∃ (r : Fin 4096) (j : Fin 1024), i = ix2 r j := ⟨i 0, i 1, eq_ix2 i⟩
    exact (ref_hn A r j).trans (end_hn m c r j).symm

end Cert.Dn
-- ==== Proof.LhPay.lean ====
/-
  The last feed-forward layer's downward projection, the loss and its gradient, row by row, and what the kernel's payloads
  hold of it.
-/
module

public import proofs.«01_k».proof.Proof.Feed
public import proofs.«01_k».proof.Proof.Reals
public import proofs.«01_k».proof.Proof.Gen.LossHeadIdeal.Value

@[expose] public section

set_option maxRecDepth 16384

noncomputable section

open Idealize.ShloMosaic Idealize.ShloMosaic.TcCoe

namespace Cert.Lh

open Cert.LossHeadIdeal Cert.LossHeadIdeal.Gen
open Cert.Even (ms Rows)

/-- What the loss reads. -/
structure In where
  a : ℕ → Fin 3072 → EReal
  w : ℕ → Fin 1024 → EReal
  h : ℕ → Fin 1024 → EReal
  gn : ℕ → Fin 1024 → EReal
  /-- the target -/
  tt : ℕ → Fin 1024 → EReal

namespace In

variable (I : In)

def ho (r : ℕ) (i : Fin 1024) : EReal := I.h r i + ∑ k : Fin 3072, I.a r k * I.w k.val i
def rr (r : ℕ) : EReal := Ideal.rsqrt (ms (I.ho r))
def xh (r : ℕ) (i : Fin 1024) : EReal := I.ho r i * I.rr r
/-- The error. -/
def er (r : ℕ) (i : Fin 1024) : EReal := I.xh r i * I.gn 0 i - I.tt r i
/-- The loss's gradient at the norm's result. -/
def dn (r : ℕ) (i : Fin 1024) : EReal := I.er r i * Ideal.ofBits .f32 0x3A800000#32
def dy (r : ℕ) (i : Fin 1024) : EReal := I.dn r i * I.gn 0 i
/-- The gradient through the norm. -/
def dx (r : ℕ) (i : Fin 1024) : EReal :=
  I.rr r * (I.dy r i - I.xh r i * Ideal.div (∑ k, I.dy r k * I.xh r k) (Ideal.ofBits .f32 0x44800000#32))
/-- A row's part of the gain's gradient. -/
def tg (i : Fin 1024) (r : ℕ) : EReal := I.dn r i * I.xh r i
/-- A row's part of the loss. -/
def ls (i : Fin 1024) (r : ℕ) : EReal := I.er r i * I.er r i * Ideal.ofBits .f32 0x3A000000#32

end In

theorem lit_c : Ideal.ofBits .f32 0x3A000000#32 = ((1 / 2048 : ℝ) : EReal) := by
  simp [Ideal.ofBits, Ideal.ieee, -EReal.coe_mul]; norm_num

/-- A sum times a number that is real and not negative. -/
theorem sum_mul_real {ι : Type} (s : Finset ι) (f : ι → EReal) {x : ℝ} (hx : 0 ≤ x) : (∑ k ∈ s, f k) * (x : EReal) = ∑ k ∈ s, f k * (x : EReal) := by
  classical
  induction s using Finset.induction_on with
  | empty => exact zero_mul _
  | insert a s ha ih =>
    rw [Finset.sum_insert ha, Finset.sum_insert ha, ← ih]
    exact EReal.right_distrib_of_nonneg_of_ne_top (EReal.coe_nonneg.mpr hx) (EReal.coe_ne_top _) _ _

variable {I : In} {B : ℕ}
variable {v0 : FVec Ideal S3072x1024 .bf16} {v2 : FVec Ideal S1x1024 .f32} {v3 v20 : FVec Ideal S256x1024 .f32} {v4 : FVec Ideal S256x3072 .bf16}
  (h0 : Rows v0 I.w 0) (h2 : Rows v2 I.gn 0) (h3 : Rows v3 I.h B) (h4 : Rows v4 I.a B) (h20 : Rows v20 I.tt B)

include h0 in
theorem p2 : Rows (k0_pay2 (F := Ideal) v0) I.w 0 := by
  intro ρ j
  unfold k0_pay2
  pointwise
  exact (h0 ρ j).trans (by rw [Nat.zero_add])

include h0 h3 h4 in
theorem p14 : Rows (k0_pay14 (F := Ideal) v0 v3 v4) I.ho B := by
  intro ρ j
  unfold k0_pay14
  pointwise
  simp only [h0 _ _, h3 _ _, h4 _ _, Nat.zero_add]
  rfl

include h0 h2 h3 h4 h20 in
theorem p15 : Rows (k0_pay15 (F := Ideal) v0 v2 v3 v4 v20) I.er B := by
  intro ρ j
  unfold k0_pay15
  pointwise
  simp only [p14 h0 h3 h4 _ _, h2 _ _, h20 _ _]
  rfl

include h0 h2 h3 h4 h20 in
theorem p16 : Rows (k0_pay16 (F := Ideal) v0 v2 v3 v4 v20) I.dn B := by
  intro ρ j
  unfold k0_pay16
  pointwise
  rw [p15 h0 h2 h3 h4 h20]
  rfl

include h0 h3 h4 in
theorem p17 : Rows (k0_pay17 (F := Ideal) v0 v3 v4) (fun r i => I.ho r i * I.ho r i) B := by
  intro ρ j
  unfold k0_pay17
  pointwise
  rw [p14 h0 h3 h4]

section

variable {v61 v77 v78 v75 : FVec Ideal S256x1024 .f32} (h61 : Rows v61 I.ho B) (h77 : Rows v77 I.dn B) (h78 : Rows v78 (fun r i => I.ho r i * I.ho r i) B)
  (h75 : Rows v75 I.er B)

include h78 in
theorem p18 (ρ : Fin 256) : k0_pay18 (F := Ideal) v78 (ix2 ρ 0) = I.rr (B + ρ.val) := by
  unfold k0_pay18
  pointwise
  simp only [h78 _ _]
  rfl

include h61 h78 in
theorem p19 : Rows (k0_pay19 (F := Ideal) v61 v78) I.xh B := by
  intro ρ j
  unfold k0_pay19
  pointwise
  rw [p18 h78, h61]
  rfl

include h2 h61 h77 h78 in
theorem p20 : Rows (k0_pay20 (F := Ideal) v2 v61 v77 v78) I.dx B := by
  intro ρ j
  unfold k0_pay20
  pointwise
  simp only [p18 h78, p19 h61 h78 _ _, h77 _ _, h2 _ _]
  rfl

include h2 h61 h77 h78 in
theorem p21 : Rows (k0_pay21 (F := Ideal) v2 v61 v77 v78) I.dx B := by
  intro ρ j
  unfold k0_pay21
  pointwise
  exact p20 h2 h61 h77 h78 ρ j

include h61 h77 h78 in
theorem p22 (v36 : FVec Ideal S1x1024 .f32) (j : Fin 1024) :
    k0_pay22 (F := Ideal) v36 v61 v77 v78 (ix2 0 j) = v36 (ix2 0 j) + ∑ ρ : Fin 256, I.tg j (B + ρ.val) := by
  unfold k0_pay22
  pointwise
  simp only [h77 _ _, p19 h61 h78 _ _]
  rfl

include h75 in
theorem p13 (j : Fin 1024) : k0_pay13 (F := Ideal) v75 (ix2 0 j) = ∑ ρ : Fin 256, I.ls j (B + ρ.val) := by
  unfold k0_pay13
  pointwise
  simp only [h75 _ _]
  rw [lit_c, sum_mul_real _ _ (by norm_num), ← lit_c]
  rfl

include h75 in
theorem p23 (v56 : FVec Ideal S1x1024 .f32) (j : Fin 1024) :
    k0_pay23 (F := Ideal) v56 v75 (ix2 0 j) = v56 (ix2 0 j) + ∑ ρ : Fin 256, I.ls j (B + ρ.val) := by
  unfold k0_pay23
  pointwise
  simp only [h75 _ _]
  rw [lit_c, sum_mul_real _ _ (by norm_num), ← lit_c]
  rfl

end

include h0 h3 h4 in
theorem p3 : Rows (k0_pay3 (F := Ideal) v0 v3 v4) I.ho B := p14 (p2 h0) h3 h4

include h0 h2 h3 h4 h20 in
theorem p4 : Rows (k0_pay4 (F := Ideal) v0 v2 v3 v4 v20) I.er B := p15 (p2 h0) h2 h3 h4 h20

include h0 h2 h3 h4 h20 in
theorem p5 : Rows (k0_pay5 (F := Ideal) v0 v2 v3 v4 v20) I.dn B := p16 (p2 h0) h2 h3 h4 h20

include h0 h3 h4 in
theorem p6 (ρ : Fin 256) : k0_pay6 (F := Ideal) v0 v3 v4 (ix2 ρ 0) = I.rr (B + ρ.val) := p18 (v78 := k0_pay17 (k0_pay2 v0) v3 v4) (p17 (p2 h0) h3 h4) ρ

include h0 h3 h4 in
theorem p7 : Rows (k0_pay7 (F := Ideal) v0 v3 v4) I.xh B := p19 (p3 h0 h3 h4) (p17 (p2 h0) h3 h4)

include h0 h2 h3 h4 h20 in
theorem p8 (j : Fin 1024) : k0_pay8 (F := Ideal) v0 v2 v3 v4 v20 (ix2 0 j) = ∑ ρ : Fin 256, I.tg j (B + ρ.val) := by
  unfold k0_pay8
  pointwise
  simp only [p5 h0 h2 h3 h4 h20 _ _, p7 h0 h3 h4 _ _]
  rfl

include h0 h2 h3 h4 h20 in
theorem p11 : Rows (k0_pay11 (F := Ideal) (k0_pay6 v0 v3 v4) (k0_pay7 v0 v3 v4) (k0_pay9 v0 v2 v3 v4 v20) (k0_pay10 v0 v2 v3 v4 v20)) I.dx B :=
  p20 h2 (p3 h0 h3 h4) (p5 h0 h2 h3 h4 h20) (p17 (p2 h0) h3 h4)

include h0 h2 h3 h4 h20 in
theorem p12 : Rows (k0_pay12 (F := Ideal) (k0_pay6 v0 v3 v4) (k0_pay7 v0 v3 v4) (k0_pay9 v0 v2 v3 v4 v20) (k0_pay10 v0 v2 v3 v4 v20)) I.dx B :=
  p21 h2 (p3 h0 h3 h4) (p5 h0 h2 h3 h4 h20) (p17 (p2 h0) h3 h4)

end Cert.Lh
-- ==== Proof.LhWin.lean ====
/-
  What a grid point of the loss call reads and writes, and the four arrays at the end.
-/
module

public import proofs.«01_k».proof.Proof.LhPay
public import proofs.«01_k».proof.Proof.WgSum
public import proofs.«01_k».proof.Proof.Ff
public import Idealize.ShloMosaic.Lib.StableHlo.RunRead

@[expose] public section

set_option maxRecDepth 16384

noncomputable section

open Idealize.ShloMosaic Idealize.ShloMosaic.TcCoe Idealize.SL.Sem Idealize.ShloMosaic.StableHlo

namespace Cert.Lh

open Cert.LossHeadIdeal Cert.LossHeadIdeal.Gen Cert.LossHeadIdeal.Value
open Cert.Even (Rows rd2 ld2 canon2 canonNot2 emb2 zero_off)
open Cert.Ff (part part' all all' Low)
open Cert.Wg (first first_one first_succ first_all)

variable (m : (ℓ : Loc nD τ sig) → Buf (Elt Ideal) ℓ) (c : Dev nD) (t : Fin cfg0.N)

/-- A row number within the arrays. -/
def row (r : ℕ) : Fin 4096 := ⟨r % 4096, Nat.mod_lt _ (by decide)⟩

theorem row_val (r : Fin 4096) : row r.val = r := Fin.ext (Nat.mod_eq_of_lt r.isLt)

def wrow (r : ℕ) : Fin 3072 := ⟨r % 3072, Nat.mod_lt _ (by decide)⟩

theorem wrow_val (r : Fin 3072) : wrow r.val = r := Fin.ext (Nat.mod_eq_of_lt r.isLt)

/-- The arguments. -/
def inp : In where
  a r k := (m (c, Proc.tc.devRef main_arg0) : FVec Ideal S4096x3072 .f32) (ix2 (row r) k)
  w k i := (m (c, Proc.tc.devRef main_arg1) : FVec Ideal S3072x1024 .f32) (ix2 (wrow k) i)
  h r i := (m (c, Proc.tc.devRef main_arg2) : FVec Ideal S4096x1024 .f32) (ix2 (row r) i)
  gn _ i := (m (c, Proc.tc.devRef main_arg3) : FVec Ideal S1x1024 .f32) (ix2 0 i)
  tt r i := (m (c, Proc.tc.devRef main_arg4) : FVec Ideal S4096x1024 .f32) (ix2 (row r) i)

theorem V0 (r : ℕ) (k : Fin 3072) : (V m c main_v0 : FVec Ideal S4096x3072 .bf16) (ix2 (row r) k) = (inp m c).a r k := by
  unfold V inp; after_reads_simp; rfl
theorem V1 (k : ℕ) (i : Fin 1024) : (V m c main_v1 : FVec Ideal S3072x1024 .bf16) (ix2 (wrow k) i) = (inp m c).w k i := by
  unfold V inp; after_reads_simp; rfl
theorem V2 (r : ℕ) (i : Fin 1024) : (V m c main_arg2 : FVec Ideal S4096x1024 .f32) (ix2 (row r) i) = (inp m c).h r i := by
  unfold V inp; after_reads_simp
theorem V3 (r : ℕ) (i : Fin 1024) : (V m c main_arg3 : FVec Ideal S1x1024 .f32) (ix2 0 i) = (inp m c).gn r i := by
  unfold V inp; after_reads_simp
theorem V4 (r : ℕ) (i : Fin 1024) : (V m c main_arg4 : FVec Ideal S4096x1024 .f32) (ix2 (row r) i) = (inp m c).tt r i := by
  unfold V inp; after_reads_simp

theorem idx_row : ∀ t : Fin grid0.N, (win0_0.index t 0 = t.val ∧ win0_0.index t 1 = 0) ∧ (win0_2.index t 0 = t.val ∧ win0_2.index t 1 = 0)
    ∧ (win0_4.index t 0 = t.val ∧ win0_4.index t 1 = 0) ∧ (win0_5.index t 0 = t.val ∧ win0_5.index t 1 = 0) ∧ (win0_6.index t 0 = t.val ∧ win0_6.index t 1 = 0) := by
  decide +kernel

theorem idx_whole : ∀ t : Fin grid0.N, (win0_1.index t 0 = 0 ∧ win0_1.index t 1 = 0) ∧ (win0_3.index t 0 = 0 ∧ win0_3.index t 1 = 0)
    ∧ (win0_7.index t 0 = 0 ∧ win0_7.index t 1 = 0) ∧ (win0_8.index t 0 = 0 ∧ win0_8.index t 1 = 0) := by
  decide +kernel

theorem t_lt : t.val < 8 := lt_of_lt_of_eq t.isLt N_0

theorem off {n x : ℕ} (h : n = t.val) (hx : x < 512) : n * 512 + 1 * x = (row (t.val * 512 + x)).val := by
  have := t_lt t
  show _ = (t.val * 512 + x) % 4096
  rw [Nat.mod_eq_of_lt (by omega), h]; omega

theorem iblk0 : Rows (φ := .bf16) (iblk m c 0 t : FVec Ideal S512x3072 .bf16) (inp m c).a (t.val * 512) := fun ρ k =>
  (rd2 (V m c main_v0 : FVec Ideal S4096x3072 .bf16) _ _ k (off t (idx_row t).1.1 ρ.isLt) (zero_off (idx_row t).1.2)).trans (V0 m c _ k)
theorem iblk1 : Rows (φ := .bf16) (iblk m c 1 t : FVec Ideal S3072x1024 .bf16) (inp m c).w 0 := fun ρ k =>
  (rd2 (V m c main_v1 : FVec Ideal S3072x1024 .bf16) _ (wrow (0 + ρ.val)) k
    ((zero_off (idx_whole t).1.1).trans (by rw [Nat.zero_add, wrow_val]; rfl)) (zero_off (idx_whole t).1.2)).trans (V1 m c _ k)
theorem iblk2 : Rows (φ := .f32) (iblk m c 2 t : FVec Ideal S512x1024 .f32) (inp m c).h (t.val * 512) := fun ρ k =>
  (rd2 (V m c main_arg2 : FVec Ideal S4096x1024 .f32) _ _ k (off t (idx_row t).2.1.1 ρ.isLt) (zero_off (idx_row t).2.1.2)).trans (V2 m c _ k)
theorem iblk3 : Rows (φ := .f32) (iblk m c 3 t : FVec Ideal S1x1024 .f32) (inp m c).gn 0 := fun ρ k =>
  (rd2 (V m c main_arg3 : FVec Ideal S1x1024 .f32) _ ρ k (zero_off (idx_whole t).2.1.1) (zero_off (idx_whole t).2.1.2)).trans
    (by rw [Subsingleton.elim ρ 0]; exact V3 m c _ k)
theorem iblk4 : Rows (φ := .f32) (iblk m c 4 t : FVec Ideal S512x1024 .f32) (inp m c).tt (t.val * 512) := fun ρ k =>
  (rd2 (V m c main_arg4 : FVec Ideal S4096x1024 .f32) _ _ k (off t (idx_row t).2.2.1.1 ρ.isLt) (zero_off (idx_row t).2.2.1.2)).trans (V4 m c _ k)

theorem dx_A (h : t.val % 8 = 0) (h' : ¬1 ≤ t.val) : Rows (φ := .f32) (outsAt0 m c t.val t.isLt).1 (inp m c).dx (t.val * 512) := by
  intro ρ j
  rw [outsAt0_A m c t h h' h h']
  dsimp only
  unfold out0_A_5
  rw [View.read_writes_eq_canon _ _ _ (fun y => cover0_A_5 (y := y) ..)]
  unfold kernelRun0_A
  dsimp only
  sl_unfold_words
  simp only [View.readAt_eq_ld, Memref.IsWhole.read_unread]
  refine Low.done (e := .f32) (q := fun x => x) ?_ ρ j
  exact .cons rfl (.cons rfl .nil (p11 (all' (iblk1 m c t) _) (all (iblk3 m c t) _) (part (o := 0) (iblk2 m c t) _) (part' (o := 0) (iblk0 m c t) _) (part (o := 0) (iblk4 m c t) _)))
    (p20 (all (iblk3 m c t) _) (p14 (p2 (all' (iblk1 m c t) _)) (part (o := 256) (iblk2 m c t) _) (part' (o := 256) (iblk0 m c t) _)) (p16 (p2 (all' (iblk1 m c t) _)) (all (iblk3 m c t) _) (part (o := 256) (iblk2 m c t) _) (part' (o := 256) (iblk0 m c t) _) (part (o := 256) (iblk4 m c t) _)) (p17 (p2 (all' (iblk1 m c t) _)) (part (o := 256) (iblk2 m c t) _) (part' (o := 256) (iblk0 m c t) _)))

theorem dx_B (h : ¬t.val % 8 = 0) (h' : 1 ≤ t.val) : Rows (φ := .f32) (outsAt0 m c t.val t.isLt).1 (inp m c).dx (t.val * 512) := by
  intro ρ j
  rw [outsAt0_B m c t h h' h h']
  dsimp only
  unfold out0_B_5
  rw [View.read_writes_eq_canon _ _ _ (fun y => cover0_B_5 (y := y) ..)]
  unfold kernelRun0_B
  dsimp only
  sl_unfold_words
  simp only [View.readAt_eq_ld, Memref.IsWhole.read_unread]
  refine Low.done (e := .f32) (q := fun x => x) ?_ ρ j
  exact .cons rfl (.cons rfl .nil (p11 (all' (iblk1 m c t) _) (all (iblk3 m c t) _) (part (o := 0) (iblk2 m c t) _) (part' (o := 0) (iblk0 m c t) _) (part (o := 0) (iblk4 m c t) _)))
    (p20 (all (iblk3 m c t) _) (p14 (p2 (all' (iblk1 m c t) _)) (part (o := 256) (iblk2 m c t) _) (part' (o := 256) (iblk0 m c t) _)) (p16 (p2 (all' (iblk1 m c t) _)) (all (iblk3 m c t) _) (part (o := 256) (iblk2 m c t) _) (part' (o := 256) (iblk0 m c t) _) (part (o := 256) (iblk4 m c t) _)) (p17 (p2 (all' (iblk1 m c t) _)) (part (o := 256) (iblk2 m c t) _) (part' (o := 256) (iblk0 m c t) _)))

theorem dx_t : Rows (φ := .f32) (outsAt0 m c t.val t.isLt).1 (inp m c).dx (t.val * 512) := by
  have := t_lt t
  by_cases h : t.val % 8 = 0
  · exact dx_A m c t h (by omega)
  · exact dx_B m c t h (by omega)

theorem dxb_A (h : t.val % 8 = 0) (h' : ¬1 ≤ t.val) : Rows (φ := .bf16) (outsAt0 m c t.val t.isLt).2.1 (inp m c).dx (t.val * 512) := by
  intro ρ j
  rw [outsAt0_A m c t h h' h h']
  dsimp only
  unfold out0_A_6
  rw [View.read_writes_eq_canon _ _ _ (fun y => cover0_A_6 (y := y) ..)]
  unfold kernelRun0_A
  dsimp only
  sl_unfold_words
  simp only [View.readAt_eq_ld, Memref.IsWhole.read_unread]
  refine Low.done (e := .bf16) (q := fun x => x) ?_ ρ j
  exact .cons rfl (.cons rfl .nil (p12 (all' (iblk1 m c t) _) (all (iblk3 m c t) _) (part (o := 0) (iblk2 m c t) _) (part' (o := 0) (iblk0 m c t) _) (part (o := 0) (iblk4 m c t) _)))
    (p21 (all (iblk3 m c t) _) (p14 (p2 (all' (iblk1 m c t) _)) (part (o := 256) (iblk2 m c t) _) (part' (o := 256) (iblk0 m c t) _)) (p16 (p2 (all' (iblk1 m c t) _)) (all (iblk3 m c t) _) (part (o := 256) (iblk2 m c t) _) (part' (o := 256) (iblk0 m c t) _) (part (o := 256) (iblk4 m c t) _)) (p17 (p2 (all' (iblk1 m c t) _)) (part (o := 256) (iblk2 m c t) _) (part' (o := 256) (iblk0 m c t) _)))

theorem dxb_B (h : ¬t.val % 8 = 0) (h' : 1 ≤ t.val) : Rows (φ := .bf16) (outsAt0 m c t.val t.isLt).2.1 (inp m c).dx (t.val * 512) := by
  intro ρ j
  rw [outsAt0_B m c t h h' h h']
  dsimp only
  unfold out0_B_6
  rw [View.read_writes_eq_canon _ _ _ (fun y => cover0_B_6 (y := y) ..)]
  unfold kernelRun0_B
  dsimp only
  sl_unfold_words
  simp only [View.readAt_eq_ld, Memref.IsWhole.read_unread]
  refine Low.done (e := .bf16) (q := fun x => x) ?_ ρ j
  exact .cons rfl (.cons rfl .nil (p12 (all' (iblk1 m c t) _) (all (iblk3 m c t) _) (part (o := 0) (iblk2 m c t) _) (part' (o := 0) (iblk0 m c t) _) (part (o := 0) (iblk4 m c t) _)))
    (p21 (all (iblk3 m c t) _) (p14 (p2 (all' (iblk1 m c t) _)) (part (o := 256) (iblk2 m c t) _) (part' (o := 256) (iblk0 m c t) _)) (p16 (p2 (all' (iblk1 m c t) _)) (all (iblk3 m c t) _) (part (o := 256) (iblk2 m c t) _) (part' (o := 256) (iblk0 m c t) _) (part (o := 256) (iblk4 m c t) _)) (p17 (p2 (all' (iblk1 m c t) _)) (part (o := 256) (iblk2 m c t) _) (part' (o := 256) (iblk0 m c t) _)))

theorem dxb_t : Rows (φ := .bf16) (outsAt0 m c t.val t.isLt).2.1 (inp m c).dx (t.val * 512) := by
  have := t_lt t
  by_cases h : t.val % 8 = 0
  · exact dxb_A m c t h (by omega)
  · exact dxb_B m c t h (by omega)

/-- What a point adds, over its two halves. -/
theorem both (f : ℕ → EReal) (B : ℕ) : (∑ ρ : Fin 256, f (B + 0 + ρ.val)) + ∑ ρ : Fin 256, f (B + 256 + ρ.val) = ∑ ρ : Fin 512, f (B + ρ.val) := by
  rw [← Finset.sum_range (fun x => f (B + 0 + x)), ← Finset.sum_range (fun x => f (B + 256 + x)), ← Finset.sum_range (fun x => f (B + x)),
    show 512 = 256 + 256 from rfl, Finset.sum_range_add]
  simp only [Nat.add_zero, Nat.add_assoc]

theorem dgain_A (h : t.val % 8 = 0) (h' : ¬1 ≤ t.val) (j : Fin 1024) :
    (outsAt0 m c t.val t.isLt).2.2.1 (ix2 0 j) = ∑ ρ : Fin 512, (inp m c).tg j (t.val * 512 + ρ.val) := by
  rw [outsAt0_A m c t h h' h h']
  dsimp only
  unfold out0_A_7
  rw [View.read_writes_eq_canon _ _ _ (fun y => cover0_A_7 (y := y) ..)]
  unfold kernelRun0_A
  dsimp only
  sl_unfold_words
  simp only [View.readAt_eq_ld, Memref.IsWhole.read_unread]
  refine (canon2 _ 0 j 0 j (Nat.zero_add _).symm (Nat.zero_add _).symm).trans ?_
  exact (p22 (p14 (p2 (all' (iblk1 m c t) _)) (part (o := 256) (iblk2 m c t) _) (part' (o := 256) (iblk0 m c t) _)) (p16 (p2 (all' (iblk1 m c t) _)) (all (iblk3 m c t) _) (part (o := 256) (iblk2 m c t) _) (part' (o := 256) (iblk0 m c t) _) (part (o := 256) (iblk4 m c t) _)) (p17 (p2 (all' (iblk1 m c t) _)) (part (o := 256) (iblk2 m c t) _) (part' (o := 256) (iblk0 m c t) _)) _ j).trans ((congrArg (fun x : EReal => x + _) (p8 (all' (iblk1 m c t) _) (all (iblk3 m c t) _) (part (o := 0) (iblk2 m c t) _) (part' (o := 0) (iblk0 m c t) _) (part (o := 0) (iblk4 m c t) _) j)).trans (both ((inp m c).tg j) _))

theorem dgain_B (h : ¬t.val % 8 = 0) (h' : 1 ≤ t.val) (j : Fin 1024) :
    (outsAt0 m c t.val t.isLt).2.2.1 (ix2 0 j) = (outsAt0 m c (t.val - 1) (Nat.lt_of_le_of_lt (Nat.sub_le _ _) t.isLt)).2.2.1 (ix2 0 j)
      + ∑ ρ : Fin 512, (inp m c).tg j (t.val * 512 + ρ.val) := by
  rw [outsAt0_B m c t h h' h h']
  dsimp only
  unfold out0_B_7
  rw [View.read_writes_eq_canon _ _ _ (fun y => cover0_B_7 (y := y) ..)]
  unfold kernelRun0_B
  dsimp only
  sl_unfold_words
  simp only [View.readAt_eq_ld, Memref.IsWhole.read_unread]
  refine (canon2 _ 0 j 0 j (Nat.zero_add _).symm (Nat.zero_add _).symm).trans ?_
  unfold k0_pay24
  pointwise
  exact congrArg₂ (fun a b : EReal => a + b) rfl ((p22 (p14 (p2 (all' (iblk1 m c t) _)) (part (o := 256) (iblk2 m c t) _) (part' (o := 256) (iblk0 m c t) _)) (p16 (p2 (all' (iblk1 m c t) _)) (all (iblk3 m c t) _) (part (o := 256) (iblk2 m c t) _) (part' (o := 256) (iblk0 m c t) _) (part (o := 256) (iblk4 m c t) _)) (p17 (p2 (all' (iblk1 m c t) _)) (part (o := 256) (iblk2 m c t) _) (part' (o := 256) (iblk0 m c t) _)) _ j).trans ((congrArg (fun x : EReal => x + _) (p8 (all' (iblk1 m c t) _) (all (iblk3 m c t) _) (part (o := 0) (iblk2 m c t) _) (part' (o := 0) (iblk0 m c t) _) (part (o := 0) (iblk4 m c t) _) j)).trans (both ((inp m c).tg j) _)))

theorem dgain_acc (j : Fin 1024) : ∀ (n : ℕ) (h : n < cfg0.N), (outsAt0 m c n h).2.2.1 (ix2 0 j) = first 512 ((inp m c).tg j) (n + 1)
  | 0, h => (dgain_A m c ⟨0, h⟩ rfl (Nat.not_succ_le_zero 0) j).trans (first_one _).symm
  | n + 1, h =>
    (dgain_B m c ⟨n + 1, h⟩ (by have := lt_of_lt_of_eq h N_0; show ¬(n + 1) % 8 = 0; omega) (Nat.le_add_left 1 n) j).trans
      ((congrArg (fun x : EReal => x + _) (dgain_acc j n (Nat.lt_of_succ_lt h))).trans (first_succ _ _).symm)

theorem loss_A (h : t.val % 8 = 0) (h' : ¬1 ≤ t.val) (j : Fin 1024) :
    (outsAt0 m c t.val t.isLt).2.2.2 (ix2 0 j) = ∑ ρ : Fin 512, (inp m c).ls j (t.val * 512 + ρ.val) := by
  rw [outsAt0_A m c t h h' h h']
  dsimp only
  unfold out0_A_8
  rw [View.read_writes_eq_canon _ _ _ (fun y => cover0_A_8 (y := y) ..)]
  unfold kernelRun0_A
  dsimp only
  sl_unfold_words
  simp only [View.readAt_eq_ld, Memref.IsWhole.read_unread]
  refine (canon2 _ 0 j 0 j (Nat.zero_add _).symm (Nat.zero_add _).symm).trans ?_
  exact (p23 (p15 (p2 (all' (iblk1 m c t) _)) (all (iblk3 m c t) _) (part (o := 256) (iblk2 m c t) _) (part' (o := 256) (iblk0 m c t) _) (part (o := 256) (iblk4 m c t) _)) _ j).trans ((congrArg (fun x : EReal => x + _) (p13 (p4 (all' (iblk1 m c t) _) (all (iblk3 m c t) _) (part (o := 0) (iblk2 m c t) _) (part' (o := 0) (iblk0 m c t) _) (part (o := 0) (iblk4 m c t) _)) j)).trans (both ((inp m c).ls j) _))

theorem loss_B (h : ¬t.val % 8 = 0) (h' : 1 ≤ t.val) (j : Fin 1024) :
    (outsAt0 m c t.val t.isLt).2.2.2 (ix2 0 j) = (outsAt0 m c (t.val - 1) (Nat.lt_of_le_of_lt (Nat.sub_le _ _) t.isLt)).2.2.2 (ix2 0 j)
      + ∑ ρ : Fin 512, (inp m c).ls j (t.val * 512 + ρ.val) := by
  rw [outsAt0_B m c t h h' h h']
  dsimp only
  unfold out0_B_8
  rw [View.read_writes_eq_canon _ _ _ (fun y => cover0_B_8 (y := y) ..)]
  unfold kernelRun0_B
  dsimp only
  sl_unfold_words
  simp only [View.readAt_eq_ld, Memref.IsWhole.read_unread]
  refine (canon2 _ 0 j 0 j (Nat.zero_add _).symm (Nat.zero_add _).symm).trans ?_
  unfold k0_pay1
  pointwise
  exact congrArg₂ (fun a b : EReal => a + b) rfl ((p23 (p15 (p2 (all' (iblk1 m c t) _)) (all (iblk3 m c t) _) (part (o := 256) (iblk2 m c t) _) (part' (o := 256) (iblk0 m c t) _) (part (o := 256) (iblk4 m c t) _)) _ j).trans ((congrArg (fun x : EReal => x + _) (p13 (p4 (all' (iblk1 m c t) _) (all (iblk3 m c t) _) (part (o := 0) (iblk2 m c t) _) (part' (o := 0) (iblk0 m c t) _) (part (o := 0) (iblk4 m c t) _)) j)).trans (both ((inp m c).ls j) _)))

theorem loss_acc (j : Fin 1024) : ∀ (n : ℕ) (h : n < cfg0.N), (outsAt0 m c n h).2.2.2 (ix2 0 j) = first 512 ((inp m c).ls j) (n + 1)
  | 0, h => (loss_A m c ⟨0, h⟩ rfl (Nat.not_succ_le_zero 0) j).trans (first_one _).symm
  | n + 1, h =>
    (loss_B m c ⟨n + 1, h⟩ (by have := lt_of_lt_of_eq h N_0; show ¬(n + 1) % 8 = 0; omega) (Nat.le_add_left 1 n) j).trans
      ((congrArg (fun x : EReal => x + _) (loss_acc j n (Nat.lt_of_succ_lt h))).trans (first_succ _ _).symm)

/-- The last grid point. -/
def last : Fin cfg0.N := ⟨7, lt_of_lt_of_eq (by decide) N_0.symm⟩

theorem only {t : Fin cfg0.N} (h : t.val % 8 = 7) : t = last := by
  have := t_lt t
  exact Fin.ext (by show t.val = 7; omega)

theorem end_dgain (j : Fin 1024) : ((dats m 0 c).arrAt 7 cfg0.N : FVec Ideal S1x1024 .f32) (ix2 0 j) = ∑ r : Fin 4096, (inp m c).tg j r.val := by
  have hb := congrFun ((dats m 0 c).read_blk_arrAt_eq_flushed 7 (fun t t' h h' hn => absurd ((only ((flush0_7 t).mp h)).trans (only ((flush0_7 t').mp h')).symm) hn)
    cfg0.N last last.isLt ((flush0_7 last).mpr rfl)) (ix2 0 j)
  rw [flushed7] at hb
  refine Eq.trans ?_ (hb.trans ((dgain_acc m c j 7 last.isLt).trans (first_all (N := 4096) _ (by norm_num))))
  exact (rd2 ((dats m 0 c).arrAt 7 cfg0.N : FVec Ideal S1x1024 .f32) _ 0 j (zero_off (idx_whole last).2.2.1.1) (zero_off (idx_whole last).2.2.1.2)).symm

theorem end_loss (j : Fin 1024) : ((dats m 0 c).arrAt 8 cfg0.N : FVec Ideal S1x1024 .f32) (ix2 0 j) = ∑ r : Fin 4096, (inp m c).ls j r.val := by
  have hb := congrFun ((dats m 0 c).read_blk_arrAt_eq_flushed 8 (fun t t' h h' hn => absurd ((only ((flush0_8 t).mp h)).trans (only ((flush0_8 t').mp h')).symm) hn)
    cfg0.N last last.isLt ((flush0_8 last).mpr rfl)) (ix2 0 j)
  rw [flushed8] at hb
  refine Eq.trans ?_ (hb.trans ((loss_acc m c j 7 last.isLt).trans (first_all (N := 4096) _ (by norm_num))))
  exact (rd2 ((dats m 0 c).arrAt 8 cfg0.N : FVec Ideal S1x1024 .f32) _ 0 j (zero_off (idx_whole last).2.2.2.1) (zero_off (idx_whole last).2.2.2.2)).symm

/-- The grid point that writes a row, and the row within its block. -/
def pt (r : Fin 4096) : Fin cfg0.N := ⟨r.val / 512, lt_of_lt_of_eq (Nat.div_lt_of_lt_mul r.isLt) N_0.symm⟩

def rem (r : Fin 4096) : Fin 512 := ⟨r.val % 512, Nat.mod_lt _ (by decide)⟩

theorem pt_rem (r : Fin 4096) : (pt r).val * 512 + (rem r).val = r.val := Nat.div_add_mod' _ _

theorem off_pt {n : ℕ} (r : Fin 4096) (h : n = (pt r).val) : n * 512 + 1 * (rem r).val = r.val := by
  rw [h, Nat.one_mul]; exact pt_rem r

theorem end_dx (r : Fin 4096) (j : Fin 1024) : ((dats m 0 c).arrAt 5 cfg0.N : FVec Ideal S4096x1024 .f32) (ix2 r j) = (inp m c).dx r.val j := by
  have hb := congrFun (blocks5 m c (pt r) (flush0_5 _)) (ix2 (rem r) j)
  rw [flushed5] at hb
  refine Eq.trans ?_ (hb.trans ((dx_t m c (pt r) (rem r) j).trans (congrArg (fun n => (inp m c).dx n j) (pt_rem r))))
  exact (rd2 ((dats m 0 c).arrAt 5 cfg0.N : FVec Ideal S4096x1024 .f32) _ r j (off_pt r (idx_row (pt r)).2.2.2.1.1) (zero_off (idx_row (pt r)).2.2.2.1.2)).symm

theorem end_dxb (r : Fin 4096) (j : Fin 1024) : ((dats m 0 c).arrAt 6 cfg0.N : FVec Ideal S4096x1024 .bf16) (ix2 r j) = (inp m c).dx r.val j := by
  have hb := congrFun (blocks6 m c (pt r) (flush0_6 _)) (ix2 (rem r) j)
  rw [flushed6] at hb
  refine Eq.trans ?_ (hb.trans ((dxb_t m c (pt r) (rem r) j).trans (congrArg (fun n => (inp m c).dx n j) (pt_rem r))))
  exact (rd2 ((dats m 0 c).arrAt 6 cfg0.N : FVec Ideal S4096x1024 .bf16) _ r j (off_pt r (idx_row (pt r)).2.2.2.2.1) (zero_off (idx_row (pt r)).2.2.2.2.2)).symm

end Cert.Lh
-- ==== Proof.LhRef.lean ====
/-
  The reference of the loss and its gradient at an index.
-/
module

public import proofs.«01_k».proof.Proof.LhPay
public import proofs.«01_k».proof.Proof.Gen.LossHeadRefIdeal.Run
public import Idealize.ShloMosaic.Lib.Tactic.CleanTypes
public import Idealize.ShloMosaic.Lib.Pointwise

@[expose] public section

set_option maxRecDepth 16384

noncomputable section

open Idealize.ShloMosaic Idealize.ShloMosaic.TcCoe Idealize.SL.Sem

namespace Cert.Lh

open Cert.LossHeadRefIdeal Cert.LossHeadRefIdeal.Gen Cert.LossHeadRefIdeal.Value
open Cert.Even (ms Re norm_back lit_1024)

theorem lit_2 : Ideal.ofBits .f32 0x40000000#32 = ((2 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_inv : Ideal.ofBits .f32 0x3A800000#32 = ((1 / 1024 : ℝ) : EReal) := by
  simp [Ideal.ofBits, Ideal.ieee, -EReal.coe_mul]; norm_num

/-- The loss's factor as its derivative writes it. -/
theorem scale (x : EReal) : Ideal.div (Ideal.ofBits .f32 0x3F000000#32) (Ideal.ofBits .f32 0x44800000#32)
    * (Ideal.ofBits .f32 0x40000000#32 * x) = x * Ideal.ofBits .f32 0x3A800000#32 := by
  rw [lit_2, lit_half, lit_inv, lit_1024, Ideal.div_coe (by norm_num), ← EReal.coe_mul, ← mul_assoc, ← EReal.coe_mul, mul_comm]
  norm_num

/-- A row's part of the loss, the mean's factor apart. -/
theorem half_mean (x : EReal) : Ideal.ofBits .f32 0x3F000000#32 * Ideal.div x (Ideal.ofBits .f32 0x44800000#32) = x * Ideal.ofBits .f32 0x3A000000#32 := by
  rw [lit_half, lit_c, lit_1024, Ideal.div_coe (by norm_num), mul_left_comm, ← EReal.coe_mul]
  norm_num

variable (m : (ℓ : Loc nD τ sig) → Buf (Elt Ideal) ℓ) (c : Dev nD) (I : In)

/-- The reference's arguments are the given ones. -/
structure Args : Prop where
  a0 : ∀ (r : Fin 4096) (k : Fin 3072), (m ((c.tc : Thread nD τ).loc main_arg0) : FVec Ideal S4096x3072 .f32) (ix2 r k) = I.a r.val k
  a1 : ∀ (k : Fin 3072) (i : Fin 1024), (m ((c.tc : Thread nD τ).loc main_arg1) : FVec Ideal S3072x1024 .f32) (ix2 k i) = I.w k.val i
  a2 : ∀ (r : Fin 4096) (i : Fin 1024), (m ((c.tc : Thread nD τ).loc main_arg2) : FVec Ideal S4096x1024 .f32) (ix2 r i) = I.h r.val i
  a3 : ∀ i : Fin 1024, (m ((c.tc : Thread nD τ).loc main_arg3) : FVec Ideal S1x1024 .f32) (ix2 0 i) = I.gn 0 i
  a4 : ∀ (r : Fin 4096) (i : Fin 1024), (m ((c.tc : Thread nD τ).loc main_arg4) : FVec Ideal S4096x1024 .f32) (ix2 r i) = I.tt r.val i

/-- What the norm's gradient reads is real. -/
structure Real : Prop where
  ho : ∀ r k, Re (I.ho r k)
  dy : ∀ r k, Re (I.dy r k)

variable {m c I} (A : Args m c I) (H : Real I)

include A in
theorem ho_at (r : Fin 4096) (j : Fin 1024) : (addf (m ((c.tc : Thread nD τ).loc main_arg2)) (Host.dotGeneral (φ₁ := .f32) (φ₂ := .f32) dot_S4096x3072_S3072x1024_S4096x1024_1_0_0_1_n_n none (m ((c.tc : Thread nD τ).loc main_arg0)) (m ((c.tc : Thread nD τ).loc main_arg1))) : FVec Ideal S4096x1024 .f32) (ix2 r j) = I.ho r.val j := by
  clean_types
  pointwise
  simp only [A.a0, A.a1, A.a2]
  rfl

section

/-- The mean of the squares of each row, with the small constant. -/
abbrev sqMean (X : FVec Ideal S4096x1024 .f32) : FVec Ideal S4096x1 .f32 :=
  addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- The normalized rows less the target. -/
abbrev diffs (m : (ℓ : Loc nD τ sig) → Buf (Elt Ideal) ℓ) (c : Dev nD) (X : FVec Ideal S4096x1024 .f32) : FVec Ideal S4096x1024 .f32 :=
  subf (mulf (mulf X (broadcastInDim S4096x1024 ![0, 1] bcast_S4096x1_S4096x1024_0_1 (Host.rsqrt (sqMean X)))) (broadcastInDim S4096x1024 ![0, 1] bcast_S1x1024_S4096x1024_0_1 (m ((c.tc : Thread nD τ).loc main_arg3)))) (m ((c.tc : Thread nD τ).loc main_arg4))

/-- The gradient of the loss in the normalized rows. -/
abbrev dys (m : (ℓ : Loc nD τ sig) → Buf (Elt Ideal) ℓ) (c : Dev nD) (X : FVec Ideal S4096x1024 .f32) : FVec Ideal S4096x1024 .f32 :=
  mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (diffs m c X))

variable {X : FVec Ideal S4096x1024 .f32} (hX : ∀ (r : Fin 4096) (k : Fin 1024), X (ix2 r k) = I.ho r.val k)

include A H hX in
theorem dx_of (r : Fin 4096) (j : Fin 1024) : (addf (addf (mulf (mulf (dys m c X) (broadcastInDim S4096x1024 ![0, 1] bcast_S1x1024_S4096x1024_0_1 (m ((c.tc : Thread nD τ).loc main_arg3)))) (broadcastInDim S4096x1024 ![0, 1] bcast_S4096x1_S4096x1024_0_1 (Host.rsqrt (sqMean X)))) (mulf X (broadcastInDim S4096x1024 ![0] bcast_S4096_S4096x1024_0 (Host.reduceAdd (Host.divf (mulf (shapeCast S4096x1 (Host.reduceAdd (mulf X (mulf (dys m c X) (broadcastInDim S4096x1024 ![0, 1] bcast_S1x1024_S4096x1024_0_1 (m ((c.tc : Thread nD τ).loc main_arg3))))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (sqMean X)) (sqMean X)))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast S4096x1 (Host.reduceAdd (mulf X (mulf (dys m c X) (broadcastInDim S4096x1024 ![0, 1] bcast_S1x1024_S4096x1024_0_1 (m ((c.tc : Thread nD τ).loc main_arg3))))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (sqMean X)) (sqMean X)))) (broadcastInDim S4096x1 ![] bcast_S_S4096x1 (constant S_ .f32 0x44800000#32))) (constant S_ .f32 0x00000000#32) reducesTo_S4096x1_S4096_d1 h_S_)) X) : FVec Ideal S4096x1024 .f32) (ix2 r j) = I.dx r.val j := by
  unfold dys diffs sqMean
  clean_types
  pointwise
  simp only [Fin.sum_univ_one, hX, A.a3, A.a4, scale]
  refine Eq.trans ?_ ((norm_back (I.ho r.val) (I.dy r.val) (H.ho _) (H.dy _) 0 j).trans (zero_add _))
  rw [zero_add]
  rfl

include A hX in
theorem tg_of (j : Fin 1024) : (shapeCast S1x1024 (Host.reduceAdd (mulf (mulf X (broadcastInDim S4096x1024 ![0, 1] bcast_S4096x1_S4096x1024_0_1 (Host.rsqrt (sqMean X)))) (dys m c X)) (constant S_ .f32 0x00000000#32) reducesTo_S4096x1024_S1024_d0 h_S_) shapeCasts_S1024_S1x1024 : FVec Ideal S1x1024 .f32) (ix2 0 j) = ∑ r : Fin 4096, I.tg j r.val := by
  unfold dys diffs sqMean
  clean_types
  pointwise
  refine Finset.sum_congr rfl fun r _ => ?_
  simp only [hX, A.a3, A.a4, scale]
  exact mul_comm (I.xh r.val j) (I.dn r.val j)

include A hX in
theorem ls_of (j : Fin 1024) : (mulf (broadcastInDim S1x1024 ![] bcast_S_S1x1024 (constant S_ .f32 0x3F000000#32)) (broadcastInDim S1x1024 ![1] bcast_S1024_S1x1024_1 (Host.reduceAdd (Host.divf (mulf (diffs m c X) (diffs m c X)) (broadcastInDim S4096x1024 ![] bcast_S_S4096x1024 (constant S_ .f32 0x44800000#32))) (constant S_ .f32 0x00000000#32) reducesTo_S4096x1024_S1024_d0 h_S_)) : FVec Ideal S1x1024 .f32) (ix2 0 j) = ∑ r : Fin 4096, I.ls j r.val := by
  unfold diffs sqMean
  clean_types
  pointwise
  simp only [hX, A.a3, A.a4]
  rw [mul_comm, lit_half, sum_mul_real _ _ (by norm_num)]
  refine Finset.sum_congr rfl fun r _ => ?_
  rw [mul_comm, ← lit_half]
  exact half_mean _

end

include A H in
theorem ref_dx (r : Fin 4096) (j : Fin 1024) : (res_main_v50 m c : FVec Ideal S4096x1024 .f32) (ix2 r j) = I.dx r.val j := by
  unfold res_main_v50
  exact dx_of A H (ho_at A) r j

include A H in
theorem ref_dxb (r : Fin 4096) (j : Fin 1024) : (res_main_v51 m c : FVec Ideal S4096x1024 .bf16) (ix2 r j) = I.dx r.val j := by
  unfold res_main_v51
  exact dx_of A H (ho_at A) r j

end Cert.Lh
-- ==== Proof.LhClaims.lean ====
/-
  The claims of the last block and the loss.
-/
module

public import proofs.«01_k».proof.Proof.LhWin
public import proofs.«01_k».proof.Proof.LhRef
public import proofs.«01_k».proof.Proof.Even
public import proofs.«01_k».proof.Proof.Gen.LossHead.Frame
public import proofs.«01_k».proof.Proof.Gen.Pre_finite10

@[expose] public section

set_option maxRecDepth 16384

noncomputable section

open Idealize.ShloMosaic Idealize.ShloMosaic.TcCoe Idealize.SL.Sem Idealize.ShloMosaic.StableHlo

namespace Cert.Lh

open Cert.Even (Re all_real ms ms_real rsqrt_real)

theorem frame_k : Cert.quiescent_LossHead := fun m ρ _ => Cert.LossHead.Gen.frame m ρ

theorem frame_ki : Cert.quiescent_LossHeadIdeal := fun m ρ _ => Cert.LossHeadIdeal.Gen.frame m ρ

theorem frame_ri : Cert.quiescent_LossHeadRefIdeal := fun m ρ _ =>
  (θ_run Cert.LossHeadRefIdeal.defs _ _).mono (fun r h => ⟨fun c => (h c).2.2.2.2, sem_eq_zero_of_no_sems (by decide) r.2⟩)
    (Cert.LossHeadRefIdeal.Value.run (F := Ideal) m ρ)

theorem real_of {x0 : FVec Ideal Cert.Pre_finite10.S4096x3072 .f32} {x1 : FVec Ideal Cert.Pre_finite10.S3072x1024 .f32}
    {x2 x4 : FVec Ideal Cert.Pre_finite10.S4096x1024 .f32} {x3 : FVec Ideal Cert.Pre_finite10.S1x1024 .f32}
    (h : Cert.Pre_finite10.fn (F := Ideal) x0 x1 x2 x3 x4 = fun _ => 1#1) :
    (∀ i, Re (x0 i)) ∧ (∀ i, Re (x1 i)) ∧ (∀ i, Re (x2 i)) ∧ (∀ i, Re (x3 i)) ∧ ∀ i, Re (x4 i) := by
  have : Subsingleton Cert.Pre_finite10.S_.Idx := ⟨fun a b => funext fun k => k.elim0⟩
  have e := congrFun h (fun k => k.elim0)
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨all_real h0 fun _ => rfl, all_real h1 fun _ => rfl, all_real h2 fun _ => rfl, all_real h3 fun _ => rfl, all_real h4 fun _ => rfl⟩

/-- The norm's factor of real rows is real. -/
theorem rr_real {x : Fin 1024 → EReal} (h : ∀ k, Re (x k)) : Re (Ideal.rsqrt (ms x)) := by
  choose a ha using h
  obtain rfl : x = fun k => (a k : EReal) := funext ha
  obtain ⟨v, hv, hm⟩ := ms_real a
  rw [hm, rsqrt_real hv]
  exact ⟨_, rfl⟩

theorem alg : Cert.algebraic_LossHeadIdeal_LossHeadRefIdeal_pre_finite10 := by
  intro m ρ m' ρ' hpre hag
  refine ⟨_, _, _, _, Cert.LossHeadIdeal.Value.run_blocks m ρ, ?_⟩
  refine (θ_run Cert.LossHeadRefIdeal.defs _ _).mono (fun _ h c => ?_) (Cert.LossHeadRefIdeal.Value.run (F := Ideal) m' ρ')
  obtain ⟨h0, h1, h2, h3, hr⟩ := h c
  have A : Args m' c (inp m c) := by
    obtain ⟨e0, e1, e2, e3, e4⟩ := hag c
    refine ⟨fun r k => ?_, fun k i => ?_, fun r i => ?_, fun i => ?_, fun r i => ?_⟩
    · simp only [inp, row_val]; exact congrFun e0 _
    · simp only [inp, wrow_val]; exact congrFun e1 _
    · simp only [inp, row_val]; exact congrFun e2 _
    · exact congrFun e3 _
    · simp only [inp, row_val]; exact congrFun e4 _
  have H : Real (inp m c) := by
    obtain ⟨r0, r1, r2, r3, r4⟩ := real_of (hpre c)
    have ho : ∀ r k, Re ((inp m c).ho r k) := fun r k => (r2 _).add (Re.sum fun _ => (r0 _).mul (r1 _))
    exact ⟨ho, fun r k => ((((((ho r k).mul (rr_real (ho r))).mul (r3 _)).sub (r4 _)).mul ⟨_, lit_inv⟩)).mul (r3 _)⟩
  refine ⟨h0.trans ?_, h1.trans ?_, h2.trans ?_, h3.trans ?_, hr⟩
  · funext i
    obtain ⟨r, j, rfl⟩ : ∃ (r : Fin 4096) (j : Fin 1024), i = ix2 r j := ⟨i 0, i 1, eq_ix2 i⟩
    exact (ref_dx A H r j).trans (end_dx m c r j).symm
  · funext i
    obtain ⟨r, j, rfl⟩ : ∃ (r : Fin 4096) (j : Fin 1024), i = ix2 r j := ⟨i 0, i 1, eq_ix2 i⟩
    exact (ref_dxb A H r j).trans (end_dxb m c r j).symm
  · funext i
    obtain ⟨r, j, rfl⟩ : ∃ (r : Fin 1) (j : Fin 1024), i = ix2 r j := ⟨i 0, i 1, eq_ix2 i⟩
    rw [Subsingleton.elim r 0]
    exact (tg_of A (ho_at A) j).trans (end_dgain m c j).symm
  · funext i
    obtain ⟨r, j, rfl⟩ : ∃ (r : Fin 1) (j : Fin 1024), i = ix2 r j := ⟨i 0, i 1, eq_ix2 i⟩
    rw [Subsingleton.elim r 0]
    exact (ls_of A (ho_at A) j).trans (end_loss m c j).symm

end Cert.Lh
-- ==== Proof.OdPay.lean ====
/-
  The odd layers' mixer: its rows, what the payloads hold of them, and the tiles its spatial mixing writes.
-/
module

public import proofs.«01_k».proof.Proof.Ff
public import proofs.«01_k».proof.Proof.Gen.OddFwdIdeal.Value

@[expose] public section

set_option maxRecDepth 16384

noncomputable section

open Idealize.ShloMosaic Idealize.ShloMosaic.TcCoe Idealize.SL.Sem

namespace Cert.Od

open Cert.OddFwdIdeal Cert.OddFwdIdeal.Gen
open Cert.Even (ms Rows agr2)

/-- One at and below the diagonal, zero above. -/
def tri (i s : Fin 128) : EReal :=
  (select (cmpi .sge (addi (iotaInDim S128x128 32 0) (broadcastInDim S128x128 ![] bcast_S_S128x128 (constantI S_ 32 0#32))) (iotaInDim S128x128 32 1))
    (broadcastInDim S128x128 ![] bcast_S_S128x128 (constant S_ .f32 0x3F800000#32)) (broadcastInDim S128x128 ![] bcast_S_S128x128 (constant S_ .f32 0x00000000#32)) :
    FVec Ideal S128x128 .f32) (ix2 i s)

/-- What the mixer reads: `ws` holds each head's masked weights, `b` each place's bias. -/
structure In where
  x : ℕ → Fin 1024 → EReal
  h : ℕ → Fin 1024 → EReal
  wi : ℕ → Fin 2048 → EReal
  sg : ℕ → Fin 1024 → EReal
  ws : ℕ → Fin 128 → Fin 128 → EReal
  b : ℕ → Fin 1024 → EReal
  wo : ℕ → Fin 1024 → EReal
  gn : ℕ → Fin 1024 → EReal

def gelu (x : EReal) : EReal :=
  Ideal.ofBits .f32 0x3F000000#32 * x * (1 + Ideal.erf (x * Ideal.ofBits .f32 0x3F3504F3#32))

def lo (j : Fin 1024) : Fin 2048 := ⟨j.val, by omega⟩

def hi (j : Fin 1024) : Fin 2048 := ⟨1024 + j.val, by omega⟩

namespace In

variable (I : In)

def pre (r : ℕ) (j : Fin 2048) : EReal := ∑ k : Fin 1024, I.x r k * I.wi k.val j
def u (r : ℕ) (j : Fin 1024) : EReal := gelu (I.pre r (lo j))
def v (r : ℕ) (j : Fin 1024) : EReal := gelu (I.pre r (hi j))
def vn (r : ℕ) (j : Fin 1024) : EReal := I.v r j * Ideal.rsqrt (ms (I.v r)) * I.sg 0 j
def gate (r : ℕ) (j : Fin 1024) : EReal :=
  (∑ s : Fin 128, I.ws (j.val / 128) ⟨r % 128, Nat.mod_lt _ (by decide)⟩ s * I.vn (r / 128 * 128 + s.val) j) + I.b (r % 128) j
def mixo (r : ℕ) (j : Fin 1024) : EReal := I.u r j * I.gate r j
def ho (r : ℕ) (j : Fin 1024) : EReal := I.h r j + ∑ k : Fin 1024, I.mixo r k * I.wo k.val j
def hn (r : ℕ) (j : Fin 1024) : EReal := I.ho r j * Ideal.rsqrt (ms (I.ho r)) * I.gn 0 j

end In

section

variable {I : In} {B : ℕ} {x : FVec Ideal S512x1024 .bf16} {wi : FVec Ideal S1024x2048 .bf16} {sg gn : FVec Ideal S1x1024 .f32}
  {u g h : FVec Ideal S512x1024 .f32} {wo : FVec Ideal S1024x1024 .bf16}
  (hx : Rows x I.x B) (hwi : Rows wi I.wi 0) (hsg : Rows sg I.sg 0) (hu : Rows u I.u B) (hg : Rows g I.gate B) (hh : Rows h I.h B)
  (hwo : Rows wo I.wo 0) (hgn : Rows gn I.gn 0)

include hx hwi in
theorem p4 : Rows (k0_pay4 (F := Ideal) x wi) I.pre B := by
  intro ρ j
  unfold k0_pay4
  pointwise
  simp only [hx _ _, hwi _ _, Nat.zero_add]
  rfl

include hx hwi in
theorem p5 : Rows (k0_pay5 (F := Ideal) x wi) I.pre B := by
  intro ρ j
  unfold k0_pay5
  pointwise
  exact p4 hx hwi ρ j

include hx hwi in
theorem p6 (ρ : Fin 512) (j : Fin 2048) : k0_pay6 (F := Ideal) x wi (ix2 ρ j) = gelu (I.pre (B + ρ.val) j) := by
  unfold k0_pay6
  pointwise
  simp only [p4 hx hwi _ _]
  rfl

include hx hwi in
theorem p7 : Rows (k0_pay7 (F := Ideal) x wi) I.u B := by
  intro ρ j
  unfold k0_pay7
  pointwise
  exact p6 hx hwi ρ (lo j)

include hx hwi hsg in
theorem p8 : Rows (k0_pay8 (F := Ideal) x wi sg) I.vn B := by
  intro ρ j
  have e (k : Fin 1024) : k0_pay6 (F := Ideal) x wi (ix2 ρ (hi k)) = I.v (B + ρ.val) k := p6 hx hwi ρ (hi k)
  unfold k0_pay8
  pointwise
  simp only [hsg _ _, Nat.zero_add]
  simp only [hi] at e
  simp only [e]
  rfl

include hu hg in
theorem p1 : Rows (k0_pay1 (F := Ideal) u g) I.mixo B := by
  intro ρ j
  unfold k0_pay1
  pointwise
  simp only [hu _ _, hg _ _]
  rfl

include hu hg hh hwo in
theorem p2 : Rows (k0_pay2 (F := Ideal) u g h wo) I.ho B := by
  intro ρ j
  unfold k0_pay2
  pointwise
  simp only [p1 hu hg _ _, hh _ _, hwo _ _, Nat.zero_add]
  rfl

include hu hg hh hwo hgn in
theorem p3 : Rows (k0_pay3 (F := Ideal) u g h wo gn) I.hn B := by
  intro ρ j
  unfold k0_pay3
  pointwise
  simp only [p2 hu hg hh hwo _ _, hgn _ _, Nat.zero_add]
  rfl

include hg in
theorem p49 : Rows (k0_pay49 (F := Ideal) g) I.gate B := by
  intro ρ j
  unfold k0_pay49
  pointwise
  exact hg ρ j

end

/-- One head's places of one chunk: the head's weights on the chunk's normed rows, and the bias. -/
abbrev tile (o p : ℕ) (hs : S512x1024.Slices ![o, p] S128x128) (Y : FVec Ideal S512x1024 .bf16) (W : FVec Ideal S1x128x128 .bf16)
    (C : FVec Ideal S128x128 .f32) : FVec Ideal S128x128 .f32 :=
  shapeCast S128x128
    (addf (matmul dot_S128x128_S128x128_S128x128_1_0_0_1_n_n none (shapeCast S128x128 W shapeCasts_S1x128x128_S128x128)
        (extractStridedSlice S128x128 ![o, p] Y hs) (constant S128x128 .f32 0x00000000#32))
      (shapeCast S128x128 C shapeCasts_S128x128_S128x128))
    shapeCasts_S128x128_S128x128

theorem tile_gate {I : In} {B o p q : ℕ} (hB : B % 128 = 0) {hs : S512x1024.Slices ![o, p] S128x128} {Y : FVec Ideal S512x1024 .bf16}
    {W : FVec Ideal S1x128x128 .bf16} {C : FVec Ideal S128x128 .f32} (hY : Rows Y I.vn B) (hW : ∀ i s, W (ix3 0 i s) = I.ws q i s)
    (hC : ∀ (i j : Fin 128) (j' : Fin 1024), j'.val = p + j.val → C (ix2 i j) = I.b i.val j') (ho : o % 128 = 0) (hp : p = 128 * q)
    (i j : Fin 128) (i' : Fin 512) (j' : Fin 1024) (hi : i'.val = o + i.val) (hj : j'.val = p + j.val) :
    tile o p hs Y W C (ix2 i j) = I.gate (B + i'.val) j' := by
  have ho' : o + 128 ≤ 512 := hs.choose_spec 0
  have hp' : p + 128 ≤ 1024 := hs.choose_spec 1
  have e1 : (B + i'.val) % 128 = i.val := by omega
  have e2 : (B + i'.val) / 128 * 128 = B + o := by omega
  have e3 : j'.val / 128 = q := by omega
  have e4 (s : Fin 128) : extractStridedSlice S128x128 ![o, p] Y hs (ix2 s j) = I.vn (B + o + s.val) j' := by
    have : extractStridedSlice S128x128 ![o, p] Y hs (ix2 s j) = Y (ix2 (⟨o + s.val, by omega⟩ : Fin 512) j') := by
      refine congrArg Y (funext fun k => Fin.ext ?_)
      match k with
      | ⟨0, _⟩ => rfl
      | ⟨1, _⟩ => exact hj.symm
    rw [this, hY, Nat.add_assoc]
  unfold tile In.gate
  generalize extractStridedSlice S128x128 ![o, p] Y hs = Z at e4
  pointwise
  simp only [e4, hW, hC i j j' hj, e3, e2]
  simp only [e1]

/-- A function's value at a place of a block. -/
def spot (f : ℕ → Fin 1024 → EReal) (B : ℕ) (y : S512x1024.Idx) : EReal := f (B + (y 0).val) (y 1)

/-- The pieces of a list hold a function's places. -/
def Til (L : List (View.Piece (Elt Ideal) S512x1024 .f32)) (f : ℕ → Fin 1024 → EReal) (B : ℕ) : Prop :=
  ∀ p ∈ L, ∀ x : p.1.shape.Idx, p.2 x = spot f B (p.1.emb x)

section

variable {f : ℕ → Fin 1024 → EReal} {B : ℕ} {L : List (View.Piece (Elt Ideal) S512x1024 .f32)}

theorem Til.nil : Til [] f B := fun _ h => absurd h List.not_mem_nil

theorem Til.cons {a b o p : ℕ} {w : FVec Ideal ⟨2, ![a, b]⟩ .f32} {inb}
    (h : ∀ (i : Fin a) (j : Fin b) (i' : Fin 512) (j' : Fin 1024), i'.val = o + i.val → j'.val = p + j.val → w (ix2 i j) = f (B + i'.val) j') (hL : Til L f B) :
    Til (⟨Rect.unit (s := S512x1024) ![o, p] ![a, b] inb, w⟩ :: L) f B := by
  intro q hq
  rcases List.mem_cons.mp hq with rfl | hq
  · exact agr2 (e := .f32) (G := spot f B) inb h
  · exact hL q hq

theorem Til.back (h : Til L f B) (cov : ∀ y, ∃ p ∈ L, y ∈ p.1.set) {σ : RefSig} {κ : Kind} {sp : Space} {v : View σ κ sp S512x1024 .f32} (inb) :
    Rows (φ := .f32) (v.readCov (Val := Elt Ideal) L (Rect.unit (s := S512x1024) ![0, 0] S512x1024.size inb).toLoadRect) f B := by
  intro i j
  rw [View.readCov_eq_canon']
  refine (congrArg (View.canon L) (Cert.Even.emb2 inb i j i j (Nat.zero_add _).symm (Nat.zero_add _).symm)).trans ?_
  exact View.canon_apply_of_pieces (Val := Elt Ideal) (e := .f32) (spot f B) L h _ (cov _)

end

end Cert.Od
-- ==== Proof.OdWin.lean ====
/-
  The odd layers' mixer: what a grid point reads and writes, and the five arrays at the end.
-/
module

public import proofs.«01_k».proof.Proof.OdPay
public import Idealize.ShloMosaic.Lib.StableHlo.RunRead

@[expose] public section

set_option maxRecDepth 16384

noncomputable section

open Idealize.ShloMosaic Idealize.ShloMosaic.TcCoe Idealize.SL.Sem Idealize.ShloMosaic.StableHlo

namespace Cert.Od

open Cert.OddFwdIdeal Cert.OddFwdIdeal.Gen Cert.OddFwdIdeal.Value
open Cert.Even (ms Rows rd2 rd3 ld2 ld3 canon2 zero_off)
open Cert.Ff (all all')

variable (m : (ℓ : Loc nD τ sig) → Buf (Elt Ideal) ℓ) (c : Dev nD) (t : Fin cfg0.N)

/-- A row number within the arrays. -/
def row (r : ℕ) : Fin 4096 := ⟨r % 4096, Nat.mod_lt _ (by decide)⟩

theorem row_val (r : Fin 4096) : row r.val = r := Fin.ext (Nat.mod_eq_of_lt r.isLt)

def wrow (r : ℕ) : Fin 1024 := ⟨r % 1024, Nat.mod_lt _ (by decide)⟩

theorem wrow_val (r : Fin 1024) : wrow r.val = r := Fin.ext (Nat.mod_eq_of_lt r.isLt)

def head (r : ℕ) : Fin 8 := ⟨r % 8, Nat.mod_lt _ (by decide)⟩

theorem head_val (r : Fin 8) : head r.val = r := Fin.ext (Nat.mod_eq_of_lt r.isLt)

def time (r : ℕ) : Fin 128 := ⟨r % 128, Nat.mod_lt _ (by decide)⟩

theorem time_val (r : Fin 128) : time r.val = r := Fin.ext (Nat.mod_eq_of_lt r.isLt)

/-- The arguments. -/
def inp : In where
  x r k := (m (c, Proc.tc.devRef main_arg0) : FVec Ideal S4096x1024 .f32) (ix2 (row r) k)
  h r k := (m (c, Proc.tc.devRef main_arg1) : FVec Ideal S4096x1024 .f32) (ix2 (row r) k)
  wi k j := (m (c, Proc.tc.devRef main_arg2) : FVec Ideal S1024x2048 .f32) (ix2 (wrow k) j)
  sg _ j := (m (c, Proc.tc.devRef main_arg3) : FVec Ideal S1x1024 .f32) (ix2 0 j)
  ws q i s := (show EReal from (m (c, Proc.tc.devRef main_arg4) : FVec Ideal S8x128x128 .f32) (ix3 (head q) i s)) * tri i s
  b i j := (m (c, Proc.tc.devRef main_arg5) : FVec Ideal S8x128 .f32) (ix2 (head (j.val / 128)) (time i))
  wo k j := (m (c, Proc.tc.devRef main_arg6) : FVec Ideal S1024x1024 .f32) (ix2 (wrow k) j)
  gn _ j := (m (c, Proc.tc.devRef main_arg7) : FVec Ideal S1x1024 .f32) (ix2 0 j)

theorem V0 (r : ℕ) (k : Fin 1024) : (V m c main_v8 : FVec Ideal S4096x1024 .bf16) (ix2 (row r) k) = (inp m c).x r k := by
  unfold V inp; after_reads_simp; rfl
theorem V1 (r : ℕ) (k : Fin 1024) : (V m c main_arg1 : FVec Ideal S4096x1024 .f32) (ix2 (row r) k) = (inp m c).h r k := by
  unfold V inp; after_reads_simp
theorem V2 (k : ℕ) (j : Fin 2048) : (V m c main_v9 : FVec Ideal S1024x2048 .bf16) (ix2 (wrow k) j) = (inp m c).wi k j := by
  unfold V inp; after_reads_simp; rfl
theorem V3 (r : ℕ) (j : Fin 1024) : (V m c main_arg3 : FVec Ideal S1x1024 .f32) (ix2 0 j) = (inp m c).sg r j := by
  unfold V inp; after_reads_simp
theorem V4 (q : ℕ) (i s : Fin 128) : (V m c main_v10 : FVec Ideal S8x128x128 .bf16) (ix3 (head q) i s) = (inp m c).ws q i s := by
  unfold V inp; after_reads_simp; pointwise; rfl
theorem V5 (i : ℕ) (j : Fin 1024) : (V m c main_v7 : FVec Ideal S128x1024 .f32) (ix2 (time i) j) = (inp m c).b i j := by
  unfold V inp; after_reads_simp; pointwise
  exact congrArg (fun q => (m (c, Proc.tc.devRef main_arg5) : FVec Ideal S8x128 .f32) (ix2 q (time i))) (head_val ⟨j.val / 128, by omega⟩).symm
theorem V6 (k : ℕ) (j : Fin 1024) : (V m c main_v11 : FVec Ideal S1024x1024 .bf16) (ix2 (wrow k) j) = (inp m c).wo k j := by
  unfold V inp; after_reads_simp; rfl
theorem V7 (r : ℕ) (j : Fin 1024) : (V m c main_arg7 : FVec Ideal S1x1024 .f32) (ix2 0 j) = (inp m c).gn r j := by
  unfold V inp; after_reads_simp

theorem idx_row : ∀ t : Fin grid0.N, (win0_0.index t 0 = t.val ∧ win0_0.index t 1 = 0) ∧ (win0_1.index t 0 = t.val ∧ win0_1.index t 1 = 0)
    ∧ (win0_8.index t 0 = t.val ∧ win0_8.index t 1 = 0) ∧ (win0_9.index t 0 = t.val ∧ win0_9.index t 1 = 0) ∧ (win0_10.index t 0 = t.val ∧ win0_10.index t 1 = 0)
    ∧ (win0_11.index t 0 = t.val ∧ win0_11.index t 1 = 0) ∧ (win0_12.index t 0 = t.val ∧ win0_12.index t 1 = 0) := by
  decide +kernel

theorem idx_whole : ∀ t : Fin grid0.N, (win0_2.index t 0 = 0 ∧ win0_2.index t 1 = 0) ∧ (win0_3.index t 0 = 0 ∧ win0_3.index t 1 = 0)
    ∧ (win0_4.index t 0 = 0 ∧ win0_4.index t 1 = 0 ∧ win0_4.index t 2 = 0) ∧ (win0_5.index t 0 = 0 ∧ win0_5.index t 1 = 0)
    ∧ (win0_6.index t 0 = 0 ∧ win0_6.index t 1 = 0) ∧ (win0_7.index t 0 = 0 ∧ win0_7.index t 1 = 0) := by
  decide +kernel

theorem t_lt : t.val < 8 := lt_of_lt_of_eq t.isLt N_0

theorem off {n x : ℕ} (h : n = t.val) (hx : x < 512) : n * 512 + 1 * x = (row (t.val * 512 + x)).val := by
  have := t_lt t
  show _ = (t.val * 512 + x) % 4096
  rw [Nat.mod_eq_of_lt (by omega), h]; omega

theorem iblk0 : Rows (φ := .bf16) (iblk m c 0 t : FVec Ideal S512x1024 .bf16) (inp m c).x (t.val * 512) := fun ρ k =>
  (rd2 (V m c main_v8 : FVec Ideal S4096x1024 .bf16) _ _ k (off t (idx_row t).1.1 ρ.isLt) (zero_off (idx_row t).1.2)).trans (V0 m c _ k)
theorem iblk1 : Rows (φ := .f32) (iblk m c 1 t : FVec Ideal S512x1024 .f32) (inp m c).h (t.val * 512) := fun ρ k =>
  (rd2 (V m c main_arg1 : FVec Ideal S4096x1024 .f32) _ _ k (off t (idx_row t).2.1.1 ρ.isLt) (zero_off (idx_row t).2.1.2)).trans (V1 m c _ k)
theorem iblk2 : Rows (φ := .bf16) (iblk m c 2 t : FVec Ideal S1024x2048 .bf16) (inp m c).wi 0 := fun ρ k =>
  (rd2 (V m c main_v9 : FVec Ideal S1024x2048 .bf16) _ (wrow (0 + ρ.val)) k
    ((zero_off (idx_whole t).1.1).trans (by rw [Nat.zero_add, wrow_val]; rfl)) (zero_off (idx_whole t).1.2)).trans (V2 m c _ k)
theorem iblk3 : Rows (φ := .f32) (iblk m c 3 t : FVec Ideal S1x1024 .f32) (inp m c).sg 0 := fun ρ k =>
  (rd2 (V m c main_arg3 : FVec Ideal S1x1024 .f32) _ ρ k (zero_off (idx_whole t).2.1.1) (zero_off (idx_whole t).2.1.2)).trans
    (by rw [Subsingleton.elim ρ 0]; exact V3 m c _ k)
theorem iblk4 (q : Fin 8) (i s : Fin 128) : (iblk m c 4 t : FVec Ideal S8x128x128 .bf16) (ix3 q i s) = (inp m c).ws q.val i s :=
  (rd3 (V m c main_v10 : FVec Ideal S8x128x128 .bf16) _ (head q.val) i s ((zero_off (idx_whole t).2.2.1.1).trans (by rw [head_val]; rfl))
    (zero_off (idx_whole t).2.2.1.2.1) (zero_off (idx_whole t).2.2.1.2.2)).trans (V4 m c _ i s)
theorem iblk5 (i : Fin 128) (j : Fin 1024) : (iblk m c 5 t : FVec Ideal S128x1024 .f32) (ix2 i j) = (inp m c).b i.val j :=
  (rd2 (V m c main_v7 : FVec Ideal S128x1024 .f32) _ (time i.val) j ((zero_off (idx_whole t).2.2.2.1.1).trans (by rw [time_val]; rfl))
    (zero_off (idx_whole t).2.2.2.1.2)).trans (V5 m c _ j)
theorem iblk6 : Rows (φ := .bf16) (iblk m c 6 t : FVec Ideal S1024x1024 .bf16) (inp m c).wo 0 := fun ρ k =>
  (rd2 (V m c main_v11 : FVec Ideal S1024x1024 .bf16) _ (wrow (0 + ρ.val)) k
    ((zero_off (idx_whole t).2.2.2.2.1.1).trans (by rw [Nat.zero_add, wrow_val]; rfl)) (zero_off (idx_whole t).2.2.2.2.1.2)).trans (V6 m c _ k)
theorem iblk7 : Rows (φ := .f32) (iblk m c 7 t : FVec Ideal S1x1024 .f32) (inp m c).gn 0 := fun ρ k =>
  (rd2 (V m c main_arg7 : FVec Ideal S1x1024 .f32) _ ρ k (zero_off (idx_whole t).2.2.2.2.2.1) (zero_off (idx_whole t).2.2.2.2.2.2)).trans
    (by rw [Subsingleton.elim ρ 0]; exact V7 m c _ k)

/-- One head's weights, as read from the stack. -/
theorem heads {q : ℕ} (inb : ∀ x : Fin 3, (![q, 0, 0] : Fin 3 → ℕ) x + (![1, 128, 128] : Fin 3 → ℕ) x ≤ (![8, 128, 128] : Fin 3 → ℕ) x) (i s : Fin 128) :
    View.ld (Val := Elt Ideal) (e' := .bf16) (iblk m c 4 t : FVec Ideal S8x128x128 .bf16) (Rect.unit (s := S8x128x128) ![q, 0, 0] ![1, 128, 128] inb) (ix3 0 i s)
      = (inp m c).ws q i s :=
  (ld3 (e := .bf16) (iblk m c 4 t : FVec Ideal S8x128x128 .bf16) inb 0 i s ⟨q, inb 0⟩ rfl).trans (iblk4 m c t _ i s)

/-- Some columns of the bias. -/
theorem bias {p : ℕ} (inb : ∀ x : Fin 2, (![0, p] : Fin 2 → ℕ) x + (![128, 128] : Fin 2 → ℕ) x ≤ (![128, 1024] : Fin 2 → ℕ) x) (i j : Fin 128) (j' : Fin 1024)
    (hj : j'.val = p + j.val) :
    View.ld (Val := Elt Ideal) (e' := .f32) (iblk m c 5 t : FVec Ideal S128x1024 .f32) (Rect.unit (s := S128x1024) ![0, p] ![128, 128] inb) (ix2 i j)
      = (inp m c).b i.val j' :=
  (ld2 (e := .f32) (iblk m c 5 t : FVec Ideal S128x1024 .f32) inb i j i j' (Nat.zero_add _).symm hj).trans (iblk5 m c t i j')

theorem base : t.val * 512 % 128 = 0 := by omega

theorem at_pre : Rows (φ := .bf16) (outsAt0 m c t).1 (inp m c).pre (t.val * 512) := by
  intro ρ j
  unfold outsAt0
  dsimp only
  unfold out0_A_8
  rw [View.read_writes_eq_canon _ _ _ (fun y => cover0_A_8 (y := y) ..)]
  unfold kernelRun0_A
  dsimp only
  sl_unfold_words
  simp only [View.readAt_eq_ld, Memref.IsWhole.read_unread]
  refine (canon2 _ ρ j ρ j (Nat.zero_add _).symm (Nat.zero_add _).symm).trans ?_
  exact p5 (all' (iblk0 m c t) _) (all' (iblk2 m c t) _) ρ j

theorem at_gate : Rows (φ := .bf16) (outsAt0 m c t).2.1 (inp m c).gate (t.val * 512) := by
  intro ρ j
  unfold outsAt0
  dsimp only
  unfold out0_A_9
  rw [View.read_writes_eq_canon _ _ _ (fun y => cover0_A_9 (y := y) ..)]
  unfold kernelRun0_A
  dsimp only
  sl_unfold_words
  simp only [View.readAt_eq_ld, Memref.IsWhole.read_unread]
  refine (canon2 _ ρ j ρ j (Nat.zero_add _).symm (Nat.zero_add _).symm).trans ?_
  have Y := p8 (all' (iblk0 m c t) inb_S512x1024_S512x1024_0_0) (all' (iblk2 m c t) inb_S1024x2048_S1024x2048_0_0) (all (iblk3 m c t) inb_S1x1024_S1x1024_0_0)
  refine p49 (Til.back ?_ ?_ _) ρ j
  · repeat' first
      | exact Til.nil
      | refine Til.cons (tile_gate (base t) Y (heads m c t _) (bias m c t _) (by decide) rfl) ?_
  · exact View.cover_of_tiledL _ (![128, 128] : Fin 2 → ℕ) (by sl_kernel_rfl)

theorem at_mixo : Rows (φ := .bf16) (outsAt0 m c t).2.2.1 (inp m c).mixo (t.val * 512) := by
  intro ρ j
  unfold outsAt0
  dsimp only
  unfold out0_A_10
  rw [View.read_writes_eq_canon _ _ _ (fun y => cover0_A_10 (y := y) ..)]
  unfold kernelRun0_A
  dsimp only
  sl_unfold_words
  simp only [View.readAt_eq_ld, Memref.IsWhole.read_unread]
  refine (canon2 _ ρ j ρ j (Nat.zero_add _).symm (Nat.zero_add _).symm).trans ?_
  have Y := p8 (all' (iblk0 m c t) inb_S512x1024_S512x1024_0_0) (all' (iblk2 m c t) inb_S1024x2048_S1024x2048_0_0) (all (iblk3 m c t) inb_S1x1024_S1x1024_0_0)
  refine p1 (p7 (all' (iblk0 m c t) _) (all' (iblk2 m c t) _)) (Til.back ?_ ?_ _) ρ j
  · repeat' first
      | exact Til.nil
      | refine Til.cons (tile_gate (base t) Y (heads m c t _) (bias m c t _) (by decide) rfl) ?_
  · exact View.cover_of_tiledL _ (![128, 128] : Fin 2 → ℕ) (by sl_kernel_rfl)

theorem at_ho : Rows (φ := .f32) (outsAt0 m c t).2.2.2.1 (inp m c).ho (t.val * 512) := by
  intro ρ j
  unfold outsAt0
  dsimp only
  unfold out0_A_11
  rw [View.read_writes_eq_canon _ _ _ (fun y => cover0_A_11 (y := y) ..)]
  unfold kernelRun0_A
  dsimp only
  sl_unfold_words
  simp only [View.readAt_eq_ld, Memref.IsWhole.read_unread]
  refine (canon2 _ ρ j ρ j (Nat.zero_add _).symm (Nat.zero_add _).symm).trans ?_
  have Y := p8 (all' (iblk0 m c t) inb_S512x1024_S512x1024_0_0) (all' (iblk2 m c t) inb_S1024x2048_S1024x2048_0_0) (all (iblk3 m c t) inb_S1x1024_S1x1024_0_0)
  refine p2 (p7 (all' (iblk0 m c t) _) (all' (iblk2 m c t) _)) (Til.back ?_ ?_ _) (all (iblk1 m c t) _) (all' (iblk6 m c t) _) ρ j
  · repeat' first
      | exact Til.nil
      | refine Til.cons (tile_gate (base t) Y (heads m c t _) (bias m c t _) (by decide) rfl) ?_
  · exact View.cover_of_tiledL _ (![128, 128] : Fin 2 → ℕ) (by sl_kernel_rfl)

theorem at_hn : Rows (φ := .bf16) (outsAt0 m c t).2.2.2.2 (inp m c).hn (t.val * 512) := by
  intro ρ j
  unfold outsAt0
  dsimp only
  unfold out0_A_12
  rw [View.read_writes_eq_canon _ _ _ (fun y => cover0_A_12 (y := y) ..)]
  unfold kernelRun0_A
  dsimp only
  sl_unfold_words
  simp only [View.readAt_eq_ld, Memref.IsWhole.read_unread]
  refine (canon2 _ ρ j ρ j (Nat.zero_add _).symm (Nat.zero_add _).symm).trans ?_
  have Y := p8 (all' (iblk0 m c t) inb_S512x1024_S512x1024_0_0) (all' (iblk2 m c t) inb_S1024x2048_S1024x2048_0_0) (all (iblk3 m c t) inb_S1x1024_S1x1024_0_0)
  refine p3 (p7 (all' (iblk0 m c t) _) (all' (iblk2 m c t) _)) (Til.back ?_ ?_ _) (all (iblk1 m c t) _) (all' (iblk6 m c t) _) (all (iblk7 m c t) _) ρ j
  · repeat' first
      | exact Til.nil
      | refine Til.cons (tile_gate (base t) Y (heads m c t _) (bias m c t _) (by decide) rfl) ?_
  · exact View.cover_of_tiledL _ (![128, 128] : Fin 2 → ℕ) (by sl_kernel_rfl)

/-- The grid point that writes a row, and the row within its block. -/
def pt (r : Fin 4096) : Fin cfg0.N := ⟨r.val / 512, lt_of_lt_of_eq (Nat.div_lt_of_lt_mul r.isLt) N_0.symm⟩

def rem (r : Fin 4096) : Fin 512 := ⟨r.val % 512, Nat.mod_lt _ (by decide)⟩

theorem pt_rem (r : Fin 4096) : (pt r).val * 512 + (rem r).val = r.val := Nat.div_add_mod' _ _

theorem off_pt {n : ℕ} (r : Fin 4096) (h : n = (pt r).val) : n * 512 + 1 * (rem r).val = r.val := by
  rw [h, Nat.one_mul]; exact pt_rem r

theorem end_pre (r : Fin 4096) (j : Fin 2048) : ((dats m 0 c).arrAt 8 cfg0.N : FVec Ideal S4096x2048 .bf16) (ix2 r j) = (inp m c).pre r.val j := by
  have hb := congrFun (blocks8 m c (pt r) (flush0_8 _)) (ix2 (rem r) j)
  rw [flushed8] at hb
  refine Eq.trans ?_ (hb.trans ((at_pre m c (pt r) (rem r) j).trans (congrArg (fun n => (inp m c).pre n j) (pt_rem r))))
  exact (rd2 ((dats m 0 c).arrAt 8 cfg0.N : FVec Ideal S4096x2048 .bf16) _ r j (off_pt r (idx_row (pt r)).2.2.1.1) (zero_off (idx_row (pt r)).2.2.1.2)).symm

theorem end_gate (r : Fin 4096) (j : Fin 1024) : ((dats m 0 c).arrAt 9 cfg0.N : FVec Ideal S4096x1024 .bf16) (ix2 r j) = (inp m c).gate r.val j := by
  have hb := congrFun (blocks9 m c (pt r) (flush0_9 _)) (ix2 (rem r) j)
  rw [flushed9] at hb
  refine Eq.trans ?_ (hb.trans ((at_gate m c (pt r) (rem r) j).trans (congrArg (fun n => (inp m c).gate n j) (pt_rem r))))
  exact (rd2 ((dats m 0 c).arrAt 9 cfg0.N : FVec Ideal S4096x1024 .bf16) _ r j (off_pt r (idx_row (pt r)).2.2.2.1.1) (zero_off (idx_row (pt r)).2.2.2.1.2)).symm

theorem end_mixo (r : Fin 4096) (j : Fin 1024) : ((dats m 0 c).arrAt 10 cfg0.N : FVec Ideal S4096x1024 .bf16) (ix2 r j) = (inp m c).mixo r.val j := by
  have hb := congrFun (blocks10 m c (pt r) (flush0_10 _)) (ix2 (rem r) j)
  rw [flushed10] at hb
  refine Eq.trans ?_ (hb.trans ((at_mixo m c (pt r) (rem r) j).trans (congrArg (fun n => (inp m c).mixo n j) (pt_rem r))))
  exact (rd2 ((dats m 0 c).arrAt 10 cfg0.N : FVec Ideal S4096x1024 .bf16) _ r j (off_pt r (idx_row (pt r)).2.2.2.2.1.1) (zero_off (idx_row (pt r)).2.2.2.2.1.2)).symm

theorem end_ho (r : Fin 4096) (j : Fin 1024) : ((dats m 0 c).arrAt 11 cfg0.N : FVec Ideal S4096x1024 .f32) (ix2 r j) = (inp m c).ho r.val j := by
  have hb := congrFun (blocks11 m c (pt r) (flush0_11 _)) (ix2 (rem r) j)
  rw [flushed11] at hb
  refine Eq.trans ?_ (hb.trans ((at_ho m c (pt r) (rem r) j).trans (congrArg (fun n => (inp m c).ho n j) (pt_rem r))))
  exact (rd2 ((dats m 0 c).arrAt 11 cfg0.N : FVec Ideal S4096x1024 .f32) _ r j (off_pt r (idx_row (pt r)).2.2.2.2.2.1.1) (zero_off (idx_row (pt r)).2.2.2.2.2.1.2)).symm

theorem end_hn (r : Fin 4096) (j : Fin 1024) : ((dats m 0 c).arrAt 12 cfg0.N : FVec Ideal S4096x1024 .bf16) (ix2 r j) = (inp m c).hn r.val j := by
  have hb := congrFun (blocks12 m c (pt r) (flush0_12 _)) (ix2 (rem r) j)
  rw [flushed12] at hb
  refine Eq.trans ?_ (hb.trans ((at_hn m c (pt r) (rem r) j).trans (congrArg (fun n => (inp m c).hn n j) (pt_rem r))))
  exact (rd2 ((dats m 0 c).arrAt 12 cfg0.N : FVec Ideal S4096x1024 .bf16) _ r j (off_pt r (idx_row (pt r)).2.2.2.2.2.2.1) (zero_off (idx_row (pt r)).2.2.2.2.2.2.2)).symm

end Cert.Od
-- ==== Proof.OdRef.lean ====
/-
  The reference of the odd layers' mixer at an index.
-/
module

public import proofs.«01_k».proof.Proof.OdPay
public import proofs.«01_k».proof.Proof.Gen.OddFwdRefIdeal.Run
public import Idealize.ShloMosaic.PureOps.Ideal.Laws
public import Idealize.ShloMosaic.Lib.Tactic.CleanTypes
public import Idealize.ShloMosaic.Lib.Pointwise

@[expose] public section

set_option maxRecDepth 16384

noncomputable section

open Idealize.ShloMosaic Idealize.ShloMosaic.TcCoe Idealize.SL.Sem

namespace Cert.Od

open Cert.OddFwdRefIdeal Cert.OddFwdRefIdeal.Gen Cert.OddFwdRefIdeal.Value
open Cert.Even (ms)

variable (m : (ℓ : Loc nD τ sig) → Buf (Elt Ideal) ℓ) (c : Dev nD) (I : In)

/-- The reference's arguments are the given ones. -/
structure Args : Prop where
  a0 : ∀ (r : Fin 4096) (k : Fin 1024), (m ((c.tc : Thread nD τ).loc main_arg0) : FVec Ideal S4096x1024 .f32) (ix2 r k) = I.x r.val k
  a1 : ∀ (r : Fin 4096) (k : Fin 1024), (m ((c.tc : Thread nD τ).loc main_arg1) : FVec Ideal S4096x1024 .f32) (ix2 r k) = I.h r.val k
  a2 : ∀ (k : Fin 1024) (j : Fin 2048), (m ((c.tc : Thread nD τ).loc main_arg2) : FVec Ideal S1024x2048 .f32) (ix2 k j) = I.wi k.val j
  a3 : ∀ j : Fin 1024, (m ((c.tc : Thread nD τ).loc main_arg3) : FVec Ideal S1x1024 .f32) (ix2 0 j) = I.sg 0 j
  a4 : ∀ (q : Fin 8) (i s : Fin 128), (show EReal from (m ((c.tc : Thread nD τ).loc main_arg4) : FVec Ideal S8x128x128 .f32) (ix3 q i s)) * tri i s = I.ws q.val i s
  a5 : ∀ (i : Fin 128) (j : Fin 1024), (m ((c.tc : Thread nD τ).loc main_arg5) : FVec Ideal S8x128 .f32) (ix2 ⟨j.val / 128, by omega⟩ i) = I.b i.val j
  a6 : ∀ k j : Fin 1024, (m ((c.tc : Thread nD τ).loc main_arg6) : FVec Ideal S1024x1024 .f32) (ix2 k j) = I.wo k.val j
  a7 : ∀ j : Fin 1024, (m ((c.tc : Thread nD τ).loc main_arg7) : FVec Ideal S1x1024 .f32) (ix2 0 j) = I.gn 0 j

variable {m c I} (A : Args m c I)

section

variable {P B : FVec Ideal S4096x2048 .f32} {Y G X H : FVec Ideal S4096x1024 .f32} {T : FVec Ideal S128x128 .f32}
  (hP : ∀ (r : Fin 4096) (j : Fin 2048), P (ix2 r j) = I.pre r.val j) (hB : ∀ (r : Fin 4096) (j : Fin 2048), B (ix2 r j) = gelu (I.pre r.val j))
  (hY : ∀ (r : Fin 4096) (j : Fin 1024), Y (ix2 r j) = I.vn r.val j) (hT : ∀ i s : Fin 128, T (ix2 i s) = tri i s)
  (hG : ∀ (r : Fin 4096) (j : Fin 1024), G (ix2 r j) = I.gate r.val j) (hX : ∀ (r : Fin 4096) (j : Fin 1024), X (ix2 r j) = I.mixo r.val j)
  (hH : ∀ (r : Fin 4096) (j : Fin 1024), H (ix2 r j) = I.ho r.val j)

include A in
theorem pre_of (r : Fin 4096) (j : Fin 2048) : (Host.dotGeneral (φ₁ := .f32) (φ₂ := .f32) dot_S4096x1024_S1024x2048_S4096x2048_1_0_0_1_n_n none (m ((c.tc : Thread nD τ).loc main_arg0)) (m ((c.tc : Thread nD τ).loc main_arg2)) : FVec Ideal S4096x2048 .f32) (ix2 r j) = I.pre r.val j := by
  clean_types
  pointwise
  simp only [A.a0, A.a2]
  rfl

include hP in
theorem act_of (r : Fin 4096) (j : Fin 2048) : (mulf (mulf (broadcastInDim S4096x2048 ![] bcast_S_S4096x2048 (constant S_ .f32 0x3F000000#32)) P) (Host.erfc (mulf (Host.negf P) (broadcastInDim S4096x2048 ![] bcast_S_S4096x2048 (constant S_ .f32 0x3F3504F3#32)))) : FVec Ideal S4096x2048 .f32) (ix2 r j) = gelu (I.pre r.val j) := by
  pointwise
  simp only [hP]
  rw [gelu, ← Ideal.erfc_neg, neg_mul]

include A hB in
theorem vn_of (r : Fin 4096) (j : Fin 1024) : (mulf (mulf (extractStridedSlice S4096x1024 ![0, 1024] B slices_S4096x2048_S4096x1024_0_1024) (broadcastInDim S4096x1024 ![0, 1] bcast_S4096x1_S4096x1024_0_1 (Host.rsqrt (addf (Host.divf (broadcastInDim S4096x1 ![0] bcast_S4096_S4096x1_0 (Host.reduceAdd (mulf (extractStridedSlice S4096x1024 ![0, 1024] B slices_S4096x2048_S4096x1024_0_1024) (extractStridedSlice S4096x1024 ![0, 1024] B slices_S4096x2048_S4096x1024_0_1024)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (m ((c.tc : Thread nD τ).loc main_arg3))) : FVec Ideal S4096x1024 .f32) (ix2 r j) = I.vn r.val j := by
  clean_types
  pointwise
  simp only [hB, A.a3]
  rfl

include A hY hT in
theorem gate_of (r : Fin 4096) (j : Fin 1024) : (shapeCast S4096x1024 (addf (transpose S32x128x8x128 [1, 3, 0, 2] (Host.dotGeneral (φ₁ := .f32) (φ₂ := .f32) dot_S32x128x8x128_S8x128x128_S8x32x128x128_1_2_03_1_2_0 none (shapeCast S32x128x8x128 Y shapeCasts_S4096x1024_S32x128x8x128) (mulf (m ((c.tc : Thread nD τ).loc main_arg4)) (broadcastInDim S8x128x128 ![0, 1, 2] bcast_S1x128x128_S8x128x128_0_1_2 (broadcastInDim S1x128x128 ![1, 2] bcast_S128x128_S1x128x128_1_2 T)))) transposes_S8x32x128x128_S32x128x8x128_1_3_0_2) (broadcastInDim S32x128x8x128 ![0, 1, 2, 3] bcast_S1x128x8x1_S32x128x8x128_0_1_2_3 (broadcastInDim S1x128x8x1 ![1, 2] bcast_S128x8_S1x128x8x1_1_2 (transpose S128x8 [1, 0] (m ((c.tc : Thread nD τ).loc main_arg5)) transposes_S8x128_S128x8_1_0)))) shapeCasts_S32x128x8x128_S4096x1024 : FVec Ideal S4096x1024 .f32) (ix2 r j) = I.gate r.val j := by
  clean_types
  pointwise
  refine congrArg₂ (fun a b : EReal => a + b) (Finset.sum_congr rfl fun s _ => ?_) (A.a5 ⟨r.val % 128, Nat.mod_lt _ (by decide)⟩ j)
  rw [hY, hT, mul_comm]
  exact congrArg (fun a : EReal => a * I.vn (r.val / 128 * 128 + s.val) j) (A.a4 ⟨j.val / 128, by omega⟩ ⟨r.val % 128, Nat.mod_lt _ (by decide)⟩ s)

include hB hG in
theorem mixo_of (r : Fin 4096) (j : Fin 1024) : (mulf (extractStridedSlice S4096x1024 ![0, 0] B slices_S4096x2048_S4096x1024_0_0) G : FVec Ideal S4096x1024 .f32) (ix2 r j) = I.mixo r.val j := by
  pointwise
  simp only [hB, hG]
  rfl

include A hX in
theorem ho_of (r : Fin 4096) (j : Fin 1024) : (addf (m ((c.tc : Thread nD τ).loc main_arg1)) (Host.dotGeneral (φ₁ := .f32) (φ₂ := .f32) dot_S4096x1024_S1024x1024_S4096x1024_1_0_0_1_n_n none X (m ((c.tc : Thread nD τ).loc main_arg6))) : FVec Ideal S4096x1024 .f32) (ix2 r j) = I.ho r.val j := by
  clean_types
  pointwise
  simp only [hX, A.a1, A.a6]
  rfl

include A hH in
theorem hn_of (r : Fin 4096) (j : Fin 1024) : (truncf .bf16 (mulf (mulf H (broadcastInDim S4096x1024 ![0, 1] bcast_S4096x1_S4096x1024_0_1 (Host.rsqrt (addf (Host.divf (broadcastInDim S4096x1 ![0] bcast_S4096_S4096x1_0 (Host.reduceAdd (mulf H H) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (m ((c.tc : Thread nD τ).loc main_arg7)))) bitsLt_bf16_f32 : FVec Ideal S4096x1024 .bf16) (ix2 r j) = I.hn r.val j := by
  clean_types
  pointwise
  simp only [hH, A.a7]
  rfl

end

end Cert.Od
-- ==== Proof.OdClaims.lean ====
/-
  The claims of the odd layers' mixer.
-/
module

public import proofs.«01_k».proof.Proof.OdWin
public import proofs.«01_k».proof.Proof.OdRef
public import proofs.«01_k».proof.Proof.Even
public import proofs.«01_k».proof.Proof.Gen.OddFwd.Frame

@[expose] public section

set_option maxRecDepth 16384

noncomputable section

open Idealize.ShloMosaic Idealize.ShloMosaic.TcCoe Idealize.SL.Sem Idealize.ShloMosaic.StableHlo

namespace Cert.Od

theorem frame_k : Cert.quiescent_OddFwd := fun m ρ _ => Cert.OddFwd.Gen.frame m ρ

theorem frame_ki : Cert.quiescent_OddFwdIdeal := fun m ρ _ => Cert.OddFwdIdeal.Gen.frame m ρ

theorem frame_ri : Cert.quiescent_OddFwdRefIdeal := fun m ρ _ =>
  (θ_run Cert.OddFwdRefIdeal.defs _ _).mono (fun r h => ⟨fun c => (h c).2.2.2.2.2, sem_eq_zero_of_no_sems (by decide) r.2⟩)
    (Cert.OddFwdRefIdeal.Value.run (F := Ideal) m ρ)

theorem alg : Cert.algebraic_OddFwdIdeal_OddFwdRefIdeal := by
  intro m ρ m' ρ' _ hag
  refine ⟨_, _, _, _, _, Cert.OddFwdIdeal.Value.run_blocks m ρ, ?_⟩
  refine (θ_run Cert.OddFwdRefIdeal.defs _ _).mono (fun _ h c => ?_) (Cert.OddFwdRefIdeal.Value.run (F := Ideal) m' ρ')
  obtain ⟨h0, h1, h2, h3, h4, hr⟩ := h c
  have A : Args m' c (inp m c) := by
    obtain ⟨e0, e1, e2, e3, e4, e5, e6, e7⟩ := hag c
    refine ⟨fun r k => ?_, fun r k => ?_, fun k j => ?_, fun j => ?_, fun q i s => ?_, fun i j => ?_, fun k j => ?_, fun j => ?_⟩
    · simp only [inp, row_val]; exact congrFun e0 _
    · simp only [inp, row_val]; exact congrFun e1 _
    · simp only [inp, wrow_val]; exact congrFun e2 _
    · exact congrFun e3 _
    · simp only [inp, head_val]; exact congrArg (· * tri i s) (congrFun e4 _)
    · simp only [inp, time_val]
      exact (congrFun e5 _).trans (congrArg (fun q => (m (c, Proc.tc.devRef Cert.OddFwdIdeal.main_arg5) : FVec Ideal Cert.OddFwdIdeal.S8x128 .f32) (ix2 q i)) (head_val _).symm)
    · simp only [inp, wrow_val]; exact congrFun e6 _
    · exact congrFun e7 _
  have P := pre_of A
  have G := gate_of A (vn_of A (act_of P)) (T := _) fun _ _ => rfl
  have X := mixo_of (act_of P) G
  have H := ho_of A X
  refine ⟨h0.trans ?_, h1.trans ?_, h2.trans ?_, h3.trans ?_, h4.trans ?_, hr⟩
  · funext i
    obtain ⟨r, j, rfl⟩ : ∃ (r : Fin 4096) (j : Fin 2048), i = ix2 r j := ⟨i 0, i 1, eq_ix2 i⟩
    exact (P r j).trans (end_pre m c r j).symm
  · funext i
    obtain ⟨r, j, rfl⟩ : ∃ (r : Fin 4096) (j : Fin 1024), i = ix2 r j := ⟨i 0, i 1, eq_ix2 i⟩
    exact (G r j).trans (end_gate m c r j).symm
  · funext i
    obtain ⟨r, j, rfl⟩ : ∃ (r : Fin 4096) (j : Fin 1024), i = ix2 r j := ⟨i 0, i 1, eq_ix2 i⟩
    exact (X r j).trans (end_mixo m c r j).symm
  · funext i
    obtain ⟨r, j, rfl⟩ : ∃ (r : Fin 4096) (j : Fin 1024), i = ix2 r j := ⟨i 0, i 1, eq_ix2 i⟩
    unfold Cert.OddFwdRefIdeal.Value.res_main_v37
    exact (H r j).trans (end_ho m c r j).symm
  · funext i
    obtain ⟨r, j, rfl⟩ : ∃ (r : Fin 4096) (j : Fin 1024), i = ix2 r j := ⟨i 0, i 1, eq_ix2 i⟩
    unfold Cert.OddFwdRefIdeal.Value.res_main_v53
    exact (hn_of A H r j).trans (end_hn m c r j).symm

end Cert.Od
-- ==== Proof.EvPay.lean ====
/-
  The even layers' mixer: its rows, and what the payloads hold of them.
-/
module

public import proofs.«01_k».proof.Proof.Ff
public import proofs.«01_k».proof.Proof.Gen.EvenFwdIdeal.Value

@[expose] public section

set_option maxRecDepth 16384

noncomputable section

open Idealize.ShloMosaic Idealize.ShloMosaic.TcCoe Idealize.SL.Sem

namespace Cert.Ev

open Cert.EvenFwdIdeal Cert.EvenFwdIdeal.Gen
open Cert.Even (ms Rows GRows col grp pos at_ wlit cnt grp_col pos_col)

/-- Sums of `2 ^ n` rows by doubling, each with the rows before it. -/
def wback (f : ℕ → EReal) : ℕ → ℕ → EReal
  | 0, r => f r
  | n + 1, r => wback f n r + wback f n (r - 2 ^ n)

/-- What the mixer reads. -/
structure In where
  x : ℕ → Fin 1024 → EReal
  gm : ℕ → Fin 1024 → EReal
  gf : ℕ → Fin 1024 → EReal
  wi : ℕ → Fin 2048 → EReal
  ca : ℕ → Fin 512 → EReal
  wp : Fin 4 → Fin 128 → Fin 128 → EReal
  ps : ℕ → Fin 512 → EReal
  wo : ℕ → Fin 1024 → EReal

/-- An array's rows after sixteen zero rows. -/
def late (f : ℕ → Fin 512 → EReal) (r : ℕ) (j : Fin 512) : EReal := if r < 16 then 0 else f (r - 16) j

theorem late_add (f : ℕ → Fin 512 → EReal) (r : ℕ) (j : Fin 512) : late f (r + 16) j = f r j := by
  unfold late
  rw [if_neg (by omega), Nat.add_sub_cancel]

namespace In

variable (I : In)

def xn (r : ℕ) (j : Fin 1024) : EReal := I.x r j * Ideal.rsqrt (ms (I.x r)) * I.gm 0 j
def P (r : ℕ) (j : Fin 2048) : EReal := ∑ k : Fin 1024, I.xn r k * I.wi k.val j
def ab (r : ℕ) (j : Fin 512) : EReal := I.P r (at_ 2048 0 j (by omega))
def q (r : ℕ) (j : Fin 512) : EReal := I.P r (at_ 2048 512 j (by omega)) * I.P r (at_ 2048 1024 j (by omega))
def z (r : ℕ) (j : Fin 512) : EReal := I.P r (at_ 2048 1536 j (by omega))
def cq (r : ℕ) (j : Fin 512) : EReal := I.ca 2 j * I.q r j + I.ca 1 j * late I.q (r + 15) j + I.ca 0 j * late I.q (r + 14) j
def pl (r : ℕ) (j : Fin 512) : EReal := Ideal.div (wback (fun r => late I.z r j) ((grp j).val + 1) (r + 16)) (cnt r (grp j)) - I.z r j
def mx (r : ℕ) (j : Fin 512) : EReal := ∑ c, I.pl r (Cert.Even.col (grp j) c) * I.wp (grp j) c (pos j)
def mix (r : ℕ) (j : Fin 1024) : EReal :=
  if h : j.val < 512 then I.ab r ⟨j.val, h⟩ * I.cq r ⟨j.val, h⟩ else I.mx r ⟨j.val - 512, by omega⟩ * I.ps 0 ⟨j.val - 512, by omega⟩
def ho (r : ℕ) (j : Fin 1024) : EReal := I.x r j + ∑ k : Fin 1024, I.mix r k * I.wo k.val j
def hn (r : ℕ) (j : Fin 1024) : EReal := I.ho r j * Ideal.rsqrt (ms (I.ho r)) * I.gf 0 j

end In

theorem z2 (ρ : Fin 16) (j : Fin 512) : k0_pay2 (F := Ideal) (ix2 ρ j) = 0 := by
  unfold k0_pay2
  pointwise

theorem z3 (ρ : Fin 16) (j : Fin 512) : k0_pay3 (F := Ideal) (ix2 ρ j) = 0 := by
  unfold k0_pay3
  pointwise

theorem c1 (v : FVec Ideal S16x512 .f32) (ρ : Fin 16) (j : Fin 512) : k0_pay1 (F := Ideal) v (ix2 ρ j) = v (ix2 ρ j) := by
  unfold k0_pay1
  pointwise

theorem c27 (v : FVec Ideal S16x512 .f32) (ρ : Fin 16) (j : Fin 512) : k0_pay27 (F := Ideal) v (ix2 ρ j) = v (ix2 ρ j) := by
  unfold k0_pay27
  pointwise

section

variable {I : In} {B : ℕ} {x : FVec Ideal S512x1024 .f32} {gm : FVec Ideal S1x1024 .f32} {wi : FVec Ideal S1024x2048 .bf16}
  (hx : Rows x I.x B) (hgm : Rows gm I.gm 0) (hwi : Rows wi I.wi 0)

include hx hgm in
theorem p4 : Rows (k0_pay4 (F := Ideal) x gm) I.xn B := by
  intro ρ j
  unfold k0_pay4
  pointwise
  simp only [hx _ _, hgm _ _, Nat.zero_add]
  rfl

include hx hgm hwi in
theorem p5 : Rows (k0_pay5 (F := Ideal) x gm wi) I.P B := by
  intro ρ j
  unfold k0_pay5
  pointwise
  simp only [p4 hx hgm _ _, hwi _ _, Nat.zero_add]
  rfl

include hx hgm hwi in
theorem p6 : Rows (k0_pay6 (F := Ideal) x gm wi) I.P B := by
  intro ρ j
  unfold k0_pay6
  pointwise
  exact p5 hx hgm hwi ρ j

include hx hgm hwi in
theorem p7 : Rows (k0_pay7 (F := Ideal) x gm wi) I.ab B := by
  intro ρ j
  unfold k0_pay7
  pointwise
  refine (p5 hx hgm hwi ρ _).trans (congrArg (I.P (B + ρ.val)) ?_)
  apply Fin.ext; simp [at_]

include hx hgm hwi in
theorem p8 : Rows (k0_pay8 (F := Ideal) x gm wi) I.z B := by
  intro ρ j
  unfold k0_pay8
  pointwise
  exact p5 hx hgm hwi ρ _

include hx hgm hwi in
theorem p9 : Rows (k0_pay9 (F := Ideal) x gm wi) I.q B := by
  intro ρ j
  unfold k0_pay9
  pointwise
  rw [p5 hx hgm hwi, p5 hx hgm hwi]
  rfl

include hx hgm hwi in
theorem p10 : Rows (k0_pay10 (F := Ideal) x gm wi) (late I.q) (B + 16) := by
  intro ρ j
  unfold k0_pay10
  pointwise
  rw [p9 hx hgm hwi, ← late_add I.q]
  congr 1; omega

include hx hgm hwi in
theorem p14 : Rows (k0_pay14 (F := Ideal) (k0_pay8 (F := Ideal) x gm wi)) (late I.z) (B + 16) := by
  intro ρ j
  unfold k0_pay14
  pointwise
  rw [p8 hx hgm hwi, ← late_add I.z]
  congr 1; omega

end

section

variable {I : In} {B : ℕ} {q : FVec Ideal S512x512 .f32} {qe : FVec Ideal S528x512 .f32} {c0 c1 c2 : FVec Ideal S1x512 .f32} {a : FVec Ideal S512x512 .f32}
  (hq : Rows q I.q B) (hqe : Rows qe (late I.q) B) (h2 : Rows c2 I.ca 2) (h1 : Rows c1 I.ca 1) (h0 : Rows c0 I.ca 0) (ha : Rows a I.ab B)

include hq hqe h2 h1 h0 in
theorem p11 : Rows (k0_pay11 (F := Ideal) q qe c2 c1 c0) I.cq B := by
  intro ρ j
  unfold k0_pay11
  pointwise
  rw [hq, hqe, hqe, h2, h1, h0]
  simp only [In.cq]
  have e1 : B + (16 + ρ.val + 528 - 1) % 528 = B + ρ.val + 15 := by omega
  have e2 : B + (16 + ρ.val + 528 - 2) % 528 = B + ρ.val + 14 := by omega
  rw [e1, e2]
  rfl

include hq hqe h2 h1 h0 in
theorem p12 : Rows (k0_pay12 (F := Ideal) q qe c2 c1 c0) I.cq B := by
  intro ρ j
  unfold k0_pay12
  pointwise
  exact p11 hq hqe h2 h1 h0 ρ j

include hq hqe h2 h1 h0 ha in
theorem p13 (ρ : Fin 512) (j : Fin 512) : k0_pay13 (F := Ideal) a q qe c2 c1 c0 (ix2 ρ j) = I.ab (B + ρ.val) j * I.cq (B + ρ.val) j := by
  unfold k0_pay13
  pointwise
  rw [p11 hq hqe h2 h1 h0, ha]

end

section Windows

variable {I : In} {B : ℕ}

/-- One doubling: the array added to itself rolled down by `s` rows. -/
def rollAdd (s : BitVec 32) (x : FVec Ideal S528x128 .f32) : FVec Ideal S528x128 .f32 :=
  addf x (dynamicRotate 0 s none x rotates_S528x128_d0)

/-- The doubling sums of `n` steps, on the rows that no rolled-in row has reached. -/
abbrev WBack (I : In) (x : FVec Ideal S528x128 .f32) (g : Fin 4) (n : ℕ) (B : ℕ) : Prop :=
  ∀ (i : Fin 528) (c : Fin 128), 2 ^ n ≤ i.val + 1 → x (ix2 i c) = wback (fun r => late I.z r (col g c)) n (B + i.val)

theorem roll_step {x : FVec Ideal S528x128 .f32} {g : Fin 4} {n : ℕ} (hx : WBack I x g n B) {s : BitVec 32}
    (hs : ∀ (i : Fin 528) (_ : 2 ^ n ≤ i.val) (c : Fin 128), rollAdd s x (ix2 i c) = x (ix2 i c) + x (ix2 ⟨i.val - 2 ^ n, lt_of_le_of_lt (Nat.sub_le _ _) i.isLt⟩ c)) :
    WBack I (rollAdd s x) g (n + 1) B := by
  intro i c hi
  have h2 : (2 : ℕ) ^ (n + 1) = 2 ^ n + 2 ^ n := by rw [pow_succ, Nat.mul_two]
  have hp : 0 < (2 : ℕ) ^ n := by positivity
  rw [hs i (by omega) c, hx i c (by omega), hx ⟨i.val - 2 ^ n, lt_of_le_of_lt (Nat.sub_le _ _) i.isLt⟩ c (by simp only; omega), wback]
  congr 2
  simp only
  omega

theorem roll1 {x : FVec Ideal S528x128 .f32} {g : Fin 4} (hx : WBack I x g 0 B) : WBack I (rollAdd 1#32 x) g 1 B := by
  refine roll_step hx fun i h c => ?_
  unfold rollAdd
  pointwise
  congr 3
  apply Fin.ext; simp only; omega

theorem roll2 {x : FVec Ideal S528x128 .f32} {g : Fin 4} (hx : WBack I x g 1 B) : WBack I (rollAdd 2#32 x) g 2 B := by
  refine roll_step hx fun i h c => ?_
  unfold rollAdd
  pointwise
  congr 3
  apply Fin.ext; simp only; omega

theorem roll4 {x : FVec Ideal S528x128 .f32} {g : Fin 4} (hx : WBack I x g 2 B) : WBack I (rollAdd 4#32 x) g 3 B := by
  refine roll_step hx fun i h c => ?_
  unfold rollAdd
  pointwise
  congr 3
  apply Fin.ext; simp only; omega

theorem roll8 {x : FVec Ideal S528x128 .f32} {g : Fin 4} (hx : WBack I x g 3 B) : WBack I (rollAdd 8#32 x) g 4 B := by
  refine roll_step hx fun i h c => ?_
  unfold rollAdd
  pointwise
  congr 3
  apply Fin.ext; simp only; omega

/-- The columns of one group of the extended array. -/
theorem wback0 (ex : FVec Ideal S528x512 .f32) (he : Rows ex (late I.z) B) (x : FVec Ideal S528x128 .f32) (g : Fin 4)
    (hx : ∀ (i : Fin 528) (c : Fin 128), x (ix2 i c) = ex (ix2 i (col g c))) : WBack I x g 0 B := by
  intro i c _
  rw [hx, he, wback]

/-- A row's count, as the kernel's words have it. -/
theorem count_at {t : ℕ} (ht : t < 8) (hB : B = t * 512) (ρ : Fin 512) (g : Fin 4) (L : EReal) (hL : L = wlit g) :
    min (FloatOps.sitofp (F := Ideal) .f32 (IntOp.addi (IntOp.addi (Scalar.muli (BitVec.ofNat 32 t) 512#32) (BitVec.ofNat 32 ρ.val)) 1#32) : EReal) L
      = cnt (B + ρ.val) g := by
  subst hB
  unfold cnt
  rw [hL]
  congr 1
  have e : IntOp.addi (IntOp.addi (Scalar.muli (BitVec.ofNat 32 t) 512#32) (BitVec.ofNat 32 ρ.val)) 1#32 = BitVec.ofNat 32 (t * 512 + ρ.val + 1) := by
    show (BitVec.ofNat 32 t * 512#32 + BitVec.ofNat 32 ρ.val) + 1#32 = _
    rw [show (512#32) = BitVec.ofNat 32 512 from rfl, show (1#32) = BitVec.ofNat 32 1 from rfl, ← BitVec.ofNat_mul, ← BitVec.ofNat_add, ← BitVec.ofNat_add]
  have h : (BitVec.ofNat 32 (t * 512 + ρ.val + 1)).toInt = ((t * 512 + ρ.val + 1 : ℕ) : ℤ) := by
    have := ρ.isLt
    rw [BitVec.toInt_eq_toNat_of_lt] <;> rw [BitVec.toNat_ofNat, Nat.mod_eq_of_lt] <;> omega
  rw [e]
  show (((BitVec.toInt _ : ℤ) : ℝ) : EReal) = _
  rw [h, Int.cast_natCast]
  exact EReal.coe_natCast

theorem pl_col (r : ℕ) (g : Fin 4) (c : Fin 128) :
    I.pl r (col g c) = Ideal.div (wback (fun r => late I.z r (col g c)) (g.val + 1) (r + 16)) (cnt r g) - I.z r (col g c) := by
  unfold In.pl
  rw [grp_col]

/-- A window's sum at a row of the block, as the payloads read it. -/
theorem at_row {w : FVec Ideal S528x128 .f32} {g : Fin 4} (hw : WBack I w g (g.val + 1) B) (ρ : Fin 512) (c : Fin 128) (h : 16 + ρ.val < 528) :
    w (ix2 ⟨16 + ρ.val, h⟩ c) = wback (fun r => late I.z r (col g c)) (g.val + 1) (B + ρ.val + 16) := by
  have hp : (2 : ℕ) ^ (g.val + 1) ≤ 2 ^ 4 := Nat.pow_le_pow_right (by omega) (by omega)
  refine (hw _ c (by show _ ≤ 16 + ρ.val + 1; omega)).trans (congrArg _ ?_)
  show B + (16 + ρ.val) = _
  omega

variable {z : FVec Ideal S512x512 .f32} {ze : FVec Ideal S528x512 .f32} (hz : Rows z I.z B) (hze : Rows ze (late I.z) B) {t : ℕ} (ht : t < 8) (hB : B = t * 512)

include hz hze ht hB

theorem p15 : GRows (k0_pay15 (F := Ideal) (BitVec.ofNat 32 t) z ze) I.pl 0 B := by
  intro ρ c
  have hw := roll1 (wback0 ze hze (extractStridedSlice S528x128 ![0, 0] ze slices_S528x512_o0_0_S528x128) 0
    (by intro i c; pointwise; congr 2; apply Fin.ext; simp [col]))
  unfold rollAdd at hw
  unfold k0_pay15
  generalize addf (_ : FVec Ideal S528x128 .f32) (dynamicRotate 0 1#32 none (_ : FVec Ideal S528x128 .f32) rotates_S528x128_d0) = w at hw ⊢
  pointwise
  rw [pl_col, ← count_at ht hB ρ 0 _ rfl, ← hz]
  refine congrArg₂ (· - ·) (congrArg₂ Ideal.div (at_row hw ρ c _) rfl) ?_
  congr 2; apply Fin.ext; simp [col]

theorem p17 : GRows (k0_pay17 (F := Ideal) (BitVec.ofNat 32 t) z ze) I.pl 1 B := by
  intro ρ c
  have hw := roll2 (roll1 (wback0 ze hze (extractStridedSlice S528x128 ![0, 128] ze slices_S528x512_o0_128_S528x128) 1
    (by intro i c; pointwise; congr 2)))
  unfold rollAdd at hw
  unfold k0_pay17
  generalize addf (_ : FVec Ideal S528x128 .f32) (dynamicRotate 0 2#32 none (_ : FVec Ideal S528x128 .f32) rotates_S528x128_d0) = w at hw ⊢
  pointwise
  rw [pl_col, ← count_at ht hB ρ 1 _ rfl, ← hz]
  exact congrArg₂ (· - ·) (congrArg₂ Ideal.div (at_row hw ρ c _) rfl) rfl

omit ht hB hz in
theorem p19 (ρ : Fin 512) (c : Fin 128) : k0_pay19 (F := Ideal) ze (ix2 ρ c) = wback (fun r => late I.z r (col 2 c)) 3 (B + ρ.val + 16) := by
  have hw := roll4 (roll2 (roll1 (wback0 ze hze (extractStridedSlice S528x128 ![0, 256] ze slices_S528x512_o0_256_S528x128) 2
    (by intro i c; pointwise; congr 2))))
  unfold rollAdd at hw
  unfold k0_pay19
  generalize addf (_ : FVec Ideal S528x128 .f32) (dynamicRotate 0 4#32 none (_ : FVec Ideal S528x128 .f32) rotates_S528x128_d0) = w at hw ⊢
  pointwise
  exact at_row (g := 2) hw ρ c _

theorem p21 : GRows (k0_pay21 (F := Ideal) z (k0_pay19 (F := Ideal) ze) (iota .tc S512x1 32 [0] iota_S512x1_d0_w32) (k0_pay20 (BitVec.ofNat 32 t))) I.pl 2 B := by
  intro ρ c
  unfold k0_pay21 k0_pay20
  pointwise
  rw [pl_col, ← count_at ht hB ρ 2 _ rfl, ← hz, p19 hze]
  rfl

theorem p23 : GRows (k0_pay23 (F := Ideal) (BitVec.ofNat 32 t) z ze) I.pl 3 B := by
  intro ρ c
  have hw := roll8 (roll4 (roll2 (roll1 (wback0 ze hze (extractStridedSlice S528x128 ![0, 384] ze slices_S528x512_o0_384_S528x128) 3
    (by intro i c; pointwise; congr 2)))))
  unfold rollAdd at hw
  unfold k0_pay23
  generalize addf (_ : FVec Ideal S528x128 .f32) (dynamicRotate 0 8#32 none (_ : FVec Ideal S528x128 .f32) rotates_S528x128_d0) = w at hw ⊢
  pointwise
  rw [pl_col, ← count_at ht hB ρ 3 _ rfl, ← hz]
  exact congrArg₂ (· - ·) (congrArg₂ Ideal.div (at_row hw ρ c _) rfl) rfl

end Windows

section Mixed

variable {I : In} {B : ℕ}

/-- The mixing weights of group `g`. -/
abbrev Wt (I : In) (w : FVec Ideal S1x128x128 .bf16) (g : Fin 4) : Prop := ∀ c d : Fin 128, w (ix3 0 c d) = I.wp g c d

theorem mx_col (r : ℕ) (g : Fin 4) (d : Fin 128) : I.mx r (col g d) = ∑ c, I.pl r (col g c) * I.wp g c d := by
  unfold In.mx
  rw [grp_col, pos_col]

theorem p16 {p : FVec Ideal S512x128 .bf16} {w : FVec Ideal S1x128x128 .bf16} {g : Fin 4} (hp : GRows p I.pl g B) (hw : Wt I w g) :
    GRows (k0_pay16 (F := Ideal) p w) I.mx g B := by
  intro ρ c
  unfold k0_pay16
  pointwise
  simp only [hp _ _, hw _ _]
  exact (mx_col _ _ _).symm

variable {y : FVec Ideal S512x512 .f32} {m0 m1 m2 : FVec Ideal S512x128 .f32} {p3 : FVec Ideal S512x128 .bf16} {w3 : FVec Ideal S1x128x128 .bf16}
  {s : FVec Ideal S1x512 .f32} {x : FVec Ideal S512x1024 .f32} {wo : FVec Ideal S1024x1024 .bf16} {gf : FVec Ideal S1x1024 .f32}
  (hy : ∀ (ρ : Fin 512) (j : Fin 512), y (ix2 ρ j) = I.ab (B + ρ.val) j * I.cq (B + ρ.val) j) (h0 : GRows m0 I.mx 0 B) (h1 : GRows m1 I.mx 1 B)
  (h2 : GRows m2 I.mx 2 B) (h3 : GRows p3 I.pl 3 B) (hw : Wt I w3 3) (hs : Rows s I.ps 0) (hx : Rows x I.x B) (hwo : Rows wo I.wo 0) (hgf : Rows gf I.gf 0)

theorem p24_eq : k0_pay24 (F := Ideal) y m0 m1 m2 p3 w3 s = truncf .bf16 (concatenate S512x1024 1 [⟨S512x512, y⟩,
    ⟨S512x512, mulf (concatenate S512x512 1 [⟨S512x128, m0⟩, ⟨S512x128, m1⟩, ⟨S512x128, m2⟩, ⟨S512x128, k0_pay16 (F := Ideal) p3 w3⟩]
      concatenates_S512x128_S512x128_S512x128_S512x128_S512x512_d1) (broadcastTo S512x512 s broadcasts_S1x512_S512x512)⟩]
    concatenates_S512x512_S512x512_S512x1024_d1) bitsLt_bf16_f32 := rfl

include hy h0 h1 h2 h3 hw hs in
theorem p24 : Rows (k0_pay24 (F := Ideal) y m0 m1 m2 p3 w3 s) I.mix B := by
  intro ρ j
  have h3' := p16 h3 hw
  rw [p24_eq]
  generalize k0_pay16 (F := Ideal) p3 w3 = m3 at h3'
  pointwise
  unfold In.mix
  by_cases c0 : j.val < 512
  · refine (dif_pos c0).trans ?_
    rw [dif_pos c0]
    exact hy _ _
  refine (dif_neg c0).trans ?_
  rw [dif_neg c0]
  refine congrArg₂ (· * ·) ?_ (hs _ _)
  by_cases c1 : j.val - 512 < 128
  · refine (dif_pos (by omega)).trans ((h0 _ _).trans (congrArg (I.mx (B + ρ.val)) ?_))
    apply Fin.ext; simp [col]
  refine (dif_neg (by omega)).trans ?_
  by_cases c2 : j.val - 512 < 256
  · refine (dif_pos (by omega)).trans ((h1 _ _).trans (congrArg (I.mx (B + ρ.val)) ?_))
    apply Fin.ext; simp [col]; omega
  refine (dif_neg (by omega)).trans ?_
  by_cases c3 : j.val - 512 < 384
  · refine (dif_pos (by omega)).trans ((h2 _ _).trans (congrArg (I.mx (B + ρ.val)) ?_))
    apply Fin.ext; simp [col]; omega
  refine (dif_neg (by omega)).trans ?_
  refine (h3' _ _).trans (congrArg (I.mx (B + ρ.val)) ?_)
  apply Fin.ext; simp [col]; omega

include hy h0 h1 h2 h3 hw hs hx hwo in
theorem p25 : Rows (k0_pay25 (F := Ideal) x y m0 m1 m2 p3 w3 s wo) I.ho B := by
  intro ρ j
  unfold k0_pay25
  pointwise
  simp only [p24 hy h0 h1 h2 h3 hw hs _ _, hx _ _, hwo _ _, Nat.zero_add]
  rfl

include hy h0 h1 h2 h3 hw hs hx hwo hgf in
theorem p26 : Rows (k0_pay26 (F := Ideal) x y m0 m1 m2 p3 w3 s wo gf) I.hn B := by
  intro ρ j
  unfold k0_pay26
  pointwise
  simp only [p25 hy h0 h1 h2 h3 hw hs hx hwo _ _, hgf _ _, Nat.zero_add]
  rfl

end Mixed

/-- What a grid point reads: its blocks' parts and the two extended arrays. -/
structure Reads (I : In) (B t : ℕ) (x : FVec Ideal S512x1024 .f32) (gm : FVec Ideal S1x1024 .f32) (wi : FVec Ideal S1024x2048 .bf16) (qe : FVec Ideal S528x512 .f32)
    (c2 c1 c0 : FVec Ideal S1x512 .f32) (ze : FVec Ideal S528x512 .f32) : Prop where
  ht : t < 8
  hB : B = t * 512
  hx : Rows x I.x B
  hgm : Rows gm I.gm 0
  hwi : Rows wi I.wi 0
  hqe : Rows qe (late I.q) B
  h2 : Rows c2 I.ca 2
  h1 : Rows c1 I.ca 1
  h0 : Rows c0 I.ca 0
  hze : Rows ze (late I.z) B

namespace Reads

variable {I : In} {B t : ℕ} {x : FVec Ideal S512x1024 .f32} {gm gf : FVec Ideal S1x1024 .f32} {wi : FVec Ideal S1024x2048 .bf16} {qe ze : FVec Ideal S528x512 .f32}
  {c2 c1 c0 s : FVec Ideal S1x512 .f32} {w0 w1 w2 w3 : FVec Ideal S1x128x128 .bf16} {wo : FVec Ideal S1024x1024 .bf16} (R : Reads I B t x gm wi qe c2 c1 c0 ze)
  (hw0 : Wt I w0 0) (hw1 : Wt I w1 1) (hw2 : Wt I w2 2) (hw3 : Wt I w3 3) (hs : Rows s I.ps 0) (hwo : Rows wo I.wo 0) (hgf : Rows gf I.gf 0)

include R

theorem z : Rows (k0_pay8 (F := Ideal) x gm wi) I.z B := p8 R.hx R.hgm R.hwi

theorem cq : Rows (k0_pay12 (F := Ideal) (k0_pay9 (F := Ideal) x gm wi) qe c2 c1 c0) I.cq B :=
  p12 (p9 R.hx R.hgm R.hwi) R.hqe R.h2 R.h1 R.h0

theorem y (ρ : Fin 512) (j : Fin 512) : k0_pay13 (F := Ideal) (k0_pay7 (F := Ideal) x gm wi) (k0_pay9 (F := Ideal) x gm wi) qe c2 c1 c0 (ix2 ρ j)
    = I.ab (B + ρ.val) j * I.cq (B + ρ.val) j :=
  p13 (p9 R.hx R.hgm R.hwi) R.hqe R.h2 R.h1 R.h0 (p7 R.hx R.hgm R.hwi) ρ j

theorem g0 : GRows (k0_pay15 (F := Ideal) (BitVec.ofNat 32 t) (k0_pay8 (F := Ideal) x gm wi) ze) I.pl 0 B := p15 R.z R.hze R.ht R.hB

theorem g1 : GRows (k0_pay17 (F := Ideal) (BitVec.ofNat 32 t) (k0_pay8 (F := Ideal) x gm wi) ze) I.pl 1 B := p17 R.z R.hze R.ht R.hB

theorem g2 : GRows (k0_pay21 (F := Ideal) (k0_pay8 (F := Ideal) x gm wi) (k0_pay19 (F := Ideal) ze) (iota .tc S512x1 32 [0] iota_S512x1_d0_w32)
    (k0_pay20 (BitVec.ofNat 32 t))) I.pl 2 B := p21 R.z R.hze R.ht R.hB

theorem g3 : GRows (k0_pay23 (F := Ideal) (BitVec.ofNat 32 t) (k0_pay8 (F := Ideal) x gm wi) ze) I.pl 3 B := p23 R.z R.hze R.ht R.hB

include hw0 hw1 hw2 hw3 hs

theorem mix : Rows (k0_pay24 (F := Ideal) (k0_pay13 (F := Ideal) (k0_pay7 (F := Ideal) x gm wi) (k0_pay9 (F := Ideal) x gm wi) qe c2 c1 c0)
    (k0_pay16 (F := Ideal) (k0_pay15 (F := Ideal) (BitVec.ofNat 32 t) (k0_pay8 (F := Ideal) x gm wi) ze) w0)
    (k0_pay18 (F := Ideal) (BitVec.ofNat 32 t) (k0_pay8 (F := Ideal) x gm wi) ze w1)
    (k0_pay22 (F := Ideal) (k0_pay8 (F := Ideal) x gm wi) (k0_pay19 (F := Ideal) ze) (iota .tc S512x1 32 [0] iota_S512x1_d0_w32) (k0_pay20 (BitVec.ofNat 32 t)) w2)
    (k0_pay23 (F := Ideal) (BitVec.ofNat 32 t) (k0_pay8 (F := Ideal) x gm wi) ze) w3 s) I.mix B :=
  p24 R.y (p16 R.g0 hw0) (p16 R.g1 hw1) (p16 R.g2 hw2) R.g3 hw3 hs

include hwo

theorem ho : Rows (k0_pay25 (F := Ideal) x (k0_pay13 (F := Ideal) (k0_pay7 (F := Ideal) x gm wi) (k0_pay9 (F := Ideal) x gm wi) qe c2 c1 c0)
    (k0_pay16 (F := Ideal) (k0_pay15 (F := Ideal) (BitVec.ofNat 32 t) (k0_pay8 (F := Ideal) x gm wi) ze) w0)
    (k0_pay18 (F := Ideal) (BitVec.ofNat 32 t) (k0_pay8 (F := Ideal) x gm wi) ze w1)
    (k0_pay22 (F := Ideal) (k0_pay8 (F := Ideal) x gm wi) (k0_pay19 (F := Ideal) ze) (iota .tc S512x1 32 [0] iota_S512x1_d0_w32) (k0_pay20 (BitVec.ofNat 32 t)) w2)
    (k0_pay23 (F := Ideal) (BitVec.ofNat 32 t) (k0_pay8 (F := Ideal) x gm wi) ze) w3 s wo) I.ho B :=
  p25 R.y (p16 R.g0 hw0) (p16 R.g1 hw1) (p16 R.g2 hw2) R.g3 hw3 hs R.hx hwo

include hgf

theorem hn : Rows (k0_pay26 (F := Ideal) x (k0_pay13 (F := Ideal) (k0_pay7 (F := Ideal) x gm wi) (k0_pay9 (F := Ideal) x gm wi) qe c2 c1 c0)
    (k0_pay16 (F := Ideal) (k0_pay15 (F := Ideal) (BitVec.ofNat 32 t) (k0_pay8 (F := Ideal) x gm wi) ze) w0)
    (k0_pay18 (F := Ideal) (BitVec.ofNat 32 t) (k0_pay8 (F := Ideal) x gm wi) ze w1)
    (k0_pay22 (F := Ideal) (k0_pay8 (F := Ideal) x gm wi) (k0_pay19 (F := Ideal) ze) (iota .tc S512x1 32 [0] iota_S512x1_d0_w32) (k0_pay20 (BitVec.ofNat 32 t)) w2)
    (k0_pay23 (F := Ideal) (BitVec.ofNat 32 t) (k0_pay8 (F := Ideal) x gm wi) ze) w3 s wo gf) I.hn B :=
  p26 R.y (p16 R.g0 hw0) (p16 R.g1 hw1) (p16 R.g2 hw2) R.g3 hw3 hs R.hx hwo hgf

end Reads

section Pooled

/-- A row array over a block, as a function of the block's place. -/
def spot (f : ℕ → Fin 512 → EReal) (B : ℕ) : S512x512.Idx → EReal := fun y => f (B + (y 0).val) (y 1)

/-- The pieces of a list hold a row array's entries where they are written. -/
def Til (L : List (View.Piece (Elt Ideal) S512x512 .bf16)) (f : ℕ → Fin 512 → EReal) (B : ℕ) : Prop :=
  ∀ p ∈ L, ∀ x : p.1.shape.Idx, p.2 x = spot f B (p.1.emb x)

variable {f : ℕ → Fin 512 → EReal} {B : ℕ}

theorem Til.nil : Til [] f B := fun _ h => absurd h List.not_mem_nil

/-- One group's columns, written after the others. -/
theorem Til.cons {L : List (View.Piece (Elt Ideal) S512x512 .bf16)} {g : Fin 4} {w : FVec Ideal S512x128 .bf16} {p : ℕ} {inb} (h : GRows w f g B) (hp : p = 128 * g.val)
    (hL : Til L f B) : Til (⟨Rect.unit (s := S512x512) ![0, p] ![512, 128] inb, w⟩ :: L) f B := by
  intro q hq
  rcases List.mem_cons.mp hq with rfl | hq
  · refine Cert.Even.agr2 inb fun i j i' j' hi hj => ?_
    have e : j' = col g j := Fin.ext (by rw [hj, hp]; rfl)
    subst e
    refine (h i j).trans (congrArg (fun r => f r _) ?_)
    show B + i.val = B + i'.val
    omega
  · exact hL q hq

theorem Til.done {L : List (View.Piece (Elt Ideal) S512x512 .bf16)} (h : Til L f B) (ρ j : Fin 512) (hc : ∃ p ∈ L, ix2 ρ j ∈ p.1.set) :
    View.canon L (ix2 ρ j) = f (B + ρ.val) j :=
  View.canon_apply_of_pieces (Val := Elt Ideal) (e := .bf16) (spot f B) L h (ix2 ρ j) hc

end Pooled

end Cert.Ev
-- ==== Proof.EvWin.lean ====
/-
  The even layers' mixer: what a grid point reads, carries and writes, and the seven arrays at the end.
-/
module

public import proofs.«01_k».proof.Proof.EvPay
public import Idealize.ShloMosaic.Lib.StableHlo.RunRead

@[expose] public section

set_option maxRecDepth 16384

noncomputable section

open Idealize.ShloMosaic Idealize.ShloMosaic.TcCoe Idealize.SL.Sem Idealize.ShloMosaic.StableHlo

namespace Cert.Ev

open Cert.EvenFwdIdeal Cert.EvenFwdIdeal.Gen Cert.EvenFwdIdeal.Value
open Cert.Even (ms Rows GRows rd2 rd3 ld2 ld3 canon2 mem2 agr2 zero_off)
open Cert.Ff (all all' part Low Hi over back)

variable (m : (ℓ : Loc nD τ sig) → Buf (Elt Ideal) ℓ) (c : Dev nD) (t : Fin cfg0.N)

/-- A row number within the arrays. -/
def row (r : ℕ) : Fin 4096 := ⟨r % 4096, Nat.mod_lt _ (by decide)⟩

theorem row_val (r : Fin 4096) : row r.val = r := Fin.ext (Nat.mod_eq_of_lt r.isLt)

def wrow (r : ℕ) : Fin 1024 := ⟨r % 1024, Nat.mod_lt _ (by decide)⟩

theorem wrow_val (r : Fin 1024) : wrow r.val = r := Fin.ext (Nat.mod_eq_of_lt r.isLt)

def tap (r : ℕ) : Fin 3 := ⟨r % 3, Nat.mod_lt _ (by decide)⟩

theorem tap_val (r : Fin 3) : tap r.val = r := Fin.ext (Nat.mod_eq_of_lt r.isLt)

/-- The arguments. -/
def inp : In where
  x r k := (m (c, Proc.tc.devRef main_arg0) : FVec Ideal S4096x1024 .f32) (ix2 (row r) k)
  gm _ j := (m (c, Proc.tc.devRef main_arg1) : FVec Ideal S1x1024 .f32) (ix2 0 j)
  gf _ j := (m (c, Proc.tc.devRef main_arg2) : FVec Ideal S1x1024 .f32) (ix2 0 j)
  wi k j := (m (c, Proc.tc.devRef main_arg3) : FVec Ideal S1024x2048 .f32) (ix2 (wrow k) j)
  ca k j := (m (c, Proc.tc.devRef main_arg4) : FVec Ideal S3x512 .f32) (ix2 (tap k) j)
  wp g i d := (m (c, Proc.tc.devRef main_arg5) : FVec Ideal S4x128x128 .f32) (ix3 g i d)
  ps _ j := (m (c, Proc.tc.devRef main_arg6) : FVec Ideal S1x512 .f32) (ix2 0 j)
  wo k j := (m (c, Proc.tc.devRef main_arg7) : FVec Ideal S1024x1024 .f32) (ix2 (wrow k) j)

theorem V0 (r : ℕ) (k : Fin 1024) : (V m c main_arg0 : FVec Ideal S4096x1024 .f32) (ix2 (row r) k) = (inp m c).x r k := by
  unfold V inp; after_reads_simp
theorem V1 (r : ℕ) (j : Fin 1024) : (V m c main_arg1 : FVec Ideal S1x1024 .f32) (ix2 0 j) = (inp m c).gm r j := by
  unfold V inp; after_reads_simp
theorem V2 (r : ℕ) (j : Fin 1024) : (V m c main_arg2 : FVec Ideal S1x1024 .f32) (ix2 0 j) = (inp m c).gf r j := by
  unfold V inp; after_reads_simp
theorem V3 (k : ℕ) (j : Fin 2048) : (V m c main_v0 : FVec Ideal S1024x2048 .bf16) (ix2 (wrow k) j) = (inp m c).wi k j := by
  unfold V inp; after_reads_simp; rfl
theorem V4 (k : ℕ) (j : Fin 512) : (V m c main_arg4 : FVec Ideal S3x512 .f32) (ix2 (tap k) j) = (inp m c).ca k j := by
  unfold V inp; after_reads_simp
theorem V5 (g : Fin 4) (i d : Fin 128) : (V m c main_v1 : FVec Ideal S4x128x128 .bf16) (ix3 g i d) = (inp m c).wp g i d := by
  unfold V inp; after_reads_simp; rfl
theorem V6 (r : ℕ) (j : Fin 512) : (V m c main_arg6 : FVec Ideal S1x512 .f32) (ix2 0 j) = (inp m c).ps r j := by
  unfold V inp; after_reads_simp
theorem V7 (k : ℕ) (j : Fin 1024) : (V m c main_v2 : FVec Ideal S1024x1024 .bf16) (ix2 (wrow k) j) = (inp m c).wo k j := by
  unfold V inp; after_reads_simp; rfl

theorem idx_row : ∀ t : Fin grid0.N, (win0_0.index t 0 = t.val ∧ win0_0.index t 1 = 0) ∧ (win0_8.index t 0 = t.val ∧ win0_8.index t 1 = 0)
    ∧ (win0_9.index t 0 = t.val ∧ win0_9.index t 1 = 0) ∧ (win0_10.index t 0 = t.val ∧ win0_10.index t 1 = 0) ∧ (win0_11.index t 0 = t.val ∧ win0_11.index t 1 = 0)
    ∧ (win0_12.index t 0 = t.val ∧ win0_12.index t 1 = 0) ∧ (win0_13.index t 0 = t.val ∧ win0_13.index t 1 = 0) ∧ (win0_14.index t 0 = t.val ∧ win0_14.index t 1 = 0) := by
  decide +kernel

theorem idx_whole : ∀ t : Fin grid0.N, (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = 0 ∧ win0_5.index t 1 = 0 ∧ win0_5.index t 2 = 0) ∧ (win0_6.index t 0 = 0 ∧ win0_6.index t 1 = 0)
    ∧ (win0_7.index t 0 = 0 ∧ win0_7.index t 1 = 0) := by
  decide +kernel

theorem t_lt : t.val < 8 := lt_of_lt_of_eq t.isLt N_0

theorem off {n x : ℕ} (h : n = t.val) (hx : x < 512) : n * 512 + 1 * x = (row (t.val * 512 + x)).val := by
  have := t_lt t
  show _ = (t.val * 512 + x) % 4096
  rw [Nat.mod_eq_of_lt (by omega), h]; omega

theorem iblk0 : Rows (φ := .f32) (iblk m c 0 t : FVec Ideal S512x1024 .f32) (inp m c).x (t.val * 512) := fun ρ k =>
  (rd2 (V m c main_arg0 : FVec Ideal S4096x1024 .f32) _ _ k (off t (idx_row t).1.1 ρ.isLt) (zero_off (idx_row t).1.2)).trans (V0 m c _ k)
theorem iblk1 : Rows (φ := .f32) (iblk m c 1 t : FVec Ideal S1x1024 .f32) (inp m c).gm 0 := fun ρ k =>
  (rd2 (V m c main_arg1 : FVec Ideal S1x1024 .f32) _ ρ k (zero_off (idx_whole t).1.1) (zero_off (idx_whole t).1.2)).trans
    (by rw [Subsingleton.elim ρ 0]; exact V1 m c _ k)
theorem iblk2 : Rows (φ := .f32) (iblk m c 2 t : FVec Ideal S1x1024 .f32) (inp m c).gf 0 := fun ρ k =>
  (rd2 (V m c main_arg2 : FVec Ideal S1x1024 .f32) _ ρ k (zero_off (idx_whole t).2.1.1) (zero_off (idx_whole t).2.1.2)).trans
    (by rw [Subsingleton.elim ρ 0]; exact V2 m c _ k)
theorem iblk3 : Rows (φ := .bf16) (iblk m c 3 t : FVec Ideal S1024x2048 .bf16) (inp m c).wi 0 := fun ρ k =>
  (rd2 (V m c main_v0 : FVec Ideal S1024x2048 .bf16) _ (wrow (0 + ρ.val)) k
    ((zero_off (idx_whole t).2.2.1.1).trans (by rw [Nat.zero_add, wrow_val]; rfl)) (zero_off (idx_whole t).2.2.1.2)).trans (V3 m c _ k)
theorem iblk4 : Rows (φ := .f32) (iblk m c 4 t : FVec Ideal S3x512 .f32) (inp m c).ca 0 := fun ρ k =>
  (rd2 (V m c main_arg4 : FVec Ideal S3x512 .f32) _ (tap (0 + ρ.val)) k
    ((zero_off (idx_whole t).2.2.2.1.1).trans (by rw [Nat.zero_add, tap_val]; rfl)) (zero_off (idx_whole t).2.2.2.1.2)).trans (V4 m c _ k)
theorem iblk5 (g : Fin 4) (i d : Fin 128) : (iblk m c 5 t : FVec Ideal S4x128x128 .bf16) (ix3 g i d) = (inp m c).wp g i d :=
  (rd3 (V m c main_v1 : FVec Ideal S4x128x128 .bf16) _ g i d (zero_off (idx_whole t).2.2.2.2.1.1) (zero_off (idx_whole t).2.2.2.2.1.2.1)
    (zero_off (idx_whole t).2.2.2.2.1.2.2)).trans (V5 m c g i d)
theorem iblk6 : Rows (φ := .f32) (iblk m c 6 t : FVec Ideal S1x512 .f32) (inp m c).ps 0 := fun ρ k =>
  (rd2 (V m c main_arg6 : FVec Ideal S1x512 .f32) _ ρ k (zero_off (idx_whole t).2.2.2.2.2.1.1) (zero_off (idx_whole t).2.2.2.2.2.1.2)).trans
    (by rw [Subsingleton.elim ρ 0]; exact V6 m c _ k)
theorem iblk7 : Rows (φ := .bf16) (iblk m c 7 t : FVec Ideal S1024x1024 .bf16) (inp m c).wo 0 := fun ρ k =>
  (rd2 (V m c main_v2 : FVec Ideal S1024x1024 .bf16) _ (wrow (0 + ρ.val)) k
    ((zero_off (idx_whole t).2.2.2.2.2.2.1).trans (by rw [Nat.zero_add, wrow_val]; rfl)) (zero_off (idx_whole t).2.2.2.2.2.2.2)).trans (V7 m c _ k)

/-- One group's mixing weights, as read from the stack. -/
theorem mixers {q : ℕ} (g : Fin 4) (hq : q = g.val) (inb : ∀ x : Fin 3, (![q, 0, 0] : Fin 3 → ℕ) x + (![1, 128, 128] : Fin 3 → ℕ) x ≤ (![4, 128, 128] : Fin 3 → ℕ) x) :
    Wt (inp m c) (View.ld (Val := Elt Ideal) (e' := .bf16) (iblk m c 5 t : FVec Ideal S4x128x128 .bf16) (Rect.unit (s := S4x128x128) ![q, 0, 0] ![1, 128, 128] inb)) g := fun i d =>
  (ld3 (e := .bf16) (iblk m c 5 t : FVec Ideal S4x128x128 .bf16) inb 0 i d g hq.symm).trans (iblk5 m c t g i d)

theorem coord_t : ∀ t : Fin grid0.N, (grid0.coords t 0).val = t.val := by decide +kernel

theorem first (h : t.val % 8 = 0) : t.val = 0 := by
  have := t_lt t
  omega

/-- The cleared rows and those after them, as the buffer's pieces. -/
theorem held {f : ℕ → Fin 512 → EReal} {z : FVec Ideal S16x512 .f32} {w : FVec Ideal S512x512 .f32} (h : t.val % 8 = 0)
    (hz : ∀ ρ j, z (ix2 ρ j) = 0) (hw : Rows w (late f) (t.val * 512 + 16)) {i1 i2} :
    Low (N := 528) (e := .f32) (fun x => x)
      [⟨Rect.unit (s := S528x512) ![16, 0] ![512, 512] i1, w⟩, ⟨Rect.unit (s := S528x512) ![0, 0] ![16, 512] i2, z⟩] (late f) (t.val * 512) 528 := by
  refine .cons rfl (.cons rfl .nil fun ρ j => ?_) hw
  rw [hz, first t h]
  unfold late
  rw [if_pos (by omega)]

/-- The block's rows alone, as the buffer's one piece. -/
theorem tail_ {f : ℕ → Fin 512 → EReal} {w : FVec Ideal S512x512 .f32} {B : ℕ} (hw : Rows w (late f) (B + 16)) {i1} :
    Hi (View.canon [(⟨Rect.unit (s := S528x512) ![16, 0] ![512, 512] i1, w⟩ : View.Piece (Elt Ideal) S528x512 .f32)]) (late f) B 512 :=
  fun ρ j h => Hi.canon_cons (e := .f32) (q := fun x => x) (a := 512) (o := 16) (Hi.none _) hw ρ j (le_trans (by decide) h)

theorem top_q_A (h : t.val % 8 = 0) (ρ : Fin 528) (j : Fin 512) (hρ : ρ.val < 16) :
    ((outsAt0 m c t.val t.isLt).2.2.2.2.2.2.2.1 : FVec Ideal S528x512 .f32) (ix2 ρ j) = late (inp m c).q (t.val * 512 + 512 + ρ.val) j := by
  rw [outsAt0_A m c t h]
  dsimp only
  unfold sout0_A_0
  rw [View.read_writes_eq_canon _ _ _ (fun y => scover0_A_0 (y := y) ..)]
  unfold kernelRun0_A
  dsimp only
  sl_unfold_words
  simp only [View.readAt_eq_ld, Memref.IsWhole.read_unread]
  refine (canon2 _ (⟨ρ.val, hρ⟩ : Fin 16) j ρ j (Nat.zero_add _).symm (Nat.zero_add _).symm).trans ((c27 _ _ _).trans ?_)
  exact back (held t h z2 (p10 (all (iblk0 m c t) _) (all (iblk1 m c t) _) (all' (iblk3 m c t) _))) _ _ _

theorem top_q_B (h : ¬t.val % 8 = 0) (ρ : Fin 528) (j : Fin 512) (hρ : ρ.val < 16) :
    ((outsAt0 m c t.val t.isLt).2.2.2.2.2.2.2.1 : FVec Ideal S528x512 .f32) (ix2 ρ j) = late (inp m c).q (t.val * 512 + 512 + ρ.val) j := by
  rw [outsAt0_B m c t h]
  dsimp only
  unfold sout0_B_0
  rw [View.read_writes_eq_canon _ _ _ (fun y => scover0_B_0 (y := y) ..)]
  unfold kernelRun0_B
  dsimp only
  sl_unfold_words
  simp only [View.readAt_eq_ld, Memref.IsWhole.read_unread]
  refine (canon2 _ (⟨ρ.val, hρ⟩ : Fin 16) j ρ j (Nat.zero_add _).symm (Nat.zero_add _).symm).trans ((c27 _ _ _).trans ?_)
  exact Hi.readCov (tail_ (p10 (all (iblk0 m c t) _) (all (iblk1 m c t) _) (all' (iblk3 m c t) _))) _ _ _

/-- The rows that a point leaves for the next one. -/
theorem top_q (ρ : Fin 528) (j : Fin 512) (hρ : ρ.val < 16) :
    ((outsAt0 m c t.val t.isLt).2.2.2.2.2.2.2.1 : FVec Ideal S528x512 .f32) (ix2 ρ j) = late (inp m c).q (t.val * 512 + 512 + ρ.val) j := by
  by_cases h : t.val % 8 = 0
  · exact top_q_A m c t h ρ j hρ
  · exact top_q_B m c t h ρ j hρ

theorem top_z_A (h : t.val % 8 = 0) (ρ : Fin 528) (j : Fin 512) (hρ : ρ.val < 16) :
    ((outsAt0 m c t.val t.isLt).2.2.2.2.2.2.2.2 : FVec Ideal S528x512 .f32) (ix2 ρ j) = late (inp m c).z (t.val * 512 + 512 + ρ.val) j := by
  rw [outsAt0_A m c t h]
  dsimp only
  unfold sout0_A_1
  rw [View.read_writes_eq_canon _ _ _ (fun y => scover0_A_1 (y := y) ..)]
  unfold kernelRun0_A
  dsimp only
  sl_unfold_words
  simp only [View.readAt_eq_ld, Memref.IsWhole.read_unread]
  refine (canon2 _ (⟨ρ.val, hρ⟩ : Fin 16) j ρ j (Nat.zero_add _).symm (Nat.zero_add _).symm).trans ((c1 _ _ _).trans ?_)
  exact back (held t h z3 (p14 (all (iblk0 m c t) _) (all (iblk1 m c t) _) (all' (iblk3 m c t) _))) _ _ _

theorem top_z_B (h : ¬t.val % 8 = 0) (ρ : Fin 528) (j : Fin 512) (hρ : ρ.val < 16) :
    ((outsAt0 m c t.val t.isLt).2.2.2.2.2.2.2.2 : FVec Ideal S528x512 .f32) (ix2 ρ j) = late (inp m c).z (t.val * 512 + 512 + ρ.val) j := by
  rw [outsAt0_B m c t h]
  dsimp only
  unfold sout0_B_1
  rw [View.read_writes_eq_canon _ _ _ (fun y => scover0_B_1 (y := y) ..)]
  unfold kernelRun0_B
  dsimp only
  sl_unfold_words
  simp only [View.readAt_eq_ld, Memref.IsWhole.read_unread]
  refine (canon2 _ (⟨ρ.val, hρ⟩ : Fin 16) j ρ j (Nat.zero_add _).symm (Nat.zero_add _).symm).trans ((c1 _ _ _).trans ?_)
  exact Hi.readCov (tail_ (p14 (all (iblk0 m c t) _) (all (iblk1 m c t) _) (all' (iblk3 m c t) _))) _ _ _

/-- The rows that a point leaves for the next one. -/
theorem top_z (ρ : Fin 528) (j : Fin 512) (hρ : ρ.val < 16) :
    ((outsAt0 m c t.val t.isLt).2.2.2.2.2.2.2.2 : FVec Ideal S528x512 .f32) (ix2 ρ j) = late (inp m c).z (t.val * 512 + 512 + ρ.val) j := by
  by_cases h : t.val % 8 = 0
  · exact top_z_A m c t h ρ j hρ
  · exact top_z_B m c t h ρ j hρ

/-- The rows before the block, at a point after the first. -/
theorem carried_q (h : ¬t.val % 8 = 0) (hp : t.val - 1 < cfg0.N) (i : Fin 528) (j : Fin 512) (hi : i.val < 16) :
    (View.whole cc0_scratch0).read (Elt Ideal) ((Memref.isWhole_whole cc0_scratch0).unread (outsAt0 m c (t.val - 1) hp).2.2.2.2.2.2.2.1) (ix2 i j)
      = late (inp m c).q (t.val * 512 + i.val) j := by
  refine (congrFun ((Memref.isWhole_whole cc0_scratch0).read_unread (Val := Elt Ideal) _) (ix2 i j)).trans ?_
  refine (top_q m c ⟨t.val - 1, hp⟩ i j hi).trans (congrArg (fun r => late (inp m c).q r j) ?_)
  show (t.val - 1) * 512 + 512 + i.val = _
  omega

theorem carried_z (h : ¬t.val % 8 = 0) (hp : t.val - 1 < cfg0.N) (i : Fin 528) (j : Fin 512) (hi : i.val < 16) :
    (View.whole cc0_scratch1).read (Elt Ideal) ((Memref.isWhole_whole cc0_scratch1).unread (outsAt0 m c (t.val - 1) hp).2.2.2.2.2.2.2.2) (ix2 i j)
      = late (inp m c).z (t.val * 512 + i.val) j := by
  refine (congrFun ((Memref.isWhole_whole cc0_scratch1).read_unread (Val := Elt Ideal) _) (ix2 i j)).trans ?_
  refine (top_z m c ⟨t.val - 1, hp⟩ i j hi).trans (congrArg (fun r => late (inp m c).z r j) ?_)
  show (t.val - 1) * 512 + 512 + i.val = _
  omega

theorem prev : t.val - 1 < cfg0.N := Nat.lt_of_le_of_lt (Nat.sub_le _ _) t.isLt

theorem coord_8 : (grid0.coords t 0).val < 8 := (grid0.coords t 0).isLt

theorem coord_B : t.val * 512 = (grid0.coords t 0).val * 512 := by rw [coord_t]

theorem at_xn_A (h : t.val % 8 = 0) : Rows (φ := .bf16) (outsAt0 m c t.val t.isLt).1 (inp m c).xn (t.val * 512) := by
  intro ρ j
  rw [outsAt0_A m c t h]
  dsimp only
  unfold out0_A_8
  rw [View.read_writes_eq_canon _ _ _ (fun y => cover0_A_8 (y := y) ..)]
  unfold kernelRun0_A
  dsimp only
  sl_unfold_words
  simp only [View.readAt_eq_ld, Memref.IsWhole.read_unread]
  refine (canon2 _ ρ j ρ j (Nat.zero_add _).symm (Nat.zero_add _).symm).trans ?_
  exact p4 (all (iblk0 m c t) _) (all (iblk1 m c t) _) ρ j

theorem at_xn_B (h : ¬t.val % 8 = 0) : Rows (φ := .bf16) (outsAt0 m c t.val t.isLt).1 (inp m c).xn (t.val * 512) := by
  intro ρ j
  rw [outsAt0_B m c t h]
  dsimp only
  unfold out0_B_8
  rw [View.read_writes_eq_canon _ _ _ (fun y => cover0_B_8 (y := y) ..)]
  unfold kernelRun0_B
  dsimp only
  sl_unfold_words
  simp only [View.readAt_eq_ld, Memref.IsWhole.read_unread]
  refine (canon2 _ ρ j ρ j (Nat.zero_add _).symm (Nat.zero_add _).symm).trans ?_
  exact p4 (all (iblk0 m c t) _) (all (iblk1 m c t) _) ρ j

theorem at_P_A (h : t.val % 8 = 0) : Rows (φ := .bf16) (outsAt0 m c t.val t.isLt).2.1 (inp m c).P (t.val * 512) := by
  intro ρ j
  rw [outsAt0_A m c t h]
  dsimp only
  unfold out0_A_9
  rw [View.read_writes_eq_canon _ _ _ (fun y => cover0_A_9 (y := y) ..)]
  unfold kernelRun0_A
  dsimp only
  sl_unfold_words
  simp only [View.readAt_eq_ld, Memref.IsWhole.read_unread]
  refine (canon2 _ ρ j ρ j (Nat.zero_add _).symm (Nat.zero_add _).symm).trans ?_
  exact p6 (all (iblk0 m c t) _) (all (iblk1 m c t) _) (all' (iblk3 m c t) _) ρ j

theorem at_P_B (h : ¬t.val % 8 = 0) : Rows (φ := .bf16) (outsAt0 m c t.val t.isLt).2.1 (inp m c).P (t.val * 512) := by
  intro ρ j
  rw [outsAt0_B m c t h]
  dsimp only
  unfold out0_B_9
  rw [View.read_writes_eq_canon _ _ _ (fun y => cover0_B_9 (y := y) ..)]
  unfold kernelRun0_B
  dsimp only
  sl_unfold_words
  simp only [View.readAt_eq_ld, Memref.IsWhole.read_unread]
  refine (canon2 _ ρ j ρ j (Nat.zero_add _).symm (Nat.zero_add _).symm).trans ?_
  exact p6 (all (iblk0 m c t) _) (all (iblk1 m c t) _) (all' (iblk3 m c t) _) ρ j

theorem at_cq_A (h : t.val % 8 = 0) : Rows (φ := .bf16) (outsAt0 m c t.val t.isLt).2.2.1 (inp m c).cq (t.val * 512) := by
  intro ρ j
  rw [outsAt0_A m c t h]
  dsimp only
  unfold out0_A_10
  rw [View.read_writes_eq_canon _ _ _ (fun y => cover0_A_10 (y := y) ..)]
  unfold kernelRun0_A
  dsimp only
  sl_unfold_words
  simp only [View.readAt_eq_ld, Memref.IsWhole.read_unread]
  refine (canon2 _ ρ j ρ j (Nat.zero_add _).symm (Nat.zero_add _).symm).trans ?_
  exact p12 (p9 (all (iblk0 m c t) _) (all (iblk1 m c t) _) (all' (iblk3 m c t) _))
    (back (held t h z2 (p10 (all (iblk0 m c t) _) (all (iblk1 m c t) _) (all' (iblk3 m c t) _))) _) (part (o := 2) (iblk4 m c t) _) (part (o := 1) (iblk4 m c t) _) (part (o := 0) (iblk4 m c t) _) ρ j

theorem at_cq_B (h : ¬t.val % 8 = 0) : Rows (φ := .bf16) (outsAt0 m c t.val t.isLt).2.2.1 (inp m c).cq (t.val * 512) := by
  intro ρ j
  rw [outsAt0_B m c t h]
  dsimp only
  unfold out0_B_10
  rw [View.read_writes_eq_canon _ _ _ (fun y => cover0_B_10 (y := y) ..)]
  unfold kernelRun0_B
  dsimp only
  sl_unfold_words
  simp only [View.readAt_eq_ld, Memref.IsWhole.read_unread]
  refine (canon2 _ ρ j ρ j (Nat.zero_add _).symm (Nat.zero_add _).symm).trans ?_
  exact p12 (p9 (all (iblk0 m c t) _) (all (iblk1 m c t) _) (all' (iblk3 m c t) _))
    (all (over rfl (p10 (all (iblk0 m c t) _) (all (iblk1 m c t) _) (all' (iblk3 m c t) _)) (carried_q m c t h (prev t))) _) (part (o := 2) (iblk4 m c t) _) (part (o := 1) (iblk4 m c t) _) (part (o := 0) (iblk4 m c t) _) ρ j

theorem at_pl_A (h : t.val % 8 = 0) : Rows (φ := .bf16) (outsAt0 m c t.val t.isLt).2.2.2.1 (inp m c).pl (t.val * 512) := by
  intro ρ j
  rw [outsAt0_A m c t h]
  dsimp only
  unfold out0_A_11
  rw [View.read_writes_eq_canon _ _ _ (fun y => cover0_A_11 (y := y) ..)]
  unfold kernelRun0_A
  dsimp only
  sl_unfold_words
  simp only [View.readAt_eq_ld, Memref.IsWhole.read_unread]
  have Z := p8 (all (iblk0 m c t) inb_S512x1024_S512x1024_0_0) (all (iblk1 m c t) inb_S1x1024_S1x1024_0_0) (all' (iblk3 m c t) inb_S1024x2048_S1024x2048_0_0)
  refine Til.done ?_ ρ j (View.cover_of_tiledL _ (![512, 128] : Fin 2 → ℕ) (by sl_kernel_rfl) _)
  refine .cons (g := 3) (p23 Z ?_ (coord_8 t) (coord_B t)) rfl (.cons (g := 2) (p21 Z ?_ (coord_8 t) (coord_B t)) rfl
    (.cons (g := 1) (p17 Z ?_ (coord_8 t) (coord_B t)) rfl (.cons (g := 0) (p15 Z ?_ (coord_8 t) (coord_B t)) rfl .nil)))
  all_goals exact back (held t h z3 (p14 (all (iblk0 m c t) _) (all (iblk1 m c t) _) (all' (iblk3 m c t) _))) _

theorem at_pl_B (h : ¬t.val % 8 = 0) : Rows (φ := .bf16) (outsAt0 m c t.val t.isLt).2.2.2.1 (inp m c).pl (t.val * 512) := by
  intro ρ j
  rw [outsAt0_B m c t h]
  dsimp only
  unfold out0_B_11
  rw [View.read_writes_eq_canon _ _ _ (fun y => cover0_B_11 (y := y) ..)]
  unfold kernelRun0_B
  dsimp only
  sl_unfold_words
  simp only [View.readAt_eq_ld, Memref.IsWhole.read_unread]
  have Z := p8 (all (iblk0 m c t) inb_S512x1024_S512x1024_0_0) (all (iblk1 m c t) inb_S1x1024_S1x1024_0_0) (all' (iblk3 m c t) inb_S1024x2048_S1024x2048_0_0)
  refine Til.done ?_ ρ j (View.cover_of_tiledL _ (![512, 128] : Fin 2 → ℕ) (by sl_kernel_rfl) _)
  refine .cons (g := 3) (p23 Z ?_ (coord_8 t) (coord_B t)) rfl (.cons (g := 2) (p21 Z ?_ (coord_8 t) (coord_B t)) rfl
    (.cons (g := 1) (p17 Z ?_ (coord_8 t) (coord_B t)) rfl (.cons (g := 0) (p15 Z ?_ (coord_8 t) (coord_B t)) rfl .nil)))
  all_goals exact all (over rfl (p14 (all (iblk0 m c t) _) (all (iblk1 m c t) _) (all' (iblk3 m c t) _)) (carried_z m c t h (prev t))) _

theorem at_mix_A (h : t.val % 8 = 0) : Rows (φ := .bf16) (outsAt0 m c t.val t.isLt).2.2.2.2.1 (inp m c).mix (t.val * 512) := by
  intro ρ j
  rw [outsAt0_A m c t h]
  dsimp only
  unfold out0_A_12
  rw [View.read_writes_eq_canon _ _ _ (fun y => cover0_A_12 (y := y) ..)]
  unfold kernelRun0_A
  dsimp only
  sl_unfold_words
  simp only [View.readAt_eq_ld, Memref.IsWhole.read_unread]
  refine (canon2 _ ρ j ρ j (Nat.zero_add _).symm (Nat.zero_add _).symm).trans ?_
  refine Reads.mix ?_ (mixers m c t 0 rfl _) (mixers m c t 1 rfl _) (mixers m c t 2 rfl _)
    (mixers m c t 3 rfl _) (all (iblk6 m c t) _) ρ j
  exact ⟨coord_8 t, coord_B t, all (iblk0 m c t) _, all (iblk1 m c t) _, all' (iblk3 m c t) _,
    back (held t h z2 (p10 (all (iblk0 m c t) _) (all (iblk1 m c t) _) (all' (iblk3 m c t) _))) _, part (o := 2) (iblk4 m c t) _, part (o := 1) (iblk4 m c t) _, part (o := 0) (iblk4 m c t) _,
    back (held t h z3 (p14 (all (iblk0 m c t) _) (all (iblk1 m c t) _) (all' (iblk3 m c t) _))) _⟩

theorem at_mix_B (h : ¬t.val % 8 = 0) : Rows (φ := .bf16) (outsAt0 m c t.val t.isLt).2.2.2.2.1 (inp m c).mix (t.val * 512) := by
  intro ρ j
  rw [outsAt0_B m c t h]
  dsimp only
  unfold out0_B_12
  rw [View.read_writes_eq_canon _ _ _ (fun y => cover0_B_12 (y := y) ..)]
  unfold kernelRun0_B
  dsimp only
  sl_unfold_words
  simp only [View.readAt_eq_ld, Memref.IsWhole.read_unread]
  refine (canon2 _ ρ j ρ j (Nat.zero_add _).symm (Nat.zero_add _).symm).trans ?_
  refine Reads.mix ?_ (mixers m c t 0 rfl _) (mixers m c t 1 rfl _) (mixers m c t 2 rfl _)
    (mixers m c t 3 rfl _) (all (iblk6 m c t) _) ρ j
  exact ⟨coord_8 t, coord_B t, all (iblk0 m c t) _, all (iblk1 m c t) _, all' (iblk3 m c t) _,
    all (over rfl (p10 (all (iblk0 m c t) _) (all (iblk1 m c t) _) (all' (iblk3 m c t) _)) (carried_q m c t h (prev t))) _, part (o := 2) (iblk4 m c t) _, part (o := 1) (iblk4 m c t) _, part (o := 0) (iblk4 m c t) _,
    all (over rfl (p14 (all (iblk0 m c t) _) (all (iblk1 m c t) _) (all' (iblk3 m c t) _)) (carried_z m c t h (prev t))) _⟩

theorem at_ho_A (h : t.val % 8 = 0) : Rows (φ := .f32) (outsAt0 m c t.val t.isLt).2.2.2.2.2.1 (inp m c).ho (t.val * 512) := by
  intro ρ j
  rw [outsAt0_A m c t h]
  dsimp only
  unfold out0_A_13
  rw [View.read_writes_eq_canon _ _ _ (fun y => cover0_A_13 (y := y) ..)]
  unfold kernelRun0_A
  dsimp only
  sl_unfold_words
  simp only [View.readAt_eq_ld, Memref.IsWhole.read_unread]
  refine (canon2 _ ρ j ρ j (Nat.zero_add _).symm (Nat.zero_add _).symm).trans ?_
  refine Reads.ho ?_ (mixers m c t 0 rfl _) (mixers m c t 1 rfl _) (mixers m c t 2 rfl _)
    (mixers m c t 3 rfl _) (all (iblk6 m c t) _) (all' (iblk7 m c t) _) ρ j
  exact ⟨coord_8 t, coord_B t, all (iblk0 m c t) _, all (iblk1 m c t) _, all' (iblk3 m c t) _,
    back (held t h z2 (p10 (all (iblk0 m c t) _) (all (iblk1 m c t) _) (all' (iblk3 m c t) _))) _, part (o := 2) (iblk4 m c t) _, part (o := 1) (iblk4 m c t) _, part (o := 0) (iblk4 m c t) _,
    back (held t h z3 (p14 (all (iblk0 m c t) _) (all (iblk1 m c t) _) (all' (iblk3 m c t) _))) _⟩

theorem at_ho_B (h : ¬t.val % 8 = 0) : Rows (φ := .f32) (outsAt0 m c t.val t.isLt).2.2.2.2.2.1 (inp m c).ho (t.val * 512) := by
  intro ρ j
  rw [outsAt0_B m c t h]
  dsimp only
  unfold out0_B_13
  rw [View.read_writes_eq_canon _ _ _ (fun y => cover0_B_13 (y := y) ..)]
  unfold kernelRun0_B
  dsimp only
  sl_unfold_words
  simp only [View.readAt_eq_ld, Memref.IsWhole.read_unread]
  refine (canon2 _ ρ j ρ j (Nat.zero_add _).symm (Nat.zero_add _).symm).trans ?_
  refine Reads.ho ?_ (mixers m c t 0 rfl _) (mixers m c t 1 rfl _) (mixers m c t 2 rfl _)
    (mixers m c t 3 rfl _) (all (iblk6 m c t) _) (all' (iblk7 m c t) _) ρ j
  exact ⟨coord_8 t, coord_B t, all (iblk0 m c t) _, all (iblk1 m c t) _, all' (iblk3 m c t) _,
    all (over rfl (p10 (all (iblk0 m c t) _) (all (iblk1 m c t) _) (all' (iblk3 m c t) _)) (carried_q m c t h (prev t))) _, part (o := 2) (iblk4 m c t) _, part (o := 1) (iblk4 m c t) _, part (o := 0) (iblk4 m c t) _,
    all (over rfl (p14 (all (iblk0 m c t) _) (all (iblk1 m c t) _) (all' (iblk3 m c t) _)) (carried_z m c t h (prev t))) _⟩

theorem at_hn_A (h : t.val % 8 = 0) : Rows (φ := .bf16) (outsAt0 m c t.val t.isLt).2.2.2.2.2.2.1 (inp m c).hn (t.val * 512) := by
  intro ρ j
  rw [outsAt0_A m c t h]
  dsimp only
  unfold out0_A_14
  rw [View.read_writes_eq_canon _ _ _ (fun y => cover0_A_14 (y := y) ..)]
  unfold kernelRun0_A
  dsimp only
  sl_unfold_words
  simp only [View.readAt_eq_ld, Memref.IsWhole.read_unread]
  refine (canon2 _ ρ j ρ j (Nat.zero_add _).symm (Nat.zero_add _).symm).trans ?_
  refine Reads.hn ?_ (mixers m c t 0 rfl _) (mixers m c t 1 rfl _) (mixers m c t 2 rfl _)
    (mixers m c t 3 rfl _) (all (iblk6 m c t) _) (all' (iblk7 m c t) _) (all (iblk2 m c t) _) ρ j
  exact ⟨coord_8 t, coord_B t, all (iblk0 m c t) _, all (iblk1 m c t) _, all' (iblk3 m c t) _,
    back (held t h z2 (p10 (all (iblk0 m c t) _) (all (iblk1 m c t) _) (all' (iblk3 m c t) _))) _, part (o := 2) (iblk4 m c t) _, part (o := 1) (iblk4 m c t) _, part (o := 0) (iblk4 m c t) _,
    back (held t h z3 (p14 (all (iblk0 m c t) _) (all (iblk1 m c t) _) (all' (iblk3 m c t) _))) _⟩

theorem at_hn_B (h : ¬t.val % 8 = 0) : Rows (φ := .bf16) (outsAt0 m c t.val t.isLt).2.2.2.2.2.2.1 (inp m c).hn (t.val * 512) := by
  intro ρ j
  rw [outsAt0_B m c t h]
  dsimp only
  unfold out0_B_14
  rw [View.read_writes_eq_canon _ _ _ (fun y => cover0_B_14 (y := y) ..)]
  unfold kernelRun0_B
  dsimp only
  sl_unfold_words
  simp only [View.readAt_eq_ld, Memref.IsWhole.read_unread]
  refine (canon2 _ ρ j ρ j (Nat.zero_add _).symm (Nat.zero_add _).symm).trans ?_
  refine Reads.hn ?_ (mixers m c t 0 rfl _) (mixers m c t 1 rfl _) (mixers m c t 2 rfl _)
    (mixers m c t 3 rfl _) (all (iblk6 m c t) _) (all' (iblk7 m c t) _) (all (iblk2 m c t) _) ρ j
  exact ⟨coord_8 t, coord_B t, all (iblk0 m c t) _, all (iblk1 m c t) _, all' (iblk3 m c t) _,
    all (over rfl (p10 (all (iblk0 m c t) _) (all (iblk1 m c t) _) (all' (iblk3 m c t) _)) (carried_q m c t h (prev t))) _, part (o := 2) (iblk4 m c t) _, part (o := 1) (iblk4 m c t) _, part (o := 0) (iblk4 m c t) _,
    all (over rfl (p14 (all (iblk0 m c t) _) (all (iblk1 m c t) _) (all' (iblk3 m c t) _)) (carried_z m c t h (prev t))) _⟩

/-- The grid point that writes a row, and the row within its block. -/
def pt (r : Fin 4096) : Fin cfg0.N := ⟨r.val / 512, lt_of_lt_of_eq (Nat.div_lt_of_lt_mul r.isLt) N_0.symm⟩

def rem (r : Fin 4096) : Fin 512 := ⟨r.val % 512, Nat.mod_lt _ (by decide)⟩

theorem pt_rem (r : Fin 4096) : (pt r).val * 512 + (rem r).val = r.val := Nat.div_add_mod' _ _

theorem off_pt {n : ℕ} (r : Fin 4096) (h : n = (pt r).val) : n * 512 + 1 * (rem r).val = r.val := by
  rw [h, Nat.one_mul]; exact pt_rem r

theorem at_xn : Rows (φ := .bf16) (outsAt0 m c t.val t.isLt).1 (inp m c).xn (t.val * 512) := by
  by_cases h : t.val % 8 = 0
  · exact at_xn_A m c t h
  · exact at_xn_B m c t h

theorem end_xn (r : Fin 4096) (j : Fin 1024) : ((dats m 0 c).arrAt 8 cfg0.N : FVec Ideal S4096x1024 .bf16) (ix2 r j) = (inp m c).xn r.val j := by
  have hb := congrFun (blocks8 m c (pt r) (flush0_8 _)) (ix2 (rem r) j)
  rw [flushed8] at hb
  refine Eq.trans ?_ (hb.trans ((at_xn m c (pt r) (rem r) j).trans (congrArg (fun n => (inp m c).xn n j) (pt_rem r))))
  exact (rd2 ((dats m 0 c).arrAt 8 cfg0.N : FVec Ideal S4096x1024 .bf16) _ r j (off_pt r (idx_row (pt r)).2.1.1) (zero_off (idx_row (pt r)).2.1.2)).symm

theorem at_P : Rows (φ := .bf16) (outsAt0 m c t.val t.isLt).2.1 (inp m c).P (t.val * 512) := by
  by_cases h : t.val % 8 = 0
  · exact at_P_A m c t h
  · exact at_P_B m c t h

theorem end_P (r : Fin 4096) (j : Fin 2048) : ((dats m 0 c).arrAt 9 cfg0.N : FVec Ideal S4096x2048 .bf16) (ix2 r j) = (inp m c).P r.val j := by
  have hb := congrFun (blocks9 m c (pt r) (flush0_9 _)) (ix2 (rem r) j)
  rw [flushed9] at hb
  refine Eq.trans ?_ (hb.trans ((at_P m c (pt r) (rem r) j).trans (congrArg (fun n => (inp m c).P n j) (pt_rem r))))
  exact (rd2 ((dats m 0 c).arrAt 9 cfg0.N : FVec Ideal S4096x2048 .bf16) _ r j (off_pt r (idx_row (pt r)).2.2.1.1) (zero_off (idx_row (pt r)).2.2.1.2)).symm

theorem at_cq : Rows (φ := .bf16) (outsAt0 m c t.val t.isLt).2.2.1 (inp m c).cq (t.val * 512) := by
  by_cases h : t.val % 8 = 0
  · exact at_cq_A m c t h
  · exact at_cq_B m c t h

theorem end_cq (r : Fin 4096) (j : Fin 512) : ((dats m 0 c).arrAt 10 cfg0.N : FVec Ideal S4096x512 .bf16) (ix2 r j) = (inp m c).cq r.val j := by
  have hb := congrFun (blocks10 m c (pt r) (flush0_10 _)) (ix2 (rem r) j)
  rw [flushed10] at hb
  refine Eq.trans ?_ (hb.trans ((at_cq m c (pt r) (rem r) j).trans (congrArg (fun n => (inp m c).cq n j) (pt_rem r))))
  exact (rd2 ((dats m 0 c).arrAt 10 cfg0.N : FVec Ideal S4096x512 .bf16) _ r j (off_pt r (idx_row (pt r)).2.2.2.1.1) (zero_off (idx_row (pt r)).2.2.2.1.2)).symm

theorem at_pl : Rows (φ := .bf16) (outsAt0 m c t.val t.isLt).2.2.2.1 (inp m c).pl (t.val * 512) := by
  by_cases h : t.val % 8 = 0
  · exact at_pl_A m c t h
  · exact at_pl_B m c t h

theorem end_pl (r : Fin 4096) (j : Fin 512) : ((dats m 0 c).arrAt 11 cfg0.N : FVec Ideal S4096x512 .bf16) (ix2 r j) = (inp m c).pl r.val j := by
  have hb := congrFun (blocks11 m c (pt r) (flush0_11 _)) (ix2 (rem r) j)
  rw [flushed11] at hb
  refine Eq.trans ?_ (hb.trans ((at_pl m c (pt r) (rem r) j).trans (congrArg (fun n => (inp m c).pl n j) (pt_rem r))))
  exact (rd2 ((dats m 0 c).arrAt 11 cfg0.N : FVec Ideal S4096x512 .bf16) _ r j (off_pt r (idx_row (pt r)).2.2.2.2.1.1) (zero_off (idx_row (pt r)).2.2.2.2.1.2)).symm

theorem at_mix : Rows (φ := .bf16) (outsAt0 m c t.val t.isLt).2.2.2.2.1 (inp m c).mix (t.val * 512) := by
  by_cases h : t.val % 8 = 0
  · exact at_mix_A m c t h
  · exact at_mix_B m c t h

theorem end_mix (r : Fin 4096) (j : Fin 1024) : ((dats m 0 c).arrAt 12 cfg0.N : FVec Ideal S4096x1024 .bf16) (ix2 r j) = (inp m c).mix r.val j := by
  have hb := congrFun (blocks12 m c (pt r) (flush0_12 _)) (ix2 (rem r) j)
  rw [flushed12] at hb
  refine Eq.trans ?_ (hb.trans ((at_mix m c (pt r) (rem r) j).trans (congrArg (fun n => (inp m c).mix n j) (pt_rem r))))
  exact (rd2 ((dats m 0 c).arrAt 12 cfg0.N : FVec Ideal S4096x1024 .bf16) _ r j (off_pt r (idx_row (pt r)).2.2.2.2.2.1.1) (zero_off (idx_row (pt r)).2.2.2.2.2.1.2)).symm

theorem at_ho : Rows (φ := .f32) (outsAt0 m c t.val t.isLt).2.2.2.2.2.1 (inp m c).ho (t.val * 512) := by
  by_cases h : t.val % 8 = 0
  · exact at_ho_A m c t h
  · exact at_ho_B m c t h

theorem end_ho (r : Fin 4096) (j : Fin 1024) : ((dats m 0 c).arrAt 13 cfg0.N : FVec Ideal S4096x1024 .f32) (ix2 r j) = (inp m c).ho r.val j := by
  have hb := congrFun (blocks13 m c (pt r) (flush0_13 _)) (ix2 (rem r) j)
  rw [flushed13] at hb
  refine Eq.trans ?_ (hb.trans ((at_ho m c (pt r) (rem r) j).trans (congrArg (fun n => (inp m c).ho n j) (pt_rem r))))
  exact (rd2 ((dats m 0 c).arrAt 13 cfg0.N : FVec Ideal S4096x1024 .f32) _ r j (off_pt r (idx_row (pt r)).2.2.2.2.2.2.1.1) (zero_off (idx_row (pt r)).2.2.2.2.2.2.1.2)).symm

theorem at_hn : Rows (φ := .bf16) (outsAt0 m c t.val t.isLt).2.2.2.2.2.2.1 (inp m c).hn (t.val * 512) := by
  by_cases h : t.val % 8 = 0
  · exact at_hn_A m c t h
  · exact at_hn_B m c t h

theorem end_hn (r : Fin 4096) (j : Fin 1024) : ((dats m 0 c).arrAt 14 cfg0.N : FVec Ideal S4096x1024 .bf16) (ix2 r j) = (inp m c).hn r.val j := by
  have hb := congrFun (blocks14 m c (pt r) (flush0_14 _)) (ix2 (rem r) j)
  rw [flushed14] at hb
  refine Eq.trans ?_ (hb.trans ((at_hn m c (pt r) (rem r) j).trans (congrArg (fun n => (inp m c).hn n j) (pt_rem r))))
  exact (rd2 ((dats m 0 c).arrAt 14 cfg0.N : FVec Ideal S4096x1024 .bf16) _ r j (off_pt r (idx_row (pt r)).2.2.2.2.2.2.2.1) (zero_off (idx_row (pt r)).2.2.2.2.2.2.2.2)).symm

end Cert.Ev
-- ==== Proof.EvSum.lean ====
/-
  The running sum over rows, and the windows of a pooled group as its differences.
-/
module

public import proofs.«01_k».proof.Proof.EvPay
public import proofs.«01_k».proof.Proof.Reals
public import Idealize.ShloMosaic.Lib.Pointwise

@[expose] public section

set_option maxRecDepth 16384

noncomputable section

open Idealize.ShloMosaic

namespace Cert.Ev

open Cert.Even (Re coe_sum)

/-- The sum of the rows up to one. -/
def upto (f : ℕ → EReal) (r : ℕ) : EReal := ∑ k ∈ Finset.range (r + 1), f k

/-- A window of all rows, padded before the first: the running sum, met from its last term. -/
theorem fwd_sum {N Nm1 : ℕ} (X : FVec Ideal ⟨3, ![N, 4, 128]⟩ .f32) (z : (⟨0, ![]⟩ : Shape).Idx → Ideal .f32) (hz : ∀ i, z i = (0 : EReal))
    (h : (⟨3, ![N, 4, 128]⟩ : Shape).ReduceWindows (![N, 1, 1] : Fin 3 → Nat) ![1, 1, 1] ![Nm1, 0, 0] ![0, 0, 0] ⟨3, ![N, 4, 128]⟩)
    (hu : 0 < (⟨0, ![]⟩ : Shape).numel) (g : Fin 4) (c : Fin 128) (f : ℕ → EReal) (hf : ∀ n : Fin N, X (ix3 n g c) = f n.val) (r : Fin N) :
    Host.reduceWindowAdd ![N, 1, 1] ![1, 1, 1] ![Nm1, 0, 0] ![0, 0, 0] X z h hu (ix3 r g c)
      = ∑ k : Fin N, if Nm1 ≤ r.val + k.val ∧ r.val + k.val - Nm1 < N then f (r.val + k.val - Nm1) else 0 := by
  show (List.finRange (⟨3, ![N, 1, 1]⟩ : Shape).numel).foldl _ (z (Shape.Idx.first hu)) = _
  rw [hz]
  refine Eq.trans ?_ ((sum_idx_eq_foldl (⟨3, ![N, 1, 1]⟩ : Shape) (fun i : (⟨3, ![N, 1, 1]⟩ : Shape).Idx =>
    if Nm1 ≤ r.val + (i 0).val ∧ r.val + (i 0).val - Nm1 < N then f (r.val + (i 0).val - Nm1) else 0)).symm.trans ?_)
  · refine congrArg (fun φ => List.foldl φ (0 : EReal) (List.finRange (⟨3, ![N, 1, 1]⟩ : Shape).numel)) (funext fun a => funext fun n => ?_)
    refine congrArg (a + ·) ?_
    dsimp only
    have i1 : ((⟨3, ![N, 1, 1]⟩ : Shape).rowMajor.symm n 1).val = 0 := Nat.lt_one_iff.mp ((⟨3, ![N, 1, 1]⟩ : Shape).rowMajor.symm n 1).isLt
    have i2 : ((⟨3, ![N, 1, 1]⟩ : Shape).rowMajor.symm n 2).val = 0 := Nat.lt_one_iff.mp ((⟨3, ![N, 1, 1]⟩ : Shape).rowMajor.symm n 2).isLt
    split
    · next hin =>
      have h0 : Nm1 ≤ r.val * 1 + ((⟨3, ![N, 1, 1]⟩ : Shape).rowMajor.symm n 0).val ∧ r.val * 1 + ((⟨3, ![N, 1, 1]⟩ : Shape).rowMajor.symm n 0).val - Nm1 < N := hin 0
      rw [Nat.mul_one] at h0
      rw [if_pos h0, ← hf ⟨_, h0.2⟩]
      refine congrArg X (funext fun a => Fin.ext ?_)
      match a with
      | ⟨0, _⟩ =>
        show r.val * 1 + ((⟨3, ![N, 1, 1]⟩ : Shape).rowMajor.symm n 0).val - Nm1 = r.val + ((⟨3, ![N, 1, 1]⟩ : Shape).rowMajor.symm n 0).val - Nm1
        omega
      | ⟨1, _⟩ =>
        show g.val * 1 + ((⟨3, ![N, 1, 1]⟩ : Shape).rowMajor.symm n 1).val - 0 = g.val
        omega
      | ⟨2, _⟩ =>
        show c.val * 1 + ((⟨3, ![N, 1, 1]⟩ : Shape).rowMajor.symm n 2).val - 0 = c.val
        omega
    · next hin =>
      have hg := g.isLt
      have hc := c.isLt
      rw [if_neg fun hle => hin fun a => by
        match a with
        | ⟨0, _⟩ =>
          show Nm1 ≤ r.val * 1 + ((⟨3, ![N, 1, 1]⟩ : Shape).rowMajor.symm n 0).val ∧ r.val * 1 + ((⟨3, ![N, 1, 1]⟩ : Shape).rowMajor.symm n 0).val - Nm1 < N
          omega
        | ⟨1, _⟩ =>
          show 0 ≤ g.val * 1 + ((⟨3, ![N, 1, 1]⟩ : Shape).rowMajor.symm n 1).val ∧ g.val * 1 + ((⟨3, ![N, 1, 1]⟩ : Shape).rowMajor.symm n 1).val - 0 < 4
          omega
        | ⟨2, _⟩ =>
          show 0 ≤ c.val * 1 + ((⟨3, ![N, 1, 1]⟩ : Shape).rowMajor.symm n 2).val ∧ c.val * 1 + ((⟨3, ![N, 1, 1]⟩ : Shape).rowMajor.symm n 2).val - 0 < 128
          omega]
  · rw [sum_idx3]
    refine Finset.sum_congr rfl fun k _ => ?_
    rw [Fin.sum_univ_one, Fin.sum_univ_one]
    rfl

/-- That window is the running sum. -/
theorem fwd_upto (f : ℕ → EReal) (r : Fin 4096) :
    (∑ k : Fin 4096, if 4095 ≤ r.val + k.val ∧ r.val + k.val - 4095 < 4096 then f (r.val + k.val - 4095) else 0) = upto f r.val := by
  rw [← Finset.sum_range (fun k => if 4095 ≤ r.val + k ∧ r.val + k - 4095 < 4096 then f (r.val + k - 4095) else 0), upto,
    ← Finset.sum_range_reflect, ← Finset.sum_range_reflect f]
  have hr := r.isLt
  rw [← Finset.sum_subset (Finset.range_mono (Nat.succ_le_of_lt hr) : Finset.range (r.val + 1) ⊆ Finset.range 4096)]
  · refine Finset.sum_congr rfl fun k hk => ?_
    have hk' := Finset.mem_range.mp hk
    rw [if_pos ⟨by omega, by omega⟩]
    exact congrArg f (by omega)
  · intro k hk hn
    have hk' := Finset.mem_range.mp hk
    have hn' : ¬ k < r.val + 1 := fun h => hn (Finset.mem_range.mpr h)
    exact if_neg fun h => by omega

theorem wback_eq (f : ℕ → EReal) : ∀ n r : ℕ, wback f n r = ∑ k ∈ Finset.range (2 ^ n), f (r - k)
  | 0, r => by rw [wback, pow_zero, Finset.sum_range_one, Nat.sub_zero]
  | n + 1, r => by
    rw [wback, wback_eq f n, wback_eq f n, pow_succ, Nat.mul_two, Finset.sum_range_add]
    simp only [Nat.sub_sub]

/-- Of real rows the running sum less its shift is the window. -/
theorem upto_sub (f : ℕ → Fin 512 → EReal) (j : Fin 512) (hf : ∀ n, Re (f n j)) {n : ℕ} (hn : 2 ^ n ≤ 16) (r : ℕ) :
    upto (fun r => f r j) r - (if r < 2 ^ n then 0 else upto (fun r => f r j) (r - 2 ^ n)) = wback (fun r => late f r j) n (r + 16) := by
  rw [wback_eq]
  generalize 2 ^ n = w at hn ⊢
  choose y hy using hf
  have hl : ∀ k ∈ Finset.range w, late f (r + 16 - k) j = if k ≤ r then (y (r - k) : EReal) else 0 := by
    intro k hk
    have hk' := Finset.mem_range.mp hk
    unfold late
    rcases Nat.lt_or_ge r k with h | h
    · rw [if_pos (by omega), if_neg (by omega)]
    · rw [if_neg (by omega), if_pos h, ← hy]
      exact congrArg (fun i => f i j) (by omega)
  have hu : ∀ r, upto (fun r => f r j) r = ((∑ k ∈ Finset.range (r + 1), y (r - k) : ℝ) : EReal) := by
    intro r
    rw [upto, ← coe_sum, ← Finset.sum_range_reflect]
    exact Finset.sum_congr rfl fun k _ => by rw [hy, Nat.add_sub_cancel]
  rw [Finset.sum_congr rfl hl, hu]
  rcases Nat.lt_or_ge r w with h | h
  · rw [if_pos h, sub_zero, ← coe_sum]
    rw [← Finset.sum_subset (Finset.range_mono (Nat.succ_le_of_lt h) : Finset.range (r + 1) ⊆ Finset.range w)]
    · exact Finset.sum_congr rfl fun k hk => (if_pos (Nat.lt_succ_iff.mp (Finset.mem_range.mp hk))).symm
    · exact fun k _ hn => if_neg fun h => hn (Finset.mem_range.mpr (Nat.lt_succ_of_le h))
  · rw [if_neg (not_lt.mpr h), hu, ← EReal.coe_sub, Finset.sum_congr rfl fun k hk => if_pos (by have := Finset.mem_range.mp hk; omega), coe_sum]
    refine congrArg Real.toEReal ?_
    have hs : r + 1 = w + (r - w + 1) := by omega
    rw [hs, Finset.sum_range_add]
    have he : ∀ k, y (r - (w + k)) = y (r - w - k) := fun k => congrArg y (by omega)
    simp only [he]
    exact add_sub_cancel_right _ _

end Cert.Ev
-- ==== Proof.EvRef.lean ====
/-
  The reference of the even layers' mixer at an index.
-/
module

public import proofs.«01_k».proof.Proof.EvSum
public import proofs.«01_k».proof.Proof.Gen.EvenFwdRefIdeal.Run
public import Idealize.ShloMosaic.PureOps.Ideal.Laws
public import Idealize.ShloMosaic.Lib.Tactic.CleanTypes
public import Idealize.ShloMosaic.Lib.Pointwise

@[expose] public section

set_option maxRecDepth 16384

noncomputable section

open Idealize.ShloMosaic Idealize.ShloMosaic.TcCoe Idealize.SL.Sem

namespace Cert.Ev

open Cert.EvenFwdRefIdeal Cert.EvenFwdRefIdeal.Gen Cert.EvenFwdRefIdeal.Value
open Cert.Even (ms Re cnt wlit grp pos grp_col pos_col col_grp_pos)

variable (m : (ℓ : Loc nD τ sig) → Buf (Elt Ideal) ℓ) (c : Dev nD) (I : In)

/-- The reference's arguments are the given ones. -/
structure Args : Prop where
  a0 : ∀ (r : Fin 4096) (k : Fin 1024), (m ((c.tc : Thread nD τ).loc main_arg0) : FVec Ideal S4096x1024 .f32) (ix2 r k) = I.x r.val k
  a1 : ∀ j : Fin 1024, (m ((c.tc : Thread nD τ).loc main_arg1) : FVec Ideal S1x1024 .f32) (ix2 0 j) = I.gm 0 j
  a2 : ∀ j : Fin 1024, (m ((c.tc : Thread nD τ).loc main_arg2) : FVec Ideal S1x1024 .f32) (ix2 0 j) = I.gf 0 j
  a3 : ∀ (k : Fin 1024) (j : Fin 2048), (m ((c.tc : Thread nD τ).loc main_arg3) : FVec Ideal S1024x2048 .f32) (ix2 k j) = I.wi k.val j
  a4 : ∀ (k : Fin 3) (j : Fin 512), (m ((c.tc : Thread nD τ).loc main_arg4) : FVec Ideal S3x512 .f32) (ix2 k j) = I.ca k.val j
  a5 : ∀ (g : Fin 4) (i d : Fin 128), (m ((c.tc : Thread nD τ).loc main_arg5) : FVec Ideal S4x128x128 .f32) (ix3 g i d) = I.wp g i d
  a6 : ∀ j : Fin 512, (m ((c.tc : Thread nD τ).loc main_arg6) : FVec Ideal S1x512 .f32) (ix2 0 j) = I.ps 0 j
  a7 : ∀ k j : Fin 1024, (m ((c.tc : Thread nD τ).loc main_arg7) : FVec Ideal S1024x1024 .f32) (ix2 k j) = I.wo k.val j

variable {m c I} (A : Args m c I)

section

variable {X M H : FVec Ideal S4096x1024 .f32} {P : FVec Ideal S4096x2048 .f32} {Z K : FVec Ideal S4096x512 .f32} {Q : FVec Ideal S4098x512 .f32}
  {Z3 C T : FVec Ideal S4096x4x128 .f32} {C0 C1 C2 C3 : FVec Ideal S4096x128 .f32} {N : FVec Ideal S4096x1 .f32} {B0 B1 B2 B3 : FVec Ideal S4096x1x128 .f32}
  (hX : ∀ (r : Fin 4096) (j : Fin 1024), X (ix2 r j) = I.xn r.val j) (hP : ∀ (r : Fin 4096) (j : Fin 2048), P (ix2 r j) = I.P r.val j)
  (hZ : ∀ (r : Fin 4096) (j : Fin 512), Z (ix2 r j) = I.z r.val j) (hK : ∀ (r : Fin 4096) (j : Fin 512), K (ix2 r j) = I.cq r.val j)
  (hQ : ∀ (r : Fin 4098) (j : Fin 512), Q (ix2 r j) = late I.q (r.val + 14) j)
  (hZ3 : ∀ (r : Fin 4096) (g : Fin 4) (d : Fin 128), Z3 (ix3 r g d) = I.z r.val (Cert.Even.col g d))
  (hC : ∀ (r : Fin 4096) (g : Fin 4) (d : Fin 128), C (ix3 r g d) = upto (fun n => I.z n (Cert.Even.col g d)) r.val)
  (hN : ∀ r : Fin 4096, N (ix2 r 0) = ((r.val + 1 : ℕ) : EReal))
  (hT : ∀ (r : Fin 4096) (g : Fin 4) (d : Fin 128), T (ix3 r g d) = I.pl r.val (Cert.Even.col g d))
  (hM : ∀ (r : Fin 4096) (j : Fin 1024), M (ix2 r j) = I.mix r.val j) (hH : ∀ (r : Fin 4096) (j : Fin 1024), H (ix2 r j) = I.ho r.val j)
  (hz : ∀ r j, Re (I.z r j))

include A in
theorem xn_of (r : Fin 4096) (j : Fin 1024) : (mulf (mulf (m ((c.tc : Thread nD τ).loc main_arg0)) (broadcastInDim S4096x1024 ![0, 1] bcast_S4096x1_S4096x1024_0_1 (Host.rsqrt (addf (Host.divf (broadcastInDim S4096x1 ![0] bcast_S4096_S4096x1_0 (Host.reduceAdd (mulf (m ((c.tc : Thread nD τ).loc main_arg0)) (m ((c.tc : Thread nD τ).loc main_arg0))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (m ((c.tc : Thread nD τ).loc main_arg1))) : FVec Ideal S4096x1024 .f32) (ix2 r j) = I.xn r.val j := by
  clean_types
  pointwise
  simp only [A.a0, A.a1]
  rfl

include A hX in
theorem P_of (r : Fin 4096) (j : Fin 2048) : (Host.dotGeneral (φ₁ := .f32) (φ₂ := .f32) dot_S4096x1024_S1024x2048_S4096x2048_1_0_0_1_n_n none X (m ((c.tc : Thread nD τ).loc main_arg3)) : FVec Ideal S4096x2048 .f32) (ix2 r j) = I.P r.val j := by
  clean_types
  pointwise
  simp only [hX, A.a3]
  rfl

include hP in
theorem z_of (r : Fin 4096) (j : Fin 512) : (extractStridedSlice S4096x512 ![0, 1536] P slices_S4096x2048_S4096x512_0_1536 : FVec Ideal S4096x512 .f32) (ix2 r j) = I.z r.val j := by
  pointwise
  simp only [hP]
  rfl

include hP in
theorem q_of (r : Fin 4098) (j : Fin 512) : (concatenate S4098x512 0 [⟨S2x512, (broadcastInDim S2x512 ![] bcast_S_S2x512 (constant S_ .f32 0x00000000#32))⟩, ⟨S4096x512, (mulf (extractStridedSlice S4096x512 ![0, 512] P slices_S4096x2048_S4096x512_0_512) (extractStridedSlice S4096x512 ![0, 1024] P slices_S4096x2048_S4096x512_0_1024))⟩] concatenates_S2x512_S4096x512_S4098x512_d0 : FVec Ideal S4098x512 .f32) (ix2 r j) = late I.q (r.val + 14) j := by
  clean_types
  pointwise
  by_cases h : r.val < 2
  · refine (dif_pos h).trans ?_
    rw [late, if_pos (by omega)]
  · refine (dif_neg h).trans ?_
    have hr := r.isLt
    refine (congrArg₂ (fun a b : EReal => a * b) (hP ⟨r.val - 2, by omega⟩ ⟨512 + j.val, by omega⟩) (hP ⟨r.val - 2, by omega⟩ ⟨1024 + j.val, by omega⟩)).trans ?_
    refine (late_add I.q _ _).symm.trans ?_
    exact congrArg (fun n => late I.q n j) (by omega : r.val - 2 + 16 = r.val + 14)

include A hQ in
theorem cq_of (r : Fin 4096) (j : Fin 512) : (addf (addf (mulf (extractStridedSlice S4096x512 ![0, 0] Q slices_S4098x512_S4096x512_0_0) (broadcastInDim S4096x512 ![0, 1] bcast_S1x512_S4096x512_0_1 (broadcastInDim S1x512 ![1] bcast_S512_S1x512_1 (shapeCast S512 (extractStridedSlice S1x512 ![0, 0] (m ((c.tc : Thread nD τ).loc main_arg4)) slices_S3x512_S1x512_0_0) shapeCasts_S1x512_S512)))) (mulf (extractStridedSlice S4096x512 ![1, 0] Q slices_S4098x512_S4096x512_1_0) (broadcastInDim S4096x512 ![0, 1] bcast_S1x512_S4096x512_0_1 (broadcastInDim S1x512 ![1] bcast_S512_S1x512_1 (shapeCast S512 (extractStridedSlice S1x512 ![1, 0] (m ((c.tc : Thread nD τ).loc main_arg4)) slices_S3x512_S1x512_1_0) shapeCasts_S1x512_S512))))) (mulf (extractStridedSlice S4096x512 ![2, 0] Q slices_S4098x512_S4096x512_2_0) (broadcastInDim S4096x512 ![0, 1] bcast_S1x512_S4096x512_0_1 (broadcastInDim S1x512 ![1] bcast_S512_S1x512_1 (shapeCast S512 (extractStridedSlice S1x512 ![2, 0] (m ((c.tc : Thread nD τ).loc main_arg4)) slices_S3x512_S1x512_2_0) shapeCasts_S1x512_S512)))) : FVec Ideal S4096x512 .f32) (ix2 r j) = I.cq r.val j := by
  clean_types
  pointwise
  simp only [hQ, A.a4]
  rw [In.cq, ← late_add I.q]
  refine Eq.trans (b := late I.q (r.val + 14) j * I.ca 0 j + late I.q (r.val + 15) j * I.ca 1 j + late I.q (r.val + 16) j * I.ca 2 j) ?_ ?_
  · refine congrArg₂ (fun a b : EReal => a + b) (congrArg₂ (fun a b : EReal => a + b) ?_ ?_) ?_
    · exact congrArg (fun n => late I.q n j * I.ca 0 j) (by omega)
    · exact congrArg (fun n => late I.q n j * I.ca 1 j) (by omega)
    · exact congrArg (fun n => late I.q n j * I.ca 2 j) (by omega)
  · ac_rfl

include hZ in
theorem z3_of (r : Fin 4096) (g : Fin 4) (d : Fin 128) : (shapeCast S4096x4x128 Z shapeCasts_S4096x512_S4096x4x128 : FVec Ideal S4096x4x128 .f32) (ix3 r g d) = I.z r.val (Cert.Even.col g d) := by
  clean_types
  pointwise
  simp only [hZ]
  exact congrArg (I.z r.val) (Fin.ext (congrArg (· + d.val) (Nat.mul_comm _ _)))

include hZ3 in
theorem sum_of (r : Fin 4096) (g : Fin 4) (d : Fin 128) : (Host.reduceWindowAdd ![4096, 1, 1] ![1, 1, 1] ![4095, 0, 0] ![0, 0, 0] Z3 (broadcastInDim S_ ![] bcast_S_S_ (constant S_ .f32 0x00000000#32)) reduceWindows_S4096x4x128_S4096x4x128_w4096s1p4095_0_w1s1p0_0_w1s1p0_0 h_S_ : FVec Ideal S4096x4x128 .f32) (ix3 r g d) = upto (fun n => I.z n (Cert.Even.col g d)) r.val := by
  rw [fwd_sum (N := 4096) (Nm1 := 4095) Z3 (broadcastInDim S_ ![] bcast_S_S_ (constant S_ .f32 0x00000000#32)) (fun _ => Ideal.ofBits_zero_f32)
    reduceWindows_S4096x4x128_S4096x4x128_w4096s1p4095_0_w1s1p0_0_w1s1p0_0 h_S_ g d (fun n => I.z n (Cert.Even.col g d)) (fun n => hZ3 n g d) r]
  exact fwd_upto (fun n => I.z n (Cert.Even.col g d)) r

theorem pos_of (r : Fin 4096) : (broadcastInDim S4096x1 ![0] bcast_S4096_S4096x1_0 (addf (broadcastInDim S4096 ![] bcast_S_S4096 (constant S_ .f32 0x3F800000#32)) (sitofp .f32 (iotaInDim S4096 32 0))) : FVec Ideal S4096x1 .f32) (ix2 r 0) = ((r.val + 1 : ℕ) : EReal) := by
  clean_types
  pointwise
  have h : (BitVec.ofNat 32 r.val).toInt = (r.val : ℤ) := by
    have := r.isLt
    rw [BitVec.toInt_eq_toNat_of_lt] <;> rw [BitVec.toNat_ofNat, Nat.mod_eq_of_lt] <;> omega
  refine (congrArg (fun a : EReal => 1 + a) (?_ : _ = ((r.val : ℕ) : EReal))).trans ?_
  · show (((BitVec.toInt _ : ℤ) : ℝ) : EReal) = _
    rw [h, Int.cast_natCast]
    exact EReal.coe_natCast
  · rw [add_comm, Nat.cast_succ]

include hC in
theorem g0_of (r : Fin 4096) (d : Fin 128) : (shapeCast S4096x128 (extractStridedSlice S4096x1x128 ![0, 0, 0] C slices_S4096x4x128_S4096x1x128_0_0_0) shapeCasts_S4096x1x128_S4096x128 : FVec Ideal S4096x128 .f32) (ix2 r d) = upto (fun n => I.z n (Cert.Even.col 0 d)) r.val := by
  pointwise
  exact hC r 0 d

include hC in
theorem g1_of (r : Fin 4096) (d : Fin 128) : (shapeCast S4096x128 (extractStridedSlice S4096x1x128 ![0, 1, 0] C slices_S4096x4x128_S4096x1x128_0_1_0) shapeCasts_S4096x1x128_S4096x128 : FVec Ideal S4096x128 .f32) (ix2 r d) = upto (fun n => I.z n (Cert.Even.col 1 d)) r.val := by
  pointwise
  exact hC r 1 d

include hC in
theorem g2_of (r : Fin 4096) (d : Fin 128) : (shapeCast S4096x128 (extractStridedSlice S4096x1x128 ![0, 2, 0] C slices_S4096x4x128_S4096x1x128_0_2_0) shapeCasts_S4096x1x128_S4096x128 : FVec Ideal S4096x128 .f32) (ix2 r d) = upto (fun n => I.z n (Cert.Even.col 2 d)) r.val := by
  pointwise
  exact hC r 2 d

include hC in
theorem g3_of (r : Fin 4096) (d : Fin 128) : (shapeCast S4096x128 (extractStridedSlice S4096x1x128 ![0, 3, 0] C slices_S4096x4x128_S4096x1x128_0_3_0) shapeCasts_S4096x1x128_S4096x128 : FVec Ideal S4096x128 .f32) (ix2 r d) = upto (fun n => I.z n (Cert.Even.col 3 d)) r.val := by
  pointwise
  exact hC r 3 d

include hZ3 hN hz in
theorem b0_of (hC0 : ∀ (r : Fin 4096) (d : Fin 128), C0 (ix2 r d) = upto (fun n => I.z n (Cert.Even.col 0 d)) r.val)
    (r : Fin 4096) (d : Fin 128) : ((broadcastInDim S4096x1x128 ![0, 2] bcast_S4096x128_S4096x1x128_0_2 (subf (Host.divf (subf C0 (concatenate S4096x128 0 [⟨S2x128, (broadcastInDim S2x128 ![] bcast_S_S2x128 (constant S_ .f32 0x00000000#32))⟩, ⟨S4094x128, (extractStridedSlice S4094x128 ![0, 0] C0 slices_S4096x128_S4094x128_0_0)⟩] concatenates_S2x128_S4094x128_S4096x128_d0)) (broadcastInDim S4096x128 ![0, 1] bcast_S4096x1_S4096x128_0_1 (minimumf N (broadcastInDim S4096x1 ![] bcast_S_S4096x1 (constant S_ .f32 0x40000000#32))))) (shapeCast S4096x128 (extractStridedSlice S4096x1x128 ![0, 0, 0] Z3 slices_S4096x4x128_S4096x1x128_0_0_0) shapeCasts_S4096x1x128_S4096x128))) : FVec Ideal S4096x1x128 .f32) (ix3 r 0 d) = I.pl r.val (Cert.Even.col 0 d) := by
  clean_types
  pointwise
  refine (congrArg₂ (fun a b : EReal => a - b) (congrArg₂ Ideal.div (congrArg₂ (fun a b : EReal => a - b) (hC0 r d)
    (y' := if r.val < 2 then 0 else upto (fun n => I.z n (Cert.Even.col 0 d)) (r.val - 2)) ?_) (congrArg₂ min (hN r) rfl)) (hZ3 r 0 d)).trans ?_
  · by_cases h : r.val < 2
    · exact (dif_pos h).trans (if_pos h).symm
    · exact (dif_neg h).trans ((hC0 ⟨r.val - 2, by omega⟩ d).trans (if_neg h).symm)
  · rw [In.pl, grp_col]
    exact congrArg (fun a => Ideal.div a (cnt r.val 0) - I.z r.val (Cert.Even.col 0 d)) (upto_sub I.z (Cert.Even.col 0 d) (fun n => hz n _) (n := 1) (by norm_num) r.val)

include hZ3 hN hz in
theorem b1_of (hC1 : ∀ (r : Fin 4096) (d : Fin 128), C1 (ix2 r d) = upto (fun n => I.z n (Cert.Even.col 1 d)) r.val)
    (r : Fin 4096) (d : Fin 128) : ((broadcastInDim S4096x1x128 ![0, 2] bcast_S4096x128_S4096x1x128_0_2 (subf (Host.divf (subf C1 (concatenate S4096x128 0 [⟨S4x128, (broadcastInDim S4x128 ![] bcast_S_S4x128 (constant S_ .f32 0x00000000#32))⟩, ⟨S4092x128, (extractStridedSlice S4092x128 ![0, 0] C1 slices_S4096x128_S4092x128_0_0)⟩] concatenates_S4x128_S4092x128_S4096x128_d0)) (broadcastInDim S4096x128 ![0, 1] bcast_S4096x1_S4096x128_0_1 (minimumf N (broadcastInDim S4096x1 ![] bcast_S_S4096x1 (constant S_ .f32 0x40800000#32))))) (shapeCast S4096x128 (extractStridedSlice S4096x1x128 ![0, 1, 0] Z3 slices_S4096x4x128_S4096x1x128_0_1_0) shapeCasts_S4096x1x128_S4096x128))) : FVec Ideal S4096x1x128 .f32) (ix3 r 0 d) = I.pl r.val (Cert.Even.col 1 d) := by
  clean_types
  pointwise
  refine (congrArg₂ (fun a b : EReal => a - b) (congrArg₂ Ideal.div (congrArg₂ (fun a b : EReal => a - b) (hC1 r d)
    (y' := if r.val < 4 then 0 else upto (fun n => I.z n (Cert.Even.col 1 d)) (r.val - 4)) ?_) (congrArg₂ min (hN r) rfl)) (hZ3 r 1 d)).trans ?_
  · by_cases h : r.val < 4
    · exact (dif_pos h).trans (if_pos h).symm
    · exact (dif_neg h).trans ((hC1 ⟨r.val - 4, by omega⟩ d).trans (if_neg h).symm)
  · rw [In.pl, grp_col]
    exact congrArg (fun a => Ideal.div a (cnt r.val 1) - I.z r.val (Cert.Even.col 1 d)) (upto_sub I.z (Cert.Even.col 1 d) (fun n => hz n _) (n := 2) (by norm_num) r.val)

include hZ3 hN hz in
theorem b2_of (hC2 : ∀ (r : Fin 4096) (d : Fin 128), C2 (ix2 r d) = upto (fun n => I.z n (Cert.Even.col 2 d)) r.val)
    (r : Fin 4096) (d : Fin 128) : ((broadcastInDim S4096x1x128 ![0, 2] bcast_S4096x128_S4096x1x128_0_2 (subf (Host.divf (subf C2 (concatenate S4096x128 0 [⟨S8x128, (broadcastInDim S8x128 ![] bcast_S_S8x128 (constant S_ .f32 0x00000000#32))⟩, ⟨S4088x128, (extractStridedSlice S4088x128 ![0, 0] C2 slices_S4096x128_S4088x128_0_0)⟩] concatenates_S8x128_S4088x128_S4096x128_d0)) (broadcastInDim S4096x128 ![0, 1] bcast_S4096x1_S4096x128_0_1 (minimumf N (broadcastInDim S4096x1 ![] bcast_S_S4096x1 (constant S_ .f32 0x41000000#32))))) (shapeCast S4096x128 (extractStridedSlice S4096x1x128 ![0, 2, 0] Z3 slices_S4096x4x128_S4096x1x128_0_2_0) shapeCasts_S4096x1x128_S4096x128))) : FVec Ideal S4096x1x128 .f32) (ix3 r 0 d) = I.pl r.val (Cert.Even.col 2 d) := by
  clean_types
  pointwise
  refine (congrArg₂ (fun a b : EReal => a - b) (congrArg₂ Ideal.div (congrArg₂ (fun a b : EReal => a - b) (hC2 r d)
    (y' := if r.val < 8 then 0 else upto (fun n => I.z n (Cert.Even.col 2 d)) (r.val - 8)) ?_) (congrArg₂ min (hN r) rfl)) (hZ3 r 2 d)).trans ?_
  · by_cases h : r.val < 8
    · exact (dif_pos h).trans (if_pos h).symm
    · exact (dif_neg h).trans ((hC2 ⟨r.val - 8, by omega⟩ d).trans (if_neg h).symm)
  · rw [In.pl, grp_col]
    exact congrArg (fun a => Ideal.div a (cnt r.val 2) - I.z r.val (Cert.Even.col 2 d)) (upto_sub I.z (Cert.Even.col 2 d) (fun n => hz n _) (n := 3) (by norm_num) r.val)

include hZ3 hN hz in
theorem b3_of (hC3 : ∀ (r : Fin 4096) (d : Fin 128), C3 (ix2 r d) = upto (fun n => I.z n (Cert.Even.col 3 d)) r.val)
    (r : Fin 4096) (d : Fin 128) : ((broadcastInDim S4096x1x128 ![0, 2] bcast_S4096x128_S4096x1x128_0_2 (subf (Host.divf (subf C3 (concatenate S4096x128 0 [⟨S16x128, (broadcastInDim S16x128 ![] bcast_S_S16x128 (constant S_ .f32 0x00000000#32))⟩, ⟨S4080x128, (extractStridedSlice S4080x128 ![0, 0] C3 slices_S4096x128_S4080x128_0_0)⟩] concatenates_S16x128_S4080x128_S4096x128_d0)) (broadcastInDim S4096x128 ![0, 1] bcast_S4096x1_S4096x128_0_1 (minimumf N (broadcastInDim S4096x1 ![] bcast_S_S4096x1 (constant S_ .f32 0x41800000#32))))) (shapeCast S4096x128 (extractStridedSlice S4096x1x128 ![0, 3, 0] Z3 slices_S4096x4x128_S4096x1x128_0_3_0) shapeCasts_S4096x1x128_S4096x128))) : FVec Ideal S4096x1x128 .f32) (ix3 r 0 d) = I.pl r.val (Cert.Even.col 3 d) := by
  clean_types
  pointwise
  refine (congrArg₂ (fun a b : EReal => a - b) (congrArg₂ Ideal.div (congrArg₂ (fun a b : EReal => a - b) (hC3 r d)
    (y' := if r.val < 16 then 0 else upto (fun n => I.z n (Cert.Even.col 3 d)) (r.val - 16)) ?_) (congrArg₂ min (hN r) rfl)) (hZ3 r 3 d)).trans ?_
  · by_cases h : r.val < 16
    · exact (dif_pos h).trans (if_pos h).symm
    · exact (dif_neg h).trans ((hC3 ⟨r.val - 16, by omega⟩ d).trans (if_neg h).symm)
  · rw [In.pl, grp_col]
    exact congrArg (fun a => Ideal.div a (cnt r.val 3) - I.z r.val (Cert.Even.col 3 d)) (upto_sub I.z (Cert.Even.col 3 d) (fun n => hz n _) (n := 4) (by norm_num) r.val)

theorem stack_of (h0 : ∀ (r : Fin 4096) (d : Fin 128), B0 (ix3 r 0 d) = I.pl r.val (Cert.Even.col 0 d)) (h1 : ∀ (r : Fin 4096) (d : Fin 128), B1 (ix3 r 0 d) = I.pl r.val (Cert.Even.col 1 d)) (h2 : ∀ (r : Fin 4096) (d : Fin 128), B2 (ix3 r 0 d) = I.pl r.val (Cert.Even.col 2 d)) (h3 : ∀ (r : Fin 4096) (d : Fin 128), B3 (ix3 r 0 d) = I.pl r.val (Cert.Even.col 3 d))
    (r : Fin 4096) (g : Fin 4) (d : Fin 128) : (((concatenate S4096x4x128 1 [⟨S4096x1x128, B0⟩, ⟨S4096x1x128, B1⟩, ⟨S4096x1x128, B2⟩, ⟨S4096x1x128, B3⟩] concatenates_S4096x1x128_S4096x1x128_S4096x1x128_S4096x1x128_S4096x4x128_d1 : (⟨S4096x4x128, .f32⟩ : BufTy).Contents (Elt Ideal))) : FVec Ideal S4096x4x128 .f32) (ix3 r g d) = I.pl r.val (Cert.Even.col g d) := by
  fin_cases g
  · pointwise
    exact h0 r d
  · pointwise
    exact h1 r d
  · pointwise
    exact h2 r d
  · pointwise
    exact h3 r d

include hT in
theorem pl_of (r : Fin 4096) (j : Fin 512) : (truncf .bf16 (shapeCast S4096x512 T shapeCasts_S4096x4x128_S4096x512) bitsLt_bf16_f32 : FVec Ideal S4096x512 .bf16) (ix2 r j) = I.pl r.val j := by
  pointwise
  refine (hT r (grp j) (pos j)).trans ?_
  rw [col_grp_pos]

include A hP hK hT in
theorem mix_of (r : Fin 4096) (j : Fin 1024) : (concatenate S4096x1024 1 [⟨S4096x512, (mulf (extractStridedSlice S4096x512 ![0, 0] P slices_S4096x2048_S4096x512_0_0) K)⟩, ⟨S4096x512, (mulf (shapeCast S4096x512 (transpose S4096x4x128 [2, 0, 1] (Host.dotGeneral (φ₁ := .f32) (φ₂ := .f32) dot_S4x128x128_S4096x4x128_S4x128x4096_1_2_2_0_0_1 none (m ((c.tc : Thread nD τ).loc main_arg5)) T) transposes_S4x128x4096_S4096x4x128_2_0_1) shapeCasts_S4096x4x128_S4096x512) (broadcastInDim S4096x512 ![0, 1] bcast_S1x512_S4096x512_0_1 (m ((c.tc : Thread nD τ).loc main_arg6))))⟩] concatenates_S4096x512_S4096x512_S4096x1024_d1 : FVec Ideal S4096x1024 .f32) (ix2 r j) = I.mix r.val j := by
  clean_types
  pointwise
  by_cases h : j.val < 512
  · refine (dif_pos h).trans ?_
    rw [In.mix, dif_pos h]
    simp only [hP, hK]
    exact congrArg (fun k => I.P r.val k * I.cq r.val ⟨j.val, h⟩) (Fin.ext (Nat.zero_add _).symm)
  · refine (dif_neg h).trans ?_
    rw [In.mix, dif_neg h]
    simp only [hT, A.a5, A.a6]
    refine congrArg (fun a : EReal => a * I.ps 0 ⟨j.val - 512, by omega⟩) (Finset.sum_congr rfl fun k _ => ?_)
    rw [mul_comm]
    rfl

include A hM in
theorem ho_of (r : Fin 4096) (j : Fin 1024) : (addf (m ((c.tc : Thread nD τ).loc main_arg0)) (Host.dotGeneral (φ₁ := .f32) (φ₂ := .f32) dot_S4096x1024_S1024x1024_S4096x1024_1_0_0_1_n_n none M (m ((c.tc : Thread nD τ).loc main_arg7))) : FVec Ideal S4096x1024 .f32) (ix2 r j) = I.ho r.val j := by
  clean_types
  pointwise
  simp only [hM, A.a0, A.a7]
  rfl

include A hH in
theorem hn_of (r : Fin 4096) (j : Fin 1024) : (truncf .bf16 (mulf (mulf H (broadcastInDim S4096x1024 ![0, 1] bcast_S4096x1_S4096x1024_0_1 (Host.rsqrt (addf (Host.divf (broadcastInDim S4096x1 ![0] bcast_S4096_S4096x1_0 (Host.reduceAdd (mulf H H) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (m ((c.tc : Thread nD τ).loc main_arg2)))) bitsLt_bf16_f32 : FVec Ideal S4096x1024 .bf16) (ix2 r j) = I.hn r.val j := by
  clean_types
  pointwise
  simp only [hH, A.a2]
  rfl

end

end Cert.Ev
-- ==== Proof.EvClaims.lean ====
/-
  The claims of the even layers' mixer.
-/
module

public import proofs.«01_k».proof.Proof.EvWin
public import proofs.«01_k».proof.Proof.EvRef
public import proofs.«01_k».proof.Proof.LhClaims
public import proofs.«01_k».proof.Proof.Gen.EvenFwd.Frame
public import proofs.«01_k».proof.Proof.Gen.Pre_finite12

@[expose] public section

set_option maxRecDepth 16384

noncomputable section

open Idealize.ShloMosaic Idealize.ShloMosaic.TcCoe Idealize.SL.Sem Idealize.ShloMosaic.StableHlo

namespace Cert.Ev

open Cert.Even (Re all_real)

theorem frame_k : Cert.quiescent_EvenFwd := fun m ρ _ => Cert.EvenFwd.Gen.frame m ρ

theorem frame_ki : Cert.quiescent_EvenFwdIdeal := fun m ρ _ => Cert.EvenFwdIdeal.Gen.frame m ρ

theorem frame_ri : Cert.quiescent_EvenFwdRefIdeal := fun m ρ _ =>
  (θ_run Cert.EvenFwdRefIdeal.defs _ _).mono (fun r h => ⟨fun c => (h c).2.2.2.2.2.2.2, sem_eq_zero_of_no_sems (by decide) r.2⟩)
    (Cert.EvenFwdRefIdeal.Value.run (F := Ideal) m ρ)

theorem real_of {x0 : FVec Ideal Cert.Pre_finite12.S4096x1024 .f32} {x1 x2 : FVec Ideal Cert.Pre_finite12.S1x1024 .f32}
    {x3 : FVec Ideal Cert.Pre_finite12.S1024x2048 .f32} {x4 : FVec Ideal Cert.Pre_finite12.S3x512 .f32} {x5 : FVec Ideal Cert.Pre_finite12.S4x128x128 .f32}
    {x6 : FVec Ideal Cert.Pre_finite12.S1x512 .f32} {x7 : FVec Ideal Cert.Pre_finite12.S1024x1024 .f32}
    (h : Cert.Pre_finite12.fn (F := Ideal) x0 x1 x2 x3 x4 x5 x6 x7 = fun _ => 1#1) :
    (∀ i, Re (x0 i)) ∧ (∀ i, Re (x1 i)) ∧ ∀ i, Re (x3 i) := by
  have : Subsingleton Cert.Pre_finite12.S_.Idx := ⟨fun a b => funext fun k => k.elim0⟩
  have e := congrFun h (fun k => k.elim0)
  obtain ⟨e, h3⟩ := IntOp.andi_eq_one.1 e
  obtain ⟨h0, h1⟩ := IntOp.andi_eq_one.1 e
  exact ⟨all_real h0 fun _ => rfl, all_real h1 fun _ => rfl, all_real h3 fun _ => rfl⟩

theorem alg : Cert.algebraic_EvenFwdIdeal_EvenFwdRefIdeal_pre_finite12 := by
  intro m ρ m' ρ' hpre hag
  refine ⟨_, _, _, _, _, _, _, Cert.EvenFwdIdeal.Value.run_blocks m ρ, ?_⟩
  refine (θ_run Cert.EvenFwdRefIdeal.defs _ _).mono (fun _ h c => ?_) (Cert.EvenFwdRefIdeal.Value.run (F := Ideal) m' ρ')
  obtain ⟨h0, h1, h2, h3, h4, h5, h6, hr⟩ := h c
  have A : Args m' c (inp m c) := by
    obtain ⟨e0, e1, e2, e3, e4, e5, e6, e7⟩ := hag c
    refine ⟨fun r k => ?_, fun j => ?_, fun j => ?_, fun k j => ?_, fun k j => ?_, fun g i d => ?_, fun j => ?_, fun k j => ?_⟩
    · simp only [inp, row_val]; exact congrFun e0 _
    · exact congrFun e1 _
    · exact congrFun e2 _
    · simp only [inp, wrow_val]; exact congrFun e3 _
    · simp only [inp, tap_val]; exact congrFun e4 _
    · exact congrFun e5 _
    · exact congrFun e6 _
    · simp only [inp, wrow_val]; exact congrFun e7 _
  have hz : ∀ r j, Re ((inp m c).z r j) := by
    obtain ⟨r0, r1, r3⟩ := real_of (hpre c)
    have hx : ∀ r k, Re ((inp m c).x r k) := fun r k => r0 _
    have hg : ∀ r k, Re ((inp m c).gm r k) := fun r k => r1 _
    have hw : ∀ k j, Re ((inp m c).wi k j) := fun k j => r3 _
    have hn : ∀ r k, Re ((inp m c).xn r k) := fun r k => ((hx r k).mul (Cert.Lh.rr_real (hx r))).mul (hg 0 k)
    have hp : ∀ r j, Re ((inp m c).P r j) := fun r j => Re.sum fun k => (hn r k).mul (hw k.val j)
    exact fun r j => hp r _
  have X := xn_of A
  have P := P_of A X
  have K := cq_of A (q_of P)
  have Z := z3_of (z_of P)
  have S := sum_of Z
  have T := stack_of (b0_of Z pos_of hz (g0_of S)) (b1_of Z pos_of hz (g1_of S)) (b2_of Z pos_of hz (g2_of S)) (b3_of Z pos_of hz (g3_of S))
  have M := mix_of A P K T
  have H := ho_of A M
  refine ⟨h0.trans ?_, h1.trans ?_, h2.trans ?_, h3.trans ?_, h4.trans ?_, h5.trans ?_, h6.trans ?_, hr⟩
  · funext i
    obtain ⟨r, j, rfl⟩ : ∃ (r : Fin 4096) (j : Fin 1024), i = ix2 r j := ⟨i 0, i 1, eq_ix2 i⟩
    exact (X r j).trans (end_xn m c r j).symm
  · funext i
    obtain ⟨r, j, rfl⟩ : ∃ (r : Fin 4096) (j : Fin 2048), i = ix2 r j := ⟨i 0, i 1, eq_ix2 i⟩
    exact (P r j).trans (end_P m c r j).symm
  · funext i
    obtain ⟨r, j, rfl⟩ : ∃ (r : Fin 4096) (j : Fin 512), i = ix2 r j := ⟨i 0, i 1, eq_ix2 i⟩
    exact (K r j).trans (end_cq m c r j).symm
  · funext i
    obtain ⟨r, j, rfl⟩ : ∃ (r : Fin 4096) (j : Fin 512), i = ix2 r j := ⟨i 0, i 1, eq_ix2 i⟩
    exact (pl_of T r j).trans (end_pl m c r j).symm
  · funext i
    obtain ⟨r, j, rfl⟩ : ∃ (r : Fin 4096) (j : Fin 1024), i = ix2 r j := ⟨i 0, i 1, eq_ix2 i⟩
    exact (M r j).trans (end_mix m c r j).symm
  · funext i
    obtain ⟨r, j, rfl⟩ : ∃ (r : Fin 4096) (j : Fin 1024), i = ix2 r j := ⟨i 0, i 1, eq_ix2 i⟩
    exact (H r j).trans (end_ho m c r j).symm
  · funext i
    obtain ⟨r, j, rfl⟩ : ∃ (r : Fin 4096) (j : Fin 1024), i = ix2 r j := ⟨i 0, i 1, eq_ix2 i⟩
    exact (hn_of A H r j).trans (end_hn m c r j).symm

end Cert.Ev
-- ==== Proof.ObPay.lean ====
/-
  The odd layers' backward pass: its rows and sums, and what the payloads hold of them.
-/
module

public import proofs.«01_k».proof.Proof.OdPay
public import proofs.«01_k».proof.Proof.WgSum
public import proofs.«01_k».proof.Proof.Reals
public import proofs.«01_k».proof.Proof.Gen.OddBackIdeal.Value

@[expose] public section

set_option maxRecDepth 16384

noncomputable section

open Idealize.ShloMosaic Idealize.ShloMosaic.TcCoe Idealize.SL.Sem

namespace Cert.Ob

open Cert.OddBackIdeal Cert.OddBackIdeal.Gen
open Cert.Even (ms Rows agr2)
open Cert.Od (gelu lo hi Til tri)

/-- What the backward pass reads: the residual rows `h`, the gradient `dh`, and the layer's parameters. -/
structure In where
  h : ℕ → Fin 1024 → EReal
  gm : ℕ → Fin 1024 → EReal
  wi : ℕ → Fin 2048 → EReal
  sg : ℕ → Fin 1024 → EReal
  ws : ℕ → Fin 128 → Fin 128 → EReal
  b : ℕ → Fin 1024 → EReal
  wo : ℕ → Fin 1024 → EReal
  dh : ℕ → Fin 1024 → EReal

/-- The derivative of the activation. -/
def slope (x : EReal) : EReal :=
  Ideal.ofBits .f32 0x3F000000#32 * (1 + Ideal.erf (x * Ideal.ofBits .f32 0x3F3504F3#32))
    + x * Ideal.exp (Ideal.ofBits .f32 0xBF000000#32 * x * x) * Ideal.ofBits .f32 0x3ECC422A#32

/-- A head's column. -/
def hc (q : ℕ) (k : Fin 128) : Fin 1024 := ⟨(128 * q + k.val) % 1024, Nat.mod_lt _ (by decide)⟩

def tm (r : ℕ) : Fin 128 := ⟨r % 128, Nat.mod_lt _ (by decide)⟩

namespace In

variable (I : In)

def rr (r : ℕ) : EReal := Ideal.rsqrt (ms (I.h r))
def xh (r : ℕ) (j : Fin 1024) : EReal := I.h r j * I.rr r
def xn (r : ℕ) (j : Fin 1024) : EReal := I.xh r j * I.gm 0 j
/-- The forward pass on the normed rows. -/
def od : Cert.Od.In := ⟨I.xn, I.h, I.wi, I.sg, I.ws, I.b, I.wo, I.gm⟩
def dmix (r : ℕ) (j : Fin 1024) : EReal := ∑ k : Fin 1024, I.dh r k * I.wo j.val k
def du (r : ℕ) (j : Fin 1024) : EReal := I.dmix r j * I.od.gate r j
def dgt (r : ℕ) (j : Fin 1024) : EReal := I.dmix r j * I.od.u r j
def rv (r : ℕ) : EReal := Ideal.rsqrt (ms (I.od.v r))
def vh (r : ℕ) (j : Fin 1024) : EReal := I.od.v r j * I.rv r
def dvn (r : ℕ) (j : Fin 1024) : EReal := ∑ s : Fin 128, I.ws (j.val / 128) s (tm r) * I.dgt (r / 128 * 128 + s.val) j
def dvh (r : ℕ) (j : Fin 1024) : EReal := I.dvn r j * I.sg 0 j
def dv (r : ℕ) (j : Fin 1024) : EReal :=
  I.rv r * (I.dvh r j - I.vh r j * Ideal.div (∑ k, I.dvh r k * I.vh r k) (Ideal.ofBits .f32 0x44800000#32))
def dp (r : ℕ) (j : Fin 2048) : EReal := if h : j.val < 1024 then I.du r ⟨j.val, h⟩ else I.dv r ⟨j.val - 1024, by omega⟩
def dpre (r : ℕ) (j : Fin 2048) : EReal := I.dp r j * slope (I.od.pre r j)
def dxn (r : ℕ) (i : Fin 1024) : EReal := ∑ j : Fin 2048, I.dpre r j * I.wi i.val j
def dxh (r : ℕ) (i : Fin 1024) : EReal := I.dxn r i * I.gm 0 i
def dho (r : ℕ) (i : Fin 1024) : EReal :=
  I.dh r i + I.rr r * (I.dxh r i - I.xh r i * Ideal.div (∑ k, I.dxh r k * I.xh r k) (Ideal.ofBits .f32 0x44800000#32))
/-- A row's part of the gains' gradients. -/
def tgn (i : Fin 1024) (r : ℕ) : EReal := I.dxn r i * I.xh r i
def tsg (j : Fin 1024) (r : ℕ) : EReal := I.dvn r j * I.vh r j
/-- A chunk's part of the mixing weights' and the bias' gradients. -/
def tws (q : ℕ) (i s : Fin 128) (n : ℕ) : EReal := ∑ k : Fin 128, I.dgt (n * 128 + i.val) (hc q k) * I.od.vn (n * 128 + s.val) (hc q k)
def tb (i : Fin 128) (j : Fin 1024) (n : ℕ) : EReal := I.dgt (n * 128 + i.val) j

end In

section

variable {I : In} {B : ℕ} {v1 v33 : FVec Ideal S512x1024 .bf16} {v3 : FVec Ideal S1024x1024 .bf16} {v6 : FVec Ideal S512x2048 .bf16}
  {v8 : FVec Ideal S512x2048 .f32} {v27 : FVec Ideal S512x1 .f32}
  {v19 v479 : FVec Ideal S1x1024 .f32} {v29 v36 v37 v435 v477 v478 v505 : FVec Ideal S512x1024 .f32} {v475 : FVec Ideal S1024x2048 .bf16}
  (h1 : Rows v1 I.dh B) (h3 : Rows v3 I.wo 0) (h33 : Rows v33 I.od.gate B) (h6 : Rows v6 I.od.pre B) (h8 : Rows v8 I.od.pre B)
  (h19 : Rows v19 I.sg 0) (h27 : ∀ ρ : Fin 512, v27 (ix2 ρ 0) = I.rv (B + ρ.val)) (h29 : Rows v29 I.vh B) (h36 : Rows v36 I.du B) (h37 : Rows v37 I.dgt B)
  (h435 : Rows v435 I.dvn B) (h475 : Rows v475 I.wi 0) (h477 : Rows v477 I.dxn B) (h478 : Rows v478 I.h B) (h479 : Rows v479 I.gm 0) (h505 : Rows v505 I.dh B)

include h1 h3 in
theorem p10 : Rows (k0_pay10 (F := Ideal) v1 v3) I.dmix B := by
  intro ρ j
  unfold k0_pay10
  pointwise
  simp only [h1 _ _, h3 _ _, Nat.zero_add]
  rfl

include h6 in
theorem p11 : Rows (k0_pay11 (F := Ideal) v6) I.od.pre B := by
  intro ρ j
  unfold k0_pay11
  pointwise
  exact h6 ρ j

include h6 in
theorem p12 (ρ : Fin 512) (j : Fin 2048) : k0_pay12 (F := Ideal) v6 (ix2 ρ j) = gelu (I.od.pre (B + ρ.val) j) := by
  unfold k0_pay12
  pointwise
  simp only [p11 h6 _ _]
  rfl

include h6 in
theorem p13 : Rows (k0_pay13 (F := Ideal) v6) I.od.v B := by
  intro ρ j
  unfold k0_pay13
  pointwise
  exact p12 h6 ρ (hi j)

include h6 in
theorem p14 (ρ : Fin 512) : k0_pay14 (F := Ideal) v6 (ix2 ρ 0) = I.rv (B + ρ.val) := by
  unfold k0_pay14
  pointwise
  simp only [p13 h6 _ _]
  rfl

include h6 in
theorem p15 : Rows (k0_pay15 (F := Ideal) v6) I.vh B := by
  intro ρ j
  unfold k0_pay15
  pointwise
  rw [p13 h6, p14 h6]
  rfl

include h6 h19 in
theorem p16 : Rows (k0_pay16 (F := Ideal) v6 v19) I.od.vn B := by
  intro ρ j
  unfold k0_pay16
  pointwise
  rw [p15 h6, h19]
  rfl

include h1 h3 h33 in
theorem p17 : Rows (k0_pay17 (F := Ideal) v1 v3 v33) I.du B := by
  intro ρ j
  unfold k0_pay17
  pointwise
  rw [p10 h1 h3, h33]
  rfl

include h1 h3 h6 in
theorem p18 : Rows (k0_pay18 (F := Ideal) v1 v3 v6) I.dgt B := by
  intro ρ j
  unfold k0_pay18
  pointwise
  rw [p10 h1 h3]
  exact congrArg (fun a : EReal => I.dmix (B + ρ.val) j * a) (p12 h6 ρ (lo j))

include h1 h3 h6 in
theorem p19 : Rows (k0_pay19 (F := Ideal) v1 v3 v6) I.dgt B := by
  intro ρ j
  unfold k0_pay19
  pointwise
  exact p18 h1 h3 h6 ρ j

include h29 h435 in
theorem p96 (j : Fin 1024) : k0_pay96 (F := Ideal) v29 v435 (ix2 0 j) = ∑ ρ : Fin 512, I.tsg j (B + ρ.val) := by
  unfold k0_pay96
  pointwise
  simp only [h29 _ _, h435 _ _]
  rfl

include h8 h19 h27 h29 h36 h435 in
theorem p98 : Rows (k0_pay98 (F := Ideal) v8 v19 v27 v29 v36 v435) I.dpre B := by
  intro ρ j
  unfold k0_pay98
  pointwise
  rw [h8, In.dpre, In.dp]
  refine congrArg (fun a : EReal => a * slope (I.od.pre (B + ρ.val) j)) ?_
  by_cases h : j.val < 1024
  · rw [dif_pos h, dif_pos h]
    exact h36 ρ _
  · rw [dif_neg h, dif_neg h]
    simp only [h19 _ _, h27 _, h29 _ _, h435 _ _]
    rfl

include h8 h19 h27 h29 h36 h435 h475 in
theorem p99 : Rows (k0_pay99 (F := Ideal) v8 v19 v27 v29 v36 v435 v475) I.dxn B := by
  intro ρ j
  unfold k0_pay99
  pointwise
  simp only [p98 h8 h19 h27 h29 h36 h435 _ _, h475 _ _, Nat.zero_add]
  rfl

include h478 in
theorem p100 (ρ : Fin 512) : k0_pay100 (F := Ideal) v478 (ix2 ρ 0) = I.rr (B + ρ.val) := by
  unfold k0_pay100
  pointwise
  simp only [h478 _ _]
  rfl

include h478 in
theorem p101 : Rows (k0_pay101 (F := Ideal) v478) I.xh B := by
  intro ρ j
  unfold k0_pay101
  pointwise
  rw [p100 h478, h478]
  rfl

include h477 h478 in
theorem p102 (j : Fin 1024) : k0_pay102 (F := Ideal) v477 v478 (ix2 0 j) = ∑ ρ : Fin 512, I.tgn j (B + ρ.val) := by
  unfold k0_pay102
  pointwise
  simp only [h477 _ _, p101 h478 _ _]
  rfl

include h477 h478 h479 h505 in
theorem p103 : Rows (k0_pay103 (F := Ideal) v477 v478 v479 v505) I.dho B := by
  intro ρ j
  unfold k0_pay103
  pointwise
  simp only [h477 _ _, h479 _ _, h505 _ _, p100 h478 _, p101 h478 _ _]
  rfl

include h477 h478 h479 h505 in
theorem p104 : Rows (k0_pay104 (F := Ideal) v477 v478 v479 v505) I.dho B := by
  intro ρ j
  unfold k0_pay104
  pointwise
  exact p103 h477 h478 h479 h505 ρ j

end

/-- A number of four chunks' parts. -/
theorem four (f : ℕ → EReal) (n : ℕ) : f n + f (n + 1) + f (n + 2) + f (n + 3) = ∑ k : Fin 4, f (n + k.val) := by
  rw [Fin.sum_univ_four]
  rfl

section

variable {I : In} {B o p q : ℕ}

theorem piece {o p B : ℕ} {hs : S512x1024.Slices ![o, p] S128x128} {Y : FVec Ideal S512x1024 .bf16} {f : ℕ → Fin 1024 → EReal} (hY : Rows Y f B)
    (i j : Fin 128) (j' : Fin 1024) (hj : j'.val = p + j.val) : extractStridedSlice S128x128 ![o, p] Y hs (ix2 i j) = f (B + o + i.val) j' := by
  have ho' : o + 128 ≤ 512 := hs.choose_spec 0
  have : extractStridedSlice S128x128 ![o, p] Y hs (ix2 i j) = Y (ix2 (⟨o + i.val, by omega⟩ : Fin 512) j') := by
    refine congrArg Y (funext fun k => Fin.ext ?_)
    match k with
    | ⟨0, _⟩ => rfl
    | ⟨1, _⟩ => exact hj.symm
  rw [this, hY, Nat.add_assoc]

/-- One head's places of one chunk: the head's weights, turned, on the chunk's rows. -/
abbrev tile (o p : ℕ) (hs : S512x1024.Slices ![o, p] S128x128) (Y : FVec Ideal S512x1024 .bf16) (W : FVec Ideal S1x128x128 .bf16) : FVec Ideal S128x128 .f32 :=
  shapeCast S128x128
    (matmul dot_S128x128_S128x128_S128x128_1_0_0_1_n_n none (shapeCast S128x128 W shapeCasts_S1x128x128_S128x128)
        (extractStridedSlice S128x128 ![o, p] Y hs) (constant S128x128 .f32 0x00000000#32))
    shapeCasts_S128x128_S128x128

theorem tile_dvn (hB : B % 128 = 0) {hs : S512x1024.Slices ![o, p] S128x128} {Y : FVec Ideal S512x1024 .bf16}
    {W : FVec Ideal S1x128x128 .bf16} (hY : Rows Y I.dgt B) (hW : ∀ i s, W (ix3 0 i s) = I.ws q s i) (ho : o % 128 = 0) (hp : p = 128 * q)
    (i j : Fin 128) (i' : Fin 512) (j' : Fin 1024) (hi : i'.val = o + i.val) (hj : j'.val = p + j.val) :
    tile o p hs Y W (ix2 i j) = I.dvn (B + i'.val) j' := by
  have e1 : tm (B + i'.val) = i := Fin.ext (by show (B + i'.val) % 128 = i.val; omega)
  have e2 : (B + i'.val) / 128 * 128 = B + o := by omega
  have e3 : j'.val / 128 = q := by omega
  have e4 (s : Fin 128) : extractStridedSlice S128x128 ![o, p] Y hs (ix2 s j) = I.dgt (B + o + s.val) j' := piece hY s j j' hj
  unfold tile In.dvn
  generalize extractStridedSlice S128x128 ![o, p] Y hs = Z at e4
  pointwise
  simp only [e4, hW, e3, e2, e1]

/-- One chunk's part of a head's weights' gradient. -/
abbrev prod (o p : ℕ) (hs : S512x1024.Slices ![o, p] S128x128) (Y Z : FVec Ideal S512x1024 .bf16) : FVec Ideal S128x128 .f32 :=
  matmul dot_S128x128_S128x128_S128x128_1_1_0_0_n_n none (extractStridedSlice S128x128 ![o, p] Y hs) (extractStridedSlice S128x128 ![o, p] Z hs)
    (constant S128x128 .f32 0x00000000#32)

theorem prod_at {n : ℕ} {hs : S512x1024.Slices ![o, p] S128x128} {Y Z : FVec Ideal S512x1024 .bf16} (hY : Rows Y I.dgt B) (hZ : Rows Z I.od.vn B)
    (hp : p = 128 * q) (hn : B + o = n * 128) (i s : Fin 128) : prod o p hs Y Z (ix2 i s) = I.tws q i s n := by
  have hp' : p + 128 ≤ 1024 := hs.choose_spec 1
  have e (k : Fin 128) : (hc q k).val = p + k.val := by show (128 * q + k.val) % 1024 = _; omega
  have eY (i k : Fin 128) : extractStridedSlice S128x128 ![o, p] Y hs (ix2 i k) = I.dgt (n * 128 + i.val) (hc q k) := by rw [piece hY i k (hc q k) (e k), hn]
  have eZ (i k : Fin 128) : extractStridedSlice S128x128 ![o, p] Z hs (ix2 i k) = I.od.vn (n * 128 + i.val) (hc q k) := by rw [piece hZ i k (hc q k) (e k), hn]
  unfold prod
  generalize extractStridedSlice S128x128 ![o, p] Y hs = Y' at eY
  generalize extractStridedSlice S128x128 ![o, p] Z hs = Z' at eZ
  pointwise
  simp only [eY, eZ]
  rfl

abbrev prods (p : ℕ) (h0 : S512x1024.Slices ![0, p] S128x128) (h1 : S512x1024.Slices ![128, p] S128x128) (h2 : S512x1024.Slices ![256, p] S128x128)
    (h3 : S512x1024.Slices ![384, p] S128x128) (Y Z : FVec Ideal S512x1024 .bf16) : FVec Ideal S128x128 .f32 :=
  addf (addf (addf (prod 0 p h0 Y Z) (prod 128 p h1 Y Z)) (prod 256 p h2 Y Z)) (prod 384 p h3 Y Z)

variable {n : ℕ} {h0 : S512x1024.Slices ![0, p] S128x128} {h1 : S512x1024.Slices ![128, p] S128x128} {h2 : S512x1024.Slices ![256, p] S128x128}
  {h3 : S512x1024.Slices ![384, p] S128x128} {Y Z : FVec Ideal S512x1024 .bf16} (hY : Rows Y I.dgt B) (hZ : Rows Z I.od.vn B)
  (hp : p = 128 * q) (hn : B = n * 4 * 128)

include hY hZ hp hn in
theorem prods_at (i s : Fin 128) : prods p h0 h1 h2 h3 Y Z (ix2 i s) = ∑ k : Fin 4, I.tws q i s (n * 4 + k.val) := by
  rw [← four]
  unfold prods
  refine congrArg₂ (fun a b : EReal => a + b) (congrArg₂ (fun a b : EReal => a + b) (congrArg₂ (fun a b : EReal => a + b) ?_ ?_) ?_) ?_ <;>
    exact prod_at hY hZ hp (by omega) i s

include hY hZ hp hn in
theorem fresh_at (i s : Fin 128) : (shapeCast S1x128x128 (prods p h0 h1 h2 h3 Y Z) shapeCasts_S128x128_S1x128x128 : FVec Ideal S1x128x128 .f32) (ix3 0 i s)
    = ∑ k : Fin 4, I.tws q i s (n * 4 + k.val) := by
  have e := prods_at (h0 := h0) (h1 := h1) (h2 := h2) (h3 := h3) hY hZ hp hn i s
  generalize prods p h0 h1 h2 h3 Y Z = X at e ⊢
  pointwise
  exact e

include hY hZ hp hn in
theorem added_at {O : FVec Ideal S1x128x128 .f32} {f : EReal} (i s : Fin 128) (hO : O (ix3 0 i s) = f) :
    (shapeCast S1x128x128 (addf (shapeCast S128x128 O shapeCasts_S1x128x128_S128x128) (prods p h0 h1 h2 h3 Y Z)) shapeCasts_S128x128_S1x128x128 : FVec Ideal S1x128x128 .f32) (ix3 0 i s)
    = f + ∑ k : Fin 4, I.tws q i s (n * 4 + k.val) := by
  have e := prods_at (h0 := h0) (h1 := h1) (h2 := h2) (h3 := h3) hY hZ hp hn i s
  generalize prods p h0 h1 h2 h3 Y Z = X at e ⊢
  pointwise
  exact congrArg₂ (fun a b : EReal => a + b) hO e

end

section

variable {I : In} {B n : ℕ} {v1 : FVec Ideal S512x1024 .bf16} {v3 : FVec Ideal S1024x1024 .bf16} {v6 : FVec Ideal S512x2048 .bf16}
  (h1 : Rows v1 I.dh B) (h3 : Rows v3 I.wo 0) (h6 : Rows v6 I.od.pre B) (hn : B = n * 4 * 128)

include h1 h3 h6 hn in
theorem p22 (i : Fin 128) (j : Fin 1024) : k0_pay22 (F := Ideal) (k0_pay18 v1 v3 v6) (k0_pay20 v1 v3 v6) (k0_pay21 v1 v3 v6) (ix2 i j)
    = ∑ k : Fin 4, I.tb i j (n * 4 + k.val) := by
  have e (o : ℕ) (x : Fin 512) (hx : x.val = o * 128 + i.val) : k0_pay18 (F := Ideal) v1 v3 v6 (ix2 x j) = I.tb i j (n * 4 + o) :=
    (p18 h1 h3 h6 x j).trans (congrArg (fun r => I.dgt r j) (by omega))
  rw [← four]
  unfold k0_pay22 k0_pay20 k0_pay21
  generalize k0_pay18 (F := Ideal) v1 v3 v6 = X at e
  pointwise
  refine congrArg₂ (fun a b : EReal => a + b) (congrArg₂ (fun a b : EReal => a + b) (congrArg₂ (fun a b : EReal => a + b) ?_ ?_) ?_) ?_
  · exact e 0 _ (by show i.val = _; omega)
  · exact e 1 _ rfl
  · exact e 2 _ rfl
  · exact e 3 _ rfl

include h1 h3 h6 hn in
theorem p23 (i : Fin 128) (j : Fin 1024) : k0_pay23 (F := Ideal) (k0_pay18 v1 v3 v6) (k0_pay20 v1 v3 v6) (k0_pay21 v1 v3 v6) (ix2 i j)
    = ∑ k : Fin 4, I.tb i j (n * 4 + k.val) := by
  unfold k0_pay23
  pointwise
  exact p22 h1 h3 h6 hn i j

include h1 h3 h6 hn in
theorem p24 {O : FVec Ideal S128x1024 .f32} {f : EReal} (i : Fin 128) (j : Fin 1024) (hO : O (ix2 i j) = f) :
    k0_pay24 (F := Ideal) (k0_pay18 v1 v3 v6) (k0_pay20 v1 v3 v6) (k0_pay21 v1 v3 v6) O (ix2 i j) = f + ∑ k : Fin 4, I.tb i j (n * 4 + k.val) := by
  unfold k0_pay24
  pointwise
  exact congrArg₂ (fun a b : EReal => a + b) hO (p22 h1 h3 h6 hn i j)

end

/-- A head's bias' gradient: the head's columns of the carried sums, added up. -/
theorem p4 {O : FVec Ideal S128x128 .f32} {f : Fin 128 → Fin 128 → EReal} (hO : ∀ i k, O (ix2 i k) = f i k) (i : Fin 128) :
    k0_pay4 (F := Ideal) O (ix2 0 i) = ∑ k : Fin 128, f i k := by
  unfold k0_pay4 k0_pay3
  pointwise
  simp only [hO, Ideal.ofBits_one_f32, one_mul]

end Cert.Ob
-- ==== Proof.ObRef.lean ====
/-
  The reference of the odd layers' backward pass at an index, over any arrays.
-/
module

public import proofs.«01_k».proof.Proof.ObPay
public import proofs.«01_k».proof.Proof.Gen.OddBackRefIdeal.Run
public import Idealize.ShloMosaic.PureOps.Ideal.Laws
public import Idealize.ShloMosaic.Lib.Tactic.CleanTypes
public import Idealize.ShloMosaic.Lib.Pointwise

@[expose] public section

set_option maxRecDepth 16384

noncomputable section

open Idealize.ShloMosaic Idealize.ShloMosaic.TcCoe Idealize.SL.Sem

namespace Cert.Ob

open Cert.OddBackRefIdeal Cert.OddBackRefIdeal.Gen Cert.OddBackRefIdeal.Value
open Cert.Even (ms)
open Cert.Od (gelu lo hi tri)
open Cert.Even (Re norm_back)

variable {H D : FVec Ideal S4096x1024 .f32} {g s : FVec Ideal S1x1024 .f32} {W : FVec Ideal S1024x2048 .f32} {w : FVec Ideal S8x128x128 .f32} {b : FVec Ideal S8x128 .f32}
  {O : FVec Ideal S1024x1024 .f32} {I : In}

/-- The arrays are the given inputs. -/
structure Args (H : FVec Ideal S4096x1024 .f32) (g : FVec Ideal S1x1024 .f32) (W : FVec Ideal S1024x2048 .f32) (s : FVec Ideal S1x1024 .f32) (w : FVec Ideal S8x128x128 .f32)
    (b : FVec Ideal S8x128 .f32) (O : FVec Ideal S1024x1024 .f32) (D : FVec Ideal S4096x1024 .f32) (I : In) : Prop where
  a0 : ∀ (r : Fin 4096) (k : Fin 1024), H (ix2 r k) = I.h r.val k
  a1 : ∀ j : Fin 1024, g (ix2 0 j) = I.gm 0 j
  a2 : ∀ (k : Fin 1024) (j : Fin 2048), W (ix2 k j) = I.wi k.val j
  a3 : ∀ j : Fin 1024, s (ix2 0 j) = I.sg 0 j
  a4 : ∀ (q : Fin 8) (i k : Fin 128), (show EReal from w (ix3 q i k)) * tri i k = I.ws q.val i k
  a5 : ∀ (i : Fin 128) (j : Fin 1024), b (ix2 ⟨j.val / 128, by omega⟩ i) = I.b i.val j
  a6 : ∀ k j : Fin 1024, O (ix2 k j) = I.wo k.val j
  a7 : ∀ (r : Fin 4096) (k : Fin 1024), D (ix2 r k) = I.dh r.val k

/-- A sum over the first and the last of four axes. -/
theorem outer {a b c d : ℕ} (h : (⟨4, ![a, b, c, d]⟩ : Shape).ReducesTo [0, 3] ⟨2, ![b, c]⟩) (x : (⟨4, ![a, b, c, d]⟩ : Shape).Idx → EReal) (i : Fin b) (q : Fin c) :
    Ideal.hostReduceAdd h x 0 (ix2 i q) = ∑ k : Fin d, ∑ n : Fin a, x (ix4 n i q k) := by
  rw [Ideal.hostReduceAdd, zero_add, ← Fintype.sum_prod_type']
  refine Finset.sum_filter_eq_sum_of_fiber _ (fun y : Fin d × Fin a => ix4 y.2 i q y.1) (fun _ _ e => Prod.ext (congrFun e 3) (congrFun e 0)) (fun y => ⟨fun e => ⟨(y 3, y 0), ?_⟩, ?_⟩) x
  · funext k
    apply Fin.ext
    match k with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨z, rfl⟩
    funext k
    apply Fin.ext
    match k with
    | ⟨0, _⟩ => rfl
    | ⟨1, _⟩ => rfl

variable (A : Args H g W s w b O D I)

section

variable {P B dP : FVec Ideal S4096x2048 .f32} {X Y V N M G E dV dX : FVec Ideal S4096x1024 .f32} {T : FVec Ideal S128x128 .f32} {Q : FVec Ideal S4096x1 .f32} {x y : ℕ → Fin 1024 → EReal}
  (hP : ∀ (r : Fin 4096) (j : Fin 2048), P (ix2 r j) = I.od.pre r.val j) (hB : ∀ (r : Fin 4096) (j : Fin 2048), B (ix2 r j) = gelu (I.od.pre r.val j)) (hdP : ∀ (r : Fin 4096) (j : Fin 2048), dP (ix2 r j) = I.dpre r.val j)
  (hX : ∀ (r : Fin 4096) (j : Fin 1024), X (ix2 r j) = x r.val j) (hY : ∀ (r : Fin 4096) (j : Fin 1024), Y (ix2 r j) = y r.val j) (hQ : ∀ r : Fin 4096, Q (ix2 r 0) = ms (x r.val))
  (hN : ∀ (r : Fin 4096) (j : Fin 1024), N (ix2 r j) = I.dvn r.val j) (hM : ∀ (r : Fin 4096) (j : Fin 1024), M (ix2 r j) = I.dmix r.val j) (hG : ∀ (r : Fin 4096) (j : Fin 1024), G (ix2 r j) = I.od.gate r.val j) (hE : ∀ (r : Fin 4096) (j : Fin 1024), E (ix2 r j) = I.dgt r.val j)
  (hV : ∀ (r : Fin 4096) (j : Fin 1024), V (ix2 r j) = I.od.vn r.val j) (hdV : ∀ (r : Fin 4096) (j : Fin 1024), dV (ix2 r j) = I.dv r.val j) (hdX : ∀ (r : Fin 4096) (j : Fin 1024), dX (ix2 r j) = I.dxn r.val j) (hT : ∀ i k : Fin 128, T (ix2 i k) = tri i k)

include hX in
theorem ms_of (r : Fin 4096) : (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)) : FVec Ideal S4096x1 .f32) (ix2 r 0) = ms (x r.val) := by
  pointwise
  simp only [hX]
  rfl

include hX hQ in
theorem unit_of (r : Fin 4096) (j : Fin 1024) : (mulf X (broadcastInDim S4096x1024 ![0, 1] bcast_S4096x1_S4096x1024_0_1 (Host.rsqrt Q)) : FVec Ideal S4096x1024 .f32) (ix2 r j) = x r.val j * Ideal.rsqrt (ms (x r.val)) := by
  pointwise
  exact congrArg₂ (fun a b : EReal => a * b) (hX r j) (congrArg Ideal.rsqrt (hQ r))

include A in
theorem pre_of (hX : ∀ (r : Fin 4096) (j : Fin 1024), X (ix2 r j) = I.xh r.val j) (r : Fin 4096) (j : Fin 2048) : (Host.dotGeneral (φ₁ := .f32) (φ₂ := .f32) dot_S4096x1024_S1024x2048_S4096x2048_1_0_0_1_n_n none (mulf X (broadcastInDim S4096x1024 ![0, 1] bcast_S1x1024_S4096x1024_0_1 g)) W : FVec Ideal S4096x2048 .f32) (ix2 r j) = I.od.pre r.val j := by
  pointwise
  simp only [hX, A.a1, A.a2]
  rfl

include hP in
theorem act_of (r : Fin 4096) (j : Fin 2048) : (mulf (mulf (broadcastInDim S4096x2048 ![] bcast_S_S4096x2048 (constant S_ .f32 0x3F000000#32)) P) (Host.erfc (mulf (Host.negf P) (broadcastInDim S4096x2048 ![] bcast_S_S4096x2048 (constant S_ .f32 0x3F3504F3#32)))) : FVec Ideal S4096x2048 .f32) (ix2 r j) = gelu (I.od.pre r.val j) := by
  pointwise
  simp only [hP]
  rw [gelu, ← Ideal.erfc_neg, neg_mul]

include hB in
theorem v_of (r : Fin 4096) (j : Fin 1024) : (extractStridedSlice S4096x1024 ![0, 1024] B slices_S4096x2048_S4096x1024_0_1024 : FVec Ideal S4096x1024 .f32) (ix2 r j) = I.od.v r.val j := by
  pointwise
  exact hB r (hi j)

include hB hM in
theorem dgt_of (r : Fin 4096) (j : Fin 1024) : (mulf (extractStridedSlice S4096x1024 ![0, 0] B slices_S4096x2048_S4096x1024_0_0) M : FVec Ideal S4096x1024 .f32) (ix2 r j) = I.dgt r.val j := by
  pointwise
  rw [hM, In.dgt, mul_comm]
  exact congrArg (fun a : EReal => I.dmix r.val j * a) (hB r (lo j))

include A in
theorem vn_of (hX : ∀ (r : Fin 4096) (j : Fin 1024), X (ix2 r j) = I.vh r.val j) (r : Fin 4096) (j : Fin 1024) : (mulf X (broadcastInDim S4096x1024 ![0, 1] bcast_S1x1024_S4096x1024_0_1 s) : FVec Ideal S4096x1024 .f32) (ix2 r j) = I.od.vn r.val j := by
  pointwise
  simp only [hX, A.a3]
  rfl

include A hV hT in
theorem gate_of (r : Fin 4096) (j : Fin 1024) : (shapeCast S4096x1024 (addf (transpose S32x128x8x128 [1, 3, 0, 2] (Host.dotGeneral (φ₁ := .f32) (φ₂ := .f32) dot_S32x128x8x128_S8x128x128_S8x32x128x128_1_2_03_1_2_0 none (shapeCast S32x128x8x128 V shapeCasts_S4096x1024_S32x128x8x128) (mulf w (broadcastInDim S8x128x128 ![0, 1, 2] bcast_S1x128x128_S8x128x128_0_1_2 (broadcastInDim S1x128x128 ![1, 2] bcast_S128x128_S1x128x128_1_2 T)))) transposes_S8x32x128x128_S32x128x8x128_1_3_0_2) (broadcastInDim S32x128x8x128 ![0, 1, 2, 3] bcast_S1x128x8x1_S32x128x8x128_0_1_2_3 (broadcastInDim S1x128x8x1 ![1, 2] bcast_S128x8_S1x128x8x1_1_2 (transpose S128x8 [1, 0] b transposes_S8x128_S128x8_1_0)))) shapeCasts_S32x128x8x128_S4096x1024 : FVec Ideal S4096x1024 .f32) (ix2 r j) = I.od.gate r.val j := by
  pointwise
  refine congrArg₂ (fun a b : EReal => a + b) (Finset.sum_congr rfl fun k _ => ?_) (A.a5 ⟨r.val % 128, Nat.mod_lt _ (by decide)⟩ j)
  rw [hV, hT, mul_comm]
  exact congrArg (fun a : EReal => a * I.od.vn (r.val / 128 * 128 + k.val) j) (A.a4 ⟨j.val / 128, by omega⟩ ⟨r.val % 128, Nat.mod_lt _ (by decide)⟩ k)

include A in
theorem dmix_of (r : Fin 4096) (j : Fin 1024) : (Host.dotGeneral (φ₁ := .f32) (φ₂ := .f32) dot_S4096x1024_S1024x1024_S4096x1024_1_1_0_0_n_n none D O : FVec Ideal S4096x1024 .f32) (ix2 r j) = I.dmix r.val j := by
  pointwise
  simp only [A.a6, A.a7]
  rfl

include A hE hT in
theorem dvn_of (r : Fin 4096) (j : Fin 1024) : (shapeCast S4096x1024 (transpose S32x128x8x128 [1, 3, 0, 2] (Host.dotGeneral (φ₁ := .f32) (φ₂ := .f32) dot_S8x32x128x128_S8x128x128_S8x32x128x128_3_1_12_2_0_0 none (transpose S8x32x128x128 [2, 0, 3, 1] (shapeCast S32x128x8x128 E shapeCasts_S4096x1024_S32x128x8x128) transposes_S32x128x8x128_S8x32x128x128_2_0_3_1) (mulf w (broadcastInDim S8x128x128 ![0, 1, 2] bcast_S1x128x128_S8x128x128_0_1_2 (broadcastInDim S1x128x128 ![1, 2] bcast_S128x128_S1x128x128_1_2 T)))) transposes_S8x32x128x128_S32x128x8x128_1_3_0_2) shapeCasts_S32x128x8x128_S4096x1024 : FVec Ideal S4096x1024 .f32) (ix2 r j) = I.dvn r.val j := by
  pointwise
  refine Finset.sum_congr rfl fun k _ => ?_
  rw [hE, hT, mul_comm]
  exact congrArg (fun a : EReal => a * I.dgt (r.val / 128 * 128 + k.val) j) (A.a4 ⟨j.val / 128, by omega⟩ k ⟨r.val % 128, Nat.mod_lt _ (by decide)⟩)

include A hN in
theorem dvh_of (r : Fin 4096) (j : Fin 1024) : (mulf N (broadcastInDim S4096x1024 ![0, 1] bcast_S1x1024_S4096x1024_0_1 s) : FVec Ideal S4096x1024 .f32) (ix2 r j) = I.dvh r.val j := by
  pointwise
  simp only [hN, A.a3]
  rfl

include A hdX in
theorem dxh_of (r : Fin 4096) (j : Fin 1024) : (mulf dX (broadcastInDim S4096x1024 ![0, 1] bcast_S1x1024_S4096x1024_0_1 g) : FVec Ideal S4096x1024 .f32) (ix2 r j) = I.dxh r.val j := by
  pointwise
  simp only [hdX, A.a1]
  rfl

include hX hY hQ in
theorem back_of (d : EReal) (hx : ∀ r k, Re (x r k)) (hy : ∀ r k, Re (y r k)) (r : Fin 4096) (j : Fin 1024) :
    d + (addf (addf (mulf Y (broadcastInDim S4096x1024 ![0, 1] bcast_S4096x1_S4096x1024_0_1 (Host.rsqrt Q))) (mulf X (broadcastInDim S4096x1024 ![0] bcast_S4096_S4096x1024_0 (Host.reduceAdd (Host.divf (mulf (shapeCast S4096x1 (Host.reduceAdd (mulf X Y) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt Q) Q))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast S4096x1 (Host.reduceAdd (mulf X Y) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt Q) Q))) (broadcastInDim S4096x1 ![] bcast_S_S4096x1 (constant S_ .f32 0x44800000#32))) (constant S_ .f32 0x00000000#32) reducesTo_S4096x1_S4096_d1 h_S_)) X) : FVec Ideal S4096x1024 .f32) (ix2 r j)
      = d + Ideal.rsqrt (ms (x r.val)) * (y r.val j - x r.val j * Ideal.rsqrt (ms (x r.val))
        * Ideal.div (∑ k, y r.val k * (x r.val k * Ideal.rsqrt (ms (x r.val)))) (Ideal.ofBits .f32 0x44800000#32)) := by
  rw [← norm_back (x r.val) (y r.val) (hx _) (hy _) d j]
  refine congrArg (d + ·) ?_
  pointwise
  simp only [hX, hY, hQ, Fin.sum_univ_one]

include hP hdV hM hG in
theorem dpre_of (r : Fin 4096) (j : Fin 2048) : (mulf (addf (pad S4096x2048 ![0, 1024] ![0, 0] ![0, 0] dV (constant S_ .f32 0x00000000#32) pads_S4096x1024_S4096x2048_000_102400 h_S_) (pad S4096x2048 ![0, 0] ![0, 1024] ![0, 0] (mulf M G) (constant S_ .f32 0x00000000#32) pads_S4096x1024_S4096x2048_000_010240 h_S_)) (addf (mulf (broadcastInDim S4096x2048 ![] bcast_S_S4096x2048 (constant S_ .f32 0x3F000000#32)) (Host.erfc (mulf (Host.negf P) (broadcastInDim S4096x2048 ![] bcast_S_S4096x2048 (constant S_ .f32 0x3F3504F3#32))))) (mulf P (mulf (Host.exp (mulf (broadcastInDim S4096x2048 ![] bcast_S_S4096x2048 (constant S_ .f32 0xBF000000#32)) (mulf P P))) (broadcastInDim S4096x2048 ![] bcast_S_S4096x2048 (constant S_ .f32 0x3ECC422A#32))))) : FVec Ideal S4096x2048 .f32) (ix2 r j) = I.dpre r.val j := by
  pointwise
  rw [hP, In.dpre, In.dp]
  refine congrArg₂ (fun a b : EReal => a * b) ?_ ?_
  · by_cases h : j.val < 1024
    · rw [dif_neg (fun hh => absurd h (Nat.not_lt.mpr hh.1)), dif_pos h, dif_pos h, zero_add, hM, hG]
      rfl
    · rw [dif_pos ⟨Nat.not_lt.mp h, by omega⟩, dif_neg h, dif_neg h, add_zero, hdV]
  · rw [slope, ← Ideal.erfc_neg, neg_mul, ← mul_assoc (Ideal.ofBits .f32 0xBF000000#32), ← mul_assoc (I.od.pre r.val j) (Ideal.exp _)]

include A hdP in
theorem dxn_of (r : Fin 4096) (j : Fin 1024) : (Host.dotGeneral (φ₁ := .f32) (φ₂ := .f32) dot_S4096x2048_S1024x2048_S4096x1024_1_1_0_0_n_n none dP W : FVec Ideal S4096x1024 .f32) (ix2 r j) = I.dxn r.val j := by
  pointwise
  simp only [hdP, A.a2]
  rfl

include hX hY in
/-- A column's sum of products over all rows. -/
theorem cols_of (j : Fin 1024) : (shapeCast S1x1024 (Host.reduceAdd (mulf X Y) (constant S_ .f32 0x00000000#32) reducesTo_S4096x1024_S1024_d0 h_S_) shapeCasts_S1024_S1x1024 : FVec Ideal S1x1024 .f32) (ix2 0 j) = ∑ r : Fin 4096, x r.val j * y r.val j := by
  pointwise
  simp only [hX, hY]

include hE hV in
theorem dws_of (q : Fin 8) (i k : Fin 128) : (Host.dotGeneral (φ₁ := .f32) (φ₂ := .f32) dot_S8x32x128x128_S32x128x8x128_S8x128x128_12_03_3_1_0_2 none (transpose S8x32x128x128 [2, 0, 3, 1] (shapeCast S32x128x8x128 E shapeCasts_S4096x1024_S32x128x8x128) transposes_S32x128x8x128_S8x32x128x128_2_0_3_1) (shapeCast S32x128x8x128 V shapeCasts_S4096x1024_S32x128x8x128) : FVec Ideal S8x128x128 .f32) (ix3 q i k) = ∑ n : Fin 32, I.tws q.val i k n.val := by
  pointwise
  refine Finset.sum_congr rfl fun n _ => Finset.sum_congr rfl fun k' _ => ?_
  have e : (⟨q.val * 128 + k'.val, by omega⟩ : Fin 1024) = hc q.val k' := Fin.ext (by show q.val * 128 + k'.val = (128 * q.val + k'.val) % 1024; omega)
  rw [hE, hV, e]

include hE in
theorem db_of (q : Fin 8) (i : Fin 128) : (transpose S8x128 [1, 0] (Host.reduceAdd (shapeCast S1x128x8x1 (Host.reduceAdd (shapeCast S32x128x8x128 E shapeCasts_S4096x1024_S32x128x8x128) (constant S_ .f32 0x00000000#32) reducesTo_S32x128x8x128_S128x8_d0_3 h_S_) shapeCasts_S128x8_S1x128x8x1) (constant S_ .f32 0x00000000#32) reducesTo_S1x128x8x1_S128x8_d0_3 h_S_) transposes_S128x8_S8x128_1_0 : FVec Ideal S8x128 .f32) (ix2 q i) = ∑ k : Fin 128, ∑ n : Fin 32, I.tb i (hc q.val k) n.val := by
  have e (X : FVec Ideal S32x128x8x128 .f32) : Host.reduceAdd X (constant S_ .f32 0x00000000#32) reducesTo_S32x128x8x128_S128x8_d0_3 h_S_ (ix2 i q) = ∑ k : Fin 128, ∑ n : Fin 32, X (ix4 n i q k) := by
    refine Eq.trans ?_ (outer reducesTo_S32x128x8x128_S128x8_d0_3 X i q)
    pointwise
  have e' (X : FVec Ideal S128x8 .f32) : Host.reduceAdd (shapeCast S1x128x8x1 X shapeCasts_S128x8_S1x128x8x1) (constant S_ .f32 0x00000000#32) reducesTo_S1x128x8x1_S128x8_d0_3 h_S_ (ix2 i q) = X (ix2 i q) := by
    have e2 := outer reducesTo_S1x128x8x1_S128x8_d0_3 (shapeCast S1x128x8x1 X shapeCasts_S128x8_S1x128x8x1) i q
    rw [Fin.sum_univ_one, Fin.sum_univ_one] at e2
    refine Eq.trans ?_ (e2.trans ?_)
    · pointwise
    · pointwise
  have e0 (X : FVec Ideal S128x8 .f32) : transpose S8x128 [1, 0] X transposes_S128x8_S8x128_1_0 (ix2 q i) = X (ix2 i q) := by pointwise
  refine (e0 _).trans ((e' _).trans ((e (shapeCast S32x128x8x128 E shapeCasts_S4096x1024_S32x128x8x128)).trans (Finset.sum_congr rfl fun k _ => Finset.sum_congr rfl fun n _ => ?_)))
  · have hk : (⟨q.val * 128 + k.val, by omega⟩ : Fin 1024) = hc q.val k := Fin.ext (by show q.val * 128 + k.val = (128 * q.val + k.val) % 1024; omega)
    pointwise
    rw [hE, hk]
    rfl

end

end Cert.Ob
-- ==== Proof.ObWin.lean ====
/-
  The odd layers' backward pass: what a grid point reads, and the rows it writes.
-/
module

public import proofs.«01_k».proof.Proof.ObRef
public import proofs.«01_k».proof.Proof.OdWin
public import Idealize.ShloMosaic.Lib.StableHlo.RunRead

@[expose] public section

set_option maxRecDepth 16384

noncomputable section

open Idealize.ShloMosaic Idealize.ShloMosaic.TcCoe Idealize.SL.Sem Idealize.ShloMosaic.StableHlo

namespace Cert.Ob

open Cert.OddBackIdeal Cert.OddBackIdeal.Gen Cert.OddBackIdeal.Value
open Cert.Even (ms Rows rd2 rd3 ld2 ld3 canon2 zero_off)
open Cert.Ff (all all')
open Cert.Od (gelu Til tri row row_val wrow wrow_val head head_val time time_val)

variable (m : (ℓ : Loc nD τ sig) → Buf (Elt Ideal) ℓ) (c : Dev nD) (t : Fin cfg0.N)

/-- The arguments. -/
def inp : In where
  h r k := (m (c, Proc.tc.devRef main_arg0) : FVec Ideal S4096x1024 .f32) (ix2 (row r) k)
  gm _ j := (m (c, Proc.tc.devRef main_arg1) : FVec Ideal S1x1024 .f32) (ix2 0 j)
  wi k j := (m (c, Proc.tc.devRef main_arg2) : FVec Ideal S1024x2048 .f32) (ix2 (wrow k) j)
  sg _ j := (m (c, Proc.tc.devRef main_arg3) : FVec Ideal S1x1024 .f32) (ix2 0 j)
  ws q i s := (show EReal from (m (c, Proc.tc.devRef main_arg4) : FVec Ideal S8x128x128 .f32) (ix3 (head q) i s)) * tri i s
  b i j := (m (c, Proc.tc.devRef main_arg5) : FVec Ideal S8x128 .f32) (ix2 (head (j.val / 128)) (time i))
  wo k j := (m (c, Proc.tc.devRef main_arg6) : FVec Ideal S1024x1024 .f32) (ix2 (wrow k) j)
  dh r k := (m (c, Proc.tc.devRef main_arg7) : FVec Ideal S4096x1024 .f32) (ix2 (row r) k)

/-- Any arrays with the arguments' contents are the given inputs. -/
theorem args : Args (m (c, Proc.tc.devRef main_arg0) : FVec Ideal S4096x1024 .f32) (m (c, Proc.tc.devRef main_arg1) : FVec Ideal S1x1024 .f32) (m (c, Proc.tc.devRef main_arg2) : FVec Ideal S1024x2048 .f32) (m (c, Proc.tc.devRef main_arg3) : FVec Ideal S1x1024 .f32) (m (c, Proc.tc.devRef main_arg4) : FVec Ideal S8x128x128 .f32) (m (c, Proc.tc.devRef main_arg5) : FVec Ideal S8x128 .f32) (m (c, Proc.tc.devRef main_arg6) : FVec Ideal S1024x1024 .f32) (m (c, Proc.tc.devRef main_arg7) : FVec Ideal S4096x1024 .f32) (inp m c) := by
  refine ⟨fun r k => ?_, fun j => rfl, fun k j => ?_, fun j => rfl, fun q i s => ?_, fun i j => ?_, fun k j => ?_, fun r k => ?_⟩
  · simp only [inp, row_val]
  · simp only [inp, wrow_val]
  · simp only [inp, head_val]
  · simp only [inp, time_val]
    exact congrArg (fun q => (m (c, Proc.tc.devRef main_arg5) : FVec Ideal S8x128 .f32) (ix2 q i)) (head_val _).symm
  · simp only [inp, wrow_val]
  · simp only [inp, row_val]

theorem V0 (r : ℕ) (k : Fin 1024) : (V m c main_v46 : FVec Ideal S4096x1024 .bf16) (ix2 (row r) k) = (inp m c).dh r k := by
  unfold V inp; after_reads_simp; rfl
theorem V1 (r : ℕ) (k : Fin 1024) : (V m c main_arg7 : FVec Ideal S4096x1024 .f32) (ix2 (row r) k) = (inp m c).dh r k := by
  unfold V inp; after_reads_simp
theorem V2 (k : ℕ) (j : Fin 1024) : (V m c main_v47 : FVec Ideal S1024x1024 .bf16) (ix2 (wrow k) j) = (inp m c).wo k j := by
  unfold V inp; after_reads_simp; rfl
theorem V5 (q : ℕ) (i s : Fin 128) : (V m c main_v50 : FVec Ideal S8x128x128 .bf16) (ix3 (head q) i s) = (inp m c).ws q i s := by
  unfold V inp; after_reads_simp; pointwise; rfl
theorem V6 (q : ℕ) (i s : Fin 128) : (V m c main_v52 : FVec Ideal S8x128x128 .bf16) (ix3 (head q) i s) = (inp m c).ws q s i := by
  unfold V inp; after_reads_simp; pointwise; rfl
theorem V7 (r : ℕ) (j : Fin 1024) : (V m c main_arg3 : FVec Ideal S1x1024 .f32) (ix2 0 j) = (inp m c).sg r j := by
  unfold V inp; after_reads_simp
theorem V8 (k : ℕ) (j : Fin 2048) : (V m c main_v53 : FVec Ideal S1024x2048 .bf16) (ix2 (wrow k) j) = (inp m c).wi k j := by
  unfold V inp; after_reads_simp; rfl
theorem V9 (r : ℕ) (k : Fin 1024) : (V m c main_arg0 : FVec Ideal S4096x1024 .f32) (ix2 (row r) k) = (inp m c).h r k := by
  unfold V inp; after_reads_simp
theorem V10 (r : ℕ) (j : Fin 1024) : (V m c main_arg1 : FVec Ideal S1x1024 .f32) (ix2 0 j) = (inp m c).gm r j := by
  unfold V inp; after_reads_simp

/-- The saved arrays that the call is handed. -/
theorem V3 (r : Fin 4096) (j : Fin 2048) : (V m c main_v48 : FVec Ideal S4096x2048 .bf16) (ix2 r j) = (inp m c).od.pre r.val j := by
  unfold V
  after_reads_simp
  exact pre_of (args m c) (unit_of (args m c).a0 (ms_of (args m c).a0)) r j
theorem V4 (r : Fin 4096) (j : Fin 1024) : (V m c main_v49 : FVec Ideal S4096x1024 .bf16) (ix2 r j) = (inp m c).od.gate r.val j := by
  unfold V
  after_reads_simp
  have W := v_of (act_of (pre_of (args m c) (unit_of (args m c).a0 (ms_of (args m c).a0))))
  exact gate_of (args m c) (vn_of (args m c) (unit_of W (ms_of W))) (T := _) (fun _ _ => rfl) r j

theorem idx_row : ∀ t : Fin grid0.N, (win0_0.index t 0 = t.val ∧ win0_0.index t 1 = 0) ∧ (win0_1.index t 0 = t.val ∧ win0_1.index t 1 = 0)
    ∧ (win0_3.index t 0 = t.val ∧ win0_3.index t 1 = 0) ∧ (win0_4.index t 0 = t.val ∧ win0_4.index t 1 = 0) ∧ (win0_9.index t 0 = t.val ∧ win0_9.index t 1 = 0)
    ∧ (win0_11.index t 0 = t.val ∧ win0_11.index t 1 = 0) ∧ (win0_12.index t 0 = t.val ∧ win0_12.index t 1 = 0) ∧ (win0_13.index t 0 = t.val ∧ win0_13.index t 1 = 0) := by
  decide +kernel

theorem idx_whole : ∀ t : Fin grid0.N, (win0_2.index t 0 = 0 ∧ win0_2.index t 1 = 0) ∧ (win0_5.index t 0 = 0 ∧ win0_5.index t 1 = 0 ∧ win0_5.index t 2 = 0)
    ∧ (win0_6.index t 0 = 0 ∧ win0_6.index t 1 = 0 ∧ win0_6.index t 2 = 0) ∧ (win0_7.index t 0 = 0 ∧ win0_7.index t 1 = 0) ∧ (win0_8.index t 0 = 0 ∧ win0_8.index t 1 = 0)
    ∧ (win0_10.index t 0 = 0 ∧ win0_10.index t 1 = 0) ∧ (win0_14.index t 0 = 0 ∧ win0_14.index t 1 = 0) ∧ (win0_15.index t 0 = 0 ∧ win0_15.index t 1 = 0)
    ∧ (win0_16.index t 0 = 0 ∧ win0_16.index t 1 = 0 ∧ win0_16.index t 2 = 0) ∧ (win0_17.index t 0 = 0 ∧ win0_17.index t 1 = 0) := by
  decide +kernel

theorem t_lt : t.val < 8 := lt_of_lt_of_eq t.isLt N_0

theorem row_at {x : ℕ} (hx : x < 512) : (row (t.val * 512 + x)).val = t.val * 512 + x := by
  have := t_lt t
  exact Nat.mod_eq_of_lt (by omega)

theorem off {n x : ℕ} (h : n = t.val) (hx : x < 512) : n * 512 + 1 * x = (row (t.val * 512 + x)).val := by
  rw [row_at t hx, h, Nat.one_mul]

theorem iblk0 : Rows (φ := .bf16) (iblk m c 0 t : FVec Ideal S512x1024 .bf16) (inp m c).dh (t.val * 512) := fun ρ k =>
  (rd2 (V m c main_v46 : FVec Ideal S4096x1024 .bf16) _ _ k (off t (idx_row t).1.1 ρ.isLt) (zero_off (idx_row t).1.2)).trans (V0 m c _ k)
theorem iblk1 : Rows (φ := .f32) (iblk m c 1 t : FVec Ideal S512x1024 .f32) (inp m c).dh (t.val * 512) := fun ρ k =>
  (rd2 (V m c main_arg7 : FVec Ideal S4096x1024 .f32) _ _ k (off t (idx_row t).2.1.1 ρ.isLt) (zero_off (idx_row t).2.1.2)).trans (V1 m c _ k)
theorem iblk2 : Rows (φ := .bf16) (iblk m c 2 t : FVec Ideal S1024x1024 .bf16) (inp m c).wo 0 := fun ρ k =>
  (rd2 (V m c main_v47 : FVec Ideal S1024x1024 .bf16) _ (wrow (0 + ρ.val)) k
    ((zero_off (idx_whole t).1.1).trans (by rw [Nat.zero_add, wrow_val]; rfl)) (zero_off (idx_whole t).1.2)).trans (V2 m c _ k)
theorem iblk3 : Rows (φ := .bf16) (iblk m c 3 t : FVec Ideal S512x2048 .bf16) (inp m c).od.pre (t.val * 512) := fun ρ k =>
  (rd2 (V m c main_v48 : FVec Ideal S4096x2048 .bf16) _ _ k (off t (idx_row t).2.2.1.1 ρ.isLt) (zero_off (idx_row t).2.2.1.2)).trans
    ((V3 m c _ k).trans (congrArg (fun r => (inp m c).od.pre r k) (row_at t ρ.isLt)))
theorem iblk4 : Rows (φ := .bf16) (iblk m c 4 t : FVec Ideal S512x1024 .bf16) (inp m c).od.gate (t.val * 512) := fun ρ k =>
  (rd2 (V m c main_v49 : FVec Ideal S4096x1024 .bf16) _ _ k (off t (idx_row t).2.2.2.1.1 ρ.isLt) (zero_off (idx_row t).2.2.2.1.2)).trans
    ((V4 m c _ k).trans (congrArg (fun r => (inp m c).od.gate r k) (row_at t ρ.isLt)))
theorem iblk6 (q : Fin 8) (i s : Fin 128) : (iblk m c 6 t : FVec Ideal S8x128x128 .bf16) (ix3 q i s) = (inp m c).ws q.val s i :=
  (rd3 (V m c main_v52 : FVec Ideal S8x128x128 .bf16) _ (head q.val) i s ((zero_off (idx_whole t).2.2.1.1).trans (by rw [head_val]; rfl))
    (zero_off (idx_whole t).2.2.1.2.1) (zero_off (idx_whole t).2.2.1.2.2)).trans (V6 m c _ i s)
theorem iblk7 : Rows (φ := .f32) (iblk m c 7 t : FVec Ideal S1x1024 .f32) (inp m c).sg 0 := fun ρ k =>
  (rd2 (V m c main_arg3 : FVec Ideal S1x1024 .f32) _ ρ k (zero_off (idx_whole t).2.2.2.1.1) (zero_off (idx_whole t).2.2.2.1.2)).trans
    (by rw [Subsingleton.elim ρ 0]; exact V7 m c _ k)
theorem iblk8 : Rows (φ := .bf16) (iblk m c 8 t : FVec Ideal S1024x2048 .bf16) (inp m c).wi 0 := fun ρ k =>
  (rd2 (V m c main_v53 : FVec Ideal S1024x2048 .bf16) _ (wrow (0 + ρ.val)) k
    ((zero_off (idx_whole t).2.2.2.2.1.1).trans (by rw [Nat.zero_add, wrow_val]; rfl)) (zero_off (idx_whole t).2.2.2.2.1.2)).trans (V8 m c _ k)
theorem iblk9 : Rows (φ := .f32) (iblk m c 9 t : FVec Ideal S512x1024 .f32) (inp m c).h (t.val * 512) := fun ρ k =>
  (rd2 (V m c main_arg0 : FVec Ideal S4096x1024 .f32) _ _ k (off t (idx_row t).2.2.2.2.1.1 ρ.isLt) (zero_off (idx_row t).2.2.2.2.1.2)).trans (V9 m c _ k)
theorem iblk10 : Rows (φ := .f32) (iblk m c 10 t : FVec Ideal S1x1024 .f32) (inp m c).gm 0 := fun ρ k =>
  (rd2 (V m c main_arg1 : FVec Ideal S1x1024 .f32) _ ρ k (zero_off (idx_whole t).2.2.2.2.2.1.1) (zero_off (idx_whole t).2.2.2.2.2.1.2)).trans
    (by rw [Subsingleton.elim ρ 0]; exact V10 m c _ k)

/-- One head's weights, turned, as read from the stack. -/
theorem heads {q : ℕ} (inb : ∀ x : Fin 3, (![q, 0, 0] : Fin 3 → ℕ) x + (![1, 128, 128] : Fin 3 → ℕ) x ≤ (![8, 128, 128] : Fin 3 → ℕ) x) (i s : Fin 128) :
    View.ld (Val := Elt Ideal) (e' := .bf16) (iblk m c 6 t : FVec Ideal S8x128x128 .bf16) (Rect.unit (s := S8x128x128) ![q, 0, 0] ![1, 128, 128] inb) (ix3 0 i s)
      = (inp m c).ws q s i :=
  (ld3 (e := .bf16) (iblk m c 6 t : FVec Ideal S8x128x128 .bf16) inb 0 i s ⟨q, inb 0⟩ rfl).trans (iblk6 m c t _ i s)

theorem base : t.val * 512 % 128 = 0 := by omega

theorem point : (t.val % 8 = 0 ∧ ¬1 ≤ t.val ∧ ¬t.val % 8 = 7) ∨ (¬t.val % 8 = 0 ∧ 1 ≤ t.val ∧ ¬t.val % 8 = 7) ∨ ¬t.val % 8 = 0 ∧ 1 ≤ t.val ∧ t.val % 8 = 7 := by
  have := t_lt t
  omega

end Cert.Ob
-- ==== Proof.ObRows.lean ====
/-
  The odd layers' backward pass: the rows that a grid point writes.
-/
module

public import proofs.«01_k».proof.Proof.ObWin
public import proofs.«01_k».proof.Proof.OdWin
public import Idealize.ShloMosaic.Lib.StableHlo.RunRead

@[expose] public section

set_option maxRecDepth 16384

noncomputable section

open Idealize.ShloMosaic Idealize.ShloMosaic.TcCoe Idealize.SL.Sem Idealize.ShloMosaic.StableHlo

namespace Cert.Ob

open Cert.OddBackIdeal Cert.OddBackIdeal.Gen Cert.OddBackIdeal.Value
open Cert.Even (ms Rows rd2 rd3 ld2 ld3 canon2 zero_off)
open Cert.Ff (all all')
open Cert.Od (gelu Til tri row row_val wrow wrow_val head head_val time time_val)

variable (m : (ℓ : Loc nD τ sig) → Buf (Elt Ideal) ℓ) (c : Dev nD) (t : Fin cfg0.N)

set_option maxHeartbeats 2000000

set_option maxHeartbeats 2000000

theorem at_dpre : Rows (φ := .bf16) (outsAt0 m c t.val t.isLt).1 (inp m c).dpre (t.val * 512) := by
  intro ρ j
  have hD := all' (iblk0 m c t) inb_S512x1024_S512x1024_0_0
  have hO := all' (iblk2 m c t) inb_S1024x1024_S1024x1024_0_0
  have hP := all' (iblk3 m c t) inb_S512x2048_S512x2048_0_0
  have hG := all' (iblk4 m c t) inb_S512x1024_S512x1024_0_0
  have Y := p19 hD hO hP
  rcases point t with ⟨h, h', h''⟩ | ⟨h, h', h''⟩ | ⟨h, h', h''⟩
  all_goals first
    | rw [outsAt0_A m c t h h' h h' h h' h h' h h' h h' h h' h h' h h' h h' h h' h'']; dsimp only; unfold out0_A_11; rw [View.read_writes_eq_canon _ _ _ (fun y => cover0_A_11 (y := y) ..)]; unfold kernelRun0_A
    | rw [outsAt0_B m c t h h' h h' h h' h h' h h' h h' h h' h h' h h' h h' h h' h'']; dsimp only; unfold out0_B_11; rw [View.read_writes_eq_canon _ _ _ (fun y => cover0_B_11 (y := y) ..)]; unfold kernelRun0_B
    | rw [outsAt0_C m c t h h' h h' h h' h h' h h' h h' h h' h h' h h' h h' h h' h'']; dsimp only; unfold out0_C_11; rw [View.read_writes_eq_canon _ _ _ (fun y => cover0_C_11 (y := y) ..)]; unfold kernelRun0_C
  all_goals
    dsimp only
    sl_unfold_words
    simp only [View.readAt_eq_ld, Memref.IsWhole.read_unread]
    refine (canon2 _ ρ j ρ j (Nat.zero_add _).symm (Nat.zero_add _).symm).trans ?_
    refine p98 (p11 hP) (all (iblk7 m c t) _) (p14 hP) (p15 hP) (p17 hD hO hG) (Til.back ?_ ?_ _) ρ j
    · unfold k0_pay83 k0_pay81 k0_pay82 k0_pay71 k0_pay70 k0_pay54 k0_pay52 k0_pay53 k0_pay29 k0_pay28
      repeat' first
        | exact Til.nil
        | refine Til.cons (tile_dvn (base t) Y (heads m c t _) (by decide) rfl) ?_
    · exact View.cover_of_tiledL _ (![128, 128] : Fin 2 → ℕ) (by sl_kernel_rfl)

theorem at_dho : Rows (φ := .f32) (outsAt0 m c t.val t.isLt).2.1 (inp m c).dho (t.val * 512) := by
  intro ρ j
  have hD := all' (iblk0 m c t) inb_S512x1024_S512x1024_0_0
  have hO := all' (iblk2 m c t) inb_S1024x1024_S1024x1024_0_0
  have hP := all' (iblk3 m c t) inb_S512x2048_S512x2048_0_0
  have hG := all' (iblk4 m c t) inb_S512x1024_S512x1024_0_0
  have Y := p19 hD hO hP
  rcases point t with ⟨h, h', h''⟩ | ⟨h, h', h''⟩ | ⟨h, h', h''⟩
  all_goals first
    | rw [outsAt0_A m c t h h' h h' h h' h h' h h' h h' h h' h h' h h' h h' h h' h'']; dsimp only; unfold out0_A_12; rw [View.read_writes_eq_canon _ _ _ (fun y => cover0_A_12 (y := y) ..)]; unfold kernelRun0_A
    | rw [outsAt0_B m c t h h' h h' h h' h h' h h' h h' h h' h h' h h' h h' h h' h'']; dsimp only; unfold out0_B_12; rw [View.read_writes_eq_canon _ _ _ (fun y => cover0_B_12 (y := y) ..)]; unfold kernelRun0_B
    | rw [outsAt0_C m c t h h' h h' h h' h h' h h' h h' h h' h h' h h' h h' h h' h'']; dsimp only; unfold out0_C_12; rw [View.read_writes_eq_canon _ _ _ (fun y => cover0_C_12 (y := y) ..)]; unfold kernelRun0_C
  all_goals
    dsimp only
    sl_unfold_words
    simp only [View.readAt_eq_ld, Memref.IsWhole.read_unread]
    refine (canon2 _ ρ j ρ j (Nat.zero_add _).symm (Nat.zero_add _).symm).trans ?_
    refine p103 (p99 (p11 hP) (all (iblk7 m c t) _) (p14 hP) (p15 hP) (p17 hD hO hG) (Til.back ?_ ?_ _) (all' (iblk8 m c t) _)) (all' (iblk9 m c t) _) (all (iblk10 m c t) _) (all' (iblk1 m c t) _) ρ j
    · unfold k0_pay83 k0_pay81 k0_pay82 k0_pay71 k0_pay70 k0_pay54 k0_pay52 k0_pay53 k0_pay29 k0_pay28
      repeat' first
        | exact Til.nil
        | refine Til.cons (tile_dvn (base t) Y (heads m c t _) (by decide) rfl) ?_
    · exact View.cover_of_tiledL _ (![128, 128] : Fin 2 → ℕ) (by sl_kernel_rfl)

theorem at_dhob : Rows (φ := .bf16) (outsAt0 m c t.val t.isLt).2.2.1 (inp m c).dho (t.val * 512) := by
  intro ρ j
  have hD := all' (iblk0 m c t) inb_S512x1024_S512x1024_0_0
  have hO := all' (iblk2 m c t) inb_S1024x1024_S1024x1024_0_0
  have hP := all' (iblk3 m c t) inb_S512x2048_S512x2048_0_0
  have hG := all' (iblk4 m c t) inb_S512x1024_S512x1024_0_0
  have Y := p19 hD hO hP
  rcases point t with ⟨h, h', h''⟩ | ⟨h, h', h''⟩ | ⟨h, h', h''⟩
  all_goals first
    | rw [outsAt0_A m c t h h' h h' h h' h h' h h' h h' h h' h h' h h' h h' h h' h'']; dsimp only; unfold out0_A_13; rw [View.read_writes_eq_canon _ _ _ (fun y => cover0_A_13 (y := y) ..)]; unfold kernelRun0_A
    | rw [outsAt0_B m c t h h' h h' h h' h h' h h' h h' h h' h h' h h' h h' h h' h'']; dsimp only; unfold out0_B_13; rw [View.read_writes_eq_canon _ _ _ (fun y => cover0_B_13 (y := y) ..)]; unfold kernelRun0_B
    | rw [outsAt0_C m c t h h' h h' h h' h h' h h' h h' h h' h h' h h' h h' h h' h'']; dsimp only; unfold out0_C_13; rw [View.read_writes_eq_canon _ _ _ (fun y => cover0_C_13 (y := y) ..)]; unfold kernelRun0_C
  all_goals
    dsimp only
    sl_unfold_words
    simp only [View.readAt_eq_ld, Memref.IsWhole.read_unread]
    refine (canon2 _ ρ j ρ j (Nat.zero_add _).symm (Nat.zero_add _).symm).trans ?_
    refine p104 (p99 (p11 hP) (all (iblk7 m c t) _) (p14 hP) (p15 hP) (p17 hD hO hG) (Til.back ?_ ?_ _) (all' (iblk8 m c t) _)) (all' (iblk9 m c t) _) (all (iblk10 m c t) _) (all' (iblk1 m c t) _) ρ j
    · unfold k0_pay83 k0_pay81 k0_pay82 k0_pay71 k0_pay70 k0_pay54 k0_pay52 k0_pay53 k0_pay29 k0_pay28
      repeat' first
        | exact Til.nil
        | refine Til.cons (tile_dvn (base t) Y (heads m c t _) (by decide) rfl) ?_
    · exact View.cover_of_tiledL _ (![128, 128] : Fin 2 → ℕ) (by sl_kernel_rfl)

end Cert.Ob
-- ==== Proof.ObAcc.lean ====
/-
  The odd layers' backward pass: the sums that the grid points gather.
-/
module

public import proofs.«01_k».proof.Proof.ObWin
public import proofs.«01_k».proof.Proof.WgSum
public import proofs.«01_k».proof.Proof.OdWin
public import Idealize.ShloMosaic.Lib.StableHlo.RunRead

@[expose] public section

set_option maxRecDepth 16384

noncomputable section

open Idealize.ShloMosaic Idealize.ShloMosaic.TcCoe Idealize.SL.Sem Idealize.ShloMosaic.StableHlo

namespace Cert.Ob

open Cert.OddBackIdeal Cert.OddBackIdeal.Gen Cert.OddBackIdeal.Value
open Cert.Even (ms Rows rd2 rd3 ld2 ld3 canon2 emb2 emb3 agr2 zero_off)
open Cert.Wg (first first_one first_succ first_all)
open Cert.Ff (all all')
open Cert.Od (gelu Til tri row row_val wrow wrow_val head head_val time time_val)

variable (m : (ℓ : Loc nD τ sig) → Buf (Elt Ideal) ℓ) (c : Dev nD) (t : Fin cfg0.N)

set_option maxHeartbeats 2000000

set_option maxHeartbeats 2000000

/-- The pieces of a stack of matrices hold a function's places. -/
def Stk (L : List (View.Piece (Elt Ideal) S8x128x128 .f32)) (G : ℕ → Fin 128 → Fin 128 → EReal) : Prop :=
  ∀ p ∈ L, ∀ x : p.1.shape.Idx, p.2 x = G ((p.1.emb x) 0).val ((p.1.emb x) 1) ((p.1.emb x) 2)

theorem Stk.nil {G : ℕ → Fin 128 → Fin 128 → EReal} : Stk [] G := fun _ h => absurd h List.not_mem_nil

theorem Stk.cons {L : List (View.Piece (Elt Ideal) S8x128x128 .f32)} {G : ℕ → Fin 128 → Fin 128 → EReal} {q : ℕ} {w : FVec Ideal S1x128x128 .f32} {inb}
    (h : ∀ i s, w (ix3 0 i s) = G q i s) (hL : Stk L G) : Stk (⟨Rect.unit (s := S8x128x128) ![q, 0, 0] ![1, 128, 128] inb, w⟩ :: L) G := by
  intro p hp
  rcases List.mem_cons.mp hp with rfl | hp
  · intro x
    obtain ⟨i, s, rfl⟩ : ∃ (i s : Fin 128), x = ix3 0 i s := ⟨x 1, x 2, by
      funext y
      match y with
      | ⟨0, _⟩ => exact Subsingleton.elim (α := Fin 1) _ _
      | ⟨1, _⟩ => rfl
      | ⟨2, _⟩ => rfl⟩
    dsimp only
    rw [emb3 inb 0 i s ⟨q, inb 0⟩ rfl]
    exact h i s
  · exact hL p hp

/-- The pieces of an array of rows hold a function's places. -/
def Rws (L : List (View.Piece (Elt Ideal) S8x128 .f32)) (G : ℕ → Fin 128 → EReal) : Prop :=
  ∀ p ∈ L, ∀ x : p.1.shape.Idx, p.2 x = G ((p.1.emb x) 0).val ((p.1.emb x) 1)

theorem Rws.nil {G : ℕ → Fin 128 → EReal} : Rws [] G := fun _ h => absurd h List.not_mem_nil

theorem Rws.cons {L : List (View.Piece (Elt Ideal) S8x128 .f32)} {G : ℕ → Fin 128 → EReal} {q : ℕ} {w : FVec Ideal S1x128 .f32} {inb}
    (h : ∀ i, w (ix2 0 i) = G q i) (hL : Rws L G) : Rws (⟨Rect.unit (s := S8x128) ![q, 0] ![1, 128] inb, w⟩ :: L) G := by
  intro p hp
  rcases List.mem_cons.mp hp with rfl | hp
  · refine agr2 (e := .f32) (G := fun y : S8x128.Idx => G (y 0).val (y 1)) inb fun i j i' j' hi hj => ?_
    obtain rfl : i = 0 := Subsingleton.elim _ _
    obtain rfl : j' = j := Fin.ext (hj.trans (Nat.zero_add _))
    exact (h j').trans (congrArg (fun n => G n j') hi.symm)
  · exact hL p hp

/-- A head's columns of an array written whole. -/
theorem col {w : FVec Ideal S128x1024 .f32} {q p : ℕ} {κ : Kind} {sp : Space} {v : View sig κ sp S128x1024 .f32} {i1} {i2} (hp : p = 128 * q) (hq : q < 8) (i k : Fin 128) :
    v.readCov (Val := Elt Ideal) [(⟨Rect.unit (s := S128x1024) ![0, 0] ![128, 1024] i1, w⟩ : View.Piece (Elt Ideal) S128x1024 .f32)]
      (Rect.unit (s := S128x1024) ![0, p] ![128, 128] i2).toLoadRect (ix2 i k) = w (ix2 i (hc q k)) := by
  rw [View.readCov_eq_canon']
  refine (congrArg (View.canon _) (emb2 i2 i k i (hc q k) (Nat.zero_add _).symm ?_)).trans (canon2 i1 i (hc q k) i (hc q k) (Nat.zero_add _).symm (Nat.zero_add _).symm)
  show (128 * q + k.val) % 1024 = p + k.val
  omega

theorem p97 (v w : FVec Ideal S1x1024 .f32) (j : Fin 1024) : k0_pay97 (F := Ideal) v w (ix2 0 j) = w (ix2 0 j) + v (ix2 0 j) := by
  unfold k0_pay97
  pointwise

theorem p105 (u v : FVec Ideal S512x1024 .f32) (w : FVec Ideal S1x1024 .f32) (j : Fin 1024) :
    k0_pay105 (F := Ideal) u v w (ix2 0 j) = w (ix2 0 j) + k0_pay102 (F := Ideal) u v (ix2 0 j) := by
  unfold k0_pay105
  generalize k0_pay102 (F := Ideal) u v = X
  pointwise

theorem chunk : t.val * 512 = t.val * 4 * 128 := by omega

theorem carry_A (h : t.val % 8 = 0) (h' : ¬1 ≤ t.val) (i : Fin 128) (j : Fin 1024) : (outsAt0 m c t.val t.isLt).2.2.2.2.2.2.2 (ix2 i j) = ∑ k : Fin 4, (inp m c).tb i j (t.val * 4 + k.val) := by
  have hD := all' (iblk0 m c t) inb_S512x1024_S512x1024_0_0
  have hO := all' (iblk2 m c t) inb_S1024x1024_S1024x1024_0_0
  have hP := all' (iblk3 m c t) inb_S512x2048_S512x2048_0_0
  have h'' : ¬t.val % 8 = 7 := by omega
  all_goals first
    | rw [outsAt0_A m c t h h' h h' h h' h h' h h' h h' h h' h h' h h' h h' h h' h'']; dsimp only; unfold sout0_A_1; rw [View.read_writes_eq_canon _ _ _ (fun y => scover0_A_1 (y := y) ..)]; unfold kernelRun0_A
  all_goals
    dsimp only
    sl_unfold_words
    simp only [View.readAt_eq_ld, Memref.IsWhole.read_unread]
    exact (canon2 _ i j i j (Nat.zero_add _).symm (Nat.zero_add _).symm).trans (p23 hD hO hP (chunk t) i j)

theorem carry_B (h : ¬t.val % 8 = 0) (h' : 1 ≤ t.val) (i : Fin 128) (j : Fin 1024) :
    (outsAt0 m c t.val t.isLt).2.2.2.2.2.2.2 (ix2 i j) = (outsAt0 m c (t.val - 1) (Nat.lt_of_le_of_lt (Nat.sub_le _ _) t.isLt)).2.2.2.2.2.2.2 (ix2 i j) + ∑ k : Fin 4, (inp m c).tb i j (t.val * 4 + k.val) := by
  have hD := all' (iblk0 m c t) inb_S512x1024_S512x1024_0_0
  have hO := all' (iblk2 m c t) inb_S1024x1024_S1024x1024_0_0
  have hP := all' (iblk3 m c t) inb_S512x2048_S512x2048_0_0
  by_cases h'' : t.val % 8 = 7
  all_goals first
    | rw [outsAt0_C m c t h h' h h' h h' h h' h h' h h' h h' h h' h h' h h' h h' h'']; dsimp only; unfold sout0_C_1; rw [View.read_writes_eq_canon _ _ _ (fun y => scover0_C_1 (y := y) ..)]; unfold kernelRun0_C
    | rw [outsAt0_B m c t h h' h h' h h' h h' h h' h h' h h' h h' h h' h h' h h' h'']; dsimp only; unfold sout0_B_1; rw [View.read_writes_eq_canon _ _ _ (fun y => scover0_B_1 (y := y) ..)]; unfold kernelRun0_B
  all_goals
    dsimp only
    sl_unfold_words
    simp only [View.readAt_eq_ld, Memref.IsWhole.read_unread]
    exact (canon2 _ i j i j (Nat.zero_add _).symm (Nat.zero_add _).symm).trans (p24 hD hO hP (chunk t) i j
      ((ld2 (e := .f32) _ _ i j i j (Nat.zero_add _).symm (Nat.zero_add _).symm).trans (congrFun ((Memref.isWhole_whole cc0_scratch1).read_unread (Val := Elt Ideal) _) (ix2 i j))))

theorem carry (i : Fin 128) (j : Fin 1024) : ∀ (n : ℕ) (h : n < cfg0.N), (outsAt0 m c n h).2.2.2.2.2.2.2 (ix2 i j) = first 4 ((inp m c).tb i j) (n + 1)
  | 0, h => (carry_A m c ⟨0, h⟩ rfl (Nat.not_succ_le_zero 0) i j).trans (first_one _).symm
  | n + 1, h =>
    (carry_B m c ⟨n + 1, h⟩ (by have := lt_of_lt_of_eq h N_0; show ¬(n + 1) % 8 = 0; omega) (Nat.le_add_left 1 n) i j).trans
      ((congrArg (fun x : EReal => x + _) (carry i j n (Nat.lt_of_succ_lt h))).trans (first_succ _ _).symm)

theorem dgain_A (h : t.val % 8 = 0) (h' : ¬1 ≤ t.val) (j : Fin 1024) : (outsAt0 m c t.val t.isLt).2.2.2.1 (ix2 0 j) = ∑ ρ : Fin 512, (inp m c).tgn j (t.val * 512 + ρ.val) := by
  have hD := all' (iblk0 m c t) inb_S512x1024_S512x1024_0_0
  have hO := all' (iblk2 m c t) inb_S1024x1024_S1024x1024_0_0
  have hP := all' (iblk3 m c t) inb_S512x2048_S512x2048_0_0
  have hG := all' (iblk4 m c t) inb_S512x1024_S512x1024_0_0
  have Y := p19 hD hO hP
  have h'' : ¬t.val % 8 = 7 := by omega
  all_goals first
    | rw [outsAt0_A m c t h h' h h' h h' h h' h h' h h' h h' h h' h h' h h' h h' h'']; dsimp only; unfold out0_A_14; rw [View.read_writes_eq_canon _ _ _ (fun y => cover0_A_14 (y := y) ..)]; unfold kernelRun0_A
  all_goals
    dsimp only
    sl_unfold_words
    simp only [View.readAt_eq_ld, Memref.IsWhole.read_unread]
    refine (canon2 _ 0 j 0 j (Nat.zero_add _).symm (Nat.zero_add _).symm).trans ?_
    refine p102 (p99 (p11 hP) (all (iblk7 m c t) _) (p14 hP) (p15 hP) (p17 hD hO hG) (Til.back ?_ ?_ _) (all' (iblk8 m c t) _)) (all' (iblk9 m c t) _) j
    · unfold k0_pay83 k0_pay81 k0_pay82 k0_pay71 k0_pay70 k0_pay54 k0_pay52 k0_pay53 k0_pay29 k0_pay28
      repeat' first
        | exact Til.nil
        | refine Til.cons (tile_dvn (base t) Y (heads m c t _) (by decide) rfl) ?_
    · exact View.cover_of_tiledL _ (![128, 128] : Fin 2 → ℕ) (by sl_kernel_rfl)

theorem dgain_B (h : ¬t.val % 8 = 0) (h' : 1 ≤ t.val) (j : Fin 1024) :
    (outsAt0 m c t.val t.isLt).2.2.2.1 (ix2 0 j) = (outsAt0 m c (t.val - 1) (Nat.lt_of_le_of_lt (Nat.sub_le _ _) t.isLt)).2.2.2.1 (ix2 0 j) + ∑ ρ : Fin 512, (inp m c).tgn j (t.val * 512 + ρ.val) := by
  have hD := all' (iblk0 m c t) inb_S512x1024_S512x1024_0_0
  have hO := all' (iblk2 m c t) inb_S1024x1024_S1024x1024_0_0
  have hP := all' (iblk3 m c t) inb_S512x2048_S512x2048_0_0
  have hG := all' (iblk4 m c t) inb_S512x1024_S512x1024_0_0
  have Y := p19 hD hO hP
  by_cases h'' : t.val % 8 = 7
  all_goals first
    | rw [outsAt0_C m c t h h' h h' h h' h h' h h' h h' h h' h h' h h' h h' h h' h'']; dsimp only; unfold out0_C_14; rw [View.read_writes_eq_canon _ _ _ (fun y => cover0_C_14 (y := y) ..)]; unfold kernelRun0_C
    | rw [outsAt0_B m c t h h' h h' h h' h h' h h' h h' h h' h h' h h' h h' h h' h'']; dsimp only; unfold out0_B_14; rw [View.read_writes_eq_canon _ _ _ (fun y => cover0_B_14 (y := y) ..)]; unfold kernelRun0_B
  all_goals
    dsimp only
    sl_unfold_words
    simp only [View.readAt_eq_ld, Memref.IsWhole.read_unread]
    refine (canon2 _ 0 j 0 j (Nat.zero_add _).symm (Nat.zero_add _).symm).trans ((p105 _ _ _ j).trans ?_)
    refine congrArg₂ (fun a b : EReal => a + b) (ld2 (e := .f32) _ _ 0 j 0 j (Nat.zero_add _).symm (Nat.zero_add _).symm) ?_
    refine p102 (p99 (p11 hP) (all (iblk7 m c t) _) (p14 hP) (p15 hP) (p17 hD hO hG) (Til.back ?_ ?_ _) (all' (iblk8 m c t) _)) (all' (iblk9 m c t) _) j
    · unfold k0_pay83 k0_pay81 k0_pay82 k0_pay71 k0_pay70 k0_pay54 k0_pay52 k0_pay53 k0_pay29 k0_pay28
      repeat' first
        | exact Til.nil
        | refine Til.cons (tile_dvn (base t) Y (heads m c t _) (by decide) rfl) ?_
    · exact View.cover_of_tiledL _ (![128, 128] : Fin 2 → ℕ) (by sl_kernel_rfl)

theorem dgain (j : Fin 1024) : ∀ (n : ℕ) (h : n < cfg0.N), (outsAt0 m c n h).2.2.2.1 (ix2 0 j) = first 512 ((inp m c).tgn j) (n + 1)
  | 0, h => (dgain_A m c ⟨0, h⟩ rfl (Nat.not_succ_le_zero 0) j).trans (first_one _).symm
  | n + 1, h =>
    (dgain_B m c ⟨n + 1, h⟩ (by have := lt_of_lt_of_eq h N_0; show ¬(n + 1) % 8 = 0; omega) (Nat.le_add_left 1 n) j).trans
      ((congrArg (fun x : EReal => x + _) (dgain j n (Nat.lt_of_succ_lt h))).trans (first_succ _ _).symm)

theorem dsgu_A (h : t.val % 8 = 0) (h' : ¬1 ≤ t.val) (j : Fin 1024) : (outsAt0 m c t.val t.isLt).2.2.2.2.1 (ix2 0 j) = ∑ ρ : Fin 512, (inp m c).tsg j (t.val * 512 + ρ.val) := by
  have hD := all' (iblk0 m c t) inb_S512x1024_S512x1024_0_0
  have hO := all' (iblk2 m c t) inb_S1024x1024_S1024x1024_0_0
  have hP := all' (iblk3 m c t) inb_S512x2048_S512x2048_0_0
  have hG := all' (iblk4 m c t) inb_S512x1024_S512x1024_0_0
  have Y := p19 hD hO hP
  have h'' : ¬t.val % 8 = 7 := by omega
  all_goals first
    | rw [outsAt0_A m c t h h' h h' h h' h h' h h' h h' h h' h h' h h' h h' h h' h'']; dsimp only; unfold out0_A_15; rw [View.read_writes_eq_canon _ _ _ (fun y => cover0_A_15 (y := y) ..)]; unfold kernelRun0_A
  all_goals
    dsimp only
    sl_unfold_words
    simp only [View.readAt_eq_ld, Memref.IsWhole.read_unread]
    refine (canon2 _ 0 j 0 j (Nat.zero_add _).symm (Nat.zero_add _).symm).trans ?_
    refine p96 (p15 hP) (Til.back ?_ ?_ _) j
    · unfold k0_pay83 k0_pay81 k0_pay82 k0_pay71 k0_pay70 k0_pay54 k0_pay52 k0_pay53 k0_pay29 k0_pay28
      repeat' first
        | exact Til.nil
        | refine Til.cons (tile_dvn (base t) Y (heads m c t _) (by decide) rfl) ?_
    · exact View.cover_of_tiledL _ (![128, 128] : Fin 2 → ℕ) (by sl_kernel_rfl)

theorem dsgu_B (h : ¬t.val % 8 = 0) (h' : 1 ≤ t.val) (j : Fin 1024) :
    (outsAt0 m c t.val t.isLt).2.2.2.2.1 (ix2 0 j) = (outsAt0 m c (t.val - 1) (Nat.lt_of_le_of_lt (Nat.sub_le _ _) t.isLt)).2.2.2.2.1 (ix2 0 j) + ∑ ρ : Fin 512, (inp m c).tsg j (t.val * 512 + ρ.val) := by
  have hD := all' (iblk0 m c t) inb_S512x1024_S512x1024_0_0
  have hO := all' (iblk2 m c t) inb_S1024x1024_S1024x1024_0_0
  have hP := all' (iblk3 m c t) inb_S512x2048_S512x2048_0_0
  have hG := all' (iblk4 m c t) inb_S512x1024_S512x1024_0_0
  have Y := p19 hD hO hP
  by_cases h'' : t.val % 8 = 7
  all_goals first
    | rw [outsAt0_C m c t h h' h h' h h' h h' h h' h h' h h' h h' h h' h h' h h' h'']; dsimp only; unfold out0_C_15; rw [View.read_writes_eq_canon _ _ _ (fun y => cover0_C_15 (y := y) ..)]; unfold kernelRun0_C
    | rw [outsAt0_B m c t h h' h h' h h' h h' h h' h h' h h' h h' h h' h h' h h' h'']; dsimp only; unfold out0_B_15; rw [View.read_writes_eq_canon _ _ _ (fun y => cover0_B_15 (y := y) ..)]; unfold kernelRun0_B
  all_goals
    dsimp only
    sl_unfold_words
    simp only [View.readAt_eq_ld, Memref.IsWhole.read_unread]
    refine (canon2 _ 0 j 0 j (Nat.zero_add _).symm (Nat.zero_add _).symm).trans ((p97 _ _ j).trans ?_)
    refine congrArg₂ (fun a b : EReal => a + b) (ld2 (e := .f32) _ _ 0 j 0 j (Nat.zero_add _).symm (Nat.zero_add _).symm) ?_
    refine p96 (p15 hP) (Til.back ?_ ?_ _) j
    · unfold k0_pay83 k0_pay81 k0_pay82 k0_pay71 k0_pay70 k0_pay54 k0_pay52 k0_pay53 k0_pay29 k0_pay28
      repeat' first
        | exact Til.nil
        | refine Til.cons (tile_dvn (base t) Y (heads m c t _) (by decide) rfl) ?_
    · exact View.cover_of_tiledL _ (![128, 128] : Fin 2 → ℕ) (by sl_kernel_rfl)

theorem dsgu (j : Fin 1024) : ∀ (n : ℕ) (h : n < cfg0.N), (outsAt0 m c n h).2.2.2.2.1 (ix2 0 j) = first 512 ((inp m c).tsg j) (n + 1)
  | 0, h => (dsgu_A m c ⟨0, h⟩ rfl (Nat.not_succ_le_zero 0) j).trans (first_one _).symm
  | n + 1, h =>
    (dsgu_B m c ⟨n + 1, h⟩ (by have := lt_of_lt_of_eq h N_0; show ¬(n + 1) % 8 = 0; omega) (Nat.le_add_left 1 n) j).trans
      ((congrArg (fun x : EReal => x + _) (dsgu j n (Nat.lt_of_succ_lt h))).trans (first_succ _ _).symm)

end Cert.Ob
-- ==== Proof.ObSum.lean ====
/-
  The odd layers' backward pass: the gathered sums of the mixing weights and the bias.
-/
module

public import proofs.«01_k».proof.Proof.ObAcc
public import proofs.«01_k».proof.Proof.WgSum
public import proofs.«01_k».proof.Proof.OdWin
public import Idealize.ShloMosaic.Lib.StableHlo.RunRead

@[expose] public section

set_option maxRecDepth 16384

noncomputable section

open Idealize.ShloMosaic Idealize.ShloMosaic.TcCoe Idealize.SL.Sem Idealize.ShloMosaic.StableHlo

namespace Cert.Ob

open Cert.OddBackIdeal Cert.OddBackIdeal.Gen Cert.OddBackIdeal.Value
open Cert.Even (ms Rows rd2 rd3 ld2 ld3 canon2 emb2 emb3 agr2 zero_off)
open Cert.Wg (first first_one first_succ first_all)
open Cert.Ff (all all')
open Cert.Od (gelu Til tri row row_val wrow wrow_val head head_val time time_val)

variable (m : (ℓ : Loc nD τ sig) → Buf (Elt Ideal) ℓ) (c : Dev nD) (t : Fin cfg0.N)

set_option maxHeartbeats 2000000

set_option maxHeartbeats 2000000

theorem dws_A (h : t.val % 8 = 0) (h' : ¬1 ≤ t.val) (q : Fin 8) (i s : Fin 128) : (outsAt0 m c t.val t.isLt).2.2.2.2.2.1 (ix3 q i s) = ∑ k : Fin 4, (inp m c).tws q.val i s (t.val * 4 + k.val) := by
  have hD := all' (iblk0 m c t) inb_S512x1024_S512x1024_0_0
  have hO := all' (iblk2 m c t) inb_S1024x1024_S1024x1024_0_0
  have hP := all' (iblk3 m c t) inb_S512x2048_S512x2048_0_0
  have hS := all (iblk7 m c t) inb_S1x1024_S1x1024_0_0
  have Z := p16 hP hS
  have Y := p19 hD hO hP
  have h'' : ¬t.val % 8 = 7 := by omega
  all_goals first
    | rw [outsAt0_A m c t h h' h h' h h' h h' h h' h h' h h' h h' h h' h h' h h' h'']; dsimp only; unfold out0_A_16; rw [View.read_writes_eq_canon _ _ _ (fun y => cover0_A_16 (y := y) ..)]; unfold kernelRun0_A
  all_goals
    dsimp only
    sl_unfold_words
    simp only [View.readAt_eq_ld, Memref.IsWhole.read_unread]
    refine View.canon_apply_of_pieces (Val := Elt Ideal) (e := .f32) (fun y : S8x128x128.Idx => ∑ k : Fin 4, (inp m c).tws (y 0).val (y 1) (y 2) (t.val * 4 + k.val)) _ ?_ (ix3 q i s) (?_)
    · unfold k0_pay94 k0_pay93 k0_pay90 k0_pay88 k0_pay85 k0_pay84 k0_pay80 k0_pay75 k0_pay74 k0_pay69 k0_pay66 k0_pay65 k0_pay63 k0_pay58 k0_pay57 k0_pay51 k0_pay48 k0_pay47 k0_pay44 k0_pay40 k0_pay39 k0_pay35 k0_pay32 k0_pay31 k0_pay27
      have ht := chunk t
      generalize k0_pay19 (F := Ideal) _ _ _ = Y' at Y ⊢
      generalize k0_pay16 (F := Ideal) _ _ = Z' at Z ⊢
      generalize t.val * 512 = B at Y Z ht
      clear hD hO hP hS
      dsimp only
      refine (?_ : Stk _ fun q i s => ∑ k : Fin 4, (inp m c).tws q i s (t.val * 4 + k.val))
      repeat' first
        | exact Stk.nil
        | refine Stk.cons (fun i s => fresh_at Y Z (by rfl) ht i s) ?_
    · exact View.cover_of_tiledL _ (![1, 128, 128] : Fin 3 → ℕ) (by sl_kernel_rfl) _

theorem dws_B (h : ¬t.val % 8 = 0) (h' : 1 ≤ t.val) (q : Fin 8) (i s : Fin 128) :
    (outsAt0 m c t.val t.isLt).2.2.2.2.2.1 (ix3 q i s) = (outsAt0 m c (t.val - 1) (Nat.lt_of_le_of_lt (Nat.sub_le _ _) t.isLt)).2.2.2.2.2.1 (ix3 q i s) + ∑ k : Fin 4, (inp m c).tws q.val i s (t.val * 4 + k.val) := by
  have hD := all' (iblk0 m c t) inb_S512x1024_S512x1024_0_0
  have hO := all' (iblk2 m c t) inb_S1024x1024_S1024x1024_0_0
  have hP := all' (iblk3 m c t) inb_S512x2048_S512x2048_0_0
  have hS := all (iblk7 m c t) inb_S1x1024_S1x1024_0_0
  have Z := p16 hP hS
  have Y := p19 hD hO hP
  by_cases h'' : t.val % 8 = 7
  all_goals first
    | rw [outsAt0_C m c t h h' h h' h h' h h' h h' h h' h h' h h' h h' h h' h h' h'']; dsimp only; unfold out0_C_16; rw [View.read_writes_eq_canon _ _ _ (fun y => cover0_C_16 (y := y) ..)]; unfold kernelRun0_C
    | rw [outsAt0_B m c t h h' h h' h h' h h' h h' h h' h h' h h' h h' h h' h h' h'']; dsimp only; unfold out0_B_16; rw [View.read_writes_eq_canon _ _ _ (fun y => cover0_B_16 (y := y) ..)]; unfold kernelRun0_B
  all_goals
    dsimp only
    sl_unfold_words
    simp only [View.readAt_eq_ld, Memref.IsWhole.read_unread]
    refine View.canon_apply_of_pieces (Val := Elt Ideal) (e := .f32) (fun y : S8x128x128.Idx => (show EReal from (outsAt0 m c (t.val - 1) (Nat.lt_of_le_of_lt (Nat.sub_le _ _) t.isLt)).2.2.2.2.2.1 (ix3 (head (y 0).val) (y 1) (y 2))) + ∑ k : Fin 4, (inp m c).tws (y 0).val (y 1) (y 2) (t.val * 4 + k.val)) _ ?_ (ix3 q i s) ?_ |>.trans ?_
    · unfold k0_pay95 k0_pay93 k0_pay90 k0_pay88 k0_pay86 k0_pay84 k0_pay80 k0_pay76 k0_pay74 k0_pay69 k0_pay67 k0_pay65 k0_pay63 k0_pay59 k0_pay57 k0_pay51 k0_pay49 k0_pay47 k0_pay44 k0_pay41 k0_pay39 k0_pay35 k0_pay33 k0_pay31 k0_pay27
      have ht := chunk t
      generalize k0_pay19 (F := Ideal) _ _ _ = Y' at Y ⊢
      generalize k0_pay16 (F := Ideal) _ _ = Z' at Z ⊢
      generalize t.val * 512 = B at Y Z ht
      clear hD hO hP hS
      dsimp only
      refine (?_ : Stk _ fun q i s => (show EReal from (outsAt0 m c (t.val - 1) (Nat.lt_of_le_of_lt (Nat.sub_le _ _) t.isLt)).2.2.2.2.2.1 (ix3 (head q) i s)) + ∑ k : Fin 4, (inp m c).tws q i s (t.val * 4 + k.val))
      repeat' first
        | exact Stk.nil
        | refine Stk.cons (fun i s => added_at Y Z (by rfl) ht i s (ld3 (e := .f32) _ _ 0 i s (head _) rfl)) ?_
    · exact View.cover_of_tiledL _ (![1, 128, 128] : Fin 3 → ℕ) (by sl_kernel_rfl) _
    · show (show EReal from (outsAt0 m c (t.val - 1) (Nat.lt_of_le_of_lt (Nat.sub_le _ _) t.isLt)).2.2.2.2.2.1 (ix3 (head q.val) i s)) + _ = _
      rw [head_val]
      rfl

theorem dws (q : Fin 8) (i s : Fin 128) : ∀ (n : ℕ) (h : n < cfg0.N), (outsAt0 m c n h).2.2.2.2.2.1 (ix3 q i s) = first 4 ((inp m c).tws q.val i s) (n + 1)
  | 0, h => (dws_A m c ⟨0, h⟩ rfl (Nat.not_succ_le_zero 0) q i s).trans (first_one _).symm
  | n + 1, h =>
    (dws_B m c ⟨n + 1, h⟩ (by have := lt_of_lt_of_eq h N_0; show ¬(n + 1) % 8 = 0; omega) (Nat.le_add_left 1 n) q i s).trans
      ((congrArg (fun x : EReal => x + _) (dws q i s n (Nat.lt_of_succ_lt h))).trans (first_succ _ _).symm)

theorem db_C (h : t.val % 8 = 7) (q : Fin 8) (i : Fin 128) :
    (outsAt0 m c t.val t.isLt).2.2.2.2.2.2.1 (ix2 q i) = ∑ k : Fin 128, first 4 ((inp m c).tb i (hc q.val k)) (t.val + 1) := by
  obtain ⟨h', h'', hl⟩ : ¬t.val % 8 = 0 ∧ 1 ≤ t.val ∧ t.val - 1 + 1 = t.val := by omega
  have hD := all' (iblk0 m c t) inb_S512x1024_S512x1024_0_0
  have hO := all' (iblk2 m c t) inb_S1024x1024_S1024x1024_0_0
  have hP := all' (iblk3 m c t) inb_S512x2048_S512x2048_0_0
  rw [outsAt0_C m c t h' h'' h' h'' h' h'' h' h'' h' h'' h' h'' h' h'' h' h'' h' h'' h' h'' h' h'' h]; dsimp only; unfold out0_C_17; rw [View.read_writes_eq_canon _ _ _ (fun y => cover0_C_17 (y := y) ..)]; unfold kernelRun0_C
  dsimp only
  sl_unfold_words
  simp only [View.readAt_eq_ld, Memref.IsWhole.read_unread]
  have X (i : Fin 128) (j : Fin 1024) := p24 hD hO hP (chunk t) i j (O := _)
    ((ld2 (e := .f32) _ inb_S128x1024_S128x1024_0_0 i j i j (Nat.zero_add _).symm (Nat.zero_add _).symm).trans ((congrFun ((Memref.isWhole_whole cc0_scratch1).read_unread (Val := Elt Ideal) (outsAt0 m c (t.val - 1) (Nat.lt_of_le_of_lt (Nat.sub_le _ _) t.isLt)).2.2.2.2.2.2.2) (ix2 i j)).trans
      ((carry m c i j (t.val - 1) (Nat.lt_of_le_of_lt (Nat.sub_le _ _) t.isLt)).trans (congrArg (first 4 _) hl))))
  simp only [← first_succ] at X
  refine View.canon_apply_of_pieces (Val := Elt Ideal) (e := .f32) (fun y : S8x128.Idx => ∑ k : Fin 128, first 4 ((inp m c).tb (y 1) (hc (y 0).val k)) (t.val + 1)) _ ?_ (ix2 q i) ?_
  · refine (?_ : Rws _ fun q i => ∑ k : Fin 128, first 4 ((inp m c).tb i (hc q k)) (t.val + 1))
    repeat' first
      | exact Rws.nil
      | refine Rws.cons (fun i => p4 (fun i k => (col (by rfl) (by decide) i k).trans (X i (hc _ k))) i) ?_
  · exact View.cover_of_tiledL _ (![1, 128] : Fin 2 → ℕ) (by sl_kernel_rfl) _

end Cert.Ob
-- ==== Proof.ObEnd.lean ====
/-
  The odd layers' backward pass: what the call leaves in its result arrays.
-/
module

public import proofs.«01_k».proof.Proof.ObRows
public import proofs.«01_k».proof.Proof.ObSum
public import proofs.«01_k».proof.Proof.WgSum
public import proofs.«01_k».proof.Proof.OdWin
public import Idealize.ShloMosaic.Lib.StableHlo.RunRead

@[expose] public section

set_option maxRecDepth 16384

noncomputable section

open Idealize.ShloMosaic Idealize.ShloMosaic.TcCoe Idealize.SL.Sem Idealize.ShloMosaic.StableHlo

namespace Cert.Ob

open Cert.OddBackIdeal Cert.OddBackIdeal.Gen Cert.OddBackIdeal.Value
open Cert.Even (ms Rows rd2 rd3 ld2 ld3 canon2 emb2 emb3 agr2 zero_off)
open Cert.Wg (first first_one first_succ first_all)
open Cert.Ff (all all')
open Cert.Od (gelu Til tri row row_val wrow wrow_val head head_val time time_val)

variable (m : (ℓ : Loc nD τ sig) → Buf (Elt Ideal) ℓ) (c : Dev nD) (t : Fin cfg0.N)

/-- The last grid point. -/
def last : Fin cfg0.N := ⟨7, lt_of_lt_of_eq (by decide) N_0.symm⟩

theorem only {t : Fin cfg0.N} (h : t.val % 8 = 7) : t = last := by
  have := t_lt t
  exact Fin.ext (by show t.val = 7; omega)

/-- The grid point that writes a row, and the row within its block. -/
def pt (r : Fin 4096) : Fin cfg0.N := ⟨r.val / 512, lt_of_lt_of_eq (Nat.div_lt_of_lt_mul r.isLt) N_0.symm⟩

def rem (r : Fin 4096) : Fin 512 := ⟨r.val % 512, Nat.mod_lt _ (by decide)⟩

theorem pt_rem (r : Fin 4096) : (pt r).val * 512 + (rem r).val = r.val := Nat.div_add_mod' _ _

theorem off_pt {n : ℕ} (r : Fin 4096) (h : n = (pt r).val) : n * 512 + 1 * (rem r).val = r.val := by
  rw [h, Nat.one_mul]; exact pt_rem r

theorem end_dpre (r : Fin 4096) (j : Fin 2048) : ((dats m 0 c).arrAt 11 cfg0.N : FVec Ideal S4096x2048 .bf16) (ix2 r j) = (inp m c).dpre r.val j := by
  have hb := congrFun (blocks11 m c (pt r) (flush0_11 _)) (ix2 (rem r) j)
  rw [flushed11] at hb
  refine Eq.trans ?_ (hb.trans ((at_dpre m c (pt r) (rem r) j).trans (congrArg (fun n => (inp m c).dpre n j) (pt_rem r))))
  exact (rd2 ((dats m 0 c).arrAt 11 cfg0.N : FVec Ideal S4096x2048 .bf16) _ r j (off_pt r (idx_row (pt r)).2.2.2.2.2.1.1) (zero_off (idx_row (pt r)).2.2.2.2.2.1.2)).symm

theorem end_dho (r : Fin 4096) (j : Fin 1024) : ((dats m 0 c).arrAt 12 cfg0.N : FVec Ideal S4096x1024 .f32) (ix2 r j) = (inp m c).dho r.val j := by
  have hb := congrFun (blocks12 m c (pt r) (flush0_12 _)) (ix2 (rem r) j)
  rw [flushed12] at hb
  refine Eq.trans ?_ (hb.trans ((at_dho m c (pt r) (rem r) j).trans (congrArg (fun n => (inp m c).dho n j) (pt_rem r))))
  exact (rd2 ((dats m 0 c).arrAt 12 cfg0.N : FVec Ideal S4096x1024 .f32) _ r j (off_pt r (idx_row (pt r)).2.2.2.2.2.2.1.1) (zero_off (idx_row (pt r)).2.2.2.2.2.2.1.2)).symm

theorem end_dhob (r : Fin 4096) (j : Fin 1024) : ((dats m 0 c).arrAt 13 cfg0.N : FVec Ideal S4096x1024 .bf16) (ix2 r j) = (inp m c).dho r.val j := by
  have hb := congrFun (blocks13 m c (pt r) (flush0_13 _)) (ix2 (rem r) j)
  rw [flushed13] at hb
  refine Eq.trans ?_ (hb.trans ((at_dhob m c (pt r) (rem r) j).trans (congrArg (fun n => (inp m c).dho n j) (pt_rem r))))
  exact (rd2 ((dats m 0 c).arrAt 13 cfg0.N : FVec Ideal S4096x1024 .bf16) _ r j (off_pt r (idx_row (pt r)).2.2.2.2.2.2.2.1) (zero_off (idx_row (pt r)).2.2.2.2.2.2.2.2)).symm

theorem end_dgain (j : Fin 1024) : ((dats m 0 c).arrAt 14 cfg0.N : FVec Ideal S1x1024 .f32) (ix2 0 j) = ∑ r : Fin 4096, (inp m c).tgn j r.val := by
  have hb := congrFun ((dats m 0 c).read_blk_arrAt_eq_flushed 14 (fun t t' h h' hn => absurd ((only ((flush0_14 t).mp h)).trans (only ((flush0_14 t').mp h')).symm) hn)
    cfg0.N last last.isLt ((flush0_14 last).mpr rfl)) (ix2 0 j)
  rw [flushed14] at hb
  refine Eq.trans ?_ (hb.trans ((dgain m c j 7 last.isLt).trans (first_all (N := 4096) _ (by norm_num))))
  exact (rd2 ((dats m 0 c).arrAt 14 cfg0.N : FVec Ideal S1x1024 .f32) _ 0 j (zero_off (idx_whole last).2.2.2.2.2.2.1.1) (zero_off (idx_whole last).2.2.2.2.2.2.1.2)).symm

theorem end_dsgu (j : Fin 1024) : ((dats m 0 c).arrAt 15 cfg0.N : FVec Ideal S1x1024 .f32) (ix2 0 j) = ∑ r : Fin 4096, (inp m c).tsg j r.val := by
  have hb := congrFun ((dats m 0 c).read_blk_arrAt_eq_flushed 15 (fun t t' h h' hn => absurd ((only ((flush0_15 t).mp h)).trans (only ((flush0_15 t').mp h')).symm) hn)
    cfg0.N last last.isLt ((flush0_15 last).mpr rfl)) (ix2 0 j)
  rw [flushed15] at hb
  refine Eq.trans ?_ (hb.trans ((dsgu m c j 7 last.isLt).trans (first_all (N := 4096) _ (by norm_num))))
  exact (rd2 ((dats m 0 c).arrAt 15 cfg0.N : FVec Ideal S1x1024 .f32) _ 0 j (zero_off (idx_whole last).2.2.2.2.2.2.2.1.1) (zero_off (idx_whole last).2.2.2.2.2.2.2.1.2)).symm

theorem end_dws (q : Fin 8) (i s : Fin 128) : ((dats m 0 c).arrAt 16 cfg0.N : FVec Ideal S8x128x128 .f32) (ix3 q i s) = ∑ n : Fin 32, (inp m c).tws q.val i s n.val := by
  have hb := congrFun ((dats m 0 c).read_blk_arrAt_eq_flushed 16 (fun t t' h h' hn => absurd ((only ((flush0_16 t).mp h)).trans (only ((flush0_16 t').mp h')).symm) hn)
    cfg0.N last last.isLt ((flush0_16 last).mpr rfl)) (ix3 q i s)
  rw [flushed16] at hb
  refine Eq.trans ?_ (hb.trans ((dws m c q i s 7 last.isLt).trans (first_all (N := 32) _ (by norm_num))))
  exact (rd3 ((dats m 0 c).arrAt 16 cfg0.N : FVec Ideal S8x128x128 .f32) _ q i s (zero_off (idx_whole last).2.2.2.2.2.2.2.2.1.1) (zero_off (idx_whole last).2.2.2.2.2.2.2.2.1.2.1) (zero_off (idx_whole last).2.2.2.2.2.2.2.2.1.2.2)).symm

theorem end_db (q : Fin 8) (i : Fin 128) : ((dats m 0 c).arrAt 17 cfg0.N : FVec Ideal S8x128 .f32) (ix2 q i) = ∑ k : Fin 128, ∑ n : Fin 32, (inp m c).tb i (hc q.val k) n.val := by
  have hb := congrFun ((dats m 0 c).read_blk_arrAt_eq_flushed 17 (fun t t' h h' hn => absurd ((only ((flush0_17 t).mp h)).trans (only ((flush0_17 t').mp h')).symm) hn)
    cfg0.N last last.isLt ((flush0_17 last).mpr rfl)) (ix2 q i)
  rw [flushed17] at hb
  refine Eq.trans ?_ (hb.trans ((db_C m c last rfl q i).trans (Finset.sum_congr rfl fun k _ => first_all (N := 32) _ rfl)))
  exact (rd2 ((dats m 0 c).arrAt 17 cfg0.N : FVec Ideal S8x128 .f32) _ q i (zero_off (idx_whole last).2.2.2.2.2.2.2.2.2.1) (zero_off (idx_whole last).2.2.2.2.2.2.2.2.2.2)).symm

end Cert.Ob
-- ==== Proof.ObReal.lean ====
/-
  The odd layers' backward pass of real arrays is real.
-/
module

public import proofs.«01_k».proof.Proof.ObPay
public import proofs.«01_k».proof.Proof.LhClaims

@[expose] public section

set_option maxRecDepth 16384

noncomputable section

open Idealize.ShloMosaic Idealize.ShloMosaic.TcCoe Idealize.SL.Sem

namespace Cert.Ob

open Cert.Even (Re ms)
open Cert.Lh (rr_real)
open Cert.Od (gelu tri lo hi)

/-- A literal whose exponent is not the last one is real. -/
theorem lit_re {b : BitVec 32} (h : (b.extractLsb' 23 8).toNat ≠ 2 ^ 8 - 1) : Re (Ideal.ofBits .f32 b) := by
  show Re (Ideal.ieee 8 23 b)
  unfold Ideal.ieee
  simp only [if_neg h]
  split
  · exact ⟨_, rfl⟩
  · exact ⟨_, rfl⟩

theorem erf_re {x : EReal} : Re x → Re (Ideal.erf x) := fun ⟨_, e⟩ => e ▸ ⟨_, rfl⟩

theorem exp_re {x : EReal} : Re x → Re (Ideal.exp x) := fun ⟨_, e⟩ => e ▸ ⟨_, rfl⟩

theorem one_re : Re 1 := ⟨1, rfl⟩

theorem gelu_re {x : EReal} (h : Re x) : Re (gelu x) :=
  ((lit_re (by decide)).mul h).mul (one_re.add (erf_re (h.mul (lit_re (by decide)))))

theorem slope_re {x : EReal} (h : Re x) : Re (slope x) :=
  ((lit_re (by decide)).mul (one_re.add (erf_re (h.mul (lit_re (by decide)))))).add
    ((h.mul (exp_re (((lit_re (by decide)).mul h).mul h))).mul (lit_re (by decide)))

theorem tri_re (i s : Fin 128) : Re (tri i s) := by
  unfold tri
  pointwise
  unfold Scalar.select
  split
  · exact one_re
  · exact Re.zero

theorem mean_re {x : EReal} (h : Re x) : Re (Ideal.div x (Ideal.ofBits .f32 0x44800000#32)) := by
  rw [Cert.Even.lit_1024]
  exact h.div (by norm_num)

/-- Every input is real. -/
structure Reals (I : In) : Prop where
  h : ∀ r k, Re (I.h r k)
  gm : ∀ k, Re (I.gm 0 k)
  wi : ∀ r k, Re (I.wi r k)
  sg : ∀ k, Re (I.sg 0 k)
  ws : ∀ q i s, Re (I.ws q i s)
  b : ∀ r k, Re (I.b r k)
  wo : ∀ r k, Re (I.wo r k)
  dh : ∀ r k, Re (I.dh r k)

namespace Reals

variable {I : In} (R : Reals I) (r : ℕ)

include R

theorem pre (j : Fin 2048) : Re (I.od.pre r j) :=
  Re.sum fun k => (((R.h r k).mul (rr_real (R.h r))).mul (R.gm k)).mul (R.wi k.val j)

theorem u (j : Fin 1024) : Re (I.od.u r j) := gelu_re (R.pre r (lo j))

theorem v (j : Fin 1024) : Re (I.od.v r j) := gelu_re (R.pre r (hi j))

theorem vh (j : Fin 1024) : Re (I.vh r j) := (R.v r j).mul (rr_real (R.v r))

theorem gate (j : Fin 1024) : Re (I.od.gate r j) :=
  (Re.sum fun s => (R.ws _ _ s).mul ((R.vh _ j).mul (R.sg j))).add (R.b _ j)

theorem dmix (j : Fin 1024) : Re (I.dmix r j) := Re.sum fun k => (R.dh r k).mul (R.wo j.val k)

theorem dvh (j : Fin 1024) : Re (I.dvh r j) :=
  (Re.sum fun s => (R.ws _ s _).mul ((R.dmix _ j).mul (R.u _ j))).mul (R.sg j)

theorem dv (j : Fin 1024) : Re (I.dv r j) :=
  (rr_real (R.v r)).mul ((R.dvh r j).sub ((R.vh r j).mul (mean_re (Re.sum fun k => (R.dvh r k).mul (R.vh r k)))))

theorem dpre (j : Fin 2048) : Re (I.dpre r j) := by
  refine Re.mul ?_ (slope_re (R.pre r j))
  unfold In.dp
  split
  · exact (R.dmix r _).mul (R.gate r _)
  · exact R.dv r _

theorem dxh (i : Fin 1024) : Re (I.dxh r i) := (Re.sum fun j => (R.dpre r j).mul (R.wi i.val j)).mul (R.gm i)

end Reals

end Cert.Ob
-- ==== Proof.ObClaims.lean ====
/-
  The claims of the odd layers' backward pass.
-/
module

public import proofs.«01_k».proof.Proof.ObEnd
public import proofs.«01_k».proof.Proof.ObRef
public import proofs.«01_k».proof.Proof.ObReal
public import proofs.«01_k».proof.Proof.Gen.OddBack.Frame
public import proofs.«01_k».proof.Proof.Gen.Pre_finite13

@[expose] public section

set_option maxRecDepth 16384

noncomputable section

open Idealize.ShloMosaic Idealize.ShloMosaic.TcCoe Idealize.SL.Sem Idealize.ShloMosaic.StableHlo

namespace Cert.Ob

open Cert.Even (Re all_real)
open Cert.Od (tri row_val wrow_val head_val time_val)

theorem frame_k : Cert.quiescent_OddBack := fun m ρ _ => Cert.OddBack.Gen.frame m ρ

theorem frame_ki : Cert.quiescent_OddBackIdeal := fun m ρ _ => Cert.OddBackIdeal.Gen.frame m ρ

theorem frame_ri : Cert.quiescent_OddBackRefIdeal := fun m ρ _ =>
  (θ_run Cert.OddBackRefIdeal.defs _ _).mono (fun r h => ⟨fun c => (h c).2.2.2.2.2.2.2, sem_eq_zero_of_no_sems (by decide) r.2⟩)
    (Cert.OddBackRefIdeal.Value.run (F := Ideal) m ρ)

theorem real_of {x0 x7 : FVec Ideal Cert.Pre_finite13.S4096x1024 .f32} {x1 x3 : FVec Ideal Cert.Pre_finite13.S1x1024 .f32}
    {x2 : FVec Ideal Cert.Pre_finite13.S1024x2048 .f32} {x4 : FVec Ideal Cert.Pre_finite13.S8x128x128 .f32}
    {x5 : FVec Ideal Cert.Pre_finite13.S8x128 .f32} {x6 : FVec Ideal Cert.Pre_finite13.S1024x1024 .f32}
    (h : Cert.Pre_finite13.fn (F := Ideal) x0 x1 x2 x3 x4 x5 x6 x7 = fun _ => 1#1) :
    (∀ i, Re (x0 i)) ∧ (∀ i, Re (x1 i)) ∧ (∀ i, Re (x2 i)) ∧ (∀ i, Re (x3 i)) ∧ (∀ i, Re (x4 i)) ∧ (∀ i, Re (x5 i)) ∧ (∀ i, Re (x6 i)) ∧ ∀ i, Re (x7 i) := by
  have : Subsingleton Cert.Pre_finite13.S_.Idx := ⟨fun a b => funext fun k => k.elim0⟩
  have e := congrFun h (fun k => k.elim0)
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨all_real h0 fun _ => rfl, all_real h1 fun _ => rfl, all_real h2 fun _ => rfl, all_real h3 fun _ => rfl,
    all_real h4 fun _ => rfl, all_real h5 fun _ => rfl, all_real h6 fun _ => rfl, all_real h7 fun _ => rfl⟩

theorem alg : Cert.algebraic_OddBackIdeal_OddBackRefIdeal_pre_finite13 := by
  intro m ρ m' ρ' hpre hag
  refine ⟨_, _, _, _, _, _, _, Cert.OddBackIdeal.Value.run_blocks m ρ, ?_⟩
  refine (θ_run Cert.OddBackRefIdeal.defs _ _).mono (fun _ h c => ?_) (Cert.OddBackRefIdeal.Value.run (F := Ideal) m' ρ')
  obtain ⟨h0, h1, h2, h3, h4, h5, h6, hr⟩ := h c
  have R : Reals (inp m c) := by
    obtain ⟨r0, r1, r2, r3, r4, r5, r6, r7⟩ := real_of (hpre c)
    exact ⟨fun _ _ => r0 _, fun _ => r1 _, fun _ _ => r2 _, fun _ => r3 _, fun _ i s => (r4 _).mul (tri_re i s), fun _ _ => r5 _, fun _ _ => r6 _, fun _ _ => r7 _⟩
  have A : Args (m' (c, Proc.tc.devRef Cert.OddBackRefIdeal.main_arg0)) (m' (c, Proc.tc.devRef Cert.OddBackRefIdeal.main_arg1))
      (m' (c, Proc.tc.devRef Cert.OddBackRefIdeal.main_arg2)) (m' (c, Proc.tc.devRef Cert.OddBackRefIdeal.main_arg3))
      (m' (c, Proc.tc.devRef Cert.OddBackRefIdeal.main_arg4)) (m' (c, Proc.tc.devRef Cert.OddBackRefIdeal.main_arg5))
      (m' (c, Proc.tc.devRef Cert.OddBackRefIdeal.main_arg6)) (m' (c, Proc.tc.devRef Cert.OddBackRefIdeal.main_arg7)) (inp m c) := by
    obtain ⟨e0, e1, e2, e3, e4, e5, e6, e7⟩ := hag c
    refine ⟨fun r k => ?_, fun j => ?_, fun k j => ?_, fun j => ?_, fun q i s => ?_, fun i j => ?_, fun k j => ?_, fun r k => ?_⟩
    · simp only [inp, row_val]; exact congrFun e0 _
    · exact congrFun e1 _
    · simp only [inp, wrow_val]; exact congrFun e2 _
    · exact congrFun e3 _
    · simp only [inp, head_val]; exact congrArg (· * tri i s) (congrFun e4 _)
    · simp only [inp, time_val]
      exact (congrFun e5 _).trans (congrArg (fun q => (m (c, Proc.tc.devRef Cert.OddBackIdeal.main_arg5) : FVec Ideal Cert.OddBackIdeal.S8x128 .f32) (ix2 q i)) (head_val _).symm)
    · simp only [inp, wrow_val]; exact congrFun e6 _
    · simp only [inp, row_val]; exact congrFun e7 _
  have Q := ms_of A.a0
  have X := unit_of A.a0 Q
  have P := pre_of A X
  have B := act_of P
  have V := v_of B
  have QV := ms_of V
  have VH := unit_of V QV
  have VN := vn_of A VH
  have G := gate_of A VN (T := _) fun _ _ => rfl
  have M := dmix_of A
  have E := dgt_of B M
  have N := dvn_of A E (T := _) fun _ _ => rfl
  have DVH := dvh_of A N
  have DV := fun (r : Fin 4096) (j : Fin 1024) => ((zero_add _).symm.trans (back_of V DVH QV 0 R.v R.dvh r j)).trans (zero_add _)
  have DP := dpre_of P M G DV
  have DX := dxn_of A DP
  have DXH := dxh_of A DX
  have DH := fun (r : Fin 4096) (j : Fin 1024) => (congrArg (fun a : EReal => a + _) (A.a7 r j)).trans (back_of A.a0 DXH Q ((inp m c).dh r.val j) R.h R.dxh r j)
  refine ⟨h0.trans ?_, h1.trans ?_, h2.trans ?_, h3.trans ?_, h4.trans ?_, h5.trans ?_, h6.trans ?_, hr⟩
  · funext i
    obtain ⟨r, j, rfl⟩ : ∃ (r : Fin 4096) (j : Fin 2048), i = ix2 r j := ⟨i 0, i 1, eq_ix2 i⟩
    exact (DP r j).trans (end_dpre m c r j).symm
  · funext i
    obtain ⟨r, j, rfl⟩ : ∃ (r : Fin 4096) (j : Fin 1024), i = ix2 r j := ⟨i 0, i 1, eq_ix2 i⟩
    exact (DH r j).trans (end_dho m c r j).symm
  · funext i
    obtain ⟨r, j, rfl⟩ : ∃ (r : Fin 4096) (j : Fin 1024), i = ix2 r j := ⟨i 0, i 1, eq_ix2 i⟩
    exact (DH r j).trans (end_dhob m c r j).symm
  · funext i
    obtain ⟨r, j, rfl⟩ : ∃ (r : Fin 1) (j : Fin 1024), i = ix2 r j := ⟨i 0, i 1, eq_ix2 i⟩
    rw [Subsingleton.elim r 0]
    exact ((cols_of X DX j).trans (Finset.sum_congr rfl fun _ _ => mul_comm _ _)).trans (end_dgain m c j).symm
  · funext i
    obtain ⟨r, j, rfl⟩ : ∃ (r : Fin 1) (j : Fin 1024), i = ix2 r j := ⟨i 0, i 1, eq_ix2 i⟩
    rw [Subsingleton.elim r 0]
    exact ((cols_of VH N j).trans (Finset.sum_congr rfl fun _ _ => mul_comm _ _)).trans (end_dsgu m c j).symm
  · funext i
    obtain ⟨q, k, s, rfl⟩ : ∃ (q : Fin 8) (k s : Fin 128), i = ix3 q k s := ⟨i 0, i 1, i 2, eq_ix3 i⟩
    exact (dws_of E VN q k s).trans (end_dws m c q k s).symm
  · funext i
    obtain ⟨q, k, rfl⟩ : ∃ (q : Fin 8) (k : Fin 128), i = ix2 q k := ⟨i 0, i 1, eq_ix2 i⟩
    exact (db_of E q k).trans (end_db m c q k).symm

end Cert.Ob
-- ==== Proof.lean ====
/-
  The claim of the certificate: the frames, the idealization (no operation is rewritten) and the value, each from its module.
-/
module

public import proofs.«01_k».proof.Defs
public import proofs.«01_k».proof.Proof.Gen.Kernel.Frame
public import proofs.«01_k».proof.Proof.Gen.KernelIdeal.Frame
public import proofs.«01_k».proof.Proof.Gen.Pre_finite
public import proofs.«01_k».proof.Proof.Gen.FfnBack.Frame
public import proofs.«01_k».proof.Proof.Gen.FfnBackIdeal.Frame
public import proofs.«01_k».proof.Proof.Gen.WgradFfn.Frame
public import proofs.«01_k».proof.Proof.Gen.WgradFfnIdeal.Frame
public import proofs.«01_k».proof.Proof.Gen.WgradIn.Frame
public import proofs.«01_k».proof.Proof.Gen.WgradInIdeal.Frame
public import proofs.«01_k».proof.Proof.Gen.WgradOut.Frame
public import proofs.«01_k».proof.Proof.Gen.WgradOutIdeal.Frame
public import proofs.«01_k».proof.Proof.Gen.Pre_finite2
public import proofs.«01_k».proof.Proof.Gen.FfnGate.Frame
public import proofs.«01_k».proof.Proof.Gen.FfnGateIdeal.Frame
public import proofs.«01_k».proof.Proof.Gen.GateFwd.Frame
public import proofs.«01_k».proof.Proof.Gen.GateFwdIdeal.Frame
public import proofs.«01_k».proof.Proof.Gen.UpFwd.Frame
public import proofs.«01_k».proof.Proof.Gen.UpFwdIdeal.Frame
public import proofs.«01_k».proof.Proof.Gen.DownFwd.Frame
public import proofs.«01_k».proof.Proof.Gen.DownFwdIdeal.Frame
public import proofs.«01_k».proof.Proof.Gen.Pre_finite6
public import proofs.«01_k».proof.Proof.Gen.Pre_finite8
public import proofs.«01_k».proof.Proof.Gen.LossHead.Frame
public import proofs.«01_k».proof.Proof.Gen.LossHeadIdeal.Frame
public import proofs.«01_k».proof.Proof.Gen.OddFwd.Frame
public import proofs.«01_k».proof.Proof.Gen.OddFwdIdeal.Frame
public import proofs.«01_k».proof.Proof.Gen.EvenFwd.Frame
public import proofs.«01_k».proof.Proof.Gen.EvenFwdIdeal.Frame
public import proofs.«01_k».proof.Proof.Gen.OddBack.Frame
public import proofs.«01_k».proof.Proof.Gen.OddBackIdeal.Frame
public import proofs.«01_k».proof.Proof.Gen.Pre_finite10
public import proofs.«01_k».proof.Proof.Gen.Pre_finite12
public import proofs.«01_k».proof.Proof.Gen.Pre_finite13
public import proofs.«01_k».proof.Proof.Even
public import proofs.«01_k».proof.Proof.FbClaims
public import proofs.«01_k».proof.Proof.WgClaims
public import proofs.«01_k».proof.Proof.B1Claims
public import proofs.«01_k».proof.Proof.GtClaims
public import proofs.«01_k».proof.Proof.UpClaims
public import proofs.«01_k».proof.Proof.DnClaims
public import proofs.«01_k».proof.Proof.LhClaims
public import proofs.«01_k».proof.Proof.OdClaims
public import proofs.«01_k».proof.Proof.EvClaims
public import proofs.«01_k».proof.Proof.ObClaims
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts,
    Cert.FfnBack.Gen.facts, Cert.FfnBackIdeal.Gen.facts, Cert.FfnBackRefIdeal.Gen.facts,
    Cert.WgradFfn.Gen.facts, Cert.WgradFfnIdeal.Gen.facts, Cert.WgradFfnRefIdeal.Gen.facts,
    Cert.WgradIn.Gen.facts, Cert.WgradInIdeal.Gen.facts, Cert.WgradInRefIdeal.Gen.facts,
    Cert.WgradOut.Gen.facts, Cert.WgradOutIdeal.Gen.facts, Cert.WgradOutRefIdeal.Gen.facts,
    Cert.FfnGate.Gen.facts, Cert.FfnGateIdeal.Gen.facts, Cert.FfnGateRefIdeal.Gen.facts,
    Cert.GateFwd.Gen.facts, Cert.GateFwdIdeal.Gen.facts, Cert.GateFwdRefIdeal.Gen.facts,
    Cert.UpFwd.Gen.facts, Cert.UpFwdIdeal.Gen.facts, Cert.UpFwdRefIdeal.Gen.facts,
    Cert.DownFwd.Gen.facts, Cert.DownFwdIdeal.Gen.facts, Cert.DownFwdRefIdeal.Gen.facts,
    Cert.LossHead.Gen.facts, Cert.LossHeadIdeal.Gen.facts, Cert.LossHeadRefIdeal.Gen.facts,
    Cert.OddFwd.Gen.facts, Cert.OddFwdIdeal.Gen.facts, Cert.OddFwdRefIdeal.Gen.facts,
    Cert.EvenFwd.Gen.facts, Cert.EvenFwdIdeal.Gen.facts, Cert.EvenFwdRefIdeal.Gen.facts,
    Cert.OddBack.Gen.facts, Cert.OddBackIdeal.Gen.facts, Cert.OddBackRefIdeal.Gen.facts,
    Cert.Pre_finite.Gen.facts, Cert.Pre_finite2.Gen.facts, Cert.Pre_finite6.Gen.facts, Cert.Pre_finite8.Gen.facts, Cert.Pre_finite10.Gen.facts,
    Cert.Pre_finite12.Gen.facts, Cert.Pre_finite13.Gen.facts,
    Even.frame_k, Even.frame_ki, fun m ρ _ => Even.frame_ki m ρ trivial, Even.frame_ri, fun m ρ _ => Even.frame_ri m ρ trivial,
    Fb.frame_k, Fb.frame_ki, fun m ρ _ => Fb.frame_ki m ρ trivial, Fb.frame_ri, fun m ρ _ => Fb.frame_ri m ρ trivial,
    WgFfn.frame_k, WgFfn.frame_ki, WgFfn.frame_ri, WgIn.frame_k, WgIn.frame_ki, WgIn.frame_ri,
    WgOut.frame_k, WgOut.frame_ki, WgOut.frame_ri,
    B1.frame_k, B1.frame_ki, fun m ρ _ => B1.frame_ki m ρ trivial, B1.frame_ri, fun m ρ _ => B1.frame_ri m ρ trivial,
    Gt.frame_k, Gt.frame_ki, Gt.frame_ri,
    Up.frame_k, Up.frame_ki, fun m ρ _ => Up.frame_ki m ρ trivial, Up.frame_ri, fun m ρ _ => Up.frame_ri m ρ trivial,
    Dn.frame_k, Dn.frame_ki, Dn.frame_ri,
    Lh.frame_k, Lh.frame_ki, fun m ρ _ => Lh.frame_ki m ρ trivial, Lh.frame_ri, fun m ρ _ => Lh.frame_ri m ρ trivial,
    Od.frame_k, Od.frame_ki, Od.frame_ri,
    Ev.frame_k, Ev.frame_ki, fun m ρ _ => Ev.frame_ki m ρ trivial, Ev.frame_ri, fun m ρ _ => Ev.frame_ri m ρ trivial,
    Ob.frame_k, Ob.frame_ki, fun m ρ _ => Ob.frame_ki m ρ trivial, Ob.frame_ri, fun m ρ _ => Ob.frame_ri m ρ trivial,
    trivial, Even.alg, trivial, Fb.alg, trivial, WgFfn.alg, trivial, WgIn.alg, trivial, WgOut.alg,
    trivial, B1.alg, trivial, Gt.alg, trivial, Up.alg, trivial, Dn.alg,
    trivial, Lh.alg, trivial, Od.alg, trivial, Ev.alg, trivial, Ob.alg⟩

end Cert.Proof

end
